-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Ffn2InDx (m : (ℓ : Loc Cert.Ffn2InDx.nD Cert.Ffn2InDx.τ Cert.Ffn2InDx.sig) → Buf (Elt Bits) ℓ) : Prop :=
  True

def Pre_Ffn2InDxIdeal (m : (ℓ : Loc Cert.Ffn2InDxIdeal.nD Cert.Ffn2InDxIdeal.τ Cert.Ffn2InDxIdeal.sig) → Buf (Elt Ideal) ℓ) : Prop :=
  True

def Pre_Ffn2InDxRefIdeal (m : (ℓ : Loc Cert.Ffn2InDxRefIdeal.nD Cert.Ffn2InDxRefIdeal.τ Cert.Ffn2InDxRefIdeal.sig) → Buf (Elt Ideal) ℓ) : Prop :=
  True

def Pre_Ffn2InDw (m : (ℓ : Loc Cert.Ffn2InDw.nD Cert.Ffn2InDw.τ Cert.Ffn2InDw.sig) → Buf (Elt Bits) ℓ) : Prop :=
  True

def Pre_Ffn2InDwIdeal (m : (ℓ : Loc Cert.Ffn2InDwIdeal.nD Cert.Ffn2InDwIdeal.τ Cert.Ffn2InDwIdeal.sig) → Buf (Elt Ideal) ℓ) : Prop :=
  True

def Pre_Ffn2InDwRefIdeal (m : (ℓ : Loc Cert.Ffn2InDwRefIdeal.nD Cert.Ffn2InDwRefIdeal.τ Cert.Ffn2InDwRefIdeal.sig) → Buf (Elt Ideal) ℓ) : Prop :=
  True

def Pre_Ffn2OutDw (m : (ℓ : Loc Cert.Ffn2OutDw.nD Cert.Ffn2OutDw.τ Cert.Ffn2OutDw.sig) → Buf (Elt Bits) ℓ) : Prop :=
  True

def Pre_Ffn2OutDwIdeal (m : (ℓ : Loc Cert.Ffn2OutDwIdeal.nD Cert.Ffn2OutDwIdeal.τ Cert.Ffn2OutDwIdeal.sig) → Buf (Elt Ideal) ℓ) : Prop :=
  True

def Pre_Ffn2OutDwRefIdeal (m : (ℓ : Loc Cert.Ffn2OutDwRefIdeal.nD Cert.Ffn2OutDwRefIdeal.τ Cert.Ffn2OutDwRefIdeal.sig) → Buf (Elt Ideal) ℓ) : Prop :=
  True

def Pre_Ffn1InDx (m : (ℓ : Loc Cert.Ffn1InDx.nD Cert.Ffn1InDx.τ Cert.Ffn1InDx.sig) → Buf (Elt Bits) ℓ) : Prop :=
  True

def Pre_Ffn1InDxIdeal (m : (ℓ : Loc Cert.Ffn1InDxIdeal.nD Cert.Ffn1InDxIdeal.τ Cert.Ffn1InDxIdeal.sig) → Buf (Elt Ideal) ℓ) : Prop :=
  True

def Pre_Ffn1InDxRefIdeal (m : (ℓ : Loc Cert.Ffn1InDxRefIdeal.nD Cert.Ffn1InDxRefIdeal.τ Cert.Ffn1InDxRefIdeal.sig) → Buf (Elt Ideal) ℓ) : Prop :=
  True

def Pre_Ffn1InDw (m : (ℓ : Loc Cert.Ffn1InDw.nD Cert.Ffn1InDw.τ Cert.Ffn1InDw.sig) → Buf (Elt Bits) ℓ) : Prop :=
  True

def Pre_Ffn1InDwIdeal (m : (ℓ : Loc Cert.Ffn1InDwIdeal.nD Cert.Ffn1InDwIdeal.τ Cert.Ffn1InDwIdeal.sig) → Buf (Elt Ideal) ℓ) : Prop :=
  True

def Pre_Ffn1InDwRefIdeal (m : (ℓ : Loc Cert.Ffn1InDwRefIdeal.nD Cert.Ffn1InDwRefIdeal.τ Cert.Ffn1InDwRefIdeal.sig) → Buf (Elt Ideal) ℓ) : Prop :=
  True

def Pre_Ffn1OutDw (m : (ℓ : Loc Cert.Ffn1OutDw.nD Cert.Ffn1OutDw.τ Cert.Ffn1OutDw.sig) → Buf (Elt Bits) ℓ) : Prop :=
  True

def Pre_Ffn1OutDwIdeal (m : (ℓ : Loc Cert.Ffn1OutDwIdeal.nD Cert.Ffn1OutDwIdeal.τ Cert.Ffn1OutDwIdeal.sig) → Buf (Elt Ideal) ℓ) : Prop :=
  True

def Pre_Ffn1OutDwRefIdeal (m : (ℓ : Loc Cert.Ffn1OutDwRefIdeal.nD Cert.Ffn1OutDwRefIdeal.τ Cert.Ffn1OutDwRefIdeal.sig) → Buf (Elt Ideal) ℓ) : Prop :=
  True

def Pre_MixInDx (m : (ℓ : Loc Cert.MixInDx.nD Cert.MixInDx.τ Cert.MixInDx.sig) → Buf (Elt Bits) ℓ) : Prop :=
  True

def Pre_MixInDxIdeal (m : (ℓ : Loc Cert.MixInDxIdeal.nD Cert.MixInDxIdeal.τ Cert.MixInDxIdeal.sig) → Buf (Elt Ideal) ℓ) : Prop :=
  True

def Pre_MixInDxRefIdeal (m : (ℓ : Loc Cert.MixInDxRefIdeal.nD Cert.MixInDxRefIdeal.τ Cert.MixInDxRefIdeal.sig) → Buf (Elt Ideal) ℓ) : Prop :=
  True

def Pre_MixInDw (m : (ℓ : Loc Cert.MixInDw.nD Cert.MixInDw.τ Cert.MixInDw.sig) → Buf (Elt Bits) ℓ) : Prop :=
  True

def Pre_MixInDwIdeal (m : (ℓ : Loc Cert.MixInDwIdeal.nD Cert.MixInDwIdeal.τ Cert.MixInDwIdeal.sig) → Buf (Elt Ideal) ℓ) : Prop :=
  True

def Pre_MixInDwRefIdeal (m : (ℓ : Loc Cert.MixInDwRefIdeal.nD Cert.MixInDwRefIdeal.τ Cert.MixInDwRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjAttnDx (m : (ℓ : Loc Cert.ProjAttnDx.nD Cert.ProjAttnDx.τ Cert.ProjAttnDx.sig) → Buf (Elt Bits) ℓ) : Prop :=
  True

def Pre_ProjAttnDxIdeal (m : (ℓ : Loc Cert.ProjAttnDxIdeal.nD Cert.ProjAttnDxIdeal.τ Cert.ProjAttnDxIdeal.sig) → Buf (Elt Ideal) ℓ) : Prop :=
  True

def Pre_ProjAttnDxRefIdeal (m : (ℓ : Loc Cert.ProjAttnDxRefIdeal.nD Cert.ProjAttnDxRefIdeal.τ Cert.ProjAttnDxRefIdeal.sig) → Buf (Elt Ideal) ℓ) : Prop :=
  True

def Pre_ProjRetDx (m : (ℓ : Loc Cert.ProjRetDx.nD Cert.ProjRetDx.τ Cert.ProjRetDx.sig) → Buf (Elt Bits) ℓ) : Prop :=
  True

def Pre_ProjRetDxIdeal (m : (ℓ : Loc Cert.ProjRetDxIdeal.nD Cert.ProjRetDxIdeal.τ Cert.ProjRetDxIdeal.sig) → Buf (Elt Ideal) ℓ) : Prop :=
  True

def Pre_ProjRetDxRefIdeal (m : (ℓ : Loc Cert.ProjRetDxRefIdeal.nD Cert.ProjRetDxRefIdeal.τ Cert.ProjRetDxRefIdeal.sig) → Buf (Elt Ideal) ℓ) : Prop :=
  True

def Pre_Ffn2Out (m : (ℓ : Loc Cert.Ffn2Out.nD Cert.Ffn2Out.τ Cert.Ffn2Out.sig) → Buf (Elt Bits) ℓ) : Prop :=
  True

def Pre_Ffn2OutIdeal (m : (ℓ : Loc Cert.Ffn2OutIdeal.nD Cert.Ffn2OutIdeal.τ Cert.Ffn2OutIdeal.sig) → Buf (Elt Ideal) ℓ) : Prop :=
  True

def Pre_Ffn2OutRefIdeal (m : (ℓ : Loc Cert.Ffn2OutRefIdeal.nD Cert.Ffn2OutRefIdeal.τ Cert.Ffn2OutRefIdeal.sig) → Buf (Elt Ideal) ℓ) : Prop :=
  True

def Pre_Ffn1Out (m : (ℓ : Loc Cert.Ffn1Out.nD Cert.Ffn1Out.τ Cert.Ffn1Out.sig) → Buf (Elt Bits) ℓ) : Prop :=
  True

def Pre_Ffn1OutIdeal (m : (ℓ : Loc Cert.Ffn1OutIdeal.nD Cert.Ffn1OutIdeal.τ Cert.Ffn1OutIdeal.sig) → Buf (Elt Ideal) ℓ) : Prop :=
  True

def Pre_Ffn1OutRefIdeal (m : (ℓ : Loc Cert.Ffn1OutRefIdeal.nD Cert.Ffn1OutRefIdeal.τ Cert.Ffn1OutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ffn2GateGrad (m : (ℓ : Loc Cert.Ffn2GateGrad.nD Cert.Ffn2GateGrad.τ Cert.Ffn2GateGrad.sig) → Buf (Elt Bits) ℓ) : Prop :=
  True

def Pre_Ffn2GateGradIdeal (m : (ℓ : Loc Cert.Ffn2GateGradIdeal.nD Cert.Ffn2GateGradIdeal.τ Cert.Ffn2GateGradIdeal.sig) → Buf (Elt Ideal) ℓ) : Prop :=
  True

def Pre_Ffn2GateGradRefIdeal (m : (ℓ : Loc Cert.Ffn2GateGradRefIdeal.nD Cert.Ffn2GateGradRefIdeal.τ Cert.Ffn2GateGradRefIdeal.sig) → Buf (Elt Ideal) ℓ) : Prop :=
  True

def Pre_Ffn1GateGrad (m : (ℓ : Loc Cert.Ffn1GateGrad.nD Cert.Ffn1GateGrad.τ Cert.Ffn1GateGrad.sig) → Buf (Elt Bits) ℓ) : Prop :=
  True

def Pre_Ffn1GateGradIdeal (m : (ℓ : Loc Cert.Ffn1GateGradIdeal.nD Cert.Ffn1GateGradIdeal.τ Cert.Ffn1GateGradIdeal.sig) → Buf (Elt Ideal) ℓ) : Prop :=
  True

def Pre_Ffn1GateGradRefIdeal (m : (ℓ : Loc Cert.Ffn1GateGradRefIdeal.nD Cert.Ffn1GateGradRefIdeal.τ Cert.Ffn1GateGradRefIdeal.sig) → Buf (Elt Ideal) ℓ) : Prop :=
  True

def Pre_Ffn2In (m : (ℓ : Loc Cert.Ffn2In.nD Cert.Ffn2In.τ Cert.Ffn2In.sig) → Buf (Elt Bits) ℓ) : Prop :=
  True

def Pre_Ffn2InIdeal (m : (ℓ : Loc Cert.Ffn2InIdeal.nD Cert.Ffn2InIdeal.τ Cert.Ffn2InIdeal.sig) → Buf (Elt Ideal) ℓ) : Prop :=
  True

def Pre_Ffn2InRefIdeal (m : (ℓ : Loc Cert.Ffn2InRefIdeal.nD Cert.Ffn2InRefIdeal.τ Cert.Ffn2InRefIdeal.sig) → Buf (Elt Ideal) ℓ) : Prop :=
  True

def Pre_Ffn1In (m : (ℓ : Loc Cert.Ffn1In.nD Cert.Ffn1In.τ Cert.Ffn1In.sig) → Buf (Elt Bits) ℓ) : Prop :=
  True

def Pre_Ffn1InIdeal (m : (ℓ : Loc Cert.Ffn1InIdeal.nD Cert.Ffn1InIdeal.τ Cert.Ffn1InIdeal.sig) → Buf (Elt Ideal) ℓ) : Prop :=
  True

def Pre_Ffn1InRefIdeal (m : (ℓ : Loc Cert.Ffn1InRefIdeal.nD Cert.Ffn1InRefIdeal.τ Cert.Ffn1InRefIdeal.sig) → Buf (Elt Ideal) ℓ) : Prop :=
  True

def Pre_MixInQ (m : (ℓ : Loc Cert.MixInQ.nD Cert.MixInQ.τ Cert.MixInQ.sig) → Buf (Elt Bits) ℓ) : Prop :=
  True

def Pre_MixInQIdeal (m : (ℓ : Loc Cert.MixInQIdeal.nD Cert.MixInQIdeal.τ Cert.MixInQIdeal.sig) → Buf (Elt Ideal) ℓ) : Prop :=
  True

def Pre_MixInQRefIdeal (m : (ℓ : Loc Cert.MixInQRefIdeal.nD Cert.MixInQRefIdeal.τ Cert.MixInQRefIdeal.sig) → Buf (Elt Ideal) ℓ) : Prop :=
  True

def Pre_MixInKv (m : (ℓ : Loc Cert.MixInKv.nD Cert.MixInKv.τ Cert.MixInKv.sig) → Buf (Elt Bits) ℓ) : Prop :=
  True

def Pre_MixInKvIdeal (m : (ℓ : Loc Cert.MixInKvIdeal.nD Cert.MixInKvIdeal.τ Cert.MixInKvIdeal.sig) → Buf (Elt Ideal) ℓ) : Prop :=
  True

def Pre_MixInKvRefIdeal (m : (ℓ : Loc Cert.MixInKvRefIdeal.nD Cert.MixInKvRefIdeal.τ Cert.MixInKvRefIdeal.sig) → Buf (Elt Ideal) ℓ) : Prop :=
  True

def Pre_MixInRet (m : (ℓ : Loc Cert.MixInRet.nD Cert.MixInRet.τ Cert.MixInRet.sig) → Buf (Elt Bits) ℓ) : Prop :=
  True

def Pre_MixInRetIdeal (m : (ℓ : Loc Cert.MixInRetIdeal.nD Cert.MixInRetIdeal.τ Cert.MixInRetIdeal.sig) → Buf (Elt Ideal) ℓ) : Prop :=
  True

def Pre_MixInRetRefIdeal (m : (ℓ : Loc Cert.MixInRetRefIdeal.nD Cert.MixInRetRefIdeal.τ Cert.MixInRetRefIdeal.sig) → Buf (Elt Ideal) ℓ) : Prop :=
  True

def Pre_MixInGr (m : (ℓ : Loc Cert.MixInGr.nD Cert.MixInGr.τ Cert.MixInGr.sig) → Buf (Elt Bits) ℓ) : Prop :=
  True

def Pre_MixInGrIdeal (m : (ℓ : Loc Cert.MixInGrIdeal.nD Cert.MixInGrIdeal.τ Cert.MixInGrIdeal.sig) → Buf (Elt Ideal) ℓ) : Prop :=
  True

def Pre_MixInGrRefIdeal (m : (ℓ : Loc Cert.MixInGrRefIdeal.nD Cert.MixInGrRefIdeal.τ Cert.MixInGrRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeGrad (m : (ℓ : Loc Cert.MergeGrad.nD Cert.MergeGrad.τ Cert.MergeGrad.sig) → Buf (Elt Bits) ℓ) : Prop :=
  True

def Pre_MergeGradIdeal (m : (ℓ : Loc Cert.MergeGradIdeal.nD Cert.MergeGradIdeal.τ Cert.MergeGradIdeal.sig) → Buf (Elt Ideal) ℓ) : Prop :=
  True

def Pre_MergeGradRefIdeal (m : (ℓ : Loc Cert.MergeGradRefIdeal.nD Cert.MergeGradRefIdeal.τ Cert.MergeGradRefIdeal.sig) → Buf (Elt Ideal) ℓ) : Prop :=
  True

def Pre_RetSum (m : (ℓ : Loc Cert.RetSum.nD Cert.RetSum.τ Cert.RetSum.sig) → Buf (Elt Bits) ℓ) : Prop :=
  True

def Pre_RetSumIdeal (m : (ℓ : Loc Cert.RetSumIdeal.nD Cert.RetSumIdeal.τ Cert.RetSumIdeal.sig) → Buf (Elt Ideal) ℓ) : Prop :=
  True

def Pre_RetSumRefIdeal (m : (ℓ : Loc Cert.RetSumRefIdeal.nD Cert.RetSumRefIdeal.τ Cert.RetSumRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamMixIn (m : (ℓ : Loc Cert.AdamMixIn.nD Cert.AdamMixIn.τ Cert.AdamMixIn.sig) → Buf (Elt Bits) ℓ) : Prop :=
  True

def Pre_AdamMixInIdeal (m : (ℓ : Loc Cert.AdamMixInIdeal.nD Cert.AdamMixInIdeal.τ Cert.AdamMixInIdeal.sig) → Buf (Elt Ideal) ℓ) : Prop :=
  True

def Pre_AdamMixInRefIdeal (m : (ℓ : Loc Cert.AdamMixInRefIdeal.nD Cert.AdamMixInRefIdeal.τ Cert.AdamMixInRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamMixOut (m : (ℓ : Loc Cert.AdamMixOut.nD Cert.AdamMixOut.τ Cert.AdamMixOut.sig) → Buf (Elt Bits) ℓ) : Prop :=
  True

def Pre_AdamMixOutIdeal (m : (ℓ : Loc Cert.AdamMixOutIdeal.nD Cert.AdamMixOutIdeal.τ Cert.AdamMixOutIdeal.sig) → Buf (Elt Ideal) ℓ) : Prop :=
  True

def Pre_AdamMixOutRefIdeal (m : (ℓ : Loc Cert.AdamMixOutRefIdeal.nD Cert.AdamMixOutRefIdeal.τ Cert.AdamMixOutRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamVector (m : (ℓ : Loc Cert.AdamVector.nD Cert.AdamVector.τ Cert.AdamVector.sig) → Buf (Elt Bits) ℓ) : Prop :=
  True

def Pre_AdamVectorIdeal (m : (ℓ : Loc Cert.AdamVectorIdeal.nD Cert.AdamVectorIdeal.τ Cert.AdamVectorIdeal.sig) → Buf (Elt Ideal) ℓ) : Prop :=
  True

def Pre_AdamVectorRefIdeal (m : (ℓ : Loc Cert.AdamVectorRefIdeal.nD Cert.AdamVectorRefIdeal.τ Cert.AdamVectorRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def Pre_AdamDecay (m : (ℓ : Loc Cert.AdamDecay.nD Cert.AdamDecay.τ Cert.AdamDecay.sig) → Buf (Elt Bits) ℓ) : Prop :=
  True

def Pre_AdamDecayIdeal (m : (ℓ : Loc Cert.AdamDecayIdeal.nD Cert.AdamDecayIdeal.τ Cert.AdamDecayIdeal.sig) → Buf (Elt Ideal) ℓ) : Prop :=
  True

def Pre_AdamDecayRefIdeal (m : (ℓ : Loc Cert.AdamDecayRefIdeal.nD Cert.AdamDecayRefIdeal.τ Cert.AdamDecayRefIdeal.sig) → Buf (Elt Ideal) ℓ) : Prop :=
  True

def Pre_NormMod1 (m : (ℓ : Loc Cert.NormMod1.nD Cert.NormMod1.τ Cert.NormMod1.sig) → Buf (Elt Bits) ℓ) : Prop :=
  True

def Pre_NormMod1Ideal (m : (ℓ : Loc Cert.NormMod1Ideal.nD Cert.NormMod1Ideal.τ Cert.NormMod1Ideal.sig) → Buf (Elt Ideal) ℓ) : Prop :=
  True

def Pre_NormMod1RefIdeal (m : (ℓ : Loc Cert.NormMod1RefIdeal.nD Cert.NormMod1RefIdeal.τ Cert.NormMod1RefIdeal.sig) → Buf (Elt Ideal) ℓ) : Prop :=
  True

def Pre_ResidNorm1 (m : (ℓ : Loc Cert.ResidNorm1.nD Cert.ResidNorm1.τ Cert.ResidNorm1.sig) → Buf (Elt Bits) ℓ) : Prop :=
  True

def Pre_ResidNorm1Ideal (m : (ℓ : Loc Cert.ResidNorm1Ideal.nD Cert.ResidNorm1Ideal.τ Cert.ResidNorm1Ideal.sig) → Buf (Elt Ideal) ℓ) : Prop :=
  True

def Pre_ResidNorm1RefIdeal (m : (ℓ : Loc Cert.ResidNorm1RefIdeal.nD Cert.ResidNorm1RefIdeal.τ Cert.ResidNorm1RefIdeal.sig) → Buf (Elt Ideal) ℓ) : Prop :=
  True

def Pre_ResidNorm2 (m : (ℓ : Loc Cert.ResidNorm2.nD Cert.ResidNorm2.τ Cert.ResidNorm2.sig) → Buf (Elt Bits) ℓ) : Prop :=
  True

def Pre_ResidNorm2Ideal (m : (ℓ : Loc Cert.ResidNorm2Ideal.nD Cert.ResidNorm2Ideal.τ Cert.ResidNorm2Ideal.sig) → Buf (Elt Ideal) ℓ) : Prop :=
  True

def Pre_ResidNorm2RefIdeal (m : (ℓ : Loc Cert.ResidNorm2RefIdeal.nD Cert.ResidNorm2RefIdeal.τ Cert.ResidNorm2RefIdeal.sig) → Buf (Elt Ideal) ℓ) : Prop :=
  True

def Pre_MixInGab (m : (ℓ : Loc Cert.MixInGab.nD Cert.MixInGab.τ Cert.MixInGab.sig) → Buf (Elt Bits) ℓ) : Prop :=
  True

def Pre_MixInGabIdeal (m : (ℓ : Loc Cert.MixInGabIdeal.nD Cert.MixInGabIdeal.τ Cert.MixInGabIdeal.sig) → Buf (Elt Ideal) ℓ) : Prop :=
  True

def Pre_MixInGabRefIdeal (m : (ℓ : Loc Cert.MixInGabRefIdeal.nD Cert.MixInGabRefIdeal.τ Cert.MixInGabRefIdeal.sig) → Buf (Elt Ideal) ℓ) : Prop :=
  True

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_finite_qkv [hPre_finite_qkv : Cert.Pre_finite_qkv.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_finite_qkv.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))).1 = (fun _ => 1#1)
    ∧ (Cert.Pre_finite_qkv.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))).2.1 = (fun _ => 1#1)
    ∧ (Cert.Pre_finite_qkv.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))).2.2 = (fun _ => 1#1)

def Pre_FlashFwdRefIdeal (m : (ℓ : Loc Cert.FlashFwdRefIdeal.nD Cert.FlashFwdRefIdeal.τ Cert.FlashFwdRefIdeal.sig) → Buf (Elt Ideal) ℓ) : Prop :=
  True

def Pre_FlashFwdRefIdeal_finite_qkv [hPre_finite_qkv : Cert.Pre_finite_qkv.Facts] (m : (ℓ : Loc Cert.FlashFwdRefIdeal.nD Cert.FlashFwdRefIdeal.τ Cert.FlashFwdRefIdeal.sig) → Buf (Elt Ideal) ℓ) : Prop :=
  ∀ c : Dev Cert.FlashFwdRefIdeal.nD,
    (Cert.Pre_finite_qkv.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))).1 = (fun _ => 1#1)
    ∧ (Cert.Pre_finite_qkv.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))).2.1 = (fun _ => 1#1)
    ∧ (Cert.Pre_finite_qkv.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn2InDx [hFfn2InDx : Cert.Ffn2InDx.Facts] : Prop :=
  ∀ (m : (ℓ : Loc Cert.Ffn2InDx.nD Cert.Ffn2InDx.τ Cert.Ffn2InDx.sig) → Buf (Elt Bits) ℓ) (g : Dev Cert.Ffn2InDx.nD → PrngReg), Pre_Ffn2InDx m →
    θ_run (Cert.Ffn2InDx.defs (F := Bits)) (onTc (τ := Cert.Ffn2InDx.τ) (Cert.Ffn2InDx.main (F := Bits))) ⟨m, fun _ => 0, g⟩ (fun r => (∀ c : Dev Cert.Ffn2InDx.nD,
      r.2.mem ((c.tc : Thread Cert.Ffn2InDx.nD Cert.Ffn2InDx.τ).loc Cert.Ffn2InDx.main_arg0) = m ((c.tc : Thread Cert.Ffn2InDx.nD Cert.Ffn2InDx.τ).loc Cert.Ffn2InDx.main_arg0)
      ∧ r.2.mem ((c.tc : Thread Cert.Ffn2InDx.nD Cert.Ffn2InDx.τ).loc Cert.Ffn2InDx.main_arg1) = m ((c.tc : Thread Cert.Ffn2InDx.nD Cert.Ffn2InDx.τ).loc Cert.Ffn2InDx.main_arg1))
      ∧ r.2.sem = fun _ => 0)

def quiescent_Ffn2InDxIdeal [hFfn2InDxIdeal : Cert.Ffn2InDxIdeal.Facts] : Prop :=
  ∀ (m : (ℓ : Loc Cert.Ffn2InDxIdeal.nD Cert.Ffn2InDxIdeal.τ Cert.Ffn2InDxIdeal.sig) → Buf (Elt Ideal) ℓ) (g : Dev Cert.Ffn2InDxIdeal.nD → PrngReg), Pre_Ffn2InDxIdeal m →
    θ_run (Cert.Ffn2InDxIdeal.defs (F := Ideal)) (onTc (τ := Cert.Ffn2InDxIdeal.τ) (Cert.Ffn2InDxIdeal.main (F := Ideal))) ⟨m, fun _ => 0, g⟩ (fun r => (∀ c : Dev Cert.Ffn2InDxIdeal.nD,
      r.2.mem ((c.tc : Thread Cert.Ffn2InDxIdeal.nD Cert.Ffn2InDxIdeal.τ).loc Cert.Ffn2InDxIdeal.main_arg0) = m ((c.tc : Thread Cert.Ffn2InDxIdeal.nD Cert.Ffn2InDxIdeal.τ).loc Cert.Ffn2InDxIdeal.main_arg0)
      ∧ r.2.mem ((c.tc : Thread Cert.Ffn2InDxIdeal.nD Cert.Ffn2InDxIdeal.τ).loc Cert.Ffn2InDxIdeal.main_arg1) = m ((c.tc : Thread Cert.Ffn2InDxIdeal.nD Cert.Ffn2InDxIdeal.τ).loc Cert.Ffn2InDxIdeal.main_arg1))
      ∧ r.2.sem = fun _ => 0)

def quiescent_Ffn2InDxRefIdeal [hFfn2InDxRefIdeal : Cert.Ffn2InDxRefIdeal.Facts] : Prop :=
  ∀ (m : (ℓ : Loc Cert.Ffn2InDxRefIdeal.nD Cert.Ffn2InDxRefIdeal.τ Cert.Ffn2InDxRefIdeal.sig) → Buf (Elt Ideal) ℓ) (g : Dev Cert.Ffn2InDxRefIdeal.nD → PrngReg), Pre_Ffn2InDxRefIdeal m →
    θ_run (Cert.Ffn2InDxRefIdeal.defs (F := Ideal)) (onTc (τ := Cert.Ffn2InDxRefIdeal.τ) (Cert.Ffn2InDxRefIdeal.main (F := Ideal))) ⟨m, fun _ => 0, g⟩ (fun r => (∀ c : Dev Cert.Ffn2InDxRefIdeal.nD,
      r.2.mem ((c.tc : Thread Cert.Ffn2InDxRefIdeal.nD Cert.Ffn2InDxRefIdeal.τ).loc Cert.Ffn2InDxRefIdeal.main_arg0) = m ((c.tc : Thread Cert.Ffn2InDxRefIdeal.nD Cert.Ffn2InDxRefIdeal.τ).loc Cert.Ffn2InDxRefIdeal.main_arg0)
      ∧ r.2.mem ((c.tc : Thread Cert.Ffn2InDxRefIdeal.nD Cert.Ffn2InDxRefIdeal.τ).loc Cert.Ffn2InDxRefIdeal.main_arg1) = m ((c.tc : Thread Cert.Ffn2InDxRefIdeal.nD Cert.Ffn2InDxRefIdeal.τ).loc Cert.Ffn2InDxRefIdeal.main_arg1))
      ∧ r.2.sem = fun _ => 0)

def quiescent_Ffn2InDw [hFfn2InDw : Cert.Ffn2InDw.Facts] : Prop :=
  ∀ (m : (ℓ : Loc Cert.Ffn2InDw.nD Cert.Ffn2InDw.τ Cert.Ffn2InDw.sig) → Buf (Elt Bits) ℓ) (g : Dev Cert.Ffn2InDw.nD → PrngReg), Pre_Ffn2InDw m →
    θ_run (Cert.Ffn2InDw.defs (F := Bits)) (onTc (τ := Cert.Ffn2InDw.τ) (Cert.Ffn2InDw.main (F := Bits))) ⟨m, fun _ => 0, g⟩ (fun r => (∀ c : Dev Cert.Ffn2InDw.nD,
      r.2.mem ((c.tc : Thread Cert.Ffn2InDw.nD Cert.Ffn2InDw.τ).loc Cert.Ffn2InDw.main_arg0) = m ((c.tc : Thread Cert.Ffn2InDw.nD Cert.Ffn2InDw.τ).loc Cert.Ffn2InDw.main_arg0)
      ∧ r.2.mem ((c.tc : Thread Cert.Ffn2InDw.nD Cert.Ffn2InDw.τ).loc Cert.Ffn2InDw.main_arg1) = m ((c.tc : Thread Cert.Ffn2InDw.nD Cert.Ffn2InDw.τ).loc Cert.Ffn2InDw.main_arg1))
      ∧ r.2.sem = fun _ => 0)

def quiescent_Ffn2InDwIdeal [hFfn2InDwIdeal : Cert.Ffn2InDwIdeal.Facts] : Prop :=
  ∀ (m : (ℓ : Loc Cert.Ffn2InDwIdeal.nD Cert.Ffn2InDwIdeal.τ Cert.Ffn2InDwIdeal.sig) → Buf (Elt Ideal) ℓ) (g : Dev Cert.Ffn2InDwIdeal.nD → PrngReg), Pre_Ffn2InDwIdeal m →
    θ_run (Cert.Ffn2InDwIdeal.defs (F := Ideal)) (onTc (τ := Cert.Ffn2InDwIdeal.τ) (Cert.Ffn2InDwIdeal.main (F := Ideal))) ⟨m, fun _ => 0, g⟩ (fun r => (∀ c : Dev Cert.Ffn2InDwIdeal.nD,
      r.2.mem ((c.tc : Thread Cert.Ffn2InDwIdeal.nD Cert.Ffn2InDwIdeal.τ).loc Cert.Ffn2InDwIdeal.main_arg0) = m ((c.tc : Thread Cert.Ffn2InDwIdeal.nD Cert.Ffn2InDwIdeal.τ).loc Cert.Ffn2InDwIdeal.main_arg0)
      ∧ r.2.mem ((c.tc : Thread Cert.Ffn2InDwIdeal.nD Cert.Ffn2InDwIdeal.τ).loc Cert.Ffn2InDwIdeal.main_arg1) = m ((c.tc : Thread Cert.Ffn2InDwIdeal.nD Cert.Ffn2InDwIdeal.τ).loc Cert.Ffn2InDwIdeal.main_arg1))
      ∧ r.2.sem = fun _ => 0)

def quiescent_Ffn2InDwRefIdeal [hFfn2InDwRefIdeal : Cert.Ffn2InDwRefIdeal.Facts] : Prop :=
  ∀ (m : (ℓ : Loc Cert.Ffn2InDwRefIdeal.nD Cert.Ffn2InDwRefIdeal.τ Cert.Ffn2InDwRefIdeal.sig) → Buf (Elt Ideal) ℓ) (g : Dev Cert.Ffn2InDwRefIdeal.nD → PrngReg), Pre_Ffn2InDwRefIdeal m →
    θ_run (Cert.Ffn2InDwRefIdeal.defs (F := Ideal)) (onTc (τ := Cert.Ffn2InDwRefIdeal.τ) (Cert.Ffn2InDwRefIdeal.main (F := Ideal))) ⟨m, fun _ => 0, g⟩ (fun r => (∀ c : Dev Cert.Ffn2InDwRefIdeal.nD,
      r.2.mem ((c.tc : Thread Cert.Ffn2InDwRefIdeal.nD Cert.Ffn2InDwRefIdeal.τ).loc Cert.Ffn2InDwRefIdeal.main_arg0) = m ((c.tc : Thread Cert.Ffn2InDwRefIdeal.nD Cert.Ffn2InDwRefIdeal.τ).loc Cert.Ffn2InDwRefIdeal.main_arg0)
      ∧ r.2.mem ((c.tc : Thread Cert.Ffn2InDwRefIdeal.nD Cert.Ffn2InDwRefIdeal.τ).loc Cert.Ffn2InDwRefIdeal.main_arg1) = m ((c.tc : Thread Cert.Ffn2InDwRefIdeal.nD Cert.Ffn2InDwRefIdeal.τ).loc Cert.Ffn2InDwRefIdeal.main_arg1))
      ∧ r.2.sem = fun _ => 0)

def quiescent_Ffn2OutDw [hFfn2OutDw : Cert.Ffn2OutDw.Facts] : Prop :=
  ∀ (m : (ℓ : Loc Cert.Ffn2OutDw.nD Cert.Ffn2OutDw.τ Cert.Ffn2OutDw.sig) → Buf (Elt Bits) ℓ) (g : Dev Cert.Ffn2OutDw.nD → PrngReg), Pre_Ffn2OutDw m →
    θ_run (Cert.Ffn2OutDw.defs (F := Bits)) (onTc (τ := Cert.Ffn2OutDw.τ) (Cert.Ffn2OutDw.main (F := Bits))) ⟨m, fun _ => 0, g⟩ (fun r => (∀ c : Dev Cert.Ffn2OutDw.nD,
      r.2.mem ((c.tc : Thread Cert.Ffn2OutDw.nD Cert.Ffn2OutDw.τ).loc Cert.Ffn2OutDw.main_arg0) = m ((c.tc : Thread Cert.Ffn2OutDw.nD Cert.Ffn2OutDw.τ).loc Cert.Ffn2OutDw.main_arg0)
      ∧ r.2.mem ((c.tc : Thread Cert.Ffn2OutDw.nD Cert.Ffn2OutDw.τ).loc Cert.Ffn2OutDw.main_arg1) = m ((c.tc : Thread Cert.Ffn2OutDw.nD Cert.Ffn2OutDw.τ).loc Cert.Ffn2OutDw.main_arg1))
      ∧ r.2.sem = fun _ => 0)

def quiescent_Ffn2OutDwIdeal [hFfn2OutDwIdeal : Cert.Ffn2OutDwIdeal.Facts] : Prop :=
  ∀ (m : (ℓ : Loc Cert.Ffn2OutDwIdeal.nD Cert.Ffn2OutDwIdeal.τ Cert.Ffn2OutDwIdeal.sig) → Buf (Elt Ideal) ℓ) (g : Dev Cert.Ffn2OutDwIdeal.nD → PrngReg), Pre_Ffn2OutDwIdeal m →
    θ_run (Cert.Ffn2OutDwIdeal.defs (F := Ideal)) (onTc (τ := Cert.Ffn2OutDwIdeal.τ) (Cert.Ffn2OutDwIdeal.main (F := Ideal))) ⟨m, fun _ => 0, g⟩ (fun r => (∀ c : Dev Cert.Ffn2OutDwIdeal.nD,
      r.2.mem ((c.tc : Thread Cert.Ffn2OutDwIdeal.nD Cert.Ffn2OutDwIdeal.τ).loc Cert.Ffn2OutDwIdeal.main_arg0) = m ((c.tc : Thread Cert.Ffn2OutDwIdeal.nD Cert.Ffn2OutDwIdeal.τ).loc Cert.Ffn2OutDwIdeal.main_arg0)
      ∧ r.2.mem ((c.tc : Thread Cert.Ffn2OutDwIdeal.nD Cert.Ffn2OutDwIdeal.τ).loc Cert.Ffn2OutDwIdeal.main_arg1) = m ((c.tc : Thread Cert.Ffn2OutDwIdeal.nD Cert.Ffn2OutDwIdeal.τ).loc Cert.Ffn2OutDwIdeal.main_arg1))
      ∧ r.2.sem = fun _ => 0)

def quiescent_Ffn2OutDwRefIdeal [hFfn2OutDwRefIdeal : Cert.Ffn2OutDwRefIdeal.Facts] : Prop :=
  ∀ (m : (ℓ : Loc Cert.Ffn2OutDwRefIdeal.nD Cert.Ffn2OutDwRefIdeal.τ Cert.Ffn2OutDwRefIdeal.sig) → Buf (Elt Ideal) ℓ) (g : Dev Cert.Ffn2OutDwRefIdeal.nD → PrngReg), Pre_Ffn2OutDwRefIdeal m →
    θ_run (Cert.Ffn2OutDwRefIdeal.defs (F := Ideal)) (onTc (τ := Cert.Ffn2OutDwRefIdeal.τ) (Cert.Ffn2OutDwRefIdeal.main (F := Ideal))) ⟨m, fun _ => 0, g⟩ (fun r => (∀ c : Dev Cert.Ffn2OutDwRefIdeal.nD,
      r.2.mem ((c.tc : Thread Cert.Ffn2OutDwRefIdeal.nD Cert.Ffn2OutDwRefIdeal.τ).loc Cert.Ffn2OutDwRefIdeal.main_arg0) = m ((c.tc : Thread Cert.Ffn2OutDwRefIdeal.nD Cert.Ffn2OutDwRefIdeal.τ).loc Cert.Ffn2OutDwRefIdeal.main_arg0)
      ∧ r.2.mem ((c.tc : Thread Cert.Ffn2OutDwRefIdeal.nD Cert.Ffn2OutDwRefIdeal.τ).loc Cert.Ffn2OutDwRefIdeal.main_arg1) = m ((c.tc : Thread Cert.Ffn2OutDwRefIdeal.nD Cert.Ffn2OutDwRefIdeal.τ).loc Cert.Ffn2OutDwRefIdeal.main_arg1))
      ∧ r.2.sem = fun _ => 0)

def quiescent_Ffn1InDx [hFfn1InDx : Cert.Ffn1InDx.Facts] : Prop :=
  ∀ (m : (ℓ : Loc Cert.Ffn1InDx.nD Cert.Ffn1InDx.τ Cert.Ffn1InDx.sig) → Buf (Elt Bits) ℓ) (g : Dev Cert.Ffn1InDx.nD → PrngReg), Pre_Ffn1InDx m →
    θ_run (Cert.Ffn1InDx.defs (F := Bits)) (onTc (τ := Cert.Ffn1InDx.τ) (Cert.Ffn1InDx.main (F := Bits))) ⟨m, fun _ => 0, g⟩ (fun r => (∀ c : Dev Cert.Ffn1InDx.nD,
      r.2.mem ((c.tc : Thread Cert.Ffn1InDx.nD Cert.Ffn1InDx.τ).loc Cert.Ffn1InDx.main_arg0) = m ((c.tc : Thread Cert.Ffn1InDx.nD Cert.Ffn1InDx.τ).loc Cert.Ffn1InDx.main_arg0)
      ∧ r.2.mem ((c.tc : Thread Cert.Ffn1InDx.nD Cert.Ffn1InDx.τ).loc Cert.Ffn1InDx.main_arg1) = m ((c.tc : Thread Cert.Ffn1InDx.nD Cert.Ffn1InDx.τ).loc Cert.Ffn1InDx.main_arg1))
      ∧ r.2.sem = fun _ => 0)

def quiescent_Ffn1InDxIdeal [hFfn1InDxIdeal : Cert.Ffn1InDxIdeal.Facts] : Prop :=
  ∀ (m : (ℓ : Loc Cert.Ffn1InDxIdeal.nD Cert.Ffn1InDxIdeal.τ Cert.Ffn1InDxIdeal.sig) → Buf (Elt Ideal) ℓ) (g : Dev Cert.Ffn1InDxIdeal.nD → PrngReg), Pre_Ffn1InDxIdeal m →
    θ_run (Cert.Ffn1InDxIdeal.defs (F := Ideal)) (onTc (τ := Cert.Ffn1InDxIdeal.τ) (Cert.Ffn1InDxIdeal.main (F := Ideal))) ⟨m, fun _ => 0, g⟩ (fun r => (∀ c : Dev Cert.Ffn1InDxIdeal.nD,
      r.2.mem ((c.tc : Thread Cert.Ffn1InDxIdeal.nD Cert.Ffn1InDxIdeal.τ).loc Cert.Ffn1InDxIdeal.main_arg0) = m ((c.tc : Thread Cert.Ffn1InDxIdeal.nD Cert.Ffn1InDxIdeal.τ).loc Cert.Ffn1InDxIdeal.main_arg0)
      ∧ r.2.mem ((c.tc : Thread Cert.Ffn1InDxIdeal.nD Cert.Ffn1InDxIdeal.τ).loc Cert.Ffn1InDxIdeal.main_arg1) = m ((c.tc : Thread Cert.Ffn1InDxIdeal.nD Cert.Ffn1InDxIdeal.τ).loc Cert.Ffn1InDxIdeal.main_arg1))
      ∧ r.2.sem = fun _ => 0)

def quiescent_Ffn1InDxRefIdeal [hFfn1InDxRefIdeal : Cert.Ffn1InDxRefIdeal.Facts] : Prop :=
  ∀ (m : (ℓ : Loc Cert.Ffn1InDxRefIdeal.nD Cert.Ffn1InDxRefIdeal.τ Cert.Ffn1InDxRefIdeal.sig) → Buf (Elt Ideal) ℓ) (g : Dev Cert.Ffn1InDxRefIdeal.nD → PrngReg), Pre_Ffn1InDxRefIdeal m →
    θ_run (Cert.Ffn1InDxRefIdeal.defs (F := Ideal)) (onTc (τ := Cert.Ffn1InDxRefIdeal.τ) (Cert.Ffn1InDxRefIdeal.main (F := Ideal))) ⟨m, fun _ => 0, g⟩ (fun r => (∀ c : Dev Cert.Ffn1InDxRefIdeal.nD,
      r.2.mem ((c.tc : Thread Cert.Ffn1InDxRefIdeal.nD Cert.Ffn1InDxRefIdeal.τ).loc Cert.Ffn1InDxRefIdeal.main_arg0) = m ((c.tc : Thread Cert.Ffn1InDxRefIdeal.nD Cert.Ffn1InDxRefIdeal.τ).loc Cert.Ffn1InDxRefIdeal.main_arg0)
      ∧ r.2.mem ((c.tc : Thread Cert.Ffn1InDxRefIdeal.nD Cert.Ffn1InDxRefIdeal.τ).loc Cert.Ffn1InDxRefIdeal.main_arg1) = m ((c.tc : Thread Cert.Ffn1InDxRefIdeal.nD Cert.Ffn1InDxRefIdeal.τ).loc Cert.Ffn1InDxRefIdeal.main_arg1))
      ∧ r.2.sem = fun _ => 0)

def quiescent_Ffn1InDw [hFfn1InDw : Cert.Ffn1InDw.Facts] : Prop :=
  ∀ (m : (ℓ : Loc Cert.Ffn1InDw.nD Cert.Ffn1InDw.τ Cert.Ffn1InDw.sig) → Buf (Elt Bits) ℓ) (g : Dev Cert.Ffn1InDw.nD → PrngReg), Pre_Ffn1InDw m →
    θ_run (Cert.Ffn1InDw.defs (F := Bits)) (onTc (τ := Cert.Ffn1InDw.τ) (Cert.Ffn1InDw.main (F := Bits))) ⟨m, fun _ => 0, g⟩ (fun r => (∀ c : Dev Cert.Ffn1InDw.nD,
      r.2.mem ((c.tc : Thread Cert.Ffn1InDw.nD Cert.Ffn1InDw.τ).loc Cert.Ffn1InDw.main_arg0) = m ((c.tc : Thread Cert.Ffn1InDw.nD Cert.Ffn1InDw.τ).loc Cert.Ffn1InDw.main_arg0)
      ∧ r.2.mem ((c.tc : Thread Cert.Ffn1InDw.nD Cert.Ffn1InDw.τ).loc Cert.Ffn1InDw.main_arg1) = m ((c.tc : Thread Cert.Ffn1InDw.nD Cert.Ffn1InDw.τ).loc Cert.Ffn1InDw.main_arg1))
      ∧ r.2.sem = fun _ => 0)

def quiescent_Ffn1InDwIdeal [hFfn1InDwIdeal : Cert.Ffn1InDwIdeal.Facts] : Prop :=
  ∀ (m : (ℓ : Loc Cert.Ffn1InDwIdeal.nD Cert.Ffn1InDwIdeal.τ Cert.Ffn1InDwIdeal.sig) → Buf (Elt Ideal) ℓ) (g : Dev Cert.Ffn1InDwIdeal.nD → PrngReg), Pre_Ffn1InDwIdeal m →
    θ_run (Cert.Ffn1InDwIdeal.defs (F := Ideal)) (onTc (τ := Cert.Ffn1InDwIdeal.τ) (Cert.Ffn1InDwIdeal.main (F := Ideal))) ⟨m, fun _ => 0, g⟩ (fun r => (∀ c : Dev Cert.Ffn1InDwIdeal.nD,
      r.2.mem ((c.tc : Thread Cert.Ffn1InDwIdeal.nD Cert.Ffn1InDwIdeal.τ).loc Cert.Ffn1InDwIdeal.main_arg0) = m ((c.tc : Thread Cert.Ffn1InDwIdeal.nD Cert.Ffn1InDwIdeal.τ).loc Cert.Ffn1InDwIdeal.main_arg0)
      ∧ r.2.mem ((c.tc : Thread Cert.Ffn1InDwIdeal.nD Cert.Ffn1InDwIdeal.τ).loc Cert.Ffn1InDwIdeal.main_arg1) = m ((c.tc : Thread Cert.Ffn1InDwIdeal.nD Cert.Ffn1InDwIdeal.τ).loc Cert.Ffn1InDwIdeal.main_arg1))
      ∧ r.2.sem = fun _ => 0)

def quiescent_Ffn1InDwRefIdeal [hFfn1InDwRefIdeal : Cert.Ffn1InDwRefIdeal.Facts] : Prop :=
  ∀ (m : (ℓ : Loc Cert.Ffn1InDwRefIdeal.nD Cert.Ffn1InDwRefIdeal.τ Cert.Ffn1InDwRefIdeal.sig) → Buf (Elt Ideal) ℓ) (g : Dev Cert.Ffn1InDwRefIdeal.nD → PrngReg), Pre_Ffn1InDwRefIdeal m →
    θ_run (Cert.Ffn1InDwRefIdeal.defs (F := Ideal)) (onTc (τ := Cert.Ffn1InDwRefIdeal.τ) (Cert.Ffn1InDwRefIdeal.main (F := Ideal))) ⟨m, fun _ => 0, g⟩ (fun r => (∀ c : Dev Cert.Ffn1InDwRefIdeal.nD,
      r.2.mem ((c.tc : Thread Cert.Ffn1InDwRefIdeal.nD Cert.Ffn1InDwRefIdeal.τ).loc Cert.Ffn1InDwRefIdeal.main_arg0) = m ((c.tc : Thread Cert.Ffn1InDwRefIdeal.nD Cert.Ffn1InDwRefIdeal.τ).loc Cert.Ffn1InDwRefIdeal.main_arg0)
      ∧ r.2.mem ((c.tc : Thread Cert.Ffn1InDwRefIdeal.nD Cert.Ffn1InDwRefIdeal.τ).loc Cert.Ffn1InDwRefIdeal.main_arg1) = m ((c.tc : Thread Cert.Ffn1InDwRefIdeal.nD Cert.Ffn1InDwRefIdeal.τ).loc Cert.Ffn1InDwRefIdeal.main_arg1))
      ∧ r.2.sem = fun _ => 0)

def quiescent_Ffn1OutDw [hFfn1OutDw : Cert.Ffn1OutDw.Facts] : Prop :=
  ∀ (m : (ℓ : Loc Cert.Ffn1OutDw.nD Cert.Ffn1OutDw.τ Cert.Ffn1OutDw.sig) → Buf (Elt Bits) ℓ) (g : Dev Cert.Ffn1OutDw.nD → PrngReg), Pre_Ffn1OutDw m →
    θ_run (Cert.Ffn1OutDw.defs (F := Bits)) (onTc (τ := Cert.Ffn1OutDw.τ) (Cert.Ffn1OutDw.main (F := Bits))) ⟨m, fun _ => 0, g⟩ (fun r => (∀ c : Dev Cert.Ffn1OutDw.nD,
      r.2.mem ((c.tc : Thread Cert.Ffn1OutDw.nD Cert.Ffn1OutDw.τ).loc Cert.Ffn1OutDw.main_arg0) = m ((c.tc : Thread Cert.Ffn1OutDw.nD Cert.Ffn1OutDw.τ).loc Cert.Ffn1OutDw.main_arg0)
      ∧ r.2.mem ((c.tc : Thread Cert.Ffn1OutDw.nD Cert.Ffn1OutDw.τ).loc Cert.Ffn1OutDw.main_arg1) = m ((c.tc : Thread Cert.Ffn1OutDw.nD Cert.Ffn1OutDw.τ).loc Cert.Ffn1OutDw.main_arg1))
      ∧ r.2.sem = fun _ => 0)

def quiescent_Ffn1OutDwIdeal [hFfn1OutDwIdeal : Cert.Ffn1OutDwIdeal.Facts] : Prop :=
  ∀ (m : (ℓ : Loc Cert.Ffn1OutDwIdeal.nD Cert.Ffn1OutDwIdeal.τ Cert.Ffn1OutDwIdeal.sig) → Buf (Elt Ideal) ℓ) (g : Dev Cert.Ffn1OutDwIdeal.nD → PrngReg), Pre_Ffn1OutDwIdeal m →
    θ_run (Cert.Ffn1OutDwIdeal.defs (F := Ideal)) (onTc (τ := Cert.Ffn1OutDwIdeal.τ) (Cert.Ffn1OutDwIdeal.main (F := Ideal))) ⟨m, fun _ => 0, g⟩ (fun r => (∀ c : Dev Cert.Ffn1OutDwIdeal.nD,
      r.2.mem ((c.tc : Thread Cert.Ffn1OutDwIdeal.nD Cert.Ffn1OutDwIdeal.τ).loc Cert.Ffn1OutDwIdeal.main_arg0) = m ((c.tc : Thread Cert.Ffn1OutDwIdeal.nD Cert.Ffn1OutDwIdeal.τ).loc Cert.Ffn1OutDwIdeal.main_arg0)
      ∧ r.2.mem ((c.tc : Thread Cert.Ffn1OutDwIdeal.nD Cert.Ffn1OutDwIdeal.τ).loc Cert.Ffn1OutDwIdeal.main_arg1) = m ((c.tc : Thread Cert.Ffn1OutDwIdeal.nD Cert.Ffn1OutDwIdeal.τ).loc Cert.Ffn1OutDwIdeal.main_arg1))
      ∧ r.2.sem = fun _ => 0)

def quiescent_Ffn1OutDwRefIdeal [hFfn1OutDwRefIdeal : Cert.Ffn1OutDwRefIdeal.Facts] : Prop :=
  ∀ (m : (ℓ : Loc Cert.Ffn1OutDwRefIdeal.nD Cert.Ffn1OutDwRefIdeal.τ Cert.Ffn1OutDwRefIdeal.sig) → Buf (Elt Ideal) ℓ) (g : Dev Cert.Ffn1OutDwRefIdeal.nD → PrngReg), Pre_Ffn1OutDwRefIdeal m →
    θ_run (Cert.Ffn1OutDwRefIdeal.defs (F := Ideal)) (onTc (τ := Cert.Ffn1OutDwRefIdeal.τ) (Cert.Ffn1OutDwRefIdeal.main (F := Ideal))) ⟨m, fun _ => 0, g⟩ (fun r => (∀ c : Dev Cert.Ffn1OutDwRefIdeal.nD,
      r.2.mem ((c.tc : Thread Cert.Ffn1OutDwRefIdeal.nD Cert.Ffn1OutDwRefIdeal.τ).loc Cert.Ffn1OutDwRefIdeal.main_arg0) = m ((c.tc : Thread Cert.Ffn1OutDwRefIdeal.nD Cert.Ffn1OutDwRefIdeal.τ).loc Cert.Ffn1OutDwRefIdeal.main_arg0)
      ∧ r.2.mem ((c.tc : Thread Cert.Ffn1OutDwRefIdeal.nD Cert.Ffn1OutDwRefIdeal.τ).loc Cert.Ffn1OutDwRefIdeal.main_arg1) = m ((c.tc : Thread Cert.Ffn1OutDwRefIdeal.nD Cert.Ffn1OutDwRefIdeal.τ).loc Cert.Ffn1OutDwRefIdeal.main_arg1))
      ∧ r.2.sem = fun _ => 0)

def quiescent_MixInDx [hMixInDx : Cert.MixInDx.Facts] : Prop :=
  ∀ (m : (ℓ : Loc Cert.MixInDx.nD Cert.MixInDx.τ Cert.MixInDx.sig) → Buf (Elt Bits) ℓ) (g : Dev Cert.MixInDx.nD → PrngReg), Pre_MixInDx m →
    θ_run (Cert.MixInDx.defs (F := Bits)) (onTc (τ := Cert.MixInDx.τ) (Cert.MixInDx.main (F := Bits))) ⟨m, fun _ => 0, g⟩ (fun r => (∀ c : Dev Cert.MixInDx.nD,
      r.2.mem ((c.tc : Thread Cert.MixInDx.nD Cert.MixInDx.τ).loc Cert.MixInDx.main_arg0) = m ((c.tc : Thread Cert.MixInDx.nD Cert.MixInDx.τ).loc Cert.MixInDx.main_arg0)
      ∧ r.2.mem ((c.tc : Thread Cert.MixInDx.nD Cert.MixInDx.τ).loc Cert.MixInDx.main_arg1) = m ((c.tc : Thread Cert.MixInDx.nD Cert.MixInDx.τ).loc Cert.MixInDx.main_arg1))
      ∧ r.2.sem = fun _ => 0)

def quiescent_MixInDxIdeal [hMixInDxIdeal : Cert.MixInDxIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg), Pre_MixInDxIdeal m →
    θ_run (Cert.MixInDxIdeal.defs (F := Ideal)) (onTc (τ := Cert.MixInDxIdeal.τ) (Cert.MixInDxIdeal.main (F := Ideal))) ⟨m, fun _ => 0, g⟩ (fun r => (∀ c : Dev Cert.MixInDxIdeal.nD,
      r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
      ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1))
      ∧ r.2.sem = fun _ => 0)

def quiescent_MixInDxRefIdeal [hMixInDxRefIdeal : Cert.MixInDxRefIdeal.Facts] : Prop :=
  ∀ (m : (ℓ : Loc Cert.MixInDxRefIdeal.nD Cert.MixInDxRefIdeal.τ Cert.MixInDxRefIdeal.sig) → Buf (Elt Ideal) ℓ) (g : Dev Cert.MixInDxRefIdeal.nD → PrngReg), Pre_MixInDxRefIdeal m →
    θ_run (Cert.MixInDxRefIdeal.defs (F := Ideal)) (onTc (τ := Cert.MixInDxRefIdeal.τ) (Cert.MixInDxRefIdeal.main (F := Ideal))) ⟨m, fun _ => 0, g⟩ (fun r => (∀ c : Dev Cert.MixInDxRefIdeal.nD,
      r.2.mem ((c.tc : Thread Cert.MixInDxRefIdeal.nD Cert.MixInDxRefIdeal.τ).loc Cert.MixInDxRefIdeal.main_arg0) = m ((c.tc : Thread Cert.MixInDxRefIdeal.nD Cert.MixInDxRefIdeal.τ).loc Cert.MixInDxRefIdeal.main_arg0)
      ∧ r.2.mem ((c.tc : Thread Cert.MixInDxRefIdeal.nD Cert.MixInDxRefIdeal.τ).loc Cert.MixInDxRefIdeal.main_arg1) = m ((c.tc : Thread Cert.MixInDxRefIdeal.nD Cert.MixInDxRefIdeal.τ).loc Cert.MixInDxRefIdeal.main_arg1))
      ∧ r.2.sem = fun _ => 0)

def quiescent_MixInDw [hMixInDw : Cert.MixInDw.Facts] : Prop :=
  ∀ (m : (ℓ : Loc Cert.MixInDw.nD Cert.MixInDw.τ Cert.MixInDw.sig) → Buf (Elt Bits) ℓ) (g : Dev Cert.MixInDw.nD → PrngReg), Pre_MixInDw m →
    θ_run (Cert.MixInDw.defs (F := Bits)) (onTc (τ := Cert.MixInDw.τ) (Cert.MixInDw.main (F := Bits))) ⟨m, fun _ => 0, g⟩ (fun r => (∀ c : Dev Cert.MixInDw.nD,
      r.2.mem ((c.tc : Thread Cert.MixInDw.nD Cert.MixInDw.τ).loc Cert.MixInDw.main_arg0) = m ((c.tc : Thread Cert.MixInDw.nD Cert.MixInDw.τ).loc Cert.MixInDw.main_arg0)
      ∧ r.2.mem ((c.tc : Thread Cert.MixInDw.nD Cert.MixInDw.τ).loc Cert.MixInDw.main_arg1) = m ((c.tc : Thread Cert.MixInDw.nD Cert.MixInDw.τ).loc Cert.MixInDw.main_arg1))
      ∧ r.2.sem = fun _ => 0)

def quiescent_MixInDwIdeal [hMixInDwIdeal : Cert.MixInDwIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg), Pre_MixInDwIdeal m →
    θ_run (Cert.MixInDwIdeal.defs (F := Ideal)) (onTc (τ := Cert.MixInDwIdeal.τ) (Cert.MixInDwIdeal.main (F := Ideal))) ⟨m, fun _ => 0, g⟩ (fun r => (∀ c : Dev Cert.MixInDwIdeal.nD,
      r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
      ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ r.2.sem = fun _ => 0)

def quiescent_MixInDwRefIdeal [hMixInDwRefIdeal : Cert.MixInDwRefIdeal.Facts] : Prop :=
  ∀ (m : (ℓ : Loc Cert.MixInDwRefIdeal.nD Cert.MixInDwRefIdeal.τ Cert.MixInDwRefIdeal.sig) → Buf (Elt Ideal) ℓ) (g : Dev Cert.MixInDwRefIdeal.nD → PrngReg), Pre_MixInDwRefIdeal m →
    θ_run (Cert.MixInDwRefIdeal.defs (F := Ideal)) (onTc (τ := Cert.MixInDwRefIdeal.τ) (Cert.MixInDwRefIdeal.main (F := Ideal))) ⟨m, fun _ => 0, g⟩ (fun r => (∀ c : Dev Cert.MixInDwRefIdeal.nD,
      r.2.mem ((c.tc : Thread Cert.MixInDwRefIdeal.nD Cert.MixInDwRefIdeal.τ).loc Cert.MixInDwRefIdeal.main_arg0) = m ((c.tc : Thread Cert.MixInDwRefIdeal.nD Cert.MixInDwRefIdeal.τ).loc Cert.MixInDwRefIdeal.main_arg0)
      ∧ r.2.mem ((c.tc : Thread Cert.MixInDwRefIdeal.nD Cert.MixInDwRefIdeal.τ).loc Cert.MixInDwRefIdeal.main_arg1) = m ((c.tc : Thread Cert.MixInDwRefIdeal.nD Cert.MixInDwRefIdeal.τ).loc Cert.MixInDwRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_ProjAttnDx [hProjAttnDx : Cert.ProjAttnDx.Facts] : Prop :=
  ∀ (m : (ℓ : Loc Cert.ProjAttnDx.nD Cert.ProjAttnDx.τ Cert.ProjAttnDx.sig) → Buf (Elt Bits) ℓ) (g : Dev Cert.ProjAttnDx.nD → PrngReg), Pre_ProjAttnDx m →
    θ_run (Cert.ProjAttnDx.defs (F := Bits)) (onTc (τ := Cert.ProjAttnDx.τ) (Cert.ProjAttnDx.main (F := Bits))) ⟨m, fun _ => 0, g⟩ (fun r => (∀ c : Dev Cert.ProjAttnDx.nD,
      r.2.mem ((c.tc : Thread Cert.ProjAttnDx.nD Cert.ProjAttnDx.τ).loc Cert.ProjAttnDx.main_arg0) = m ((c.tc : Thread Cert.ProjAttnDx.nD Cert.ProjAttnDx.τ).loc Cert.ProjAttnDx.main_arg0)
      ∧ r.2.mem ((c.tc : Thread Cert.ProjAttnDx.nD Cert.ProjAttnDx.τ).loc Cert.ProjAttnDx.main_arg1) = m ((c.tc : Thread Cert.ProjAttnDx.nD Cert.ProjAttnDx.τ).loc Cert.ProjAttnDx.main_arg1))
      ∧ r.2.sem = fun _ => 0)

def quiescent_ProjAttnDxIdeal [hProjAttnDxIdeal : Cert.ProjAttnDxIdeal.Facts] : Prop :=
  ∀ (m : (ℓ : Loc Cert.ProjAttnDxIdeal.nD Cert.ProjAttnDxIdeal.τ Cert.ProjAttnDxIdeal.sig) → Buf (Elt Ideal) ℓ) (g : Dev Cert.ProjAttnDxIdeal.nD → PrngReg), Pre_ProjAttnDxIdeal m →
    θ_run (Cert.ProjAttnDxIdeal.defs (F := Ideal)) (onTc (τ := Cert.ProjAttnDxIdeal.τ) (Cert.ProjAttnDxIdeal.main (F := Ideal))) ⟨m, fun _ => 0, g⟩ (fun r => (∀ c : Dev Cert.ProjAttnDxIdeal.nD,
      r.2.mem ((c.tc : Thread Cert.ProjAttnDxIdeal.nD Cert.ProjAttnDxIdeal.τ).loc Cert.ProjAttnDxIdeal.main_arg0) = m ((c.tc : Thread Cert.ProjAttnDxIdeal.nD Cert.ProjAttnDxIdeal.τ).loc Cert.ProjAttnDxIdeal.main_arg0)
      ∧ r.2.mem ((c.tc : Thread Cert.ProjAttnDxIdeal.nD Cert.ProjAttnDxIdeal.τ).loc Cert.ProjAttnDxIdeal.main_arg1) = m ((c.tc : Thread Cert.ProjAttnDxIdeal.nD Cert.ProjAttnDxIdeal.τ).loc Cert.ProjAttnDxIdeal.main_arg1))
      ∧ r.2.sem = fun _ => 0)

def quiescent_ProjAttnDxRefIdeal [hProjAttnDxRefIdeal : Cert.ProjAttnDxRefIdeal.Facts] : Prop :=
  ∀ (m : (ℓ : Loc Cert.ProjAttnDxRefIdeal.nD Cert.ProjAttnDxRefIdeal.τ Cert.ProjAttnDxRefIdeal.sig) → Buf (Elt Ideal) ℓ) (g : Dev Cert.ProjAttnDxRefIdeal.nD → PrngReg), Pre_ProjAttnDxRefIdeal m →
    θ_run (Cert.ProjAttnDxRefIdeal.defs (F := Ideal)) (onTc (τ := Cert.ProjAttnDxRefIdeal.τ) (Cert.ProjAttnDxRefIdeal.main (F := Ideal))) ⟨m, fun _ => 0, g⟩ (fun r => (∀ c : Dev Cert.ProjAttnDxRefIdeal.nD,
      r.2.mem ((c.tc : Thread Cert.ProjAttnDxRefIdeal.nD Cert.ProjAttnDxRefIdeal.τ).loc Cert.ProjAttnDxRefIdeal.main_arg0) = m ((c.tc : Thread Cert.ProjAttnDxRefIdeal.nD Cert.ProjAttnDxRefIdeal.τ).loc Cert.ProjAttnDxRefIdeal.main_arg0)
      ∧ r.2.mem ((c.tc : Thread Cert.ProjAttnDxRefIdeal.nD Cert.ProjAttnDxRefIdeal.τ).loc Cert.ProjAttnDxRefIdeal.main_arg1) = m ((c.tc : Thread Cert.ProjAttnDxRefIdeal.nD Cert.ProjAttnDxRefIdeal.τ).loc Cert.ProjAttnDxRefIdeal.main_arg1))
      ∧ r.2.sem = fun _ => 0)

def quiescent_ProjRetDx [hProjRetDx : Cert.ProjRetDx.Facts] : Prop :=
  ∀ (m : (ℓ : Loc Cert.ProjRetDx.nD Cert.ProjRetDx.τ Cert.ProjRetDx.sig) → Buf (Elt Bits) ℓ) (g : Dev Cert.ProjRetDx.nD → PrngReg), Pre_ProjRetDx m →
    θ_run (Cert.ProjRetDx.defs (F := Bits)) (onTc (τ := Cert.ProjRetDx.τ) (Cert.ProjRetDx.main (F := Bits))) ⟨m, fun _ => 0, g⟩ (fun r => (∀ c : Dev Cert.ProjRetDx.nD,
      r.2.mem ((c.tc : Thread Cert.ProjRetDx.nD Cert.ProjRetDx.τ).loc Cert.ProjRetDx.main_arg0) = m ((c.tc : Thread Cert.ProjRetDx.nD Cert.ProjRetDx.τ).loc Cert.ProjRetDx.main_arg0)
      ∧ r.2.mem ((c.tc : Thread Cert.ProjRetDx.nD Cert.ProjRetDx.τ).loc Cert.ProjRetDx.main_arg1) = m ((c.tc : Thread Cert.ProjRetDx.nD Cert.ProjRetDx.τ).loc Cert.ProjRetDx.main_arg1))
      ∧ r.2.sem = fun _ => 0)

def quiescent_ProjRetDxIdeal [hProjRetDxIdeal : Cert.ProjRetDxIdeal.Facts] : Prop :=
  ∀ (m : (ℓ : Loc Cert.ProjRetDxIdeal.nD Cert.ProjRetDxIdeal.τ Cert.ProjRetDxIdeal.sig) → Buf (Elt Ideal) ℓ) (g : Dev Cert.ProjRetDxIdeal.nD → PrngReg), Pre_ProjRetDxIdeal m →
    θ_run (Cert.ProjRetDxIdeal.defs (F := Ideal)) (onTc (τ := Cert.ProjRetDxIdeal.τ) (Cert.ProjRetDxIdeal.main (F := Ideal))) ⟨m, fun _ => 0, g⟩ (fun r => (∀ c : Dev Cert.ProjRetDxIdeal.nD,
      r.2.mem ((c.tc : Thread Cert.ProjRetDxIdeal.nD Cert.ProjRetDxIdeal.τ).loc Cert.ProjRetDxIdeal.main_arg0) = m ((c.tc : Thread Cert.ProjRetDxIdeal.nD Cert.ProjRetDxIdeal.τ).loc Cert.ProjRetDxIdeal.main_arg0)
      ∧ r.2.mem ((c.tc : Thread Cert.ProjRetDxIdeal.nD Cert.ProjRetDxIdeal.τ).loc Cert.ProjRetDxIdeal.main_arg1) = m ((c.tc : Thread Cert.ProjRetDxIdeal.nD Cert.ProjRetDxIdeal.τ).loc Cert.ProjRetDxIdeal.main_arg1))
      ∧ r.2.sem = fun _ => 0)

def quiescent_ProjRetDxRefIdeal [hProjRetDxRefIdeal : Cert.ProjRetDxRefIdeal.Facts] : Prop :=
  ∀ (m : (ℓ : Loc Cert.ProjRetDxRefIdeal.nD Cert.ProjRetDxRefIdeal.τ Cert.ProjRetDxRefIdeal.sig) → Buf (Elt Ideal) ℓ) (g : Dev Cert.ProjRetDxRefIdeal.nD → PrngReg), Pre_ProjRetDxRefIdeal m →
    θ_run (Cert.ProjRetDxRefIdeal.defs (F := Ideal)) (onTc (τ := Cert.ProjRetDxRefIdeal.τ) (Cert.ProjRetDxRefIdeal.main (F := Ideal))) ⟨m, fun _ => 0, g⟩ (fun r => (∀ c : Dev Cert.ProjRetDxRefIdeal.nD,
      r.2.mem ((c.tc : Thread Cert.ProjRetDxRefIdeal.nD Cert.ProjRetDxRefIdeal.τ).loc Cert.ProjRetDxRefIdeal.main_arg0) = m ((c.tc : Thread Cert.ProjRetDxRefIdeal.nD Cert.ProjRetDxRefIdeal.τ).loc Cert.ProjRetDxRefIdeal.main_arg0)
      ∧ r.2.mem ((c.tc : Thread Cert.ProjRetDxRefIdeal.nD Cert.ProjRetDxRefIdeal.τ).loc Cert.ProjRetDxRefIdeal.main_arg1) = m ((c.tc : Thread Cert.ProjRetDxRefIdeal.nD Cert.ProjRetDxRefIdeal.τ).loc Cert.ProjRetDxRefIdeal.main_arg1))
      ∧ r.2.sem = fun _ => 0)

def quiescent_Ffn2Out [hFfn2Out : Cert.Ffn2Out.Facts] : Prop :=
  ∀ (m : (ℓ : Loc Cert.Ffn2Out.nD Cert.Ffn2Out.τ Cert.Ffn2Out.sig) → Buf (Elt Bits) ℓ) (g : Dev Cert.Ffn2Out.nD → PrngReg), Pre_Ffn2Out m →
    θ_run (Cert.Ffn2Out.defs (F := Bits)) (onTc (τ := Cert.Ffn2Out.τ) (Cert.Ffn2Out.main (F := Bits))) ⟨m, fun _ => 0, g⟩ (fun r => (∀ c : Dev Cert.Ffn2Out.nD,
      r.2.mem ((c.tc : Thread Cert.Ffn2Out.nD Cert.Ffn2Out.τ).loc Cert.Ffn2Out.main_arg0) = m ((c.tc : Thread Cert.Ffn2Out.nD Cert.Ffn2Out.τ).loc Cert.Ffn2Out.main_arg0)
      ∧ r.2.mem ((c.tc : Thread Cert.Ffn2Out.nD Cert.Ffn2Out.τ).loc Cert.Ffn2Out.main_arg1) = m ((c.tc : Thread Cert.Ffn2Out.nD Cert.Ffn2Out.τ).loc Cert.Ffn2Out.main_arg1))
      ∧ r.2.sem = fun _ => 0)

def quiescent_Ffn2OutIdeal [hFfn2OutIdeal : Cert.Ffn2OutIdeal.Facts] : Prop :=
  ∀ (m : (ℓ : Loc Cert.Ffn2OutIdeal.nD Cert.Ffn2OutIdeal.τ Cert.Ffn2OutIdeal.sig) → Buf (Elt Ideal) ℓ) (g : Dev Cert.Ffn2OutIdeal.nD → PrngReg), Pre_Ffn2OutIdeal m →
    θ_run (Cert.Ffn2OutIdeal.defs (F := Ideal)) (onTc (τ := Cert.Ffn2OutIdeal.τ) (Cert.Ffn2OutIdeal.main (F := Ideal))) ⟨m, fun _ => 0, g⟩ (fun r => (∀ c : Dev Cert.Ffn2OutIdeal.nD,
      r.2.mem ((c.tc : Thread Cert.Ffn2OutIdeal.nD Cert.Ffn2OutIdeal.τ).loc Cert.Ffn2OutIdeal.main_arg0) = m ((c.tc : Thread Cert.Ffn2OutIdeal.nD Cert.Ffn2OutIdeal.τ).loc Cert.Ffn2OutIdeal.main_arg0)
      ∧ r.2.mem ((c.tc : Thread Cert.Ffn2OutIdeal.nD Cert.Ffn2OutIdeal.τ).loc Cert.Ffn2OutIdeal.main_arg1) = m ((c.tc : Thread Cert.Ffn2OutIdeal.nD Cert.Ffn2OutIdeal.τ).loc Cert.Ffn2OutIdeal.main_arg1))
      ∧ r.2.sem = fun _ => 0)

def quiescent_Ffn2OutRefIdeal [hFfn2OutRefIdeal : Cert.Ffn2OutRefIdeal.Facts] : Prop :=
  ∀ (m : (ℓ : Loc Cert.Ffn2OutRefIdeal.nD Cert.Ffn2OutRefIdeal.τ Cert.Ffn2OutRefIdeal.sig) → Buf (Elt Ideal) ℓ) (g : Dev Cert.Ffn2OutRefIdeal.nD → PrngReg), Pre_Ffn2OutRefIdeal m →
    θ_run (Cert.Ffn2OutRefIdeal.defs (F := Ideal)) (onTc (τ := Cert.Ffn2OutRefIdeal.τ) (Cert.Ffn2OutRefIdeal.main (F := Ideal))) ⟨m, fun _ => 0, g⟩ (fun r => (∀ c : Dev Cert.Ffn2OutRefIdeal.nD,
      r.2.mem ((c.tc : Thread Cert.Ffn2OutRefIdeal.nD Cert.Ffn2OutRefIdeal.τ).loc Cert.Ffn2OutRefIdeal.main_arg0) = m ((c.tc : Thread Cert.Ffn2OutRefIdeal.nD Cert.Ffn2OutRefIdeal.τ).loc Cert.Ffn2OutRefIdeal.main_arg0)
      ∧ r.2.mem ((c.tc : Thread Cert.Ffn2OutRefIdeal.nD Cert.Ffn2OutRefIdeal.τ).loc Cert.Ffn2OutRefIdeal.main_arg1) = m ((c.tc : Thread Cert.Ffn2OutRefIdeal.nD Cert.Ffn2OutRefIdeal.τ).loc Cert.Ffn2OutRefIdeal.main_arg1))
      ∧ r.2.sem = fun _ => 0)

def quiescent_Ffn1Out [hFfn1Out : Cert.Ffn1Out.Facts] : Prop :=
  ∀ (m : (ℓ : Loc Cert.Ffn1Out.nD Cert.Ffn1Out.τ Cert.Ffn1Out.sig) → Buf (Elt Bits) ℓ) (g : Dev Cert.Ffn1Out.nD → PrngReg), Pre_Ffn1Out m →
    θ_run (Cert.Ffn1Out.defs (F := Bits)) (onTc (τ := Cert.Ffn1Out.τ) (Cert.Ffn1Out.main (F := Bits))) ⟨m, fun _ => 0, g⟩ (fun r => (∀ c : Dev Cert.Ffn1Out.nD,
      r.2.mem ((c.tc : Thread Cert.Ffn1Out.nD Cert.Ffn1Out.τ).loc Cert.Ffn1Out.main_arg0) = m ((c.tc : Thread Cert.Ffn1Out.nD Cert.Ffn1Out.τ).loc Cert.Ffn1Out.main_arg0)
      ∧ r.2.mem ((c.tc : Thread Cert.Ffn1Out.nD Cert.Ffn1Out.τ).loc Cert.Ffn1Out.main_arg1) = m ((c.tc : Thread Cert.Ffn1Out.nD Cert.Ffn1Out.τ).loc Cert.Ffn1Out.main_arg1))
      ∧ r.2.sem = fun _ => 0)

def quiescent_Ffn1OutIdeal [hFfn1OutIdeal : Cert.Ffn1OutIdeal.Facts] : Prop :=
  ∀ (m : (ℓ : Loc Cert.Ffn1OutIdeal.nD Cert.Ffn1OutIdeal.τ Cert.Ffn1OutIdeal.sig) → Buf (Elt Ideal) ℓ) (g : Dev Cert.Ffn1OutIdeal.nD → PrngReg), Pre_Ffn1OutIdeal m →
    θ_run (Cert.Ffn1OutIdeal.defs (F := Ideal)) (onTc (τ := Cert.Ffn1OutIdeal.τ) (Cert.Ffn1OutIdeal.main (F := Ideal))) ⟨m, fun _ => 0, g⟩ (fun r => (∀ c : Dev Cert.Ffn1OutIdeal.nD,
      r.2.mem ((c.tc : Thread Cert.Ffn1OutIdeal.nD Cert.Ffn1OutIdeal.τ).loc Cert.Ffn1OutIdeal.main_arg0) = m ((c.tc : Thread Cert.Ffn1OutIdeal.nD Cert.Ffn1OutIdeal.τ).loc Cert.Ffn1OutIdeal.main_arg0)
      ∧ r.2.mem ((c.tc : Thread Cert.Ffn1OutIdeal.nD Cert.Ffn1OutIdeal.τ).loc Cert.Ffn1OutIdeal.main_arg1) = m ((c.tc : Thread Cert.Ffn1OutIdeal.nD Cert.Ffn1OutIdeal.τ).loc Cert.Ffn1OutIdeal.main_arg1))
      ∧ r.2.sem = fun _ => 0)

def quiescent_Ffn1OutRefIdeal [hFfn1OutRefIdeal : Cert.Ffn1OutRefIdeal.Facts] : Prop :=
  ∀ (m : (ℓ : Loc Cert.Ffn1OutRefIdeal.nD Cert.Ffn1OutRefIdeal.τ Cert.Ffn1OutRefIdeal.sig) → Buf (Elt Ideal) ℓ) (g : Dev Cert.Ffn1OutRefIdeal.nD → PrngReg), Pre_Ffn1OutRefIdeal m →
    θ_run (Cert.Ffn1OutRefIdeal.defs (F := Ideal)) (onTc (τ := Cert.Ffn1OutRefIdeal.τ) (Cert.Ffn1OutRefIdeal.main (F := Ideal))) ⟨m, fun _ => 0, g⟩ (fun r => (∀ c : Dev Cert.Ffn1OutRefIdeal.nD,
      r.2.mem ((c.tc : Thread Cert.Ffn1OutRefIdeal.nD Cert.Ffn1OutRefIdeal.τ).loc Cert.Ffn1OutRefIdeal.main_arg0) = m ((c.tc : Thread Cert.Ffn1OutRefIdeal.nD Cert.Ffn1OutRefIdeal.τ).loc Cert.Ffn1OutRefIdeal.main_arg0)
      ∧ r.2.mem ((c.tc : Thread Cert.Ffn1OutRefIdeal.nD Cert.Ffn1OutRefIdeal.τ).loc Cert.Ffn1OutRefIdeal.main_arg1) = m ((c.tc : Thread Cert.Ffn1OutRefIdeal.nD Cert.Ffn1OutRefIdeal.τ).loc Cert.Ffn1OutRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Ffn2GateGrad [hFfn2GateGrad : Cert.Ffn2GateGrad.Facts] : Prop :=
  ∀ (m : (ℓ : Loc Cert.Ffn2GateGrad.nD Cert.Ffn2GateGrad.τ Cert.Ffn2GateGrad.sig) → Buf (Elt Bits) ℓ) (g : Dev Cert.Ffn2GateGrad.nD → PrngReg), Pre_Ffn2GateGrad m →
    θ_run (Cert.Ffn2GateGrad.defs (F := Bits)) (onTc (τ := Cert.Ffn2GateGrad.τ) (Cert.Ffn2GateGrad.main (F := Bits))) ⟨m, fun _ => 0, g⟩ (fun r => (∀ c : Dev Cert.Ffn2GateGrad.nD,
      r.2.mem ((c.tc : Thread Cert.Ffn2GateGrad.nD Cert.Ffn2GateGrad.τ).loc Cert.Ffn2GateGrad.main_arg0) = m ((c.tc : Thread Cert.Ffn2GateGrad.nD Cert.Ffn2GateGrad.τ).loc Cert.Ffn2GateGrad.main_arg0)
      ∧ r.2.mem ((c.tc : Thread Cert.Ffn2GateGrad.nD Cert.Ffn2GateGrad.τ).loc Cert.Ffn2GateGrad.main_arg1) = m ((c.tc : Thread Cert.Ffn2GateGrad.nD Cert.Ffn2GateGrad.τ).loc Cert.Ffn2GateGrad.main_arg1)
      ∧ r.2.mem ((c.tc : Thread Cert.Ffn2GateGrad.nD Cert.Ffn2GateGrad.τ).loc Cert.Ffn2GateGrad.main_arg2) = m ((c.tc : Thread Cert.Ffn2GateGrad.nD Cert.Ffn2GateGrad.τ).loc Cert.Ffn2GateGrad.main_arg2)
      ∧ r.2.mem ((c.tc : Thread Cert.Ffn2GateGrad.nD Cert.Ffn2GateGrad.τ).loc Cert.Ffn2GateGrad.main_arg3) = m ((c.tc : Thread Cert.Ffn2GateGrad.nD Cert.Ffn2GateGrad.τ).loc Cert.Ffn2GateGrad.main_arg3))
      ∧ r.2.sem = fun _ => 0)

def quiescent_Ffn2GateGradIdeal [hFfn2GateGradIdeal : Cert.Ffn2GateGradIdeal.Facts] : Prop :=
  ∀ (m : (ℓ : Loc Cert.Ffn2GateGradIdeal.nD Cert.Ffn2GateGradIdeal.τ Cert.Ffn2GateGradIdeal.sig) → Buf (Elt Ideal) ℓ) (g : Dev Cert.Ffn2GateGradIdeal.nD → PrngReg), Pre_Ffn2GateGradIdeal m →
    θ_run (Cert.Ffn2GateGradIdeal.defs (F := Ideal)) (onTc (τ := Cert.Ffn2GateGradIdeal.τ) (Cert.Ffn2GateGradIdeal.main (F := Ideal))) ⟨m, fun _ => 0, g⟩ (fun r => (∀ c : Dev Cert.Ffn2GateGradIdeal.nD,
      r.2.mem ((c.tc : Thread Cert.Ffn2GateGradIdeal.nD Cert.Ffn2GateGradIdeal.τ).loc Cert.Ffn2GateGradIdeal.main_arg0) = m ((c.tc : Thread Cert.Ffn2GateGradIdeal.nD Cert.Ffn2GateGradIdeal.τ).loc Cert.Ffn2GateGradIdeal.main_arg0)
      ∧ r.2.mem ((c.tc : Thread Cert.Ffn2GateGradIdeal.nD Cert.Ffn2GateGradIdeal.τ).loc Cert.Ffn2GateGradIdeal.main_arg1) = m ((c.tc : Thread Cert.Ffn2GateGradIdeal.nD Cert.Ffn2GateGradIdeal.τ).loc Cert.Ffn2GateGradIdeal.main_arg1)
      ∧ r.2.mem ((c.tc : Thread Cert.Ffn2GateGradIdeal.nD Cert.Ffn2GateGradIdeal.τ).loc Cert.Ffn2GateGradIdeal.main_arg2) = m ((c.tc : Thread Cert.Ffn2GateGradIdeal.nD Cert.Ffn2GateGradIdeal.τ).loc Cert.Ffn2GateGradIdeal.main_arg2)
      ∧ r.2.mem ((c.tc : Thread Cert.Ffn2GateGradIdeal.nD Cert.Ffn2GateGradIdeal.τ).loc Cert.Ffn2GateGradIdeal.main_arg3) = m ((c.tc : Thread Cert.Ffn2GateGradIdeal.nD Cert.Ffn2GateGradIdeal.τ).loc Cert.Ffn2GateGradIdeal.main_arg3))
      ∧ r.2.sem = fun _ => 0)

def quiescent_Ffn2GateGradRefIdeal [hFfn2GateGradRefIdeal : Cert.Ffn2GateGradRefIdeal.Facts] : Prop :=
  ∀ (m : (ℓ : Loc Cert.Ffn2GateGradRefIdeal.nD Cert.Ffn2GateGradRefIdeal.τ Cert.Ffn2GateGradRefIdeal.sig) → Buf (Elt Ideal) ℓ) (g : Dev Cert.Ffn2GateGradRefIdeal.nD → PrngReg), Pre_Ffn2GateGradRefIdeal m →
    θ_run (Cert.Ffn2GateGradRefIdeal.defs (F := Ideal)) (onTc (τ := Cert.Ffn2GateGradRefIdeal.τ) (Cert.Ffn2GateGradRefIdeal.main (F := Ideal))) ⟨m, fun _ => 0, g⟩ (fun r => (∀ c : Dev Cert.Ffn2GateGradRefIdeal.nD,
      r.2.mem ((c.tc : Thread Cert.Ffn2GateGradRefIdeal.nD Cert.Ffn2GateGradRefIdeal.τ).loc Cert.Ffn2GateGradRefIdeal.main_arg0) = m ((c.tc : Thread Cert.Ffn2GateGradRefIdeal.nD Cert.Ffn2GateGradRefIdeal.τ).loc Cert.Ffn2GateGradRefIdeal.main_arg0)
      ∧ r.2.mem ((c.tc : Thread Cert.Ffn2GateGradRefIdeal.nD Cert.Ffn2GateGradRefIdeal.τ).loc Cert.Ffn2GateGradRefIdeal.main_arg1) = m ((c.tc : Thread Cert.Ffn2GateGradRefIdeal.nD Cert.Ffn2GateGradRefIdeal.τ).loc Cert.Ffn2GateGradRefIdeal.main_arg1)
      ∧ r.2.mem ((c.tc : Thread Cert.Ffn2GateGradRefIdeal.nD Cert.Ffn2GateGradRefIdeal.τ).loc Cert.Ffn2GateGradRefIdeal.main_arg2) = m ((c.tc : Thread Cert.Ffn2GateGradRefIdeal.nD Cert.Ffn2GateGradRefIdeal.τ).loc Cert.Ffn2GateGradRefIdeal.main_arg2)
      ∧ r.2.mem ((c.tc : Thread Cert.Ffn2GateGradRefIdeal.nD Cert.Ffn2GateGradRefIdeal.τ).loc Cert.Ffn2GateGradRefIdeal.main_arg3) = m ((c.tc : Thread Cert.Ffn2GateGradRefIdeal.nD Cert.Ffn2GateGradRefIdeal.τ).loc Cert.Ffn2GateGradRefIdeal.main_arg3))
      ∧ r.2.sem = fun _ => 0)

def quiescent_Ffn1GateGrad [hFfn1GateGrad : Cert.Ffn1GateGrad.Facts] : Prop :=
  ∀ (m : (ℓ : Loc Cert.Ffn1GateGrad.nD Cert.Ffn1GateGrad.τ Cert.Ffn1GateGrad.sig) → Buf (Elt Bits) ℓ) (g : Dev Cert.Ffn1GateGrad.nD → PrngReg), Pre_Ffn1GateGrad m →
    θ_run (Cert.Ffn1GateGrad.defs (F := Bits)) (onTc (τ := Cert.Ffn1GateGrad.τ) (Cert.Ffn1GateGrad.main (F := Bits))) ⟨m, fun _ => 0, g⟩ (fun r => (∀ c : Dev Cert.Ffn1GateGrad.nD,
      r.2.mem ((c.tc : Thread Cert.Ffn1GateGrad.nD Cert.Ffn1GateGrad.τ).loc Cert.Ffn1GateGrad.main_arg0) = m ((c.tc : Thread Cert.Ffn1GateGrad.nD Cert.Ffn1GateGrad.τ).loc Cert.Ffn1GateGrad.main_arg0)
      ∧ r.2.mem ((c.tc : Thread Cert.Ffn1GateGrad.nD Cert.Ffn1GateGrad.τ).loc Cert.Ffn1GateGrad.main_arg1) = m ((c.tc : Thread Cert.Ffn1GateGrad.nD Cert.Ffn1GateGrad.τ).loc Cert.Ffn1GateGrad.main_arg1)
      ∧ r.2.mem ((c.tc : Thread Cert.Ffn1GateGrad.nD Cert.Ffn1GateGrad.τ).loc Cert.Ffn1GateGrad.main_arg2) = m ((c.tc : Thread Cert.Ffn1GateGrad.nD Cert.Ffn1GateGrad.τ).loc Cert.Ffn1GateGrad.main_arg2)
      ∧ r.2.mem ((c.tc : Thread Cert.Ffn1GateGrad.nD Cert.Ffn1GateGrad.τ).loc Cert.Ffn1GateGrad.main_arg3) = m ((c.tc : Thread Cert.Ffn1GateGrad.nD Cert.Ffn1GateGrad.τ).loc Cert.Ffn1GateGrad.main_arg3))
      ∧ r.2.sem = fun _ => 0)

def quiescent_Ffn1GateGradIdeal [hFfn1GateGradIdeal : Cert.Ffn1GateGradIdeal.Facts] : Prop :=
  ∀ (m : (ℓ : Loc Cert.Ffn1GateGradIdeal.nD Cert.Ffn1GateGradIdeal.τ Cert.Ffn1GateGradIdeal.sig) → Buf (Elt Ideal) ℓ) (g : Dev Cert.Ffn1GateGradIdeal.nD → PrngReg), Pre_Ffn1GateGradIdeal m →
    θ_run (Cert.Ffn1GateGradIdeal.defs (F := Ideal)) (onTc (τ := Cert.Ffn1GateGradIdeal.τ) (Cert.Ffn1GateGradIdeal.main (F := Ideal))) ⟨m, fun _ => 0, g⟩ (fun r => (∀ c : Dev Cert.Ffn1GateGradIdeal.nD,
      r.2.mem ((c.tc : Thread Cert.Ffn1GateGradIdeal.nD Cert.Ffn1GateGradIdeal.τ).loc Cert.Ffn1GateGradIdeal.main_arg0) = m ((c.tc : Thread Cert.Ffn1GateGradIdeal.nD Cert.Ffn1GateGradIdeal.τ).loc Cert.Ffn1GateGradIdeal.main_arg0)
      ∧ r.2.mem ((c.tc : Thread Cert.Ffn1GateGradIdeal.nD Cert.Ffn1GateGradIdeal.τ).loc Cert.Ffn1GateGradIdeal.main_arg1) = m ((c.tc : Thread Cert.Ffn1GateGradIdeal.nD Cert.Ffn1GateGradIdeal.τ).loc Cert.Ffn1GateGradIdeal.main_arg1)
      ∧ r.2.mem ((c.tc : Thread Cert.Ffn1GateGradIdeal.nD Cert.Ffn1GateGradIdeal.τ).loc Cert.Ffn1GateGradIdeal.main_arg2) = m ((c.tc : Thread Cert.Ffn1GateGradIdeal.nD Cert.Ffn1GateGradIdeal.τ).loc Cert.Ffn1GateGradIdeal.main_arg2)
      ∧ r.2.mem ((c.tc : Thread Cert.Ffn1GateGradIdeal.nD Cert.Ffn1GateGradIdeal.τ).loc Cert.Ffn1GateGradIdeal.main_arg3) = m ((c.tc : Thread Cert.Ffn1GateGradIdeal.nD Cert.Ffn1GateGradIdeal.τ).loc Cert.Ffn1GateGradIdeal.main_arg3))
      ∧ r.2.sem = fun _ => 0)

def quiescent_Ffn1GateGradRefIdeal [hFfn1GateGradRefIdeal : Cert.Ffn1GateGradRefIdeal.Facts] : Prop :=
  ∀ (m : (ℓ : Loc Cert.Ffn1GateGradRefIdeal.nD Cert.Ffn1GateGradRefIdeal.τ Cert.Ffn1GateGradRefIdeal.sig) → Buf (Elt Ideal) ℓ) (g : Dev Cert.Ffn1GateGradRefIdeal.nD → PrngReg), Pre_Ffn1GateGradRefIdeal m →
    θ_run (Cert.Ffn1GateGradRefIdeal.defs (F := Ideal)) (onTc (τ := Cert.Ffn1GateGradRefIdeal.τ) (Cert.Ffn1GateGradRefIdeal.main (F := Ideal))) ⟨m, fun _ => 0, g⟩ (fun r => (∀ c : Dev Cert.Ffn1GateGradRefIdeal.nD,
      r.2.mem ((c.tc : Thread Cert.Ffn1GateGradRefIdeal.nD Cert.Ffn1GateGradRefIdeal.τ).loc Cert.Ffn1GateGradRefIdeal.main_arg0) = m ((c.tc : Thread Cert.Ffn1GateGradRefIdeal.nD Cert.Ffn1GateGradRefIdeal.τ).loc Cert.Ffn1GateGradRefIdeal.main_arg0)
      ∧ r.2.mem ((c.tc : Thread Cert.Ffn1GateGradRefIdeal.nD Cert.Ffn1GateGradRefIdeal.τ).loc Cert.Ffn1GateGradRefIdeal.main_arg1) = m ((c.tc : Thread Cert.Ffn1GateGradRefIdeal.nD Cert.Ffn1GateGradRefIdeal.τ).loc Cert.Ffn1GateGradRefIdeal.main_arg1)
      ∧ r.2.mem ((c.tc : Thread Cert.Ffn1GateGradRefIdeal.nD Cert.Ffn1GateGradRefIdeal.τ).loc Cert.Ffn1GateGradRefIdeal.main_arg2) = m ((c.tc : Thread Cert.Ffn1GateGradRefIdeal.nD Cert.Ffn1GateGradRefIdeal.τ).loc Cert.Ffn1GateGradRefIdeal.main_arg2)
      ∧ r.2.mem ((c.tc : Thread Cert.Ffn1GateGradRefIdeal.nD Cert.Ffn1GateGradRefIdeal.τ).loc Cert.Ffn1GateGradRefIdeal.main_arg3) = m ((c.tc : Thread Cert.Ffn1GateGradRefIdeal.nD Cert.Ffn1GateGradRefIdeal.τ).loc Cert.Ffn1GateGradRefIdeal.main_arg3))
      ∧ r.2.sem = fun _ => 0)

def quiescent_Ffn2In [hFfn2In : Cert.Ffn2In.Facts] : Prop :=
  ∀ (m : (ℓ : Loc Cert.Ffn2In.nD Cert.Ffn2In.τ Cert.Ffn2In.sig) → Buf (Elt Bits) ℓ) (g : Dev Cert.Ffn2In.nD → PrngReg), Pre_Ffn2In m →
    θ_run (Cert.Ffn2In.defs (F := Bits)) (onTc (τ := Cert.Ffn2In.τ) (Cert.Ffn2In.main (F := Bits))) ⟨m, fun _ => 0, g⟩ (fun r => (∀ c : Dev Cert.Ffn2In.nD,
      r.2.mem ((c.tc : Thread Cert.Ffn2In.nD Cert.Ffn2In.τ).loc Cert.Ffn2In.main_arg0) = m ((c.tc : Thread Cert.Ffn2In.nD Cert.Ffn2In.τ).loc Cert.Ffn2In.main_arg0)
      ∧ r.2.mem ((c.tc : Thread Cert.Ffn2In.nD Cert.Ffn2In.τ).loc Cert.Ffn2In.main_arg1) = m ((c.tc : Thread Cert.Ffn2In.nD Cert.Ffn2In.τ).loc Cert.Ffn2In.main_arg1))
      ∧ r.2.sem = fun _ => 0)

def quiescent_Ffn2InIdeal [hFfn2InIdeal : Cert.Ffn2InIdeal.Facts] : Prop :=
  ∀ (m : (ℓ : Loc Cert.Ffn2InIdeal.nD Cert.Ffn2InIdeal.τ Cert.Ffn2InIdeal.sig) → Buf (Elt Ideal) ℓ) (g : Dev Cert.Ffn2InIdeal.nD → PrngReg), Pre_Ffn2InIdeal m →
    θ_run (Cert.Ffn2InIdeal.defs (F := Ideal)) (onTc (τ := Cert.Ffn2InIdeal.τ) (Cert.Ffn2InIdeal.main (F := Ideal))) ⟨m, fun _ => 0, g⟩ (fun r => (∀ c : Dev Cert.Ffn2InIdeal.nD,
      r.2.mem ((c.tc : Thread Cert.Ffn2InIdeal.nD Cert.Ffn2InIdeal.τ).loc Cert.Ffn2InIdeal.main_arg0) = m ((c.tc : Thread Cert.Ffn2InIdeal.nD Cert.Ffn2InIdeal.τ).loc Cert.Ffn2InIdeal.main_arg0)
      ∧ r.2.mem ((c.tc : Thread Cert.Ffn2InIdeal.nD Cert.Ffn2InIdeal.τ).loc Cert.Ffn2InIdeal.main_arg1) = m ((c.tc : Thread Cert.Ffn2InIdeal.nD Cert.Ffn2InIdeal.τ).loc Cert.Ffn2InIdeal.main_arg1))
      ∧ r.2.sem = fun _ => 0)

def quiescent_Ffn2InRefIdeal [hFfn2InRefIdeal : Cert.Ffn2InRefIdeal.Facts] : Prop :=
  ∀ (m : (ℓ : Loc Cert.Ffn2InRefIdeal.nD Cert.Ffn2InRefIdeal.τ Cert.Ffn2InRefIdeal.sig) → Buf (Elt Ideal) ℓ) (g : Dev Cert.Ffn2InRefIdeal.nD → PrngReg), Pre_Ffn2InRefIdeal m →
    θ_run (Cert.Ffn2InRefIdeal.defs (F := Ideal)) (onTc (τ := Cert.Ffn2InRefIdeal.τ) (Cert.Ffn2InRefIdeal.main (F := Ideal))) ⟨m, fun _ => 0, g⟩ (fun r => (∀ c : Dev Cert.Ffn2InRefIdeal.nD,
      r.2.mem ((c.tc : Thread Cert.Ffn2InRefIdeal.nD Cert.Ffn2InRefIdeal.τ).loc Cert.Ffn2InRefIdeal.main_arg0) = m ((c.tc : Thread Cert.Ffn2InRefIdeal.nD Cert.Ffn2InRefIdeal.τ).loc Cert.Ffn2InRefIdeal.main_arg0)
      ∧ r.2.mem ((c.tc : Thread Cert.Ffn2InRefIdeal.nD Cert.Ffn2InRefIdeal.τ).loc Cert.Ffn2InRefIdeal.main_arg1) = m ((c.tc : Thread Cert.Ffn2InRefIdeal.nD Cert.Ffn2InRefIdeal.τ).loc Cert.Ffn2InRefIdeal.main_arg1))
      ∧ r.2.sem = fun _ => 0)

def quiescent_Ffn1In [hFfn1In : Cert.Ffn1In.Facts] : Prop :=
  ∀ (m : (ℓ : Loc Cert.Ffn1In.nD Cert.Ffn1In.τ Cert.Ffn1In.sig) → Buf (Elt Bits) ℓ) (g : Dev Cert.Ffn1In.nD → PrngReg), Pre_Ffn1In m →
    θ_run (Cert.Ffn1In.defs (F := Bits)) (onTc (τ := Cert.Ffn1In.τ) (Cert.Ffn1In.main (F := Bits))) ⟨m, fun _ => 0, g⟩ (fun r => (∀ c : Dev Cert.Ffn1In.nD,
      r.2.mem ((c.tc : Thread Cert.Ffn1In.nD Cert.Ffn1In.τ).loc Cert.Ffn1In.main_arg0) = m ((c.tc : Thread Cert.Ffn1In.nD Cert.Ffn1In.τ).loc Cert.Ffn1In.main_arg0)
      ∧ r.2.mem ((c.tc : Thread Cert.Ffn1In.nD Cert.Ffn1In.τ).loc Cert.Ffn1In.main_arg1) = m ((c.tc : Thread Cert.Ffn1In.nD Cert.Ffn1In.τ).loc Cert.Ffn1In.main_arg1))
      ∧ r.2.sem = fun _ => 0)

def quiescent_Ffn1InIdeal [hFfn1InIdeal : Cert.Ffn1InIdeal.Facts] : Prop :=
  ∀ (m : (ℓ : Loc Cert.Ffn1InIdeal.nD Cert.Ffn1InIdeal.τ Cert.Ffn1InIdeal.sig) → Buf (Elt Ideal) ℓ) (g : Dev Cert.Ffn1InIdeal.nD → PrngReg), Pre_Ffn1InIdeal m →
    θ_run (Cert.Ffn1InIdeal.defs (F := Ideal)) (onTc (τ := Cert.Ffn1InIdeal.τ) (Cert.Ffn1InIdeal.main (F := Ideal))) ⟨m, fun _ => 0, g⟩ (fun r => (∀ c : Dev Cert.Ffn1InIdeal.nD,
      r.2.mem ((c.tc : Thread Cert.Ffn1InIdeal.nD Cert.Ffn1InIdeal.τ).loc Cert.Ffn1InIdeal.main_arg0) = m ((c.tc : Thread Cert.Ffn1InIdeal.nD Cert.Ffn1InIdeal.τ).loc Cert.Ffn1InIdeal.main_arg0)
      ∧ r.2.mem ((c.tc : Thread Cert.Ffn1InIdeal.nD Cert.Ffn1InIdeal.τ).loc Cert.Ffn1InIdeal.main_arg1) = m ((c.tc : Thread Cert.Ffn1InIdeal.nD Cert.Ffn1InIdeal.τ).loc Cert.Ffn1InIdeal.main_arg1))
      ∧ r.2.sem = fun _ => 0)

def quiescent_Ffn1InRefIdeal [hFfn1InRefIdeal : Cert.Ffn1InRefIdeal.Facts] : Prop :=
  ∀ (m : (ℓ : Loc Cert.Ffn1InRefIdeal.nD Cert.Ffn1InRefIdeal.τ Cert.Ffn1InRefIdeal.sig) → Buf (Elt Ideal) ℓ) (g : Dev Cert.Ffn1InRefIdeal.nD → PrngReg), Pre_Ffn1InRefIdeal m →
    θ_run (Cert.Ffn1InRefIdeal.defs (F := Ideal)) (onTc (τ := Cert.Ffn1InRefIdeal.τ) (Cert.Ffn1InRefIdeal.main (F := Ideal))) ⟨m, fun _ => 0, g⟩ (fun r => (∀ c : Dev Cert.Ffn1InRefIdeal.nD,
      r.2.mem ((c.tc : Thread Cert.Ffn1InRefIdeal.nD Cert.Ffn1InRefIdeal.τ).loc Cert.Ffn1InRefIdeal.main_arg0) = m ((c.tc : Thread Cert.Ffn1InRefIdeal.nD Cert.Ffn1InRefIdeal.τ).loc Cert.Ffn1InRefIdeal.main_arg0)
      ∧ r.2.mem ((c.tc : Thread Cert.Ffn1InRefIdeal.nD Cert.Ffn1InRefIdeal.τ).loc Cert.Ffn1InRefIdeal.main_arg1) = m ((c.tc : Thread Cert.Ffn1InRefIdeal.nD Cert.Ffn1InRefIdeal.τ).loc Cert.Ffn1InRefIdeal.main_arg1))
      ∧ r.2.sem = fun _ => 0)

def quiescent_MixInQ [hMixInQ : Cert.MixInQ.Facts] : Prop :=
  ∀ (m : (ℓ : Loc Cert.MixInQ.nD Cert.MixInQ.τ Cert.MixInQ.sig) → Buf (Elt Bits) ℓ) (g : Dev Cert.MixInQ.nD → PrngReg), Pre_MixInQ m →
    θ_run (Cert.MixInQ.defs (F := Bits)) (onTc (τ := Cert.MixInQ.τ) (Cert.MixInQ.main (F := Bits))) ⟨m, fun _ => 0, g⟩ (fun r => (∀ c : Dev Cert.MixInQ.nD,
      r.2.mem ((c.tc : Thread Cert.MixInQ.nD Cert.MixInQ.τ).loc Cert.MixInQ.main_arg0) = m ((c.tc : Thread Cert.MixInQ.nD Cert.MixInQ.τ).loc Cert.MixInQ.main_arg0)
      ∧ r.2.mem ((c.tc : Thread Cert.MixInQ.nD Cert.MixInQ.τ).loc Cert.MixInQ.main_arg1) = m ((c.tc : Thread Cert.MixInQ.nD Cert.MixInQ.τ).loc Cert.MixInQ.main_arg1))
      ∧ r.2.sem = fun _ => 0)

def quiescent_MixInQIdeal [hMixInQIdeal : Cert.MixInQIdeal.Facts] : Prop :=
  ∀ (m : (ℓ : Loc Cert.MixInQIdeal.nD Cert.MixInQIdeal.τ Cert.MixInQIdeal.sig) → Buf (Elt Ideal) ℓ) (g : Dev Cert.MixInQIdeal.nD → PrngReg), Pre_MixInQIdeal m →
    θ_run (Cert.MixInQIdeal.defs (F := Ideal)) (onTc (τ := Cert.MixInQIdeal.τ) (Cert.MixInQIdeal.main (F := Ideal))) ⟨m, fun _ => 0, g⟩ (fun r => (∀ c : Dev Cert.MixInQIdeal.nD,
      r.2.mem ((c.tc : Thread Cert.MixInQIdeal.nD Cert.MixInQIdeal.τ).loc Cert.MixInQIdeal.main_arg0) = m ((c.tc : Thread Cert.MixInQIdeal.nD Cert.MixInQIdeal.τ).loc Cert.MixInQIdeal.main_arg0)
      ∧ r.2.mem ((c.tc : Thread Cert.MixInQIdeal.nD Cert.MixInQIdeal.τ).loc Cert.MixInQIdeal.main_arg1) = m ((c.tc : Thread Cert.MixInQIdeal.nD Cert.MixInQIdeal.τ).loc Cert.MixInQIdeal.main_arg1))
      ∧ r.2.sem = fun _ => 0)

def quiescent_MixInQRefIdeal [hMixInQRefIdeal : Cert.MixInQRefIdeal.Facts] : Prop :=
  ∀ (m : (ℓ : Loc Cert.MixInQRefIdeal.nD Cert.MixInQRefIdeal.τ Cert.MixInQRefIdeal.sig) → Buf (Elt Ideal) ℓ) (g : Dev Cert.MixInQRefIdeal.nD → PrngReg), Pre_MixInQRefIdeal m →
    θ_run (Cert.MixInQRefIdeal.defs (F := Ideal)) (onTc (τ := Cert.MixInQRefIdeal.τ) (Cert.MixInQRefIdeal.main (F := Ideal))) ⟨m, fun _ => 0, g⟩ (fun r => (∀ c : Dev Cert.MixInQRefIdeal.nD,
      r.2.mem ((c.tc : Thread Cert.MixInQRefIdeal.nD Cert.MixInQRefIdeal.τ).loc Cert.MixInQRefIdeal.main_arg0) = m ((c.tc : Thread Cert.MixInQRefIdeal.nD Cert.MixInQRefIdeal.τ).loc Cert.MixInQRefIdeal.main_arg0)
      ∧ r.2.mem ((c.tc : Thread Cert.MixInQRefIdeal.nD Cert.MixInQRefIdeal.τ).loc Cert.MixInQRefIdeal.main_arg1) = m ((c.tc : Thread Cert.MixInQRefIdeal.nD Cert.MixInQRefIdeal.τ).loc Cert.MixInQRefIdeal.main_arg1))
      ∧ r.2.sem = fun _ => 0)

def quiescent_MixInKv [hMixInKv : Cert.MixInKv.Facts] : Prop :=
  ∀ (m : (ℓ : Loc Cert.MixInKv.nD Cert.MixInKv.τ Cert.MixInKv.sig) → Buf (Elt Bits) ℓ) (g : Dev Cert.MixInKv.nD → PrngReg), Pre_MixInKv m →
    θ_run (Cert.MixInKv.defs (F := Bits)) (onTc (τ := Cert.MixInKv.τ) (Cert.MixInKv.main (F := Bits))) ⟨m, fun _ => 0, g⟩ (fun r => (∀ c : Dev Cert.MixInKv.nD,
      r.2.mem ((c.tc : Thread Cert.MixInKv.nD Cert.MixInKv.τ).loc Cert.MixInKv.main_arg0) = m ((c.tc : Thread Cert.MixInKv.nD Cert.MixInKv.τ).loc Cert.MixInKv.main_arg0)
      ∧ r.2.mem ((c.tc : Thread Cert.MixInKv.nD Cert.MixInKv.τ).loc Cert.MixInKv.main_arg1) = m ((c.tc : Thread Cert.MixInKv.nD Cert.MixInKv.τ).loc Cert.MixInKv.main_arg1))
      ∧ r.2.sem = fun _ => 0)

def quiescent_MixInKvIdeal [hMixInKvIdeal : Cert.MixInKvIdeal.Facts] : Prop :=
  ∀ (m : (ℓ : Loc Cert.MixInKvIdeal.nD Cert.MixInKvIdeal.τ Cert.MixInKvIdeal.sig) → Buf (Elt Ideal) ℓ) (g : Dev Cert.MixInKvIdeal.nD → PrngReg), Pre_MixInKvIdeal m →
    θ_run (Cert.MixInKvIdeal.defs (F := Ideal)) (onTc (τ := Cert.MixInKvIdeal.τ) (Cert.MixInKvIdeal.main (F := Ideal))) ⟨m, fun _ => 0, g⟩ (fun r => (∀ c : Dev Cert.MixInKvIdeal.nD,
      r.2.mem ((c.tc : Thread Cert.MixInKvIdeal.nD Cert.MixInKvIdeal.τ).loc Cert.MixInKvIdeal.main_arg0) = m ((c.tc : Thread Cert.MixInKvIdeal.nD Cert.MixInKvIdeal.τ).loc Cert.MixInKvIdeal.main_arg0)
      ∧ r.2.mem ((c.tc : Thread Cert.MixInKvIdeal.nD Cert.MixInKvIdeal.τ).loc Cert.MixInKvIdeal.main_arg1) = m ((c.tc : Thread Cert.MixInKvIdeal.nD Cert.MixInKvIdeal.τ).loc Cert.MixInKvIdeal.main_arg1))
      ∧ r.2.sem = fun _ => 0)

def quiescent_MixInKvRefIdeal [hMixInKvRefIdeal : Cert.MixInKvRefIdeal.Facts] : Prop :=
  ∀ (m : (ℓ : Loc Cert.MixInKvRefIdeal.nD Cert.MixInKvRefIdeal.τ Cert.MixInKvRefIdeal.sig) → Buf (Elt Ideal) ℓ) (g : Dev Cert.MixInKvRefIdeal.nD → PrngReg), Pre_MixInKvRefIdeal m →
    θ_run (Cert.MixInKvRefIdeal.defs (F := Ideal)) (onTc (τ := Cert.MixInKvRefIdeal.τ) (Cert.MixInKvRefIdeal.main (F := Ideal))) ⟨m, fun _ => 0, g⟩ (fun r => (∀ c : Dev Cert.MixInKvRefIdeal.nD,
      r.2.mem ((c.tc : Thread Cert.MixInKvRefIdeal.nD Cert.MixInKvRefIdeal.τ).loc Cert.MixInKvRefIdeal.main_arg0) = m ((c.tc : Thread Cert.MixInKvRefIdeal.nD Cert.MixInKvRefIdeal.τ).loc Cert.MixInKvRefIdeal.main_arg0)
      ∧ r.2.mem ((c.tc : Thread Cert.MixInKvRefIdeal.nD Cert.MixInKvRefIdeal.τ).loc Cert.MixInKvRefIdeal.main_arg1) = m ((c.tc : Thread Cert.MixInKvRefIdeal.nD Cert.MixInKvRefIdeal.τ).loc Cert.MixInKvRefIdeal.main_arg1))
      ∧ r.2.sem = fun _ => 0)

def quiescent_MixInRet [hMixInRet : Cert.MixInRet.Facts] : Prop :=
  ∀ (m : (ℓ : Loc Cert.MixInRet.nD Cert.MixInRet.τ Cert.MixInRet.sig) → Buf (Elt Bits) ℓ) (g : Dev Cert.MixInRet.nD → PrngReg), Pre_MixInRet m →
    θ_run (Cert.MixInRet.defs (F := Bits)) (onTc (τ := Cert.MixInRet.τ) (Cert.MixInRet.main (F := Bits))) ⟨m, fun _ => 0, g⟩ (fun r => (∀ c : Dev Cert.MixInRet.nD,
      r.2.mem ((c.tc : Thread Cert.MixInRet.nD Cert.MixInRet.τ).loc Cert.MixInRet.main_arg0) = m ((c.tc : Thread Cert.MixInRet.nD Cert.MixInRet.τ).loc Cert.MixInRet.main_arg0)
      ∧ r.2.mem ((c.tc : Thread Cert.MixInRet.nD Cert.MixInRet.τ).loc Cert.MixInRet.main_arg1) = m ((c.tc : Thread Cert.MixInRet.nD Cert.MixInRet.τ).loc Cert.MixInRet.main_arg1))
      ∧ r.2.sem = fun _ => 0)

def quiescent_MixInRetIdeal [hMixInRetIdeal : Cert.MixInRetIdeal.Facts] : Prop :=
  ∀ (m : (ℓ : Loc Cert.MixInRetIdeal.nD Cert.MixInRetIdeal.τ Cert.MixInRetIdeal.sig) → Buf (Elt Ideal) ℓ) (g : Dev Cert.MixInRetIdeal.nD → PrngReg), Pre_MixInRetIdeal m →
    θ_run (Cert.MixInRetIdeal.defs (F := Ideal)) (onTc (τ := Cert.MixInRetIdeal.τ) (Cert.MixInRetIdeal.main (F := Ideal))) ⟨m, fun _ => 0, g⟩ (fun r => (∀ c : Dev Cert.MixInRetIdeal.nD,
      r.2.mem ((c.tc : Thread Cert.MixInRetIdeal.nD Cert.MixInRetIdeal.τ).loc Cert.MixInRetIdeal.main_arg0) = m ((c.tc : Thread Cert.MixInRetIdeal.nD Cert.MixInRetIdeal.τ).loc Cert.MixInRetIdeal.main_arg0)
      ∧ r.2.mem ((c.tc : Thread Cert.MixInRetIdeal.nD Cert.MixInRetIdeal.τ).loc Cert.MixInRetIdeal.main_arg1) = m ((c.tc : Thread Cert.MixInRetIdeal.nD Cert.MixInRetIdeal.τ).loc Cert.MixInRetIdeal.main_arg1))
      ∧ r.2.sem = fun _ => 0)

def quiescent_MixInRetRefIdeal [hMixInRetRefIdeal : Cert.MixInRetRefIdeal.Facts] : Prop :=
  ∀ (m : (ℓ : Loc Cert.MixInRetRefIdeal.nD Cert.MixInRetRefIdeal.τ Cert.MixInRetRefIdeal.sig) → Buf (Elt Ideal) ℓ) (g : Dev Cert.MixInRetRefIdeal.nD → PrngReg), Pre_MixInRetRefIdeal m →
    θ_run (Cert.MixInRetRefIdeal.defs (F := Ideal)) (onTc (τ := Cert.MixInRetRefIdeal.τ) (Cert.MixInRetRefIdeal.main (F := Ideal))) ⟨m, fun _ => 0, g⟩ (fun r => (∀ c : Dev Cert.MixInRetRefIdeal.nD,
      r.2.mem ((c.tc : Thread Cert.MixInRetRefIdeal.nD Cert.MixInRetRefIdeal.τ).loc Cert.MixInRetRefIdeal.main_arg0) = m ((c.tc : Thread Cert.MixInRetRefIdeal.nD Cert.MixInRetRefIdeal.τ).loc Cert.MixInRetRefIdeal.main_arg0)
      ∧ r.2.mem ((c.tc : Thread Cert.MixInRetRefIdeal.nD Cert.MixInRetRefIdeal.τ).loc Cert.MixInRetRefIdeal.main_arg1) = m ((c.tc : Thread Cert.MixInRetRefIdeal.nD Cert.MixInRetRefIdeal.τ).loc Cert.MixInRetRefIdeal.main_arg1))
      ∧ r.2.sem = fun _ => 0)

def quiescent_MixInGr [hMixInGr : Cert.MixInGr.Facts] : Prop :=
  ∀ (m : (ℓ : Loc Cert.MixInGr.nD Cert.MixInGr.τ Cert.MixInGr.sig) → Buf (Elt Bits) ℓ) (g : Dev Cert.MixInGr.nD → PrngReg), Pre_MixInGr m →
    θ_run (Cert.MixInGr.defs (F := Bits)) (onTc (τ := Cert.MixInGr.τ) (Cert.MixInGr.main (F := Bits))) ⟨m, fun _ => 0, g⟩ (fun r => (∀ c : Dev Cert.MixInGr.nD,
      r.2.mem ((c.tc : Thread Cert.MixInGr.nD Cert.MixInGr.τ).loc Cert.MixInGr.main_arg0) = m ((c.tc : Thread Cert.MixInGr.nD Cert.MixInGr.τ).loc Cert.MixInGr.main_arg0)
      ∧ r.2.mem ((c.tc : Thread Cert.MixInGr.nD Cert.MixInGr.τ).loc Cert.MixInGr.main_arg1) = m ((c.tc : Thread Cert.MixInGr.nD Cert.MixInGr.τ).loc Cert.MixInGr.main_arg1))
      ∧ r.2.sem = fun _ => 0)

def quiescent_MixInGrIdeal [hMixInGrIdeal : Cert.MixInGrIdeal.Facts] : Prop :=
  ∀ (m : (ℓ : Loc Cert.MixInGrIdeal.nD Cert.MixInGrIdeal.τ Cert.MixInGrIdeal.sig) → Buf (Elt Ideal) ℓ) (g : Dev Cert.MixInGrIdeal.nD → PrngReg), Pre_MixInGrIdeal m →
    θ_run (Cert.MixInGrIdeal.defs (F := Ideal)) (onTc (τ := Cert.MixInGrIdeal.τ) (Cert.MixInGrIdeal.main (F := Ideal))) ⟨m, fun _ => 0, g⟩ (fun r => (∀ c : Dev Cert.MixInGrIdeal.nD,
      r.2.mem ((c.tc : Thread Cert.MixInGrIdeal.nD Cert.MixInGrIdeal.τ).loc Cert.MixInGrIdeal.main_arg0) = m ((c.tc : Thread Cert.MixInGrIdeal.nD Cert.MixInGrIdeal.τ).loc Cert.MixInGrIdeal.main_arg0)
      ∧ r.2.mem ((c.tc : Thread Cert.MixInGrIdeal.nD Cert.MixInGrIdeal.τ).loc Cert.MixInGrIdeal.main_arg1) = m ((c.tc : Thread Cert.MixInGrIdeal.nD Cert.MixInGrIdeal.τ).loc Cert.MixInGrIdeal.main_arg1))
      ∧ r.2.sem = fun _ => 0)

def quiescent_MixInGrRefIdeal [hMixInGrRefIdeal : Cert.MixInGrRefIdeal.Facts] : Prop :=
  ∀ (m : (ℓ : Loc Cert.MixInGrRefIdeal.nD Cert.MixInGrRefIdeal.τ Cert.MixInGrRefIdeal.sig) → Buf (Elt Ideal) ℓ) (g : Dev Cert.MixInGrRefIdeal.nD → PrngReg), Pre_MixInGrRefIdeal m →
    θ_run (Cert.MixInGrRefIdeal.defs (F := Ideal)) (onTc (τ := Cert.MixInGrRefIdeal.τ) (Cert.MixInGrRefIdeal.main (F := Ideal))) ⟨m, fun _ => 0, g⟩ (fun r => (∀ c : Dev Cert.MixInGrRefIdeal.nD,
      r.2.mem ((c.tc : Thread Cert.MixInGrRefIdeal.nD Cert.MixInGrRefIdeal.τ).loc Cert.MixInGrRefIdeal.main_arg0) = m ((c.tc : Thread Cert.MixInGrRefIdeal.nD Cert.MixInGrRefIdeal.τ).loc Cert.MixInGrRefIdeal.main_arg0)
      ∧ r.2.mem ((c.tc : Thread Cert.MixInGrRefIdeal.nD Cert.MixInGrRefIdeal.τ).loc Cert.MixInGrRefIdeal.main_arg1) = m ((c.tc : Thread Cert.MixInGrRefIdeal.nD Cert.MixInGrRefIdeal.τ).loc Cert.MixInGrRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_MergeGrad [hMergeGrad : Cert.MergeGrad.Facts] : Prop :=
  ∀ (m : (ℓ : Loc Cert.MergeGrad.nD Cert.MergeGrad.τ Cert.MergeGrad.sig) → Buf (Elt Bits) ℓ) (g : Dev Cert.MergeGrad.nD → PrngReg), Pre_MergeGrad m →
    θ_run (Cert.MergeGrad.defs (F := Bits)) (onTc (τ := Cert.MergeGrad.τ) (Cert.MergeGrad.main (F := Bits))) ⟨m, fun _ => 0, g⟩ (fun r => (∀ c : Dev Cert.MergeGrad.nD,
      r.2.mem ((c.tc : Thread Cert.MergeGrad.nD Cert.MergeGrad.τ).loc Cert.MergeGrad.main_arg0) = m ((c.tc : Thread Cert.MergeGrad.nD Cert.MergeGrad.τ).loc Cert.MergeGrad.main_arg0)
      ∧ r.2.mem ((c.tc : Thread Cert.MergeGrad.nD Cert.MergeGrad.τ).loc Cert.MergeGrad.main_arg1) = m ((c.tc : Thread Cert.MergeGrad.nD Cert.MergeGrad.τ).loc Cert.MergeGrad.main_arg1)
      ∧ r.2.mem ((c.tc : Thread Cert.MergeGrad.nD Cert.MergeGrad.τ).loc Cert.MergeGrad.main_arg2) = m ((c.tc : Thread Cert.MergeGrad.nD Cert.MergeGrad.τ).loc Cert.MergeGrad.main_arg2)
      ∧ r.2.mem ((c.tc : Thread Cert.MergeGrad.nD Cert.MergeGrad.τ).loc Cert.MergeGrad.main_arg3) = m ((c.tc : Thread Cert.MergeGrad.nD Cert.MergeGrad.τ).loc Cert.MergeGrad.main_arg3))
      ∧ r.2.sem = fun _ => 0)

def quiescent_MergeGradIdeal [hMergeGradIdeal : Cert.MergeGradIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg), Pre_MergeGradIdeal m →
    θ_run (Cert.MergeGradIdeal.defs (F := Ideal)) (onTc (τ := Cert.MergeGradIdeal.τ) (Cert.MergeGradIdeal.main (F := Ideal))) ⟨m, fun _ => 0, g⟩ (fun r => (∀ c : Dev Cert.MergeGradIdeal.nD,
      r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
      ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
      ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
      ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3))
      ∧ r.2.sem = fun _ => 0)

def quiescent_MergeGradRefIdeal [hMergeGradRefIdeal : Cert.MergeGradRefIdeal.Facts] : Prop :=
  ∀ (m : (ℓ : Loc Cert.MergeGradRefIdeal.nD Cert.MergeGradRefIdeal.τ Cert.MergeGradRefIdeal.sig) → Buf (Elt Ideal) ℓ) (g : Dev Cert.MergeGradRefIdeal.nD → PrngReg), Pre_MergeGradRefIdeal m →
    θ_run (Cert.MergeGradRefIdeal.defs (F := Ideal)) (onTc (τ := Cert.MergeGradRefIdeal.τ) (Cert.MergeGradRefIdeal.main (F := Ideal))) ⟨m, fun _ => 0, g⟩ (fun r => (∀ c : Dev Cert.MergeGradRefIdeal.nD,
      r.2.mem ((c.tc : Thread Cert.MergeGradRefIdeal.nD Cert.MergeGradRefIdeal.τ).loc Cert.MergeGradRefIdeal.main_arg0) = m ((c.tc : Thread Cert.MergeGradRefIdeal.nD Cert.MergeGradRefIdeal.τ).loc Cert.MergeGradRefIdeal.main_arg0)
      ∧ r.2.mem ((c.tc : Thread Cert.MergeGradRefIdeal.nD Cert.MergeGradRefIdeal.τ).loc Cert.MergeGradRefIdeal.main_arg1) = m ((c.tc : Thread Cert.MergeGradRefIdeal.nD Cert.MergeGradRefIdeal.τ).loc Cert.MergeGradRefIdeal.main_arg1)
      ∧ r.2.mem ((c.tc : Thread Cert.MergeGradRefIdeal.nD Cert.MergeGradRefIdeal.τ).loc Cert.MergeGradRefIdeal.main_arg2) = m ((c.tc : Thread Cert.MergeGradRefIdeal.nD Cert.MergeGradRefIdeal.τ).loc Cert.MergeGradRefIdeal.main_arg2)
      ∧ r.2.mem ((c.tc : Thread Cert.MergeGradRefIdeal.nD Cert.MergeGradRefIdeal.τ).loc Cert.MergeGradRefIdeal.main_arg3) = m ((c.tc : Thread Cert.MergeGradRefIdeal.nD Cert.MergeGradRefIdeal.τ).loc Cert.MergeGradRefIdeal.main_arg3))
      ∧ r.2.sem = fun _ => 0)

def quiescent_RetSum [hRetSum : Cert.RetSum.Facts] : Prop :=
  ∀ (m : (ℓ : Loc Cert.RetSum.nD Cert.RetSum.τ Cert.RetSum.sig) → Buf (Elt Bits) ℓ) (g : Dev Cert.RetSum.nD → PrngReg), Pre_RetSum m →
    θ_run (Cert.RetSum.defs (F := Bits)) (onTc (τ := Cert.RetSum.τ) (Cert.RetSum.main (F := Bits))) ⟨m, fun _ => 0, g⟩ (fun r => (∀ c : Dev Cert.RetSum.nD,
      r.2.mem ((c.tc : Thread Cert.RetSum.nD Cert.RetSum.τ).loc Cert.RetSum.main_arg0) = m ((c.tc : Thread Cert.RetSum.nD Cert.RetSum.τ).loc Cert.RetSum.main_arg0)
      ∧ r.2.mem ((c.tc : Thread Cert.RetSum.nD Cert.RetSum.τ).loc Cert.RetSum.main_arg1) = m ((c.tc : Thread Cert.RetSum.nD Cert.RetSum.τ).loc Cert.RetSum.main_arg1))
      ∧ r.2.sem = fun _ => 0)

def quiescent_RetSumIdeal [hRetSumIdeal : Cert.RetSumIdeal.Facts] : Prop :=
  ∀ (m : (ℓ : Loc Cert.RetSumIdeal.nD Cert.RetSumIdeal.τ Cert.RetSumIdeal.sig) → Buf (Elt Ideal) ℓ) (g : Dev Cert.RetSumIdeal.nD → PrngReg), Pre_RetSumIdeal m →
    θ_run (Cert.RetSumIdeal.defs (F := Ideal)) (onTc (τ := Cert.RetSumIdeal.τ) (Cert.RetSumIdeal.main (F := Ideal))) ⟨m, fun _ => 0, g⟩ (fun r => (∀ c : Dev Cert.RetSumIdeal.nD,
      r.2.mem ((c.tc : Thread Cert.RetSumIdeal.nD Cert.RetSumIdeal.τ).loc Cert.RetSumIdeal.main_arg0) = m ((c.tc : Thread Cert.RetSumIdeal.nD Cert.RetSumIdeal.τ).loc Cert.RetSumIdeal.main_arg0)
      ∧ r.2.mem ((c.tc : Thread Cert.RetSumIdeal.nD Cert.RetSumIdeal.τ).loc Cert.RetSumIdeal.main_arg1) = m ((c.tc : Thread Cert.RetSumIdeal.nD Cert.RetSumIdeal.τ).loc Cert.RetSumIdeal.main_arg1))
      ∧ r.2.sem = fun _ => 0)

def quiescent_RetSumRefIdeal [hRetSumRefIdeal : Cert.RetSumRefIdeal.Facts] : Prop :=
  ∀ (m : (ℓ : Loc Cert.RetSumRefIdeal.nD Cert.RetSumRefIdeal.τ Cert.RetSumRefIdeal.sig) → Buf (Elt Ideal) ℓ) (g : Dev Cert.RetSumRefIdeal.nD → PrngReg), Pre_RetSumRefIdeal m →
    θ_run (Cert.RetSumRefIdeal.defs (F := Ideal)) (onTc (τ := Cert.RetSumRefIdeal.τ) (Cert.RetSumRefIdeal.main (F := Ideal))) ⟨m, fun _ => 0, g⟩ (fun r => (∀ c : Dev Cert.RetSumRefIdeal.nD,
      r.2.mem ((c.tc : Thread Cert.RetSumRefIdeal.nD Cert.RetSumRefIdeal.τ).loc Cert.RetSumRefIdeal.main_arg0) = m ((c.tc : Thread Cert.RetSumRefIdeal.nD Cert.RetSumRefIdeal.τ).loc Cert.RetSumRefIdeal.main_arg0)
      ∧ r.2.mem ((c.tc : Thread Cert.RetSumRefIdeal.nD Cert.RetSumRefIdeal.τ).loc Cert.RetSumRefIdeal.main_arg1) = m ((c.tc : Thread Cert.RetSumRefIdeal.nD Cert.RetSumRefIdeal.τ).loc Cert.RetSumRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamMixIn [hAdamMixIn : Cert.AdamMixIn.Facts] : Prop :=
  ∀ (m : (ℓ : Loc Cert.AdamMixIn.nD Cert.AdamMixIn.τ Cert.AdamMixIn.sig) → Buf (Elt Bits) ℓ) (g : Dev Cert.AdamMixIn.nD → PrngReg), Pre_AdamMixIn m →
    θ_run (Cert.AdamMixIn.defs (F := Bits)) (onTc (τ := Cert.AdamMixIn.τ) (Cert.AdamMixIn.main (F := Bits))) ⟨m, fun _ => 0, g⟩ (fun r => (∀ c : Dev Cert.AdamMixIn.nD,
      r.2.mem ((c.tc : Thread Cert.AdamMixIn.nD Cert.AdamMixIn.τ).loc Cert.AdamMixIn.main_arg0) = m ((c.tc : Thread Cert.AdamMixIn.nD Cert.AdamMixIn.τ).loc Cert.AdamMixIn.main_arg0)
      ∧ r.2.mem ((c.tc : Thread Cert.AdamMixIn.nD Cert.AdamMixIn.τ).loc Cert.AdamMixIn.main_arg1) = m ((c.tc : Thread Cert.AdamMixIn.nD Cert.AdamMixIn.τ).loc Cert.AdamMixIn.main_arg1)
      ∧ r.2.mem ((c.tc : Thread Cert.AdamMixIn.nD Cert.AdamMixIn.τ).loc Cert.AdamMixIn.main_arg2) = m ((c.tc : Thread Cert.AdamMixIn.nD Cert.AdamMixIn.τ).loc Cert.AdamMixIn.main_arg2)
      ∧ r.2.mem ((c.tc : Thread Cert.AdamMixIn.nD Cert.AdamMixIn.τ).loc Cert.AdamMixIn.main_arg3) = m ((c.tc : Thread Cert.AdamMixIn.nD Cert.AdamMixIn.τ).loc Cert.AdamMixIn.main_arg3))
      ∧ r.2.sem = fun _ => 0)

def quiescent_AdamMixInIdeal [hAdamMixInIdeal : Cert.AdamMixInIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg), Pre_AdamMixInIdeal m →
    θ_run (Cert.AdamMixInIdeal.defs (F := Ideal)) (onTc (τ := Cert.AdamMixInIdeal.τ) (Cert.AdamMixInIdeal.main (F := Ideal))) ⟨m, fun _ => 0, g⟩ (fun r => (∀ c : Dev Cert.AdamMixInIdeal.nD,
      r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
      ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
      ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
      ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ r.2.sem = fun _ => 0)

def quiescent_AdamMixInRefIdeal [hAdamMixInRefIdeal : Cert.AdamMixInRefIdeal.Facts] : Prop :=
  ∀ (m : (ℓ : Loc Cert.AdamMixInRefIdeal.nD Cert.AdamMixInRefIdeal.τ Cert.AdamMixInRefIdeal.sig) → Buf (Elt Ideal) ℓ) (g : Dev Cert.AdamMixInRefIdeal.nD → PrngReg), Pre_AdamMixInRefIdeal m →
    θ_run (Cert.AdamMixInRefIdeal.defs (F := Ideal)) (onTc (τ := Cert.AdamMixInRefIdeal.τ) (Cert.AdamMixInRefIdeal.main (F := Ideal))) ⟨m, fun _ => 0, g⟩ (fun r => (∀ c : Dev Cert.AdamMixInRefIdeal.nD,
      r.2.mem ((c.tc : Thread Cert.AdamMixInRefIdeal.nD Cert.AdamMixInRefIdeal.τ).loc Cert.AdamMixInRefIdeal.main_arg0) = m ((c.tc : Thread Cert.AdamMixInRefIdeal.nD Cert.AdamMixInRefIdeal.τ).loc Cert.AdamMixInRefIdeal.main_arg0)
      ∧ r.2.mem ((c.tc : Thread Cert.AdamMixInRefIdeal.nD Cert.AdamMixInRefIdeal.τ).loc Cert.AdamMixInRefIdeal.main_arg1) = m ((c.tc : Thread Cert.AdamMixInRefIdeal.nD Cert.AdamMixInRefIdeal.τ).loc Cert.AdamMixInRefIdeal.main_arg1)
      ∧ r.2.mem ((c.tc : Thread Cert.AdamMixInRefIdeal.nD Cert.AdamMixInRefIdeal.τ).loc Cert.AdamMixInRefIdeal.main_arg2) = m ((c.tc : Thread Cert.AdamMixInRefIdeal.nD Cert.AdamMixInRefIdeal.τ).loc Cert.AdamMixInRefIdeal.main_arg2)
      ∧ r.2.mem ((c.tc : Thread Cert.AdamMixInRefIdeal.nD Cert.AdamMixInRefIdeal.τ).loc Cert.AdamMixInRefIdeal.main_arg3) = m ((c.tc : Thread Cert.AdamMixInRefIdeal.nD Cert.AdamMixInRefIdeal.τ).loc Cert.AdamMixInRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamMixOut [hAdamMixOut : Cert.AdamMixOut.Facts] : Prop :=
  ∀ (m : (ℓ : Loc Cert.AdamMixOut.nD Cert.AdamMixOut.τ Cert.AdamMixOut.sig) → Buf (Elt Bits) ℓ) (g : Dev Cert.AdamMixOut.nD → PrngReg), Pre_AdamMixOut m →
    θ_run (Cert.AdamMixOut.defs (F := Bits)) (onTc (τ := Cert.AdamMixOut.τ) (Cert.AdamMixOut.main (F := Bits))) ⟨m, fun _ => 0, g⟩ (fun r => (∀ c : Dev Cert.AdamMixOut.nD,
      r.2.mem ((c.tc : Thread Cert.AdamMixOut.nD Cert.AdamMixOut.τ).loc Cert.AdamMixOut.main_arg0) = m ((c.tc : Thread Cert.AdamMixOut.nD Cert.AdamMixOut.τ).loc Cert.AdamMixOut.main_arg0)
      ∧ r.2.mem ((c.tc : Thread Cert.AdamMixOut.nD Cert.AdamMixOut.τ).loc Cert.AdamMixOut.main_arg1) = m ((c.tc : Thread Cert.AdamMixOut.nD Cert.AdamMixOut.τ).loc Cert.AdamMixOut.main_arg1)
      ∧ r.2.mem ((c.tc : Thread Cert.AdamMixOut.nD Cert.AdamMixOut.τ).loc Cert.AdamMixOut.main_arg2) = m ((c.tc : Thread Cert.AdamMixOut.nD Cert.AdamMixOut.τ).loc Cert.AdamMixOut.main_arg2)
      ∧ r.2.mem ((c.tc : Thread Cert.AdamMixOut.nD Cert.AdamMixOut.τ).loc Cert.AdamMixOut.main_arg3) = m ((c.tc : Thread Cert.AdamMixOut.nD Cert.AdamMixOut.τ).loc Cert.AdamMixOut.main_arg3))
      ∧ r.2.sem = fun _ => 0)

def quiescent_AdamMixOutIdeal [hAdamMixOutIdeal : Cert.AdamMixOutIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg), Pre_AdamMixOutIdeal m →
    θ_run (Cert.AdamMixOutIdeal.defs (F := Ideal)) (onTc (τ := Cert.AdamMixOutIdeal.τ) (Cert.AdamMixOutIdeal.main (F := Ideal))) ⟨m, fun _ => 0, g⟩ (fun r => (∀ c : Dev Cert.AdamMixOutIdeal.nD,
      r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
      ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
      ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
      ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3))
      ∧ r.2.sem = fun _ => 0)

def quiescent_AdamMixOutRefIdeal [hAdamMixOutRefIdeal : Cert.AdamMixOutRefIdeal.Facts] : Prop :=
  ∀ (m : (ℓ : Loc Cert.AdamMixOutRefIdeal.nD Cert.AdamMixOutRefIdeal.τ Cert.AdamMixOutRefIdeal.sig) → Buf (Elt Ideal) ℓ) (g : Dev Cert.AdamMixOutRefIdeal.nD → PrngReg), Pre_AdamMixOutRefIdeal m →
    θ_run (Cert.AdamMixOutRefIdeal.defs (F := Ideal)) (onTc (τ := Cert.AdamMixOutRefIdeal.τ) (Cert.AdamMixOutRefIdeal.main (F := Ideal))) ⟨m, fun _ => 0, g⟩ (fun r => (∀ c : Dev Cert.AdamMixOutRefIdeal.nD,
      r.2.mem ((c.tc : Thread Cert.AdamMixOutRefIdeal.nD Cert.AdamMixOutRefIdeal.τ).loc Cert.AdamMixOutRefIdeal.main_arg0) = m ((c.tc : Thread Cert.AdamMixOutRefIdeal.nD Cert.AdamMixOutRefIdeal.τ).loc Cert.AdamMixOutRefIdeal.main_arg0)
      ∧ r.2.mem ((c.tc : Thread Cert.AdamMixOutRefIdeal.nD Cert.AdamMixOutRefIdeal.τ).loc Cert.AdamMixOutRefIdeal.main_arg1) = m ((c.tc : Thread Cert.AdamMixOutRefIdeal.nD Cert.AdamMixOutRefIdeal.τ).loc Cert.AdamMixOutRefIdeal.main_arg1)
      ∧ r.2.mem ((c.tc : Thread Cert.AdamMixOutRefIdeal.nD Cert.AdamMixOutRefIdeal.τ).loc Cert.AdamMixOutRefIdeal.main_arg2) = m ((c.tc : Thread Cert.AdamMixOutRefIdeal.nD Cert.AdamMixOutRefIdeal.τ).loc Cert.AdamMixOutRefIdeal.main_arg2)
      ∧ r.2.mem ((c.tc : Thread Cert.AdamMixOutRefIdeal.nD Cert.AdamMixOutRefIdeal.τ).loc Cert.AdamMixOutRefIdeal.main_arg3) = m ((c.tc : Thread Cert.AdamMixOutRefIdeal.nD Cert.AdamMixOutRefIdeal.τ).loc Cert.AdamMixOutRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3))
      ∧ r.2.sem = fun _ => 0)

def quiescent_AdamVector [hAdamVector : Cert.AdamVector.Facts] : Prop :=
  ∀ (m : (ℓ : Loc Cert.AdamVector.nD Cert.AdamVector.τ Cert.AdamVector.sig) → Buf (Elt Bits) ℓ) (g : Dev Cert.AdamVector.nD → PrngReg), Pre_AdamVector m →
    θ_run (Cert.AdamVector.defs (F := Bits)) (onTc (τ := Cert.AdamVector.τ) (Cert.AdamVector.main (F := Bits))) ⟨m, fun _ => 0, g⟩ (fun r => (∀ c : Dev Cert.AdamVector.nD,
      r.2.mem ((c.tc : Thread Cert.AdamVector.nD Cert.AdamVector.τ).loc Cert.AdamVector.main_arg0) = m ((c.tc : Thread Cert.AdamVector.nD Cert.AdamVector.τ).loc Cert.AdamVector.main_arg0)
      ∧ r.2.mem ((c.tc : Thread Cert.AdamVector.nD Cert.AdamVector.τ).loc Cert.AdamVector.main_arg1) = m ((c.tc : Thread Cert.AdamVector.nD Cert.AdamVector.τ).loc Cert.AdamVector.main_arg1)
      ∧ r.2.mem ((c.tc : Thread Cert.AdamVector.nD Cert.AdamVector.τ).loc Cert.AdamVector.main_arg2) = m ((c.tc : Thread Cert.AdamVector.nD Cert.AdamVector.τ).loc Cert.AdamVector.main_arg2)
      ∧ r.2.mem ((c.tc : Thread Cert.AdamVector.nD Cert.AdamVector.τ).loc Cert.AdamVector.main_arg3) = m ((c.tc : Thread Cert.AdamVector.nD Cert.AdamVector.τ).loc Cert.AdamVector.main_arg3))
      ∧ r.2.sem = fun _ => 0)

def quiescent_AdamVectorIdeal [hAdamVectorIdeal : Cert.AdamVectorIdeal.Facts] : Prop :=
  ∀ (m : (ℓ : Loc Cert.AdamVectorIdeal.nD Cert.AdamVectorIdeal.τ Cert.AdamVectorIdeal.sig) → Buf (Elt Ideal) ℓ) (g : Dev Cert.AdamVectorIdeal.nD → PrngReg), Pre_AdamVectorIdeal m →
    θ_run (Cert.AdamVectorIdeal.defs (F := Ideal)) (onTc (τ := Cert.AdamVectorIdeal.τ) (Cert.AdamVectorIdeal.main (F := Ideal))) ⟨m, fun _ => 0, g⟩ (fun r => (∀ c : Dev Cert.AdamVectorIdeal.nD,
      r.2.mem ((c.tc : Thread Cert.AdamVectorIdeal.nD Cert.AdamVectorIdeal.τ).loc Cert.AdamVectorIdeal.main_arg0) = m ((c.tc : Thread Cert.AdamVectorIdeal.nD Cert.AdamVectorIdeal.τ).loc Cert.AdamVectorIdeal.main_arg0)
      ∧ r.2.mem ((c.tc : Thread Cert.AdamVectorIdeal.nD Cert.AdamVectorIdeal.τ).loc Cert.AdamVectorIdeal.main_arg1) = m ((c.tc : Thread Cert.AdamVectorIdeal.nD Cert.AdamVectorIdeal.τ).loc Cert.AdamVectorIdeal.main_arg1)
      ∧ r.2.mem ((c.tc : Thread Cert.AdamVectorIdeal.nD Cert.AdamVectorIdeal.τ).loc Cert.AdamVectorIdeal.main_arg2) = m ((c.tc : Thread Cert.AdamVectorIdeal.nD Cert.AdamVectorIdeal.τ).loc Cert.AdamVectorIdeal.main_arg2)
      ∧ r.2.mem ((c.tc : Thread Cert.AdamVectorIdeal.nD Cert.AdamVectorIdeal.τ).loc Cert.AdamVectorIdeal.main_arg3) = m ((c.tc : Thread Cert.AdamVectorIdeal.nD Cert.AdamVectorIdeal.τ).loc Cert.AdamVectorIdeal.main_arg3))
      ∧ r.2.sem = fun _ => 0)

def quiescent_AdamVectorRefIdeal [hAdamVectorRefIdeal : Cert.AdamVectorRefIdeal.Facts] : Prop :=
  ∀ (m : (ℓ : Loc Cert.AdamVectorRefIdeal.nD Cert.AdamVectorRefIdeal.τ Cert.AdamVectorRefIdeal.sig) → Buf (Elt Ideal) ℓ) (g : Dev Cert.AdamVectorRefIdeal.nD → PrngReg), Pre_AdamVectorRefIdeal m →
    θ_run (Cert.AdamVectorRefIdeal.defs (F := Ideal)) (onTc (τ := Cert.AdamVectorRefIdeal.τ) (Cert.AdamVectorRefIdeal.main (F := Ideal))) ⟨m, fun _ => 0, g⟩ (fun r => (∀ c : Dev Cert.AdamVectorRefIdeal.nD,
      r.2.mem ((c.tc : Thread Cert.AdamVectorRefIdeal.nD Cert.AdamVectorRefIdeal.τ).loc Cert.AdamVectorRefIdeal.main_arg0) = m ((c.tc : Thread Cert.AdamVectorRefIdeal.nD Cert.AdamVectorRefIdeal.τ).loc Cert.AdamVectorRefIdeal.main_arg0)
      ∧ r.2.mem ((c.tc : Thread Cert.AdamVectorRefIdeal.nD Cert.AdamVectorRefIdeal.τ).loc Cert.AdamVectorRefIdeal.main_arg1) = m ((c.tc : Thread Cert.AdamVectorRefIdeal.nD Cert.AdamVectorRefIdeal.τ).loc Cert.AdamVectorRefIdeal.main_arg1)
      ∧ r.2.mem ((c.tc : Thread Cert.AdamVectorRefIdeal.nD Cert.AdamVectorRefIdeal.τ).loc Cert.AdamVectorRefIdeal.main_arg2) = m ((c.tc : Thread Cert.AdamVectorRefIdeal.nD Cert.AdamVectorRefIdeal.τ).loc Cert.AdamVectorRefIdeal.main_arg2)
      ∧ r.2.mem ((c.tc : Thread Cert.AdamVectorRefIdeal.nD Cert.AdamVectorRefIdeal.τ).loc Cert.AdamVectorRefIdeal.main_arg3) = m ((c.tc : Thread Cert.AdamVectorRefIdeal.nD Cert.AdamVectorRefIdeal.τ).loc Cert.AdamVectorRefIdeal.main_arg3))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3))
      ∧ r.2.sem = fun _ => 0)

def quiescent_AdamDecay [hAdamDecay : Cert.AdamDecay.Facts] : Prop :=
  ∀ (m : (ℓ : Loc Cert.AdamDecay.nD Cert.AdamDecay.τ Cert.AdamDecay.sig) → Buf (Elt Bits) ℓ) (g : Dev Cert.AdamDecay.nD → PrngReg), Pre_AdamDecay m →
    θ_run (Cert.AdamDecay.defs (F := Bits)) (onTc (τ := Cert.AdamDecay.τ) (Cert.AdamDecay.main (F := Bits))) ⟨m, fun _ => 0, g⟩ (fun r => (∀ c : Dev Cert.AdamDecay.nD,
      r.2.mem ((c.tc : Thread Cert.AdamDecay.nD Cert.AdamDecay.τ).loc Cert.AdamDecay.main_arg0) = m ((c.tc : Thread Cert.AdamDecay.nD Cert.AdamDecay.τ).loc Cert.AdamDecay.main_arg0)
      ∧ r.2.mem ((c.tc : Thread Cert.AdamDecay.nD Cert.AdamDecay.τ).loc Cert.AdamDecay.main_arg1) = m ((c.tc : Thread Cert.AdamDecay.nD Cert.AdamDecay.τ).loc Cert.AdamDecay.main_arg1)
      ∧ r.2.mem ((c.tc : Thread Cert.AdamDecay.nD Cert.AdamDecay.τ).loc Cert.AdamDecay.main_arg2) = m ((c.tc : Thread Cert.AdamDecay.nD Cert.AdamDecay.τ).loc Cert.AdamDecay.main_arg2)
      ∧ r.2.mem ((c.tc : Thread Cert.AdamDecay.nD Cert.AdamDecay.τ).loc Cert.AdamDecay.main_arg3) = m ((c.tc : Thread Cert.AdamDecay.nD Cert.AdamDecay.τ).loc Cert.AdamDecay.main_arg3))
      ∧ r.2.sem = fun _ => 0)

def quiescent_AdamDecayIdeal [hAdamDecayIdeal : Cert.AdamDecayIdeal.Facts] : Prop :=
  ∀ (m : (ℓ : Loc Cert.AdamDecayIdeal.nD Cert.AdamDecayIdeal.τ Cert.AdamDecayIdeal.sig) → Buf (Elt Ideal) ℓ) (g : Dev Cert.AdamDecayIdeal.nD → PrngReg), Pre_AdamDecayIdeal m →
    θ_run (Cert.AdamDecayIdeal.defs (F := Ideal)) (onTc (τ := Cert.AdamDecayIdeal.τ) (Cert.AdamDecayIdeal.main (F := Ideal))) ⟨m, fun _ => 0, g⟩ (fun r => (∀ c : Dev Cert.AdamDecayIdeal.nD,
      r.2.mem ((c.tc : Thread Cert.AdamDecayIdeal.nD Cert.AdamDecayIdeal.τ).loc Cert.AdamDecayIdeal.main_arg0) = m ((c.tc : Thread Cert.AdamDecayIdeal.nD Cert.AdamDecayIdeal.τ).loc Cert.AdamDecayIdeal.main_arg0)
      ∧ r.2.mem ((c.tc : Thread Cert.AdamDecayIdeal.nD Cert.AdamDecayIdeal.τ).loc Cert.AdamDecayIdeal.main_arg1) = m ((c.tc : Thread Cert.AdamDecayIdeal.nD Cert.AdamDecayIdeal.τ).loc Cert.AdamDecayIdeal.main_arg1)
      ∧ r.2.mem ((c.tc : Thread Cert.AdamDecayIdeal.nD Cert.AdamDecayIdeal.τ).loc Cert.AdamDecayIdeal.main_arg2) = m ((c.tc : Thread Cert.AdamDecayIdeal.nD Cert.AdamDecayIdeal.τ).loc Cert.AdamDecayIdeal.main_arg2)
      ∧ r.2.mem ((c.tc : Thread Cert.AdamDecayIdeal.nD Cert.AdamDecayIdeal.τ).loc Cert.AdamDecayIdeal.main_arg3) = m ((c.tc : Thread Cert.AdamDecayIdeal.nD Cert.AdamDecayIdeal.τ).loc Cert.AdamDecayIdeal.main_arg3))
      ∧ r.2.sem = fun _ => 0)

def quiescent_AdamDecayRefIdeal [hAdamDecayRefIdeal : Cert.AdamDecayRefIdeal.Facts] : Prop :=
  ∀ (m : (ℓ : Loc Cert.AdamDecayRefIdeal.nD Cert.AdamDecayRefIdeal.τ Cert.AdamDecayRefIdeal.sig) → Buf (Elt Ideal) ℓ) (g : Dev Cert.AdamDecayRefIdeal.nD → PrngReg), Pre_AdamDecayRefIdeal m →
    θ_run (Cert.AdamDecayRefIdeal.defs (F := Ideal)) (onTc (τ := Cert.AdamDecayRefIdeal.τ) (Cert.AdamDecayRefIdeal.main (F := Ideal))) ⟨m, fun _ => 0, g⟩ (fun r => (∀ c : Dev Cert.AdamDecayRefIdeal.nD,
      r.2.mem ((c.tc : Thread Cert.AdamDecayRefIdeal.nD Cert.AdamDecayRefIdeal.τ).loc Cert.AdamDecayRefIdeal.main_arg0) = m ((c.tc : Thread Cert.AdamDecayRefIdeal.nD Cert.AdamDecayRefIdeal.τ).loc Cert.AdamDecayRefIdeal.main_arg0)
      ∧ r.2.mem ((c.tc : Thread Cert.AdamDecayRefIdeal.nD Cert.AdamDecayRefIdeal.τ).loc Cert.AdamDecayRefIdeal.main_arg1) = m ((c.tc : Thread Cert.AdamDecayRefIdeal.nD Cert.AdamDecayRefIdeal.τ).loc Cert.AdamDecayRefIdeal.main_arg1)
      ∧ r.2.mem ((c.tc : Thread Cert.AdamDecayRefIdeal.nD Cert.AdamDecayRefIdeal.τ).loc Cert.AdamDecayRefIdeal.main_arg2) = m ((c.tc : Thread Cert.AdamDecayRefIdeal.nD Cert.AdamDecayRefIdeal.τ).loc Cert.AdamDecayRefIdeal.main_arg2)
      ∧ r.2.mem ((c.tc : Thread Cert.AdamDecayRefIdeal.nD Cert.AdamDecayRefIdeal.τ).loc Cert.AdamDecayRefIdeal.main_arg3) = m ((c.tc : Thread Cert.AdamDecayRefIdeal.nD Cert.AdamDecayRefIdeal.τ).loc Cert.AdamDecayRefIdeal.main_arg3))
      ∧ r.2.sem = fun _ => 0)

def quiescent_NormMod1 [hNormMod1 : Cert.NormMod1.Facts] : Prop :=
  ∀ (m : (ℓ : Loc Cert.NormMod1.nD Cert.NormMod1.τ Cert.NormMod1.sig) → Buf (Elt Bits) ℓ) (g : Dev Cert.NormMod1.nD → PrngReg), Pre_NormMod1 m →
    θ_run (Cert.NormMod1.defs (F := Bits)) (onTc (τ := Cert.NormMod1.τ) (Cert.NormMod1.main (F := Bits))) ⟨m, fun _ => 0, g⟩ (fun r => (∀ c : Dev Cert.NormMod1.nD,
      r.2.mem ((c.tc : Thread Cert.NormMod1.nD Cert.NormMod1.τ).loc Cert.NormMod1.main_arg0) = m ((c.tc : Thread Cert.NormMod1.nD Cert.NormMod1.τ).loc Cert.NormMod1.main_arg0)
      ∧ r.2.mem ((c.tc : Thread Cert.NormMod1.nD Cert.NormMod1.τ).loc Cert.NormMod1.main_arg1) = m ((c.tc : Thread Cert.NormMod1.nD Cert.NormMod1.τ).loc Cert.NormMod1.main_arg1)
      ∧ r.2.mem ((c.tc : Thread Cert.NormMod1.nD Cert.NormMod1.τ).loc Cert.NormMod1.main_arg2) = m ((c.tc : Thread Cert.NormMod1.nD Cert.NormMod1.τ).loc Cert.NormMod1.main_arg2))
      ∧ r.2.sem = fun _ => 0)

def quiescent_NormMod1Ideal [hNormMod1Ideal : Cert.NormMod1Ideal.Facts] : Prop :=
  ∀ (m : (ℓ : Loc Cert.NormMod1Ideal.nD Cert.NormMod1Ideal.τ Cert.NormMod1Ideal.sig) → Buf (Elt Ideal) ℓ) (g : Dev Cert.NormMod1Ideal.nD → PrngReg), Pre_NormMod1Ideal m →
    θ_run (Cert.NormMod1Ideal.defs (F := Ideal)) (onTc (τ := Cert.NormMod1Ideal.τ) (Cert.NormMod1Ideal.main (F := Ideal))) ⟨m, fun _ => 0, g⟩ (fun r => (∀ c : Dev Cert.NormMod1Ideal.nD,
      r.2.mem ((c.tc : Thread Cert.NormMod1Ideal.nD Cert.NormMod1Ideal.τ).loc Cert.NormMod1Ideal.main_arg0) = m ((c.tc : Thread Cert.NormMod1Ideal.nD Cert.NormMod1Ideal.τ).loc Cert.NormMod1Ideal.main_arg0)
      ∧ r.2.mem ((c.tc : Thread Cert.NormMod1Ideal.nD Cert.NormMod1Ideal.τ).loc Cert.NormMod1Ideal.main_arg1) = m ((c.tc : Thread Cert.NormMod1Ideal.nD Cert.NormMod1Ideal.τ).loc Cert.NormMod1Ideal.main_arg1)
      ∧ r.2.mem ((c.tc : Thread Cert.NormMod1Ideal.nD Cert.NormMod1Ideal.τ).loc Cert.NormMod1Ideal.main_arg2) = m ((c.tc : Thread Cert.NormMod1Ideal.nD Cert.NormMod1Ideal.τ).loc Cert.NormMod1Ideal.main_arg2))
      ∧ r.2.sem = fun _ => 0)

def quiescent_NormMod1RefIdeal [hNormMod1RefIdeal : Cert.NormMod1RefIdeal.Facts] : Prop :=
  ∀ (m : (ℓ : Loc Cert.NormMod1RefIdeal.nD Cert.NormMod1RefIdeal.τ Cert.NormMod1RefIdeal.sig) → Buf (Elt Ideal) ℓ) (g : Dev Cert.NormMod1RefIdeal.nD → PrngReg), Pre_NormMod1RefIdeal m →
    θ_run (Cert.NormMod1RefIdeal.defs (F := Ideal)) (onTc (τ := Cert.NormMod1RefIdeal.τ) (Cert.NormMod1RefIdeal.main (F := Ideal))) ⟨m, fun _ => 0, g⟩ (fun r => (∀ c : Dev Cert.NormMod1RefIdeal.nD,
      r.2.mem ((c.tc : Thread Cert.NormMod1RefIdeal.nD Cert.NormMod1RefIdeal.τ).loc Cert.NormMod1RefIdeal.main_arg0) = m ((c.tc : Thread Cert.NormMod1RefIdeal.nD Cert.NormMod1RefIdeal.τ).loc Cert.NormMod1RefIdeal.main_arg0)
      ∧ r.2.mem ((c.tc : Thread Cert.NormMod1RefIdeal.nD Cert.NormMod1RefIdeal.τ).loc Cert.NormMod1RefIdeal.main_arg1) = m ((c.tc : Thread Cert.NormMod1RefIdeal.nD Cert.NormMod1RefIdeal.τ).loc Cert.NormMod1RefIdeal.main_arg1)
      ∧ r.2.mem ((c.tc : Thread Cert.NormMod1RefIdeal.nD Cert.NormMod1RefIdeal.τ).loc Cert.NormMod1RefIdeal.main_arg2) = m ((c.tc : Thread Cert.NormMod1RefIdeal.nD Cert.NormMod1RefIdeal.τ).loc Cert.NormMod1RefIdeal.main_arg2))
      ∧ r.2.sem = fun _ => 0)

def quiescent_ResidNorm1 [hResidNorm1 : Cert.ResidNorm1.Facts] : Prop :=
  ∀ (m : (ℓ : Loc Cert.ResidNorm1.nD Cert.ResidNorm1.τ Cert.ResidNorm1.sig) → Buf (Elt Bits) ℓ) (g : Dev Cert.ResidNorm1.nD → PrngReg), Pre_ResidNorm1 m →
    θ_run (Cert.ResidNorm1.defs (F := Bits)) (onTc (τ := Cert.ResidNorm1.τ) (Cert.ResidNorm1.main (F := Bits))) ⟨m, fun _ => 0, g⟩ (fun r => (∀ c : Dev Cert.ResidNorm1.nD,
      r.2.mem ((c.tc : Thread Cert.ResidNorm1.nD Cert.ResidNorm1.τ).loc Cert.ResidNorm1.main_arg0) = m ((c.tc : Thread Cert.ResidNorm1.nD Cert.ResidNorm1.τ).loc Cert.ResidNorm1.main_arg0)
      ∧ r.2.mem ((c.tc : Thread Cert.ResidNorm1.nD Cert.ResidNorm1.τ).loc Cert.ResidNorm1.main_arg1) = m ((c.tc : Thread Cert.ResidNorm1.nD Cert.ResidNorm1.τ).loc Cert.ResidNorm1.main_arg1)
      ∧ r.2.mem ((c.tc : Thread Cert.ResidNorm1.nD Cert.ResidNorm1.τ).loc Cert.ResidNorm1.main_arg2) = m ((c.tc : Thread Cert.ResidNorm1.nD Cert.ResidNorm1.τ).loc Cert.ResidNorm1.main_arg2)
      ∧ r.2.mem ((c.tc : Thread Cert.ResidNorm1.nD Cert.ResidNorm1.τ).loc Cert.ResidNorm1.main_arg3) = m ((c.tc : Thread Cert.ResidNorm1.nD Cert.ResidNorm1.τ).loc Cert.ResidNorm1.main_arg3))
      ∧ r.2.sem = fun _ => 0)

def quiescent_ResidNorm1Ideal [hResidNorm1Ideal : Cert.ResidNorm1Ideal.Facts] : Prop :=
  ∀ (m : (ℓ : Loc Cert.ResidNorm1Ideal.nD Cert.ResidNorm1Ideal.τ Cert.ResidNorm1Ideal.sig) → Buf (Elt Ideal) ℓ) (g : Dev Cert.ResidNorm1Ideal.nD → PrngReg), Pre_ResidNorm1Ideal m →
    θ_run (Cert.ResidNorm1Ideal.defs (F := Ideal)) (onTc (τ := Cert.ResidNorm1Ideal.τ) (Cert.ResidNorm1Ideal.main (F := Ideal))) ⟨m, fun _ => 0, g⟩ (fun r => (∀ c : Dev Cert.ResidNorm1Ideal.nD,
      r.2.mem ((c.tc : Thread Cert.ResidNorm1Ideal.nD Cert.ResidNorm1Ideal.τ).loc Cert.ResidNorm1Ideal.main_arg0) = m ((c.tc : Thread Cert.ResidNorm1Ideal.nD Cert.ResidNorm1Ideal.τ).loc Cert.ResidNorm1Ideal.main_arg0)
      ∧ r.2.mem ((c.tc : Thread Cert.ResidNorm1Ideal.nD Cert.ResidNorm1Ideal.τ).loc Cert.ResidNorm1Ideal.main_arg1) = m ((c.tc : Thread Cert.ResidNorm1Ideal.nD Cert.ResidNorm1Ideal.τ).loc Cert.ResidNorm1Ideal.main_arg1)
      ∧ r.2.mem ((c.tc : Thread Cert.ResidNorm1Ideal.nD Cert.ResidNorm1Ideal.τ).loc Cert.ResidNorm1Ideal.main_arg2) = m ((c.tc : Thread Cert.ResidNorm1Ideal.nD Cert.ResidNorm1Ideal.τ).loc Cert.ResidNorm1Ideal.main_arg2)
      ∧ r.2.mem ((c.tc : Thread Cert.ResidNorm1Ideal.nD Cert.ResidNorm1Ideal.τ).loc Cert.ResidNorm1Ideal.main_arg3) = m ((c.tc : Thread Cert.ResidNorm1Ideal.nD Cert.ResidNorm1Ideal.τ).loc Cert.ResidNorm1Ideal.main_arg3))
      ∧ r.2.sem = fun _ => 0)

def quiescent_ResidNorm1RefIdeal [hResidNorm1RefIdeal : Cert.ResidNorm1RefIdeal.Facts] : Prop :=
  ∀ (m : (ℓ : Loc Cert.ResidNorm1RefIdeal.nD Cert.ResidNorm1RefIdeal.τ Cert.ResidNorm1RefIdeal.sig) → Buf (Elt Ideal) ℓ) (g : Dev Cert.ResidNorm1RefIdeal.nD → PrngReg), Pre_ResidNorm1RefIdeal m →
    θ_run (Cert.ResidNorm1RefIdeal.defs (F := Ideal)) (onTc (τ := Cert.ResidNorm1RefIdeal.τ) (Cert.ResidNorm1RefIdeal.main (F := Ideal))) ⟨m, fun _ => 0, g⟩ (fun r => (∀ c : Dev Cert.ResidNorm1RefIdeal.nD,
      r.2.mem ((c.tc : Thread Cert.ResidNorm1RefIdeal.nD Cert.ResidNorm1RefIdeal.τ).loc Cert.ResidNorm1RefIdeal.main_arg0) = m ((c.tc : Thread Cert.ResidNorm1RefIdeal.nD Cert.ResidNorm1RefIdeal.τ).loc Cert.ResidNorm1RefIdeal.main_arg0)
      ∧ r.2.mem ((c.tc : Thread Cert.ResidNorm1RefIdeal.nD Cert.ResidNorm1RefIdeal.τ).loc Cert.ResidNorm1RefIdeal.main_arg1) = m ((c.tc : Thread Cert.ResidNorm1RefIdeal.nD Cert.ResidNorm1RefIdeal.τ).loc Cert.ResidNorm1RefIdeal.main_arg1)
      ∧ r.2.mem ((c.tc : Thread Cert.ResidNorm1RefIdeal.nD Cert.ResidNorm1RefIdeal.τ).loc Cert.ResidNorm1RefIdeal.main_arg2) = m ((c.tc : Thread Cert.ResidNorm1RefIdeal.nD Cert.ResidNorm1RefIdeal.τ).loc Cert.ResidNorm1RefIdeal.main_arg2)
      ∧ r.2.mem ((c.tc : Thread Cert.ResidNorm1RefIdeal.nD Cert.ResidNorm1RefIdeal.τ).loc Cert.ResidNorm1RefIdeal.main_arg3) = m ((c.tc : Thread Cert.ResidNorm1RefIdeal.nD Cert.ResidNorm1RefIdeal.τ).loc Cert.ResidNorm1RefIdeal.main_arg3))
      ∧ r.2.sem = fun _ => 0)

def quiescent_ResidNorm2 [hResidNorm2 : Cert.ResidNorm2.Facts] : Prop :=
  ∀ (m : (ℓ : Loc Cert.ResidNorm2.nD Cert.ResidNorm2.τ Cert.ResidNorm2.sig) → Buf (Elt Bits) ℓ) (g : Dev Cert.ResidNorm2.nD → PrngReg), Pre_ResidNorm2 m →
    θ_run (Cert.ResidNorm2.defs (F := Bits)) (onTc (τ := Cert.ResidNorm2.τ) (Cert.ResidNorm2.main (F := Bits))) ⟨m, fun _ => 0, g⟩ (fun r => (∀ c : Dev Cert.ResidNorm2.nD,
      r.2.mem ((c.tc : Thread Cert.ResidNorm2.nD Cert.ResidNorm2.τ).loc Cert.ResidNorm2.main_arg0) = m ((c.tc : Thread Cert.ResidNorm2.nD Cert.ResidNorm2.τ).loc Cert.ResidNorm2.main_arg0)
      ∧ r.2.mem ((c.tc : Thread Cert.ResidNorm2.nD Cert.ResidNorm2.τ).loc Cert.ResidNorm2.main_arg1) = m ((c.tc : Thread Cert.ResidNorm2.nD Cert.ResidNorm2.τ).loc Cert.ResidNorm2.main_arg1)
      ∧ r.2.mem ((c.tc : Thread Cert.ResidNorm2.nD Cert.ResidNorm2.τ).loc Cert.ResidNorm2.main_arg2) = m ((c.tc : Thread Cert.ResidNorm2.nD Cert.ResidNorm2.τ).loc Cert.ResidNorm2.main_arg2))
      ∧ r.2.sem = fun _ => 0)

def quiescent_ResidNorm2Ideal [hResidNorm2Ideal : Cert.ResidNorm2Ideal.Facts] : Prop :=
  ∀ (m : (ℓ : Loc Cert.ResidNorm2Ideal.nD Cert.ResidNorm2Ideal.τ Cert.ResidNorm2Ideal.sig) → Buf (Elt Ideal) ℓ) (g : Dev Cert.ResidNorm2Ideal.nD → PrngReg), Pre_ResidNorm2Ideal m →
    θ_run (Cert.ResidNorm2Ideal.defs (F := Ideal)) (onTc (τ := Cert.ResidNorm2Ideal.τ) (Cert.ResidNorm2Ideal.main (F := Ideal))) ⟨m, fun _ => 0, g⟩ (fun r => (∀ c : Dev Cert.ResidNorm2Ideal.nD,
      r.2.mem ((c.tc : Thread Cert.ResidNorm2Ideal.nD Cert.ResidNorm2Ideal.τ).loc Cert.ResidNorm2Ideal.main_arg0) = m ((c.tc : Thread Cert.ResidNorm2Ideal.nD Cert.ResidNorm2Ideal.τ).loc Cert.ResidNorm2Ideal.main_arg0)
      ∧ r.2.mem ((c.tc : Thread Cert.ResidNorm2Ideal.nD Cert.ResidNorm2Ideal.τ).loc Cert.ResidNorm2Ideal.main_arg1) = m ((c.tc : Thread Cert.ResidNorm2Ideal.nD Cert.ResidNorm2Ideal.τ).loc Cert.ResidNorm2Ideal.main_arg1)
      ∧ r.2.mem ((c.tc : Thread Cert.ResidNorm2Ideal.nD Cert.ResidNorm2Ideal.τ).loc Cert.ResidNorm2Ideal.main_arg2) = m ((c.tc : Thread Cert.ResidNorm2Ideal.nD Cert.ResidNorm2Ideal.τ).loc Cert.ResidNorm2Ideal.main_arg2))
      ∧ r.2.sem = fun _ => 0)

def quiescent_ResidNorm2RefIdeal [hResidNorm2RefIdeal : Cert.ResidNorm2RefIdeal.Facts] : Prop :=
  ∀ (m : (ℓ : Loc Cert.ResidNorm2RefIdeal.nD Cert.ResidNorm2RefIdeal.τ Cert.ResidNorm2RefIdeal.sig) → Buf (Elt Ideal) ℓ) (g : Dev Cert.ResidNorm2RefIdeal.nD → PrngReg), Pre_ResidNorm2RefIdeal m →
    θ_run (Cert.ResidNorm2RefIdeal.defs (F := Ideal)) (onTc (τ := Cert.ResidNorm2RefIdeal.τ) (Cert.ResidNorm2RefIdeal.main (F := Ideal))) ⟨m, fun _ => 0, g⟩ (fun r => (∀ c : Dev Cert.ResidNorm2RefIdeal.nD,
      r.2.mem ((c.tc : Thread Cert.ResidNorm2RefIdeal.nD Cert.ResidNorm2RefIdeal.τ).loc Cert.ResidNorm2RefIdeal.main_arg0) = m ((c.tc : Thread Cert.ResidNorm2RefIdeal.nD Cert.ResidNorm2RefIdeal.τ).loc Cert.ResidNorm2RefIdeal.main_arg0)
      ∧ r.2.mem ((c.tc : Thread Cert.ResidNorm2RefIdeal.nD Cert.ResidNorm2RefIdeal.τ).loc Cert.ResidNorm2RefIdeal.main_arg1) = m ((c.tc : Thread Cert.ResidNorm2RefIdeal.nD Cert.ResidNorm2RefIdeal.τ).loc Cert.ResidNorm2RefIdeal.main_arg1)
      ∧ r.2.mem ((c.tc : Thread Cert.ResidNorm2RefIdeal.nD Cert.ResidNorm2RefIdeal.τ).loc Cert.ResidNorm2RefIdeal.main_arg2) = m ((c.tc : Thread Cert.ResidNorm2RefIdeal.nD Cert.ResidNorm2RefIdeal.τ).loc Cert.ResidNorm2RefIdeal.main_arg2))
      ∧ r.2.sem = fun _ => 0)

def quiescent_MixInGab [hMixInGab : Cert.MixInGab.Facts] : Prop :=
  ∀ (m : (ℓ : Loc Cert.MixInGab.nD Cert.MixInGab.τ Cert.MixInGab.sig) → Buf (Elt Bits) ℓ) (g : Dev Cert.MixInGab.nD → PrngReg), Pre_MixInGab m →
    θ_run (Cert.MixInGab.defs (F := Bits)) (onTc (τ := Cert.MixInGab.τ) (Cert.MixInGab.main (F := Bits))) ⟨m, fun _ => 0, g⟩ (fun r => (∀ c : Dev Cert.MixInGab.nD,
      r.2.mem ((c.tc : Thread Cert.MixInGab.nD Cert.MixInGab.τ).loc Cert.MixInGab.main_arg0) = m ((c.tc : Thread Cert.MixInGab.nD Cert.MixInGab.τ).loc Cert.MixInGab.main_arg0)
      ∧ r.2.mem ((c.tc : Thread Cert.MixInGab.nD Cert.MixInGab.τ).loc Cert.MixInGab.main_arg1) = m ((c.tc : Thread Cert.MixInGab.nD Cert.MixInGab.τ).loc Cert.MixInGab.main_arg1))
      ∧ r.2.sem = fun _ => 0)

def quiescent_MixInGabIdeal [hMixInGabIdeal : Cert.MixInGabIdeal.Facts] : Prop :=
  ∀ (m : (ℓ : Loc Cert.MixInGabIdeal.nD Cert.MixInGabIdeal.τ Cert.MixInGabIdeal.sig) → Buf (Elt Ideal) ℓ) (g : Dev Cert.MixInGabIdeal.nD → PrngReg), Pre_MixInGabIdeal m →
    θ_run (Cert.MixInGabIdeal.defs (F := Ideal)) (onTc (τ := Cert.MixInGabIdeal.τ) (Cert.MixInGabIdeal.main (F := Ideal))) ⟨m, fun _ => 0, g⟩ (fun r => (∀ c : Dev Cert.MixInGabIdeal.nD,
      r.2.mem ((c.tc : Thread Cert.MixInGabIdeal.nD Cert.MixInGabIdeal.τ).loc Cert.MixInGabIdeal.main_arg0) = m ((c.tc : Thread Cert.MixInGabIdeal.nD Cert.MixInGabIdeal.τ).loc Cert.MixInGabIdeal.main_arg0)
      ∧ r.2.mem ((c.tc : Thread Cert.MixInGabIdeal.nD Cert.MixInGabIdeal.τ).loc Cert.MixInGabIdeal.main_arg1) = m ((c.tc : Thread Cert.MixInGabIdeal.nD Cert.MixInGabIdeal.τ).loc Cert.MixInGabIdeal.main_arg1))
      ∧ r.2.sem = fun _ => 0)

def quiescent_MixInGabRefIdeal [hMixInGabRefIdeal : Cert.MixInGabRefIdeal.Facts] : Prop :=
  ∀ (m : (ℓ : Loc Cert.MixInGabRefIdeal.nD Cert.MixInGabRefIdeal.τ Cert.MixInGabRefIdeal.sig) → Buf (Elt Ideal) ℓ) (g : Dev Cert.MixInGabRefIdeal.nD → PrngReg), Pre_MixInGabRefIdeal m →
    θ_run (Cert.MixInGabRefIdeal.defs (F := Ideal)) (onTc (τ := Cert.MixInGabRefIdeal.τ) (Cert.MixInGabRefIdeal.main (F := Ideal))) ⟨m, fun _ => 0, g⟩ (fun r => (∀ c : Dev Cert.MixInGabRefIdeal.nD,
      r.2.mem ((c.tc : Thread Cert.MixInGabRefIdeal.nD Cert.MixInGabRefIdeal.τ).loc Cert.MixInGabRefIdeal.main_arg0) = m ((c.tc : Thread Cert.MixInGabRefIdeal.nD Cert.MixInGabRefIdeal.τ).loc Cert.MixInGabRefIdeal.main_arg0)
      ∧ r.2.mem ((c.tc : Thread Cert.MixInGabRefIdeal.nD Cert.MixInGabRefIdeal.τ).loc Cert.MixInGabRefIdeal.main_arg1) = m ((c.tc : Thread Cert.MixInGabRefIdeal.nD Cert.MixInGabRefIdeal.τ).loc Cert.MixInGabRefIdeal.main_arg1))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdIdeal_pre_finite_qkv [hFlashFwdIdeal : Cert.FlashFwdIdeal.Facts] [hPre_finite_qkv : Cert.Pre_finite_qkv.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_finite_qkv m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdRefIdeal [hFlashFwdRefIdeal : Cert.FlashFwdRefIdeal.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_FlashFwdRefIdeal_pre_finite_qkv [hFlashFwdRefIdeal : Cert.FlashFwdRefIdeal.Facts] [hPre_finite_qkv : Cert.Pre_finite_qkv.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal_finite_qkv m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn2InDx_Ffn2InDxIdeal : Prop :=
  True

def algebraic_Ffn2InDxIdeal_Ffn2InDxRefIdeal [hFfn2InDxIdeal : Cert.Ffn2InDxIdeal.Facts] [hFfn2InDxRefIdeal : Cert.Ffn2InDxRefIdeal.Facts] : Prop :=
  ∀ (m : (ℓ : Loc Cert.Ffn2InDxIdeal.nD Cert.Ffn2InDxIdeal.τ Cert.Ffn2InDxIdeal.sig) → Buf (Elt Ideal) ℓ) (g : Dev Cert.Ffn2InDxIdeal.nD → PrngReg)
    (m' : (ℓ : Loc Cert.Ffn2InDxRefIdeal.nD Cert.Ffn2InDxRefIdeal.τ Cert.Ffn2InDxRefIdeal.sig) → Buf (Elt Ideal) ℓ) (g' : Dev Cert.Ffn2InDxRefIdeal.nD → PrngReg), Pre_Ffn2InDxIdeal m →
    (∀ c : Dev Cert.Ffn2InDxIdeal.nD,
      m' ((c.tc : Thread Cert.Ffn2InDxRefIdeal.nD Cert.Ffn2InDxRefIdeal.τ).loc Cert.Ffn2InDxRefIdeal.main_arg0) = m ((c.tc : Thread Cert.Ffn2InDxIdeal.nD Cert.Ffn2InDxIdeal.τ).loc Cert.Ffn2InDxIdeal.main_arg0)
      ∧ m' ((c.tc : Thread Cert.Ffn2InDxRefIdeal.nD Cert.Ffn2InDxRefIdeal.τ).loc Cert.Ffn2InDxRefIdeal.main_arg1) = m ((c.tc : Thread Cert.Ffn2InDxIdeal.nD Cert.Ffn2InDxIdeal.τ).loc Cert.Ffn2InDxIdeal.main_arg1)) →
    ∃ (v0 : (c : Dev Cert.Ffn2InDxIdeal.nD) → Buf (Elt Ideal) ((c.tc : Thread Cert.Ffn2InDxIdeal.nD Cert.Ffn2InDxIdeal.τ).loc Cert.Ffn2InDxIdeal.main_v2)),
      θ_run (Cert.Ffn2InDxIdeal.defs (F := Ideal)) (onTc (τ := Cert.Ffn2InDxIdeal.τ) (Cert.Ffn2InDxIdeal.main (F := Ideal))) ⟨m, fun _ => 0, g⟩ (fun r => ∀ c : Dev Cert.Ffn2InDxIdeal.nD,
          r.2.mem ((c.tc : Thread Cert.Ffn2InDxIdeal.nD Cert.Ffn2InDxIdeal.τ).loc Cert.Ffn2InDxIdeal.main_v2) = v0 c
          ∧ r.2.mem ((c.tc : Thread Cert.Ffn2InDxIdeal.nD Cert.Ffn2InDxIdeal.τ).loc Cert.Ffn2InDxIdeal.main_arg0) = m ((c.tc : Thread Cert.Ffn2InDxIdeal.nD Cert.Ffn2InDxIdeal.τ).loc Cert.Ffn2InDxIdeal.main_arg0)
          ∧ r.2.mem ((c.tc : Thread Cert.Ffn2InDxIdeal.nD Cert.Ffn2InDxIdeal.τ).loc Cert.Ffn2InDxIdeal.main_arg1) = m ((c.tc : Thread Cert.Ffn2InDxIdeal.nD Cert.Ffn2InDxIdeal.τ).loc Cert.Ffn2InDxIdeal.main_arg1))
      ∧ θ_run (Cert.Ffn2InDxRefIdeal.defs (F := Ideal)) (onTc (τ := Cert.Ffn2InDxRefIdeal.τ) (Cert.Ffn2InDxRefIdeal.main (F := Ideal))) ⟨m', fun _ => 0, g'⟩ (fun r => ∀ c : Dev Cert.Ffn2InDxRefIdeal.nD,
          r.2.mem ((c.tc : Thread Cert.Ffn2InDxRefIdeal.nD Cert.Ffn2InDxRefIdeal.τ).loc Cert.Ffn2InDxRefIdeal.main_v9) = v0 c
          ∧ r.2.mem ((c.tc : Thread Cert.Ffn2InDxRefIdeal.nD Cert.Ffn2InDxRefIdeal.τ).loc Cert.Ffn2InDxRefIdeal.main_arg0) = m' ((c.tc : Thread Cert.Ffn2InDxRefIdeal.nD Cert.Ffn2InDxRefIdeal.τ).loc Cert.Ffn2InDxRefIdeal.main_arg0)
          ∧ r.2.mem ((c.tc : Thread Cert.Ffn2InDxRefIdeal.nD Cert.Ffn2InDxRefIdeal.τ).loc Cert.Ffn2InDxRefIdeal.main_arg1) = m' ((c.tc : Thread Cert.Ffn2InDxRefIdeal.nD Cert.Ffn2InDxRefIdeal.τ).loc Cert.Ffn2InDxRefIdeal.main_arg1))

def preserves_Ffn2InDw_Ffn2InDwIdeal : Prop :=
  True

def algebraic_Ffn2InDwIdeal_Ffn2InDwRefIdeal [hFfn2InDwIdeal : Cert.Ffn2InDwIdeal.Facts] [hFfn2InDwRefIdeal : Cert.Ffn2InDwRefIdeal.Facts] : Prop :=
  ∀ (m : (ℓ : Loc Cert.Ffn2InDwIdeal.nD Cert.Ffn2InDwIdeal.τ Cert.Ffn2InDwIdeal.sig) → Buf (Elt Ideal) ℓ) (g : Dev Cert.Ffn2InDwIdeal.nD → PrngReg)
    (m' : (ℓ : Loc Cert.Ffn2InDwRefIdeal.nD Cert.Ffn2InDwRefIdeal.τ Cert.Ffn2InDwRefIdeal.sig) → Buf (Elt Ideal) ℓ) (g' : Dev Cert.Ffn2InDwRefIdeal.nD → PrngReg), Pre_Ffn2InDwIdeal m →
    (∀ c : Dev Cert.Ffn2InDwIdeal.nD,
      m' ((c.tc : Thread Cert.Ffn2InDwRefIdeal.nD Cert.Ffn2InDwRefIdeal.τ).loc Cert.Ffn2InDwRefIdeal.main_arg0) = m ((c.tc : Thread Cert.Ffn2InDwIdeal.nD Cert.Ffn2InDwIdeal.τ).loc Cert.Ffn2InDwIdeal.main_arg0)
      ∧ m' ((c.tc : Thread Cert.Ffn2InDwRefIdeal.nD Cert.Ffn2InDwRefIdeal.τ).loc Cert.Ffn2InDwRefIdeal.main_arg1) = m ((c.tc : Thread Cert.Ffn2InDwIdeal.nD Cert.Ffn2InDwIdeal.τ).loc Cert.Ffn2InDwIdeal.main_arg1)) →
    ∃ (v0 : (c : Dev Cert.Ffn2InDwIdeal.nD) → Buf (Elt Ideal) ((c.tc : Thread Cert.Ffn2InDwIdeal.nD Cert.Ffn2InDwIdeal.τ).loc Cert.Ffn2InDwIdeal.main_v2)),
      θ_run (Cert.Ffn2InDwIdeal.defs (F := Ideal)) (onTc (τ := Cert.Ffn2InDwIdeal.τ) (Cert.Ffn2InDwIdeal.main (F := Ideal))) ⟨m, fun _ => 0, g⟩ (fun r => ∀ c : Dev Cert.Ffn2InDwIdeal.nD,
          r.2.mem ((c.tc : Thread Cert.Ffn2InDwIdeal.nD Cert.Ffn2InDwIdeal.τ).loc Cert.Ffn2InDwIdeal.main_v2) = v0 c
          ∧ r.2.mem ((c.tc : Thread Cert.Ffn2InDwIdeal.nD Cert.Ffn2InDwIdeal.τ).loc Cert.Ffn2InDwIdeal.main_arg0) = m ((c.tc : Thread Cert.Ffn2InDwIdeal.nD Cert.Ffn2InDwIdeal.τ).loc Cert.Ffn2InDwIdeal.main_arg0)
          ∧ r.2.mem ((c.tc : Thread Cert.Ffn2InDwIdeal.nD Cert.Ffn2InDwIdeal.τ).loc Cert.Ffn2InDwIdeal.main_arg1) = m ((c.tc : Thread Cert.Ffn2InDwIdeal.nD Cert.Ffn2InDwIdeal.τ).loc Cert.Ffn2InDwIdeal.main_arg1))
      ∧ θ_run (Cert.Ffn2InDwRefIdeal.defs (F := Ideal)) (onTc (τ := Cert.Ffn2InDwRefIdeal.τ) (Cert.Ffn2InDwRefIdeal.main (F := Ideal))) ⟨m', fun _ => 0, g'⟩ (fun r => ∀ c : Dev Cert.Ffn2InDwRefIdeal.nD,
          r.2.mem ((c.tc : Thread Cert.Ffn2InDwRefIdeal.nD Cert.Ffn2InDwRefIdeal.τ).loc Cert.Ffn2InDwRefIdeal.main_v11) = v0 c
          ∧ r.2.mem ((c.tc : Thread Cert.Ffn2InDwRefIdeal.nD Cert.Ffn2InDwRefIdeal.τ).loc Cert.Ffn2InDwRefIdeal.main_arg0) = m' ((c.tc : Thread Cert.Ffn2InDwRefIdeal.nD Cert.Ffn2InDwRefIdeal.τ).loc Cert.Ffn2InDwRefIdeal.main_arg0)
          ∧ r.2.mem ((c.tc : Thread Cert.Ffn2InDwRefIdeal.nD Cert.Ffn2InDwRefIdeal.τ).loc Cert.Ffn2InDwRefIdeal.main_arg1) = m' ((c.tc : Thread Cert.Ffn2InDwRefIdeal.nD Cert.Ffn2InDwRefIdeal.τ).loc Cert.Ffn2InDwRefIdeal.main_arg1))

def preserves_Ffn2OutDw_Ffn2OutDwIdeal : Prop :=
  True

def algebraic_Ffn2OutDwIdeal_Ffn2OutDwRefIdeal [hFfn2OutDwIdeal : Cert.Ffn2OutDwIdeal.Facts] [hFfn2OutDwRefIdeal : Cert.Ffn2OutDwRefIdeal.Facts] : Prop :=
  ∀ (m : (ℓ : Loc Cert.Ffn2OutDwIdeal.nD Cert.Ffn2OutDwIdeal.τ Cert.Ffn2OutDwIdeal.sig) → Buf (Elt Ideal) ℓ) (g : Dev Cert.Ffn2OutDwIdeal.nD → PrngReg)
    (m' : (ℓ : Loc Cert.Ffn2OutDwRefIdeal.nD Cert.Ffn2OutDwRefIdeal.τ Cert.Ffn2OutDwRefIdeal.sig) → Buf (Elt Ideal) ℓ) (g' : Dev Cert.Ffn2OutDwRefIdeal.nD → PrngReg), Pre_Ffn2OutDwIdeal m →
    (∀ c : Dev Cert.Ffn2OutDwIdeal.nD,
      m' ((c.tc : Thread Cert.Ffn2OutDwRefIdeal.nD Cert.Ffn2OutDwRefIdeal.τ).loc Cert.Ffn2OutDwRefIdeal.main_arg0) = m ((c.tc : Thread Cert.Ffn2OutDwIdeal.nD Cert.Ffn2OutDwIdeal.τ).loc Cert.Ffn2OutDwIdeal.main_arg0)
      ∧ m' ((c.tc : Thread Cert.Ffn2OutDwRefIdeal.nD Cert.Ffn2OutDwRefIdeal.τ).loc Cert.Ffn2OutDwRefIdeal.main_arg1) = m ((c.tc : Thread Cert.Ffn2OutDwIdeal.nD Cert.Ffn2OutDwIdeal.τ).loc Cert.Ffn2OutDwIdeal.main_arg1)) →
    ∃ (v0 : (c : Dev Cert.Ffn2OutDwIdeal.nD) → Buf (Elt Ideal) ((c.tc : Thread Cert.Ffn2OutDwIdeal.nD Cert.Ffn2OutDwIdeal.τ).loc Cert.Ffn2OutDwIdeal.main_v2)),
      θ_run (Cert.Ffn2OutDwIdeal.defs (F := Ideal)) (onTc (τ := Cert.Ffn2OutDwIdeal.τ) (Cert.Ffn2OutDwIdeal.main (F := Ideal))) ⟨m, fun _ => 0, g⟩ (fun r => ∀ c : Dev Cert.Ffn2OutDwIdeal.nD,
          r.2.mem ((c.tc : Thread Cert.Ffn2OutDwIdeal.nD Cert.Ffn2OutDwIdeal.τ).loc Cert.Ffn2OutDwIdeal.main_v2) = v0 c
          ∧ r.2.mem ((c.tc : Thread Cert.Ffn2OutDwIdeal.nD Cert.Ffn2OutDwIdeal.τ).loc Cert.Ffn2OutDwIdeal.main_arg0) = m ((c.tc : Thread Cert.Ffn2OutDwIdeal.nD Cert.Ffn2OutDwIdeal.τ).loc Cert.Ffn2OutDwIdeal.main_arg0)
          ∧ r.2.mem ((c.tc : Thread Cert.Ffn2OutDwIdeal.nD Cert.Ffn2OutDwIdeal.τ).loc Cert.Ffn2OutDwIdeal.main_arg1) = m ((c.tc : Thread Cert.Ffn2OutDwIdeal.nD Cert.Ffn2OutDwIdeal.τ).loc Cert.Ffn2OutDwIdeal.main_arg1))
      ∧ θ_run (Cert.Ffn2OutDwRefIdeal.defs (F := Ideal)) (onTc (τ := Cert.Ffn2OutDwRefIdeal.τ) (Cert.Ffn2OutDwRefIdeal.main (F := Ideal))) ⟨m', fun _ => 0, g'⟩ (fun r => ∀ c : Dev Cert.Ffn2OutDwRefIdeal.nD,
          r.2.mem ((c.tc : Thread Cert.Ffn2OutDwRefIdeal.nD Cert.Ffn2OutDwRefIdeal.τ).loc Cert.Ffn2OutDwRefIdeal.main_v4) = v0 c
          ∧ r.2.mem ((c.tc : Thread Cert.Ffn2OutDwRefIdeal.nD Cert.Ffn2OutDwRefIdeal.τ).loc Cert.Ffn2OutDwRefIdeal.main_arg0) = m' ((c.tc : Thread Cert.Ffn2OutDwRefIdeal.nD Cert.Ffn2OutDwRefIdeal.τ).loc Cert.Ffn2OutDwRefIdeal.main_arg0)
          ∧ r.2.mem ((c.tc : Thread Cert.Ffn2OutDwRefIdeal.nD Cert.Ffn2OutDwRefIdeal.τ).loc Cert.Ffn2OutDwRefIdeal.main_arg1) = m' ((c.tc : Thread Cert.Ffn2OutDwRefIdeal.nD Cert.Ffn2OutDwRefIdeal.τ).loc Cert.Ffn2OutDwRefIdeal.main_arg1))

def preserves_Ffn1InDx_Ffn1InDxIdeal : Prop :=
  True

def algebraic_Ffn1InDxIdeal_Ffn1InDxRefIdeal [hFfn1InDxIdeal : Cert.Ffn1InDxIdeal.Facts] [hFfn1InDxRefIdeal : Cert.Ffn1InDxRefIdeal.Facts] : Prop :=
  ∀ (m : (ℓ : Loc Cert.Ffn1InDxIdeal.nD Cert.Ffn1InDxIdeal.τ Cert.Ffn1InDxIdeal.sig) → Buf (Elt Ideal) ℓ) (g : Dev Cert.Ffn1InDxIdeal.nD → PrngReg)
    (m' : (ℓ : Loc Cert.Ffn1InDxRefIdeal.nD Cert.Ffn1InDxRefIdeal.τ Cert.Ffn1InDxRefIdeal.sig) → Buf (Elt Ideal) ℓ) (g' : Dev Cert.Ffn1InDxRefIdeal.nD → PrngReg), Pre_Ffn1InDxIdeal m →
    (∀ c : Dev Cert.Ffn1InDxIdeal.nD,
      m' ((c.tc : Thread Cert.Ffn1InDxRefIdeal.nD Cert.Ffn1InDxRefIdeal.τ).loc Cert.Ffn1InDxRefIdeal.main_arg0) = m ((c.tc : Thread Cert.Ffn1InDxIdeal.nD Cert.Ffn1InDxIdeal.τ).loc Cert.Ffn1InDxIdeal.main_arg0)
      ∧ m' ((c.tc : Thread Cert.Ffn1InDxRefIdeal.nD Cert.Ffn1InDxRefIdeal.τ).loc Cert.Ffn1InDxRefIdeal.main_arg1) = m ((c.tc : Thread Cert.Ffn1InDxIdeal.nD Cert.Ffn1InDxIdeal.τ).loc Cert.Ffn1InDxIdeal.main_arg1)) →
    ∃ (v0 : (c : Dev Cert.Ffn1InDxIdeal.nD) → Buf (Elt Ideal) ((c.tc : Thread Cert.Ffn1InDxIdeal.nD Cert.Ffn1InDxIdeal.τ).loc Cert.Ffn1InDxIdeal.main_v3)),
      θ_run (Cert.Ffn1InDxIdeal.defs (F := Ideal)) (onTc (τ := Cert.Ffn1InDxIdeal.τ) (Cert.Ffn1InDxIdeal.main (F := Ideal))) ⟨m, fun _ => 0, g⟩ (fun r => ∀ c : Dev Cert.Ffn1InDxIdeal.nD,
          r.2.mem ((c.tc : Thread Cert.Ffn1InDxIdeal.nD Cert.Ffn1InDxIdeal.τ).loc Cert.Ffn1InDxIdeal.main_v3) = v0 c
          ∧ r.2.mem ((c.tc : Thread Cert.Ffn1InDxIdeal.nD Cert.Ffn1InDxIdeal.τ).loc Cert.Ffn1InDxIdeal.main_arg0) = m ((c.tc : Thread Cert.Ffn1InDxIdeal.nD Cert.Ffn1InDxIdeal.τ).loc Cert.Ffn1InDxIdeal.main_arg0)
          ∧ r.2.mem ((c.tc : Thread Cert.Ffn1InDxIdeal.nD Cert.Ffn1InDxIdeal.τ).loc Cert.Ffn1InDxIdeal.main_arg1) = m ((c.tc : Thread Cert.Ffn1InDxIdeal.nD Cert.Ffn1InDxIdeal.τ).loc Cert.Ffn1InDxIdeal.main_arg1))
      ∧ θ_run (Cert.Ffn1InDxRefIdeal.defs (F := Ideal)) (onTc (τ := Cert.Ffn1InDxRefIdeal.τ) (Cert.Ffn1InDxRefIdeal.main (F := Ideal))) ⟨m', fun _ => 0, g'⟩ (fun r => ∀ c : Dev Cert.Ffn1InDxRefIdeal.nD,
          r.2.mem ((c.tc : Thread Cert.Ffn1InDxRefIdeal.nD Cert.Ffn1InDxRefIdeal.τ).loc Cert.Ffn1InDxRefIdeal.main_v9) = v0 c
          ∧ r.2.mem ((c.tc : Thread Cert.Ffn1InDxRefIdeal.nD Cert.Ffn1InDxRefIdeal.τ).loc Cert.Ffn1InDxRefIdeal.main_arg0) = m' ((c.tc : Thread Cert.Ffn1InDxRefIdeal.nD Cert.Ffn1InDxRefIdeal.τ).loc Cert.Ffn1InDxRefIdeal.main_arg0)
          ∧ r.2.mem ((c.tc : Thread Cert.Ffn1InDxRefIdeal.nD Cert.Ffn1InDxRefIdeal.τ).loc Cert.Ffn1InDxRefIdeal.main_arg1) = m' ((c.tc : Thread Cert.Ffn1InDxRefIdeal.nD Cert.Ffn1InDxRefIdeal.τ).loc Cert.Ffn1InDxRefIdeal.main_arg1))

def preserves_Ffn1InDw_Ffn1InDwIdeal : Prop :=
  True

def algebraic_Ffn1InDwIdeal_Ffn1InDwRefIdeal [hFfn1InDwIdeal : Cert.Ffn1InDwIdeal.Facts] [hFfn1InDwRefIdeal : Cert.Ffn1InDwRefIdeal.Facts] : Prop :=
  ∀ (m : (ℓ : Loc Cert.Ffn1InDwIdeal.nD Cert.Ffn1InDwIdeal.τ Cert.Ffn1InDwIdeal.sig) → Buf (Elt Ideal) ℓ) (g : Dev Cert.Ffn1InDwIdeal.nD → PrngReg)
    (m' : (ℓ : Loc Cert.Ffn1InDwRefIdeal.nD Cert.Ffn1InDwRefIdeal.τ Cert.Ffn1InDwRefIdeal.sig) → Buf (Elt Ideal) ℓ) (g' : Dev Cert.Ffn1InDwRefIdeal.nD → PrngReg), Pre_Ffn1InDwIdeal m →
    (∀ c : Dev Cert.Ffn1InDwIdeal.nD,
      m' ((c.tc : Thread Cert.Ffn1InDwRefIdeal.nD Cert.Ffn1InDwRefIdeal.τ).loc Cert.Ffn1InDwRefIdeal.main_arg0) = m ((c.tc : Thread Cert.Ffn1InDwIdeal.nD Cert.Ffn1InDwIdeal.τ).loc Cert.Ffn1InDwIdeal.main_arg0)
      ∧ m' ((c.tc : Thread Cert.Ffn1InDwRefIdeal.nD Cert.Ffn1InDwRefIdeal.τ).loc Cert.Ffn1InDwRefIdeal.main_arg1) = m ((c.tc : Thread Cert.Ffn1InDwIdeal.nD Cert.Ffn1InDwIdeal.τ).loc Cert.Ffn1InDwIdeal.main_arg1)) →
    ∃ (v0 : (c : Dev Cert.Ffn1InDwIdeal.nD) → Buf (Elt Ideal) ((c.tc : Thread Cert.Ffn1InDwIdeal.nD Cert.Ffn1InDwIdeal.τ).loc Cert.Ffn1InDwIdeal.main_v2)),
      θ_run (Cert.Ffn1InDwIdeal.defs (F := Ideal)) (onTc (τ := Cert.Ffn1InDwIdeal.τ) (Cert.Ffn1InDwIdeal.main (F := Ideal))) ⟨m, fun _ => 0, g⟩ (fun r => ∀ c : Dev Cert.Ffn1InDwIdeal.nD,
          r.2.mem ((c.tc : Thread Cert.Ffn1InDwIdeal.nD Cert.Ffn1InDwIdeal.τ).loc Cert.Ffn1InDwIdeal.main_v2) = v0 c
          ∧ r.2.mem ((c.tc : Thread Cert.Ffn1InDwIdeal.nD Cert.Ffn1InDwIdeal.τ).loc Cert.Ffn1InDwIdeal.main_arg0) = m ((c.tc : Thread Cert.Ffn1InDwIdeal.nD Cert.Ffn1InDwIdeal.τ).loc Cert.Ffn1InDwIdeal.main_arg0)
          ∧ r.2.mem ((c.tc : Thread Cert.Ffn1InDwIdeal.nD Cert.Ffn1InDwIdeal.τ).loc Cert.Ffn1InDwIdeal.main_arg1) = m ((c.tc : Thread Cert.Ffn1InDwIdeal.nD Cert.Ffn1InDwIdeal.τ).loc Cert.Ffn1InDwIdeal.main_arg1))
      ∧ θ_run (Cert.Ffn1InDwRefIdeal.defs (F := Ideal)) (onTc (τ := Cert.Ffn1InDwRefIdeal.τ) (Cert.Ffn1InDwRefIdeal.main (F := Ideal))) ⟨m', fun _ => 0, g'⟩ (fun r => ∀ c : Dev Cert.Ffn1InDwRefIdeal.nD,
          r.2.mem ((c.tc : Thread Cert.Ffn1InDwRefIdeal.nD Cert.Ffn1InDwRefIdeal.τ).loc Cert.Ffn1InDwRefIdeal.main_v11) = v0 c
          ∧ r.2.mem ((c.tc : Thread Cert.Ffn1InDwRefIdeal.nD Cert.Ffn1InDwRefIdeal.τ).loc Cert.Ffn1InDwRefIdeal.main_arg0) = m' ((c.tc : Thread Cert.Ffn1InDwRefIdeal.nD Cert.Ffn1InDwRefIdeal.τ).loc Cert.Ffn1InDwRefIdeal.main_arg0)
          ∧ r.2.mem ((c.tc : Thread Cert.Ffn1InDwRefIdeal.nD Cert.Ffn1InDwRefIdeal.τ).loc Cert.Ffn1InDwRefIdeal.main_arg1) = m' ((c.tc : Thread Cert.Ffn1InDwRefIdeal.nD Cert.Ffn1InDwRefIdeal.τ).loc Cert.Ffn1InDwRefIdeal.main_arg1))

def preserves_Ffn1OutDw_Ffn1OutDwIdeal : Prop :=
  True

def algebraic_Ffn1OutDwIdeal_Ffn1OutDwRefIdeal [hFfn1OutDwIdeal : Cert.Ffn1OutDwIdeal.Facts] [hFfn1OutDwRefIdeal : Cert.Ffn1OutDwRefIdeal.Facts] : Prop :=
  ∀ (m : (ℓ : Loc Cert.Ffn1OutDwIdeal.nD Cert.Ffn1OutDwIdeal.τ Cert.Ffn1OutDwIdeal.sig) → Buf (Elt Ideal) ℓ) (g : Dev Cert.Ffn1OutDwIdeal.nD → PrngReg)
    (m' : (ℓ : Loc Cert.Ffn1OutDwRefIdeal.nD Cert.Ffn1OutDwRefIdeal.τ Cert.Ffn1OutDwRefIdeal.sig) → Buf (Elt Ideal) ℓ) (g' : Dev Cert.Ffn1OutDwRefIdeal.nD → PrngReg), Pre_Ffn1OutDwIdeal m →
    (∀ c : Dev Cert.Ffn1OutDwIdeal.nD,
      m' ((c.tc : Thread Cert.Ffn1OutDwRefIdeal.nD Cert.Ffn1OutDwRefIdeal.τ).loc Cert.Ffn1OutDwRefIdeal.main_arg0) = m ((c.tc : Thread Cert.Ffn1OutDwIdeal.nD Cert.Ffn1OutDwIdeal.τ).loc Cert.Ffn1OutDwIdeal.main_arg0)
      ∧ m' ((c.tc : Thread Cert.Ffn1OutDwRefIdeal.nD Cert.Ffn1OutDwRefIdeal.τ).loc Cert.Ffn1OutDwRefIdeal.main_arg1) = m ((c.tc : Thread Cert.Ffn1OutDwIdeal.nD Cert.Ffn1OutDwIdeal.τ).loc Cert.Ffn1OutDwIdeal.main_arg1)) →
    ∃ (v0 : (c : Dev Cert.Ffn1OutDwIdeal.nD) → Buf (Elt Ideal) ((c.tc : Thread Cert.Ffn1OutDwIdeal.nD Cert.Ffn1OutDwIdeal.τ).loc Cert.Ffn1OutDwIdeal.main_v3)),
      θ_run (Cert.Ffn1OutDwIdeal.defs (F := Ideal)) (onTc (τ := Cert.Ffn1OutDwIdeal.τ) (Cert.Ffn1OutDwIdeal.main (F := Ideal))) ⟨m, fun _ => 0, g⟩ (fun r => ∀ c : Dev Cert.Ffn1OutDwIdeal.nD,
          r.2.mem ((c.tc : Thread Cert.Ffn1OutDwIdeal.nD Cert.Ffn1OutDwIdeal.τ).loc Cert.Ffn1OutDwIdeal.main_v3) = v0 c
          ∧ r.2.mem ((c.tc : Thread Cert.Ffn1OutDwIdeal.nD Cert.Ffn1OutDwIdeal.τ).loc Cert.Ffn1OutDwIdeal.main_arg0) = m ((c.tc : Thread Cert.Ffn1OutDwIdeal.nD Cert.Ffn1OutDwIdeal.τ).loc Cert.Ffn1OutDwIdeal.main_arg0)
          ∧ r.2.mem ((c.tc : Thread Cert.Ffn1OutDwIdeal.nD Cert.Ffn1OutDwIdeal.τ).loc Cert.Ffn1OutDwIdeal.main_arg1) = m ((c.tc : Thread Cert.Ffn1OutDwIdeal.nD Cert.Ffn1OutDwIdeal.τ).loc Cert.Ffn1OutDwIdeal.main_arg1))
      ∧ θ_run (Cert.Ffn1OutDwRefIdeal.defs (F := Ideal)) (onTc (τ := Cert.Ffn1OutDwRefIdeal.τ) (Cert.Ffn1OutDwRefIdeal.main (F := Ideal))) ⟨m', fun _ => 0, g'⟩ (fun r => ∀ c : Dev Cert.Ffn1OutDwRefIdeal.nD,
          r.2.mem ((c.tc : Thread Cert.Ffn1OutDwRefIdeal.nD Cert.Ffn1OutDwRefIdeal.τ).loc Cert.Ffn1OutDwRefIdeal.main_v4) = v0 c
          ∧ r.2.mem ((c.tc : Thread Cert.Ffn1OutDwRefIdeal.nD Cert.Ffn1OutDwRefIdeal.τ).loc Cert.Ffn1OutDwRefIdeal.main_arg0) = m' ((c.tc : Thread Cert.Ffn1OutDwRefIdeal.nD Cert.Ffn1OutDwRefIdeal.τ).loc Cert.Ffn1OutDwRefIdeal.main_arg0)
          ∧ r.2.mem ((c.tc : Thread Cert.Ffn1OutDwRefIdeal.nD Cert.Ffn1OutDwRefIdeal.τ).loc Cert.Ffn1OutDwRefIdeal.main_arg1) = m' ((c.tc : Thread Cert.Ffn1OutDwRefIdeal.nD Cert.Ffn1OutDwRefIdeal.τ).loc Cert.Ffn1OutDwRefIdeal.main_arg1))

def preserves_MixInDx_MixInDxIdeal : Prop :=
  True

def algebraic_MixInDxIdeal_MixInDxRefIdeal [hMixInDxIdeal : Cert.MixInDxIdeal.Facts] [hMixInDxRefIdeal : Cert.MixInDxRefIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg)
    (m' : (ℓ : Loc Cert.MixInDxRefIdeal.nD Cert.MixInDxRefIdeal.τ Cert.MixInDxRefIdeal.sig) → Buf (Elt Ideal) ℓ) (g' : Dev Cert.MixInDxRefIdeal.nD → PrngReg), Pre_MixInDxIdeal m →
    (∀ c : Dev Cert.MixInDxIdeal.nD,
      m' ((c.tc : Thread Cert.MixInDxRefIdeal.nD Cert.MixInDxRefIdeal.τ).loc Cert.MixInDxRefIdeal.main_arg0) = m ((c.tc : Thread Cert.MixInDxIdeal.nD Cert.MixInDxIdeal.τ).loc Cert.MixInDxIdeal.main_arg0)
      ∧ m' ((c.tc : Thread Cert.MixInDxRefIdeal.nD Cert.MixInDxRefIdeal.τ).loc Cert.MixInDxRefIdeal.main_arg1) = m ((c.tc : Thread Cert.MixInDxIdeal.nD Cert.MixInDxIdeal.τ).loc Cert.MixInDxIdeal.main_arg1)) →
    ∃ (v0 : (c : Dev Cert.MixInDxIdeal.nD) → Buf (Elt Ideal) ((c.tc : Thread Cert.MixInDxIdeal.nD Cert.MixInDxIdeal.τ).loc Cert.MixInDxIdeal.main_v2)),
      θ_run (Cert.MixInDxIdeal.defs (F := Ideal)) (onTc (τ := Cert.MixInDxIdeal.τ) (Cert.MixInDxIdeal.main (F := Ideal))) ⟨m, fun _ => 0, g⟩ (fun r => ∀ c : Dev Cert.MixInDxIdeal.nD,
          r.2.mem ((c.tc : Thread Cert.MixInDxIdeal.nD Cert.MixInDxIdeal.τ).loc Cert.MixInDxIdeal.main_v2) = v0 c
          ∧ r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
          ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1))
      ∧ θ_run (Cert.MixInDxRefIdeal.defs (F := Ideal)) (onTc (τ := Cert.MixInDxRefIdeal.τ) (Cert.MixInDxRefIdeal.main (F := Ideal))) ⟨m', fun _ => 0, g'⟩ (fun r => ∀ c : Dev Cert.MixInDxRefIdeal.nD,
          r.2.mem ((c.tc : Thread Cert.MixInDxRefIdeal.nD Cert.MixInDxRefIdeal.τ).loc Cert.MixInDxRefIdeal.main_v2) = v0 c
          ∧ r.2.mem ((c.tc : Thread Cert.MixInDxRefIdeal.nD Cert.MixInDxRefIdeal.τ).loc Cert.MixInDxRefIdeal.main_arg0) = m' ((c.tc : Thread Cert.MixInDxRefIdeal.nD Cert.MixInDxRefIdeal.τ).loc Cert.MixInDxRefIdeal.main_arg0)
          ∧ r.2.mem ((c.tc : Thread Cert.MixInDxRefIdeal.nD Cert.MixInDxRefIdeal.τ).loc Cert.MixInDxRefIdeal.main_arg1) = m' ((c.tc : Thread Cert.MixInDxRefIdeal.nD Cert.MixInDxRefIdeal.τ).loc Cert.MixInDxRefIdeal.main_arg1))

def preserves_MixInDw_MixInDwIdeal : Prop :=
  True

def algebraic_MixInDwIdeal_MixInDwRefIdeal [hMixInDwIdeal : Cert.MixInDwIdeal.Facts] [hMixInDwRefIdeal : Cert.MixInDwRefIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg)
    (m' : (ℓ : Loc Cert.MixInDwRefIdeal.nD Cert.MixInDwRefIdeal.τ Cert.MixInDwRefIdeal.sig) → Buf (Elt Ideal) ℓ) (g' : Dev Cert.MixInDwRefIdeal.nD → PrngReg), Pre_MixInDwIdeal m →
    (∀ c : Dev Cert.MixInDwIdeal.nD,
      m' ((c.tc : Thread Cert.MixInDwRefIdeal.nD Cert.MixInDwRefIdeal.τ).loc Cert.MixInDwRefIdeal.main_arg0) = m ((c.tc : Thread Cert.MixInDwIdeal.nD Cert.MixInDwIdeal.τ).loc Cert.MixInDwIdeal.main_arg0)
      ∧ m' ((c.tc : Thread Cert.MixInDwRefIdeal.nD Cert.MixInDwRefIdeal.τ).loc Cert.MixInDwRefIdeal.main_arg1) = m ((c.tc : Thread Cert.MixInDwIdeal.nD Cert.MixInDwIdeal.τ).loc Cert.MixInDwIdeal.main_arg1)) →
    ∃ (v0 : (c : Dev Cert.MixInDwIdeal.nD) → Buf (Elt Ideal) ((c.tc : Thread Cert.MixInDwIdeal.nD Cert.MixInDwIdeal.τ).loc Cert.MixInDwIdeal.main_v2)),
      θ_run (Cert.MixInDwIdeal.defs (F := Ideal)) (onTc (τ := Cert.MixInDwIdeal.τ) (Cert.MixInDwIdeal.main (F := Ideal))) ⟨m, fun _ => 0, g⟩ (fun r => ∀ c : Dev Cert.MixInDwIdeal.nD,
          r.2.mem ((c.tc : Thread Cert.MixInDwIdeal.nD Cert.MixInDwIdeal.τ).loc Cert.MixInDwIdeal.main_v2) = v0 c
          ∧ r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
          ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ θ_run (Cert.MixInDwRefIdeal.defs (F := Ideal)) (onTc (τ := Cert.MixInDwRefIdeal.τ) (Cert.MixInDwRefIdeal.main (F := Ideal))) ⟨m', fun _ => 0, g'⟩ (fun r => ∀ c : Dev Cert.MixInDwRefIdeal.nD,
          r.2.mem ((c.tc : Thread Cert.MixInDwRefIdeal.nD Cert.MixInDwRefIdeal.τ).loc Cert.MixInDwRefIdeal.main_v4) = v0 c
          ∧ r.2.mem ((c.tc : Thread Cert.MixInDwRefIdeal.nD Cert.MixInDwRefIdeal.τ).loc Cert.MixInDwRefIdeal.main_arg0) = m' ((c.tc : Thread Cert.MixInDwRefIdeal.nD Cert.MixInDwRefIdeal.τ).loc Cert.MixInDwRefIdeal.main_arg0)
          ∧ r.2.mem ((c.tc : Thread Cert.MixInDwRefIdeal.nD Cert.MixInDwRefIdeal.τ).loc Cert.MixInDwRefIdeal.main_arg1) = m' ((c.tc : Thread Cert.MixInDwRefIdeal.nD Cert.MixInDwRefIdeal.τ).loc Cert.MixInDwRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v3)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v3) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v4) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v2)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v2) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v2) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v2)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v2) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v4) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_ProjAttnDx_ProjAttnDxIdeal : Prop :=
  True

def algebraic_ProjAttnDxIdeal_ProjAttnDxRefIdeal [hProjAttnDxIdeal : Cert.ProjAttnDxIdeal.Facts] [hProjAttnDxRefIdeal : Cert.ProjAttnDxRefIdeal.Facts] : Prop :=
  ∀ (m : (ℓ : Loc Cert.ProjAttnDxIdeal.nD Cert.ProjAttnDxIdeal.τ Cert.ProjAttnDxIdeal.sig) → Buf (Elt Ideal) ℓ) (g : Dev Cert.ProjAttnDxIdeal.nD → PrngReg)
    (m' : (ℓ : Loc Cert.ProjAttnDxRefIdeal.nD Cert.ProjAttnDxRefIdeal.τ Cert.ProjAttnDxRefIdeal.sig) → Buf (Elt Ideal) ℓ) (g' : Dev Cert.ProjAttnDxRefIdeal.nD → PrngReg), Pre_ProjAttnDxIdeal m →
    (∀ c : Dev Cert.ProjAttnDxIdeal.nD,
      m' ((c.tc : Thread Cert.ProjAttnDxRefIdeal.nD Cert.ProjAttnDxRefIdeal.τ).loc Cert.ProjAttnDxRefIdeal.main_arg0) = m ((c.tc : Thread Cert.ProjAttnDxIdeal.nD Cert.ProjAttnDxIdeal.τ).loc Cert.ProjAttnDxIdeal.main_arg0)
      ∧ m' ((c.tc : Thread Cert.ProjAttnDxRefIdeal.nD Cert.ProjAttnDxRefIdeal.τ).loc Cert.ProjAttnDxRefIdeal.main_arg1) = m ((c.tc : Thread Cert.ProjAttnDxIdeal.nD Cert.ProjAttnDxIdeal.τ).loc Cert.ProjAttnDxIdeal.main_arg1)) →
    ∃ (v0 : (c : Dev Cert.ProjAttnDxIdeal.nD) → Buf (Elt Ideal) ((c.tc : Thread Cert.ProjAttnDxIdeal.nD Cert.ProjAttnDxIdeal.τ).loc Cert.ProjAttnDxIdeal.main_v2)),
      θ_run (Cert.ProjAttnDxIdeal.defs (F := Ideal)) (onTc (τ := Cert.ProjAttnDxIdeal.τ) (Cert.ProjAttnDxIdeal.main (F := Ideal))) ⟨m, fun _ => 0, g⟩ (fun r => ∀ c : Dev Cert.ProjAttnDxIdeal.nD,
          r.2.mem ((c.tc : Thread Cert.ProjAttnDxIdeal.nD Cert.ProjAttnDxIdeal.τ).loc Cert.ProjAttnDxIdeal.main_v2) = v0 c
          ∧ r.2.mem ((c.tc : Thread Cert.ProjAttnDxIdeal.nD Cert.ProjAttnDxIdeal.τ).loc Cert.ProjAttnDxIdeal.main_arg0) = m ((c.tc : Thread Cert.ProjAttnDxIdeal.nD Cert.ProjAttnDxIdeal.τ).loc Cert.ProjAttnDxIdeal.main_arg0)
          ∧ r.2.mem ((c.tc : Thread Cert.ProjAttnDxIdeal.nD Cert.ProjAttnDxIdeal.τ).loc Cert.ProjAttnDxIdeal.main_arg1) = m ((c.tc : Thread Cert.ProjAttnDxIdeal.nD Cert.ProjAttnDxIdeal.τ).loc Cert.ProjAttnDxIdeal.main_arg1))
      ∧ θ_run (Cert.ProjAttnDxRefIdeal.defs (F := Ideal)) (onTc (τ := Cert.ProjAttnDxRefIdeal.τ) (Cert.ProjAttnDxRefIdeal.main (F := Ideal))) ⟨m', fun _ => 0, g'⟩ (fun r => ∀ c : Dev Cert.ProjAttnDxRefIdeal.nD,
          r.2.mem ((c.tc : Thread Cert.ProjAttnDxRefIdeal.nD Cert.ProjAttnDxRefIdeal.τ).loc Cert.ProjAttnDxRefIdeal.main_v3) = v0 c
          ∧ r.2.mem ((c.tc : Thread Cert.ProjAttnDxRefIdeal.nD Cert.ProjAttnDxRefIdeal.τ).loc Cert.ProjAttnDxRefIdeal.main_arg0) = m' ((c.tc : Thread Cert.ProjAttnDxRefIdeal.nD Cert.ProjAttnDxRefIdeal.τ).loc Cert.ProjAttnDxRefIdeal.main_arg0)
          ∧ r.2.mem ((c.tc : Thread Cert.ProjAttnDxRefIdeal.nD Cert.ProjAttnDxRefIdeal.τ).loc Cert.ProjAttnDxRefIdeal.main_arg1) = m' ((c.tc : Thread Cert.ProjAttnDxRefIdeal.nD Cert.ProjAttnDxRefIdeal.τ).loc Cert.ProjAttnDxRefIdeal.main_arg1))

def preserves_ProjRetDx_ProjRetDxIdeal : Prop :=
  True

def algebraic_ProjRetDxIdeal_ProjRetDxRefIdeal [hProjRetDxIdeal : Cert.ProjRetDxIdeal.Facts] [hProjRetDxRefIdeal : Cert.ProjRetDxRefIdeal.Facts] : Prop :=
  ∀ (m : (ℓ : Loc Cert.ProjRetDxIdeal.nD Cert.ProjRetDxIdeal.τ Cert.ProjRetDxIdeal.sig) → Buf (Elt Ideal) ℓ) (g : Dev Cert.ProjRetDxIdeal.nD → PrngReg)
    (m' : (ℓ : Loc Cert.ProjRetDxRefIdeal.nD Cert.ProjRetDxRefIdeal.τ Cert.ProjRetDxRefIdeal.sig) → Buf (Elt Ideal) ℓ) (g' : Dev Cert.ProjRetDxRefIdeal.nD → PrngReg), Pre_ProjRetDxIdeal m →
    (∀ c : Dev Cert.ProjRetDxIdeal.nD,
      m' ((c.tc : Thread Cert.ProjRetDxRefIdeal.nD Cert.ProjRetDxRefIdeal.τ).loc Cert.ProjRetDxRefIdeal.main_arg0) = m ((c.tc : Thread Cert.ProjRetDxIdeal.nD Cert.ProjRetDxIdeal.τ).loc Cert.ProjRetDxIdeal.main_arg0)
      ∧ m' ((c.tc : Thread Cert.ProjRetDxRefIdeal.nD Cert.ProjRetDxRefIdeal.τ).loc Cert.ProjRetDxRefIdeal.main_arg1) = m ((c.tc : Thread Cert.ProjRetDxIdeal.nD Cert.ProjRetDxIdeal.τ).loc Cert.ProjRetDxIdeal.main_arg1)) →
    ∃ (v0 : (c : Dev Cert.ProjRetDxIdeal.nD) → Buf (Elt Ideal) ((c.tc : Thread Cert.ProjRetDxIdeal.nD Cert.ProjRetDxIdeal.τ).loc Cert.ProjRetDxIdeal.main_v2)),
      θ_run (Cert.ProjRetDxIdeal.defs (F := Ideal)) (onTc (τ := Cert.ProjRetDxIdeal.τ) (Cert.ProjRetDxIdeal.main (F := Ideal))) ⟨m, fun _ => 0, g⟩ (fun r => ∀ c : Dev Cert.ProjRetDxIdeal.nD,
          r.2.mem ((c.tc : Thread Cert.ProjRetDxIdeal.nD Cert.ProjRetDxIdeal.τ).loc Cert.ProjRetDxIdeal.main_v2) = v0 c
          ∧ r.2.mem ((c.tc : Thread Cert.ProjRetDxIdeal.nD Cert.ProjRetDxIdeal.τ).loc Cert.ProjRetDxIdeal.main_arg0) = m ((c.tc : Thread Cert.ProjRetDxIdeal.nD Cert.ProjRetDxIdeal.τ).loc Cert.ProjRetDxIdeal.main_arg0)
          ∧ r.2.mem ((c.tc : Thread Cert.ProjRetDxIdeal.nD Cert.ProjRetDxIdeal.τ).loc Cert.ProjRetDxIdeal.main_arg1) = m ((c.tc : Thread Cert.ProjRetDxIdeal.nD Cert.ProjRetDxIdeal.τ).loc Cert.ProjRetDxIdeal.main_arg1))
      ∧ θ_run (Cert.ProjRetDxRefIdeal.defs (F := Ideal)) (onTc (τ := Cert.ProjRetDxRefIdeal.τ) (Cert.ProjRetDxRefIdeal.main (F := Ideal))) ⟨m', fun _ => 0, g'⟩ (fun r => ∀ c : Dev Cert.ProjRetDxRefIdeal.nD,
          r.2.mem ((c.tc : Thread Cert.ProjRetDxRefIdeal.nD Cert.ProjRetDxRefIdeal.τ).loc Cert.ProjRetDxRefIdeal.main_v2) = v0 c
          ∧ r.2.mem ((c.tc : Thread Cert.ProjRetDxRefIdeal.nD Cert.ProjRetDxRefIdeal.τ).loc Cert.ProjRetDxRefIdeal.main_arg0) = m' ((c.tc : Thread Cert.ProjRetDxRefIdeal.nD Cert.ProjRetDxRefIdeal.τ).loc Cert.ProjRetDxRefIdeal.main_arg0)
          ∧ r.2.mem ((c.tc : Thread Cert.ProjRetDxRefIdeal.nD Cert.ProjRetDxRefIdeal.τ).loc Cert.ProjRetDxRefIdeal.main_arg1) = m' ((c.tc : Thread Cert.ProjRetDxRefIdeal.nD Cert.ProjRetDxRefIdeal.τ).loc Cert.ProjRetDxRefIdeal.main_arg1))

def preserves_Ffn2Out_Ffn2OutIdeal : Prop :=
  True

def algebraic_Ffn2OutIdeal_Ffn2OutRefIdeal [hFfn2OutIdeal : Cert.Ffn2OutIdeal.Facts] [hFfn2OutRefIdeal : Cert.Ffn2OutRefIdeal.Facts] : Prop :=
  ∀ (m : (ℓ : Loc Cert.Ffn2OutIdeal.nD Cert.Ffn2OutIdeal.τ Cert.Ffn2OutIdeal.sig) → Buf (Elt Ideal) ℓ) (g : Dev Cert.Ffn2OutIdeal.nD → PrngReg)
    (m' : (ℓ : Loc Cert.Ffn2OutRefIdeal.nD Cert.Ffn2OutRefIdeal.τ Cert.Ffn2OutRefIdeal.sig) → Buf (Elt Ideal) ℓ) (g' : Dev Cert.Ffn2OutRefIdeal.nD → PrngReg), Pre_Ffn2OutIdeal m →
    (∀ c : Dev Cert.Ffn2OutIdeal.nD,
      m' ((c.tc : Thread Cert.Ffn2OutRefIdeal.nD Cert.Ffn2OutRefIdeal.τ).loc Cert.Ffn2OutRefIdeal.main_arg0) = m ((c.tc : Thread Cert.Ffn2OutIdeal.nD Cert.Ffn2OutIdeal.τ).loc Cert.Ffn2OutIdeal.main_arg0)
      ∧ m' ((c.tc : Thread Cert.Ffn2OutRefIdeal.nD Cert.Ffn2OutRefIdeal.τ).loc Cert.Ffn2OutRefIdeal.main_arg1) = m ((c.tc : Thread Cert.Ffn2OutIdeal.nD Cert.Ffn2OutIdeal.τ).loc Cert.Ffn2OutIdeal.main_arg1)) →
    ∃ (v0 : (c : Dev Cert.Ffn2OutIdeal.nD) → Buf (Elt Ideal) ((c.tc : Thread Cert.Ffn2OutIdeal.nD Cert.Ffn2OutIdeal.τ).loc Cert.Ffn2OutIdeal.main_v2)),
      θ_run (Cert.Ffn2OutIdeal.defs (F := Ideal)) (onTc (τ := Cert.Ffn2OutIdeal.τ) (Cert.Ffn2OutIdeal.main (F := Ideal))) ⟨m, fun _ => 0, g⟩ (fun r => ∀ c : Dev Cert.Ffn2OutIdeal.nD,
          r.2.mem ((c.tc : Thread Cert.Ffn2OutIdeal.nD Cert.Ffn2OutIdeal.τ).loc Cert.Ffn2OutIdeal.main_v2) = v0 c
          ∧ r.2.mem ((c.tc : Thread Cert.Ffn2OutIdeal.nD Cert.Ffn2OutIdeal.τ).loc Cert.Ffn2OutIdeal.main_arg0) = m ((c.tc : Thread Cert.Ffn2OutIdeal.nD Cert.Ffn2OutIdeal.τ).loc Cert.Ffn2OutIdeal.main_arg0)
          ∧ r.2.mem ((c.tc : Thread Cert.Ffn2OutIdeal.nD Cert.Ffn2OutIdeal.τ).loc Cert.Ffn2OutIdeal.main_arg1) = m ((c.tc : Thread Cert.Ffn2OutIdeal.nD Cert.Ffn2OutIdeal.τ).loc Cert.Ffn2OutIdeal.main_arg1))
      ∧ θ_run (Cert.Ffn2OutRefIdeal.defs (F := Ideal)) (onTc (τ := Cert.Ffn2OutRefIdeal.τ) (Cert.Ffn2OutRefIdeal.main (F := Ideal))) ⟨m', fun _ => 0, g'⟩ (fun r => ∀ c : Dev Cert.Ffn2OutRefIdeal.nD,
          r.2.mem ((c.tc : Thread Cert.Ffn2OutRefIdeal.nD Cert.Ffn2OutRefIdeal.τ).loc Cert.Ffn2OutRefIdeal.main_v1) = v0 c
          ∧ r.2.mem ((c.tc : Thread Cert.Ffn2OutRefIdeal.nD Cert.Ffn2OutRefIdeal.τ).loc Cert.Ffn2OutRefIdeal.main_arg0) = m' ((c.tc : Thread Cert.Ffn2OutRefIdeal.nD Cert.Ffn2OutRefIdeal.τ).loc Cert.Ffn2OutRefIdeal.main_arg0)
          ∧ r.2.mem ((c.tc : Thread Cert.Ffn2OutRefIdeal.nD Cert.Ffn2OutRefIdeal.τ).loc Cert.Ffn2OutRefIdeal.main_arg1) = m' ((c.tc : Thread Cert.Ffn2OutRefIdeal.nD Cert.Ffn2OutRefIdeal.τ).loc Cert.Ffn2OutRefIdeal.main_arg1))

def preserves_Ffn1Out_Ffn1OutIdeal : Prop :=
  True

def algebraic_Ffn1OutIdeal_Ffn1OutRefIdeal [hFfn1OutIdeal : Cert.Ffn1OutIdeal.Facts] [hFfn1OutRefIdeal : Cert.Ffn1OutRefIdeal.Facts] : Prop :=
  ∀ (m : (ℓ : Loc Cert.Ffn1OutIdeal.nD Cert.Ffn1OutIdeal.τ Cert.Ffn1OutIdeal.sig) → Buf (Elt Ideal) ℓ) (g : Dev Cert.Ffn1OutIdeal.nD → PrngReg)
    (m' : (ℓ : Loc Cert.Ffn1OutRefIdeal.nD Cert.Ffn1OutRefIdeal.τ Cert.Ffn1OutRefIdeal.sig) → Buf (Elt Ideal) ℓ) (g' : Dev Cert.Ffn1OutRefIdeal.nD → PrngReg), Pre_Ffn1OutIdeal m →
    (∀ c : Dev Cert.Ffn1OutIdeal.nD,
      m' ((c.tc : Thread Cert.Ffn1OutRefIdeal.nD Cert.Ffn1OutRefIdeal.τ).loc Cert.Ffn1OutRefIdeal.main_arg0) = m ((c.tc : Thread Cert.Ffn1OutIdeal.nD Cert.Ffn1OutIdeal.τ).loc Cert.Ffn1OutIdeal.main_arg0)
      ∧ m' ((c.tc : Thread Cert.Ffn1OutRefIdeal.nD Cert.Ffn1OutRefIdeal.τ).loc Cert.Ffn1OutRefIdeal.main_arg1) = m ((c.tc : Thread Cert.Ffn1OutIdeal.nD Cert.Ffn1OutIdeal.τ).loc Cert.Ffn1OutIdeal.main_arg1)) →
    ∃ (v0 : (c : Dev Cert.Ffn1OutIdeal.nD) → Buf (Elt Ideal) ((c.tc : Thread Cert.Ffn1OutIdeal.nD Cert.Ffn1OutIdeal.τ).loc Cert.Ffn1OutIdeal.main_v2)),
      θ_run (Cert.Ffn1OutIdeal.defs (F := Ideal)) (onTc (τ := Cert.Ffn1OutIdeal.τ) (Cert.Ffn1OutIdeal.main (F := Ideal))) ⟨m, fun _ => 0, g⟩ (fun r => ∀ c : Dev Cert.Ffn1OutIdeal.nD,
          r.2.mem ((c.tc : Thread Cert.Ffn1OutIdeal.nD Cert.Ffn1OutIdeal.τ).loc Cert.Ffn1OutIdeal.main_v2) = v0 c
          ∧ r.2.mem ((c.tc : Thread Cert.Ffn1OutIdeal.nD Cert.Ffn1OutIdeal.τ).loc Cert.Ffn1OutIdeal.main_arg0) = m ((c.tc : Thread Cert.Ffn1OutIdeal.nD Cert.Ffn1OutIdeal.τ).loc Cert.Ffn1OutIdeal.main_arg0)
          ∧ r.2.mem ((c.tc : Thread Cert.Ffn1OutIdeal.nD Cert.Ffn1OutIdeal.τ).loc Cert.Ffn1OutIdeal.main_arg1) = m ((c.tc : Thread Cert.Ffn1OutIdeal.nD Cert.Ffn1OutIdeal.τ).loc Cert.Ffn1OutIdeal.main_arg1))
      ∧ θ_run (Cert.Ffn1OutRefIdeal.defs (F := Ideal)) (onTc (τ := Cert.Ffn1OutRefIdeal.τ) (Cert.Ffn1OutRefIdeal.main (F := Ideal))) ⟨m', fun _ => 0, g'⟩ (fun r => ∀ c : Dev Cert.Ffn1OutRefIdeal.nD,
          r.2.mem ((c.tc : Thread Cert.Ffn1OutRefIdeal.nD Cert.Ffn1OutRefIdeal.τ).loc Cert.Ffn1OutRefIdeal.main_v1) = v0 c
          ∧ r.2.mem ((c.tc : Thread Cert.Ffn1OutRefIdeal.nD Cert.Ffn1OutRefIdeal.τ).loc Cert.Ffn1OutRefIdeal.main_arg0) = m' ((c.tc : Thread Cert.Ffn1OutRefIdeal.nD Cert.Ffn1OutRefIdeal.τ).loc Cert.Ffn1OutRefIdeal.main_arg0)
          ∧ r.2.mem ((c.tc : Thread Cert.Ffn1OutRefIdeal.nD Cert.Ffn1OutRefIdeal.τ).loc Cert.Ffn1OutRefIdeal.main_arg1) = m' ((c.tc : Thread Cert.Ffn1OutRefIdeal.nD Cert.Ffn1OutRefIdeal.τ).loc Cert.Ffn1OutRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v1) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Ffn2GateGrad_Ffn2GateGradIdeal : Prop :=
  True

def algebraic_Ffn2GateGradIdeal_Ffn2GateGradRefIdeal [hFfn2GateGradIdeal : Cert.Ffn2GateGradIdeal.Facts] [hFfn2GateGradRefIdeal : Cert.Ffn2GateGradRefIdeal.Facts] : Prop :=
  ∀ (m : (ℓ : Loc Cert.Ffn2GateGradIdeal.nD Cert.Ffn2GateGradIdeal.τ Cert.Ffn2GateGradIdeal.sig) → Buf (Elt Ideal) ℓ) (g : Dev Cert.Ffn2GateGradIdeal.nD → PrngReg)
    (m' : (ℓ : Loc Cert.Ffn2GateGradRefIdeal.nD Cert.Ffn2GateGradRefIdeal.τ Cert.Ffn2GateGradRefIdeal.sig) → Buf (Elt Ideal) ℓ) (g' : Dev Cert.Ffn2GateGradRefIdeal.nD → PrngReg), Pre_Ffn2GateGradIdeal m →
    (∀ c : Dev Cert.Ffn2GateGradIdeal.nD,
      m' ((c.tc : Thread Cert.Ffn2GateGradRefIdeal.nD Cert.Ffn2GateGradRefIdeal.τ).loc Cert.Ffn2GateGradRefIdeal.main_arg0) = m ((c.tc : Thread Cert.Ffn2GateGradIdeal.nD Cert.Ffn2GateGradIdeal.τ).loc Cert.Ffn2GateGradIdeal.main_arg0)
      ∧ m' ((c.tc : Thread Cert.Ffn2GateGradRefIdeal.nD Cert.Ffn2GateGradRefIdeal.τ).loc Cert.Ffn2GateGradRefIdeal.main_arg1) = m ((c.tc : Thread Cert.Ffn2GateGradIdeal.nD Cert.Ffn2GateGradIdeal.τ).loc Cert.Ffn2GateGradIdeal.main_arg1)
      ∧ m' ((c.tc : Thread Cert.Ffn2GateGradRefIdeal.nD Cert.Ffn2GateGradRefIdeal.τ).loc Cert.Ffn2GateGradRefIdeal.main_arg2) = m ((c.tc : Thread Cert.Ffn2GateGradIdeal.nD Cert.Ffn2GateGradIdeal.τ).loc Cert.Ffn2GateGradIdeal.main_arg2)
      ∧ m' ((c.tc : Thread Cert.Ffn2GateGradRefIdeal.nD Cert.Ffn2GateGradRefIdeal.τ).loc Cert.Ffn2GateGradRefIdeal.main_arg3) = m ((c.tc : Thread Cert.Ffn2GateGradIdeal.nD Cert.Ffn2GateGradIdeal.τ).loc Cert.Ffn2GateGradIdeal.main_arg3)) →
    ∃ (v0 : (c : Dev Cert.Ffn2GateGradIdeal.nD) → Buf (Elt Ideal) ((c.tc : Thread Cert.Ffn2GateGradIdeal.nD Cert.Ffn2GateGradIdeal.τ).loc Cert.Ffn2GateGradIdeal.main_v4)),
      θ_run (Cert.Ffn2GateGradIdeal.defs (F := Ideal)) (onTc (τ := Cert.Ffn2GateGradIdeal.τ) (Cert.Ffn2GateGradIdeal.main (F := Ideal))) ⟨m, fun _ => 0, g⟩ (fun r => ∀ c : Dev Cert.Ffn2GateGradIdeal.nD,
          r.2.mem ((c.tc : Thread Cert.Ffn2GateGradIdeal.nD Cert.Ffn2GateGradIdeal.τ).loc Cert.Ffn2GateGradIdeal.main_v4) = v0 c
          ∧ r.2.mem ((c.tc : Thread Cert.Ffn2GateGradIdeal.nD Cert.Ffn2GateGradIdeal.τ).loc Cert.Ffn2GateGradIdeal.main_arg0) = m ((c.tc : Thread Cert.Ffn2GateGradIdeal.nD Cert.Ffn2GateGradIdeal.τ).loc Cert.Ffn2GateGradIdeal.main_arg0)
          ∧ r.2.mem ((c.tc : Thread Cert.Ffn2GateGradIdeal.nD Cert.Ffn2GateGradIdeal.τ).loc Cert.Ffn2GateGradIdeal.main_arg1) = m ((c.tc : Thread Cert.Ffn2GateGradIdeal.nD Cert.Ffn2GateGradIdeal.τ).loc Cert.Ffn2GateGradIdeal.main_arg1)
          ∧ r.2.mem ((c.tc : Thread Cert.Ffn2GateGradIdeal.nD Cert.Ffn2GateGradIdeal.τ).loc Cert.Ffn2GateGradIdeal.main_arg2) = m ((c.tc : Thread Cert.Ffn2GateGradIdeal.nD Cert.Ffn2GateGradIdeal.τ).loc Cert.Ffn2GateGradIdeal.main_arg2)
          ∧ r.2.mem ((c.tc : Thread Cert.Ffn2GateGradIdeal.nD Cert.Ffn2GateGradIdeal.τ).loc Cert.Ffn2GateGradIdeal.main_arg3) = m ((c.tc : Thread Cert.Ffn2GateGradIdeal.nD Cert.Ffn2GateGradIdeal.τ).loc Cert.Ffn2GateGradIdeal.main_arg3))
      ∧ θ_run (Cert.Ffn2GateGradRefIdeal.defs (F := Ideal)) (onTc (τ := Cert.Ffn2GateGradRefIdeal.τ) (Cert.Ffn2GateGradRefIdeal.main (F := Ideal))) ⟨m', fun _ => 0, g'⟩ (fun r => ∀ c : Dev Cert.Ffn2GateGradRefIdeal.nD,
          r.2.mem ((c.tc : Thread Cert.Ffn2GateGradRefIdeal.nD Cert.Ffn2GateGradRefIdeal.τ).loc Cert.Ffn2GateGradRefIdeal.main_v10) = v0 c
          ∧ r.2.mem ((c.tc : Thread Cert.Ffn2GateGradRefIdeal.nD Cert.Ffn2GateGradRefIdeal.τ).loc Cert.Ffn2GateGradRefIdeal.main_arg0) = m' ((c.tc : Thread Cert.Ffn2GateGradRefIdeal.nD Cert.Ffn2GateGradRefIdeal.τ).loc Cert.Ffn2GateGradRefIdeal.main_arg0)
          ∧ r.2.mem ((c.tc : Thread Cert.Ffn2GateGradRefIdeal.nD Cert.Ffn2GateGradRefIdeal.τ).loc Cert.Ffn2GateGradRefIdeal.main_arg1) = m' ((c.tc : Thread Cert.Ffn2GateGradRefIdeal.nD Cert.Ffn2GateGradRefIdeal.τ).loc Cert.Ffn2GateGradRefIdeal.main_arg1)
          ∧ r.2.mem ((c.tc : Thread Cert.Ffn2GateGradRefIdeal.nD Cert.Ffn2GateGradRefIdeal.τ).loc Cert.Ffn2GateGradRefIdeal.main_arg2) = m' ((c.tc : Thread Cert.Ffn2GateGradRefIdeal.nD Cert.Ffn2GateGradRefIdeal.τ).loc Cert.Ffn2GateGradRefIdeal.main_arg2)
          ∧ r.2.mem ((c.tc : Thread Cert.Ffn2GateGradRefIdeal.nD Cert.Ffn2GateGradRefIdeal.τ).loc Cert.Ffn2GateGradRefIdeal.main_arg3) = m' ((c.tc : Thread Cert.Ffn2GateGradRefIdeal.nD Cert.Ffn2GateGradRefIdeal.τ).loc Cert.Ffn2GateGradRefIdeal.main_arg3))

def preserves_Ffn1GateGrad_Ffn1GateGradIdeal : Prop :=
  True

def algebraic_Ffn1GateGradIdeal_Ffn1GateGradRefIdeal [hFfn1GateGradIdeal : Cert.Ffn1GateGradIdeal.Facts] [hFfn1GateGradRefIdeal : Cert.Ffn1GateGradRefIdeal.Facts] : Prop :=
  ∀ (m : (ℓ : Loc Cert.Ffn1GateGradIdeal.nD Cert.Ffn1GateGradIdeal.τ Cert.Ffn1GateGradIdeal.sig) → Buf (Elt Ideal) ℓ) (g : Dev Cert.Ffn1GateGradIdeal.nD → PrngReg)
    (m' : (ℓ : Loc Cert.Ffn1GateGradRefIdeal.nD Cert.Ffn1GateGradRefIdeal.τ Cert.Ffn1GateGradRefIdeal.sig) → Buf (Elt Ideal) ℓ) (g' : Dev Cert.Ffn1GateGradRefIdeal.nD → PrngReg), Pre_Ffn1GateGradIdeal m →
    (∀ c : Dev Cert.Ffn1GateGradIdeal.nD,
      m' ((c.tc : Thread Cert.Ffn1GateGradRefIdeal.nD Cert.Ffn1GateGradRefIdeal.τ).loc Cert.Ffn1GateGradRefIdeal.main_arg0) = m ((c.tc : Thread Cert.Ffn1GateGradIdeal.nD Cert.Ffn1GateGradIdeal.τ).loc Cert.Ffn1GateGradIdeal.main_arg0)
      ∧ m' ((c.tc : Thread Cert.Ffn1GateGradRefIdeal.nD Cert.Ffn1GateGradRefIdeal.τ).loc Cert.Ffn1GateGradRefIdeal.main_arg1) = m ((c.tc : Thread Cert.Ffn1GateGradIdeal.nD Cert.Ffn1GateGradIdeal.τ).loc Cert.Ffn1GateGradIdeal.main_arg1)
      ∧ m' ((c.tc : Thread Cert.Ffn1GateGradRefIdeal.nD Cert.Ffn1GateGradRefIdeal.τ).loc Cert.Ffn1GateGradRefIdeal.main_arg2) = m ((c.tc : Thread Cert.Ffn1GateGradIdeal.nD Cert.Ffn1GateGradIdeal.τ).loc Cert.Ffn1GateGradIdeal.main_arg2)
      ∧ m' ((c.tc : Thread Cert.Ffn1GateGradRefIdeal.nD Cert.Ffn1GateGradRefIdeal.τ).loc Cert.Ffn1GateGradRefIdeal.main_arg3) = m ((c.tc : Thread Cert.Ffn1GateGradIdeal.nD Cert.Ffn1GateGradIdeal.τ).loc Cert.Ffn1GateGradIdeal.main_arg3)) →
    ∃ (v0 : (c : Dev Cert.Ffn1GateGradIdeal.nD) → Buf (Elt Ideal) ((c.tc : Thread Cert.Ffn1GateGradIdeal.nD Cert.Ffn1GateGradIdeal.τ).loc Cert.Ffn1GateGradIdeal.main_v5)),
      θ_run (Cert.Ffn1GateGradIdeal.defs (F := Ideal)) (onTc (τ := Cert.Ffn1GateGradIdeal.τ) (Cert.Ffn1GateGradIdeal.main (F := Ideal))) ⟨m, fun _ => 0, g⟩ (fun r => ∀ c : Dev Cert.Ffn1GateGradIdeal.nD,
          r.2.mem ((c.tc : Thread Cert.Ffn1GateGradIdeal.nD Cert.Ffn1GateGradIdeal.τ).loc Cert.Ffn1GateGradIdeal.main_v5) = v0 c
          ∧ r.2.mem ((c.tc : Thread Cert.Ffn1GateGradIdeal.nD Cert.Ffn1GateGradIdeal.τ).loc Cert.Ffn1GateGradIdeal.main_arg0) = m ((c.tc : Thread Cert.Ffn1GateGradIdeal.nD Cert.Ffn1GateGradIdeal.τ).loc Cert.Ffn1GateGradIdeal.main_arg0)
          ∧ r.2.mem ((c.tc : Thread Cert.Ffn1GateGradIdeal.nD Cert.Ffn1GateGradIdeal.τ).loc Cert.Ffn1GateGradIdeal.main_arg1) = m ((c.tc : Thread Cert.Ffn1GateGradIdeal.nD Cert.Ffn1GateGradIdeal.τ).loc Cert.Ffn1GateGradIdeal.main_arg1)
          ∧ r.2.mem ((c.tc : Thread Cert.Ffn1GateGradIdeal.nD Cert.Ffn1GateGradIdeal.τ).loc Cert.Ffn1GateGradIdeal.main_arg2) = m ((c.tc : Thread Cert.Ffn1GateGradIdeal.nD Cert.Ffn1GateGradIdeal.τ).loc Cert.Ffn1GateGradIdeal.main_arg2)
          ∧ r.2.mem ((c.tc : Thread Cert.Ffn1GateGradIdeal.nD Cert.Ffn1GateGradIdeal.τ).loc Cert.Ffn1GateGradIdeal.main_arg3) = m ((c.tc : Thread Cert.Ffn1GateGradIdeal.nD Cert.Ffn1GateGradIdeal.τ).loc Cert.Ffn1GateGradIdeal.main_arg3))
      ∧ θ_run (Cert.Ffn1GateGradRefIdeal.defs (F := Ideal)) (onTc (τ := Cert.Ffn1GateGradRefIdeal.τ) (Cert.Ffn1GateGradRefIdeal.main (F := Ideal))) ⟨m', fun _ => 0, g'⟩ (fun r => ∀ c : Dev Cert.Ffn1GateGradRefIdeal.nD,
          r.2.mem ((c.tc : Thread Cert.Ffn1GateGradRefIdeal.nD Cert.Ffn1GateGradRefIdeal.τ).loc Cert.Ffn1GateGradRefIdeal.main_v10) = v0 c
          ∧ r.2.mem ((c.tc : Thread Cert.Ffn1GateGradRefIdeal.nD Cert.Ffn1GateGradRefIdeal.τ).loc Cert.Ffn1GateGradRefIdeal.main_arg0) = m' ((c.tc : Thread Cert.Ffn1GateGradRefIdeal.nD Cert.Ffn1GateGradRefIdeal.τ).loc Cert.Ffn1GateGradRefIdeal.main_arg0)
          ∧ r.2.mem ((c.tc : Thread Cert.Ffn1GateGradRefIdeal.nD Cert.Ffn1GateGradRefIdeal.τ).loc Cert.Ffn1GateGradRefIdeal.main_arg1) = m' ((c.tc : Thread Cert.Ffn1GateGradRefIdeal.nD Cert.Ffn1GateGradRefIdeal.τ).loc Cert.Ffn1GateGradRefIdeal.main_arg1)
          ∧ r.2.mem ((c.tc : Thread Cert.Ffn1GateGradRefIdeal.nD Cert.Ffn1GateGradRefIdeal.τ).loc Cert.Ffn1GateGradRefIdeal.main_arg2) = m' ((c.tc : Thread Cert.Ffn1GateGradRefIdeal.nD Cert.Ffn1GateGradRefIdeal.τ).loc Cert.Ffn1GateGradRefIdeal.main_arg2)
          ∧ r.2.mem ((c.tc : Thread Cert.Ffn1GateGradRefIdeal.nD Cert.Ffn1GateGradRefIdeal.τ).loc Cert.Ffn1GateGradRefIdeal.main_arg3) = m' ((c.tc : Thread Cert.Ffn1GateGradRefIdeal.nD Cert.Ffn1GateGradRefIdeal.τ).loc Cert.Ffn1GateGradRefIdeal.main_arg3))

def preserves_Ffn2In_Ffn2InIdeal : Prop :=
  True

def algebraic_Ffn2InIdeal_Ffn2InRefIdeal [hFfn2InIdeal : Cert.Ffn2InIdeal.Facts] [hFfn2InRefIdeal : Cert.Ffn2InRefIdeal.Facts] : Prop :=
  ∀ (m : (ℓ : Loc Cert.Ffn2InIdeal.nD Cert.Ffn2InIdeal.τ Cert.Ffn2InIdeal.sig) → Buf (Elt Ideal) ℓ) (g : Dev Cert.Ffn2InIdeal.nD → PrngReg)
    (m' : (ℓ : Loc Cert.Ffn2InRefIdeal.nD Cert.Ffn2InRefIdeal.τ Cert.Ffn2InRefIdeal.sig) → Buf (Elt Ideal) ℓ) (g' : Dev Cert.Ffn2InRefIdeal.nD → PrngReg), Pre_Ffn2InIdeal m →
    (∀ c : Dev Cert.Ffn2InIdeal.nD,
      m' ((c.tc : Thread Cert.Ffn2InRefIdeal.nD Cert.Ffn2InRefIdeal.τ).loc Cert.Ffn2InRefIdeal.main_arg0) = m ((c.tc : Thread Cert.Ffn2InIdeal.nD Cert.Ffn2InIdeal.τ).loc Cert.Ffn2InIdeal.main_arg0)
      ∧ m' ((c.tc : Thread Cert.Ffn2InRefIdeal.nD Cert.Ffn2InRefIdeal.τ).loc Cert.Ffn2InRefIdeal.main_arg1) = m ((c.tc : Thread Cert.Ffn2InIdeal.nD Cert.Ffn2InIdeal.τ).loc Cert.Ffn2InIdeal.main_arg1)) →
    ∃ (v0 : (c : Dev Cert.Ffn2InIdeal.nD) → Buf (Elt Ideal) ((c.tc : Thread Cert.Ffn2InIdeal.nD Cert.Ffn2InIdeal.τ).loc Cert.Ffn2InIdeal.main_v2_0)) (v1 : (c : Dev Cert.Ffn2InIdeal.nD) → Buf (Elt Ideal) ((c.tc : Thread Cert.Ffn2InIdeal.nD Cert.Ffn2InIdeal.τ).loc Cert.Ffn2InIdeal.main_v2_1)) (v2 : (c : Dev Cert.Ffn2InIdeal.nD) → Buf (Elt Ideal) ((c.tc : Thread Cert.Ffn2InIdeal.nD Cert.Ffn2InIdeal.τ).loc Cert.Ffn2InIdeal.main_v2_2)),
      θ_run (Cert.Ffn2InIdeal.defs (F := Ideal)) (onTc (τ := Cert.Ffn2InIdeal.τ) (Cert.Ffn2InIdeal.main (F := Ideal))) ⟨m, fun _ => 0, g⟩ (fun r => ∀ c : Dev Cert.Ffn2InIdeal.nD,
          r.2.mem ((c.tc : Thread Cert.Ffn2InIdeal.nD Cert.Ffn2InIdeal.τ).loc Cert.Ffn2InIdeal.main_v2_0) = v0 c
          ∧ r.2.mem ((c.tc : Thread Cert.Ffn2InIdeal.nD Cert.Ffn2InIdeal.τ).loc Cert.Ffn2InIdeal.main_v2_1) = v1 c
          ∧ r.2.mem ((c.tc : Thread Cert.Ffn2InIdeal.nD Cert.Ffn2InIdeal.τ).loc Cert.Ffn2InIdeal.main_v2_2) = v2 c
          ∧ r.2.mem ((c.tc : Thread Cert.Ffn2InIdeal.nD Cert.Ffn2InIdeal.τ).loc Cert.Ffn2InIdeal.main_arg0) = m ((c.tc : Thread Cert.Ffn2InIdeal.nD Cert.Ffn2InIdeal.τ).loc Cert.Ffn2InIdeal.main_arg0)
          ∧ r.2.mem ((c.tc : Thread Cert.Ffn2InIdeal.nD Cert.Ffn2InIdeal.τ).loc Cert.Ffn2InIdeal.main_arg1) = m ((c.tc : Thread Cert.Ffn2InIdeal.nD Cert.Ffn2InIdeal.τ).loc Cert.Ffn2InIdeal.main_arg1))
      ∧ θ_run (Cert.Ffn2InRefIdeal.defs (F := Ideal)) (onTc (τ := Cert.Ffn2InRefIdeal.τ) (Cert.Ffn2InRefIdeal.main (F := Ideal))) ⟨m', fun _ => 0, g'⟩ (fun r => ∀ c : Dev Cert.Ffn2InRefIdeal.nD,
          r.2.mem ((c.tc : Thread Cert.Ffn2InRefIdeal.nD Cert.Ffn2InRefIdeal.τ).loc Cert.Ffn2InRefIdeal.main_v5) = v0 c
          ∧ r.2.mem ((c.tc : Thread Cert.Ffn2InRefIdeal.nD Cert.Ffn2InRefIdeal.τ).loc Cert.Ffn2InRefIdeal.main_v6) = v1 c
          ∧ r.2.mem ((c.tc : Thread Cert.Ffn2InRefIdeal.nD Cert.Ffn2InRefIdeal.τ).loc Cert.Ffn2InRefIdeal.main_v7) = v2 c
          ∧ r.2.mem ((c.tc : Thread Cert.Ffn2InRefIdeal.nD Cert.Ffn2InRefIdeal.τ).loc Cert.Ffn2InRefIdeal.main_arg0) = m' ((c.tc : Thread Cert.Ffn2InRefIdeal.nD Cert.Ffn2InRefIdeal.τ).loc Cert.Ffn2InRefIdeal.main_arg0)
          ∧ r.2.mem ((c.tc : Thread Cert.Ffn2InRefIdeal.nD Cert.Ffn2InRefIdeal.τ).loc Cert.Ffn2InRefIdeal.main_arg1) = m' ((c.tc : Thread Cert.Ffn2InRefIdeal.nD Cert.Ffn2InRefIdeal.τ).loc Cert.Ffn2InRefIdeal.main_arg1))

def preserves_Ffn1In_Ffn1InIdeal : Prop :=
  True

def algebraic_Ffn1InIdeal_Ffn1InRefIdeal [hFfn1InIdeal : Cert.Ffn1InIdeal.Facts] [hFfn1InRefIdeal : Cert.Ffn1InRefIdeal.Facts] : Prop :=
  ∀ (m : (ℓ : Loc Cert.Ffn1InIdeal.nD Cert.Ffn1InIdeal.τ Cert.Ffn1InIdeal.sig) → Buf (Elt Ideal) ℓ) (g : Dev Cert.Ffn1InIdeal.nD → PrngReg)
    (m' : (ℓ : Loc Cert.Ffn1InRefIdeal.nD Cert.Ffn1InRefIdeal.τ Cert.Ffn1InRefIdeal.sig) → Buf (Elt Ideal) ℓ) (g' : Dev Cert.Ffn1InRefIdeal.nD → PrngReg), Pre_Ffn1InIdeal m →
    (∀ c : Dev Cert.Ffn1InIdeal.nD,
      m' ((c.tc : Thread Cert.Ffn1InRefIdeal.nD Cert.Ffn1InRefIdeal.τ).loc Cert.Ffn1InRefIdeal.main_arg0) = m ((c.tc : Thread Cert.Ffn1InIdeal.nD Cert.Ffn1InIdeal.τ).loc Cert.Ffn1InIdeal.main_arg0)
      ∧ m' ((c.tc : Thread Cert.Ffn1InRefIdeal.nD Cert.Ffn1InRefIdeal.τ).loc Cert.Ffn1InRefIdeal.main_arg1) = m ((c.tc : Thread Cert.Ffn1InIdeal.nD Cert.Ffn1InIdeal.τ).loc Cert.Ffn1InIdeal.main_arg1)) →
    ∃ (v0 : (c : Dev Cert.Ffn1InIdeal.nD) → Buf (Elt Ideal) ((c.tc : Thread Cert.Ffn1InIdeal.nD Cert.Ffn1InIdeal.τ).loc Cert.Ffn1InIdeal.main_v2_0)) (v1 : (c : Dev Cert.Ffn1InIdeal.nD) → Buf (Elt Ideal) ((c.tc : Thread Cert.Ffn1InIdeal.nD Cert.Ffn1InIdeal.τ).loc Cert.Ffn1InIdeal.main_v2_1)) (v2 : (c : Dev Cert.Ffn1InIdeal.nD) → Buf (Elt Ideal) ((c.tc : Thread Cert.Ffn1InIdeal.nD Cert.Ffn1InIdeal.τ).loc Cert.Ffn1InIdeal.main_v2_2)),
      θ_run (Cert.Ffn1InIdeal.defs (F := Ideal)) (onTc (τ := Cert.Ffn1InIdeal.τ) (Cert.Ffn1InIdeal.main (F := Ideal))) ⟨m, fun _ => 0, g⟩ (fun r => ∀ c : Dev Cert.Ffn1InIdeal.nD,
          r.2.mem ((c.tc : Thread Cert.Ffn1InIdeal.nD Cert.Ffn1InIdeal.τ).loc Cert.Ffn1InIdeal.main_v2_0) = v0 c
          ∧ r.2.mem ((c.tc : Thread Cert.Ffn1InIdeal.nD Cert.Ffn1InIdeal.τ).loc Cert.Ffn1InIdeal.main_v2_1) = v1 c
          ∧ r.2.mem ((c.tc : Thread Cert.Ffn1InIdeal.nD Cert.Ffn1InIdeal.τ).loc Cert.Ffn1InIdeal.main_v2_2) = v2 c
          ∧ r.2.mem ((c.tc : Thread Cert.Ffn1InIdeal.nD Cert.Ffn1InIdeal.τ).loc Cert.Ffn1InIdeal.main_arg0) = m ((c.tc : Thread Cert.Ffn1InIdeal.nD Cert.Ffn1InIdeal.τ).loc Cert.Ffn1InIdeal.main_arg0)
          ∧ r.2.mem ((c.tc : Thread Cert.Ffn1InIdeal.nD Cert.Ffn1InIdeal.τ).loc Cert.Ffn1InIdeal.main_arg1) = m ((c.tc : Thread Cert.Ffn1InIdeal.nD Cert.Ffn1InIdeal.τ).loc Cert.Ffn1InIdeal.main_arg1))
      ∧ θ_run (Cert.Ffn1InRefIdeal.defs (F := Ideal)) (onTc (τ := Cert.Ffn1InRefIdeal.τ) (Cert.Ffn1InRefIdeal.main (F := Ideal))) ⟨m', fun _ => 0, g'⟩ (fun r => ∀ c : Dev Cert.Ffn1InRefIdeal.nD,
          r.2.mem ((c.tc : Thread Cert.Ffn1InRefIdeal.nD Cert.Ffn1InRefIdeal.τ).loc Cert.Ffn1InRefIdeal.main_v5) = v0 c
          ∧ r.2.mem ((c.tc : Thread Cert.Ffn1InRefIdeal.nD Cert.Ffn1InRefIdeal.τ).loc Cert.Ffn1InRefIdeal.main_v6) = v1 c
          ∧ r.2.mem ((c.tc : Thread Cert.Ffn1InRefIdeal.nD Cert.Ffn1InRefIdeal.τ).loc Cert.Ffn1InRefIdeal.main_v7) = v2 c
          ∧ r.2.mem ((c.tc : Thread Cert.Ffn1InRefIdeal.nD Cert.Ffn1InRefIdeal.τ).loc Cert.Ffn1InRefIdeal.main_arg0) = m' ((c.tc : Thread Cert.Ffn1InRefIdeal.nD Cert.Ffn1InRefIdeal.τ).loc Cert.Ffn1InRefIdeal.main_arg0)
          ∧ r.2.mem ((c.tc : Thread Cert.Ffn1InRefIdeal.nD Cert.Ffn1InRefIdeal.τ).loc Cert.Ffn1InRefIdeal.main_arg1) = m' ((c.tc : Thread Cert.Ffn1InRefIdeal.nD Cert.Ffn1InRefIdeal.τ).loc Cert.Ffn1InRefIdeal.main_arg1))

def preserves_MixInQ_MixInQIdeal : Prop :=
  True

def algebraic_MixInQIdeal_MixInQRefIdeal [hMixInQIdeal : Cert.MixInQIdeal.Facts] [hMixInQRefIdeal : Cert.MixInQRefIdeal.Facts] : Prop :=
  ∀ (m : (ℓ : Loc Cert.MixInQIdeal.nD Cert.MixInQIdeal.τ Cert.MixInQIdeal.sig) → Buf (Elt Ideal) ℓ) (g : Dev Cert.MixInQIdeal.nD → PrngReg)
    (m' : (ℓ : Loc Cert.MixInQRefIdeal.nD Cert.MixInQRefIdeal.τ Cert.MixInQRefIdeal.sig) → Buf (Elt Ideal) ℓ) (g' : Dev Cert.MixInQRefIdeal.nD → PrngReg), Pre_MixInQIdeal m →
    (∀ c : Dev Cert.MixInQIdeal.nD,
      m' ((c.tc : Thread Cert.MixInQRefIdeal.nD Cert.MixInQRefIdeal.τ).loc Cert.MixInQRefIdeal.main_arg0) = m ((c.tc : Thread Cert.MixInQIdeal.nD Cert.MixInQIdeal.τ).loc Cert.MixInQIdeal.main_arg0)
      ∧ m' ((c.tc : Thread Cert.MixInQRefIdeal.nD Cert.MixInQRefIdeal.τ).loc Cert.MixInQRefIdeal.main_arg1) = m ((c.tc : Thread Cert.MixInQIdeal.nD Cert.MixInQIdeal.τ).loc Cert.MixInQIdeal.main_arg1)) →
    ∃ (v0 : (c : Dev Cert.MixInQIdeal.nD) → Buf (Elt Ideal) ((c.tc : Thread Cert.MixInQIdeal.nD Cert.MixInQIdeal.τ).loc Cert.MixInQIdeal.main_v2)),
      θ_run (Cert.MixInQIdeal.defs (F := Ideal)) (onTc (τ := Cert.MixInQIdeal.τ) (Cert.MixInQIdeal.main (F := Ideal))) ⟨m, fun _ => 0, g⟩ (fun r => ∀ c : Dev Cert.MixInQIdeal.nD,
          r.2.mem ((c.tc : Thread Cert.MixInQIdeal.nD Cert.MixInQIdeal.τ).loc Cert.MixInQIdeal.main_v2) = v0 c
          ∧ r.2.mem ((c.tc : Thread Cert.MixInQIdeal.nD Cert.MixInQIdeal.τ).loc Cert.MixInQIdeal.main_arg0) = m ((c.tc : Thread Cert.MixInQIdeal.nD Cert.MixInQIdeal.τ).loc Cert.MixInQIdeal.main_arg0)
          ∧ r.2.mem ((c.tc : Thread Cert.MixInQIdeal.nD Cert.MixInQIdeal.τ).loc Cert.MixInQIdeal.main_arg1) = m ((c.tc : Thread Cert.MixInQIdeal.nD Cert.MixInQIdeal.τ).loc Cert.MixInQIdeal.main_arg1))
      ∧ θ_run (Cert.MixInQRefIdeal.defs (F := Ideal)) (onTc (τ := Cert.MixInQRefIdeal.τ) (Cert.MixInQRefIdeal.main (F := Ideal))) ⟨m', fun _ => 0, g'⟩ (fun r => ∀ c : Dev Cert.MixInQRefIdeal.nD,
          r.2.mem ((c.tc : Thread Cert.MixInQRefIdeal.nD Cert.MixInQRefIdeal.τ).loc Cert.MixInQRefIdeal.main_v1) = v0 c
          ∧ r.2.mem ((c.tc : Thread Cert.MixInQRefIdeal.nD Cert.MixInQRefIdeal.τ).loc Cert.MixInQRefIdeal.main_arg0) = m' ((c.tc : Thread Cert.MixInQRefIdeal.nD Cert.MixInQRefIdeal.τ).loc Cert.MixInQRefIdeal.main_arg0)
          ∧ r.2.mem ((c.tc : Thread Cert.MixInQRefIdeal.nD Cert.MixInQRefIdeal.τ).loc Cert.MixInQRefIdeal.main_arg1) = m' ((c.tc : Thread Cert.MixInQRefIdeal.nD Cert.MixInQRefIdeal.τ).loc Cert.MixInQRefIdeal.main_arg1))

def preserves_MixInKv_MixInKvIdeal : Prop :=
  True

def algebraic_MixInKvIdeal_MixInKvRefIdeal [hMixInKvIdeal : Cert.MixInKvIdeal.Facts] [hMixInKvRefIdeal : Cert.MixInKvRefIdeal.Facts] : Prop :=
  ∀ (m : (ℓ : Loc Cert.MixInKvIdeal.nD Cert.MixInKvIdeal.τ Cert.MixInKvIdeal.sig) → Buf (Elt Ideal) ℓ) (g : Dev Cert.MixInKvIdeal.nD → PrngReg)
    (m' : (ℓ : Loc Cert.MixInKvRefIdeal.nD Cert.MixInKvRefIdeal.τ Cert.MixInKvRefIdeal.sig) → Buf (Elt Ideal) ℓ) (g' : Dev Cert.MixInKvRefIdeal.nD → PrngReg), Pre_MixInKvIdeal m →
    (∀ c : Dev Cert.MixInKvIdeal.nD,
      m' ((c.tc : Thread Cert.MixInKvRefIdeal.nD Cert.MixInKvRefIdeal.τ).loc Cert.MixInKvRefIdeal.main_arg0) = m ((c.tc : Thread Cert.MixInKvIdeal.nD Cert.MixInKvIdeal.τ).loc Cert.MixInKvIdeal.main_arg0)
      ∧ m' ((c.tc : Thread Cert.MixInKvRefIdeal.nD Cert.MixInKvRefIdeal.τ).loc Cert.MixInKvRefIdeal.main_arg1) = m ((c.tc : Thread Cert.MixInKvIdeal.nD Cert.MixInKvIdeal.τ).loc Cert.MixInKvIdeal.main_arg1)) →
    ∃ (v0 : (c : Dev Cert.MixInKvIdeal.nD) → Buf (Elt Ideal) ((c.tc : Thread Cert.MixInKvIdeal.nD Cert.MixInKvIdeal.τ).loc Cert.MixInKvIdeal.main_v2)),
      θ_run (Cert.MixInKvIdeal.defs (F := Ideal)) (onTc (τ := Cert.MixInKvIdeal.τ) (Cert.MixInKvIdeal.main (F := Ideal))) ⟨m, fun _ => 0, g⟩ (fun r => ∀ c : Dev Cert.MixInKvIdeal.nD,
          r.2.mem ((c.tc : Thread Cert.MixInKvIdeal.nD Cert.MixInKvIdeal.τ).loc Cert.MixInKvIdeal.main_v2) = v0 c
          ∧ r.2.mem ((c.tc : Thread Cert.MixInKvIdeal.nD Cert.MixInKvIdeal.τ).loc Cert.MixInKvIdeal.main_arg0) = m ((c.tc : Thread Cert.MixInKvIdeal.nD Cert.MixInKvIdeal.τ).loc Cert.MixInKvIdeal.main_arg0)
          ∧ r.2.mem ((c.tc : Thread Cert.MixInKvIdeal.nD Cert.MixInKvIdeal.τ).loc Cert.MixInKvIdeal.main_arg1) = m ((c.tc : Thread Cert.MixInKvIdeal.nD Cert.MixInKvIdeal.τ).loc Cert.MixInKvIdeal.main_arg1))
      ∧ θ_run (Cert.MixInKvRefIdeal.defs (F := Ideal)) (onTc (τ := Cert.MixInKvRefIdeal.τ) (Cert.MixInKvRefIdeal.main (F := Ideal))) ⟨m', fun _ => 0, g'⟩ (fun r => ∀ c : Dev Cert.MixInKvRefIdeal.nD,
          r.2.mem ((c.tc : Thread Cert.MixInKvRefIdeal.nD Cert.MixInKvRefIdeal.τ).loc Cert.MixInKvRefIdeal.main_v1) = v0 c
          ∧ r.2.mem ((c.tc : Thread Cert.MixInKvRefIdeal.nD Cert.MixInKvRefIdeal.τ).loc Cert.MixInKvRefIdeal.main_arg0) = m' ((c.tc : Thread Cert.MixInKvRefIdeal.nD Cert.MixInKvRefIdeal.τ).loc Cert.MixInKvRefIdeal.main_arg0)
          ∧ r.2.mem ((c.tc : Thread Cert.MixInKvRefIdeal.nD Cert.MixInKvRefIdeal.τ).loc Cert.MixInKvRefIdeal.main_arg1) = m' ((c.tc : Thread Cert.MixInKvRefIdeal.nD Cert.MixInKvRefIdeal.τ).loc Cert.MixInKvRefIdeal.main_arg1))

def preserves_MixInRet_MixInRetIdeal : Prop :=
  True

def algebraic_MixInRetIdeal_MixInRetRefIdeal [hMixInRetIdeal : Cert.MixInRetIdeal.Facts] [hMixInRetRefIdeal : Cert.MixInRetRefIdeal.Facts] : Prop :=
  ∀ (m : (ℓ : Loc Cert.MixInRetIdeal.nD Cert.MixInRetIdeal.τ Cert.MixInRetIdeal.sig) → Buf (Elt Ideal) ℓ) (g : Dev Cert.MixInRetIdeal.nD → PrngReg)
    (m' : (ℓ : Loc Cert.MixInRetRefIdeal.nD Cert.MixInRetRefIdeal.τ Cert.MixInRetRefIdeal.sig) → Buf (Elt Ideal) ℓ) (g' : Dev Cert.MixInRetRefIdeal.nD → PrngReg), Pre_MixInRetIdeal m →
    (∀ c : Dev Cert.MixInRetIdeal.nD,
      m' ((c.tc : Thread Cert.MixInRetRefIdeal.nD Cert.MixInRetRefIdeal.τ).loc Cert.MixInRetRefIdeal.main_arg0) = m ((c.tc : Thread Cert.MixInRetIdeal.nD Cert.MixInRetIdeal.τ).loc Cert.MixInRetIdeal.main_arg0)
      ∧ m' ((c.tc : Thread Cert.MixInRetRefIdeal.nD Cert.MixInRetRefIdeal.τ).loc Cert.MixInRetRefIdeal.main_arg1) = m ((c.tc : Thread Cert.MixInRetIdeal.nD Cert.MixInRetIdeal.τ).loc Cert.MixInRetIdeal.main_arg1)) →
    ∃ (v0 : (c : Dev Cert.MixInRetIdeal.nD) → Buf (Elt Ideal) ((c.tc : Thread Cert.MixInRetIdeal.nD Cert.MixInRetIdeal.τ).loc Cert.MixInRetIdeal.main_v2)),
      θ_run (Cert.MixInRetIdeal.defs (F := Ideal)) (onTc (τ := Cert.MixInRetIdeal.τ) (Cert.MixInRetIdeal.main (F := Ideal))) ⟨m, fun _ => 0, g⟩ (fun r => ∀ c : Dev Cert.MixInRetIdeal.nD,
          r.2.mem ((c.tc : Thread Cert.MixInRetIdeal.nD Cert.MixInRetIdeal.τ).loc Cert.MixInRetIdeal.main_v2) = v0 c
          ∧ r.2.mem ((c.tc : Thread Cert.MixInRetIdeal.nD Cert.MixInRetIdeal.τ).loc Cert.MixInRetIdeal.main_arg0) = m ((c.tc : Thread Cert.MixInRetIdeal.nD Cert.MixInRetIdeal.τ).loc Cert.MixInRetIdeal.main_arg0)
          ∧ r.2.mem ((c.tc : Thread Cert.MixInRetIdeal.nD Cert.MixInRetIdeal.τ).loc Cert.MixInRetIdeal.main_arg1) = m ((c.tc : Thread Cert.MixInRetIdeal.nD Cert.MixInRetIdeal.τ).loc Cert.MixInRetIdeal.main_arg1))
      ∧ θ_run (Cert.MixInRetRefIdeal.defs (F := Ideal)) (onTc (τ := Cert.MixInRetRefIdeal.τ) (Cert.MixInRetRefIdeal.main (F := Ideal))) ⟨m', fun _ => 0, g'⟩ (fun r => ∀ c : Dev Cert.MixInRetRefIdeal.nD,
          r.2.mem ((c.tc : Thread Cert.MixInRetRefIdeal.nD Cert.MixInRetRefIdeal.τ).loc Cert.MixInRetRefIdeal.main_v1) = v0 c
          ∧ r.2.mem ((c.tc : Thread Cert.MixInRetRefIdeal.nD Cert.MixInRetRefIdeal.τ).loc Cert.MixInRetRefIdeal.main_arg0) = m' ((c.tc : Thread Cert.MixInRetRefIdeal.nD Cert.MixInRetRefIdeal.τ).loc Cert.MixInRetRefIdeal.main_arg0)
          ∧ r.2.mem ((c.tc : Thread Cert.MixInRetRefIdeal.nD Cert.MixInRetRefIdeal.τ).loc Cert.MixInRetRefIdeal.main_arg1) = m' ((c.tc : Thread Cert.MixInRetRefIdeal.nD Cert.MixInRetRefIdeal.τ).loc Cert.MixInRetRefIdeal.main_arg1))

def preserves_MixInGr_MixInGrIdeal : Prop :=
  True

def algebraic_MixInGrIdeal_MixInGrRefIdeal [hMixInGrIdeal : Cert.MixInGrIdeal.Facts] [hMixInGrRefIdeal : Cert.MixInGrRefIdeal.Facts] : Prop :=
  ∀ (m : (ℓ : Loc Cert.MixInGrIdeal.nD Cert.MixInGrIdeal.τ Cert.MixInGrIdeal.sig) → Buf (Elt Ideal) ℓ) (g : Dev Cert.MixInGrIdeal.nD → PrngReg)
    (m' : (ℓ : Loc Cert.MixInGrRefIdeal.nD Cert.MixInGrRefIdeal.τ Cert.MixInGrRefIdeal.sig) → Buf (Elt Ideal) ℓ) (g' : Dev Cert.MixInGrRefIdeal.nD → PrngReg), Pre_MixInGrIdeal m →
    (∀ c : Dev Cert.MixInGrIdeal.nD,
      m' ((c.tc : Thread Cert.MixInGrRefIdeal.nD Cert.MixInGrRefIdeal.τ).loc Cert.MixInGrRefIdeal.main_arg0) = m ((c.tc : Thread Cert.MixInGrIdeal.nD Cert.MixInGrIdeal.τ).loc Cert.MixInGrIdeal.main_arg0)
      ∧ m' ((c.tc : Thread Cert.MixInGrRefIdeal.nD Cert.MixInGrRefIdeal.τ).loc Cert.MixInGrRefIdeal.main_arg1) = m ((c.tc : Thread Cert.MixInGrIdeal.nD Cert.MixInGrIdeal.τ).loc Cert.MixInGrIdeal.main_arg1)) →
    ∃ (v0 : (c : Dev Cert.MixInGrIdeal.nD) → Buf (Elt Ideal) ((c.tc : Thread Cert.MixInGrIdeal.nD Cert.MixInGrIdeal.τ).loc Cert.MixInGrIdeal.main_v2)),
      θ_run (Cert.MixInGrIdeal.defs (F := Ideal)) (onTc (τ := Cert.MixInGrIdeal.τ) (Cert.MixInGrIdeal.main (F := Ideal))) ⟨m, fun _ => 0, g⟩ (fun r => ∀ c : Dev Cert.MixInGrIdeal.nD,
          r.2.mem ((c.tc : Thread Cert.MixInGrIdeal.nD Cert.MixInGrIdeal.τ).loc Cert.MixInGrIdeal.main_v2) = v0 c
          ∧ r.2.mem ((c.tc : Thread Cert.MixInGrIdeal.nD Cert.MixInGrIdeal.τ).loc Cert.MixInGrIdeal.main_arg0) = m ((c.tc : Thread Cert.MixInGrIdeal.nD Cert.MixInGrIdeal.τ).loc Cert.MixInGrIdeal.main_arg0)
          ∧ r.2.mem ((c.tc : Thread Cert.MixInGrIdeal.nD Cert.MixInGrIdeal.τ).loc Cert.MixInGrIdeal.main_arg1) = m ((c.tc : Thread Cert.MixInGrIdeal.nD Cert.MixInGrIdeal.τ).loc Cert.MixInGrIdeal.main_arg1))
      ∧ θ_run (Cert.MixInGrRefIdeal.defs (F := Ideal)) (onTc (τ := Cert.MixInGrRefIdeal.τ) (Cert.MixInGrRefIdeal.main (F := Ideal))) ⟨m', fun _ => 0, g'⟩ (fun r => ∀ c : Dev Cert.MixInGrRefIdeal.nD,
          r.2.mem ((c.tc : Thread Cert.MixInGrRefIdeal.nD Cert.MixInGrRefIdeal.τ).loc Cert.MixInGrRefIdeal.main_v2) = v0 c
          ∧ r.2.mem ((c.tc : Thread Cert.MixInGrRefIdeal.nD Cert.MixInGrRefIdeal.τ).loc Cert.MixInGrRefIdeal.main_arg0) = m' ((c.tc : Thread Cert.MixInGrRefIdeal.nD Cert.MixInGrRefIdeal.τ).loc Cert.MixInGrRefIdeal.main_arg0)
          ∧ r.2.mem ((c.tc : Thread Cert.MixInGrRefIdeal.nD Cert.MixInGrRefIdeal.τ).loc Cert.MixInGrRefIdeal.main_arg1) = m' ((c.tc : Thread Cert.MixInGrRefIdeal.nD Cert.MixInGrRefIdeal.τ).loc Cert.MixInGrRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v18) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_MergeGrad_MergeGradIdeal : Prop :=
  True

def algebraic_MergeGradIdeal_MergeGradRefIdeal [hMergeGradIdeal : Cert.MergeGradIdeal.Facts] [hMergeGradRefIdeal : Cert.MergeGradRefIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg)
    (m' : (ℓ : Loc Cert.MergeGradRefIdeal.nD Cert.MergeGradRefIdeal.τ Cert.MergeGradRefIdeal.sig) → Buf (Elt Ideal) ℓ) (g' : Dev Cert.MergeGradRefIdeal.nD → PrngReg), Pre_MergeGradIdeal m →
    (∀ c : Dev Cert.MergeGradIdeal.nD,
      m' ((c.tc : Thread Cert.MergeGradRefIdeal.nD Cert.MergeGradRefIdeal.τ).loc Cert.MergeGradRefIdeal.main_arg0) = m ((c.tc : Thread Cert.MergeGradIdeal.nD Cert.MergeGradIdeal.τ).loc Cert.MergeGradIdeal.main_arg0)
      ∧ m' ((c.tc : Thread Cert.MergeGradRefIdeal.nD Cert.MergeGradRefIdeal.τ).loc Cert.MergeGradRefIdeal.main_arg1) = m ((c.tc : Thread Cert.MergeGradIdeal.nD Cert.MergeGradIdeal.τ).loc Cert.MergeGradIdeal.main_arg1)
      ∧ m' ((c.tc : Thread Cert.MergeGradRefIdeal.nD Cert.MergeGradRefIdeal.τ).loc Cert.MergeGradRefIdeal.main_arg2) = m ((c.tc : Thread Cert.MergeGradIdeal.nD Cert.MergeGradIdeal.τ).loc Cert.MergeGradIdeal.main_arg2)
      ∧ m' ((c.tc : Thread Cert.MergeGradRefIdeal.nD Cert.MergeGradRefIdeal.τ).loc Cert.MergeGradRefIdeal.main_arg3) = m ((c.tc : Thread Cert.MergeGradIdeal.nD Cert.MergeGradIdeal.τ).loc Cert.MergeGradIdeal.main_arg3)) →
    ∃ (v0 : (c : Dev Cert.MergeGradIdeal.nD) → Buf (Elt Ideal) ((c.tc : Thread Cert.MergeGradIdeal.nD Cert.MergeGradIdeal.τ).loc Cert.MergeGradIdeal.main_v3_0)) (v1 : (c : Dev Cert.MergeGradIdeal.nD) → Buf (Elt Ideal) ((c.tc : Thread Cert.MergeGradIdeal.nD Cert.MergeGradIdeal.τ).loc Cert.MergeGradIdeal.main_v3_1)) (v2 : (c : Dev Cert.MergeGradIdeal.nD) → Buf (Elt Ideal) ((c.tc : Thread Cert.MergeGradIdeal.nD Cert.MergeGradIdeal.τ).loc Cert.MergeGradIdeal.main_v3_2)),
      θ_run (Cert.MergeGradIdeal.defs (F := Ideal)) (onTc (τ := Cert.MergeGradIdeal.τ) (Cert.MergeGradIdeal.main (F := Ideal))) ⟨m, fun _ => 0, g⟩ (fun r => ∀ c : Dev Cert.MergeGradIdeal.nD,
          r.2.mem ((c.tc : Thread Cert.MergeGradIdeal.nD Cert.MergeGradIdeal.τ).loc Cert.MergeGradIdeal.main_v3_0) = v0 c
          ∧ r.2.mem ((c.tc : Thread Cert.MergeGradIdeal.nD Cert.MergeGradIdeal.τ).loc Cert.MergeGradIdeal.main_v3_1) = v1 c
          ∧ r.2.mem ((c.tc : Thread Cert.MergeGradIdeal.nD Cert.MergeGradIdeal.τ).loc Cert.MergeGradIdeal.main_v3_2) = v2 c
          ∧ r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
          ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
          ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
          ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3))
      ∧ θ_run (Cert.MergeGradRefIdeal.defs (F := Ideal)) (onTc (τ := Cert.MergeGradRefIdeal.τ) (Cert.MergeGradRefIdeal.main (F := Ideal))) ⟨m', fun _ => 0, g'⟩ (fun r => ∀ c : Dev Cert.MergeGradRefIdeal.nD,
          r.2.mem ((c.tc : Thread Cert.MergeGradRefIdeal.nD Cert.MergeGradRefIdeal.τ).loc Cert.MergeGradRefIdeal.main_v32) = v0 c
          ∧ r.2.mem ((c.tc : Thread Cert.MergeGradRefIdeal.nD Cert.MergeGradRefIdeal.τ).loc Cert.MergeGradRefIdeal.main_v33) = v1 c
          ∧ r.2.mem ((c.tc : Thread Cert.MergeGradRefIdeal.nD Cert.MergeGradRefIdeal.τ).loc Cert.MergeGradRefIdeal.main_v35) = v2 c
          ∧ r.2.mem ((c.tc : Thread Cert.MergeGradRefIdeal.nD Cert.MergeGradRefIdeal.τ).loc Cert.MergeGradRefIdeal.main_arg0) = m' ((c.tc : Thread Cert.MergeGradRefIdeal.nD Cert.MergeGradRefIdeal.τ).loc Cert.MergeGradRefIdeal.main_arg0)
          ∧ r.2.mem ((c.tc : Thread Cert.MergeGradRefIdeal.nD Cert.MergeGradRefIdeal.τ).loc Cert.MergeGradRefIdeal.main_arg1) = m' ((c.tc : Thread Cert.MergeGradRefIdeal.nD Cert.MergeGradRefIdeal.τ).loc Cert.MergeGradRefIdeal.main_arg1)
          ∧ r.2.mem ((c.tc : Thread Cert.MergeGradRefIdeal.nD Cert.MergeGradRefIdeal.τ).loc Cert.MergeGradRefIdeal.main_arg2) = m' ((c.tc : Thread Cert.MergeGradRefIdeal.nD Cert.MergeGradRefIdeal.τ).loc Cert.MergeGradRefIdeal.main_arg2)
          ∧ r.2.mem ((c.tc : Thread Cert.MergeGradRefIdeal.nD Cert.MergeGradRefIdeal.τ).loc Cert.MergeGradRefIdeal.main_arg3) = m' ((c.tc : Thread Cert.MergeGradRefIdeal.nD Cert.MergeGradRefIdeal.τ).loc Cert.MergeGradRefIdeal.main_arg3))

def preserves_RetSum_RetSumIdeal : Prop :=
  True

def algebraic_RetSumIdeal_RetSumRefIdeal [hRetSumIdeal : Cert.RetSumIdeal.Facts] [hRetSumRefIdeal : Cert.RetSumRefIdeal.Facts] : Prop :=
  ∀ (m : (ℓ : Loc Cert.RetSumIdeal.nD Cert.RetSumIdeal.τ Cert.RetSumIdeal.sig) → Buf (Elt Ideal) ℓ) (g : Dev Cert.RetSumIdeal.nD → PrngReg)
    (m' : (ℓ : Loc Cert.RetSumRefIdeal.nD Cert.RetSumRefIdeal.τ Cert.RetSumRefIdeal.sig) → Buf (Elt Ideal) ℓ) (g' : Dev Cert.RetSumRefIdeal.nD → PrngReg), Pre_RetSumIdeal m →
    (∀ c : Dev Cert.RetSumIdeal.nD,
      m' ((c.tc : Thread Cert.RetSumRefIdeal.nD Cert.RetSumRefIdeal.τ).loc Cert.RetSumRefIdeal.main_arg0) = m ((c.tc : Thread Cert.RetSumIdeal.nD Cert.RetSumIdeal.τ).loc Cert.RetSumIdeal.main_arg0)
      ∧ m' ((c.tc : Thread Cert.RetSumRefIdeal.nD Cert.RetSumRefIdeal.τ).loc Cert.RetSumRefIdeal.main_arg1) = m ((c.tc : Thread Cert.RetSumIdeal.nD Cert.RetSumIdeal.τ).loc Cert.RetSumIdeal.main_arg1)) →
    ∃ (v0 : (c : Dev Cert.RetSumIdeal.nD) → Buf (Elt Ideal) ((c.tc : Thread Cert.RetSumIdeal.nD Cert.RetSumIdeal.τ).loc Cert.RetSumIdeal.main_v0)),
      θ_run (Cert.RetSumIdeal.defs (F := Ideal)) (onTc (τ := Cert.RetSumIdeal.τ) (Cert.RetSumIdeal.main (F := Ideal))) ⟨m, fun _ => 0, g⟩ (fun r => ∀ c : Dev Cert.RetSumIdeal.nD,
          r.2.mem ((c.tc : Thread Cert.RetSumIdeal.nD Cert.RetSumIdeal.τ).loc Cert.RetSumIdeal.main_v0) = v0 c
          ∧ r.2.mem ((c.tc : Thread Cert.RetSumIdeal.nD Cert.RetSumIdeal.τ).loc Cert.RetSumIdeal.main_arg0) = m ((c.tc : Thread Cert.RetSumIdeal.nD Cert.RetSumIdeal.τ).loc Cert.RetSumIdeal.main_arg0)
          ∧ r.2.mem ((c.tc : Thread Cert.RetSumIdeal.nD Cert.RetSumIdeal.τ).loc Cert.RetSumIdeal.main_arg1) = m ((c.tc : Thread Cert.RetSumIdeal.nD Cert.RetSumIdeal.τ).loc Cert.RetSumIdeal.main_arg1))
      ∧ θ_run (Cert.RetSumRefIdeal.defs (F := Ideal)) (onTc (τ := Cert.RetSumRefIdeal.τ) (Cert.RetSumRefIdeal.main (F := Ideal))) ⟨m', fun _ => 0, g'⟩ (fun r => ∀ c : Dev Cert.RetSumRefIdeal.nD,
          r.2.mem ((c.tc : Thread Cert.RetSumRefIdeal.nD Cert.RetSumRefIdeal.τ).loc Cert.RetSumRefIdeal.main_v1) = v0 c
          ∧ r.2.mem ((c.tc : Thread Cert.RetSumRefIdeal.nD Cert.RetSumRefIdeal.τ).loc Cert.RetSumRefIdeal.main_arg0) = m' ((c.tc : Thread Cert.RetSumRefIdeal.nD Cert.RetSumRefIdeal.τ).loc Cert.RetSumRefIdeal.main_arg0)
          ∧ r.2.mem ((c.tc : Thread Cert.RetSumRefIdeal.nD Cert.RetSumRefIdeal.τ).loc Cert.RetSumRefIdeal.main_arg1) = m' ((c.tc : Thread Cert.RetSumRefIdeal.nD Cert.RetSumRefIdeal.τ).loc Cert.RetSumRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamMixIn_AdamMixInIdeal : Prop :=
  True

def algebraic_AdamMixInIdeal_AdamMixInRefIdeal [hAdamMixInIdeal : Cert.AdamMixInIdeal.Facts] [hAdamMixInRefIdeal : Cert.AdamMixInRefIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg)
    (m' : (ℓ : Loc Cert.AdamMixInRefIdeal.nD Cert.AdamMixInRefIdeal.τ Cert.AdamMixInRefIdeal.sig) → Buf (Elt Ideal) ℓ) (g' : Dev Cert.AdamMixInRefIdeal.nD → PrngReg), Pre_AdamMixInIdeal m →
    (∀ c : Dev Cert.AdamMixInIdeal.nD,
      m' ((c.tc : Thread Cert.AdamMixInRefIdeal.nD Cert.AdamMixInRefIdeal.τ).loc Cert.AdamMixInRefIdeal.main_arg0) = m ((c.tc : Thread Cert.AdamMixInIdeal.nD Cert.AdamMixInIdeal.τ).loc Cert.AdamMixInIdeal.main_arg0)
      ∧ m' ((c.tc : Thread Cert.AdamMixInRefIdeal.nD Cert.AdamMixInRefIdeal.τ).loc Cert.AdamMixInRefIdeal.main_arg1) = m ((c.tc : Thread Cert.AdamMixInIdeal.nD Cert.AdamMixInIdeal.τ).loc Cert.AdamMixInIdeal.main_arg1)
      ∧ m' ((c.tc : Thread Cert.AdamMixInRefIdeal.nD Cert.AdamMixInRefIdeal.τ).loc Cert.AdamMixInRefIdeal.main_arg2) = m ((c.tc : Thread Cert.AdamMixInIdeal.nD Cert.AdamMixInIdeal.τ).loc Cert.AdamMixInIdeal.main_arg2)
      ∧ m' ((c.tc : Thread Cert.AdamMixInRefIdeal.nD Cert.AdamMixInRefIdeal.τ).loc Cert.AdamMixInRefIdeal.main_arg3) = m ((c.tc : Thread Cert.AdamMixInIdeal.nD Cert.AdamMixInIdeal.τ).loc Cert.AdamMixInIdeal.main_arg3)) →
    ∃ (v0 : (c : Dev Cert.AdamMixInIdeal.nD) → Buf (Elt Ideal) ((c.tc : Thread Cert.AdamMixInIdeal.nD Cert.AdamMixInIdeal.τ).loc Cert.AdamMixInIdeal.main_v0_0)) (v1 : (c : Dev Cert.AdamMixInIdeal.nD) → Buf (Elt Ideal) ((c.tc : Thread Cert.AdamMixInIdeal.nD Cert.AdamMixInIdeal.τ).loc Cert.AdamMixInIdeal.main_v0_1)) (v2 : (c : Dev Cert.AdamMixInIdeal.nD) → Buf (Elt Ideal) ((c.tc : Thread Cert.AdamMixInIdeal.nD Cert.AdamMixInIdeal.τ).loc Cert.AdamMixInIdeal.main_v0_2)),
      θ_run (Cert.AdamMixInIdeal.defs (F := Ideal)) (onTc (τ := Cert.AdamMixInIdeal.τ) (Cert.AdamMixInIdeal.main (F := Ideal))) ⟨m, fun _ => 0, g⟩ (fun r => ∀ c : Dev Cert.AdamMixInIdeal.nD,
          r.2.mem ((c.tc : Thread Cert.AdamMixInIdeal.nD Cert.AdamMixInIdeal.τ).loc Cert.AdamMixInIdeal.main_v0_0) = v0 c
          ∧ r.2.mem ((c.tc : Thread Cert.AdamMixInIdeal.nD Cert.AdamMixInIdeal.τ).loc Cert.AdamMixInIdeal.main_v0_1) = v1 c
          ∧ r.2.mem ((c.tc : Thread Cert.AdamMixInIdeal.nD Cert.AdamMixInIdeal.τ).loc Cert.AdamMixInIdeal.main_v0_2) = v2 c
          ∧ r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
          ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
          ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
          ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ θ_run (Cert.AdamMixInRefIdeal.defs (F := Ideal)) (onTc (τ := Cert.AdamMixInRefIdeal.τ) (Cert.AdamMixInRefIdeal.main (F := Ideal))) ⟨m', fun _ => 0, g'⟩ (fun r => ∀ c : Dev Cert.AdamMixInRefIdeal.nD,
          r.2.mem ((c.tc : Thread Cert.AdamMixInRefIdeal.nD Cert.AdamMixInRefIdeal.τ).loc Cert.AdamMixInRefIdeal.main_v23) = v0 c
          ∧ r.2.mem ((c.tc : Thread Cert.AdamMixInRefIdeal.nD Cert.AdamMixInRefIdeal.τ).loc Cert.AdamMixInRefIdeal.main_v4) = v1 c
          ∧ r.2.mem ((c.tc : Thread Cert.AdamMixInRefIdeal.nD Cert.AdamMixInRefIdeal.τ).loc Cert.AdamMixInRefIdeal.main_v10) = v2 c
          ∧ r.2.mem ((c.tc : Thread Cert.AdamMixInRefIdeal.nD Cert.AdamMixInRefIdeal.τ).loc Cert.AdamMixInRefIdeal.main_arg0) = m' ((c.tc : Thread Cert.AdamMixInRefIdeal.nD Cert.AdamMixInRefIdeal.τ).loc Cert.AdamMixInRefIdeal.main_arg0)
          ∧ r.2.mem ((c.tc : Thread Cert.AdamMixInRefIdeal.nD Cert.AdamMixInRefIdeal.τ).loc Cert.AdamMixInRefIdeal.main_arg1) = m' ((c.tc : Thread Cert.AdamMixInRefIdeal.nD Cert.AdamMixInRefIdeal.τ).loc Cert.AdamMixInRefIdeal.main_arg1)
          ∧ r.2.mem ((c.tc : Thread Cert.AdamMixInRefIdeal.nD Cert.AdamMixInRefIdeal.τ).loc Cert.AdamMixInRefIdeal.main_arg2) = m' ((c.tc : Thread Cert.AdamMixInRefIdeal.nD Cert.AdamMixInRefIdeal.τ).loc Cert.AdamMixInRefIdeal.main_arg2)
          ∧ r.2.mem ((c.tc : Thread Cert.AdamMixInRefIdeal.nD Cert.AdamMixInRefIdeal.τ).loc Cert.AdamMixInRefIdeal.main_arg3) = m' ((c.tc : Thread Cert.AdamMixInRefIdeal.nD Cert.AdamMixInRefIdeal.τ).loc Cert.AdamMixInRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v23) = v0 c
          ∧ r.2.mem ((c.tc : Thread Cert.AdamProjRefIdeal.nD Cert.AdamProjRefIdeal.τ).loc Cert.AdamProjRefIdeal.main_v4) = v1 c
          ∧ r.2.mem ((c.tc : Thread Cert.AdamProjRefIdeal.nD Cert.AdamProjRefIdeal.τ).loc Cert.AdamProjRefIdeal.main_v10) = v2 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamMixOut_AdamMixOutIdeal : Prop :=
  True

def algebraic_AdamMixOutIdeal_AdamMixOutRefIdeal [hAdamMixOutIdeal : Cert.AdamMixOutIdeal.Facts] [hAdamMixOutRefIdeal : Cert.AdamMixOutRefIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg)
    (m' : (ℓ : Loc Cert.AdamMixOutRefIdeal.nD Cert.AdamMixOutRefIdeal.τ Cert.AdamMixOutRefIdeal.sig) → Buf (Elt Ideal) ℓ) (g' : Dev Cert.AdamMixOutRefIdeal.nD → PrngReg), Pre_AdamMixOutIdeal m →
    (∀ c : Dev Cert.AdamMixOutIdeal.nD,
      m' ((c.tc : Thread Cert.AdamMixOutRefIdeal.nD Cert.AdamMixOutRefIdeal.τ).loc Cert.AdamMixOutRefIdeal.main_arg0) = m ((c.tc : Thread Cert.AdamMixOutIdeal.nD Cert.AdamMixOutIdeal.τ).loc Cert.AdamMixOutIdeal.main_arg0)
      ∧ m' ((c.tc : Thread Cert.AdamMixOutRefIdeal.nD Cert.AdamMixOutRefIdeal.τ).loc Cert.AdamMixOutRefIdeal.main_arg1) = m ((c.tc : Thread Cert.AdamMixOutIdeal.nD Cert.AdamMixOutIdeal.τ).loc Cert.AdamMixOutIdeal.main_arg1)
      ∧ m' ((c.tc : Thread Cert.AdamMixOutRefIdeal.nD Cert.AdamMixOutRefIdeal.τ).loc Cert.AdamMixOutRefIdeal.main_arg2) = m ((c.tc : Thread Cert.AdamMixOutIdeal.nD Cert.AdamMixOutIdeal.τ).loc Cert.AdamMixOutIdeal.main_arg2)
      ∧ m' ((c.tc : Thread Cert.AdamMixOutRefIdeal.nD Cert.AdamMixOutRefIdeal.τ).loc Cert.AdamMixOutRefIdeal.main_arg3) = m ((c.tc : Thread Cert.AdamMixOutIdeal.nD Cert.AdamMixOutIdeal.τ).loc Cert.AdamMixOutIdeal.main_arg3)) →
    ∃ (v0 : (c : Dev Cert.AdamMixOutIdeal.nD) → Buf (Elt Ideal) ((c.tc : Thread Cert.AdamMixOutIdeal.nD Cert.AdamMixOutIdeal.τ).loc Cert.AdamMixOutIdeal.main_v0_0)) (v1 : (c : Dev Cert.AdamMixOutIdeal.nD) → Buf (Elt Ideal) ((c.tc : Thread Cert.AdamMixOutIdeal.nD Cert.AdamMixOutIdeal.τ).loc Cert.AdamMixOutIdeal.main_v0_1)) (v2 : (c : Dev Cert.AdamMixOutIdeal.nD) → Buf (Elt Ideal) ((c.tc : Thread Cert.AdamMixOutIdeal.nD Cert.AdamMixOutIdeal.τ).loc Cert.AdamMixOutIdeal.main_v0_2)),
      θ_run (Cert.AdamMixOutIdeal.defs (F := Ideal)) (onTc (τ := Cert.AdamMixOutIdeal.τ) (Cert.AdamMixOutIdeal.main (F := Ideal))) ⟨m, fun _ => 0, g⟩ (fun r => ∀ c : Dev Cert.AdamMixOutIdeal.nD,
          r.2.mem ((c.tc : Thread Cert.AdamMixOutIdeal.nD Cert.AdamMixOutIdeal.τ).loc Cert.AdamMixOutIdeal.main_v0_0) = v0 c
          ∧ r.2.mem ((c.tc : Thread Cert.AdamMixOutIdeal.nD Cert.AdamMixOutIdeal.τ).loc Cert.AdamMixOutIdeal.main_v0_1) = v1 c
          ∧ r.2.mem ((c.tc : Thread Cert.AdamMixOutIdeal.nD Cert.AdamMixOutIdeal.τ).loc Cert.AdamMixOutIdeal.main_v0_2) = v2 c
          ∧ r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
          ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
          ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
          ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3))
      ∧ θ_run (Cert.AdamMixOutRefIdeal.defs (F := Ideal)) (onTc (τ := Cert.AdamMixOutRefIdeal.τ) (Cert.AdamMixOutRefIdeal.main (F := Ideal))) ⟨m', fun _ => 0, g'⟩ (fun r => ∀ c : Dev Cert.AdamMixOutRefIdeal.nD,
          r.2.mem ((c.tc : Thread Cert.AdamMixOutRefIdeal.nD Cert.AdamMixOutRefIdeal.τ).loc Cert.AdamMixOutRefIdeal.main_v23) = v0 c
          ∧ r.2.mem ((c.tc : Thread Cert.AdamMixOutRefIdeal.nD Cert.AdamMixOutRefIdeal.τ).loc Cert.AdamMixOutRefIdeal.main_v4) = v1 c
          ∧ r.2.mem ((c.tc : Thread Cert.AdamMixOutRefIdeal.nD Cert.AdamMixOutRefIdeal.τ).loc Cert.AdamMixOutRefIdeal.main_v10) = v2 c
          ∧ r.2.mem ((c.tc : Thread Cert.AdamMixOutRefIdeal.nD Cert.AdamMixOutRefIdeal.τ).loc Cert.AdamMixOutRefIdeal.main_arg0) = m' ((c.tc : Thread Cert.AdamMixOutRefIdeal.nD Cert.AdamMixOutRefIdeal.τ).loc Cert.AdamMixOutRefIdeal.main_arg0)
          ∧ r.2.mem ((c.tc : Thread Cert.AdamMixOutRefIdeal.nD Cert.AdamMixOutRefIdeal.τ).loc Cert.AdamMixOutRefIdeal.main_arg1) = m' ((c.tc : Thread Cert.AdamMixOutRefIdeal.nD Cert.AdamMixOutRefIdeal.τ).loc Cert.AdamMixOutRefIdeal.main_arg1)
          ∧ r.2.mem ((c.tc : Thread Cert.AdamMixOutRefIdeal.nD Cert.AdamMixOutRefIdeal.τ).loc Cert.AdamMixOutRefIdeal.main_arg2) = m' ((c.tc : Thread Cert.AdamMixOutRefIdeal.nD Cert.AdamMixOutRefIdeal.τ).loc Cert.AdamMixOutRefIdeal.main_arg2)
          ∧ r.2.mem ((c.tc : Thread Cert.AdamMixOutRefIdeal.nD Cert.AdamMixOutRefIdeal.τ).loc Cert.AdamMixOutRefIdeal.main_arg3) = m' ((c.tc : Thread Cert.AdamMixOutRefIdeal.nD Cert.AdamMixOutRefIdeal.τ).loc Cert.AdamMixOutRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v23) = v0 c
          ∧ r.2.mem ((c.tc : Thread Cert.AdamAdaRefIdeal.nD Cert.AdamAdaRefIdeal.τ).loc Cert.AdamAdaRefIdeal.main_v4) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamBias_AdamBiasIdeal : Prop :=
  True

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_v23) = v0 c
          ∧ r.2.mem ((c.tc : Thread Cert.AdamBiasRefIdeal.nD Cert.AdamBiasRefIdeal.τ).loc Cert.AdamBiasRefIdeal.main_v4) = v1 c
          ∧ r.2.mem ((c.tc : Thread Cert.AdamBiasRefIdeal.nD Cert.AdamBiasRefIdeal.τ).loc Cert.AdamBiasRefIdeal.main_v10) = v2 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3))

def preserves_AdamVector_AdamVectorIdeal : Prop :=
  True

def algebraic_AdamVectorIdeal_AdamVectorRefIdeal [hAdamVectorIdeal : Cert.AdamVectorIdeal.Facts] [hAdamVectorRefIdeal : Cert.AdamVectorRefIdeal.Facts] : Prop :=
  ∀ (m : (ℓ : Loc Cert.AdamVectorIdeal.nD Cert.AdamVectorIdeal.τ Cert.AdamVectorIdeal.sig) → Buf (Elt Ideal) ℓ) (g : Dev Cert.AdamVectorIdeal.nD → PrngReg)
    (m' : (ℓ : Loc Cert.AdamVectorRefIdeal.nD Cert.AdamVectorRefIdeal.τ Cert.AdamVectorRefIdeal.sig) → Buf (Elt Ideal) ℓ) (g' : Dev Cert.AdamVectorRefIdeal.nD → PrngReg), Pre_AdamVectorIdeal m →
    (∀ c : Dev Cert.AdamVectorIdeal.nD,
      m' ((c.tc : Thread Cert.AdamVectorRefIdeal.nD Cert.AdamVectorRefIdeal.τ).loc Cert.AdamVectorRefIdeal.main_arg0) = m ((c.tc : Thread Cert.AdamVectorIdeal.nD Cert.AdamVectorIdeal.τ).loc Cert.AdamVectorIdeal.main_arg0)
      ∧ m' ((c.tc : Thread Cert.AdamVectorRefIdeal.nD Cert.AdamVectorRefIdeal.τ).loc Cert.AdamVectorRefIdeal.main_arg1) = m ((c.tc : Thread Cert.AdamVectorIdeal.nD Cert.AdamVectorIdeal.τ).loc Cert.AdamVectorIdeal.main_arg1)
      ∧ m' ((c.tc : Thread Cert.AdamVectorRefIdeal.nD Cert.AdamVectorRefIdeal.τ).loc Cert.AdamVectorRefIdeal.main_arg2) = m ((c.tc : Thread Cert.AdamVectorIdeal.nD Cert.AdamVectorIdeal.τ).loc Cert.AdamVectorIdeal.main_arg2)
      ∧ m' ((c.tc : Thread Cert.AdamVectorRefIdeal.nD Cert.AdamVectorRefIdeal.τ).loc Cert.AdamVectorRefIdeal.main_arg3) = m ((c.tc : Thread Cert.AdamVectorIdeal.nD Cert.AdamVectorIdeal.τ).loc Cert.AdamVectorIdeal.main_arg3)) →
    ∃ (v0 : (c : Dev Cert.AdamVectorIdeal.nD) → Buf (Elt Ideal) ((c.tc : Thread Cert.AdamVectorIdeal.nD Cert.AdamVectorIdeal.τ).loc Cert.AdamVectorIdeal.main_v0_0)) (v1 : (c : Dev Cert.AdamVectorIdeal.nD) → Buf (Elt Ideal) ((c.tc : Thread Cert.AdamVectorIdeal.nD Cert.AdamVectorIdeal.τ).loc Cert.AdamVectorIdeal.main_v0_1)) (v2 : (c : Dev Cert.AdamVectorIdeal.nD) → Buf (Elt Ideal) ((c.tc : Thread Cert.AdamVectorIdeal.nD Cert.AdamVectorIdeal.τ).loc Cert.AdamVectorIdeal.main_v0_2)),
      θ_run (Cert.AdamVectorIdeal.defs (F := Ideal)) (onTc (τ := Cert.AdamVectorIdeal.τ) (Cert.AdamVectorIdeal.main (F := Ideal))) ⟨m, fun _ => 0, g⟩ (fun r => ∀ c : Dev Cert.AdamVectorIdeal.nD,
          r.2.mem ((c.tc : Thread Cert.AdamVectorIdeal.nD Cert.AdamVectorIdeal.τ).loc Cert.AdamVectorIdeal.main_v0_0) = v0 c
          ∧ r.2.mem ((c.tc : Thread Cert.AdamVectorIdeal.nD Cert.AdamVectorIdeal.τ).loc Cert.AdamVectorIdeal.main_v0_1) = v1 c
          ∧ r.2.mem ((c.tc : Thread Cert.AdamVectorIdeal.nD Cert.AdamVectorIdeal.τ).loc Cert.AdamVectorIdeal.main_v0_2) = v2 c
          ∧ r.2.mem ((c.tc : Thread Cert.AdamVectorIdeal.nD Cert.AdamVectorIdeal.τ).loc Cert.AdamVectorIdeal.main_arg0) = m ((c.tc : Thread Cert.AdamVectorIdeal.nD Cert.AdamVectorIdeal.τ).loc Cert.AdamVectorIdeal.main_arg0)
          ∧ r.2.mem ((c.tc : Thread Cert.AdamVectorIdeal.nD Cert.AdamVectorIdeal.τ).loc Cert.AdamVectorIdeal.main_arg1) = m ((c.tc : Thread Cert.AdamVectorIdeal.nD Cert.AdamVectorIdeal.τ).loc Cert.AdamVectorIdeal.main_arg1)
          ∧ r.2.mem ((c.tc : Thread Cert.AdamVectorIdeal.nD Cert.AdamVectorIdeal.τ).loc Cert.AdamVectorIdeal.main_arg2) = m ((c.tc : Thread Cert.AdamVectorIdeal.nD Cert.AdamVectorIdeal.τ).loc Cert.AdamVectorIdeal.main_arg2)
          ∧ r.2.mem ((c.tc : Thread Cert.AdamVectorIdeal.nD Cert.AdamVectorIdeal.τ).loc Cert.AdamVectorIdeal.main_arg3) = m ((c.tc : Thread Cert.AdamVectorIdeal.nD Cert.AdamVectorIdeal.τ).loc Cert.AdamVectorIdeal.main_arg3))
      ∧ θ_run (Cert.AdamVectorRefIdeal.defs (F := Ideal)) (onTc (τ := Cert.AdamVectorRefIdeal.τ) (Cert.AdamVectorRefIdeal.main (F := Ideal))) ⟨m', fun _ => 0, g'⟩ (fun r => ∀ c : Dev Cert.AdamVectorRefIdeal.nD,
          r.2.mem ((c.tc : Thread Cert.AdamVectorRefIdeal.nD Cert.AdamVectorRefIdeal.τ).loc Cert.AdamVectorRefIdeal.main_v23) = v0 c
          ∧ r.2.mem ((c.tc : Thread Cert.AdamVectorRefIdeal.nD Cert.AdamVectorRefIdeal.τ).loc Cert.AdamVectorRefIdeal.main_v4) = v1 c
          ∧ r.2.mem ((c.tc : Thread Cert.AdamVectorRefIdeal.nD Cert.AdamVectorRefIdeal.τ).loc Cert.AdamVectorRefIdeal.main_v10) = v2 c
          ∧ r.2.mem ((c.tc : Thread Cert.AdamVectorRefIdeal.nD Cert.AdamVectorRefIdeal.τ).loc Cert.AdamVectorRefIdeal.main_arg0) = m' ((c.tc : Thread Cert.AdamVectorRefIdeal.nD Cert.AdamVectorRefIdeal.τ).loc Cert.AdamVectorRefIdeal.main_arg0)
          ∧ r.2.mem ((c.tc : Thread Cert.AdamVectorRefIdeal.nD Cert.AdamVectorRefIdeal.τ).loc Cert.AdamVectorRefIdeal.main_arg1) = m' ((c.tc : Thread Cert.AdamVectorRefIdeal.nD Cert.AdamVectorRefIdeal.τ).loc Cert.AdamVectorRefIdeal.main_arg1)
          ∧ r.2.mem ((c.tc : Thread Cert.AdamVectorRefIdeal.nD Cert.AdamVectorRefIdeal.τ).loc Cert.AdamVectorRefIdeal.main_arg2) = m' ((c.tc : Thread Cert.AdamVectorRefIdeal.nD Cert.AdamVectorRefIdeal.τ).loc Cert.AdamVectorRefIdeal.main_arg2)
          ∧ r.2.mem ((c.tc : Thread Cert.AdamVectorRefIdeal.nD Cert.AdamVectorRefIdeal.τ).loc Cert.AdamVectorRefIdeal.main_arg3) = m' ((c.tc : Thread Cert.AdamVectorRefIdeal.nD Cert.AdamVectorRefIdeal.τ).loc Cert.AdamVectorRefIdeal.main_arg3))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_v23) = v0 c
          ∧ r.2.mem ((c.tc : Thread Cert.AdamGainRefIdeal.nD Cert.AdamGainRefIdeal.τ).loc Cert.AdamGainRefIdeal.main_v4) = v1 c
          ∧ r.2.mem ((c.tc : Thread Cert.AdamGainRefIdeal.nD Cert.AdamGainRefIdeal.τ).loc Cert.AdamGainRefIdeal.main_v10) = v2 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3))

def preserves_AdamDecay_AdamDecayIdeal : Prop :=
  True

def algebraic_AdamDecayIdeal_AdamDecayRefIdeal [hAdamDecayIdeal : Cert.AdamDecayIdeal.Facts] [hAdamDecayRefIdeal : Cert.AdamDecayRefIdeal.Facts] : Prop :=
  ∀ (m : (ℓ : Loc Cert.AdamDecayIdeal.nD Cert.AdamDecayIdeal.τ Cert.AdamDecayIdeal.sig) → Buf (Elt Ideal) ℓ) (g : Dev Cert.AdamDecayIdeal.nD → PrngReg)
    (m' : (ℓ : Loc Cert.AdamDecayRefIdeal.nD Cert.AdamDecayRefIdeal.τ Cert.AdamDecayRefIdeal.sig) → Buf (Elt Ideal) ℓ) (g' : Dev Cert.AdamDecayRefIdeal.nD → PrngReg), Pre_AdamDecayIdeal m →
    (∀ c : Dev Cert.AdamDecayIdeal.nD,
      m' ((c.tc : Thread Cert.AdamDecayRefIdeal.nD Cert.AdamDecayRefIdeal.τ).loc Cert.AdamDecayRefIdeal.main_arg0) = m ((c.tc : Thread Cert.AdamDecayIdeal.nD Cert.AdamDecayIdeal.τ).loc Cert.AdamDecayIdeal.main_arg0)
      ∧ m' ((c.tc : Thread Cert.AdamDecayRefIdeal.nD Cert.AdamDecayRefIdeal.τ).loc Cert.AdamDecayRefIdeal.main_arg1) = m ((c.tc : Thread Cert.AdamDecayIdeal.nD Cert.AdamDecayIdeal.τ).loc Cert.AdamDecayIdeal.main_arg1)
      ∧ m' ((c.tc : Thread Cert.AdamDecayRefIdeal.nD Cert.AdamDecayRefIdeal.τ).loc Cert.AdamDecayRefIdeal.main_arg2) = m ((c.tc : Thread Cert.AdamDecayIdeal.nD Cert.AdamDecayIdeal.τ).loc Cert.AdamDecayIdeal.main_arg2)
      ∧ m' ((c.tc : Thread Cert.AdamDecayRefIdeal.nD Cert.AdamDecayRefIdeal.τ).loc Cert.AdamDecayRefIdeal.main_arg3) = m ((c.tc : Thread Cert.AdamDecayIdeal.nD Cert.AdamDecayIdeal.τ).loc Cert.AdamDecayIdeal.main_arg3)) →
    ∃ (v0 : (c : Dev Cert.AdamDecayIdeal.nD) → Buf (Elt Ideal) ((c.tc : Thread Cert.AdamDecayIdeal.nD Cert.AdamDecayIdeal.τ).loc Cert.AdamDecayIdeal.main_v0_0)) (v1 : (c : Dev Cert.AdamDecayIdeal.nD) → Buf (Elt Ideal) ((c.tc : Thread Cert.AdamDecayIdeal.nD Cert.AdamDecayIdeal.τ).loc Cert.AdamDecayIdeal.main_v0_1)) (v2 : (c : Dev Cert.AdamDecayIdeal.nD) → Buf (Elt Ideal) ((c.tc : Thread Cert.AdamDecayIdeal.nD Cert.AdamDecayIdeal.τ).loc Cert.AdamDecayIdeal.main_v0_2)),
      θ_run (Cert.AdamDecayIdeal.defs (F := Ideal)) (onTc (τ := Cert.AdamDecayIdeal.τ) (Cert.AdamDecayIdeal.main (F := Ideal))) ⟨m, fun _ => 0, g⟩ (fun r => ∀ c : Dev Cert.AdamDecayIdeal.nD,
          r.2.mem ((c.tc : Thread Cert.AdamDecayIdeal.nD Cert.AdamDecayIdeal.τ).loc Cert.AdamDecayIdeal.main_v0_0) = v0 c
          ∧ r.2.mem ((c.tc : Thread Cert.AdamDecayIdeal.nD Cert.AdamDecayIdeal.τ).loc Cert.AdamDecayIdeal.main_v0_1) = v1 c
          ∧ r.2.mem ((c.tc : Thread Cert.AdamDecayIdeal.nD Cert.AdamDecayIdeal.τ).loc Cert.AdamDecayIdeal.main_v0_2) = v2 c
          ∧ r.2.mem ((c.tc : Thread Cert.AdamDecayIdeal.nD Cert.AdamDecayIdeal.τ).loc Cert.AdamDecayIdeal.main_arg0) = m ((c.tc : Thread Cert.AdamDecayIdeal.nD Cert.AdamDecayIdeal.τ).loc Cert.AdamDecayIdeal.main_arg0)
          ∧ r.2.mem ((c.tc : Thread Cert.AdamDecayIdeal.nD Cert.AdamDecayIdeal.τ).loc Cert.AdamDecayIdeal.main_arg1) = m ((c.tc : Thread Cert.AdamDecayIdeal.nD Cert.AdamDecayIdeal.τ).loc Cert.AdamDecayIdeal.main_arg1)
          ∧ r.2.mem ((c.tc : Thread Cert.AdamDecayIdeal.nD Cert.AdamDecayIdeal.τ).loc Cert.AdamDecayIdeal.main_arg2) = m ((c.tc : Thread Cert.AdamDecayIdeal.nD Cert.AdamDecayIdeal.τ).loc Cert.AdamDecayIdeal.main_arg2)
          ∧ r.2.mem ((c.tc : Thread Cert.AdamDecayIdeal.nD Cert.AdamDecayIdeal.τ).loc Cert.AdamDecayIdeal.main_arg3) = m ((c.tc : Thread Cert.AdamDecayIdeal.nD Cert.AdamDecayIdeal.τ).loc Cert.AdamDecayIdeal.main_arg3))
      ∧ θ_run (Cert.AdamDecayRefIdeal.defs (F := Ideal)) (onTc (τ := Cert.AdamDecayRefIdeal.τ) (Cert.AdamDecayRefIdeal.main (F := Ideal))) ⟨m', fun _ => 0, g'⟩ (fun r => ∀ c : Dev Cert.AdamDecayRefIdeal.nD,
          r.2.mem ((c.tc : Thread Cert.AdamDecayRefIdeal.nD Cert.AdamDecayRefIdeal.τ).loc Cert.AdamDecayRefIdeal.main_v23) = v0 c
          ∧ r.2.mem ((c.tc : Thread Cert.AdamDecayRefIdeal.nD Cert.AdamDecayRefIdeal.τ).loc Cert.AdamDecayRefIdeal.main_v4) = v1 c
          ∧ r.2.mem ((c.tc : Thread Cert.AdamDecayRefIdeal.nD Cert.AdamDecayRefIdeal.τ).loc Cert.AdamDecayRefIdeal.main_v10) = v2 c
          ∧ r.2.mem ((c.tc : Thread Cert.AdamDecayRefIdeal.nD Cert.AdamDecayRefIdeal.τ).loc Cert.AdamDecayRefIdeal.main_arg0) = m' ((c.tc : Thread Cert.AdamDecayRefIdeal.nD Cert.AdamDecayRefIdeal.τ).loc Cert.AdamDecayRefIdeal.main_arg0)
          ∧ r.2.mem ((c.tc : Thread Cert.AdamDecayRefIdeal.nD Cert.AdamDecayRefIdeal.τ).loc Cert.AdamDecayRefIdeal.main_arg1) = m' ((c.tc : Thread Cert.AdamDecayRefIdeal.nD Cert.AdamDecayRefIdeal.τ).loc Cert.AdamDecayRefIdeal.main_arg1)
          ∧ r.2.mem ((c.tc : Thread Cert.AdamDecayRefIdeal.nD Cert.AdamDecayRefIdeal.τ).loc Cert.AdamDecayRefIdeal.main_arg2) = m' ((c.tc : Thread Cert.AdamDecayRefIdeal.nD Cert.AdamDecayRefIdeal.τ).loc Cert.AdamDecayRefIdeal.main_arg2)
          ∧ r.2.mem ((c.tc : Thread Cert.AdamDecayRefIdeal.nD Cert.AdamDecayRefIdeal.τ).loc Cert.AdamDecayRefIdeal.main_arg3) = m' ((c.tc : Thread Cert.AdamDecayRefIdeal.nD Cert.AdamDecayRefIdeal.τ).loc Cert.AdamDecayRefIdeal.main_arg3))

def preserves_NormMod1_NormMod1Ideal : Prop :=
  True

def algebraic_NormMod1Ideal_NormMod1RefIdeal [hNormMod1Ideal : Cert.NormMod1Ideal.Facts] [hNormMod1RefIdeal : Cert.NormMod1RefIdeal.Facts] : Prop :=
  ∀ (m : (ℓ : Loc Cert.NormMod1Ideal.nD Cert.NormMod1Ideal.τ Cert.NormMod1Ideal.sig) → Buf (Elt Ideal) ℓ) (g : Dev Cert.NormMod1Ideal.nD → PrngReg)
    (m' : (ℓ : Loc Cert.NormMod1RefIdeal.nD Cert.NormMod1RefIdeal.τ Cert.NormMod1RefIdeal.sig) → Buf (Elt Ideal) ℓ) (g' : Dev Cert.NormMod1RefIdeal.nD → PrngReg), Pre_NormMod1Ideal m →
    (∀ c : Dev Cert.NormMod1Ideal.nD,
      m' ((c.tc : Thread Cert.NormMod1RefIdeal.nD Cert.NormMod1RefIdeal.τ).loc Cert.NormMod1RefIdeal.main_arg0) = m ((c.tc : Thread Cert.NormMod1Ideal.nD Cert.NormMod1Ideal.τ).loc Cert.NormMod1Ideal.main_arg0)
      ∧ m' ((c.tc : Thread Cert.NormMod1RefIdeal.nD Cert.NormMod1RefIdeal.τ).loc Cert.NormMod1RefIdeal.main_arg1) = m ((c.tc : Thread Cert.NormMod1Ideal.nD Cert.NormMod1Ideal.τ).loc Cert.NormMod1Ideal.main_arg1)
      ∧ m' ((c.tc : Thread Cert.NormMod1RefIdeal.nD Cert.NormMod1RefIdeal.τ).loc Cert.NormMod1RefIdeal.main_arg2) = m ((c.tc : Thread Cert.NormMod1Ideal.nD Cert.NormMod1Ideal.τ).loc Cert.NormMod1Ideal.main_arg2)) →
    ∃ (v0 : (c : Dev Cert.NormMod1Ideal.nD) → Buf (Elt Ideal) ((c.tc : Thread Cert.NormMod1Ideal.nD Cert.NormMod1Ideal.τ).loc Cert.NormMod1Ideal.main_v0)),
      θ_run (Cert.NormMod1Ideal.defs (F := Ideal)) (onTc (τ := Cert.NormMod1Ideal.τ) (Cert.NormMod1Ideal.main (F := Ideal))) ⟨m, fun _ => 0, g⟩ (fun r => ∀ c : Dev Cert.NormMod1Ideal.nD,
          r.2.mem ((c.tc : Thread Cert.NormMod1Ideal.nD Cert.NormMod1Ideal.τ).loc Cert.NormMod1Ideal.main_v0) = v0 c
          ∧ r.2.mem ((c.tc : Thread Cert.NormMod1Ideal.nD Cert.NormMod1Ideal.τ).loc Cert.NormMod1Ideal.main_arg0) = m ((c.tc : Thread Cert.NormMod1Ideal.nD Cert.NormMod1Ideal.τ).loc Cert.NormMod1Ideal.main_arg0)
          ∧ r.2.mem ((c.tc : Thread Cert.NormMod1Ideal.nD Cert.NormMod1Ideal.τ).loc Cert.NormMod1Ideal.main_arg1) = m ((c.tc : Thread Cert.NormMod1Ideal.nD Cert.NormMod1Ideal.τ).loc Cert.NormMod1Ideal.main_arg1)
          ∧ r.2.mem ((c.tc : Thread Cert.NormMod1Ideal.nD Cert.NormMod1Ideal.τ).loc Cert.NormMod1Ideal.main_arg2) = m ((c.tc : Thread Cert.NormMod1Ideal.nD Cert.NormMod1Ideal.τ).loc Cert.NormMod1Ideal.main_arg2))
      ∧ θ_run (Cert.NormMod1RefIdeal.defs (F := Ideal)) (onTc (τ := Cert.NormMod1RefIdeal.τ) (Cert.NormMod1RefIdeal.main (F := Ideal))) ⟨m', fun _ => 0, g'⟩ (fun r => ∀ c : Dev Cert.NormMod1RefIdeal.nD,
          r.2.mem ((c.tc : Thread Cert.NormMod1RefIdeal.nD Cert.NormMod1RefIdeal.τ).loc Cert.NormMod1RefIdeal.main_v45) = v0 c
          ∧ r.2.mem ((c.tc : Thread Cert.NormMod1RefIdeal.nD Cert.NormMod1RefIdeal.τ).loc Cert.NormMod1RefIdeal.main_arg0) = m' ((c.tc : Thread Cert.NormMod1RefIdeal.nD Cert.NormMod1RefIdeal.τ).loc Cert.NormMod1RefIdeal.main_arg0)
          ∧ r.2.mem ((c.tc : Thread Cert.NormMod1RefIdeal.nD Cert.NormMod1RefIdeal.τ).loc Cert.NormMod1RefIdeal.main_arg1) = m' ((c.tc : Thread Cert.NormMod1RefIdeal.nD Cert.NormMod1RefIdeal.τ).loc Cert.NormMod1RefIdeal.main_arg1)
          ∧ r.2.mem ((c.tc : Thread Cert.NormMod1RefIdeal.nD Cert.NormMod1RefIdeal.τ).loc Cert.NormMod1RefIdeal.main_arg2) = m' ((c.tc : Thread Cert.NormMod1RefIdeal.nD Cert.NormMod1RefIdeal.τ).loc Cert.NormMod1RefIdeal.main_arg2))

def preserves_ResidNorm1_ResidNorm1Ideal : Prop :=
  True

def algebraic_ResidNorm1Ideal_ResidNorm1RefIdeal [hResidNorm1Ideal : Cert.ResidNorm1Ideal.Facts] [hResidNorm1RefIdeal : Cert.ResidNorm1RefIdeal.Facts] : Prop :=
  ∀ (m : (ℓ : Loc Cert.ResidNorm1Ideal.nD Cert.ResidNorm1Ideal.τ Cert.ResidNorm1Ideal.sig) → Buf (Elt Ideal) ℓ) (g : Dev Cert.ResidNorm1Ideal.nD → PrngReg)
    (m' : (ℓ : Loc Cert.ResidNorm1RefIdeal.nD Cert.ResidNorm1RefIdeal.τ Cert.ResidNorm1RefIdeal.sig) → Buf (Elt Ideal) ℓ) (g' : Dev Cert.ResidNorm1RefIdeal.nD → PrngReg), Pre_ResidNorm1Ideal m →
    (∀ c : Dev Cert.ResidNorm1Ideal.nD,
      m' ((c.tc : Thread Cert.ResidNorm1RefIdeal.nD Cert.ResidNorm1RefIdeal.τ).loc Cert.ResidNorm1RefIdeal.main_arg0) = m ((c.tc : Thread Cert.ResidNorm1Ideal.nD Cert.ResidNorm1Ideal.τ).loc Cert.ResidNorm1Ideal.main_arg0)
      ∧ m' ((c.tc : Thread Cert.ResidNorm1RefIdeal.nD Cert.ResidNorm1RefIdeal.τ).loc Cert.ResidNorm1RefIdeal.main_arg1) = m ((c.tc : Thread Cert.ResidNorm1Ideal.nD Cert.ResidNorm1Ideal.τ).loc Cert.ResidNorm1Ideal.main_arg1)
      ∧ m' ((c.tc : Thread Cert.ResidNorm1RefIdeal.nD Cert.ResidNorm1RefIdeal.τ).loc Cert.ResidNorm1RefIdeal.main_arg2) = m ((c.tc : Thread Cert.ResidNorm1Ideal.nD Cert.ResidNorm1Ideal.τ).loc Cert.ResidNorm1Ideal.main_arg2)
      ∧ m' ((c.tc : Thread Cert.ResidNorm1RefIdeal.nD Cert.ResidNorm1RefIdeal.τ).loc Cert.ResidNorm1RefIdeal.main_arg3) = m ((c.tc : Thread Cert.ResidNorm1Ideal.nD Cert.ResidNorm1Ideal.τ).loc Cert.ResidNorm1Ideal.main_arg3)) →
    ∃ (v0 : (c : Dev Cert.ResidNorm1Ideal.nD) → Buf (Elt Ideal) ((c.tc : Thread Cert.ResidNorm1Ideal.nD Cert.ResidNorm1Ideal.τ).loc Cert.ResidNorm1Ideal.main_v1_0)) (v1 : (c : Dev Cert.ResidNorm1Ideal.nD) → Buf (Elt Ideal) ((c.tc : Thread Cert.ResidNorm1Ideal.nD Cert.ResidNorm1Ideal.τ).loc Cert.ResidNorm1Ideal.main_v1_1)),
      θ_run (Cert.ResidNorm1Ideal.defs (F := Ideal)) (onTc (τ := Cert.ResidNorm1Ideal.τ) (Cert.ResidNorm1Ideal.main (F := Ideal))) ⟨m, fun _ => 0, g⟩ (fun r => ∀ c : Dev Cert.ResidNorm1Ideal.nD,
          r.2.mem ((c.tc : Thread Cert.ResidNorm1Ideal.nD Cert.ResidNorm1Ideal.τ).loc Cert.ResidNorm1Ideal.main_v1_0) = v0 c
          ∧ r.2.mem ((c.tc : Thread Cert.ResidNorm1Ideal.nD Cert.ResidNorm1Ideal.τ).loc Cert.ResidNorm1Ideal.main_v1_1) = v1 c
          ∧ r.2.mem ((c.tc : Thread Cert.ResidNorm1Ideal.nD Cert.ResidNorm1Ideal.τ).loc Cert.ResidNorm1Ideal.main_arg0) = m ((c.tc : Thread Cert.ResidNorm1Ideal.nD Cert.ResidNorm1Ideal.τ).loc Cert.ResidNorm1Ideal.main_arg0)
          ∧ r.2.mem ((c.tc : Thread Cert.ResidNorm1Ideal.nD Cert.ResidNorm1Ideal.τ).loc Cert.ResidNorm1Ideal.main_arg1) = m ((c.tc : Thread Cert.ResidNorm1Ideal.nD Cert.ResidNorm1Ideal.τ).loc Cert.ResidNorm1Ideal.main_arg1)
          ∧ r.2.mem ((c.tc : Thread Cert.ResidNorm1Ideal.nD Cert.ResidNorm1Ideal.τ).loc Cert.ResidNorm1Ideal.main_arg2) = m ((c.tc : Thread Cert.ResidNorm1Ideal.nD Cert.ResidNorm1Ideal.τ).loc Cert.ResidNorm1Ideal.main_arg2)
          ∧ r.2.mem ((c.tc : Thread Cert.ResidNorm1Ideal.nD Cert.ResidNorm1Ideal.τ).loc Cert.ResidNorm1Ideal.main_arg3) = m ((c.tc : Thread Cert.ResidNorm1Ideal.nD Cert.ResidNorm1Ideal.τ).loc Cert.ResidNorm1Ideal.main_arg3))
      ∧ θ_run (Cert.ResidNorm1RefIdeal.defs (F := Ideal)) (onTc (τ := Cert.ResidNorm1RefIdeal.τ) (Cert.ResidNorm1RefIdeal.main (F := Ideal))) ⟨m', fun _ => 0, g'⟩ (fun r => ∀ c : Dev Cert.ResidNorm1RefIdeal.nD,
          r.2.mem ((c.tc : Thread Cert.ResidNorm1RefIdeal.nD Cert.ResidNorm1RefIdeal.τ).loc Cert.ResidNorm1RefIdeal.main_v62) = v0 c
          ∧ r.2.mem ((c.tc : Thread Cert.ResidNorm1RefIdeal.nD Cert.ResidNorm1RefIdeal.τ).loc Cert.ResidNorm1RefIdeal.main_v64) = v1 c
          ∧ r.2.mem ((c.tc : Thread Cert.ResidNorm1RefIdeal.nD Cert.ResidNorm1RefIdeal.τ).loc Cert.ResidNorm1RefIdeal.main_arg0) = m' ((c.tc : Thread Cert.ResidNorm1RefIdeal.nD Cert.ResidNorm1RefIdeal.τ).loc Cert.ResidNorm1RefIdeal.main_arg0)
          ∧ r.2.mem ((c.tc : Thread Cert.ResidNorm1RefIdeal.nD Cert.ResidNorm1RefIdeal.τ).loc Cert.ResidNorm1RefIdeal.main_arg1) = m' ((c.tc : Thread Cert.ResidNorm1RefIdeal.nD Cert.ResidNorm1RefIdeal.τ).loc Cert.ResidNorm1RefIdeal.main_arg1)
          ∧ r.2.mem ((c.tc : Thread Cert.ResidNorm1RefIdeal.nD Cert.ResidNorm1RefIdeal.τ).loc Cert.ResidNorm1RefIdeal.main_arg2) = m' ((c.tc : Thread Cert.ResidNorm1RefIdeal.nD Cert.ResidNorm1RefIdeal.τ).loc Cert.ResidNorm1RefIdeal.main_arg2)
          ∧ r.2.mem ((c.tc : Thread Cert.ResidNorm1RefIdeal.nD Cert.ResidNorm1RefIdeal.τ).loc Cert.ResidNorm1RefIdeal.main_arg3) = m' ((c.tc : Thread Cert.ResidNorm1RefIdeal.nD Cert.ResidNorm1RefIdeal.τ).loc Cert.ResidNorm1RefIdeal.main_arg3))

def preserves_ResidNorm2_ResidNorm2Ideal : Prop :=
  True

def algebraic_ResidNorm2Ideal_ResidNorm2RefIdeal [hResidNorm2Ideal : Cert.ResidNorm2Ideal.Facts] [hResidNorm2RefIdeal : Cert.ResidNorm2RefIdeal.Facts] : Prop :=
  ∀ (m : (ℓ : Loc Cert.ResidNorm2Ideal.nD Cert.ResidNorm2Ideal.τ Cert.ResidNorm2Ideal.sig) → Buf (Elt Ideal) ℓ) (g : Dev Cert.ResidNorm2Ideal.nD → PrngReg)
    (m' : (ℓ : Loc Cert.ResidNorm2RefIdeal.nD Cert.ResidNorm2RefIdeal.τ Cert.ResidNorm2RefIdeal.sig) → Buf (Elt Ideal) ℓ) (g' : Dev Cert.ResidNorm2RefIdeal.nD → PrngReg), Pre_ResidNorm2Ideal m →
    (∀ c : Dev Cert.ResidNorm2Ideal.nD,
      m' ((c.tc : Thread Cert.ResidNorm2RefIdeal.nD Cert.ResidNorm2RefIdeal.τ).loc Cert.ResidNorm2RefIdeal.main_arg0) = m ((c.tc : Thread Cert.ResidNorm2Ideal.nD Cert.ResidNorm2Ideal.τ).loc Cert.ResidNorm2Ideal.main_arg0)
      ∧ m' ((c.tc : Thread Cert.ResidNorm2RefIdeal.nD Cert.ResidNorm2RefIdeal.τ).loc Cert.ResidNorm2RefIdeal.main_arg1) = m ((c.tc : Thread Cert.ResidNorm2Ideal.nD Cert.ResidNorm2Ideal.τ).loc Cert.ResidNorm2Ideal.main_arg1)
      ∧ m' ((c.tc : Thread Cert.ResidNorm2RefIdeal.nD Cert.ResidNorm2RefIdeal.τ).loc Cert.ResidNorm2RefIdeal.main_arg2) = m ((c.tc : Thread Cert.ResidNorm2Ideal.nD Cert.ResidNorm2Ideal.τ).loc Cert.ResidNorm2Ideal.main_arg2)) →
    ∃ (v0 : (c : Dev Cert.ResidNorm2Ideal.nD) → Buf (Elt Ideal) ((c.tc : Thread Cert.ResidNorm2Ideal.nD Cert.ResidNorm2Ideal.τ).loc Cert.ResidNorm2Ideal.main_v1_0)) (v1 : (c : Dev Cert.ResidNorm2Ideal.nD) → Buf (Elt Ideal) ((c.tc : Thread Cert.ResidNorm2Ideal.nD Cert.ResidNorm2Ideal.τ).loc Cert.ResidNorm2Ideal.main_v1_1)),
      θ_run (Cert.ResidNorm2Ideal.defs (F := Ideal)) (onTc (τ := Cert.ResidNorm2Ideal.τ) (Cert.ResidNorm2Ideal.main (F := Ideal))) ⟨m, fun _ => 0, g⟩ (fun r => ∀ c : Dev Cert.ResidNorm2Ideal.nD,
          r.2.mem ((c.tc : Thread Cert.ResidNorm2Ideal.nD Cert.ResidNorm2Ideal.τ).loc Cert.ResidNorm2Ideal.main_v1_0) = v0 c
          ∧ r.2.mem ((c.tc : Thread Cert.ResidNorm2Ideal.nD Cert.ResidNorm2Ideal.τ).loc Cert.ResidNorm2Ideal.main_v1_1) = v1 c
          ∧ r.2.mem ((c.tc : Thread Cert.ResidNorm2Ideal.nD Cert.ResidNorm2Ideal.τ).loc Cert.ResidNorm2Ideal.main_arg0) = m ((c.tc : Thread Cert.ResidNorm2Ideal.nD Cert.ResidNorm2Ideal.τ).loc Cert.ResidNorm2Ideal.main_arg0)
          ∧ r.2.mem ((c.tc : Thread Cert.ResidNorm2Ideal.nD Cert.ResidNorm2Ideal.τ).loc Cert.ResidNorm2Ideal.main_arg1) = m ((c.tc : Thread Cert.ResidNorm2Ideal.nD Cert.ResidNorm2Ideal.τ).loc Cert.ResidNorm2Ideal.main_arg1)
          ∧ r.2.mem ((c.tc : Thread Cert.ResidNorm2Ideal.nD Cert.ResidNorm2Ideal.τ).loc Cert.ResidNorm2Ideal.main_arg2) = m ((c.tc : Thread Cert.ResidNorm2Ideal.nD Cert.ResidNorm2Ideal.τ).loc Cert.ResidNorm2Ideal.main_arg2))
      ∧ θ_run (Cert.ResidNorm2RefIdeal.defs (F := Ideal)) (onTc (τ := Cert.ResidNorm2RefIdeal.τ) (Cert.ResidNorm2RefIdeal.main (F := Ideal))) ⟨m', fun _ => 0, g'⟩ (fun r => ∀ c : Dev Cert.ResidNorm2RefIdeal.nD,
          r.2.mem ((c.tc : Thread Cert.ResidNorm2RefIdeal.nD Cert.ResidNorm2RefIdeal.τ).loc Cert.ResidNorm2RefIdeal.main_v6) = v0 c
          ∧ r.2.mem ((c.tc : Thread Cert.ResidNorm2RefIdeal.nD Cert.ResidNorm2RefIdeal.τ).loc Cert.ResidNorm2RefIdeal.main_v29) = v1 c
          ∧ r.2.mem ((c.tc : Thread Cert.ResidNorm2RefIdeal.nD Cert.ResidNorm2RefIdeal.τ).loc Cert.ResidNorm2RefIdeal.main_arg0) = m' ((c.tc : Thread Cert.ResidNorm2RefIdeal.nD Cert.ResidNorm2RefIdeal.τ).loc Cert.ResidNorm2RefIdeal.main_arg0)
          ∧ r.2.mem ((c.tc : Thread Cert.ResidNorm2RefIdeal.nD Cert.ResidNorm2RefIdeal.τ).loc Cert.ResidNorm2RefIdeal.main_arg1) = m' ((c.tc : Thread Cert.ResidNorm2RefIdeal.nD Cert.ResidNorm2RefIdeal.τ).loc Cert.ResidNorm2RefIdeal.main_arg1)
          ∧ r.2.mem ((c.tc : Thread Cert.ResidNorm2RefIdeal.nD Cert.ResidNorm2RefIdeal.τ).loc Cert.ResidNorm2RefIdeal.main_arg2) = m' ((c.tc : Thread Cert.ResidNorm2RefIdeal.nD Cert.ResidNorm2RefIdeal.τ).loc Cert.ResidNorm2RefIdeal.main_arg2))

def preserves_MixInGab_MixInGabIdeal : Prop :=
  True

def algebraic_MixInGabIdeal_MixInGabRefIdeal [hMixInGabIdeal : Cert.MixInGabIdeal.Facts] [hMixInGabRefIdeal : Cert.MixInGabRefIdeal.Facts] : Prop :=
  ∀ (m : (ℓ : Loc Cert.MixInGabIdeal.nD Cert.MixInGabIdeal.τ Cert.MixInGabIdeal.sig) → Buf (Elt Ideal) ℓ) (g : Dev Cert.MixInGabIdeal.nD → PrngReg)
    (m' : (ℓ : Loc Cert.MixInGabRefIdeal.nD Cert.MixInGabRefIdeal.τ Cert.MixInGabRefIdeal.sig) → Buf (Elt Ideal) ℓ) (g' : Dev Cert.MixInGabRefIdeal.nD → PrngReg), Pre_MixInGabIdeal m →
    (∀ c : Dev Cert.MixInGabIdeal.nD,
      m' ((c.tc : Thread Cert.MixInGabRefIdeal.nD Cert.MixInGabRefIdeal.τ).loc Cert.MixInGabRefIdeal.main_arg0) = m ((c.tc : Thread Cert.MixInGabIdeal.nD Cert.MixInGabIdeal.τ).loc Cert.MixInGabIdeal.main_arg0)
      ∧ m' ((c.tc : Thread Cert.MixInGabRefIdeal.nD Cert.MixInGabRefIdeal.τ).loc Cert.MixInGabRefIdeal.main_arg1) = m ((c.tc : Thread Cert.MixInGabIdeal.nD Cert.MixInGabIdeal.τ).loc Cert.MixInGabIdeal.main_arg1)) →
    ∃ (v0 : (c : Dev Cert.MixInGabIdeal.nD) → Buf (Elt Ideal) ((c.tc : Thread Cert.MixInGabIdeal.nD Cert.MixInGabIdeal.τ).loc Cert.MixInGabIdeal.main_v2)),
      θ_run (Cert.MixInGabIdeal.defs (F := Ideal)) (onTc (τ := Cert.MixInGabIdeal.τ) (Cert.MixInGabIdeal.main (F := Ideal))) ⟨m, fun _ => 0, g⟩ (fun r => ∀ c : Dev Cert.MixInGabIdeal.nD,
          r.2.mem ((c.tc : Thread Cert.MixInGabIdeal.nD Cert.MixInGabIdeal.τ).loc Cert.MixInGabIdeal.main_v2) = v0 c
          ∧ r.2.mem ((c.tc : Thread Cert.MixInGabIdeal.nD Cert.MixInGabIdeal.τ).loc Cert.MixInGabIdeal.main_arg0) = m ((c.tc : Thread Cert.MixInGabIdeal.nD Cert.MixInGabIdeal.τ).loc Cert.MixInGabIdeal.main_arg0)
          ∧ r.2.mem ((c.tc : Thread Cert.MixInGabIdeal.nD Cert.MixInGabIdeal.τ).loc Cert.MixInGabIdeal.main_arg1) = m ((c.tc : Thread Cert.MixInGabIdeal.nD Cert.MixInGabIdeal.τ).loc Cert.MixInGabIdeal.main_arg1))
      ∧ θ_run (Cert.MixInGabRefIdeal.defs (F := Ideal)) (onTc (τ := Cert.MixInGabRefIdeal.τ) (Cert.MixInGabRefIdeal.main (F := Ideal))) ⟨m', fun _ => 0, g'⟩ (fun r => ∀ c : Dev Cert.MixInGabRefIdeal.nD,
          r.2.mem ((c.tc : Thread Cert.MixInGabRefIdeal.nD Cert.MixInGabRefIdeal.τ).loc Cert.MixInGabRefIdeal.main_v2) = v0 c
          ∧ r.2.mem ((c.tc : Thread Cert.MixInGabRefIdeal.nD Cert.MixInGabRefIdeal.τ).loc Cert.MixInGabRefIdeal.main_arg0) = m' ((c.tc : Thread Cert.MixInGabRefIdeal.nD Cert.MixInGabRefIdeal.τ).loc Cert.MixInGabRefIdeal.main_arg0)
          ∧ r.2.mem ((c.tc : Thread Cert.MixInGabRefIdeal.nD Cert.MixInGabRefIdeal.τ).loc Cert.MixInGabRefIdeal.main_arg1) = m' ((c.tc : Thread Cert.MixInGabRefIdeal.nD Cert.MixInGabRefIdeal.τ).loc Cert.MixInGabRefIdeal.main_arg1))

def preserves_FlashFwd_FlashFwdIdeal : Prop :=
  IdealRules.named_const.Statement Cert.FlashFwdIdeal.κ "log2" .f32 0x3FB8AA3B#32 (((Real.log 2)⁻¹ : ℝ) : EReal)

def algebraic_FlashFwdIdeal_FlashFwdRefIdeal_pre_finite_qkv [hFlashFwdIdeal : Cert.FlashFwdIdeal.Facts] [hFlashFwdRefIdeal : Cert.FlashFwdRefIdeal.Facts] [hPre_finite_qkv : Cert.Pre_finite_qkv.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdRefIdeal.nD Cert.FlashFwdRefIdeal.τ Cert.FlashFwdRefIdeal.sig) → Buf (Elt Ideal) ℓ) (g' : Dev Cert.FlashFwdRefIdeal.nD → PrngReg), Pre_FlashFwdIdeal_finite_qkv m →
    (∀ c : Dev Cert.FlashFwdIdeal.nD,
      m' ((c.tc : Thread Cert.FlashFwdRefIdeal.nD Cert.FlashFwdRefIdeal.τ).loc Cert.FlashFwdRefIdeal.main_arg0) = m ((c.tc : Thread Cert.FlashFwdIdeal.nD Cert.FlashFwdIdeal.τ).loc Cert.FlashFwdIdeal.main_arg0)
      ∧ m' ((c.tc : Thread Cert.FlashFwdRefIdeal.nD Cert.FlashFwdRefIdeal.τ).loc Cert.FlashFwdRefIdeal.main_arg1) = m ((c.tc : Thread Cert.FlashFwdIdeal.nD Cert.FlashFwdIdeal.τ).loc Cert.FlashFwdIdeal.main_arg1)
      ∧ m' ((c.tc : Thread Cert.FlashFwdRefIdeal.nD Cert.FlashFwdRefIdeal.τ).loc Cert.FlashFwdRefIdeal.main_arg2) = m ((c.tc : Thread Cert.FlashFwdIdeal.nD Cert.FlashFwdIdeal.τ).loc Cert.FlashFwdIdeal.main_arg2)) →
    ∃ (v0 : (c : Dev Cert.FlashFwdIdeal.nD) → Buf (Elt Ideal) ((c.tc : Thread Cert.FlashFwdIdeal.nD Cert.FlashFwdIdeal.τ).loc Cert.FlashFwdIdeal.main_v13_0)) (v1 : (c : Dev Cert.FlashFwdIdeal.nD) → Buf (Elt Ideal) ((c.tc : Thread Cert.FlashFwdIdeal.nD Cert.FlashFwdIdeal.τ).loc Cert.FlashFwdIdeal.main_v13_1)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          r.2.mem ((c.tc : Thread Cert.FlashFwdIdeal.nD Cert.FlashFwdIdeal.τ).loc Cert.FlashFwdIdeal.main_v13_0) = v0 c
          ∧ r.2.mem ((c.tc : Thread Cert.FlashFwdIdeal.nD Cert.FlashFwdIdeal.τ).loc Cert.FlashFwdIdeal.main_v13_1) = v1 c
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ θ_run (Cert.FlashFwdRefIdeal.defs (F := Ideal)) (onTc (τ := Cert.FlashFwdRefIdeal.τ) (Cert.FlashFwdRefIdeal.main (F := Ideal))) ⟨m', fun _ => 0, g'⟩ (fun r => ∀ c : Dev Cert.FlashFwdRefIdeal.nD,
          r.2.mem ((c.tc : Thread Cert.FlashFwdRefIdeal.nD Cert.FlashFwdRefIdeal.τ).loc Cert.FlashFwdRefIdeal.main_v36) = v0 c
          ∧ r.2.mem ((c.tc : Thread Cert.FlashFwdRefIdeal.nD Cert.FlashFwdRefIdeal.τ).loc Cert.FlashFwdRefIdeal.main_v16) = v1 c
          ∧ r.2.mem ((c.tc : Thread Cert.FlashFwdRefIdeal.nD Cert.FlashFwdRefIdeal.τ).loc Cert.FlashFwdRefIdeal.main_arg0) = m' ((c.tc : Thread Cert.FlashFwdRefIdeal.nD Cert.FlashFwdRefIdeal.τ).loc Cert.FlashFwdRefIdeal.main_arg0)
          ∧ r.2.mem ((c.tc : Thread Cert.FlashFwdRefIdeal.nD Cert.FlashFwdRefIdeal.τ).loc Cert.FlashFwdRefIdeal.main_arg1) = m' ((c.tc : Thread Cert.FlashFwdRefIdeal.nD Cert.FlashFwdRefIdeal.τ).loc Cert.FlashFwdRefIdeal.main_arg1)
          ∧ r.2.mem ((c.tc : Thread Cert.FlashFwdRefIdeal.nD Cert.FlashFwdRefIdeal.τ).loc Cert.FlashFwdRefIdeal.main_arg2) = m' ((c.tc : Thread Cert.FlashFwdRefIdeal.nD Cert.FlashFwdRefIdeal.τ).loc Cert.FlashFwdRefIdeal.main_arg2))

def Claim : Prop :=
  ∃ (hKernel : Cert.Kernel.Facts) (hKernelIdeal : Cert.KernelIdeal.Facts) (hReferenceIdeal : Cert.ReferenceIdeal.Facts) (hFfn2InDx : Cert.Ffn2InDx.Facts) (hFfn2InDxIdeal : Cert.Ffn2InDxIdeal.Facts) (hFfn2InDxRefIdeal : Cert.Ffn2InDxRefIdeal.Facts) (hFfn2InDw : Cert.Ffn2InDw.Facts) (hFfn2InDwIdeal : Cert.Ffn2InDwIdeal.Facts) (hFfn2InDwRefIdeal : Cert.Ffn2InDwRefIdeal.Facts) (hFfn2OutDw : Cert.Ffn2OutDw.Facts) (hFfn2OutDwIdeal : Cert.Ffn2OutDwIdeal.Facts) (hFfn2OutDwRefIdeal : Cert.Ffn2OutDwRefIdeal.Facts) (hFfn1InDx : Cert.Ffn1InDx.Facts) (hFfn1InDxIdeal : Cert.Ffn1InDxIdeal.Facts) (hFfn1InDxRefIdeal : Cert.Ffn1InDxRefIdeal.Facts) (hFfn1InDw : Cert.Ffn1InDw.Facts) (hFfn1InDwIdeal : Cert.Ffn1InDwIdeal.Facts) (hFfn1InDwRefIdeal : Cert.Ffn1InDwRefIdeal.Facts) (hFfn1OutDw : Cert.Ffn1OutDw.Facts) (hFfn1OutDwIdeal : Cert.Ffn1OutDwIdeal.Facts) (hFfn1OutDwRefIdeal : Cert.Ffn1OutDwRefIdeal.Facts) (hMixInDx : Cert.MixInDx.Facts) (hMixInDxIdeal : Cert.MixInDxIdeal.Facts) (hMixInDxRefIdeal : Cert.MixInDxRefIdeal.Facts) (hMixInDw : Cert.MixInDw.Facts) (hMixInDwIdeal : Cert.MixInDwIdeal.Facts) (hMixInDwRefIdeal : Cert.MixInDwRefIdeal.Facts) (hMixOutDw : Cert.MixOutDw.Facts) (hMixOutDwIdeal : Cert.MixOutDwIdeal.Facts) (hMixOutDwRefIdeal : Cert.MixOutDwRefIdeal.Facts) (hMixOutDx : Cert.MixOutDx.Facts) (hMixOutDxIdeal : Cert.MixOutDxIdeal.Facts) (hMixOutDxRefIdeal : Cert.MixOutDxRefIdeal.Facts) (hProjDw : Cert.ProjDw.Facts) (hProjDwIdeal : Cert.ProjDwIdeal.Facts) (hProjDwRefIdeal : Cert.ProjDwRefIdeal.Facts) (hProjAttnDx : Cert.ProjAttnDx.Facts) (hProjAttnDxIdeal : Cert.ProjAttnDxIdeal.Facts) (hProjAttnDxRefIdeal : Cert.ProjAttnDxRefIdeal.Facts) (hProjRetDx : Cert.ProjRetDx.Facts) (hProjRetDxIdeal : Cert.ProjRetDxIdeal.Facts) (hProjRetDxRefIdeal : Cert.ProjRetDxRefIdeal.Facts) (hFfn2Out : Cert.Ffn2Out.Facts) (hFfn2OutIdeal : Cert.Ffn2OutIdeal.Facts) (hFfn2OutRefIdeal : Cert.Ffn2OutRefIdeal.Facts) (hFfn1Out : Cert.Ffn1Out.Facts) (hFfn1OutIdeal : Cert.Ffn1OutIdeal.Facts) (hFfn1OutRefIdeal : Cert.Ffn1OutRefIdeal.Facts) (hMixOut : Cert.MixOut.Facts) (hMixOutIdeal : Cert.MixOutIdeal.Facts) (hMixOutRefIdeal : Cert.MixOutRefIdeal.Facts) (hProj : Cert.Proj.Facts) (hProjIdeal : Cert.ProjIdeal.Facts) (hProjRefIdeal : Cert.ProjRefIdeal.Facts) (hFfn2GateGrad : Cert.Ffn2GateGrad.Facts) (hFfn2GateGradIdeal : Cert.Ffn2GateGradIdeal.Facts) (hFfn2GateGradRefIdeal : Cert.Ffn2GateGradRefIdeal.Facts) (hFfn1GateGrad : Cert.Ffn1GateGrad.Facts) (hFfn1GateGradIdeal : Cert.Ffn1GateGradIdeal.Facts) (hFfn1GateGradRefIdeal : Cert.Ffn1GateGradRefIdeal.Facts) (hFfn2In : Cert.Ffn2In.Facts) (hFfn2InIdeal : Cert.Ffn2InIdeal.Facts) (hFfn2InRefIdeal : Cert.Ffn2InRefIdeal.Facts) (hFfn1In : Cert.Ffn1In.Facts) (hFfn1InIdeal : Cert.Ffn1InIdeal.Facts) (hFfn1InRefIdeal : Cert.Ffn1InRefIdeal.Facts) (hMixInQ : Cert.MixInQ.Facts) (hMixInQIdeal : Cert.MixInQIdeal.Facts) (hMixInQRefIdeal : Cert.MixInQRefIdeal.Facts) (hMixInKv : Cert.MixInKv.Facts) (hMixInKvIdeal : Cert.MixInKvIdeal.Facts) (hMixInKvRefIdeal : Cert.MixInKvRefIdeal.Facts) (hMixInRet : Cert.MixInRet.Facts) (hMixInRetIdeal : Cert.MixInRetIdeal.Facts) (hMixInRetRefIdeal : Cert.MixInRetRefIdeal.Facts) (hMixInGr : Cert.MixInGr.Facts) (hMixInGrIdeal : Cert.MixInGrIdeal.Facts) (hMixInGrRefIdeal : Cert.MixInGrRefIdeal.Facts) (hMerge : Cert.Merge.Facts) (hMergeIdeal : Cert.MergeIdeal.Facts) (hMergeRefIdeal : Cert.MergeRefIdeal.Facts) (hMergeGrad : Cert.MergeGrad.Facts) (hMergeGradIdeal : Cert.MergeGradIdeal.Facts) (hMergeGradRefIdeal : Cert.MergeGradRefIdeal.Facts) (hRetSum : Cert.RetSum.Facts) (hRetSumIdeal : Cert.RetSumIdeal.Facts) (hRetSumRefIdeal : Cert.RetSumRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamMixIn : Cert.AdamMixIn.Facts) (hAdamMixInIdeal : Cert.AdamMixInIdeal.Facts) (hAdamMixInRefIdeal : Cert.AdamMixInRefIdeal.Facts) (hAdamProj : Cert.AdamProj.Facts) (hAdamProjIdeal : Cert.AdamProjIdeal.Facts) (hAdamProjRefIdeal : Cert.AdamProjRefIdeal.Facts) (hAdamMixOut : Cert.AdamMixOut.Facts) (hAdamMixOutIdeal : Cert.AdamMixOutIdeal.Facts) (hAdamMixOutRefIdeal : Cert.AdamMixOutRefIdeal.Facts) (hAdamAda : Cert.AdamAda.Facts) (hAdamAdaIdeal : Cert.AdamAdaIdeal.Facts) (hAdamAdaRefIdeal : Cert.AdamAdaRefIdeal.Facts) (hAdamBias : Cert.AdamBias.Facts) (hAdamBiasIdeal : Cert.AdamBiasIdeal.Facts) (hAdamBiasRefIdeal : Cert.AdamBiasRefIdeal.Facts) (hAdamVector : Cert.AdamVector.Facts) (hAdamVectorIdeal : Cert.AdamVectorIdeal.Facts) (hAdamVectorRefIdeal : Cert.AdamVectorRefIdeal.Facts) (hAdamGain : Cert.AdamGain.Facts) (hAdamGainIdeal : Cert.AdamGainIdeal.Facts) (hAdamGainRefIdeal : Cert.AdamGainRefIdeal.Facts) (hAdamDecay : Cert.AdamDecay.Facts) (hAdamDecayIdeal : Cert.AdamDecayIdeal.Facts) (hAdamDecayRefIdeal : Cert.AdamDecayRefIdeal.Facts) (hNormMod1 : Cert.NormMod1.Facts) (hNormMod1Ideal : Cert.NormMod1Ideal.Facts) (hNormMod1RefIdeal : Cert.NormMod1RefIdeal.Facts) (hResidNorm1 : Cert.ResidNorm1.Facts) (hResidNorm1Ideal : Cert.ResidNorm1Ideal.Facts) (hResidNorm1RefIdeal : Cert.ResidNorm1RefIdeal.Facts) (hResidNorm2 : Cert.ResidNorm2.Facts) (hResidNorm2Ideal : Cert.ResidNorm2Ideal.Facts) (hResidNorm2RefIdeal : Cert.ResidNorm2RefIdeal.Facts) (hMixInGab : Cert.MixInGab.Facts) (hMixInGabIdeal : Cert.MixInGabIdeal.Facts) (hMixInGabRefIdeal : Cert.MixInGabRefIdeal.Facts) (hFlashFwd : Cert.FlashFwd.Facts) (hFlashFwdIdeal : Cert.FlashFwdIdeal.Facts) (hFlashFwdRefIdeal : Cert.FlashFwdRefIdeal.Facts) (hPre_finite : Cert.Pre_finite.Facts) (hPre_finite_qkv : Cert.Pre_finite_qkv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn2InDx (hFfn2InDx := hFfn2InDx)
    ∧ quiescent_Ffn2InDxIdeal (hFfn2InDxIdeal := hFfn2InDxIdeal)
    ∧ quiescent_Ffn2InDxRefIdeal (hFfn2InDxRefIdeal := hFfn2InDxRefIdeal)
    ∧ quiescent_Ffn2InDw (hFfn2InDw := hFfn2InDw)
    ∧ quiescent_Ffn2InDwIdeal (hFfn2InDwIdeal := hFfn2InDwIdeal)
    ∧ quiescent_Ffn2InDwRefIdeal (hFfn2InDwRefIdeal := hFfn2InDwRefIdeal)
    ∧ quiescent_Ffn2OutDw (hFfn2OutDw := hFfn2OutDw)
    ∧ quiescent_Ffn2OutDwIdeal (hFfn2OutDwIdeal := hFfn2OutDwIdeal)
    ∧ quiescent_Ffn2OutDwRefIdeal (hFfn2OutDwRefIdeal := hFfn2OutDwRefIdeal)
    ∧ quiescent_Ffn1InDx (hFfn1InDx := hFfn1InDx)
    ∧ quiescent_Ffn1InDxIdeal (hFfn1InDxIdeal := hFfn1InDxIdeal)
    ∧ quiescent_Ffn1InDxRefIdeal (hFfn1InDxRefIdeal := hFfn1InDxRefIdeal)
    ∧ quiescent_Ffn1InDw (hFfn1InDw := hFfn1InDw)
    ∧ quiescent_Ffn1InDwIdeal (hFfn1InDwIdeal := hFfn1InDwIdeal)
    ∧ quiescent_Ffn1InDwRefIdeal (hFfn1InDwRefIdeal := hFfn1InDwRefIdeal)
    ∧ quiescent_Ffn1OutDw (hFfn1OutDw := hFfn1OutDw)
    ∧ quiescent_Ffn1OutDwIdeal (hFfn1OutDwIdeal := hFfn1OutDwIdeal)
    ∧ quiescent_Ffn1OutDwRefIdeal (hFfn1OutDwRefIdeal := hFfn1OutDwRefIdeal)
    ∧ quiescent_MixInDx (hMixInDx := hMixInDx)
    ∧ quiescent_MixInDxIdeal (hMixInDxIdeal := hMixInDxIdeal)
    ∧ quiescent_MixInDxRefIdeal (hMixInDxRefIdeal := hMixInDxRefIdeal)
    ∧ quiescent_MixInDw (hMixInDw := hMixInDw)
    ∧ quiescent_MixInDwIdeal (hMixInDwIdeal := hMixInDwIdeal)
    ∧ quiescent_MixInDwRefIdeal (hMixInDwRefIdeal := hMixInDwRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjAttnDx (hProjAttnDx := hProjAttnDx)
    ∧ quiescent_ProjAttnDxIdeal (hProjAttnDxIdeal := hProjAttnDxIdeal)
    ∧ quiescent_ProjAttnDxRefIdeal (hProjAttnDxRefIdeal := hProjAttnDxRefIdeal)
    ∧ quiescent_ProjRetDx (hProjRetDx := hProjRetDx)
    ∧ quiescent_ProjRetDxIdeal (hProjRetDxIdeal := hProjRetDxIdeal)
    ∧ quiescent_ProjRetDxRefIdeal (hProjRetDxRefIdeal := hProjRetDxRefIdeal)
    ∧ quiescent_Ffn2Out (hFfn2Out := hFfn2Out)
    ∧ quiescent_Ffn2OutIdeal (hFfn2OutIdeal := hFfn2OutIdeal)
    ∧ quiescent_Ffn2OutRefIdeal (hFfn2OutRefIdeal := hFfn2OutRefIdeal)
    ∧ quiescent_Ffn1Out (hFfn1Out := hFfn1Out)
    ∧ quiescent_Ffn1OutIdeal (hFfn1OutIdeal := hFfn1OutIdeal)
    ∧ quiescent_Ffn1OutRefIdeal (hFfn1OutRefIdeal := hFfn1OutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Proj (hProj := hProj)
    ∧ quiescent_ProjIdeal (hProjIdeal := hProjIdeal)
    ∧ quiescent_ProjRefIdeal (hProjRefIdeal := hProjRefIdeal)
    ∧ quiescent_Ffn2GateGrad (hFfn2GateGrad := hFfn2GateGrad)
    ∧ quiescent_Ffn2GateGradIdeal (hFfn2GateGradIdeal := hFfn2GateGradIdeal)
    ∧ quiescent_Ffn2GateGradRefIdeal (hFfn2GateGradRefIdeal := hFfn2GateGradRefIdeal)
    ∧ quiescent_Ffn1GateGrad (hFfn1GateGrad := hFfn1GateGrad)
    ∧ quiescent_Ffn1GateGradIdeal (hFfn1GateGradIdeal := hFfn1GateGradIdeal)
    ∧ quiescent_Ffn1GateGradRefIdeal (hFfn1GateGradRefIdeal := hFfn1GateGradRefIdeal)
    ∧ quiescent_Ffn2In (hFfn2In := hFfn2In)
    ∧ quiescent_Ffn2InIdeal (hFfn2InIdeal := hFfn2InIdeal)
    ∧ quiescent_Ffn2InRefIdeal (hFfn2InRefIdeal := hFfn2InRefIdeal)
    ∧ quiescent_Ffn1In (hFfn1In := hFfn1In)
    ∧ quiescent_Ffn1InIdeal (hFfn1InIdeal := hFfn1InIdeal)
    ∧ quiescent_Ffn1InRefIdeal (hFfn1InRefIdeal := hFfn1InRefIdeal)
    ∧ quiescent_MixInQ (hMixInQ := hMixInQ)
    ∧ quiescent_MixInQIdeal (hMixInQIdeal := hMixInQIdeal)
    ∧ quiescent_MixInQRefIdeal (hMixInQRefIdeal := hMixInQRefIdeal)
    ∧ quiescent_MixInKv (hMixInKv := hMixInKv)
    ∧ quiescent_MixInKvIdeal (hMixInKvIdeal := hMixInKvIdeal)
    ∧ quiescent_MixInKvRefIdeal (hMixInKvRefIdeal := hMixInKvRefIdeal)
    ∧ quiescent_MixInRet (hMixInRet := hMixInRet)
    ∧ quiescent_MixInRetIdeal (hMixInRetIdeal := hMixInRetIdeal)
    ∧ quiescent_MixInRetRefIdeal (hMixInRetRefIdeal := hMixInRetRefIdeal)
    ∧ quiescent_MixInGr (hMixInGr := hMixInGr)
    ∧ quiescent_MixInGrIdeal (hMixInGrIdeal := hMixInGrIdeal)
    ∧ quiescent_MixInGrRefIdeal (hMixInGrRefIdeal := hMixInGrRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeGrad (hMergeGrad := hMergeGrad)
    ∧ quiescent_MergeGradIdeal (hMergeGradIdeal := hMergeGradIdeal)
    ∧ quiescent_MergeGradRefIdeal (hMergeGradRefIdeal := hMergeGradRefIdeal)
    ∧ quiescent_RetSum (hRetSum := hRetSum)
    ∧ quiescent_RetSumIdeal (hRetSumIdeal := hRetSumIdeal)
    ∧ quiescent_RetSumRefIdeal (hRetSumRefIdeal := hRetSumRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamMixIn (hAdamMixIn := hAdamMixIn)
    ∧ quiescent_AdamMixInIdeal (hAdamMixInIdeal := hAdamMixInIdeal)
    ∧ quiescent_AdamMixInRefIdeal (hAdamMixInRefIdeal := hAdamMixInRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamMixOut (hAdamMixOut := hAdamMixOut)
    ∧ quiescent_AdamMixOutIdeal (hAdamMixOutIdeal := hAdamMixOutIdeal)
    ∧ quiescent_AdamMixOutRefIdeal (hAdamMixOutRefIdeal := hAdamMixOutRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamVector (hAdamVector := hAdamVector)
    ∧ quiescent_AdamVectorIdeal (hAdamVectorIdeal := hAdamVectorIdeal)
    ∧ quiescent_AdamVectorRefIdeal (hAdamVectorRefIdeal := hAdamVectorRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ quiescent_AdamDecay (hAdamDecay := hAdamDecay)
    ∧ quiescent_AdamDecayIdeal (hAdamDecayIdeal := hAdamDecayIdeal)
    ∧ quiescent_AdamDecayRefIdeal (hAdamDecayRefIdeal := hAdamDecayRefIdeal)
    ∧ quiescent_NormMod1 (hNormMod1 := hNormMod1)
    ∧ quiescent_NormMod1Ideal (hNormMod1Ideal := hNormMod1Ideal)
    ∧ quiescent_NormMod1RefIdeal (hNormMod1RefIdeal := hNormMod1RefIdeal)
    ∧ quiescent_ResidNorm1 (hResidNorm1 := hResidNorm1)
    ∧ quiescent_ResidNorm1Ideal (hResidNorm1Ideal := hResidNorm1Ideal)
    ∧ quiescent_ResidNorm1RefIdeal (hResidNorm1RefIdeal := hResidNorm1RefIdeal)
    ∧ quiescent_ResidNorm2 (hResidNorm2 := hResidNorm2)
    ∧ quiescent_ResidNorm2Ideal (hResidNorm2Ideal := hResidNorm2Ideal)
    ∧ quiescent_ResidNorm2RefIdeal (hResidNorm2RefIdeal := hResidNorm2RefIdeal)
    ∧ quiescent_MixInGab (hMixInGab := hMixInGab)
    ∧ quiescent_MixInGabIdeal (hMixInGabIdeal := hMixInGabIdeal)
    ∧ quiescent_MixInGabRefIdeal (hMixInGabRefIdeal := hMixInGabRefIdeal)
    ∧ quiescent_FlashFwd (hFlashFwd := hFlashFwd)
    ∧ quiescent_FlashFwdIdeal (hFlashFwdIdeal := hFlashFwdIdeal)
    ∧ quiescent_FlashFwdIdeal_pre_finite_qkv (hFlashFwdIdeal := hFlashFwdIdeal) (hPre_finite_qkv := hPre_finite_qkv)
    ∧ quiescent_FlashFwdRefIdeal (hFlashFwdRefIdeal := hFlashFwdRefIdeal)
    ∧ quiescent_FlashFwdRefIdeal_pre_finite_qkv (hFlashFwdRefIdeal := hFlashFwdRefIdeal) (hPre_finite_qkv := hPre_finite_qkv)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn2InDx_Ffn2InDxIdeal
    ∧ algebraic_Ffn2InDxIdeal_Ffn2InDxRefIdeal (hFfn2InDxIdeal := hFfn2InDxIdeal) (hFfn2InDxRefIdeal := hFfn2InDxRefIdeal)
    ∧ preserves_Ffn2InDw_Ffn2InDwIdeal
    ∧ algebraic_Ffn2InDwIdeal_Ffn2InDwRefIdeal (hFfn2InDwIdeal := hFfn2InDwIdeal) (hFfn2InDwRefIdeal := hFfn2InDwRefIdeal)
    ∧ preserves_Ffn2OutDw_Ffn2OutDwIdeal
    ∧ algebraic_Ffn2OutDwIdeal_Ffn2OutDwRefIdeal (hFfn2OutDwIdeal := hFfn2OutDwIdeal) (hFfn2OutDwRefIdeal := hFfn2OutDwRefIdeal)
    ∧ preserves_Ffn1InDx_Ffn1InDxIdeal
    ∧ algebraic_Ffn1InDxIdeal_Ffn1InDxRefIdeal (hFfn1InDxIdeal := hFfn1InDxIdeal) (hFfn1InDxRefIdeal := hFfn1InDxRefIdeal)
    ∧ preserves_Ffn1InDw_Ffn1InDwIdeal
    ∧ algebraic_Ffn1InDwIdeal_Ffn1InDwRefIdeal (hFfn1InDwIdeal := hFfn1InDwIdeal) (hFfn1InDwRefIdeal := hFfn1InDwRefIdeal)
    ∧ preserves_Ffn1OutDw_Ffn1OutDwIdeal
    ∧ algebraic_Ffn1OutDwIdeal_Ffn1OutDwRefIdeal (hFfn1OutDwIdeal := hFfn1OutDwIdeal) (hFfn1OutDwRefIdeal := hFfn1OutDwRefIdeal)
    ∧ preserves_MixInDx_MixInDxIdeal
    ∧ algebraic_MixInDxIdeal_MixInDxRefIdeal (hMixInDxIdeal := hMixInDxIdeal) (hMixInDxRefIdeal := hMixInDxRefIdeal)
    ∧ preserves_MixInDw_MixInDwIdeal
    ∧ algebraic_MixInDwIdeal_MixInDwRefIdeal (hMixInDwIdeal := hMixInDwIdeal) (hMixInDwRefIdeal := hMixInDwRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_ProjDw_ProjDwIdeal
    ∧ algebraic_ProjDwIdeal_ProjDwRefIdeal (hProjDwIdeal := hProjDwIdeal) (hProjDwRefIdeal := hProjDwRefIdeal)
    ∧ preserves_ProjAttnDx_ProjAttnDxIdeal
    ∧ algebraic_ProjAttnDxIdeal_ProjAttnDxRefIdeal (hProjAttnDxIdeal := hProjAttnDxIdeal) (hProjAttnDxRefIdeal := hProjAttnDxRefIdeal)
    ∧ preserves_ProjRetDx_ProjRetDxIdeal
    ∧ algebraic_ProjRetDxIdeal_ProjRetDxRefIdeal (hProjRetDxIdeal := hProjRetDxIdeal) (hProjRetDxRefIdeal := hProjRetDxRefIdeal)
    ∧ preserves_Ffn2Out_Ffn2OutIdeal
    ∧ algebraic_Ffn2OutIdeal_Ffn2OutRefIdeal (hFfn2OutIdeal := hFfn2OutIdeal) (hFfn2OutRefIdeal := hFfn2OutRefIdeal)
    ∧ preserves_Ffn1Out_Ffn1OutIdeal
    ∧ algebraic_Ffn1OutIdeal_Ffn1OutRefIdeal (hFfn1OutIdeal := hFfn1OutIdeal) (hFfn1OutRefIdeal := hFfn1OutRefIdeal)
    ∧ preserves_MixOut_MixOutIdeal
    ∧ algebraic_MixOutIdeal_MixOutRefIdeal (hMixOutIdeal := hMixOutIdeal) (hMixOutRefIdeal := hMixOutRefIdeal)
    ∧ preserves_Proj_ProjIdeal
    ∧ algebraic_ProjIdeal_ProjRefIdeal (hProjIdeal := hProjIdeal) (hProjRefIdeal := hProjRefIdeal)
    ∧ preserves_Ffn2GateGrad_Ffn2GateGradIdeal
    ∧ algebraic_Ffn2GateGradIdeal_Ffn2GateGradRefIdeal (hFfn2GateGradIdeal := hFfn2GateGradIdeal) (hFfn2GateGradRefIdeal := hFfn2GateGradRefIdeal)
    ∧ preserves_Ffn1GateGrad_Ffn1GateGradIdeal
    ∧ algebraic_Ffn1GateGradIdeal_Ffn1GateGradRefIdeal (hFfn1GateGradIdeal := hFfn1GateGradIdeal) (hFfn1GateGradRefIdeal := hFfn1GateGradRefIdeal)
    ∧ preserves_Ffn2In_Ffn2InIdeal
    ∧ algebraic_Ffn2InIdeal_Ffn2InRefIdeal (hFfn2InIdeal := hFfn2InIdeal) (hFfn2InRefIdeal := hFfn2InRefIdeal)
    ∧ preserves_Ffn1In_Ffn1InIdeal
    ∧ algebraic_Ffn1InIdeal_Ffn1InRefIdeal (hFfn1InIdeal := hFfn1InIdeal) (hFfn1InRefIdeal := hFfn1InRefIdeal)
    ∧ preserves_MixInQ_MixInQIdeal
    ∧ algebraic_MixInQIdeal_MixInQRefIdeal (hMixInQIdeal := hMixInQIdeal) (hMixInQRefIdeal := hMixInQRefIdeal)
    ∧ preserves_MixInKv_MixInKvIdeal
    ∧ algebraic_MixInKvIdeal_MixInKvRefIdeal (hMixInKvIdeal := hMixInKvIdeal) (hMixInKvRefIdeal := hMixInKvRefIdeal)
    ∧ preserves_MixInRet_MixInRetIdeal
    ∧ algebraic_MixInRetIdeal_MixInRetRefIdeal (hMixInRetIdeal := hMixInRetIdeal) (hMixInRetRefIdeal := hMixInRetRefIdeal)
    ∧ preserves_MixInGr_MixInGrIdeal
    ∧ algebraic_MixInGrIdeal_MixInGrRefIdeal (hMixInGrIdeal := hMixInGrIdeal) (hMixInGrRefIdeal := hMixInGrRefIdeal)
    ∧ preserves_Merge_MergeIdeal
    ∧ algebraic_MergeIdeal_MergeRefIdeal (hMergeIdeal := hMergeIdeal) (hMergeRefIdeal := hMergeRefIdeal)
    ∧ preserves_MergeGrad_MergeGradIdeal
    ∧ algebraic_MergeGradIdeal_MergeGradRefIdeal (hMergeGradIdeal := hMergeGradIdeal) (hMergeGradRefIdeal := hMergeGradRefIdeal)
    ∧ preserves_RetSum_RetSumIdeal
    ∧ algebraic_RetSumIdeal_RetSumRefIdeal (hRetSumIdeal := hRetSumIdeal) (hRetSumRefIdeal := hRetSumRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamMixIn_AdamMixInIdeal
    ∧ algebraic_AdamMixInIdeal_AdamMixInRefIdeal (hAdamMixInIdeal := hAdamMixInIdeal) (hAdamMixInRefIdeal := hAdamMixInRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamMixOut_AdamMixOutIdeal
    ∧ algebraic_AdamMixOutIdeal_AdamMixOutRefIdeal (hAdamMixOutIdeal := hAdamMixOutIdeal) (hAdamMixOutRefIdeal := hAdamMixOutRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_AdamVector_AdamVectorIdeal
    ∧ algebraic_AdamVectorIdeal_AdamVectorRefIdeal (hAdamVectorIdeal := hAdamVectorIdeal) (hAdamVectorRefIdeal := hAdamVectorRefIdeal)
    ∧ preserves_AdamGain_AdamGainIdeal
    ∧ algebraic_AdamGainIdeal_AdamGainRefIdeal (hAdamGainIdeal := hAdamGainIdeal) (hAdamGainRefIdeal := hAdamGainRefIdeal)
    ∧ preserves_AdamDecay_AdamDecayIdeal
    ∧ algebraic_AdamDecayIdeal_AdamDecayRefIdeal (hAdamDecayIdeal := hAdamDecayIdeal) (hAdamDecayRefIdeal := hAdamDecayRefIdeal)
    ∧ preserves_NormMod1_NormMod1Ideal
    ∧ algebraic_NormMod1Ideal_NormMod1RefIdeal (hNormMod1Ideal := hNormMod1Ideal) (hNormMod1RefIdeal := hNormMod1RefIdeal)
    ∧ preserves_ResidNorm1_ResidNorm1Ideal
    ∧ algebraic_ResidNorm1Ideal_ResidNorm1RefIdeal (hResidNorm1Ideal := hResidNorm1Ideal) (hResidNorm1RefIdeal := hResidNorm1RefIdeal)
    ∧ preserves_ResidNorm2_ResidNorm2Ideal
    ∧ algebraic_ResidNorm2Ideal_ResidNorm2RefIdeal (hResidNorm2Ideal := hResidNorm2Ideal) (hResidNorm2RefIdeal := hResidNorm2RefIdeal)
    ∧ preserves_MixInGab_MixInGabIdeal
    ∧ algebraic_MixInGabIdeal_MixInGabRefIdeal (hMixInGabIdeal := hMixInGabIdeal) (hMixInGabRefIdeal := hMixInGabRefIdeal)
    ∧ preserves_FlashFwd_FlashFwdIdeal
    ∧ algebraic_FlashFwdIdeal_FlashFwdRefIdeal_pre_finite_qkv (hFlashFwdIdeal := hFlashFwdIdeal) (hFlashFwdRefIdeal := hFlashFwdRefIdeal) (hPre_finite_qkv := hPre_finite_qkv)
-- ==== Pre_finite.lean ====
abbrev S8192x1024 : Shape := ⟨2, ![8192, 1024]⟩
abbrev S8448x256 : Shape := ⟨2, ![8448, 256]⟩
abbrev S_ : Shape := ⟨0, ![]⟩

class Facts : Prop where
  bcast_S_S8192x1024 : S_.BroadcastsInDim S8192x1024 (![] : Fin 0 → Fin S8192x1024.rank)
  bcast_S_S8448x256 : S_.BroadcastsInDim S8448x256 (![] : Fin 0 → Fin S8448x256.rank)

variable [Facts]

def fn {F : FTy → Type} [FloatOps F] (main_arg0 : FVec F S8192x1024 .f32) (main_arg1 : FVec F S8448x256 .f32) (main_arg2 : FVec F S8448x256 .f32) (main_arg3 : FVec F S8192x1024 .f32) : IVec S8192x1024 1 × IVec S8448x256 1 × IVec S8448x256 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8448x256 .f32 := Host.absf main_arg1
  let main_cst_0 : FVec F S_ .f32 := constant S_ .f32 0x7F800000#32
  let main_v4 : FVec F S8448x256 .f32 := broadcastInDim S8448x256 ![] bcast_S_S8448x256 main_cst_0
  let main_v5 : IVec S8448x256 1 := cmpf .olt main_v3 main_v4
  let main_v6 : FVec F S8448x256 .f32 := Host.absf main_arg2
  let main_cst_1 : FVec F S_ .f32 := constant S_ .f32 0x7F800000#32
  let main_v7 : FVec F S8448x256 .f32 := broadcastInDim S8448x256 ![] bcast_S_S8448x256 main_cst_1
  let main_v8 : IVec S8448x256 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_qkv.lean ====
abbrev S8192x1024 : Shape := ⟨2, ![8192, 1024]⟩
abbrev S8448x256 : Shape := ⟨2, ![8448, 256]⟩
abbrev S_ : Shape := ⟨0, ![]⟩

class Facts : Prop where
  bcast_S_S8192x1024 : S_.BroadcastsInDim S8192x1024 (![] : Fin 0 → Fin S8192x1024.rank)
  bcast_S_S8448x256 : S_.BroadcastsInDim S8448x256 (![] : Fin 0 → Fin S8448x256.rank)

variable [Facts]

def fn {F : FTy → Type} [FloatOps F] (main_arg0 : FVec F S8192x1024 .f32) (main_arg1 : FVec F S8448x256 .f32) (main_arg2 : FVec F S8448x256 .f32) : IVec S8192x1024 1 × IVec S8448x256 1 × IVec S8448x256 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8448x256 .f32 := Host.absf main_arg1
  let main_cst_0 : FVec F S_ .f32 := constant S_ .f32 0x7F800000#32
  let main_v4 : FVec F S8448x256 .f32 := broadcastInDim S8448x256 ![] bcast_S_S8448x256 main_cst_0
  let main_v5 : IVec S8448x256 1 := cmpf .olt main_v3 main_v4
  let main_v6 : FVec F S8448x256 .f32 := Host.absf main_arg2
  let main_cst_1 : FVec F S_ .f32 := constant S_ .f32 0x7F800000#32
  let main_v7 : FVec F S8448x256 .f32 := broadcastInDim S8448x256 ![] bcast_S_S8448x256 main_cst_1
  let main_v8 : IVec S8448x256 1 := cmpf .olt main_v6 main_v7
  (main_v2, main_v5, main_v8)
-- ==== Kernel.lean ====
abbrev S8192x1024 : Shape := ⟨2, ![8192, 1024]⟩
abbrev S8448x256 : Shape := ⟨2, ![8448, 256]⟩
abbrev S_ : Shape := ⟨0, ![]⟩
abbrev S8192x2x4x128 : Shape := ⟨4, ![8192, 2, 4, 128]⟩
abbrev S8448x2x128 : Shape := ⟨3, ![8448, 2, 128]⟩
abbrev S2x8448x8192x4 : Shape := ⟨4, ![2, 8448, 8192, 4]⟩
abbrev S2x4x8192x8448 : Shape := ⟨4, ![2, 4, 8192, 8448]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S8192x2x4 : Shape := ⟨3, ![8192, 2, 4]⟩
abbrev S8192x2x4x1 : Shape := ⟨4, ![8192, 2, 4, 1]⟩
abbrev S8448x2x256 : Shape := ⟨3, ![8448, 2, 256]⟩
abbrev S8448x512 : Shape := ⟨2, ![8448, 512]⟩
abbrev S1024x512 : Shape := ⟨2, ![1024, 512]⟩
abbrev S768x128 : Shape := ⟨2, ![768, 128]⟩
abbrev S768x256 : Shape := ⟨2, ![768, 256]⟩
abbrev S8x4x1024x128 : Shape := ⟨4, ![8, 4, 1024, 128]⟩
abbrev S4x1024x128 : Shape := ⟨3, ![4, 1024, 128]⟩
abbrev S1x4x1024x128 : Shape := ⟨4, ![1, 4, 1024, 128]⟩
abbrev S1024x128 : Shape := ⟨2, ![1024, 128]⟩
abbrev S1024 : Shape := ⟨1, ![1024]⟩
abbrev S1024x1 : Shape := ⟨2, ![1024, 1]⟩
abbrev S1024x768 : Shape := ⟨2, ![1024, 768]⟩
abbrev S1x1x1024x128 : Shape := ⟨4, ![1, 1, 1024, 128]⟩

abbrev nBuf : Space → Nat
  | .hbm => 59
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x2x4x128, .f32⟩
  | .hbm, ⟨8, _⟩ => ⟨S8448x2x128, .f32⟩
  | .hbm, ⟨9, _⟩ => ⟨S2x8448x8192x4, .f32⟩
  | .hbm, ⟨10, _⟩ => ⟨S2x4x8192x8448, .f32⟩
  | .hbm, ⟨11, _⟩ => ⟨S_, .f32⟩
  | .hbm, ⟨12, _⟩ => ⟨S2x4x8192, .f32⟩
  | .hbm, ⟨13, _⟩ => ⟨S2x4x8192x1, .f32⟩
  | .hbm, ⟨14, _⟩ => ⟨S2x4x8192x8448, .f32⟩
  | .hbm, ⟨15, _⟩ => ⟨S2x4x8192x8448, .f32⟩
  | .hbm, ⟨16, _⟩ => ⟨S2x4x8192x8448, .f32⟩
  | .hbm, ⟨17, _⟩ => ⟨S_, .f32⟩
  | .hbm, ⟨18, _⟩ => ⟨S2x4x8192, .f32⟩
  | .hbm, ⟨19, _⟩ => ⟨S2x4x8192x1, .f32⟩
  | .hbm, ⟨20, _⟩ => ⟨S2x4x8192x8448, .f32⟩
  | .hbm, ⟨21, _⟩ => ⟨S2x4x8192x8448, .f32⟩
  | .hbm, ⟨22, _⟩ => ⟨S8448x2x128, .f32⟩
  | .hbm, ⟨23, _⟩ => ⟨S2x128x4x8192, .f32⟩
  | .hbm, ⟨24, _⟩ => ⟨S8192x2x4x128, .f32⟩
  | .hbm, ⟨25, _⟩ => ⟨S8192x1024, .f32⟩
  | .hbm, ⟨26, _⟩ => ⟨S8192x1024, .bf16⟩
  | .hbm, ⟨27, _⟩ => ⟨S2x4x8192x1, .f32⟩
  | .hbm, ⟨28, _⟩ => ⟨S2x4x8192x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x4x8192x1, .f32⟩
  | .hbm, ⟨33, _⟩ => ⟨S2x4x8192x1, .f32⟩
  | .hbm, ⟨34, _⟩ => ⟨S2x4x8192, .f32⟩
  | .hbm, ⟨35, _⟩ => ⟨S8192x2x4, .f32⟩
  | .hbm, ⟨36, _⟩ => ⟨S8192x2x4x1, .f32⟩
  | .hbm, ⟨37, _⟩ => ⟨S8192x2x4x128, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S8448x256, .bf16⟩
  | .hbm, ⟨49, _⟩ => ⟨S8448x2x128, .f32⟩
  | .hbm, ⟨50, _⟩ => ⟨S_, .f32⟩
  | .hbm, ⟨51, _⟩ => ⟨S8448x2x128, .f32⟩
  | .hbm, ⟨52, _⟩ => ⟨S8448x2x256, .f32⟩
  | .hbm, ⟨53, _⟩ => ⟨S8448x512, .f32⟩
  | .hbm, ⟨54, _⟩ => ⟨S8448x512, .bf16⟩
  | .hbm, ⟨55, _⟩ => ⟨S8192x1024, .bf16⟩
  | .hbm, ⟨56, _⟩ => ⟨S8192x1024, .f32⟩
  | .hbm, ⟨57, _⟩ => ⟨S8448x256, .f32⟩
  | .hbm, ⟨58, _⟩ => ⟨S8448x256, .f32⟩
  | .local _ .vmem, ⟨0, _⟩ => ⟨S1024x512, .bf16⟩
  | .local _ .vmem, ⟨1, _⟩ => ⟨S1024x512, .bf16⟩
  | .local _ .vmem, ⟨2, _⟩ => ⟨S768x128, .bf16⟩
  | .local _ .vmem, ⟨3, _⟩ => ⟨S768x128, .bf16⟩
  | .local _ .vmem, ⟨4, _⟩ => ⟨S768x256, .bf16⟩
  | .local _ .vmem, ⟨5, _⟩ => ⟨S768x256, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S768x128, .f32⟩
  | .local _ .vmem, ⟨15, _⟩ => ⟨S768x128, .f32⟩
  | .local _ .vmem, ⟨16, _⟩ => ⟨S768x128, .f32⟩
  | .local _ .vmem, ⟨17, _⟩ => ⟨S768x128, .f32⟩
  | .local _ .vmem, ⟨18, _⟩ => ⟨S8x4x1024x128, .f32⟩
  | .local _ .vmem, ⟨19, _⟩ => ⟨S768x128, .f32⟩
  | .local _ .vmem, ⟨20, _⟩ => ⟨S768x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev main_v45_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 11, 8], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_off1 (i : grid0.Coords) : Fin 4 → Nat :=
  let arg2 : BitVec 32 := BitVec.ofNat 32 (i 2).val
  let v369 : Index := Scalar.indexCast arg2
  let c0_114 : Index := 0#32
  let c0_115 : Index := 0#32
  let c0_116 : Index := 0#32
  ![v369.toNat, 0, 0, 0]
def k0_off2 (i : grid0.Coords) : Fin 4 → Nat :=
  let arg2 : BitVec 32 := BitVec.ofNat 32 (i 2).val
  let v89 : Index := Scalar.indexCast arg2
  let c0_26 : Index := 0#32
  let c0_27 : Index := 0#32
  let c0_28 : Index := 0#32
  ![v89.toNat, 0, 0, 0]
def k0_off3 (i : grid0.Coords) : Fin 4 → Nat :=
  let arg2 : BitVec 32 := BitVec.ofNat 32 (i 2).val
  let v177 : Index := Scalar.indexCast arg2
  let c1 : Index := 1#32
  let c0_53 : Index := 0#32
  let c0_54 : Index := 0#32
  ![v177.toNat, 1, 0, 0]
def k0_off4 (i : grid0.Coords) : Fin 4 → Nat :=
  let arg2 : BitVec 32 := BitVec.ofNat 32 (i 2).val
  let v265 : Index := Scalar.indexCast arg2
  let c2 : Index := 2#32
  let c0_79 : Index := 0#32
  let c0_80 : Index := 0#32
  ![v265.toNat, 2, 0, 0]
def k0_off5 (i : grid0.Coords) : Fin 4 → Nat :=
  let arg2 : BitVec 32 := BitVec.ofNat 32 (i 2).val
  let v353 : Index := Scalar.indexCast arg2
  let c3 : Index := 3#32
  let c0_105 : Index := 0#32
  let c0_106 : Index := 0#32
  ![v353.toNat, 3, 0, 0]
def k0_cond4 (i : grid0.Coords) : BitVec 1 :=
  let arg1 : BitVec 32 := BitVec.ofNat 32 (i 1).val
  let c10_i32 : BitVec 32 := 10#32
  let v365 : BitVec 1 := Scalar.cmpi .eq arg1 c10_i32
  let v366 : BitVec 32 := Scalar.extui v365
  let c0_i32_112 : BitVec 32 := 0#32
  let v367 : BitVec 1 := Scalar.cmpi .ne v366 c0_i32_112
  v367

def k0_off6 (i : grid0.Coords) : Fin 4 → Nat :=
  let arg2 : BitVec 32 := BitVec.ofNat 32 (i 2).val
  let v368 : Index := Scalar.indexCast arg2
  let c0_113 : Index := 0#32
  let c0_114 : Index := 0#32
  let c0_115 : Index := 0#32
  ![v368.toNat, 0, 0, 0]
def k0_off7 (i : grid0.Coords) : Fin 4 → Nat :=
  let arg2 : BitVec 32 := BitVec.ofNat 32 (i 2).val
  let v372 : Index := Scalar.indexCast arg2
  let c1_118 : Index := 1#32
  let c0_119 : Index := 0#32
  let c0_120 : Index := 0#32
  ![v372.toNat, 1, 0, 0]
def k0_off8 (i : grid0.Coords) : Fin 4 → Nat :=
  let arg2 : BitVec 32 := BitVec.ofNat 32 (i 2).val
  let v376 : Index := Scalar.indexCast arg2
  let c2_123 : Index := 2#32
  let c0_124 : Index := 0#32
  let c0_125 : Index := 0#32
  ![v376.toNat, 2, 0, 0]
def k0_off9 (i : grid0.Coords) : Fin 4 → Nat :=
  let arg2 : BitVec 32 := BitVec.ofNat 32 (i 2).val
  let v380 : Index := Scalar.indexCast arg2
  let c3_128 : Index := 3#32
  let c0_129 : Index := 0#32
  let c0_130 : Index := 0#32
  ![v380.toNat, 3, 0, 0]
def k0_cond3 (i : grid0.Coords) : BitVec 1 :=
  let arg2 : BitVec 32 := BitVec.ofNat 32 (i 2).val
  let c7_i32 : BitVec 32 := 7#32
  let v362 : BitVec 1 := Scalar.cmpi .eq arg2 c7_i32
  let v363 : BitVec 32 := Scalar.extui v362
  let c0_i32_111 : BitVec 32 := 0#32
  let v364 : BitVec 1 := Scalar.cmpi .ne v363 c0_i32_111
  v364

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 1 := Scalar.cmpi .eq arg1 c10_i32
  let c0_i32 : BitVec 32 := 0#32
  let v1 : BitVec 32 := Scalar.select v0 arg2 c0_i32
  let c0_i32_0 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x1024 : Shape := ⟨2, ![8192, 1024]⟩
abbrev S8448x256 : Shape := ⟨2, ![8448, 256]⟩
abbrev S_ : Shape := ⟨0, ![]⟩
abbrev S8192x2x4x128 : Shape := ⟨4, ![8192, 2, 4, 128]⟩
abbrev S8448x2x128 : Shape := ⟨3, ![8448, 2, 128]⟩
abbrev S2x8448x8192x4 : Shape := ⟨4, ![2, 8448, 8192, 4]⟩
abbrev S2x4x8192x8448 : Shape := ⟨4, ![2, 4, 8192, 8448]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S2x128x8448 : Shape := ⟨3, ![2, 128, 8448]⟩
abbrev S2x8192x4x128 : Shape := ⟨4, ![2, 8192, 4, 128]⟩
abbrev S2x8448x128 : Shape := ⟨3, ![2, 8448, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x2x4x128, .f32⟩
  | .hbm, ⟨8, _⟩ => ⟨S8448x2x128, .f32⟩
  | .hbm, ⟨9, _⟩ => ⟨S8448x2x128, .f32⟩
  | .hbm, ⟨10, _⟩ => ⟨S2x8448x8192x4, .f32⟩
  | .hbm, ⟨11, _⟩ => ⟨S2x4x8192x8448, .f32⟩
  | .hbm, ⟨12, _⟩ => ⟨S_, .f32⟩
  | .hbm, ⟨13, _⟩ => ⟨S2x4x8192, .f32⟩
  | .hbm, ⟨14, _⟩ => ⟨S2x4x8192x1, .f32⟩
  | .hbm, ⟨15, _⟩ => ⟨S2x4x8192x8448, .f32⟩
  | .hbm, ⟨16, _⟩ => ⟨S2x4x8192x8448, .i1⟩
  | .hbm, ⟨17, _⟩ => ⟨S2x4x8192x8448, .f32⟩
  | .hbm, ⟨18, _⟩ => ⟨S_, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .f32⟩
  | .hbm, ⟨23, _⟩ => ⟨S_, .f32⟩
  | .hbm, ⟨24, _⟩ => ⟨S2x4x8192, .f32⟩
  | .hbm, ⟨25, _⟩ => ⟨S2x4x8192, .i1⟩
  | .hbm, ⟨26, _⟩ => ⟨S_, .f32⟩
  | .hbm, ⟨27, _⟩ => ⟨S2x4x8192, .f32⟩
  | .hbm, ⟨28, _⟩ => ⟨S2x4x8192, .i1⟩
  | .hbm, ⟨29, _⟩ => ⟨S_, .f32⟩
  | .hbm, ⟨30, _⟩ => ⟨S2x4x8192, .f32⟩
  | .hbm, ⟨31, _⟩ => ⟨S_, .f32⟩
  | .hbm, ⟨32, _⟩ => ⟨S2x4x8192, .f32⟩
  | .hbm, ⟨33, _⟩ => ⟨S_, .f32⟩
  | .hbm, ⟨34, _⟩ => ⟨S2x4x8192, .f32⟩
  | .hbm, ⟨35, _⟩ => ⟨S2x4x8192, .f32⟩
  | .hbm, ⟨36, _⟩ => ⟨S2x4x8192, .f32⟩
  | .hbm, ⟨37, _⟩ => ⟨S2x4x8192x1, .f32⟩
  | .hbm, ⟨38, _⟩ => ⟨S2x4x8192x8448, .f32⟩
  | .hbm, ⟨39, _⟩ => ⟨S2x4x8192x8448, .f32⟩
  | .hbm, ⟨40, _⟩ => ⟨S2x4x8192x8448, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x8448, .f32⟩
  | .hbm, ⟨45, _⟩ => ⟨S2x4x8192x8448, .f32⟩
  | .hbm, ⟨46, _⟩ => ⟨S2x4x8192x1, .f32⟩
  | .hbm, ⟨47, _⟩ => ⟨S_, .f32⟩
  | .hbm, ⟨48, _⟩ => ⟨S2x4x8192x1, .f32⟩
  | .hbm, ⟨49, _⟩ => ⟨S2x4x8192x1, .f32⟩
  | .hbm, ⟨50, _⟩ => ⟨S2x128x4x8192, .f32⟩
  | .hbm, ⟨51, _⟩ => ⟨S8192x2x4x128, .f32⟩
  | .hbm, ⟨52, _⟩ => ⟨S8192x1024, .f32⟩
  | .hbm, ⟨53, _⟩ => ⟨S8192x2x4x128, .f32⟩
  | .hbm, ⟨54, _⟩ => ⟨S2x128x4x8192, .f32⟩
  | .hbm, ⟨55, _⟩ => ⟨S2x4x8192x8448, .f32⟩
  | .hbm, ⟨56, _⟩ => ⟨S2x128x8448, .f32⟩
  | .hbm, ⟨57, _⟩ => ⟨S8448x2x128, .f32⟩
  | .hbm, ⟨58, _⟩ => ⟨S2x4x8192x8448, .f32⟩
  | .hbm, ⟨59, _⟩ => ⟨S2x4x8192x8448, .f32⟩
  | .hbm, ⟨60, _⟩ => ⟨S2x4x8192x8448, .f32⟩
  | .hbm, ⟨61, _⟩ => ⟨S_, .f32⟩
  | .hbm, ⟨62, _⟩ => ⟨S2x4x8192, .f32⟩
  | .hbm, ⟨63, _⟩ => ⟨S2x4x8192x1, .f32⟩
  | .hbm, ⟨64, _⟩ => ⟨S2x4x8192x1, .f32⟩
  | .hbm, ⟨65, _⟩ => ⟨S2x4x8192x8448, .f32⟩
  | .hbm, ⟨66, _⟩ => ⟨S2x4x8192x8448, .f32⟩
  | .hbm, ⟨67, _⟩ => ⟨S_, .f32⟩
  | .hbm, ⟨68, _⟩ => ⟨S2x4x8192, .f32⟩
  | .hbm, ⟨69, _⟩ => ⟨S2x4x8192x8448, .f32⟩
  | .hbm, ⟨70, _⟩ => ⟨S2x4x8192x8448, .f32⟩
  | .hbm, ⟨71, _⟩ => ⟨S2x4x8192x8448, .f32⟩
  | .hbm, ⟨72, _⟩ => ⟨S2x8448x8192x4, .f32⟩
  | .hbm, ⟨73, _⟩ => ⟨S2x8192x4x128, .f32⟩
  | .hbm, ⟨74, _⟩ => ⟨S8192x2x4x128, .f32⟩
  | .hbm, ⟨75, _⟩ => ⟨S2x8448x128, .f32⟩
  | .hbm, ⟨76, _⟩ => ⟨S8448x2x128, .f32⟩
  | .hbm, ⟨77, _⟩ => ⟨S8448x256, .f32⟩
  | .hbm, ⟨78, _⟩ => ⟨S8448x256, .f32⟩
  | .hbm, ⟨79, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Ffn2InDx.lean ====
abbrev S2x8192x5632 : Shape := ⟨3, ![2, 8192, 5632]⟩
abbrev S2048x11264 : Shape := ⟨2, ![2048, 11264]⟩
abbrev S8192x2048 : Shape := ⟨2, ![8192, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x8192x5632, .f32⟩
  | .hbm, ⟨1, _⟩ => ⟨S2048x11264, .f32⟩
  | .hbm, ⟨2, _⟩ => ⟨S2x8192x5632, .bf16⟩
  | .hbm, ⟨3, _⟩ => ⟨S2048x11264, .bf16⟩
  | .hbm, ⟨4, _⟩ => ⟨S8192x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn2InDxIdeal.lean ====
abbrev S2x8192x5632 : Shape := ⟨3, ![2, 8192, 5632]⟩
abbrev S2048x11264 : Shape := ⟨2, ![2048, 11264]⟩
abbrev S8192x2048 : Shape := ⟨2, ![8192, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x8192x5632, .f32⟩
  | .hbm, ⟨1, _⟩ => ⟨S2048x11264, .f32⟩
  | .hbm, ⟨2, _⟩ => ⟨S2x8192x5632, .bf16⟩
  | .hbm, ⟨3, _⟩ => ⟨S2048x11264, .bf16⟩
  | .hbm, ⟨4, _⟩ => ⟨S8192x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn2InDxRefIdeal.lean ====
abbrev S2x8192x5632 : Shape := ⟨3, ![2, 8192, 5632]⟩
abbrev S2048x11264 : Shape := ⟨2, ![2048, 11264]⟩
abbrev S_ : Shape := ⟨0, ![]⟩
abbrev S8192x2048 : Shape := ⟨2, ![8192, 2048]⟩
abbrev S8192x11264 : Shape := ⟨2, ![8192, 11264]⟩
abbrev S8192x5632 : Shape := ⟨2, ![8192, 5632]⟩
abbrev S1x8192x5632 : Shape := ⟨3, ![1, 8192, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x5632, .f32⟩
  | .hbm, ⟨1, _⟩ => ⟨S2048x11264, .f32⟩
  | .hbm, ⟨2, _⟩ => ⟨S_, .f32⟩
  | .hbm, ⟨3, _⟩ => ⟨S8192x2048, .f32⟩
  | .hbm, ⟨4, _⟩ => ⟨S8192x11264, .f32⟩
  | .hbm, ⟨5, _⟩ => ⟨S8192x5632, .f32⟩
  | .hbm, ⟨6, _⟩ => ⟨S8192x5632, .f32⟩
  | .hbm, ⟨7, _⟩ => ⟨S1x8192x5632, .f32⟩
  | .hbm, ⟨8, _⟩ => ⟨S8192x5632, .f32⟩
  | .hbm, ⟨9, _⟩ => ⟨S1x8192x5632, .f32⟩
  | .hbm, ⟨10, _⟩ => ⟨S8192x5632, .f32⟩
  | .hbm, ⟨11, _⟩ => ⟨S8192x11264, .f32⟩
  | .hbm, ⟨12, _⟩ => ⟨S8192x2048, .f32⟩
  | _, _ => ⟨S2x8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Ffn2InDw.lean ====
abbrev S8192x2048 : Shape := ⟨2, ![8192, 2048]⟩
abbrev S2x8192x5632 : Shape := ⟨3, ![2, 8192, 5632]⟩
abbrev S2048x11264 : Shape := ⟨2, ![2048, 11264]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2x8192x5632, .f32⟩
  | .hbm, ⟨2, _⟩ => ⟨S8192x2048, .bf16⟩
  | .hbm, ⟨3, _⟩ => ⟨S2x8192x5632, .bf16⟩
  | .hbm, ⟨4, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn2InDwIdeal.lean ====
abbrev S8192x2048 : Shape := ⟨2, ![8192, 2048]⟩
abbrev S2x8192x5632 : Shape := ⟨3, ![2, 8192, 5632]⟩
abbrev S2048x11264 : Shape := ⟨2, ![2048, 11264]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2x8192x5632, .f32⟩
  | .hbm, ⟨2, _⟩ => ⟨S8192x2048, .bf16⟩
  | .hbm, ⟨3, _⟩ => ⟨S2x8192x5632, .bf16⟩
  | .hbm, ⟨4, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn2InDwRefIdeal.lean ====
abbrev S8192x2048 : Shape := ⟨2, ![8192, 2048]⟩
abbrev S2x8192x5632 : Shape := ⟨3, ![2, 8192, 5632]⟩
abbrev S_ : Shape := ⟨0, ![]⟩
abbrev S2048x11264 : Shape := ⟨2, ![2048, 11264]⟩
abbrev S8192x11264 : Shape := ⟨2, ![8192, 11264]⟩
abbrev S8192x5632 : Shape := ⟨2, ![8192, 5632]⟩
abbrev S1x8192x5632 : Shape := ⟨3, ![1, 8192, 5632]⟩
abbrev S11264x2048 : Shape := ⟨2, ![11264, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x8192x5632, .f32⟩
  | .hbm, ⟨2, _⟩ => ⟨S_, .f32⟩
  | .hbm, ⟨3, _⟩ => ⟨S2048x11264, .f32⟩
  | .hbm, ⟨4, _⟩ => ⟨S8192x11264, .f32⟩
  | .hbm, ⟨5, _⟩ => ⟨S8192x5632, .f32⟩
  | .hbm, ⟨6, _⟩ => ⟨S8192x5632, .f32⟩
  | .hbm, ⟨7, _⟩ => ⟨S1x8192x5632, .f32⟩
  | .hbm, ⟨8, _⟩ => ⟨S8192x5632, .f32⟩
  | .hbm, ⟨9, _⟩ => ⟨S1x8192x5632, .f32⟩
  | .hbm, ⟨10, _⟩ => ⟨S8192x5632, .f32⟩
  | .hbm, ⟨11, _⟩ => ⟨S8192x11264, .f32⟩
  | .hbm, ⟨12, _⟩ => ⟨S11264x2048, .f32⟩
  | .hbm, ⟨13, _⟩ => ⟨S2048x11264, .f32⟩
  | .hbm, ⟨14, _⟩ => ⟨S2048x11264, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Ffn2OutDw.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn2OutDwIdeal.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn2OutDwRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ffn1InDx.lean ====
abbrev S2x8448x5632 : Shape := ⟨3, ![2, 8448, 5632]⟩
abbrev S2048x11264 : Shape := ⟨2, ![2048, 11264]⟩
abbrev S_ : Shape := ⟨0, ![]⟩
abbrev S8x128 : Shape := ⟨2, ![8, 128]⟩
abbrev S8448x2048 : Shape := ⟨2, ![8448, 2048]⟩
abbrev S1x1408x2816 : Shape := ⟨3, ![1, 1408, 2816]⟩
abbrev S1024x2816 : Shape := ⟨2, ![1024, 2816]⟩
abbrev S1408x1024 : Shape := ⟨2, ![1408, 1024]⟩
abbrev S1408x2816 : Shape := ⟨2, ![1408, 2816]⟩

abbrev nBuf : Space → Nat
  | .hbm => 7
  | .vmem => 7
  | .smem => 0
  | _ => 0

abbrev bufTy : (tb : Table) → Fin (tcTables nBuf tb) → BufTy
  | .hbm, ⟨0, _⟩ => ⟨S2x8448x5632, .f32⟩
  | .hbm, ⟨1, _⟩ => ⟨S2048x11264, .f32⟩
  | .hbm, ⟨2, _⟩ => ⟨S_, .f32⟩
  | .hbm, ⟨3, _⟩ => ⟨S8x128, .f32⟩
  | .hbm, ⟨4, _⟩ => ⟨S2x8448x5632, .bf16⟩
  | .hbm, ⟨5, _⟩ => ⟨S2048x11264, .bf16⟩
  | .hbm, ⟨6, _⟩ => ⟨S8448x2048, .f32⟩
  | .local _ .vmem, ⟨0, _⟩ => ⟨S1x1408x2816, .bf16⟩
  | .local _ .vmem, ⟨1, _⟩ => ⟨S1x1408x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2x8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn1InDxIdeal.lean ====
abbrev S2x8448x5632 : Shape := ⟨3, ![2, 8448, 5632]⟩
abbrev S2048x11264 : Shape := ⟨2, ![2048, 11264]⟩
abbrev S_ : Shape := ⟨0, ![]⟩
abbrev S8x128 : Shape := ⟨2, ![8, 128]⟩
abbrev S8448x2048 : Shape := ⟨2, ![8448, 2048]⟩
abbrev S1x1408x2816 : Shape := ⟨3, ![1, 1408, 2816]⟩
abbrev S1024x2816 : Shape := ⟨2, ![1024, 2816]⟩
abbrev S1408x1024 : Shape := ⟨2, ![1408, 1024]⟩
abbrev S1408x2816 : Shape := ⟨2, ![1408, 2816]⟩

abbrev nBuf : Space → Nat
  | .hbm => 7
  | .vmem => 7
  | .smem => 0
  | _ => 0

abbrev bufTy : (tb : Table) → Fin (tcTables nBuf tb) → BufTy
  | .hbm, ⟨0, _⟩ => ⟨S2x8448x5632, .f32⟩
  | .hbm, ⟨1, _⟩ => ⟨S2048x11264, .f32⟩
  | .hbm, ⟨2, _⟩ => ⟨S_, .f32⟩
  | .hbm, ⟨3, _⟩ => ⟨S8x128, .f32⟩
  | .hbm, ⟨4, _⟩ => ⟨S2x8448x5632, .bf16⟩
  | .hbm, ⟨5, _⟩ => ⟨S2048x11264, .bf16⟩
  | .hbm, ⟨6, _⟩ => ⟨S8448x2048, .f32⟩
  | .local _ .vmem, ⟨0, _⟩ => ⟨S1x1408x2816, .bf16⟩
  | .local _ .vmem, ⟨1, _⟩ => ⟨S1x1408x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2x8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn1InDxRefIdeal.lean ====
abbrev S2x8448x5632 : Shape := ⟨3, ![2, 8448, 5632]⟩
abbrev S2048x11264 : Shape := ⟨2, ![2048, 11264]⟩
abbrev S_ : Shape := ⟨0, ![]⟩
abbrev S8448x2048 : Shape := ⟨2, ![8448, 2048]⟩
abbrev S8448x11264 : Shape := ⟨2, ![8448, 11264]⟩
abbrev S8448x5632 : Shape := ⟨2, ![8448, 5632]⟩
abbrev S1x8448x5632 : Shape := ⟨3, ![1, 8448, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2x8448x5632, .f32⟩
  | .hbm, ⟨1, _⟩ => ⟨S2048x11264, .f32⟩
  | .hbm, ⟨2, _⟩ => ⟨S_, .f32⟩
  | .hbm, ⟨3, _⟩ => ⟨S8448x2048, .f32⟩
  | .hbm, ⟨4, _⟩ => ⟨S8448x11264, .f32⟩
  | .hbm, ⟨5, _⟩ => ⟨S8448x5632, .f32⟩
  | .hbm, ⟨6, _⟩ => ⟨S8448x5632, .f32⟩
  | .hbm, ⟨7, _⟩ => ⟨S1x8448x5632, .f32⟩
  | .hbm, ⟨8, _⟩ => ⟨S8448x5632, .f32⟩
  | .hbm, ⟨9, _⟩ => ⟨S1x8448x5632, .f32⟩
  | .hbm, ⟨10, _⟩ => ⟨S8448x5632, .f32⟩
  | .hbm, ⟨11, _⟩ => ⟨S8448x11264, .f32⟩
  | .hbm, ⟨12, _⟩ => ⟨S8448x2048, .f32⟩
  | _, _ => ⟨S2x8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Ffn1InDw.lean ====
abbrev S8448x2048 : Shape := ⟨2, ![8448, 2048]⟩
abbrev S2x8448x5632 : Shape := ⟨3, ![2, 8448, 5632]⟩
abbrev S2048x11264 : Shape := ⟨2, ![2048, 11264]⟩
abbrev S2816x1024 : Shape := ⟨2, ![2816, 1024]⟩
abbrev S1x2816x1408 : Shape := ⟨3, ![1, 2816, 1408]⟩
abbrev S1024x1408 : Shape := ⟨2, ![1024, 1408]⟩
abbrev S2816x1408 : Shape := ⟨2, ![2816, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2x8448x5632, .f32⟩
  | .hbm, ⟨2, _⟩ => ⟨S8448x2048, .bf16⟩
  | .hbm, ⟨3, _⟩ => ⟨S2x8448x5632, .bf16⟩
  | .hbm, ⟨4, _⟩ => ⟨S2048x11264, .bf16⟩
  | .local _ .vmem, ⟨0, _⟩ => ⟨S2816x1024, .bf16⟩
  | .local _ .vmem, ⟨1, _⟩ => ⟨S2816x1024, .bf16⟩
  | .local _ .vmem, ⟨2, _⟩ => ⟨S1x2816x1408, .bf16⟩
  | .local _ .vmem, ⟨3, _⟩ => ⟨S1x2816x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn1InDwIdeal.lean ====
abbrev S8448x2048 : Shape := ⟨2, ![8448, 2048]⟩
abbrev S2x8448x5632 : Shape := ⟨3, ![2, 8448, 5632]⟩
abbrev S2048x11264 : Shape := ⟨2, ![2048, 11264]⟩
abbrev S2816x1024 : Shape := ⟨2, ![2816, 1024]⟩
abbrev S1x2816x1408 : Shape := ⟨3, ![1, 2816, 1408]⟩
abbrev S1024x1408 : Shape := ⟨2, ![1024, 1408]⟩
abbrev S2816x1408 : Shape := ⟨2, ![2816, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2x8448x5632, .f32⟩
  | .hbm, ⟨2, _⟩ => ⟨S8448x2048, .bf16⟩
  | .hbm, ⟨3, _⟩ => ⟨S2x8448x5632, .bf16⟩
  | .hbm, ⟨4, _⟩ => ⟨S2048x11264, .bf16⟩
  | .local _ .vmem, ⟨0, _⟩ => ⟨S2816x1024, .bf16⟩
  | .local _ .vmem, ⟨1, _⟩ => ⟨S2816x1024, .bf16⟩
  | .local _ .vmem, ⟨2, _⟩ => ⟨S1x2816x1408, .bf16⟩
  | .local _ .vmem, ⟨3, _⟩ => ⟨S1x2816x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn1InDwRefIdeal.lean ====
abbrev S8448x2048 : Shape := ⟨2, ![8448, 2048]⟩
abbrev S2x8448x5632 : Shape := ⟨3, ![2, 8448, 5632]⟩
abbrev S_ : Shape := ⟨0, ![]⟩
abbrev S2048x11264 : Shape := ⟨2, ![2048, 11264]⟩
abbrev S8448x11264 : Shape := ⟨2, ![8448, 11264]⟩
abbrev S8448x5632 : Shape := ⟨2, ![8448, 5632]⟩
abbrev S1x8448x5632 : Shape := ⟨3, ![1, 8448, 5632]⟩
abbrev S11264x2048 : Shape := ⟨2, ![11264, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x8448x5632, .f32⟩
  | .hbm, ⟨2, _⟩ => ⟨S_, .f32⟩
  | .hbm, ⟨3, _⟩ => ⟨S2048x11264, .f32⟩
  | .hbm, ⟨4, _⟩ => ⟨S8448x11264, .f32⟩
  | .hbm, ⟨5, _⟩ => ⟨S8448x5632, .f32⟩
  | .hbm, ⟨6, _⟩ => ⟨S8448x5632, .f32⟩
  | .hbm, ⟨7, _⟩ => ⟨S1x8448x5632, .f32⟩
  | .hbm, ⟨8, _⟩ => ⟨S8448x5632, .f32⟩
  | .hbm, ⟨9, _⟩ => ⟨S1x8448x5632, .f32⟩
  | .hbm, ⟨10, _⟩ => ⟨S8448x5632, .f32⟩
  | .hbm, ⟨11, _⟩ => ⟨S8448x11264, .f32⟩
  | .hbm, ⟨12, _⟩ => ⟨S11264x2048, .f32⟩
  | .hbm, ⟨13, _⟩ => ⟨S2048x11264, .f32⟩
  | .hbm, ⟨14, _⟩ => ⟨S2048x11264, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Ffn1OutDw.lean ====
abbrev S8448x5632 : Shape := ⟨2, ![8448, 5632]⟩
abbrev S8448x2048 : Shape := ⟨2, ![8448, 2048]⟩
abbrev S_ : Shape := ⟨0, ![]⟩
abbrev S8x128 : Shape := ⟨2, ![8, 128]⟩
abbrev S5632x2048 : Shape := ⟨2, ![5632, 2048]⟩
abbrev S2816x1408 : Shape := ⟨2, ![2816, 1408]⟩
abbrev S2816x1024 : Shape := ⟨2, ![2816, 1024]⟩
abbrev S1408x1024 : Shape := ⟨2, ![1408, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8448x5632, .f32⟩
  | .hbm, ⟨1, _⟩ => ⟨S8448x2048, .f32⟩
  | .hbm, ⟨2, _⟩ => ⟨S_, .f32⟩
  | .hbm, ⟨3, _⟩ => ⟨S8x128, .f32⟩
  | .hbm, ⟨4, _⟩ => ⟨S8448x5632, .bf16⟩
  | .hbm, ⟨5, _⟩ => ⟨S8448x2048, .bf16⟩
  | .hbm, ⟨6, _⟩ => ⟨S5632x2048, .bf16⟩
  | .local _ .vmem, ⟨0, _⟩ => ⟨S2816x1408, .bf16⟩
  | .local _ .vmem, ⟨1, _⟩ => ⟨S2816x1408, .bf16⟩
  | .local _ .vmem, ⟨2, _⟩ => ⟨S2816x1024, .bf16⟩
  | .local _ .vmem, ⟨3, _⟩ => ⟨S2816x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn1OutDwIdeal.lean ====
abbrev S8448x5632 : Shape := ⟨2, ![8448, 5632]⟩
abbrev S8448x2048 : Shape := ⟨2, ![8448, 2048]⟩
abbrev S_ : Shape := ⟨0, ![]⟩
abbrev S8x128 : Shape := ⟨2, ![8, 128]⟩
abbrev S5632x2048 : Shape := ⟨2, ![5632, 2048]⟩
abbrev S2816x1408 : Shape := ⟨2, ![2816, 1408]⟩
abbrev S2816x1024 : Shape := ⟨2, ![2816, 1024]⟩
abbrev S1408x1024 : Shape := ⟨2, ![1408, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8448x5632, .f32⟩
  | .hbm, ⟨1, _⟩ => ⟨S8448x2048, .f32⟩
  | .hbm, ⟨2, _⟩ => ⟨S_, .f32⟩
  | .hbm, ⟨3, _⟩ => ⟨S8x128, .f32⟩
  | .hbm, ⟨4, _⟩ => ⟨S8448x5632, .bf16⟩
  | .hbm, ⟨5, _⟩ => ⟨S8448x2048, .bf16⟩
  | .hbm, ⟨6, _⟩ => ⟨S5632x2048, .bf16⟩
  | .local _ .vmem, ⟨0, _⟩ => ⟨S2816x1408, .bf16⟩
  | .local _ .vmem, ⟨1, _⟩ => ⟨S2816x1408, .bf16⟩
  | .local _ .vmem, ⟨2, _⟩ => ⟨S2816x1024, .bf16⟩
  | .local _ .vmem, ⟨3, _⟩ => ⟨S2816x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn1OutDwRefIdeal.lean ====
abbrev S8448x5632 : Shape := ⟨2, ![8448, 5632]⟩
abbrev S8448x2048 : Shape := ⟨2, ![8448, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S8448x2048, .f32⟩
  | .hbm, ⟨2, _⟩ => ⟨S_, .f32⟩
  | .hbm, ⟨3, _⟩ => ⟨S5632x2048, .f32⟩
  | .hbm, ⟨4, _⟩ => ⟨S8448x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixInDx.lean ====
abbrev S8448x9728 : Shape := ⟨2, ![8448, 9728]⟩
abbrev S2048x9728 : Shape := ⟨2, ![2048, 9728]⟩
abbrev S8448x2048 : Shape := ⟨2, ![8448, 2048]⟩
abbrev S1408x2432 : Shape := ⟨2, ![1408, 2432]⟩
abbrev S1024x2432 : Shape := ⟨2, ![1024, 2432]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x9728, .f32⟩
  | .hbm, ⟨1, _⟩ => ⟨S2048x9728, .f32⟩
  | .hbm, ⟨2, _⟩ => ⟨S8448x9728, .bf16⟩
  | .hbm, ⟨3, _⟩ => ⟨S2048x9728, .bf16⟩
  | .hbm, ⟨4, _⟩ => ⟨S8448x2048, .f32⟩
  | .local _ .vmem, ⟨0, _⟩ => ⟨S1408x2432, .bf16⟩
  | .local _ .vmem, ⟨1, _⟩ => ⟨S1408x2432, .bf16⟩
  | .local _ .vmem, ⟨2, _⟩ => ⟨S1024x2432, .bf16⟩
  | .local _ .vmem, ⟨3, _⟩ => ⟨S1024x2432, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDxIdeal.lean ====
abbrev S8448x9728 : Shape := ⟨2, ![8448, 9728]⟩
abbrev S2048x9728 : Shape := ⟨2, ![2048, 9728]⟩
abbrev S8448x2048 : Shape := ⟨2, ![8448, 2048]⟩
abbrev S1408x2432 : Shape := ⟨2, ![1408, 2432]⟩
abbrev S1024x2432 : Shape := ⟨2, ![1024, 2432]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x9728, .f32⟩
  | .hbm, ⟨1, _⟩ => ⟨S2048x9728, .f32⟩
  | .hbm, ⟨2, _⟩ => ⟨S8448x9728, .bf16⟩
  | .hbm, ⟨3, _⟩ => ⟨S2048x9728, .bf16⟩
  | .hbm, ⟨4, _⟩ => ⟨S8448x2048, .f32⟩
  | .local _ .vmem, ⟨0, _⟩ => ⟨S1408x2432, .bf16⟩
  | .local _ .vmem, ⟨1, _⟩ => ⟨S1408x2432, .bf16⟩
  | .local _ .vmem, ⟨2, _⟩ => ⟨S1024x2432, .bf16⟩
  | .local _ .vmem, ⟨3, _⟩ => ⟨S1024x2432, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDxRefIdeal.lean ====
abbrev S8448x9728 : Shape := ⟨2, ![8448, 9728]⟩
abbrev S2048x9728 : Shape := ⟨2, ![2048, 9728]⟩
abbrev S_ : Shape := ⟨0, ![]⟩
abbrev S8448x2048 : Shape := ⟨2, ![8448, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x9728, .f32⟩
  | .hbm, ⟨1, _⟩ => ⟨S2048x9728, .f32⟩
  | .hbm, ⟨2, _⟩ => ⟨S_, .f32⟩
  | .hbm, ⟨3, _⟩ => ⟨S8448x2048, .f32⟩
  | .hbm, ⟨4, _⟩ => ⟨S8448x9728, .f32⟩
  | .hbm, ⟨5, _⟩ => ⟨S8448x2048, .f32⟩
  | _, _ => ⟨S8448x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixInDw.lean ====
abbrev S8448x2048 : Shape := ⟨2, ![8448, 2048]⟩
abbrev S8448x9728 : Shape := ⟨2, ![8448, 9728]⟩
abbrev S2048x9728 : Shape := ⟨2, ![2048, 9728]⟩
abbrev S2816x512 : Shape := ⟨2, ![2816, 512]⟩
abbrev S2816x2432 : Shape := ⟨2, ![2816, 2432]⟩
abbrev S512x2432 : Shape := ⟨2, ![512, 2432]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x9728, .f32⟩
  | .hbm, ⟨2, _⟩ => ⟨S8448x2048, .bf16⟩
  | .hbm, ⟨3, _⟩ => ⟨S8448x9728, .bf16⟩
  | .hbm, ⟨4, _⟩ => ⟨S2048x9728, .bf16⟩
  | .local _ .vmem, ⟨0, _⟩ => ⟨S2816x512, .bf16⟩
  | .local _ .vmem, ⟨1, _⟩ => ⟨S2816x512, .bf16⟩
  | .local _ .vmem, ⟨2, _⟩ => ⟨S2816x2432, .bf16⟩
  | .local _ .vmem, ⟨3, _⟩ => ⟨S2816x2432, .bf16⟩
  | .local _ .vmem, ⟨4, _⟩ => ⟨S512x2432, .bf16⟩
  | .local _ .vmem, ⟨5, _⟩ => ⟨S512x2432, .bf16⟩
  | .local _ .vmem, ⟨6, _⟩ => ⟨S512x2432, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDwIdeal.lean ====
abbrev S8448x2048 : Shape := ⟨2, ![8448, 2048]⟩
abbrev S8448x9728 : Shape := ⟨2, ![8448, 9728]⟩
abbrev S2048x9728 : Shape := ⟨2, ![2048, 9728]⟩
abbrev S2816x512 : Shape := ⟨2, ![2816, 512]⟩
abbrev S2816x2432 : Shape := ⟨2, ![2816, 2432]⟩
abbrev S512x2432 : Shape := ⟨2, ![512, 2432]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x9728, .f32⟩
  | .hbm, ⟨2, _⟩ => ⟨S8448x2048, .bf16⟩
  | .hbm, ⟨3, _⟩ => ⟨S8448x9728, .bf16⟩
  | .hbm, ⟨4, _⟩ => ⟨S2048x9728, .bf16⟩
  | .local _ .vmem, ⟨0, _⟩ => ⟨S2816x512, .bf16⟩
  | .local _ .vmem, ⟨1, _⟩ => ⟨S2816x512, .bf16⟩
  | .local _ .vmem, ⟨2, _⟩ => ⟨S2816x2432, .bf16⟩
  | .local _ .vmem, ⟨3, _⟩ => ⟨S2816x2432, .bf16⟩
  | .local _ .vmem, ⟨4, _⟩ => ⟨S512x2432, .bf16⟩
  | .local _ .vmem, ⟨5, _⟩ => ⟨S512x2432, .bf16⟩
  | .local _ .vmem, ⟨6, _⟩ => ⟨S512x2432, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDwRefIdeal.lean ====
abbrev S8448x2048 : Shape := ⟨2, ![8448, 2048]⟩
abbrev S8448x9728 : Shape := ⟨2, ![8448, 9728]⟩
abbrev S_ : Shape := ⟨0, ![]⟩
abbrev S2048x9728 : Shape := ⟨2, ![2048, 9728]⟩
abbrev S9728x2048 : Shape := ⟨2, ![9728, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x9728, .f32⟩
  | .hbm, ⟨2, _⟩ => ⟨S_, .f32⟩
  | .hbm, ⟨3, _⟩ => ⟨S2048x9728, .f32⟩
  | .hbm, ⟨4, _⟩ => ⟨S8448x9728, .f32⟩
  | .hbm, ⟨5, _⟩ => ⟨S9728x2048, .f32⟩
  | .hbm, ⟨6, _⟩ => ⟨S2048x9728, .f32⟩
  | .hbm, ⟨7, _⟩ => ⟨S2048x9728, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOutDw.lean ====
abbrev S8192x2048 : Shape := ⟨2, ![8192, 2048]⟩
abbrev S_ : Shape := ⟨0, ![]⟩
abbrev S8x128 : Shape := ⟨2, ![8, 128]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S8x128, .f32⟩
  | .hbm, ⟨4, _⟩ => ⟨S8192x2048, .bf16⟩
  | .hbm, ⟨5, _⟩ => ⟨S8192x2048, .bf16⟩
  | .hbm, ⟨6, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwIdeal.lean ====
abbrev S8192x2048 : Shape := ⟨2, ![8192, 2048]⟩
abbrev S_ : Shape := ⟨0, ![]⟩
abbrev S8x128 : Shape := ⟨2, ![8, 128]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S8x128, .f32⟩
  | .hbm, ⟨4, _⟩ => ⟨S8192x2048, .bf16⟩
  | .hbm, ⟨5, _⟩ => ⟨S8192x2048, .bf16⟩
  | .hbm, ⟨6, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOutDx.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxIdeal.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProjDw.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwIdeal.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjAttnDx.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .bf16⟩
  | .hbm, ⟨3, _⟩ => ⟨S1024x2048, .bf16⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAttnDxIdeal.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .bf16⟩
  | .hbm, ⟨3, _⟩ => ⟨S1024x2048, .bf16⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAttnDxRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x1024, .f32⟩
  | .hbm, ⟨6, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjRetDx.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .bf16⟩
  | .hbm, ⟨3, _⟩ => ⟨S1024x2048, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRetDxIdeal.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .bf16⟩
  | .hbm, ⟨3, _⟩ => ⟨S1024x2048, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRetDxRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ffn2Out.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x5632, .bf16⟩
  | .hbm, ⟨3, _⟩ => ⟨S5632x2048, .bf16⟩
  | .hbm, ⟨4, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn2OutIdeal.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x5632, .bf16⟩
  | .hbm, ⟨3, _⟩ => ⟨S5632x2048, .bf16⟩
  | .hbm, ⟨4, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn2OutRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ffn1Out.lean ====
abbrev S8448x5632 : Shape := ⟨2, ![8448, 5632]⟩
abbrev S5632x2048 : Shape := ⟨2, ![5632, 2048]⟩
abbrev S8448x2048 : Shape := ⟨2, ![8448, 2048]⟩
abbrev S768x2816 : Shape := ⟨2, ![768, 2816]⟩
abbrev S2816x2048 : Shape := ⟨2, ![2816, 2048]⟩
abbrev S768x2048 : Shape := ⟨2, ![768, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x5632, .bf16⟩
  | .hbm, ⟨3, _⟩ => ⟨S5632x2048, .bf16⟩
  | .hbm, ⟨4, _⟩ => ⟨S8448x2048, .bf16⟩
  | .local _ .vmem, ⟨0, _⟩ => ⟨S768x2816, .bf16⟩
  | .local _ .vmem, ⟨1, _⟩ => ⟨S768x2816, .bf16⟩
  | .local _ .vmem, ⟨2, _⟩ => ⟨S2816x2048, .bf16⟩
  | .local _ .vmem, ⟨3, _⟩ => ⟨S2816x2048, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn1OutIdeal.lean ====
abbrev S8448x5632 : Shape := ⟨2, ![8448, 5632]⟩
abbrev S5632x2048 : Shape := ⟨2, ![5632, 2048]⟩
abbrev S8448x2048 : Shape := ⟨2, ![8448, 2048]⟩
abbrev S768x2816 : Shape := ⟨2, ![768, 2816]⟩
abbrev S2816x2048 : Shape := ⟨2, ![2816, 2048]⟩
abbrev S768x2048 : Shape := ⟨2, ![768, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x5632, .bf16⟩
  | .hbm, ⟨3, _⟩ => ⟨S5632x2048, .bf16⟩
  | .hbm, ⟨4, _⟩ => ⟨S8448x2048, .bf16⟩
  | .local _ .vmem, ⟨0, _⟩ => ⟨S768x2816, .bf16⟩
  | .local _ .vmem, ⟨1, _⟩ => ⟨S768x2816, .bf16⟩
  | .local _ .vmem, ⟨2, _⟩ => ⟨S2816x2048, .bf16⟩
  | .local _ .vmem, ⟨3, _⟩ => ⟨S2816x2048, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ffn1OutRefIdeal.lean ====
abbrev S8448x5632 : Shape := ⟨2, ![8448, 5632]⟩
abbrev S5632x2048 : Shape := ⟨2, ![5632, 2048]⟩
abbrev S8448x2048 : Shape := ⟨2, ![8448, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | .hbm, ⟨3, _⟩ => ⟨S8448x2048, .bf16⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixOut.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutIdeal.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proj.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjIdeal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ffn2GateGrad.lean ====
abbrev S8192x2048 : Shape := ⟨2, ![8192, 2048]⟩
abbrev S5632x2048 : Shape := ⟨2, ![5632, 2048]⟩
abbrev S8192x5632 : Shape := ⟨2, ![8192, 5632]⟩
abbrev S2x8192x5632 : Shape := ⟨3, ![2, 8192, 5632]⟩
abbrev S1024x2048 : Shape := ⟨2, ![1024, 2048]⟩
abbrev S512x2048 : Shape := ⟨2, ![512, 2048]⟩
abbrev S1024x512 : Shape := ⟨2, ![1024, 512]⟩
abbrev S2x1024x512 : Shape := ⟨3, ![2, 1024, 512]⟩
abbrev S1x1024x512 : Shape := ⟨3, ![1, 1024, 512]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x5632, .f32⟩
  | .hbm, ⟨3, _⟩ => ⟨S8192x5632, .f32⟩
  | .hbm, ⟨4, _⟩ => ⟨S8192x2048, .bf16⟩
  | .hbm, ⟨5, _⟩ => ⟨S5632x2048, .bf16⟩
  | .hbm, ⟨6, _⟩ => ⟨S8192x5632, .bf16⟩
  | .hbm, ⟨7, _⟩ => ⟨S8192x5632, .bf16⟩
  | .hbm, ⟨8, _⟩ => ⟨S2x8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2x1024x512, .bf16⟩
  | .local _ .vmem, ⟨9, _⟩ => ⟨S2x1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Ffn2GateGradIdeal.lean ====
abbrev S8192x2048 : Shape := ⟨2, ![8192, 2048]⟩
abbrev S5632x2048 : Shape := ⟨2, ![5632, 2048]⟩
abbrev S8192x5632 : Shape := ⟨2, ![8192, 5632]⟩
abbrev S2x8192x5632 : Shape := ⟨3, ![2, 8192, 5632]⟩
abbrev S1024x2048 : Shape := ⟨2, ![1024, 2048]⟩
abbrev S512x2048 : Shape := ⟨2, ![512, 2048]⟩
abbrev S1024x512 : Shape := ⟨2, ![1024, 512]⟩
abbrev S2x1024x512 : Shape := ⟨3, ![2, 1024, 512]⟩
abbrev S1x1024x512 : Shape := ⟨3, ![1, 1024, 512]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x5632, .f32⟩
  | .hbm, ⟨3, _⟩ => ⟨S8192x5632, .f32⟩
  | .hbm, ⟨4, _⟩ => ⟨S8192x2048, .bf16⟩
  | .hbm, ⟨5, _⟩ => ⟨S5632x2048, .bf16⟩
  | .hbm, ⟨6, _⟩ => ⟨S8192x5632, .bf16⟩
  | .hbm, ⟨7, _⟩ => ⟨S8192x5632, .bf16⟩
  | .hbm, ⟨8, _⟩ => ⟨S2x8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2x1024x512, .bf16⟩
  | .local _ .vmem, ⟨9, _⟩ => ⟨S2x1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Ffn2GateGradRefIdeal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩
abbrev S1x8192x5632 : Shape := ⟨3, ![1, 8192, 5632]⟩
abbrev S2x8192x5632 : Shape := ⟨3, ![2, 8192, 5632]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x8192x5632, .f32⟩
  | .hbm, ⟨27, _⟩ => ⟨S1x8192x5632, .f32⟩
  | .hbm, ⟨28, _⟩ => ⟨S2x8192x5632, .f32⟩
  | .hbm, ⟨29, _⟩ => ⟨S2x8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Ffn1GateGrad.lean ====
abbrev S8448x2048 : Shape := ⟨2, ![8448, 2048]⟩
abbrev S5632x2048 : Shape := ⟨2, ![5632, 2048]⟩
abbrev S8448x5632 : Shape := ⟨2, ![8448, 5632]⟩
abbrev S_ : Shape := ⟨0, ![]⟩
abbrev S8x128 : Shape := ⟨2, ![8, 128]⟩
abbrev S2x8448x5632 : Shape := ⟨3, ![2, 8448, 5632]⟩
abbrev S768x2048 : Shape := ⟨2, ![768, 2048]⟩
abbrev S512x2048 : Shape := ⟨2, ![512, 2048]⟩
abbrev S768x512 : Shape := ⟨2, ![768, 512]⟩
abbrev S2x768x512 : Shape := ⟨3, ![2, 768, 512]⟩
abbrev S1x768x512 : Shape := ⟨3, ![1, 768, 512]⟩

abbrev nBuf : Space → Nat
  | .hbm => 11
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S5632x2048, .f32⟩
  | .hbm, ⟨2, _⟩ => ⟨S8448x5632, .f32⟩
  | .hbm, ⟨3, _⟩ => ⟨S8448x5632, .f32⟩
  | .hbm, ⟨4, _⟩ => ⟨S_, .f32⟩
  | .hbm, ⟨5, _⟩ => ⟨S8x128, .f32⟩
  | .hbm, ⟨6, _⟩ => ⟨S8448x2048, .bf16⟩
  | .hbm, ⟨7, _⟩ => ⟨S5632x2048, .bf16⟩
  | .hbm, ⟨8, _⟩ => ⟨S8448x5632, .bf16⟩
  | .hbm, ⟨9, _⟩ => ⟨S8448x5632, .bf16⟩
  | .hbm, ⟨10, _⟩ => ⟨S2x8448x5632, .bf16⟩
  | .local _ .vmem, ⟨0, _⟩ => ⟨S768x2048, .bf16⟩
  | .local _ .vmem, ⟨1, _⟩ => ⟨S768x2048, .bf16⟩
  | .local _ .vmem, ⟨2, _⟩ => ⟨S512x2048, .bf16⟩
  | .local _ .vmem, ⟨3, _⟩ => ⟨S512x2048, .bf16⟩
  | .local _ .vmem, ⟨4, _⟩ => ⟨S768x512, .bf16⟩
  | .local _ .vmem, ⟨5, _⟩ => ⟨S768x512, .bf16⟩
  | .local _ .vmem, ⟨6, _⟩ => ⟨S768x512, .bf16⟩
  | .local _ .vmem, ⟨7, _⟩ => ⟨S768x512, .bf16⟩
  | .local _ .vmem, ⟨8, _⟩ => ⟨S2x768x512, .bf16⟩
  | .local _ .vmem, ⟨9, _⟩ => ⟨S2x768x512, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Ffn1GateGradIdeal.lean ====
abbrev S8448x2048 : Shape := ⟨2, ![8448, 2048]⟩
abbrev S5632x2048 : Shape := ⟨2, ![5632, 2048]⟩
abbrev S8448x5632 : Shape := ⟨2, ![8448, 5632]⟩
abbrev S_ : Shape := ⟨0, ![]⟩
abbrev S8x128 : Shape := ⟨2, ![8, 128]⟩
abbrev S2x8448x5632 : Shape := ⟨3, ![2, 8448, 5632]⟩
abbrev S768x2048 : Shape := ⟨2, ![768, 2048]⟩
abbrev S512x2048 : Shape := ⟨2, ![512, 2048]⟩
abbrev S768x512 : Shape := ⟨2, ![768, 512]⟩
abbrev S2x768x512 : Shape := ⟨3, ![2, 768, 512]⟩
abbrev S1x768x512 : Shape := ⟨3, ![1, 768, 512]⟩

abbrev nBuf : Space → Nat
  | .hbm => 11
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S5632x2048, .f32⟩
  | .hbm, ⟨2, _⟩ => ⟨S8448x5632, .f32⟩
  | .hbm, ⟨3, _⟩ => ⟨S8448x5632, .f32⟩
  | .hbm, ⟨4, _⟩ => ⟨S_, .f32⟩
  | .hbm, ⟨5, _⟩ => ⟨S8x128, .f32⟩
  | .hbm, ⟨6, _⟩ => ⟨S8448x2048, .bf16⟩
  | .hbm, ⟨7, _⟩ => ⟨S5632x2048, .bf16⟩
  | .hbm, ⟨8, _⟩ => ⟨S8448x5632, .bf16⟩
  | .hbm, ⟨9, _⟩ => ⟨S8448x5632, .bf16⟩
  | .hbm, ⟨10, _⟩ => ⟨S2x8448x5632, .bf16⟩
  | .local _ .vmem, ⟨0, _⟩ => ⟨S768x2048, .bf16⟩
  | .local _ .vmem, ⟨1, _⟩ => ⟨S768x2048, .bf16⟩
  | .local _ .vmem, ⟨2, _⟩ => ⟨S512x2048, .bf16⟩
  | .local _ .vmem, ⟨3, _⟩ => ⟨S512x2048, .bf16⟩
  | .local _ .vmem, ⟨4, _⟩ => ⟨S768x512, .bf16⟩
  | .local _ .vmem, ⟨5, _⟩ => ⟨S768x512, .bf16⟩
  | .local _ .vmem, ⟨6, _⟩ => ⟨S768x512, .bf16⟩
  | .local _ .vmem, ⟨7, _⟩ => ⟨S768x512, .bf16⟩
  | .local _ .vmem, ⟨8, _⟩ => ⟨S2x768x512, .bf16⟩
  | .local _ .vmem, ⟨9, _⟩ => ⟨S2x768x512, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Ffn1GateGradRefIdeal.lean ====
abbrev S8448x2048 : Shape := ⟨2, ![8448, 2048]⟩
abbrev S5632x2048 : Shape := ⟨2, ![5632, 2048]⟩
abbrev S8448x5632 : Shape := ⟨2, ![8448, 5632]⟩
abbrev S_ : Shape := ⟨0, ![]⟩
abbrev S1x8448x5632 : Shape := ⟨3, ![1, 8448, 5632]⟩
abbrev S2x8448x5632 : Shape := ⟨3, ![2, 8448, 5632]⟩

abbrev nBuf : Space → Nat
  | .hbm => 30
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S5632x2048, .f32⟩
  | .hbm, ⟨2, _⟩ => ⟨S8448x5632, .f32⟩
  | .hbm, ⟨3, _⟩ => ⟨S8448x5632, .f32⟩
  | .hbm, ⟨4, _⟩ => ⟨S8448x5632, .f32⟩
  | .hbm, ⟨5, _⟩ => ⟨S8448x5632, .f32⟩
  | .hbm, ⟨6, _⟩ => ⟨S_, .f32⟩
  | .hbm, ⟨7, _⟩ => ⟨S8448x5632, .f32⟩
  | .hbm, ⟨8, _⟩ => ⟨S8448x5632, .f32⟩
  | .hbm, ⟨9, _⟩ => ⟨S_, .f32⟩
  | .hbm, ⟨10, _⟩ => ⟨S8448x5632, .f32⟩
  | .hbm, ⟨11, _⟩ => ⟨S8448x5632, .f32⟩
  | .hbm, ⟨12, _⟩ => ⟨S_, .f32⟩
  | .hbm, ⟨13, _⟩ => ⟨S8448x5632, .f32⟩
  | .hbm, ⟨14, _⟩ => ⟨S8448x5632, .f32⟩
  | .hbm, ⟨15, _⟩ => ⟨S8448x5632, .f32⟩
  | .hbm, ⟨16, _⟩ => ⟨S8448x5632, .f32⟩
  | .hbm, ⟨17, _⟩ => ⟨S8448x5632, .f32⟩
  | .hbm, ⟨18, _⟩ => ⟨S8448x2048, .f32⟩
  | .hbm, ⟨19, _⟩ => ⟨S8448x5632, .f32⟩
  | .hbm, ⟨20, _⟩ => ⟨S8448x5632, .f32⟩
  | .hbm, ⟨21, _⟩ => ⟨S8448x5632, .f32⟩
  | .hbm, ⟨22, _⟩ => ⟨S8448x5632, .f32⟩
  | .hbm, ⟨23, _⟩ => ⟨S8448x5632, .f32⟩
  | .hbm, ⟨24, _⟩ => ⟨S8448x5632, .f32⟩
  | .hbm, ⟨25, _⟩ => ⟨S8448x5632, .f32⟩
  | .hbm, ⟨26, _⟩ => ⟨S1x8448x5632, .f32⟩
  | .hbm, ⟨27, _⟩ => ⟨S1x8448x5632, .f32⟩
  | .hbm, ⟨28, _⟩ => ⟨S2x8448x5632, .f32⟩
  | .hbm, ⟨29, _⟩ => ⟨S2x8448x5632, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Ffn2In.lean ====
abbrev S8192x2048 : Shape := ⟨2, ![8192, 2048]⟩
abbrev S2048x11264 : Shape := ⟨2, ![2048, 11264]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x2048, .bf16⟩
  | .hbm, ⟨3, _⟩ => ⟨S2048x11264, .bf16⟩
  | .hbm, ⟨4, _⟩ => ⟨S8192x5632, .bf16⟩
  | .hbm, ⟨5, _⟩ => ⟨S8192x5632, .bf16⟩
  | .hbm, ⟨6, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_15 : BitVec 32 := 0#32
  let v21 : BitVec 1 := Scalar.cmpi .eq arg2 c0_i32_15
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg1 c11_i32
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Ffn2InIdeal.lean ====
abbrev S8192x2048 : Shape := ⟨2, ![8192, 2048]⟩
abbrev S2048x11264 : Shape := ⟨2, ![2048, 11264]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x2048, .bf16⟩
  | .hbm, ⟨3, _⟩ => ⟨S2048x11264, .bf16⟩
  | .hbm, ⟨4, _⟩ => ⟨S8192x5632, .bf16⟩
  | .hbm, ⟨5, _⟩ => ⟨S8192x5632, .bf16⟩
  | .hbm, ⟨6, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_15 : BitVec 32 := 0#32
  let v21 : BitVec 1 := Scalar.cmpi .eq arg2 c0_i32_15
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg1 c11_i32
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Ffn2InRefIdeal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .bf16⟩
  | .hbm, ⟨16, _⟩ => ⟨S8192x5632, .bf16⟩
  | .hbm, ⟨17, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Ffn1In.lean ====
abbrev S8448x2048 : Shape := ⟨2, ![8448, 2048]⟩
abbrev S2048x11264 : Shape := ⟨2, ![2048, 11264]⟩
abbrev S8448x5632 : Shape := ⟨2, ![8448, 5632]⟩
abbrev S768x2048 : Shape := ⟨2, ![768, 2048]⟩
abbrev S2048x512 : Shape := ⟨2, ![2048, 512]⟩
abbrev S768x512 : Shape := ⟨2, ![768, 512]⟩

abbrev nBuf : Space → Nat
  | .hbm => 7
  | .vmem => 14
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x2048, .bf16⟩
  | .hbm, ⟨3, _⟩ => ⟨S2048x11264, .bf16⟩
  | .hbm, ⟨4, _⟩ => ⟨S8448x5632, .bf16⟩
  | .hbm, ⟨5, _⟩ => ⟨S8448x5632, .bf16⟩
  | .hbm, ⟨6, _⟩ => ⟨S8448x5632, .bf16⟩
  | .local _ .vmem, ⟨0, _⟩ => ⟨S768x2048, .bf16⟩
  | .local _ .vmem, ⟨1, _⟩ => ⟨S768x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S768x512, .bf16⟩
  | .local _ .vmem, ⟨7, _⟩ => ⟨S768x512, .bf16⟩
  | .local _ .vmem, ⟨8, _⟩ => ⟨S768x512, .bf16⟩
  | .local _ .vmem, ⟨9, _⟩ => ⟨S768x512, .bf16⟩
  | .local _ .vmem, ⟨10, _⟩ => ⟨S768x512, .bf16⟩
  | .local _ .vmem, ⟨11, _⟩ => ⟨S768x512, .bf16⟩
  | .local _ .vmem, ⟨12, _⟩ => ⟨S768x512, .f32⟩
  | .local _ .vmem, ⟨13, _⟩ => ⟨S768x512, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![11, 11, 1], ![false, false, false]⟩

def k0_cond2 (i : grid0.Coords) : BitVec 1 :=
  let arg2 : BitVec 32 := BitVec.ofNat 32 (i 2).val
  let c0_i32_15 : BitVec 32 := 0#32
  let v21 : BitVec 1 := Scalar.cmpi .eq arg2 c0_i32_15
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg1 c11_i32
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Ffn1InIdeal.lean ====
abbrev S8448x2048 : Shape := ⟨2, ![8448, 2048]⟩
abbrev S2048x11264 : Shape := ⟨2, ![2048, 11264]⟩
abbrev S8448x5632 : Shape := ⟨2, ![8448, 5632]⟩
abbrev S768x2048 : Shape := ⟨2, ![768, 2048]⟩
abbrev S2048x512 : Shape := ⟨2, ![2048, 512]⟩
abbrev S768x512 : Shape := ⟨2, ![768, 512]⟩

abbrev nBuf : Space → Nat
  | .hbm => 7
  | .vmem => 14
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x2048, .bf16⟩
  | .hbm, ⟨3, _⟩ => ⟨S2048x11264, .bf16⟩
  | .hbm, ⟨4, _⟩ => ⟨S8448x5632, .bf16⟩
  | .hbm, ⟨5, _⟩ => ⟨S8448x5632, .bf16⟩
  | .hbm, ⟨6, _⟩ => ⟨S8448x5632, .bf16⟩
  | .local _ .vmem, ⟨0, _⟩ => ⟨S768x2048, .bf16⟩
  | .local _ .vmem, ⟨1, _⟩ => ⟨S768x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S768x512, .bf16⟩
  | .local _ .vmem, ⟨7, _⟩ => ⟨S768x512, .bf16⟩
  | .local _ .vmem, ⟨8, _⟩ => ⟨S768x512, .bf16⟩
  | .local _ .vmem, ⟨9, _⟩ => ⟨S768x512, .bf16⟩
  | .local _ .vmem, ⟨10, _⟩ => ⟨S768x512, .bf16⟩
  | .local _ .vmem, ⟨11, _⟩ => ⟨S768x512, .bf16⟩
  | .local _ .vmem, ⟨12, _⟩ => ⟨S768x512, .f32⟩
  | .local _ .vmem, ⟨13, _⟩ => ⟨S768x512, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![11, 11, 1], ![false, false, false]⟩

def k0_cond2 (i : grid0.Coords) : BitVec 1 :=
  let arg2 : BitVec 32 := BitVec.ofNat 32 (i 2).val
  let c0_i32_15 : BitVec 32 := 0#32
  let v21 : BitVec 1 := Scalar.cmpi .eq arg2 c0_i32_15
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg1 c11_i32
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Ffn1InRefIdeal.lean ====
abbrev S8448x2048 : Shape := ⟨2, ![8448, 2048]⟩
abbrev S2048x11264 : Shape := ⟨2, ![2048, 11264]⟩
abbrev S8448x11264 : Shape := ⟨2, ![8448, 11264]⟩
abbrev S8448x5632 : Shape := ⟨2, ![8448, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | .hbm, ⟨3, _⟩ => ⟨S8448x5632, .f32⟩
  | .hbm, ⟨4, _⟩ => ⟨S8448x5632, .f32⟩
  | .hbm, ⟨5, _⟩ => ⟨S8448x5632, .f32⟩
  | .hbm, ⟨6, _⟩ => ⟨S8448x5632, .f32⟩
  | .hbm, ⟨7, _⟩ => ⟨S_, .f32⟩
  | .hbm, ⟨8, _⟩ => ⟨S8448x5632, .f32⟩
  | .hbm, ⟨9, _⟩ => ⟨S8448x5632, .f32⟩
  | .hbm, ⟨10, _⟩ => ⟨S_, .f32⟩
  | .hbm, ⟨11, _⟩ => ⟨S8448x5632, .f32⟩
  | .hbm, ⟨12, _⟩ => ⟨S8448x5632, .f32⟩
  | .hbm, ⟨13, _⟩ => ⟨S8448x5632, .f32⟩
  | .hbm, ⟨14, _⟩ => ⟨S8448x5632, .f32⟩
  | .hbm, ⟨15, _⟩ => ⟨S8448x5632, .bf16⟩
  | .hbm, ⟨16, _⟩ => ⟨S8448x5632, .bf16⟩
  | .hbm, ⟨17, _⟩ => ⟨S8448x5632, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== MixInQ.lean ====
abbrev S8448x2048 : Shape := ⟨2, ![8448, 2048]⟩
abbrev S2048x9728 : Shape := ⟨2, ![2048, 9728]⟩
abbrev S8448x1024 : Shape := ⟨2, ![8448, 1024]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x2048, .bf16⟩
  | .hbm, ⟨3, _⟩ => ⟨S2048x9728, .bf16⟩
  | .hbm, ⟨4, _⟩ => ⟨S8448x1024, .f32⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S1408x1024, .f32⟩
  | .local _ .vmem, ⟨4, _⟩ => ⟨S1408x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInQIdeal.lean ====
abbrev S8448x2048 : Shape := ⟨2, ![8448, 2048]⟩
abbrev S2048x9728 : Shape := ⟨2, ![2048, 9728]⟩
abbrev S8448x1024 : Shape := ⟨2, ![8448, 1024]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x2048, .bf16⟩
  | .hbm, ⟨3, _⟩ => ⟨S2048x9728, .bf16⟩
  | .hbm, ⟨4, _⟩ => ⟨S8448x1024, .f32⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S1408x1024, .f32⟩
  | .local _ .vmem, ⟨4, _⟩ => ⟨S1408x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInQRefIdeal.lean ====
abbrev S8448x2048 : Shape := ⟨2, ![8448, 2048]⟩
abbrev S2048x9728 : Shape := ⟨2, ![2048, 9728]⟩
abbrev S8448x9728 : Shape := ⟨2, ![8448, 9728]⟩
abbrev S8448x1024 : Shape := ⟨2, ![8448, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x9728, .f32⟩
  | .hbm, ⟨3, _⟩ => ⟨S8448x1024, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixInKv.lean ====
abbrev S8448x2048 : Shape := ⟨2, ![8448, 2048]⟩
abbrev S2048x9728 : Shape := ⟨2, ![2048, 9728]⟩
abbrev S8448x512 : Shape := ⟨2, ![8448, 512]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 5
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x2048, .bf16⟩
  | .hbm, ⟨3, _⟩ => ⟨S2048x9728, .bf16⟩
  | .hbm, ⟨4, _⟩ => ⟨S8448x512, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S1408x512, .f32⟩
  | .local _ .vmem, ⟨4, _⟩ => ⟨S1408x512, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  v0
def k0_mult2 (i : grid0.Coords) : BitVec 32 :=
  let c1024_i32 : BitVec 32 := 1024#32
  let arg1 : BitVec 32 := BitVec.ofNat 32 (i 1).val
  let c512_i32 : BitVec 32 := 512#32
  let v2 : BitVec 32 := Scalar.muli arg1 c512_i32
  let v3 : BitVec 32 := Scalar.addi c1024_i32 v2
  v3
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg2 c2048_i32
  let v1 : BitVec 32 := v0
  let c512_i32 : BitVec 32 := 512#32
  let v2 : BitVec 32 := Scalar.muli arg1 c512_i32
  let c1024_i32 : BitVec 32 := 1024#32
  let v3 : BitVec 32 := Scalar.addi c1024_i32 v2
  let v4 : BitVec 32 := v3
  let c0_i32 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInKvIdeal.lean ====
abbrev S8448x2048 : Shape := ⟨2, ![8448, 2048]⟩
abbrev S2048x9728 : Shape := ⟨2, ![2048, 9728]⟩
abbrev S8448x512 : Shape := ⟨2, ![8448, 512]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 5
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x2048, .bf16⟩
  | .hbm, ⟨3, _⟩ => ⟨S2048x9728, .bf16⟩
  | .hbm, ⟨4, _⟩ => ⟨S8448x512, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S1408x512, .f32⟩
  | .local _ .vmem, ⟨4, _⟩ => ⟨S1408x512, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  v0
def k0_mult2 (i : grid0.Coords) : BitVec 32 :=
  let c1024_i32 : BitVec 32 := 1024#32
  let arg1 : BitVec 32 := BitVec.ofNat 32 (i 1).val
  let c512_i32 : BitVec 32 := 512#32
  let v2 : BitVec 32 := Scalar.muli arg1 c512_i32
  let v3 : BitVec 32 := Scalar.addi c1024_i32 v2
  v3
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg2 c2048_i32
  let v1 : BitVec 32 := v0
  let c512_i32 : BitVec 32 := 512#32
  let v2 : BitVec 32 := Scalar.muli arg1 c512_i32
  let c1024_i32 : BitVec 32 := 1024#32
  let v3 : BitVec 32 := Scalar.addi c1024_i32 v2
  let v4 : BitVec 32 := v3
  let c0_i32 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInKvRefIdeal.lean ====
abbrev S8448x2048 : Shape := ⟨2, ![8448, 2048]⟩
abbrev S2048x9728 : Shape := ⟨2, ![2048, 9728]⟩
abbrev S8448x9728 : Shape := ⟨2, ![8448, 9728]⟩
abbrev S8448x512 : Shape := ⟨2, ![8448, 512]⟩

abbrev nBuf : Space → Nat
  | .hbm => 4
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x9728, .f32⟩
  | .hbm, ⟨3, _⟩ => ⟨S8448x512, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixInRet.lean ====
abbrev S8448x2048 : Shape := ⟨2, ![8448, 2048]⟩
abbrev S2048x9728 : Shape := ⟨2, ![2048, 9728]⟩
abbrev S8448x3072 : Shape := ⟨2, ![8448, 3072]⟩
abbrev S768x2048 : Shape := ⟨2, ![768, 2048]⟩
abbrev S2048x1536 : Shape := ⟨2, ![2048, 1536]⟩
abbrev S768x1536 : Shape := ⟨2, ![768, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x2048, .bf16⟩
  | .hbm, ⟨3, _⟩ => ⟨S2048x9728, .bf16⟩
  | .hbm, ⟨4, _⟩ => ⟨S8448x3072, .f32⟩
  | .local _ .vmem, ⟨0, _⟩ => ⟨S768x2048, .bf16⟩
  | .local _ .vmem, ⟨1, _⟩ => ⟨S768x2048, .bf16⟩
  | .local _ .vmem, ⟨2, _⟩ => ⟨S2048x1536, .bf16⟩
  | .local _ .vmem, ⟨3, _⟩ => ⟨S2048x1536, .bf16⟩
  | .local _ .vmem, ⟨4, _⟩ => ⟨S768x1536, .f32⟩
  | .local _ .vmem, ⟨5, _⟩ => ⟨S768x1536, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  v0
def k0_mult2 (i : grid0.Coords) : BitVec 32 :=
  let c1536_i32_0 : BitVec 32 := 1536#32
  let arg1 : BitVec 32 := BitVec.ofNat 32 (i 1).val
  let c1536_i32 : BitVec 32 := 1536#32
  let v2 : BitVec 32 := Scalar.muli arg1 c1536_i32
  let v3 : BitVec 32 := Scalar.addi c1536_i32_0 v2
  v3
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg2 c2048_i32
  let v1 : BitVec 32 := v0
  let c1536_i32 : BitVec 32 := 1536#32
  let v2 : BitVec 32 := Scalar.muli arg1 c1536_i32
  let c1536_i32_0 : BitVec 32 := 1536#32
  let v3 : BitVec 32 := Scalar.addi c1536_i32_0 v2
  let v4 : BitVec 32 := v3
  let c0_i32 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRetIdeal.lean ====
abbrev S8448x2048 : Shape := ⟨2, ![8448, 2048]⟩
abbrev S2048x9728 : Shape := ⟨2, ![2048, 9728]⟩
abbrev S8448x3072 : Shape := ⟨2, ![8448, 3072]⟩
abbrev S768x2048 : Shape := ⟨2, ![768, 2048]⟩
abbrev S2048x1536 : Shape := ⟨2, ![2048, 1536]⟩
abbrev S768x1536 : Shape := ⟨2, ![768, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x2048, .bf16⟩
  | .hbm, ⟨3, _⟩ => ⟨S2048x9728, .bf16⟩
  | .hbm, ⟨4, _⟩ => ⟨S8448x3072, .f32⟩
  | .local _ .vmem, ⟨0, _⟩ => ⟨S768x2048, .bf16⟩
  | .local _ .vmem, ⟨1, _⟩ => ⟨S768x2048, .bf16⟩
  | .local _ .vmem, ⟨2, _⟩ => ⟨S2048x1536, .bf16⟩
  | .local _ .vmem, ⟨3, _⟩ => ⟨S2048x1536, .bf16⟩
  | .local _ .vmem, ⟨4, _⟩ => ⟨S768x1536, .f32⟩
  | .local _ .vmem, ⟨5, _⟩ => ⟨S768x1536, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  v0
def k0_mult2 (i : grid0.Coords) : BitVec 32 :=
  let c1536_i32_0 : BitVec 32 := 1536#32
  let arg1 : BitVec 32 := BitVec.ofNat 32 (i 1).val
  let c1536_i32 : BitVec 32 := 1536#32
  let v2 : BitVec 32 := Scalar.muli arg1 c1536_i32
  let v3 : BitVec 32 := Scalar.addi c1536_i32_0 v2
  v3
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg2 c2048_i32
  let v1 : BitVec 32 := v0
  let c1536_i32 : BitVec 32 := 1536#32
  let v2 : BitVec 32 := Scalar.muli arg1 c1536_i32
  let c1536_i32_0 : BitVec 32 := 1536#32
  let v3 : BitVec 32 := Scalar.addi c1536_i32_0 v2
  let v4 : BitVec 32 := v3
  let c0_i32 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRetRefIdeal.lean ====
abbrev S8448x2048 : Shape := ⟨2, ![8448, 2048]⟩
abbrev S2048x9728 : Shape := ⟨2, ![2048, 9728]⟩
abbrev S8448x9728 : Shape := ⟨2, ![8448, 9728]⟩
abbrev S8448x3072 : Shape := ⟨2, ![8448, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x9728, .f32⟩
  | .hbm, ⟨3, _⟩ => ⟨S8448x3072, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixInGr.lean ====
abbrev S8448x2048 : Shape := ⟨2, ![8448, 2048]⟩
abbrev S2048x9728 : Shape := ⟨2, ![2048, 9728]⟩
abbrev S8448x1024 : Shape := ⟨2, ![8448, 1024]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x2048, .bf16⟩
  | .hbm, ⟨3, _⟩ => ⟨S2048x9728, .bf16⟩
  | .hbm, ⟨4, _⟩ => ⟨S8448x1024, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  v0
def k0_mult2 (i : grid0.Coords) : BitVec 32 :=
  let c4608_i32 : BitVec 32 := 4608#32
  let arg1 : BitVec 32 := BitVec.ofNat 32 (i 1).val
  let c1024_i32 : BitVec 32 := 1024#32
  let v2 : BitVec 32 := Scalar.muli arg1 c1024_i32
  let v3 : BitVec 32 := Scalar.addi c4608_i32 v2
  v3
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg2 c2048_i32
  let v1 : BitVec 32 := v0
  let c1024_i32 : BitVec 32 := 1024#32
  let v2 : BitVec 32 := Scalar.muli arg1 c1024_i32
  let c4608_i32 : BitVec 32 := 4608#32
  let v3 : BitVec 32 := Scalar.addi c4608_i32 v2
  let v4 : BitVec 32 := v3
  let c0_i32 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInGrIdeal.lean ====
abbrev S8448x2048 : Shape := ⟨2, ![8448, 2048]⟩
abbrev S2048x9728 : Shape := ⟨2, ![2048, 9728]⟩
abbrev S8448x1024 : Shape := ⟨2, ![8448, 1024]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x2048, .bf16⟩
  | .hbm, ⟨3, _⟩ => ⟨S2048x9728, .bf16⟩
  | .hbm, ⟨4, _⟩ => ⟨S8448x1024, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  v0
def k0_mult2 (i : grid0.Coords) : BitVec 32 :=
  let c4608_i32 : BitVec 32 := 4608#32
  let arg1 : BitVec 32 := BitVec.ofNat 32 (i 1).val
  let c1024_i32 : BitVec 32 := 1024#32
  let v2 : BitVec 32 := Scalar.muli arg1 c1024_i32
  let v3 : BitVec 32 := Scalar.addi c4608_i32 v2
  v3
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg2 c2048_i32
  let v1 : BitVec 32 := v0
  let c1024_i32 : BitVec 32 := 1024#32
  let v2 : BitVec 32 := Scalar.muli arg1 c1024_i32
  let c4608_i32 : BitVec 32 := 4608#32
  let v3 : BitVec 32 := Scalar.addi c4608_i32 v2
  let v4 : BitVec 32 := v3
  let c0_i32 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInGrRefIdeal.lean ====
abbrev S8448x2048 : Shape := ⟨2, ![8448, 2048]⟩
abbrev S2048x9728 : Shape := ⟨2, ![2048, 9728]⟩
abbrev S8448x9728 : Shape := ⟨2, ![8448, 9728]⟩
abbrev S8448x1024 : Shape := ⟨2, ![8448, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x9728, .f32⟩
  | .hbm, ⟨3, _⟩ => ⟨S8448x1024, .f32⟩
  | .hbm, ⟨4, _⟩ => ⟨S8448x1024, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S8192x2048 : Shape := ⟨2, ![8192, 2048]⟩
abbrev S8448x4096 : Shape := ⟨2, ![8448, 4096]⟩
abbrev S256x2048 : Shape := ⟨2, ![256, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8448x4096, .f32⟩
  | .hbm, ⟨3, _⟩ => ⟨S8192x2048, .bf16⟩
  | .hbm, ⟨4, _⟩ => ⟨S8192x2048, .bf16⟩
  | .hbm, ⟨5, _⟩ => ⟨S8448x4096, .bf16⟩
  | .hbm, ⟨6, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c256_i32 : BitVec 32 := 256#32
  let v0 : BitVec 32 := Scalar.muli c0_i32 c256_i32
  v0
def k0_off1 : Fin 2 → Nat :=
  let c0_i32 : BitVec 32 := 0#32
  let c256_i32 : BitVec 32 := 256#32
  let v0 : BitVec 32 := Scalar.muli c0_i32 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let c0_i32 : BitVec 32 := 0#32
  ![v0.toNat, c1_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S8192x2048 : Shape := ⟨2, ![8192, 2048]⟩
abbrev S8448x4096 : Shape := ⟨2, ![8448, 4096]⟩
abbrev S8192x4096 : Shape := ⟨2, ![8192, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8448x4096, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== MergeGrad.lean ====
abbrev S8192x2048 : Shape := ⟨2, ![8192, 2048]⟩
abbrev S8448x4096 : Shape := ⟨2, ![8448, 4096]⟩
abbrev S8192x4096 : Shape := ⟨2, ![8192, 4096]⟩
abbrev S256x2048 : Shape := ⟨2, ![256, 2048]⟩
abbrev S256x4096 : Shape := ⟨2, ![256, 4096]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8448x4096, .f32⟩
  | .hbm, ⟨4, _⟩ => ⟨S8192x2048, .bf16⟩
  | .hbm, ⟨5, _⟩ => ⟨S8192x2048, .bf16⟩
  | .hbm, ⟨6, _⟩ => ⟨S8448x4096, .bf16⟩
  | .hbm, ⟨7, _⟩ => ⟨S8192x2048, .bf16⟩
  | .hbm, ⟨8, _⟩ => ⟨S8192x2048, .bf16⟩
  | .hbm, ⟨9, _⟩ => ⟨S8192x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x4096, .bf16⟩
  | .local _ .vmem, ⟨15, _⟩ => ⟨S256x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c256_i32 : BitVec 32 := 256#32
  let v0 : BitVec 32 := Scalar.muli c0_i32 c256_i32
  v0
def k0_off1 : Fin 2 → Nat :=
  let c0_i32 : BitVec 32 := 0#32
  let c256_i32 : BitVec 32 := 256#32
  let v0 : BitVec 32 := Scalar.muli c0_i32 c256_i32
  let v1 : BitVec 32 := v0
  let v2 : Index := Scalar.indexCast v1
  let c0 : Index := 0#32
  ![v2.toNat, 0]
def k0_off2 : Fin 2 → Nat :=
  let c0_i32 : BitVec 32 := 0#32
  let c256_i32 : BitVec 32 := 256#32
  let v0 : BitVec 32 := Scalar.muli c0_i32 c256_i32
  let v1 : BitVec 32 := v0
  let v70 : Index := Scalar.indexCast v1
  let c0_19 : Index := 0#32
  ![v70.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let c0_i32 : BitVec 32 := 0#32
  ![v0.toNat, c1_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeGradRefIdeal.lean ====
abbrev S8192x2048 : Shape := ⟨2, ![8192, 2048]⟩
abbrev S8448x4096 : Shape := ⟨2, ![8448, 4096]⟩
abbrev S8192x4096 : Shape := ⟨2, ![8192, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8448x4096, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .bf16⟩
  | .hbm, ⟨43, _⟩ => ⟨S8192x2048, .bf16⟩
  | .hbm, ⟨44, _⟩ => ⟨S8192x4096, .f32⟩
  | .hbm, ⟨45, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== RetSum.lean ====
abbrev S8448x3072 : Shape := ⟨2, ![8448, 3072]⟩
abbrev S256x3072 : Shape := ⟨2, ![256, 3072]⟩

abbrev nBuf : Space → Nat
  | .hbm => 3
  | .vmem => 6
  | .smem => 0
  | _ => 0

abbrev bufTy : (tb : Table) → Fin (tcTables nBuf tb) → BufTy
  | .hbm, ⟨0, _⟩ => ⟨S8448x3072, .f32⟩
  | .hbm, ⟨1, _⟩ => ⟨S8448x3072, .f32⟩
  | .hbm, ⟨2, _⟩ => ⟨S8448x3072, .bf16⟩
  | .local _ .vmem, ⟨0, _⟩ => ⟨S256x3072, .f32⟩
  | .local _ .vmem, ⟨1, _⟩ => ⟨S256x3072, .f32⟩
  | .local _ .vmem, ⟨2, _⟩ => ⟨S256x3072, .f32⟩
  | .local _ .vmem, ⟨3, _⟩ => ⟨S256x3072, .f32⟩
  | .local _ .vmem, ⟨4, _⟩ => ⟨S256x3072, .bf16⟩
  | .local _ .vmem, ⟨5, _⟩ => ⟨S256x3072, .bf16⟩
  | _, _ => ⟨S8448x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![33], ![false]⟩

def k0_mult1 : BitVec 32 :=
  let c0_i32 : BitVec 32 := 0#32
  let c256_i32 : BitVec 32 := 256#32
  let v0 : BitVec 32 := Scalar.muli c0_i32 c256_i32
  v0
def k0_off1 : Fin 2 → Nat :=
  let c0_i32 : BitVec 32 := 0#32
  let c256_i32 : BitVec 32 := 256#32
  let v0 : BitVec 32 := Scalar.muli c0_i32 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RetSumRefIdeal.lean ====
abbrev S8448x3072 : Shape := ⟨2, ![8448, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8448x3072, .f32⟩
  | .hbm, ⟨1, _⟩ => ⟨S8448x3072, .f32⟩
  | .hbm, ⟨2, _⟩ => ⟨S8448x3072, .f32⟩
  | .hbm, ⟨3, _⟩ => ⟨S8448x3072, .bf16⟩
  | _, _ => ⟨S8448x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamIn.lean ====
abbrev S2048x2816 : Shape := ⟨2, ![2048, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S2048x2816 : Shape := ⟨2, ![2048, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1408x2048 : Shape := ⟨2, ![1408, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S1408x2048 : Shape := ⟨2, ![1408, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMixIn.lean ====
abbrev S2048x2432 : Shape := ⟨2, ![2048, 2432]⟩
abbrev S128x2432 : Shape := ⟨2, ![128, 2432]⟩

abbrev nBuf : Space → Nat
  | .hbm => 7
  | .vmem => 14
  | .smem => 0
  | _ => 0

abbrev bufTy : (tb : Table) → Fin (tcTables nBuf tb) → BufTy
  | .hbm, ⟨0, _⟩ => ⟨S2048x2432, .f32⟩
  | .hbm, ⟨1, _⟩ => ⟨S2048x2432, .f32⟩
  | .hbm, ⟨2, _⟩ => ⟨S2048x2432, .f32⟩
  | .hbm, ⟨3, _⟩ => ⟨S2048x2432, .f32⟩
  | .hbm, ⟨4, _⟩ => ⟨S2048x2432, .f32⟩
  | .hbm, ⟨5, _⟩ => ⟨S2048x2432, .f32⟩
  | .hbm, ⟨6, _⟩ => ⟨S2048x2432, .f32⟩
  | .local _ .vmem, ⟨0, _⟩ => ⟨S128x2432, .f32⟩
  | .local _ .vmem, ⟨1, _⟩ => ⟨S128x2432, .f32⟩
  | .local _ .vmem, ⟨2, _⟩ => ⟨S128x2432, .f32⟩
  | .local _ .vmem, ⟨3, _⟩ => ⟨S128x2432, .f32⟩
  | .local _ .vmem, ⟨4, _⟩ => ⟨S128x2432, .f32⟩
  | .local _ .vmem, ⟨5, _⟩ => ⟨S128x2432, .f32⟩
  | .local _ .vmem, ⟨6, _⟩ => ⟨S128x2432, .f32⟩
  | .local _ .vmem, ⟨7, _⟩ => ⟨S128x2432, .f32⟩
  | .local _ .vmem, ⟨8, _⟩ => ⟨S128x2432, .f32⟩
  | .local _ .vmem, ⟨9, _⟩ => ⟨S128x2432, .f32⟩
  | .local _ .vmem, ⟨10, _⟩ => ⟨S128x2432, .f32⟩
  | .local _ .vmem, ⟨11, _⟩ => ⟨S128x2432, .f32⟩
  | .local _ .vmem, ⟨12, _⟩ => ⟨S128x2432, .f32⟩
  | .local _ .vmem, ⟨13, _⟩ => ⟨S128x2432, .f32⟩
  | _, _ => ⟨S2048x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x2432 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2432 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2432 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixInIdeal.lean ====
abbrev S2048x2432 : Shape := ⟨2, ![2048, 2432]⟩
abbrev S128x2432 : Shape := ⟨2, ![128, 2432]⟩

abbrev nBuf : Space → Nat
  | .hbm => 7
  | .vmem => 14
  | .smem => 0
  | _ => 0

abbrev bufTy : (tb : Table) → Fin (tcTables nBuf tb) → BufTy
  | .hbm, ⟨0, _⟩ => ⟨S2048x2432, .f32⟩
  | .hbm, ⟨1, _⟩ => ⟨S2048x2432, .f32⟩
  | .hbm, ⟨2, _⟩ => ⟨S2048x2432, .f32⟩
  | .hbm, ⟨3, _⟩ => ⟨S2048x2432, .f32⟩
  | .hbm, ⟨4, _⟩ => ⟨S2048x2432, .f32⟩
  | .hbm, ⟨5, _⟩ => ⟨S2048x2432, .f32⟩
  | .hbm, ⟨6, _⟩ => ⟨S2048x2432, .f32⟩
  | .local _ .vmem, ⟨0, _⟩ => ⟨S128x2432, .f32⟩
  | .local _ .vmem, ⟨1, _⟩ => ⟨S128x2432, .f32⟩
  | .local _ .vmem, ⟨2, _⟩ => ⟨S128x2432, .f32⟩
  | .local _ .vmem, ⟨3, _⟩ => ⟨S128x2432, .f32⟩
  | .local _ .vmem, ⟨4, _⟩ => ⟨S128x2432, .f32⟩
  | .local _ .vmem, ⟨5, _⟩ => ⟨S128x2432, .f32⟩
  | .local _ .vmem, ⟨6, _⟩ => ⟨S128x2432, .f32⟩
  | .local _ .vmem, ⟨7, _⟩ => ⟨S128x2432, .f32⟩
  | .local _ .vmem, ⟨8, _⟩ => ⟨S128x2432, .f32⟩
  | .local _ .vmem, ⟨9, _⟩ => ⟨S128x2432, .f32⟩
  | .local _ .vmem, ⟨10, _⟩ => ⟨S128x2432, .f32⟩
  | .local _ .vmem, ⟨11, _⟩ => ⟨S128x2432, .f32⟩
  | .local _ .vmem, ⟨12, _⟩ => ⟨S128x2432, .f32⟩
  | .local _ .vmem, ⟨13, _⟩ => ⟨S128x2432, .f32⟩
  | _, _ => ⟨S2048x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x2432 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2432 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2432 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixInRefIdeal.lean ====
abbrev S2048x2432 : Shape := ⟨2, ![2048, 2432]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2432, .f32⟩
  | .hbm, ⟨1, _⟩ => ⟨S2048x2432, .f32⟩
  | .hbm, ⟨2, _⟩ => ⟨S2048x2432, .f32⟩
  | .hbm, ⟨3, _⟩ => ⟨S2048x2432, .f32⟩
  | .hbm, ⟨4, _⟩ => ⟨S_, .f32⟩
  | .hbm, ⟨5, _⟩ => ⟨S2048x2432, .f32⟩
  | .hbm, ⟨6, _⟩ => ⟨S2048x2432, .f32⟩
  | .hbm, ⟨7, _⟩ => ⟨S_, .f32⟩
  | .hbm, ⟨8, _⟩ => ⟨S2048x2432, .f32⟩
  | .hbm, ⟨9, _⟩ => ⟨S2048x2432, .f32⟩
  | .hbm, ⟨10, _⟩ => ⟨S2048x2432, .f32⟩
  | .hbm, ⟨11, _⟩ => ⟨S_, .f32⟩
  | .hbm, ⟨12, _⟩ => ⟨S2048x2432, .f32⟩
  | .hbm, ⟨13, _⟩ => ⟨S2048x2432, .f32⟩
  | .hbm, ⟨14, _⟩ => ⟨S2048x2432, .f32⟩
  | .hbm, ⟨15, _⟩ => ⟨S_, .f32⟩
  | .hbm, ⟨16, _⟩ => ⟨S2048x2432, .f32⟩
  | .hbm, ⟨17, _⟩ => ⟨S2048x2432, .f32⟩
  | .hbm, ⟨18, _⟩ => ⟨S2048x2432, .f32⟩
  | .hbm, ⟨19, _⟩ => ⟨S_, .f32⟩
  | .hbm, ⟨20, _⟩ => ⟨S2048x2432, .f32⟩
  | .hbm, ⟨21, _⟩ => ⟨S2048x2432, .f32⟩
  | .hbm, ⟨22, _⟩ => ⟨S_, .f32⟩
  | .hbm, ⟨23, _⟩ => ⟨S2048x2432, .f32⟩
  | .hbm, ⟨24, _⟩ => ⟨S2048x2432, .f32⟩
  | .hbm, ⟨25, _⟩ => ⟨S2048x2432, .f32⟩
  | .hbm, ⟨26, _⟩ => ⟨S_, .f32⟩
  | .hbm, ⟨27, _⟩ => ⟨S2048x2432, .f32⟩
  | .hbm, ⟨28, _⟩ => ⟨S2048x2432, .f32⟩
  | .hbm, ⟨29, _⟩ => ⟨S2048x2432, .f32⟩
  | .hbm, ⟨30, _⟩ => ⟨S_, .f32⟩
  | .hbm, ⟨31, _⟩ => ⟨S2048x2432, .f32⟩
  | .hbm, ⟨32, _⟩ => ⟨S2048x2432, .f32⟩
  | .hbm, ⟨33, _⟩ => ⟨S2048x2432, .f32⟩
  | .hbm, ⟨34, _⟩ => ⟨S_, .f32⟩
  | .hbm, ⟨35, _⟩ => ⟨S2048x2432, .f32⟩
  | .hbm, ⟨36, _⟩ => ⟨S2048x2432, .f32⟩
  | _, _ => ⟨S2048x2432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProj.lean ====
abbrev S1024x512 : Shape := ⟨2, ![1024, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjIdeal.lean ====
abbrev S1024x512 : Shape := ⟨2, ![1024, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMixOut.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixOutIdeal.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S2048x4608 : Shape := ⟨2, ![2048, 4608]⟩
abbrev S128x4608 : Shape := ⟨2, ![128, 4608]⟩

abbrev nBuf : Space → Nat
  | .hbm => 7
  | .vmem => 14
  | .smem => 0
  | _ => 0

abbrev bufTy : (tb : Table) → Fin (tcTables nBuf tb) → BufTy
  | .hbm, ⟨0, _⟩ => ⟨S2048x4608, .f32⟩
  | .hbm, ⟨1, _⟩ => ⟨S2048x4608, .f32⟩
  | .hbm, ⟨2, _⟩ => ⟨S2048x4608, .f32⟩
  | .hbm, ⟨3, _⟩ => ⟨S2048x4608, .f32⟩
  | .hbm, ⟨4, _⟩ => ⟨S2048x4608, .f32⟩
  | .hbm, ⟨5, _⟩ => ⟨S2048x4608, .f32⟩
  | .hbm, ⟨6, _⟩ => ⟨S2048x4608, .f32⟩
  | .local _ .vmem, ⟨0, _⟩ => ⟨S128x4608, .f32⟩
  | .local _ .vmem, ⟨1, _⟩ => ⟨S128x4608, .f32⟩
  | .local _ .vmem, ⟨2, _⟩ => ⟨S128x4608, .f32⟩
  | .local _ .vmem, ⟨3, _⟩ => ⟨S128x4608, .f32⟩
  | .local _ .vmem, ⟨4, _⟩ => ⟨S128x4608, .f32⟩
  | .local _ .vmem, ⟨5, _⟩ => ⟨S128x4608, .f32⟩
  | .local _ .vmem, ⟨6, _⟩ => ⟨S128x4608, .f32⟩
  | .local _ .vmem, ⟨7, _⟩ => ⟨S128x4608, .f32⟩
  | .local _ .vmem, ⟨8, _⟩ => ⟨S128x4608, .f32⟩
  | .local _ .vmem, ⟨9, _⟩ => ⟨S128x4608, .f32⟩
  | .local _ .vmem, ⟨10, _⟩ => ⟨S128x4608, .f32⟩
  | .local _ .vmem, ⟨11, _⟩ => ⟨S128x4608, .f32⟩
  | .local _ .vmem, ⟨12, _⟩ => ⟨S128x4608, .f32⟩
  | .local _ .vmem, ⟨13, _⟩ => ⟨S128x4608, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4608 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4608 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaIdeal.lean ====
abbrev S2048x4608 : Shape := ⟨2, ![2048, 4608]⟩
abbrev S128x4608 : Shape := ⟨2, ![128, 4608]⟩

abbrev nBuf : Space → Nat
  | .hbm => 7
  | .vmem => 14
  | .smem => 0
  | _ => 0

abbrev bufTy : (tb : Table) → Fin (tcTables nBuf tb) → BufTy
  | .hbm, ⟨0, _⟩ => ⟨S2048x4608, .f32⟩
  | .hbm, ⟨1, _⟩ => ⟨S2048x4608, .f32⟩
  | .hbm, ⟨2, _⟩ => ⟨S2048x4608, .f32⟩
  | .hbm, ⟨3, _⟩ => ⟨S2048x4608, .f32⟩
  | .hbm, ⟨4, _⟩ => ⟨S2048x4608, .f32⟩
  | .hbm, ⟨5, _⟩ => ⟨S2048x4608, .f32⟩
  | .hbm, ⟨6, _⟩ => ⟨S2048x4608, .f32⟩
  | .local _ .vmem, ⟨0, _⟩ => ⟨S128x4608, .f32⟩
  | .local _ .vmem, ⟨1, _⟩ => ⟨S128x4608, .f32⟩
  | .local _ .vmem, ⟨2, _⟩ => ⟨S128x4608, .f32⟩
  | .local _ .vmem, ⟨3, _⟩ => ⟨S128x4608, .f32⟩
  | .local _ .vmem, ⟨4, _⟩ => ⟨S128x4608, .f32⟩
  | .local _ .vmem, ⟨5, _⟩ => ⟨S128x4608, .f32⟩
  | .local _ .vmem, ⟨6, _⟩ => ⟨S128x4608, .f32⟩
  | .local _ .vmem, ⟨7, _⟩ => ⟨S128x4608, .f32⟩
  | .local _ .vmem, ⟨8, _⟩ => ⟨S128x4608, .f32⟩
  | .local _ .vmem, ⟨9, _⟩ => ⟨S128x4608, .f32⟩
  | .local _ .vmem, ⟨10, _⟩ => ⟨S128x4608, .f32⟩
  | .local _ .vmem, ⟨11, _⟩ => ⟨S128x4608, .f32⟩
  | .local _ .vmem, ⟨12, _⟩ => ⟨S128x4608, .f32⟩
  | .local _ .vmem, ⟨13, _⟩ => ⟨S128x4608, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4608 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4608 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S2048x4608 : Shape := ⟨2, ![2048, 4608]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x4608, .f32⟩
  | .hbm, ⟨1, _⟩ => ⟨S2048x4608, .f32⟩
  | .hbm, ⟨2, _⟩ => ⟨S2048x4608, .f32⟩
  | .hbm, ⟨3, _⟩ => ⟨S2048x4608, .f32⟩
  | .hbm, ⟨4, _⟩ => ⟨S_, .f32⟩
  | .hbm, ⟨5, _⟩ => ⟨S2048x4608, .f32⟩
  | .hbm, ⟨6, _⟩ => ⟨S2048x4608, .f32⟩
  | .hbm, ⟨7, _⟩ => ⟨S_, .f32⟩
  | .hbm, ⟨8, _⟩ => ⟨S2048x4608, .f32⟩
  | .hbm, ⟨9, _⟩ => ⟨S2048x4608, .f32⟩
  | .hbm, ⟨10, _⟩ => ⟨S2048x4608, .f32⟩
  | .hbm, ⟨11, _⟩ => ⟨S_, .f32⟩
  | .hbm, ⟨12, _⟩ => ⟨S2048x4608, .f32⟩
  | .hbm, ⟨13, _⟩ => ⟨S2048x4608, .f32⟩
  | .hbm, ⟨14, _⟩ => ⟨S2048x4608, .f32⟩
  | .hbm, ⟨15, _⟩ => ⟨S_, .f32⟩
  | .hbm, ⟨16, _⟩ => ⟨S2048x4608, .f32⟩
  | .hbm, ⟨17, _⟩ => ⟨S2048x4608, .f32⟩
  | .hbm, ⟨18, _⟩ => ⟨S2048x4608, .f32⟩
  | .hbm, ⟨19, _⟩ => ⟨S_, .f32⟩
  | .hbm, ⟨20, _⟩ => ⟨S2048x4608, .f32⟩
  | .hbm, ⟨21, _⟩ => ⟨S2048x4608, .f32⟩
  | .hbm, ⟨22, _⟩ => ⟨S_, .f32⟩
  | .hbm, ⟨23, _⟩ => ⟨S2048x4608, .f32⟩
  | .hbm, ⟨24, _⟩ => ⟨S2048x4608, .f32⟩
  | .hbm, ⟨25, _⟩ => ⟨S2048x4608, .f32⟩
  | .hbm, ⟨26, _⟩ => ⟨S_, .f32⟩
  | .hbm, ⟨27, _⟩ => ⟨S2048x4608, .f32⟩
  | .hbm, ⟨28, _⟩ => ⟨S2048x4608, .f32⟩
  | .hbm, ⟨29, _⟩ => ⟨S2048x4608, .f32⟩
  | .hbm, ⟨30, _⟩ => ⟨S_, .f32⟩
  | .hbm, ⟨31, _⟩ => ⟨S2048x4608, .f32⟩
  | .hbm, ⟨32, _⟩ => ⟨S2048x4608, .f32⟩
  | .hbm, ⟨33, _⟩ => ⟨S2048x4608, .f32⟩
  | .hbm, ⟨34, _⟩ => ⟨S_, .f32⟩
  | .hbm, ⟨35, _⟩ => ⟨S2048x4608, .f32⟩
  | .hbm, ⟨36, _⟩ => ⟨S2048x4608, .f32⟩
  | _, _ => ⟨S2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBias.lean ====
abbrev S1x18432 : Shape := ⟨2, ![1, 18432]⟩

abbrev nBuf : Space → Nat
  | .hbm => 7
  | .vmem => 7
  | .smem => 0
  | _ => 0

abbrev bufTy : (tb : Table) → Fin (tcTables nBuf tb) → BufTy
  | .hbm, ⟨0, _⟩ => ⟨S1x18432, .f32⟩
  | .hbm, ⟨1, _⟩ => ⟨S1x18432, .f32⟩
  | .hbm, ⟨2, _⟩ => ⟨S1x18432, .f32⟩
  | .hbm, ⟨3, _⟩ => ⟨S1x18432, .f32⟩
  | .hbm, ⟨4, _⟩ => ⟨S1x18432, .f32⟩
  | .hbm, ⟨5, _⟩ => ⟨S1x18432, .f32⟩
  | .hbm, ⟨6, _⟩ => ⟨S1x18432, .f32⟩
  | .local _ .vmem, ⟨0, _⟩ => ⟨S1x18432, .f32⟩
  | .local _ .vmem, ⟨1, _⟩ => ⟨S1x18432, .f32⟩
  | .local _ .vmem, ⟨2, _⟩ => ⟨S1x18432, .f32⟩
  | .local _ .vmem, ⟨3, _⟩ => ⟨S1x18432, .f32⟩
  | .local _ .vmem, ⟨4, _⟩ => ⟨S1x18432, .f32⟩
  | .local _ .vmem, ⟨5, _⟩ => ⟨S1x18432, .f32⟩
  | .local _ .vmem, ⟨6, _⟩ => ⟨S1x18432, .f32⟩
  | _, _ => ⟨S1x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c1_i32 : BitVec 32 := 1#32
  let v0 : BitVec 32 := Scalar.muli c0_i32 c1_i32
  v0
def k0_off1 : Fin 2 → Nat :=
  let c0_i32 : BitVec 32 := 0#32
  let c1_i32 : BitVec 32 := 1#32
  let v0 : BitVec 32 := Scalar.muli c0_i32 c1_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S1x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x18432 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasIdeal.lean ====
abbrev S1x18432 : Shape := ⟨2, ![1, 18432]⟩

abbrev nBuf : Space → Nat
  | .hbm => 7
  | .vmem => 7
  | .smem => 0
  | _ => 0

abbrev bufTy : (tb : Table) → Fin (tcTables nBuf tb) → BufTy
  | .hbm, ⟨0, _⟩ => ⟨S1x18432, .f32⟩
  | .hbm, ⟨1, _⟩ => ⟨S1x18432, .f32⟩
  | .hbm, ⟨2, _⟩ => ⟨S1x18432, .f32⟩
  | .hbm, ⟨3, _⟩ => ⟨S1x18432, .f32⟩
  | .hbm, ⟨4, _⟩ => ⟨S1x18432, .f32⟩
  | .hbm, ⟨5, _⟩ => ⟨S1x18432, .f32⟩
  | .hbm, ⟨6, _⟩ => ⟨S1x18432, .f32⟩
  | .local _ .vmem, ⟨0, _⟩ => ⟨S1x18432, .f32⟩
  | .local _ .vmem, ⟨1, _⟩ => ⟨S1x18432, .f32⟩
  | .local _ .vmem, ⟨2, _⟩ => ⟨S1x18432, .f32⟩
  | .local _ .vmem, ⟨3, _⟩ => ⟨S1x18432, .f32⟩
  | .local _ .vmem, ⟨4, _⟩ => ⟨S1x18432, .f32⟩
  | .local _ .vmem, ⟨5, _⟩ => ⟨S1x18432, .f32⟩
  | .local _ .vmem, ⟨6, _⟩ => ⟨S1x18432, .f32⟩
  | _, _ => ⟨S1x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c1_i32 : BitVec 32 := 1#32
  let v0 : BitVec 32 := Scalar.muli c0_i32 c1_i32
  v0
def k0_off1 : Fin 2 → Nat :=
  let c0_i32 : BitVec 32 := 0#32
  let c1_i32 : BitVec 32 := 1#32
  let v0 : BitVec 32 := Scalar.muli c0_i32 c1_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S1x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x18432 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasRefIdeal.lean ====
abbrev S1x18432 : Shape := ⟨2, ![1, 18432]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x18432, .f32⟩
  | .hbm, ⟨1, _⟩ => ⟨S1x18432, .f32⟩
  | .hbm, ⟨2, _⟩ => ⟨S1x18432, .f32⟩
  | .hbm, ⟨3, _⟩ => ⟨S1x18432, .f32⟩
  | .hbm, ⟨4, _⟩ => ⟨S_, .f32⟩
  | .hbm, ⟨5, _⟩ => ⟨S1x18432, .f32⟩
  | .hbm, ⟨6, _⟩ => ⟨S1x18432, .f32⟩
  | .hbm, ⟨7, _⟩ => ⟨S_, .f32⟩
  | .hbm, ⟨8, _⟩ => ⟨S1x18432, .f32⟩
  | .hbm, ⟨9, _⟩ => ⟨S1x18432, .f32⟩
  | .hbm, ⟨10, _⟩ => ⟨S1x18432, .f32⟩
  | .hbm, ⟨11, _⟩ => ⟨S_, .f32⟩
  | .hbm, ⟨12, _⟩ => ⟨S1x18432, .f32⟩
  | .hbm, ⟨13, _⟩ => ⟨S1x18432, .f32⟩
  | .hbm, ⟨14, _⟩ => ⟨S1x18432, .f32⟩
  | .hbm, ⟨15, _⟩ => ⟨S_, .f32⟩
  | .hbm, ⟨16, _⟩ => ⟨S1x18432, .f32⟩
  | .hbm, ⟨17, _⟩ => ⟨S1x18432, .f32⟩
  | .hbm, ⟨18, _⟩ => ⟨S1x18432, .f32⟩
  | .hbm, ⟨19, _⟩ => ⟨S_, .f32⟩
  | .hbm, ⟨20, _⟩ => ⟨S1x18432, .f32⟩
  | .hbm, ⟨21, _⟩ => ⟨S1x18432, .f32⟩
  | .hbm, ⟨22, _⟩ => ⟨S_, .f32⟩
  | .hbm, ⟨23, _⟩ => ⟨S1x18432, .f32⟩
  | .hbm, ⟨24, _⟩ => ⟨S1x18432, .f32⟩
  | .hbm, ⟨25, _⟩ => ⟨S1x18432, .f32⟩
  | .hbm, ⟨26, _⟩ => ⟨S_, .f32⟩
  | .hbm, ⟨27, _⟩ => ⟨S1x18432, .f32⟩
  | .hbm, ⟨28, _⟩ => ⟨S1x18432, .f32⟩
  | .hbm, ⟨29, _⟩ => ⟨S1x18432, .f32⟩
  | .hbm, ⟨30, _⟩ => ⟨S_, .f32⟩
  | .hbm, ⟨31, _⟩ => ⟨S1x18432, .f32⟩
  | .hbm, ⟨32, _⟩ => ⟨S1x18432, .f32⟩
  | .hbm, ⟨33, _⟩ => ⟨S1x18432, .f32⟩
  | .hbm, ⟨34, _⟩ => ⟨S_, .f32⟩
  | .hbm, ⟨35, _⟩ => ⟨S1x18432, .f32⟩
  | .hbm, ⟨36, _⟩ => ⟨S1x18432, .f32⟩
  | _, _ => ⟨S1x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamVector.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c1_i32 : BitVec 32 := 1#32
  let v0 : BitVec 32 := Scalar.muli c0_i32 c1_i32
  v0
def k0_off1 : Fin 2 → Nat :=
  let c0_i32 : BitVec 32 := 0#32
  let c1_i32 : BitVec 32 := 1#32
  let v0 : BitVec 32 := Scalar.muli c0_i32 c1_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamVectorIdeal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c1_i32 : BitVec 32 := 1#32
  let v0 : BitVec 32 := Scalar.muli c0_i32 c1_i32
  v0
def k0_off1 : Fin 2 → Nat :=
  let c0_i32 : BitVec 32 := 0#32
  let c1_i32 : BitVec 32 := 1#32
  let v0 : BitVec 32 := Scalar.muli c0_i32 c1_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamVectorRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGain.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c1_i32 : BitVec 32 := 1#32
  let v0 : BitVec 32 := Scalar.muli c0_i32 c1_i32
  v0
def k0_off1 : Fin 2 → Nat :=
  let c0_i32 : BitVec 32 := 0#32
  let c1_i32 : BitVec 32 := 1#32
  let v0 : BitVec 32 := Scalar.muli c0_i32 c1_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainIdeal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c1_i32 : BitVec 32 := 1#32
  let v0 : BitVec 32 := Scalar.muli c0_i32 c1_i32
  v0
def k0_off1 : Fin 2 → Nat :=
  let c0_i32 : BitVec 32 := 0#32
  let c1_i32 : BitVec 32 := 1#32
  let v0 : BitVec 32 := Scalar.muli c0_i32 c1_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDecay.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c1_i32 : BitVec 32 := 1#32
  let v0 : BitVec 32 := Scalar.muli c0_i32 c1_i32
  v0
def k0_off1 : Fin 2 → Nat :=
  let c0_i32 : BitVec 32 := 0#32
  let c1_i32 : BitVec 32 := 1#32
  let v0 : BitVec 32 := Scalar.muli c0_i32 c1_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDecayRefIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormMod1.lean ====
abbrev S256x2048 : Shape := ⟨2, ![256, 2048]⟩
abbrev S8192x2048 : Shape := ⟨2, ![8192, 2048]⟩
abbrev S2x9x2048 : Shape := ⟨3, ![2, 9, 2048]⟩
abbrev S8448x2048 : Shape := ⟨2, ![8448, 2048]⟩
abbrev S1x9x2048 : Shape := ⟨3, ![1, 9, 2048]⟩
abbrev S256 : Shape := ⟨1, ![256]⟩
abbrev S256x1 : Shape := ⟨2, ![256, 1]⟩
abbrev S1x1x2048 : Shape := ⟨3, ![1, 1, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S8192x2048, .f32⟩
  | .hbm, ⟨2, _⟩ => ⟨S2x9x2048, .f32⟩
  | .hbm, ⟨3, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x9x2048, .f32⟩
  | .local _ .vmem, ⟨5, _⟩ => ⟨S1x9x2048, .f32⟩
  | .local _ .vmem, ⟨6, _⟩ => ⟨S256x2048, .bf16⟩
  | .local _ .vmem, ⟨7, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![33], ![false]⟩

def k0_mult1 : BitVec 32 :=
  let c0_i32_1 : BitVec 32 := 0#32
  let c256_i32_2 : BitVec 32 := 256#32
  let v3 : BitVec 32 := Scalar.muli c0_i32_1 c256_i32_2
  v3
def k0_off1 : Fin 2 → Nat :=
  let c0_i32_1 : BitVec 32 := 0#32
  let c256_i32_2 : BitVec 32 := 256#32
  let v3 : BitVec 32 := Scalar.muli c0_i32_1 c256_i32_2
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c256_i32 : BitVec 32 := 256#32
  let v1 : BitVec 32 := Scalar.muli v0 c256_i32
  let c256_i32_0 : BitVec 32 := 256#32
  let v2 : BitVec 1 := Scalar.cmpi .slt v1 c256_i32_0
  let c0_i32_1 : BitVec 32 := 0#32
  let c1_i32 : BitVec 32 := 1#32
  let v3 : BitVec 32 := Scalar.select v2 c0_i32_1 c1_i32
  let c0_i32_2 : BitVec 32 := 0#32
  let c0_i32_3 : BitVec 32 := 0#32
  let c0_i32_4 : BitVec 32 := 0#32
  ![v3.toNat, c0_i32_2.toNat, c0_i32_3.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormMod1RefIdeal.lean ====
abbrev S256x2048 : Shape := ⟨2, ![256, 2048]⟩
abbrev S8192x2048 : Shape := ⟨2, ![8192, 2048]⟩
abbrev S2x9x2048 : Shape := ⟨3, ![2, 9, 2048]⟩
abbrev S_ : Shape := ⟨0, ![]⟩
abbrev S256 : Shape := ⟨1, ![256]⟩
abbrev S256x1 : Shape := ⟨2, ![256, 1]⟩
abbrev S1x1x2048 : Shape := ⟨3, ![1, 1, 2048]⟩
abbrev S2048 : Shape := ⟨1, ![2048]⟩
abbrev S1x2048 : Shape := ⟨2, ![1, 2048]⟩
abbrev S8192 : Shape := ⟨1, ![8192]⟩
abbrev S8192x1 : Shape := ⟨2, ![8192, 1]⟩
abbrev S8448x2048 : Shape := ⟨2, ![8448, 2048]⟩

abbrev nBuf : Space → Nat
  | .hbm => 57
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S8192x2048, .f32⟩
  | .hbm, ⟨2, _⟩ => ⟨S2x9x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x1x2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S1x2048, .f32⟩
  | .hbm, ⟨22, _⟩ => ⟨S256x2048, .f32⟩
  | .hbm, ⟨23, _⟩ => ⟨S256x2048, .f32⟩
  | .hbm, ⟨24, _⟩ => ⟨S1x1x2048, .f32⟩
  | .hbm, ⟨25, _⟩ => ⟨S2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S1x1x2048, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S1x1x2048, .f32⟩
  | .hbm, ⟨51, _⟩ => ⟨S2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8448x2048, .f32⟩
  | .hbm, ⟨56, _⟩ => ⟨S8448x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== ResidNorm1.lean ====
abbrev S256x2048 : Shape := ⟨2, ![256, 2048]⟩
abbrev S8192x2048 : Shape := ⟨2, ![8192, 2048]⟩
abbrev S8448x2048 : Shape := ⟨2, ![8448, 2048]⟩
abbrev S2x9x2048 : Shape := ⟨3, ![2, 9, 2048]⟩
abbrev S1x9x2048 : Shape := ⟨3, ![1, 9, 2048]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S256x2048, .f32⟩
  | .hbm, ⟨1, _⟩ => ⟨S8192x2048, .f32⟩
  | .hbm, ⟨2, _⟩ => ⟨S8448x2048, .f32⟩
  | .hbm, ⟨3, _⟩ => ⟨S2x9x2048, .f32⟩
  | .hbm, ⟨4, _⟩ => ⟨S8448x2048, .bf16⟩
  | .hbm, ⟨5, _⟩ => ⟨S8448x2048, .f32⟩
  | .hbm, ⟨6, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S1x9x2048, .f32⟩
  | .local _ .vmem, ⟨7, _⟩ => ⟨S1x9x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![33], ![false]⟩

def k0_mult1 : BitVec 32 :=
  let c0_i32_1 : BitVec 32 := 0#32
  let c256_i32_2 : BitVec 32 := 256#32
  let v3 : BitVec 32 := Scalar.muli c0_i32_1 c256_i32_2
  v3
def k0_off1 : Fin 2 → Nat :=
  let c0_i32_1 : BitVec 32 := 0#32
  let c256_i32_2 : BitVec 32 := 256#32
  let v3 : BitVec 32 := Scalar.muli c0_i32_1 c256_i32_2
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c256_i32 : BitVec 32 := 256#32
  let v1 : BitVec 32 := Scalar.muli v0 c256_i32
  let c256_i32_0 : BitVec 32 := 256#32
  let v2 : BitVec 1 := Scalar.cmpi .slt v1 c256_i32_0
  let c0_i32_1 : BitVec 32 := 0#32
  let c1_i32 : BitVec 32 := 1#32
  let v3 : BitVec 32 := Scalar.select v2 c0_i32_1 c1_i32
  let c0_i32_2 : BitVec 32 := 0#32
  let c0_i32_3 : BitVec 32 := 0#32
  let c0_i32_4 : BitVec 32 := 0#32
  ![v3.toNat, c0_i32_2.toNat, c0_i32_3.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidNorm1RefIdeal.lean ====
abbrev S256x2048 : Shape := ⟨2, ![256, 2048]⟩
abbrev S8192x2048 : Shape := ⟨2, ![8192, 2048]⟩
abbrev S8448x2048 : Shape := ⟨2, ![8448, 2048]⟩
abbrev S2x9x2048 : Shape := ⟨3, ![2, 9, 2048]⟩
abbrev S1x1x2048 : Shape := ⟨3, ![1, 1, 2048]⟩
abbrev S2048 : Shape := ⟨1, ![2048]⟩
abbrev S_ : Shape := ⟨0, ![]⟩
abbrev S1x2048 : Shape := ⟨2, ![1, 2048]⟩
abbrev S256 : Shape := ⟨1, ![256]⟩
abbrev S256x1 : Shape := ⟨2, ![256, 1]⟩
abbrev S8192 : Shape := ⟨1, ![8192]⟩
abbrev S8192x1 : Shape := ⟨2, ![8192, 1]⟩

abbrev nBuf : Space → Nat
  | .hbm => 79
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S8192x2048, .f32⟩
  | .hbm, ⟨2, _⟩ => ⟨S8448x2048, .f32⟩
  | .hbm, ⟨3, _⟩ => ⟨S2x9x2048, .f32⟩
  | .hbm, ⟨4, _⟩ => ⟨S1x1x2048, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S256x2048, .f32⟩
  | .hbm, ⟨10, _⟩ => ⟨S1x2048, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S1x1x2048, .f32⟩
  | .hbm, ⟨15, _⟩ => ⟨S2048, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S256x2048, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S_, .f32⟩
  | .hbm, ⟨29, _⟩ => ⟨S256x1, .f32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S256x1, .f32⟩
  | .hbm, ⟨35, _⟩ => ⟨S256x2048, .f32⟩
  | .hbm, ⟨36, _⟩ => ⟨S256x2048, .f32⟩
  | .hbm, ⟨37, _⟩ => ⟨S1x1x2048, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S1x2048, .f32⟩
  | .hbm, ⟨43, _⟩ => ⟨S256x2048, .f32⟩
  | .hbm, ⟨44, _⟩ => ⟨S256x2048, .f32⟩
  | .hbm, ⟨45, _⟩ => ⟨S1x1x2048, .f32⟩
  | .hbm, ⟨46, _⟩ => ⟨S2048, .f32⟩
  | .hbm, ⟨47, _⟩ => ⟨S1x2048, .f32⟩
  | .hbm, ⟨48, _⟩ => ⟨S256x2048, .f32⟩
  | .hbm, ⟨49, _⟩ => ⟨S256x2048, .f32⟩
  | .hbm, ⟨50, _⟩ => ⟨S8192x2048, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x2048, .f32⟩
  | .hbm, ⟨62, _⟩ => ⟨S8192x2048, .f32⟩
  | .hbm, ⟨63, _⟩ => ⟨S1x1x2048, .f32⟩
  | .hbm, ⟨64, _⟩ => ⟨S2048, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S1x2048, .f32⟩
  | .hbm, ⟨69, _⟩ => ⟨S8192x2048, .f32⟩
  | .hbm, ⟨70, _⟩ => ⟨S8192x2048, .f32⟩
  | .hbm, ⟨71, _⟩ => ⟨S1x1x2048, .f32⟩
  | .hbm, ⟨72, _⟩ => ⟨S2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S8448x2048, .f32⟩
  | .hbm, ⟨77, _⟩ => ⟨S8448x2048, .f32⟩
  | .hbm, ⟨78, _⟩ => ⟨S8448x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== ResidNorm2.lean ====
abbrev S8448x2048 : Shape := ⟨2, ![8448, 2048]⟩
abbrev S8192x2048 : Shape := ⟨2, ![8192, 2048]⟩
abbrev S2x9x2048 : Shape := ⟨3, ![2, 9, 2048]⟩
abbrev S256x2048 : Shape := ⟨2, ![256, 2048]⟩
abbrev S1x9x2048 : Shape := ⟨3, ![1, 9, 2048]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S8192x2048, .f32⟩
  | .hbm, ⟨2, _⟩ => ⟨S2x9x2048, .f32⟩
  | .hbm, ⟨3, _⟩ => ⟨S8192x2048, .bf16⟩
  | .hbm, ⟨4, _⟩ => ⟨S8192x2048, .f32⟩
  | .hbm, ⟨5, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x9x2048, .f32⟩
  | .local _ .vmem, ⟨5, _⟩ => ⟨S1x9x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c256_i32 : BitVec 32 := 256#32
  let v0 : BitVec 32 := Scalar.muli c0_i32 c256_i32
  v0
def k0_off1 : Fin 2 → Nat :=
  let c0_i32 : BitVec 32 := 0#32
  let c256_i32 : BitVec 32 := 256#32
  let v0 : BitVec 32 := Scalar.muli c0_i32 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c256_i32_0 : BitVec 32 := 256#32
  let v2 : BitVec 1 := Scalar.cmpi .slt v1 c256_i32_0
  let c0_i32 : BitVec 32 := 0#32
  let c1_i32_1 : BitVec 32 := 1#32
  let v3 : BitVec 32 := Scalar.select v2 c0_i32 c1_i32_1
  let c0_i32_2 : BitVec 32 := 0#32
  let c0_i32_3 : BitVec 32 := 0#32
  let c0_i32_4 : BitVec 32 := 0#32
  ![v3.toNat, c0_i32_2.toNat, c0_i32_3.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResidNorm2RefIdeal.lean ====
abbrev S8448x2048 : Shape := ⟨2, ![8448, 2048]⟩
abbrev S8192x2048 : Shape := ⟨2, ![8192, 2048]⟩
abbrev S2x9x2048 : Shape := ⟨3, ![2, 9, 2048]⟩
abbrev S1x1x2048 : Shape := ⟨3, ![1, 1, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 37
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8192x2048, .f32⟩
  | .hbm, ⟨2, _⟩ => ⟨S2x9x2048, .f32⟩
  | .hbm, ⟨3, _⟩ => ⟨S8192x2048, .f32⟩
  | .hbm, ⟨4, _⟩ => ⟨S1x1x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x1x2048, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S1x1x2048, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== MixInGab.lean ====
abbrev S8448x2048 : Shape := ⟨2, ![8448, 2048]⟩
abbrev S2048x9728 : Shape := ⟨2, ![2048, 9728]⟩
abbrev S8448x4096 : Shape := ⟨2, ![8448, 4096]⟩
abbrev S768x2048 : Shape := ⟨2, ![768, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x2048, .bf16⟩
  | .hbm, ⟨3, _⟩ => ⟨S2048x9728, .bf16⟩
  | .hbm, ⟨4, _⟩ => ⟨S8448x4096, .bf16⟩
  | .local _ .vmem, ⟨0, _⟩ => ⟨S768x2048, .bf16⟩
  | .local _ .vmem, ⟨1, _⟩ => ⟨S768x2048, .bf16⟩
  | .local _ .vmem, ⟨2, _⟩ => ⟨S2048x2048, .bf16⟩
  | .local _ .vmem, ⟨3, _⟩ => ⟨S2048x2048, .bf16⟩
  | .local _ .vmem, ⟨4, _⟩ => ⟨S768x2048, .bf16⟩
  | .local _ .vmem, ⟨5, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  v0
def k0_mult2 (i : grid0.Coords) : BitVec 32 :=
  let c5632_i32 : BitVec 32 := 5632#32
  let arg1 : BitVec 32 := BitVec.ofNat 32 (i 1).val
  let c2048_i32_0 : BitVec 32 := 2048#32
  let v2 : BitVec 32 := Scalar.muli arg1 c2048_i32_0
  let v3 : BitVec 32 := Scalar.addi c5632_i32 v2
  v3
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg2 c2048_i32
  let v1 : BitVec 32 := v0
  let c2048_i32_0 : BitVec 32 := 2048#32
  let v2 : BitVec 32 := Scalar.muli arg1 c2048_i32_0
  let c5632_i32 : BitVec 32 := 5632#32
  let v3 : BitVec 32 := Scalar.addi c5632_i32 v2
  let v4 : BitVec 32 := v3
  let c0_i32 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInGabRefIdeal.lean ====
abbrev S8448x2048 : Shape := ⟨2, ![8448, 2048]⟩
abbrev S2048x9728 : Shape := ⟨2, ![2048, 9728]⟩
abbrev S8448x9728 : Shape := ⟨2, ![8448, 9728]⟩
abbrev S8448x4096 : Shape := ⟨2, ![8448, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x9728, .f32⟩
  | .hbm, ⟨2, _⟩ => ⟨S8448x9728, .f32⟩
  | .hbm, ⟨3, _⟩ => ⟨S8448x4096, .f32⟩
  | .hbm, ⟨4, _⟩ => ⟨S8448x4096, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FlashFwd.lean ====
abbrev S8192x1024 : Shape := ⟨2, ![8192, 1024]⟩
abbrev S8448x256 : Shape := ⟨2, ![8448, 256]⟩
abbrev S_ : Shape := ⟨0, ![]⟩
abbrev S8448x2x128 : Shape := ⟨3, ![8448, 2, 128]⟩
abbrev S8448x2x256 : Shape := ⟨3, ![8448, 2, 256]⟩
abbrev S8448x512 : Shape := ⟨2, ![8448, 512]⟩
abbrev S1024x512 : Shape := ⟨2, ![1024, 512]⟩
abbrev S1408x128 : Shape := ⟨2, ![1408, 128]⟩
abbrev S1408x256 : Shape := ⟨2, ![1408, 256]⟩
abbrev S4x1024x128 : Shape := ⟨3, ![4, 1024, 128]⟩
abbrev S1024x128 : Shape := ⟨2, ![1024, 128]⟩
abbrev S1024x1408 : Shape := ⟨2, ![1024, 1408]⟩
abbrev S1x1024x128 : Shape := ⟨3, ![1, 1024, 128]⟩
abbrev S1024 : Shape := ⟨1, ![1024]⟩
abbrev S1024x1 : Shape := ⟨2, ![1024, 1]⟩
abbrev S1024x256 : Shape := ⟨2, ![1024, 256]⟩

abbrev nBuf : Space → Nat
  | .hbm => 21
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8448x2x128, .f32⟩
  | .hbm, ⟨13, _⟩ => ⟨S_, .f32⟩
  | .hbm, ⟨14, _⟩ => ⟨S8448x2x128, .f32⟩
  | .hbm, ⟨15, _⟩ => ⟨S8448x2x256, .f32⟩
  | .hbm, ⟨16, _⟩ => ⟨S8448x512, .f32⟩
  | .hbm, ⟨17, _⟩ => ⟨S8448x512, .bf16⟩
  | .hbm, ⟨18, _⟩ => ⟨S8448x256, .bf16⟩
  | .hbm, ⟨19, _⟩ => ⟨S8192x1024, .bf16⟩
  | .hbm, ⟨20, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1408x128, .bf16⟩
  | .local _ .vmem, ⟨3, _⟩ => ⟨S1408x128, .bf16⟩
  | .local _ .vmem, ⟨4, _⟩ => ⟨S1408x256, .bf16⟩
  | .local _ .vmem, ⟨5, _⟩ => ⟨S1408x256, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S4x1024x128, .f32⟩
  | .local _ .vmem, ⟨11, _⟩ => ⟨S4x1024x128, .f32⟩
  | .local _ .vmem, ⟨12, _⟩ => ⟨S4x1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 6], ![false, false, false]⟩

def k0_cond2 (i : grid0.Coords) : BitVec 1 :=
  let arg2 : BitVec 32 := BitVec.ofNat 32 (i 2).val
  let c5_i32 : BitVec 32 := 5#32
  let v355 : BitVec 1 := Scalar.cmpi .eq arg2 c5_i32
  let v356 : BitVec 32 := Scalar.extui v355
  let c0_i32_89 : BitVec 32 := 0#32
  let v357 : BitVec 1 := Scalar.cmpi .ne v356 c0_i32_89
  v357

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1408x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FlashFwdIdeal.lean ====
variable {F : FTy → Type} [FloatOps F] [Named F]
def κ : String → Option EReal := fun
  | "log2" => some (((Real.log 2)⁻¹ : ℝ) : EReal)
  | _ => none
-- ==== FlashFwdRefIdeal.lean ====
abbrev S8192x1024 : Shape := ⟨2, ![8192, 1024]⟩
abbrev S8448x256 : Shape := ⟨2, ![8448, 256]⟩
abbrev S_ : Shape := ⟨0, ![]⟩
abbrev S8192x2x4x128 : Shape := ⟨4, ![8192, 2, 4, 128]⟩
abbrev S8448x2x128 : Shape := ⟨3, ![8448, 2, 128]⟩
abbrev S2x8448x8192x4 : Shape := ⟨4, ![2, 8448, 8192, 4]⟩
abbrev S2x4x8192x8448 : Shape := ⟨4, ![2, 4, 8192, 8448]⟩
abbrev S2x4x8192 : Shape := ⟨3, ![2, 4, 8192]⟩
abbrev S8192x2x4 : Shape := ⟨3, ![8192, 2, 4]⟩
abbrev S8192x2x4x1 : Shape := ⟨4, ![8192, 2, 4, 1]⟩
abbrev S2x4x8192x1 : Shape := ⟨4, ![2, 4, 8192, 1]⟩
abbrev S2x128x4x8192 : Shape := ⟨4, ![2, 128, 4, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x2x4x128, .f32⟩
  | .hbm, ⟨7, _⟩ => ⟨S8448x2x128, .f32⟩
  | .hbm, ⟨8, _⟩ => ⟨S2x8448x8192x4, .f32⟩
  | .hbm, ⟨9, _⟩ => ⟨S2x4x8192x8448, .f32⟩
  | .hbm, ⟨10, _⟩ => ⟨S2x4x8192x8448, .f32⟩
  | .hbm, ⟨11, _⟩ => ⟨S_, .f32⟩
  | .hbm, ⟨12, _⟩ => ⟨S2x4x8192, .f32⟩
  | .hbm, ⟨13, _⟩ => ⟨S2x4x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2x4x8192, .f32⟩
  | .hbm, ⟨18, _⟩ => ⟨S2x4x8192, .f32⟩
  | .hbm, ⟨19, _⟩ => ⟨S8192x2x4, .f32⟩
  | .hbm, ⟨20, _⟩ => ⟨S8192x2x4x1, .f32⟩
  | .hbm, ⟨21, _⟩ => ⟨S8192x2x4x128, .f32⟩
  | .hbm, ⟨22, _⟩ => ⟨S8192x1024, .f32⟩
  | .hbm, ⟨23, _⟩ => ⟨S8192x2x4x128, .f32⟩
  | .hbm, ⟨24, _⟩ => ⟨S8448x2x128, .f32⟩
  | .hbm, ⟨25, _⟩ => ⟨S8448x2x128, .f32⟩
  | .hbm, ⟨26, _⟩ => ⟨S2x8448x8192x4, .f32⟩
  | .hbm, ⟨27, _⟩ => ⟨S2x4x8192x8448, .f32⟩
  | .hbm, ⟨28, _⟩ => ⟨S_, .f32⟩
  | .hbm, ⟨29, _⟩ => ⟨S2x4x8192, .f32⟩
  | .hbm, ⟨30, _⟩ => ⟨S_, .f32⟩
  | .hbm, ⟨31, _⟩ => ⟨S2x4x8192, .f32⟩
  | .hbm, ⟨32, _⟩ => ⟨S2x4x8192, .f32⟩
  | .hbm, ⟨33, _⟩ => ⟨S2x4x8192x1, .f32⟩
  | .hbm, ⟨34, _⟩ => ⟨S2x4x8192x8448, .f32⟩
  | .hbm, ⟨35, _⟩ => ⟨S2x4x8192x8448, .f32⟩
  | .hbm, ⟨36, _⟩ => ⟨S2x4x8192x8448, .f32⟩
  | .hbm, ⟨37, _⟩ => ⟨S_, .f32⟩
  | .hbm, ⟨38, _⟩ => ⟨S2x4x8192, .f32⟩
  | .hbm, ⟨39, _⟩ => ⟨S2x4x8192x1, .f32⟩
  | .hbm, ⟨40, _⟩ => ⟨S2x4x8192x8448, .f32⟩
  | .hbm, ⟨41, _⟩ => ⟨S2x4x8192x8448, .f32⟩
  | .hbm, ⟨42, _⟩ => ⟨S2x128x4x8192, .f32⟩
  | .hbm, ⟨43, _⟩ => ⟨S8192x2x4x128, .f32⟩
  | .hbm, ⟨44, _⟩ => ⟨S8192x1024, .f32⟩
  | .hbm, ⟨45, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.Body.lean ====
/- The body of the backward pass's kernel at one grid point, as a triple: what it leaves in the three accumulators and in the
   three output blocks, as functions of the six input blocks and of what the accumulators held. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One tile's arithmetic -/

theorem lane_inb (g : Fin 4) : ∀ a, (![0, 128 * g.val] : Fin 2 → ℕ) a + S1024x128.size a ≤ S1024x512.size a := by
  revert g; decide

/-- Query head `g` of a `[1024, 512]` block: columns `128 g … 128 g + 127`. -/
abbrev lane (g : Fin 4) {e : EltTy} (x : Vec F S1024x512 e) : Vec F S1024x128 e :=
  View.ld x (Rect.unit (s := S1024x512) ![0, 128 * g.val] S1024x128.size (lane_inb g))

/-- The value columns of a `[768, 256]` block (the others hold ones). -/
abbrev vcols (x : Vec F S768x256 .bf16) : Vec F S768x128 .bf16 :=
  View.ld x (Rect.unit (s := S768x256) ![0, 0] S768x128.size inb_S768x256_S768x128_0_0)

/-- The gradient of the scores of one head over one tile. -/
def dsT (q : Vec F S1024x128 .bf16) (k v : Vec F S768x128 .bf16) (o dO : Vec F S1024x128 .bf16) (l : Vec F S1024x128 .f32) : FVec F S1024x768 .bf16 :=
  k0_pay34 (k0_pay15 l) (k0_pay16 dO o) (k0_pay18 k q) (k0_pay19 k q) (k0_pay20 k q) (k0_pay21 k q) (k0_pay22 k q) (k0_pay23 k q)
    (k0_pay24 v dO) (k0_pay25 v dO) (k0_pay26 v dO) (k0_pay27 v dO)

/-- One head's tile added to the values' gradient. -/
def dvT (q : Vec F S1024x128 .bf16) (k : Vec F S768x128 .bf16) (dO : Vec F S1024x128 .bf16) (l : Vec F S1024x128 .f32) (z : Vec F S768x128 .f32) : FVec F S768x128 .f32 :=
  k0_pay35 (k0_pay14 dO) (k0_pay15 l) (k0_pay18 k q) (k0_pay19 k q) (k0_pay20 k q) (k0_pay21 k q) (k0_pay22 k q) (k0_pay23 k q) z

/-- One head's tile added to the keys' gradient. -/
def dkT (q : Vec F S1024x128 .bf16) (k v : Vec F S768x128 .bf16) (o dO : Vec F S1024x128 .bf16) (l : Vec F S1024x128 .f32) (y : Vec F S768x128 .f32) : FVec F S768x128 .f32 :=
  k0_pay37 (k0_pay36 (k0_pay13 q) (k0_pay15 l) (k0_pay16 dO o) (k0_pay18 k q) (k0_pay19 k q) (k0_pay20 k q) (k0_pay21 k q)
    (k0_pay22 k q) (k0_pay23 k q) (k0_pay24 v dO) (k0_pay25 v dO) (k0_pay26 v dO) (k0_pay27 v dO) y)

/-- One head's tile added to the queries' gradient. -/
def dqT (q : Vec F S1024x128 .bf16) (k v : Vec F S768x128 .bf16) (o dO : Vec F S1024x128 .bf16) (l : Vec F S1024x128 .f32) (x : Vec F S1x1x1024x128 .f32) : FVec F S1x1x1024x128 .f32 :=
  k0_pay38 (k0_pay11 k) (dsT q k v o dO l) x

/-! ## The four heads in turn -/

/-- The values' gradient after the four heads of the tile. -/
def dvS (x3 : Vec F S1024x512 .bf16) (x4 : Vec F S768x128 .bf16) (x7 : Vec F S1024x512 .bf16) (x8 : Vec F S1024x512 .f32)
    (z : Vec F S768x128 .f32) : Vec F S768x128 .f32 :=
  dvT (lane 3 x3) x4 (lane 3 x7) (lane 3 x8) (dvT (lane 2 x3) x4 (lane 2 x7) (lane 2 x8)
    (dvT (lane 1 x3) x4 (lane 1 x7) (lane 1 x8) (dvT (lane 0 x3) x4 (lane 0 x7) (lane 0 x8) z)))

/-- The keys' gradient after the four heads of the tile. -/
def dkS (x3 : Vec F S1024x512 .bf16) (x4 : Vec F S768x128 .bf16) (x5 : Vec F S768x256 .bf16) (x6 x7 : Vec F S1024x512 .bf16)
    (x8 : Vec F S1024x512 .f32) (y : Vec F S768x128 .f32) : Vec F S768x128 .f32 :=
  dkT (lane 3 x3) x4 (vcols x5) (lane 3 x6) (lane 3 x7) (lane 3 x8) (dkT (lane 2 x3) x4 (vcols x5) (lane 2 x6) (lane 2 x7) (lane 2 x8)
    (dkT (lane 1 x3) x4 (vcols x5) (lane 1 x6) (lane 1 x7) (lane 1 x8) (dkT (lane 0 x3) x4 (vcols x5) (lane 0 x6) (lane 0 x7) (lane 0 x8) y)))

/-- The queries' gradient of head `g` after the tile. -/
def dqS (x3 : Vec F S1024x512 .bf16) (x4 : Vec F S768x128 .bf16) (x5 : Vec F S768x256 .bf16) (x6 x7 : Vec F S1024x512 .bf16)
    (x8 : Vec F S1024x512 .f32) (x : Fin 4 → Vec F S1x1x1024x128 .f32) (g : Fin 4) : Vec F S1x1x1024x128 .f32 :=
  dqT (lane g x3) x4 (vcols x5) (lane g x6) (lane g x7) (lane g x8) (x g)

/-! ## The accumulator of the queries' gradient: eight slots of four heads -/

theorem slot_inb (s : Fin 8) (g : Fin 4) :
    ∀ a, (![s.val, g.val, 0, 0] : Fin 4 → ℕ) a + S1x1x1024x128.size a ≤ S8x4x1024x128.size a := by
  revert s g; decide

/-- Slot `s`, head `g`. -/
abbrev slotR (s : Fin 8) (g : Fin 4) : Rect S8x4x1024x128 :=
  Rect.unit (s := S8x4x1024x128) ![s.val, g.val, 0, 0] S1x1x1024x128.size (slot_inb s g)

/-- What slot `s` holds of head `g`. -/
abbrev slot (X : Vec F S8x4x1024x128 .f32) (s : Fin 8) (g : Fin 4) : Vec F S1x1x1024x128 .f32 := View.ld X (slotR s g)

theorem head_inb (g : Fin 4) :
    ∀ a, (![0, g.val, 0, 0] : Fin 4 → ℕ) a + S1x1x1024x128.size a ≤ S1x4x1024x128.size a := by
  revert g; decide

/-- One head of a zeroed slot. -/
def zeroQ (g : Fin 4) : Vec F S1x1x1024x128 .f32 :=
  View.ld (k0_pay10 (F := F)) (Rect.unit (s := S1x4x1024x128) ![0, g.val, 0, 0] S1x1x1024x128.size (head_inb g))

/-- The block of the queries' gradient the last key tile writes. -/
def dqOut (x : Fin 4 → Vec F S1x1x1024x128 .f32) : Vec F S1024x512 .f32 :=
  View.canon [⟨Rect.unit (s := S1024x512) ![0, 384] S1024x128.size inb_S1024x512_S1024x128_0_384, k0_pay7 (x 3)⟩,
    ⟨Rect.unit (s := S1024x512) ![0, 256] S1024x128.size inb_S1024x512_S1024x128_0_256, k0_pay6 (x 2)⟩,
    ⟨Rect.unit (s := S1024x512) ![0, 128] S1024x128.size inb_S1024x512_S1024x128_0_128, k0_pay5 (x 1)⟩,
    ⟨Rect.unit (s := S1024x512) ![0, 0] S1024x128.size inb_S1024x512_S1024x128_0_0, k0_pay4 (x 0)⟩]

/-- The first condition, as the kernel computes it: the first query tile. -/
def cond1 (i : grid0.Coords) : BitVec 1 :=
  Scalar.cmpi .ne (Scalar.extui (Scalar.cmpi .eq (BitVec.ofNat 32 (i 2).val) 0#32) : BitVec 32) 0#32

/-- A point's query tile. -/
abbrev slotOf (i : grid0.Coords) : Fin 8 := i 2

/-! ## Reading after writing -/

section Reads
variable {κ : Kind} {sp : Space}

theorem idx_full {m n : ℕ} (h : ∀ a, (![0, 0] : Fin 2 → ℕ) a + (⟨2, ![m, n]⟩ : Shape).size a ≤ (⟨2, ![m, n]⟩ : Shape).size a)
    (x : (⟨2, ![m, n]⟩ : Shape).Idx) : (Rect.unit (s := ⟨2, ![m, n]⟩) ![0, 0] (⟨2, ![m, n]⟩ : Shape).size h).idx x = x := by
  funext a; apply Fin.ext
  fin_cases a <;> simp [LoadRect.idx, Rect.unit]

/-- A load of the whole block reads the block. -/
theorem ld_full {m n : ℕ} {e : EltTy} (h : ∀ a, (![0, 0] : Fin 2 → ℕ) a + (⟨2, ![m, n]⟩ : Shape).size a ≤ (⟨2, ![m, n]⟩ : Shape).size a)
    (X : (⟨2, ![m, n]⟩ : Shape).Idx → Elt F e) : View.ld X (Rect.unit (s := ⟨2, ![m, n]⟩) ![0, 0] (⟨2, ![m, n]⟩ : Shape).size h) = X :=
  funext fun x => congrArg X (idx_full h x)

/-- A store of the whole block leaves its payload. -/
theorem read_writes_full {m n : ℕ} {e : EltTy} (v : View sig κ sp ⟨2, ![m, n]⟩ e) (f : v.ty.Contents (Elt F))
    (h : ∀ a, (![0, 0] : Fin 2 → ℕ) a + (⟨2, ![m, n]⟩ : Shape).size a ≤ (⟨2, ![m, n]⟩ : Shape).size a)
    (w : (⟨2, ![m, n]⟩ : Shape).Idx → Elt F e) (L : List (View.Piece (Elt F) ⟨2, ![m, n]⟩ e)) :
    v.read (Elt F) (v.writes (Elt F) f (⟨Rect.unit (s := ⟨2, ![m, n]⟩) ![0, 0] (⟨2, ![m, n]⟩ : Shape).size h, w⟩ :: L)) = w :=
  funext fun y => View.read_writes_cons_hit (Val := Elt F) v f (Rect.unit (s := ⟨2, ![m, n]⟩) ![0, 0] (⟨2, ![m, n]⟩ : Shape).size h) w L y y (idx_full h y)

end Reads

/-! ## The run -/

set_option maxHeartbeats 4000000 in
/-- What the body leaves in the output blocks and the accumulators, as the stores it makes, with the proof that it does. -/
noncomputable def raw (c : Dev nD) (i : grid0.Coords) (arg3 : Memref sig .tc .vmem S1024x512 .bf16) (harg3 : arg3.IsWhole) (arg4 : Memref sig .tc .vmem S768x128 .bf16) (harg4 : arg4.IsWhole) (arg5 : Memref sig .tc .vmem S768x256 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S8x4x1024x128 .f32) (harg12 : arg12.IsWhole) (arg13 : Memref sig .tc .vmem S768x128 .f32) (harg13 : arg13.IsWhole) (arg14 : Memref sig .tc .vmem S768x128 .f32) (harg14 : arg14.IsWhole)
    (x3 : Vec F S1024x512 .bf16) (x4 : Vec F S768x128 .bf16) (x5 : Vec F S768x256 .bf16) (x6 : Vec F S1024x512 .bf16) (x7 : Vec F S1024x512 .bf16) (x8 : Vec F S1024x512 .f32) (x9 : Vec F S1024x512 .f32) (x10 : Vec F S768x128 .f32) (x11 : Vec F S768x128 .f32) (x12 : Vec F S8x4x1024x128 .f32) (x13 : Vec F S768x128 .f32) (x14 : Vec F S768x128 .f32) :
    Σ' (g9 : Buf (Elt F) (arg9.view.loc (c : Thread nD τ))) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))), { g14 : Buf (Elt F) (arg14.view.loc (c : Thread nD τ)) //
      ∀ (E : Set ℕ) (K : PUnit → sProp 𝕄),
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14)) -∗ K ⟨⟩))
      ⊢ wp frame (wpE (defs₀ (F := F)) Variants.none c none) E (cc0_flash_bwd i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_flash_bwd_eq_skeleton]; unfold cc0_flash_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]; · iexact H11
    isplitl [H12]; · iexact H12
    isplitl [H13]; · iexact H13
    iexact H14

end Cert.KernelIdeal.Hand

end
-- ==== Proof.BodyFacts.lean ====
/- What the stores of one grid point leave, in closed form, and the body's triple. -/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The slots under writes -/

theorem word_val : ∀ n : Fin 8, (Scalar.indexCast (BitVec.ofNat 32 n.val) : Index).toNat = n.val := by decide

theorem off1_eq (i : grid0.Coords) : k0_off1 i = ![(slotOf i).val, 0, 0, 0] := by
  unfold k0_off1; dsimp only; rw [word_val (i 2)]
theorem off2_eq (i : grid0.Coords) : k0_off2 i = ![(slotOf i).val, (0 : Fin 4).val, 0, 0] := by
  unfold k0_off2; dsimp only; rw [word_val (i 2)]; rfl
theorem off3_eq (i : grid0.Coords) : k0_off3 i = ![(slotOf i).val, (1 : Fin 4).val, 0, 0] := by
  unfold k0_off3; dsimp only; rw [word_val (i 2)]; rfl
theorem off4_eq (i : grid0.Coords) : k0_off4 i = ![(slotOf i).val, (2 : Fin 4).val, 0, 0] := by
  unfold k0_off4; dsimp only; rw [word_val (i 2)]; rfl
theorem off5_eq (i : grid0.Coords) : k0_off5 i = ![(slotOf i).val, (3 : Fin 4).val, 0, 0] := by
  unfold k0_off5; dsimp only; rw [word_val (i 2)]; rfl
theorem off6_eq (i : grid0.Coords) : k0_off6 i = ![(slotOf i).val, (0 : Fin 4).val, 0, 0] := by
  unfold k0_off6; dsimp only; rw [word_val (i 2)]; rfl
theorem off7_eq (i : grid0.Coords) : k0_off7 i = ![(slotOf i).val, (1 : Fin 4).val, 0, 0] := by
  unfold k0_off7; dsimp only; rw [word_val (i 2)]; rfl
theorem off8_eq (i : grid0.Coords) : k0_off8 i = ![(slotOf i).val, (2 : Fin 4).val, 0, 0] := by
  unfold k0_off8; dsimp only; rw [word_val (i 2)]; rfl
theorem off9_eq (i : grid0.Coords) : k0_off9 i = ![(slotOf i).val, (3 : Fin 4).val, 0, 0] := by
  unfold k0_off9; dsimp only; rw [word_val (i 2)]; rfl

section Slots
variable {κ : Kind} {sp : Space} (v : View sig κ sp S8x4x1024x128 .f32) (f : v.ty.Contents (Elt F))

/-- A load at a slot's offsets reads the slot. -/
theorem ld_slot (X : Vec F S8x4x1024x128 .f32) {off : Fin 4 → ℕ} (s : Fin 8) (g : Fin 4) (h : off = ![s.val, g.val, 0, 0])
    (inb : ∀ a, off a + S1x1x1024x128.size a ≤ S8x4x1024x128.size a) :
    View.ld X (Rect.unit (s := S8x4x1024x128) off S1x1x1024x128.size inb) = slot X s g := by
  subst h; rfl

/-- A slot just stored holds the payload; -/
theorem slot_hit {off : Fin 4 → ℕ} (s : Fin 8) (g : Fin 4) (h : off = ![s.val, g.val, 0, 0])
    (inb : ∀ a, off a + S1x1x1024x128.size a ≤ S8x4x1024x128.size a) (w : Vec F S1x1x1024x128 .f32)
    (L : List (View.Piece (Elt F) S8x4x1024x128 .f32)) :
    slot (v.read (Elt F) (v.writes (Elt F) f (⟨Rect.unit (s := S8x4x1024x128) off S1x1x1024x128.size inb, w⟩ :: L))) s g = w := by
  subst h
  exact funext fun j => View.read_writes_cons_hit (Val := Elt F) v f (slotR s g) w L j _ rfl

/-- another slot, or another head, keeps what it held. -/
theorem slot_miss {off : Fin 4 → ℕ} (s s' : Fin 8) (g g' : Fin 4) (h : off = ![s'.val, g'.val, 0, 0]) (hne : s ≠ s' ∨ g ≠ g')
    (inb : ∀ a, off a + S1x1x1024x128.size a ≤ S8x4x1024x128.size a) (w : Vec F S1x1x1024x128 .f32)
    (L : List (View.Piece (Elt F) S8x4x1024x128 .f32)) :
    slot (v.read (Elt F) (v.writes (Elt F) f (⟨Rect.unit (s := S8x4x1024x128) off S1x1x1024x128.size inb, w⟩ :: L))) s g
      = slot (v.read (Elt F) (v.writes (Elt F) f L)) s g := by
  subst h
  funext j
  rcases hne with hne | hne
  · refine View.read_writes_cons_miss_of_axis (Val := Elt F) v f _ L _ 0 s'.val 1 rfl rfl rfl ?_
    have hj : (j 0).val < 1 := (j 0).isLt
    have : s.val ≠ s'.val := fun h => hne (Fin.ext h)
    show s.val + 1 * (j 0).val < _ ∨ _ ≤ s.val + 1 * (j 0).val
    omega
  · refine View.read_writes_cons_miss_of_axis (Val := Elt F) v f _ L _ 1 g'.val 1 rfl rfl rfl ?_
    have hj : (j 1).val < 1 := (j 1).isLt
    have : g.val ≠ g'.val := fun h => hne (Fin.ext h)
    show g.val + 1 * (j 1).val < _ ∨ _ ≤ g.val + 1 * (j 1).val
    omega

theorem head_off (s g : ℕ) (a : Fin 4) : (![s, 0, 0, 0] : Fin 4 → ℕ) a + (![0, g, 0, 0] : Fin 4 → ℕ) a = (![s, g, 0, 0] : Fin 4 → ℕ) a := by
  fin_cases a <;> simp

theorem head_idx (s : Fin 8) (g : Fin 4) (inb : ∀ a, (![s.val, 0, 0, 0] : Fin 4 → ℕ) a + S1x4x1024x128.size a ≤ S8x4x1024x128.size a)
    (j : S1x1x1024x128.Idx) : (Rect.unit (s := S8x4x1024x128) ![s.val, 0, 0, 0] S1x4x1024x128.size inb).idx
      ((Rect.unit (s := S1x4x1024x128) ![0, g.val, 0, 0] S1x1x1024x128.size (head_inb g)).idx j) = (slotR s g).idx j := by
  refine funext fun a => Fin.ext ?_
  show (![s.val, 0, 0, 0] : Fin 4 → ℕ) a + 1 * ((![0, g.val, 0, 0] : Fin 4 → ℕ) a + 1 * (j a).val) = (![s.val, g.val, 0, 0] : Fin 4 → ℕ) a + 1 * (j a).val
  rw [← head_off s.val g.val a, one_mul, one_mul, Nat.add_assoc]

theorem read_hit (r : Rect S8x4x1024x128) (w : r.shape.Idx → Elt F .f32) (L : List (View.Piece (Elt F) S8x4x1024x128 .f32)) (x : r.shape.Idx)
    (y : S8x4x1024x128.Idx) (h : r.idx x = y) : v.read (Elt F) (v.writes (Elt F) f (⟨r, w⟩ :: L)) y = w x :=
  View.read_writes_cons_hit (Val := Elt F) v f r w L x y h

/-- A whole slot just stored holds the payload's heads; -/
theorem slot_hit4 {off : Fin 4 → ℕ} (s : Fin 8) (g : Fin 4) (h : off = ![s.val, 0, 0, 0])
    (inb : ∀ a, off a + S1x4x1024x128.size a ≤ S8x4x1024x128.size a) (w : Vec F S1x4x1024x128 .f32)
    (L : List (View.Piece (Elt F) S8x4x1024x128 .f32)) :
    slot (v.read (Elt F) (v.writes (Elt F) f (⟨Rect.unit (s := S8x4x1024x128) off S1x4x1024x128.size inb, w⟩ :: L))) s g
      = View.ld w (Rect.unit (s := S1x4x1024x128) ![0, g.val, 0, 0] S1x1x1024x128.size (head_inb g)) := by
  subst h
  funext j
  have e := read_hit v f (Rect.unit (s := S8x4x1024x128) ![s.val, 0, 0, 0] S1x4x1024x128.size inb) w L
    ((Rect.unit (s := S1x4x1024x128) ![0, g.val, 0, 0] S1x1x1024x128.size (head_inb g)).idx j) ((slotR s g).idx j) (head_idx s g inb j)
  unfold View.ld
  exact e

/-- another slot keeps what it held. -/
theorem slot_miss4 {off : Fin 4 → ℕ} (s s' : Fin 8) (g : Fin 4) (h : off = ![s'.val, 0, 0, 0]) (hne : s ≠ s')
    (inb : ∀ a, off a + S1x4x1024x128.size a ≤ S8x4x1024x128.size a) (w : Vec F S1x4x1024x128 .f32)
    (L : List (View.Piece (Elt F) S8x4x1024x128 .f32)) :
    slot (v.read (Elt F) (v.writes (Elt F) f (⟨Rect.unit (s := S8x4x1024x128) off S1x4x1024x128.size inb, w⟩ :: L))) s g
      = slot (v.read (Elt F) (v.writes (Elt F) f L)) s g := by
  subst h
  funext j
  refine View.read_writes_cons_miss_of_axis (Val := Elt F) v f _ L _ 0 s'.val 1 rfl rfl rfl ?_
  have hj : (j 0).val < 1 := (j 0).isLt
  have : s.val ≠ s'.val := fun h => hne (Fin.ext h)
  show s.val + 1 * (j 0).val < _ ∨ _ ≤ s.val + 1 * (j 0).val
  omega

end Slots

/-! ## What the stores leave -/

/-- A load through a rectangle reads what the buffer's contents read there. -/
theorem readAt_ld {κ : Kind} {sp : Space} {s : Shape} {e : EltTy} (v : View sig κ sp s e) (f : v.ty.Contents (Elt F)) (r : Rect s) :
    v.readAt (Elt F) r.toLoadRect f = View.ld (v.read (Elt F) f) r := rfl

/-- A buffer held at contents that read as `X` is owned at `X`. -/
theorem own_of {c : Thread nD τ} {sp : Space} {s : Shape} {e : EltTy} {m : Memref sig c.2.kind sp s e} {f : Buf (Elt F) (m.view.loc c)}
    {X : Vec F s e} (h : m.view.read (Elt F) f = X) : (m.view.loc c ↦[m.view.set]{fullShare} f : sProp 𝕄) ⊢ owns c m fullShare X := by
  unfold owns
  iintro H
  iexists f
  isplitr
  · ipureintro; exact h
  · iexact H

section Facts
variable (c : Dev nD) (i : grid0.Coords) (arg3 : Memref sig .tc .vmem S1024x512 .bf16) (harg3 : arg3.IsWhole) (arg4 : Memref sig .tc .vmem S768x128 .bf16) (harg4 : arg4.IsWhole) (arg5 : Memref sig .tc .vmem S768x256 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S768x128 .f32) (harg10 : arg10.IsWhole) (arg11 : Memref sig .tc .vmem S768x128 .f32) (harg11 : arg11.IsWhole) (arg12 : Memref sig .tc .vmem S8x4x1024x128 .f32) (harg12 : arg12.IsWhole) (arg13 : Memref sig .tc .vmem S768x128 .f32) (harg13 : arg13.IsWhole) (arg14 : Memref sig .tc .vmem S768x128 .f32) (harg14 : arg14.IsWhole)
    (x3 : Vec F S1024x512 .bf16) (x4 : Vec F S768x128 .bf16) (x5 : Vec F S768x256 .bf16) (x6 : Vec F S1024x512 .bf16) (x7 : Vec F S1024x512 .bf16) (x8 : Vec F S1024x512 .f32) (x9 : Vec F S1024x512 .f32) (x10 : Vec F S768x128 .f32) (x11 : Vec F S768x128 .f32) (x12 : Vec F S8x4x1024x128 .f32) (x13 : Vec F S768x128 .f32) (x14 : Vec F S768x128 .f32)

local notation "R" => raw c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14

theorem start14 : arg14.view.read (Elt F) (if hc : raw.sl.v2 i = 1#1 then
      arg14.view.writes (Elt F) (harg14.unread x14) [⟨Rect.unit ![0, 0] ![768, 128] inb_S768x128_S768x128_0_0, k0_pay9⟩]
    else harg14.unread x14) = if cond1 i = 1#1 then k0_pay9 else x14 := by
  by_cases hc : cond1 i = 1#1
  · rw [dif_pos (show raw.sl.v2 i = 1#1 from hc), if_pos hc]; exact read_writes_full _ _ _ _ _
  · rw [dif_neg (show ¬ raw.sl.v2 i = 1#1 from hc), if_neg hc]; exact harg14.read_unread _

theorem start13 : arg13.view.read (Elt F) (if hc : raw.sl.v2 i = 1#1 then
      arg13.view.writes (Elt F) (harg13.unread x13) [⟨Rect.unit ![0, 0] ![768, 128] inb_S768x128_S768x128_0_0, k0_pay8⟩]
    else harg13.unread x13) = if cond1 i = 1#1 then k0_pay8 else x13 := by
  by_cases hc : cond1 i = 1#1
  · rw [dif_pos (show raw.sl.v2 i = 1#1 from hc), if_pos hc]; exact read_writes_full _ _ _ _ _
  · rw [dif_neg (show ¬ raw.sl.v2 i = 1#1 from hc), if_neg hc]; exact harg13.read_unread _

/-- A load of the whole key block reads it. -/
theorem ldk {e : EltTy} (X : Vec F S768x128 e) : View.ld X (Rect.unit (s := S768x128) ![0, 0] ![768, 128] inb_S768x128_S768x128_0_0) = X :=
  ld_full (e := e) _ X

theorem start12 (g : Fin 4) : slot (arg12.view.read (Elt F) (if hc : k0_cond2 i = 1#1 then
      arg12.view.writes (Elt F) (harg12.unread x12) [⟨Rect.unit (s := S8x4x1024x128) (k0_off1 i) S1x4x1024x128.size (k0_off1_inb i hc), k0_pay10⟩]
    else harg12.unread x12)) (slotOf i) g = if k0_cond2 i = 1#1 then zeroQ g else slot x12 (slotOf i) g := by
  by_cases hc : k0_cond2 i = 1#1
  · rw [dif_pos hc, if_pos hc]; exact slot_hit4 _ _ _ _ (off1_eq i) _ _ _
  · rw [dif_neg hc, if_neg hc, harg12.read_unread]

theorem other12 (s : Fin 8) (hs : s ≠ slotOf i) (g : Fin 4) : slot (arg12.view.read (Elt F) (if hc : k0_cond2 i = 1#1 then
      arg12.view.writes (Elt F) (harg12.unread x12) [⟨Rect.unit (s := S8x4x1024x128) (k0_off1 i) S1x4x1024x128.size (k0_off1_inb i hc), k0_pay10⟩]
    else harg12.unread x12)) s g = slot x12 s g := by
  by_cases hc : k0_cond2 i = 1#1
  · rw [dif_pos hc]
    refine (slot_miss4 _ _ _ _ _ (off1_eq i) hs _ _ _).trans ?_
    show slot (arg12.view.read (Elt F) (harg12.unread x12)) s g = _
    rw [harg12.read_unread]
  · rw [dif_neg hc, harg12.read_unread]

theorem v77_eq : raw.sl.v77 c i arg14 harg14 x14 = (if cond1 i = 1#1 then k0_pay9 else x14) := by
  unfold raw.sl.v77
  exact (ldk _).trans (start14 i arg14 harg14 x14)

theorem v83_eq : raw.sl.v83 c i arg13 harg13 x13 = (if cond1 i = 1#1 then k0_pay8 else x13) := by
  unfold raw.sl.v83
  exact (ldk _).trans (start13 i arg13 harg13 x13)

theorem v90_eq : raw.sl.v90 c i arg12 harg12 x12 = (fun g => if k0_cond2 i = 1#1 then zeroQ g else slot x12 (slotOf i) g) 0 := by
  unfold raw.sl.v90
  exact (ld_slot _ _ _ (off2_eq i) _).trans (start12 i arg12 harg12 x12 0)

theorem v178_eq : raw.sl.v178 c i arg12 harg12 x12 = (fun g => if k0_cond2 i = 1#1 then zeroQ g else slot x12 (slotOf i) g) 1 := by
  unfold raw.sl.v178
  exact (ld_slot _ _ _ (off3_eq i) _).trans (start12 i arg12 harg12 x12 1)

theorem v266_eq : raw.sl.v266 c i arg12 harg12 x12 = (fun g => if k0_cond2 i = 1#1 then zeroQ g else slot x12 (slotOf i) g) 2 := by
  unfold raw.sl.v266
  exact (ld_slot _ _ _ (off4_eq i) _).trans (start12 i arg12 harg12 x12 2)

theorem v354_eq : raw.sl.v354 c i arg12 harg12 x12 = (fun g => if k0_cond2 i = 1#1 then zeroQ g else slot x12 (slotOf i) g) 3 := by
  unfold raw.sl.v354
  exact (ld_slot _ _ _ (off5_eq i) _).trans (start12 i arg12 harg12 x12 3)

theorem list14 : ∃ L, raw.sl.H14_4 c i arg3 harg3 arg4 harg4 arg7 harg7 arg8 harg8 arg14 harg14 x3 x4 x7 x8 x14 = ⟨Rect.unit (s := S768x128) ![0, 0] S768x128.size inb_S768x128_S768x128_0_0, dvS x3 x4 x7 x8 (if cond1 i = 1#1 then k0_pay9 else x14)⟩ :: L := by
  simp only [raw.sl.H14_1, raw.sl.H14_2, raw.sl.H14_3, raw.sl.H14_4, v77_eq, raw.sl.v165, raw.sl.v253, raw.sl.v341, raw.sl.r, raw.sl.r_1, raw.sl.r_2, raw.sl.r_3, raw.sl.r_4, raw.sl.r_5, raw.sl.r_6, raw.sl.r_7, raw.sl.r_8, raw.sl.r_9, raw.sl.r_10, raw.sl.r_11, raw.sl.r_12, raw.sl.r_13, raw.sl.r_14, raw.sl.r_15, raw.sl.r_16, raw.sl.r_17, raw.sl.r_18, raw.sl.r_19, raw.sl.r_20, raw.sl.r_21, raw.sl.r_22, raw.sl.r_23, raw.sl.r_24, raw.sl.r_25, raw.sl.r_26, raw.sl.r_27, raw.sl.r_28, raw.sl.r_29, raw.sl.r_30, raw.sl.r_31, raw.sl.r_32, raw.sl.r_33, raw.sl.r_34, raw.sl.r_35, raw.sl.r_36, raw.sl.r_37, raw.sl.r_38, raw.sl.r_39, raw.sl.r_40, raw.sl.r_41, raw.sl.r_42, raw.sl.r_43, raw.sl.r_44, raw.sl.r_45, raw.sl.r_46, raw.sl.r_47, raw.sl.r_48, raw.sl.r_49, raw.sl.r_50, raw.sl.r_51, raw.sl.r_52, raw.sl.r_53, raw.sl.r_54, raw.sl.r_55, raw.sl.r_56, raw.sl.r_57, raw.sl.r_58, raw.sl.r_59, raw.sl.r_60, raw.sl.r_61, raw.sl.r_62, raw.sl.r_63, raw.sl.r_64, raw.sl.r_65, raw.sl.r_66, raw.sl.r_67, raw.sl.r_68, raw.sl.r_69, raw.sl.r_70,
    readAt_ld, harg3.read_unread, harg4.read_unread, harg7.read_unread, harg8.read_unread, ldk, View.readCov_cons_toLoadRect]
  exact ⟨_, rfl⟩

theorem list13 : ∃ L, raw.sl.H13_4 c i arg3 harg3 arg4 harg4 arg5 harg5 arg6 harg6 arg7 harg7 arg8 harg8 arg13 harg13 x3 x4 x5 x6 x7 x8 x13 = ⟨Rect.unit (s := S768x128) ![0, 0] S768x128.size inb_S768x128_S768x128_0_0, dkS x3 x4 x5 x6 x7 x8 (if cond1 i = 1#1 then k0_pay8 else x13)⟩ :: L := by
  simp only [raw.sl.H13_1, raw.sl.H13_2, raw.sl.H13_3, raw.sl.H13_4, v83_eq, raw.sl.v171, raw.sl.v259, raw.sl.v347, raw.sl.r, raw.sl.r_1, raw.sl.r_2, raw.sl.r_3, raw.sl.r_4, raw.sl.r_5, raw.sl.r_6, raw.sl.r_7, raw.sl.r_8, raw.sl.r_9, raw.sl.r_10, raw.sl.r_11, raw.sl.r_12, raw.sl.r_13, raw.sl.r_14, raw.sl.r_15, raw.sl.r_16, raw.sl.r_17, raw.sl.r_18, raw.sl.r_19, raw.sl.r_20, raw.sl.r_21, raw.sl.r_22, raw.sl.r_23, raw.sl.r_24, raw.sl.r_25, raw.sl.r_26, raw.sl.r_27, raw.sl.r_28, raw.sl.r_29, raw.sl.r_30, raw.sl.r_31, raw.sl.r_32, raw.sl.r_33, raw.sl.r_34, raw.sl.r_35, raw.sl.r_36, raw.sl.r_37, raw.sl.r_38, raw.sl.r_39, raw.sl.r_40, raw.sl.r_41, raw.sl.r_42, raw.sl.r_43, raw.sl.r_44, raw.sl.r_45, raw.sl.r_46, raw.sl.r_47, raw.sl.r_48, raw.sl.r_49, raw.sl.r_50, raw.sl.r_51, raw.sl.r_52, raw.sl.r_53, raw.sl.r_54, raw.sl.r_55, raw.sl.r_56, raw.sl.r_57, raw.sl.r_58, raw.sl.r_59, raw.sl.r_60, raw.sl.r_61, raw.sl.r_62, raw.sl.r_63, raw.sl.r_64, raw.sl.r_65, raw.sl.r_66, raw.sl.r_67, raw.sl.r_68, raw.sl.r_69, raw.sl.r_70,
    readAt_ld, harg3.read_unread, harg4.read_unread, harg5.read_unread, harg6.read_unread, harg7.read_unread, harg8.read_unread, ldk, View.readCov_cons_toLoadRect]
  exact ⟨_, rfl⟩

theorem list12 : raw.sl.H12_4 c i arg3 harg3 arg4 harg4 arg5 harg5 arg6 harg6 arg7 harg7 arg8 harg8 arg12 harg12 x3 x4 x5 x6 x7 x8 x12
    = [⟨Rect.unit (s := S8x4x1024x128) (k0_off5 i) S1x1x1024x128.size (k0_off5_inb i), dqS x3 x4 x5 x6 x7 x8 (fun g => if k0_cond2 i = 1#1 then zeroQ g else slot x12 (slotOf i) g) 3⟩,
       ⟨Rect.unit (s := S8x4x1024x128) (k0_off4 i) S1x1x1024x128.size (k0_off4_inb i), dqS x3 x4 x5 x6 x7 x8 (fun g => if k0_cond2 i = 1#1 then zeroQ g else slot x12 (slotOf i) g) 2⟩,
       ⟨Rect.unit (s := S8x4x1024x128) (k0_off3 i) S1x1x1024x128.size (k0_off3_inb i), dqS x3 x4 x5 x6 x7 x8 (fun g => if k0_cond2 i = 1#1 then zeroQ g else slot x12 (slotOf i) g) 1⟩,
       ⟨Rect.unit (s := S8x4x1024x128) (k0_off2 i) S1x1x1024x128.size (k0_off2_inb i), dqS x3 x4 x5 x6 x7 x8 (fun g => if k0_cond2 i = 1#1 then zeroQ g else slot x12 (slotOf i) g) 0⟩] := by
  simp only [raw.sl.H12_4, v90_eq, v178_eq, v266_eq, v354_eq, raw.sl.r, raw.sl.r_1, raw.sl.r_2, raw.sl.r_3, raw.sl.r_4, raw.sl.r_5, raw.sl.r_6, raw.sl.r_7, raw.sl.r_8, raw.sl.r_9, raw.sl.r_10, raw.sl.r_11, raw.sl.r_12, raw.sl.r_13, raw.sl.r_14, raw.sl.r_15, raw.sl.r_16, raw.sl.r_17, raw.sl.r_18, raw.sl.r_19, raw.sl.r_20, raw.sl.r_21, raw.sl.r_22, raw.sl.r_23, raw.sl.r_24, raw.sl.r_25, raw.sl.r_26, raw.sl.r_27, raw.sl.r_28, raw.sl.r_29, raw.sl.r_30, raw.sl.r_31, raw.sl.r_32, raw.sl.r_33, raw.sl.r_34, raw.sl.r_35, raw.sl.r_36, raw.sl.r_37, raw.sl.r_38, raw.sl.r_39, raw.sl.r_40, raw.sl.r_41, raw.sl.r_42, raw.sl.r_43, raw.sl.r_44, raw.sl.r_45, raw.sl.r_46, raw.sl.r_47, raw.sl.r_48, raw.sl.r_49, raw.sl.r_50, raw.sl.r_51, raw.sl.r_52, raw.sl.r_53, raw.sl.r_54, raw.sl.r_55, raw.sl.r_56, raw.sl.r_57, raw.sl.r_58, raw.sl.r_59, raw.sl.r_60, raw.sl.r_61, raw.sl.r_62, raw.sl.r_63, raw.sl.r_64, raw.sl.r_65, raw.sl.r_66, raw.sl.r_67, raw.sl.r_68, raw.sl.r_69, raw.sl.r_70,
    readAt_ld, harg3.read_unread, harg4.read_unread, harg5.read_unread, harg6.read_unread, harg7.read_unread, harg8.read_unread, ldk, View.readCov_cons_toLoadRect]
  rfl

/-- After the four stores the point's slot holds the four heads' new sums, whatever it held. -/
theorem slots12 (f : arg12.view.ty.Contents (Elt F)) (g : Fin 4) :
    slot (arg12.view.read (Elt F) (arg12.view.writes (Elt F) f (raw.sl.H12_4 c i arg3 harg3 arg4 harg4 arg5 harg5 arg6 harg6 arg7 harg7 arg8 harg8 arg12 harg12 x3 x4 x5 x6 x7 x8 x12))) (slotOf i) g = dqS x3 x4 x5 x6 x7 x8 (fun g => if k0_cond2 i = 1#1 then zeroQ g else slot x12 (slotOf i) g) g := by
  rw [list12]
  by_cases h3 : g = 3
  · subst h3; exact slot_hit _ _ _ _ (off5_eq i) _ _ _
  refine (slot_miss _ _ _ _ _ _ (off5_eq i) (.inr h3) _ _ _).trans ?_
  by_cases h2 : g = 2
  · subst h2; exact slot_hit _ _ _ _ (off4_eq i) _ _ _
  refine (slot_miss _ _ _ _ _ _ (off4_eq i) (.inr h2) _ _ _).trans ?_
  by_cases h1 : g = 1
  · subst h1; exact slot_hit _ _ _ _ (off3_eq i) _ _ _
  refine (slot_miss _ _ _ _ _ _ (off3_eq i) (.inr h1) _ _ _).trans ?_
  have h0 : g = 0 := by revert h1 h2 h3; revert g; decide
  subst h0; exact slot_hit _ _ _ _ (off2_eq i) _ _ _

theorem v369_eq (hc : k0_cond4 i = 1#1) : raw.sl.v369 c i arg3 harg3 arg4 harg4 arg5 harg5 arg6 harg6 arg7 harg7 arg8 harg8 arg12 harg12 x3 x4 x5 x6 x7 x8 x12 hc = dqS x3 x4 x5 x6 x7 x8 (fun g => if k0_cond2 i = 1#1 then zeroQ g else slot x12 (slotOf i) g) 0 := by
  unfold raw.sl.v369
  exact (ld_slot _ _ _ (off6_eq i) _).trans (slots12 c i arg3 harg3 arg4 harg4 arg5 harg5 arg6 harg6 arg7 harg7 arg8 harg8 arg12 harg12 x3 x4 x5 x6 x7 x8 x12 _ 0)

theorem v373_eq (hc : k0_cond4 i = 1#1) : raw.sl.v373 c i arg3 harg3 arg4 harg4 arg5 harg5 arg6 harg6 arg7 harg7 arg8 harg8 arg12 harg12 x3 x4 x5 x6 x7 x8 x12 hc = dqS x3 x4 x5 x6 x7 x8 (fun g => if k0_cond2 i = 1#1 then zeroQ g else slot x12 (slotOf i) g) 1 := by
  unfold raw.sl.v373
  exact (ld_slot _ _ _ (off7_eq i) _).trans (slots12 c i arg3 harg3 arg4 harg4 arg5 harg5 arg6 harg6 arg7 harg7 arg8 harg8 arg12 harg12 x3 x4 x5 x6 x7 x8 x12 _ 1)

theorem v377_eq (hc : k0_cond4 i = 1#1) : raw.sl.v377 c i arg3 harg3 arg4 harg4 arg5 harg5 arg6 harg6 arg7 harg7 arg8 harg8 arg12 harg12 x3 x4 x5 x6 x7 x8 x12 hc = dqS x3 x4 x5 x6 x7 x8 (fun g => if k0_cond2 i = 1#1 then zeroQ g else slot x12 (slotOf i) g) 2 := by
  unfold raw.sl.v377
  exact (ld_slot _ _ _ (off8_eq i) _).trans (slots12 c i arg3 harg3 arg4 harg4 arg5 harg5 arg6 harg6 arg7 harg7 arg8 harg8 arg12 harg12 x3 x4 x5 x6 x7 x8 x12 _ 2)

theorem v381_eq (hc : k0_cond4 i = 1#1) : raw.sl.v381 c i arg3 harg3 arg4 harg4 arg5 harg5 arg6 harg6 arg7 harg7 arg8 harg8 arg12 harg12 x3 x4 x5 x6 x7 x8 x12 hc = dqS x3 x4 x5 x6 x7 x8 (fun g => if k0_cond2 i = 1#1 then zeroQ g else slot x12 (slotOf i) g) 3 := by
  unfold raw.sl.v381
  exact (ld_slot _ _ _ (off9_eq i) _).trans (slots12 c i arg3 harg3 arg4 harg4 arg5 harg5 arg6 harg6 arg7 harg7 arg8 harg8 arg12 harg12 x3 x4 x5 x6 x7 x8 x12 _ 3)

theorem v368_eq : raw.sl.v368 c i arg3 harg3 arg4 harg4 arg5 harg5 arg6 harg6 arg7 harg7 arg8 harg8 arg13 harg13 x3 x4 x5 x6 x7 x8 x13 = dkS x3 x4 x5 x6 x7 x8 (if cond1 i = 1#1 then k0_pay8 else x13) := by
  obtain ⟨L, hL⟩ := list13 (x3 := x3) (x4 := x4) (x5 := x5) (x6 := x6) (x7 := x7) (x8 := x8) (x13 := x13) c i arg3 harg3 arg4 harg4 arg5 harg5 arg6 harg6 arg7 harg7 arg8 harg8 arg13 harg13
  unfold raw.sl.v368
  rw [hL]
  exact View.readCov_cons_toLoadRect _ _ _ _

theorem v372_eq : raw.sl.v372 c i arg3 harg3 arg4 harg4 arg7 harg7 arg8 harg8 arg14 harg14 x3 x4 x7 x8 x14 = dvS x3 x4 x7 x8 (if cond1 i = 1#1 then k0_pay9 else x14) := by
  obtain ⟨L, hL⟩ := list14 (x3 := x3) (x4 := x4) (x7 := x7) (x8 := x8) (x14 := x14) c i arg3 harg3 arg4 harg4 arg7 harg7 arg8 harg8 arg14 harg14
  unfold raw.sl.v372
  rw [hL]
  exact View.readCov_cons_toLoadRect _ _ _ _

theorem fact14 : arg14.view.read (Elt F) (R).2.2.2.2.2.1 = dvS x3 x4 x7 x8 (if cond1 i = 1#1 then k0_pay9 else x14) := by
  unfold raw
  dsimp only
  obtain ⟨L, hL⟩ := list14 (x3 := x3) (x4 := x4) (x7 := x7) (x8 := x8) (x14 := x14) c i arg3 harg3 arg4 harg4 arg7 harg7 arg8 harg8 arg14 harg14
  rw [hL]
  exact read_writes_full _ _ _ _ _

theorem fact13 : arg13.view.read (Elt F) (R).2.2.2.2.1 = dkS x3 x4 x5 x6 x7 x8 (if cond1 i = 1#1 then k0_pay8 else x13) := by
  unfold raw
  dsimp only
  obtain ⟨L, hL⟩ := list13 (x3 := x3) (x4 := x4) (x5 := x5) (x6 := x6) (x7 := x7) (x8 := x8) (x13 := x13) c i arg3 harg3 arg4 harg4 arg5 harg5 arg6 harg6 arg7 harg7 arg8 harg8 arg13 harg13
  rw [hL]
  exact read_writes_full _ _ _ _ _

theorem fact12 (g : Fin 4) : slot (arg12.view.read (Elt F) (R).2.2.2.1) (slotOf i) g = dqS x3 x4 x5 x6 x7 x8 (fun g => if k0_cond2 i = 1#1 then zeroQ g else slot x12 (slotOf i) g) g := by
  unfold raw
  dsimp only
  exact slots12 c i arg3 harg3 arg4 harg4 arg5 harg5 arg6 harg6 arg7 harg7 arg8 harg8 arg12 harg12 x3 x4 x5 x6 x7 x8 x12 _ g

theorem fact12' (s : Fin 8) (hs : s ≠ slotOf i) (g : Fin 4) : slot (arg12.view.read (Elt F) (R).2.2.2.1) s g = slot x12 s g := by
  unfold raw
  dsimp only
  rw [list12]
  refine (slot_miss _ _ _ _ _ _ (off5_eq i) (.inl hs) _ _ _).trans ?_
  refine (slot_miss _ _ _ _ _ _ (off4_eq i) (.inl hs) _ _ _).trans ?_
  refine (slot_miss _ _ _ _ _ _ (off3_eq i) (.inl hs) _ _ _).trans ?_
  refine (slot_miss _ _ _ _ _ _ (off2_eq i) (.inl hs) _ _ _).trans ?_
  exact other12 i arg12 harg12 x12 s hs g

theorem fact11 : arg11.view.read (Elt F) (R).2.2.1 = if k0_cond3 i = 1#1 then dvS x3 x4 x7 x8 (if cond1 i = 1#1 then k0_pay9 else x14) else x11 := by
  unfold raw
  dsimp only
  by_cases hc : k0_cond3 i = 1#1
  · rw [dif_pos hc, if_pos hc, v372_eq]
    exact read_writes_full _ _ _ _ _
  · rw [dif_neg hc, if_neg hc]; exact harg11.read_unread _

theorem fact10 : arg10.view.read (Elt F) (R).2.1 = if k0_cond3 i = 1#1 then k0_pay3 (dkS x3 x4 x5 x6 x7 x8 (if cond1 i = 1#1 then k0_pay8 else x13)) else x10 := by
  unfold raw
  dsimp only
  by_cases hc : k0_cond3 i = 1#1
  · rw [dif_pos hc, if_pos hc, v368_eq]
    exact read_writes_full _ _ _ _ _
  · rw [dif_neg hc, if_neg hc]; exact harg10.read_unread _

theorem fact9 : arg9.view.read (Elt F) (R).1 = if k0_cond4 i = 1#1 then dqOut (dqS x3 x4 x5 x6 x7 x8 (fun g => if k0_cond2 i = 1#1 then zeroQ g else slot x12 (slotOf i) g)) else x9 := by
  unfold raw
  dsimp only
  by_cases hc : k0_cond4 i = 1#1
  · rw [dif_pos hc, if_pos hc, v369_eq, v373_eq, v377_eq, v381_eq]
    exact View.read_writes_eq_canon (Val := Elt F) _ _ _ (View.cover_of_tiledL (Val := Elt F) _ S1024x128.size (by sl_kernel_rfl))
  · rw [dif_neg hc, if_neg hc]; exact harg9.read_unread _

/-- What the accumulator of the queries' gradient holds after a point: the point's slot has the heads' new sums, the others
are untouched. -/
def slotsAfter (x3 : Vec F S1024x512 .bf16) (x4 : Vec F S768x128 .bf16) (x5 : Vec F S768x256 .bf16) (x6 x7 : Vec F S1024x512 .bf16)
    (x8 : Vec F S1024x512 .f32) (x12 d : Vec F S8x4x1024x128 .f32) : Prop :=
  (∀ g, slot d (slotOf i) g = dqS x3 x4 x5 x6 x7 x8 (fun g => if k0_cond2 i = 1#1 then zeroQ g else slot x12 (slotOf i) g) g) ∧ ∀ s, s ≠ slotOf i → ∀ g, slot d s g = slot x12 s g

set_option maxHeartbeats 2000000 in
/-- The body's triple: from any contents of its blocks and accumulators, what it leaves in each. -/
theorem run (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare (if k0_cond4 i = 1#1 then dqOut (dqS x3 x4 x5 x6 x7 x8 (fun g => if k0_cond2 i = 1#1 then zeroQ g else slot x12 (slotOf i) g)) else x9)
          ∗ owns (c : Thread nD τ) arg10 fullShare (if k0_cond3 i = 1#1 then k0_pay3 (dkS x3 x4 x5 x6 x7 x8 (if cond1 i = 1#1 then k0_pay8 else x13)) else x10)
          ∗ owns (c : Thread nD τ) arg11 fullShare (if k0_cond3 i = 1#1 then dvS x3 x4 x7 x8 (if cond1 i = 1#1 then k0_pay9 else x14) else x11)
          ∗ (∃ d, ⌜slotsAfter i x3 x4 x5 x6 x7 x8 x12 d⌝ ∗ owns (c : Thread nD τ) arg12 fullShare d)
          ∗ owns (c : Thread nD τ) arg13 fullShare (dkS x3 x4 x5 x6 x7 x8 (if cond1 i = 1#1 then k0_pay8 else x13)) ∗ owns (c : Thread nD τ) arg14 fullShare (dvS x3 x4 x7 x8 (if cond1 i = 1#1 then k0_pay9 else x14))) -∗ K ⟨⟩))
      ⊢ wp frame (wpE (defs₀ (F := F)) Variants.none c none) E (cc0_flash_bwd i arg3 harg3 arg4 harg4 arg5 harg5 arg6 harg6 arg7 harg7 arg8 harg8 arg9 harg9 arg10 harg10 arg11 harg11 arg12 harg12 arg13 harg13 arg14 harg14) K := by
  refine BIBase.Entails.trans ?_ ((R).2.2.2.2.2.2 E K)
  iintro ⟨H3, H4, H5, H6, H7, H8, H9, H10, H11, H12, H13, H14, Hk⟩
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  iintro ⟨H3, H4, H5, H6, H7, H8, H9, H10, H11, H12, H13, H14⟩
  iapply Hk
  isplitl [H3]
  · iexact H3
  isplitl [H4]
  · iexact H4
  isplitl [H5]
  · iexact H5
  isplitl [H6]
  · iexact H6
  isplitl [H7]
  · iexact H7
  isplitl [H8]
  · iexact H8
  isplitl [H9]
  · iapply own_of (fact9 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14) $$ H9
  isplitl [H10]
  · iapply own_of (fact10 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14) $$ H10
  isplitl [H11]
  · iapply own_of (fact11 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14) $$ H11
  isplitl [H12]
  · iexists (arg12.view.read (Elt F) (R).2.2.2.1)
    isplitr
    · ipureintro
      exact ⟨fact12 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14, fact12' c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14⟩
    · iapply own_of rfl $$ H12
  isplitl [H13]
  · iapply own_of (fact13 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14) $$ H13
  · iapply own_of (fact14 c i arg3 harg3 arg4 harg4 arg5 harg5 arg6 harg6 arg7 harg7 arg8 harg8 arg9 harg9 arg10 harg10 arg11 harg11 arg12 harg12 arg13 harg13 arg14 harg14 x3 x4 x5 x6 x7 x8 x9 x10 x11 x12 x13 x14) $$ H14

end Facts

end Cert.KernelIdeal.Hand

end
-- ==== Proof.Run.lean ====
/- The accumulators point by point, the pipeline's proof data, the launch and the frame. -/
module

public import proofs.«01_k».proof.Proof.BodyFacts
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The accumulators, point by point -/

/-- Grid point number `n`. -/
def pt (n : ℕ) : Fin cfg0.N := ⟨n % 176, by rw [show cfg0.N = 176 from N_0]; omega⟩

theorem pt_val (t : Fin cfg0.N) : pt t.val = t := by
  have : t.val < 176 := lt_of_lt_of_eq t.isLt N_0
  exact Fin.ext (Nat.mod_eq_of_lt this)

/-- Input window 0's block at point `n`. -/
def ib0 (c : Dev nD) (n : ℕ) : Vec F S1024x512 .bf16 := iblk m c 0 (pt n)
theorem ib0_eq (c : Dev nD) (t : Fin cfg0.N) : iblk m c 0 t = ib0 m c t.val := by unfold ib0; rw [pt_val]
/-- Input window 1's block at point `n`. -/
def ib1 (c : Dev nD) (n : ℕ) : Vec F S768x128 .bf16 := iblk m c 1 (pt n)
theorem ib1_eq (c : Dev nD) (t : Fin cfg0.N) : iblk m c 1 t = ib1 m c t.val := by unfold ib1; rw [pt_val]
/-- Input window 2's block at point `n`. -/
def ib2 (c : Dev nD) (n : ℕ) : Vec F S768x256 .bf16 := iblk m c 2 (pt n)
theorem ib2_eq (c : Dev nD) (t : Fin cfg0.N) : iblk m c 2 t = ib2 m c t.val := by unfold ib2; rw [pt_val]
/-- Input window 3's block at point `n`. -/
def ib3 (c : Dev nD) (n : ℕ) : Vec F S1024x512 .bf16 := iblk m c 3 (pt n)
theorem ib3_eq (c : Dev nD) (t : Fin cfg0.N) : iblk m c 3 t = ib3 m c t.val := by unfold ib3; rw [pt_val]
/-- Input window 4's block at point `n`. -/
def ib4 (c : Dev nD) (n : ℕ) : Vec F S1024x512 .bf16 := iblk m c 4 (pt n)
theorem ib4_eq (c : Dev nD) (t : Fin cfg0.N) : iblk m c 4 t = ib4 m c t.val := by unfold ib4; rw [pt_val]
/-- Input window 5's block at point `n`. -/
def ib5 (c : Dev nD) (n : ℕ) : Vec F S1024x512 .f32 := iblk m c 5 (pt n)
theorem ib5_eq (c : Dev nD) (t : Fin cfg0.N) : iblk m c 5 t = ib5 m c t.val := by unfold ib5; rw [pt_val]

/-- The keys' gradient over key tile and kv head `b = n / 8` after query tile `i`. -/
def dkAcc (c : Dev nD) (b : ℕ) : ℕ → Vec F S768x128 .f32
  | 0 => (fun n => dkS (ib0 m c n) (ib1 m c n) (ib2 m c n) (ib3 m c n) (ib4 m c n) (ib5 m c n) k0_pay8) (b * 8)
  | i + 1 => (fun n => dkS (ib0 m c n) (ib1 m c n) (ib2 m c n) (ib3 m c n) (ib4 m c n) (ib5 m c n) (dkAcc c b i)) (b * 8 + (i + 1))

/-- The values' gradient over key tile and kv head `b` after query tile `i`. -/
def dvAcc (c : Dev nD) (b : ℕ) : ℕ → Vec F S768x128 .f32
  | 0 => (fun n => dvS (ib0 m c n) (ib1 m c n) (ib4 m c n) (ib5 m c n) k0_pay9) (b * 8)
  | i + 1 => (fun n => dvS (ib0 m c n) (ib1 m c n) (ib4 m c n) (ib5 m c n) (dvAcc c b i)) (b * 8 + (i + 1))

/-- The queries' gradient of kv head `h` and query tile `i`, head by head, after key tile `j`. -/
def dqAcc (c : Dev nD) (h i : ℕ) : ℕ → Fin 4 → Vec F S1x1x1024x128 .f32
  | 0 => (fun n => dqS (ib0 m c n) (ib1 m c n) (ib2 m c n) (ib3 m c n) (ib4 m c n) (ib5 m c n) zeroQ) (h * 88 + i)
  | j + 1 => (fun n => dqS (ib0 m c n) (ib1 m c n) (ib2 m c n) (ib3 m c n) (ib4 m c n) (ib5 m c n) (dqAcc c h i j)) (h * 88 + (j + 1) * 8 + i)

/-- The three after point `n`. -/
def dks (c : Dev nD) (n : ℕ) : Vec F S768x128 .f32 := dkAcc m c (n / 8) (n % 8)
def dvs (c : Dev nD) (n : ℕ) : Vec F S768x128 .f32 := dvAcc m c (n / 8) (n % 8)
def dqs (c : Dev nD) (n : ℕ) : Fin 4 → Vec F S1x1x1024x128 .f32 := dqAcc m c (n / 88) (n % 8) (n / 8 % 11)

theorem dks_step (c : Dev nD) (n : ℕ) (y : Vec F S768x128 .f32) (hy : n % 8 ≠ 0 → y = dks m c (n - 1)) :
    dkS (ib0 m c n) (ib1 m c n) (ib2 m c n) (ib3 m c n) (ib4 m c n) (ib5 m c n) (if n % 8 = 0 then k0_pay8 else y) = dks m c n := by
  unfold dks at hy ⊢
  by_cases h : n % 8 = 0
  · rw [if_pos h, h]
    show _ = (fun n => dkS (ib0 m c n) (ib1 m c n) (ib2 m c n) (ib3 m c n) (ib4 m c n) (ib5 m c n) k0_pay8) (n / 8 * 8)
    rw [show n / 8 * 8 = n from by omega]
  · rw [if_neg h, hy h]
    obtain ⟨i, hi⟩ := Nat.exists_eq_succ_of_ne_zero h
    rw [hi, show (n - 1) / 8 = n / 8 from by omega, show (n - 1) % 8 = i from by omega]
    show _ = (fun n' => dkS (ib0 m c n') (ib1 m c n') (ib2 m c n') (ib3 m c n') (ib4 m c n') (ib5 m c n') (dkAcc m c (n / 8) i)) (n / 8 * 8 + (i + 1))
    rw [show n / 8 * 8 + (i + 1) = n from by omega]

theorem dvs_step (c : Dev nD) (n : ℕ) (z : Vec F S768x128 .f32) (hz : n % 8 ≠ 0 → z = dvs m c (n - 1)) :
    dvS (ib0 m c n) (ib1 m c n) (ib4 m c n) (ib5 m c n) (if n % 8 = 0 then k0_pay9 else z) = dvs m c n := by
  unfold dvs at hz ⊢
  by_cases h : n % 8 = 0
  · rw [if_pos h, h]
    show _ = (fun n => dvS (ib0 m c n) (ib1 m c n) (ib4 m c n) (ib5 m c n) k0_pay9) (n / 8 * 8)
    rw [show n / 8 * 8 = n from by omega]
  · rw [if_neg h, hz h]
    obtain ⟨i, hi⟩ := Nat.exists_eq_succ_of_ne_zero h
    rw [hi, show (n - 1) / 8 = n / 8 from by omega, show (n - 1) % 8 = i from by omega]
    show _ = (fun n' => dvS (ib0 m c n') (ib1 m c n') (ib4 m c n') (ib5 m c n') (dvAcc m c (n / 8) i)) (n / 8 * 8 + (i + 1))
    rw [show n / 8 * 8 + (i + 1) = n from by omega]

theorem dqs_step (c : Dev nD) (n : ℕ) (x : Fin 4 → Vec F S1x1x1024x128 .f32) (hx : n / 8 % 11 ≠ 0 → x = dqs m c (n - 8)) :
    dqS (ib0 m c n) (ib1 m c n) (ib2 m c n) (ib3 m c n) (ib4 m c n) (ib5 m c n) (fun g => if n / 8 % 11 = 0 then zeroQ g else x g) = dqs m c n := by
  unfold dqs at hx ⊢
  by_cases h : n / 8 % 11 = 0
  · simp only [if_pos h]
    rw [h]
    show _ = (fun n => dqS (ib0 m c n) (ib1 m c n) (ib2 m c n) (ib3 m c n) (ib4 m c n) (ib5 m c n) zeroQ) (n / 88 * 88 + n % 8)
    rw [show n / 88 * 88 + n % 8 = n from by omega]
  · simp only [if_neg h]
    rw [hx h]
    obtain ⟨j, hj⟩ := Nat.exists_eq_succ_of_ne_zero h
    rw [hj, show (n - 8) / 88 = n / 88 from by omega, show (n - 8) % 8 = n % 8 from by omega, show (n - 8) / 8 % 11 = j from by omega]
    show _ = (fun n' => dqS (ib0 m c n') (ib1 m c n') (ib2 m c n') (ib3 m c n') (ib4 m c n') (ib5 m c n') (dqAcc m c (n / 88) (n % 8) j)) (n / 88 * 88 + (j + 1) * 8 + n % 8)
    rw [show n / 88 * 88 + (j + 1) * 8 + n % 8 = n from by omega]

/-! ## The conditions at a point -/

theorem coord0 (t : Fin cfg0.N) : (grid0.coords t 0).val = t.val / 88 % 2 := Pipeline.Grid.coords_val t 0 (by decide) rfl
theorem coord1 (t : Fin cfg0.N) : (grid0.coords t 1).val = t.val / 8 % 11 := Pipeline.Grid.coords_val t 1 (by decide) rfl
theorem coord2 (t : Fin cfg0.N) : (grid0.coords t 2).val = t.val % 8 := by
  have : (grid0.coords t 2).val = t.val / 1 % 8 := Pipeline.Grid.coords_val t 2 (by decide) rfl
  rw [this, Nat.div_one]

theorem cond1_iff (t : Fin cfg0.N) : cond1 (grid0.coords t) = 1#1 ↔ t.val % 8 = 0 := by
  have ht : t.val < 176 := Nat.lt_of_lt_of_eq t.isLt N_0
  have e1 := coord1 t
  have e2 := coord2 t
  simp only [cond1, e1, e2]
  word_cmp
theorem k0_cond2_iff (t : Fin cfg0.N) : k0_cond2 (grid0.coords t) = 1#1 ↔ t.val / 8 % 11 = 0 := by
  have ht : t.val < 176 := Nat.lt_of_lt_of_eq t.isLt N_0
  have e1 := coord1 t
  have e2 := coord2 t
  simp only [k0_cond2, e1, e2]
  word_cmp
theorem k0_cond3_iff (t : Fin cfg0.N) : k0_cond3 (grid0.coords t) = 1#1 ↔ t.val % 8 = 7 := by
  have ht : t.val < 176 := Nat.lt_of_lt_of_eq t.isLt N_0
  have e1 := coord1 t
  have e2 := coord2 t
  simp only [k0_cond3, e1, e2]
  word_cmp
theorem k0_cond4_iff (t : Fin cfg0.N) : k0_cond4 (grid0.coords t) = 1#1 ↔ t.val / 8 % 11 = 10 := by
  have ht : t.val < 176 := Nat.lt_of_lt_of_eq t.isLt N_0
  have e1 := coord1 t
  have e2 := coord2 t
  simp only [k0_cond4, e1, e2]
  word_cmp

/-! ## The blocks' places -/

abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S768x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S768x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S768x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S768x128 .f32 := win0_8.stage (cfg0.slots t 8)
abbrev hs8 (t : Fin cfg0.N) : (ms8 t).IsWhole := hstage0_8 ((cfg0.slots t 8).cast nbuf0_8)
/-- The three accumulators. -/
abbrev sc0 : Memref sig .tc .vmem S8x4x1024x128 .f32 := Memref.whole cc0_scratch0
abbrev sc1 : Memref sig .tc .vmem S768x128 .f32 := Memref.whole cc0_scratch1
abbrev sc2 : Memref sig .tc .vmem S768x128 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## The invariant -/

/-- What the accumulators hold before point `n`: each of the last eight points' slot the queries' gradient after that point, and,
within a key tile, the keys' and values' gradients after the point before. -/
def Inv (c : Dev nD) (n : ℕ) (X : Vec F S8x4x1024x128 .f32) (Y Z : Vec F S768x128 .f32) : Prop :=
  (∀ n', n' < n → n ≤ n' + 8 → ∀ s : Fin 8, s.val = n' % 8 → ∀ g, slot X s g = dqs m c n' g)
    ∧ (n % 8 ≠ 0 → Y = dks m c (n - 1)) ∧ (n % 8 ≠ 0 → Z = dvs m c (n - 1))

def PhiN (c : Dev nD) (n : ℕ) : sProp 𝕄 :=
  iprop(∃ X, ∃ Y, ∃ Z, ⌜Inv m c n X Y Z⌝ ∗ iprop(owns (c : Thread nD τ) sc0 fullShare X ∗ owns (c : Thread nD τ) sc1 fullShare Y ∗ owns (c : Thread nD τ) sc2 fullShare Z) ∗ (∃ r, prngReg c r))

theorem inv_zero (c : Dev nD) (X : Vec F S8x4x1024x128 .f32) (Y Z : Vec F S768x128 .f32) : Inv m c 0 X Y Z :=
  ⟨fun n' h => absurd h (Nat.not_lt_zero _), fun h => absurd rfl h, fun h => absurd rfl h⟩

theorem q_eq (c : Dev nD) (t : Fin cfg0.N) {X : Vec F S8x4x1024x128 .f32} {Y Z : Vec F S768x128 .f32} (h : Inv m c t.val X Y Z) :
    dqS (ib0 m c t.val) (ib1 m c t.val) (ib2 m c t.val) (ib3 m c t.val) (ib4 m c t.val) (ib5 m c t.val) (fun g => if k0_cond2 (grid0.coords t) = 1#1 then zeroQ g else slot X (slotOf (grid0.coords t)) g) = dqs m c t.val := by
  simp only [k0_cond2_iff]
  refine dqs_step m c t.val _ fun hn => funext fun g => h.1 (t.val - 8) ?_ ?_ _ ?_ g
  · omega
  · omega
  · rw [coord2]; omega

theorem k_eq (c : Dev nD) (t : Fin cfg0.N) {X : Vec F S8x4x1024x128 .f32} {Y Z : Vec F S768x128 .f32} (h : Inv m c t.val X Y Z) :
    dkS (ib0 m c t.val) (ib1 m c t.val) (ib2 m c t.val) (ib3 m c t.val) (ib4 m c t.val) (ib5 m c t.val) (if cond1 (grid0.coords t) = 1#1 then k0_pay8 else Y) = dks m c t.val := by
  simp only [cond1_iff]
  exact dks_step m c t.val _ h.2.1

theorem v_eq (c : Dev nD) (t : Fin cfg0.N) {X : Vec F S8x4x1024x128 .f32} {Y Z : Vec F S768x128 .f32} (h : Inv m c t.val X Y Z) :
    dvS (ib0 m c t.val) (ib1 m c t.val) (ib4 m c t.val) (ib5 m c t.val) (if cond1 (grid0.coords t) = 1#1 then k0_pay9 else Z) = dvs m c t.val := by
  simp only [cond1_iff]
  exact dvs_step m c t.val _ h.2.2

theorem inv_succ (c : Dev nD) (t : Fin cfg0.N) {X d : Vec F S8x4x1024x128 .f32} {Y Z : Vec F S768x128 .f32} (h : Inv m c t.val X Y Z)
    (hd : slotsAfter (grid0.coords t) (ib0 m c t.val) (ib1 m c t.val) (ib2 m c t.val) (ib3 m c t.val) (ib4 m c t.val) (ib5 m c t.val) X d) : Inv m c (t.val + 1) d (dks m c t.val) (dvs m c t.val) := by
  refine ⟨fun n' h1 h2 s hs g => ?_, fun _ => rfl, fun _ => rfl⟩
  by_cases e : n' = t.val
  · subst e
    have hs' : s = slotOf (grid0.coords t) := Fin.ext (by rw [hs, coord2])
    rw [hs', hd.1 g, q_eq m c t h]
  · have hne : s ≠ slotOf (grid0.coords t) := fun hh => by
      have := congrArg Fin.val hh
      rw [hs, coord2] at this
      omega
    rw [hd.2 s hne g]
    exact h.1 n' (by omega) (by omega) s hs g

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOut (dqs m c t.val)
    | ⟨7, _⟩ => k0_pay3 (dks m c t.val)
    | ⟨8, _⟩ => dvs m c t.val
  Φ t := PhiN m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiN m c t.val := by
  dsimp only [dats]; rfl

theorem Phi_succ (c : Dev nD) (t : Fin cfg0.N) : (dats m 0 c).Φ t.succ = PhiN m c (t.val + 1) := by
  dsimp only [dats]; rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dqOut (dqs m c t.val) := by dsimp only [dats]
theorem after7 (c : Dev nD) (t : Fin cfg0.N) : (dats m 0 c).after 7 t = k0_pay3 (dks m c t.val) := by dsimp only [dats]
theorem after8 (c : Dev nD) (t : Fin cfg0.N) : (dats m 0 c).after 8 t = dvs m c t.val := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## Where the outputs are live -/

theorem live6 : ∀ t : Fin cfg0.N, t.val / 8 % 11 = 10 → cfg0.idle 6 (grid0.coords t) = false := by decide +kernel
theorem idle6 : ∀ t : Fin cfg0.N, ¬ t.val / 8 % 11 = 10 → cfg0.idle 6 (grid0.coords t) = true := by decide +kernel
theorem noFlush6 : ∀ t : Fin cfg0.N, ¬ t.val / 8 % 11 = 10 → (cfg0.win 6).flush t = false := by decide +kernel
theorem live7 : ∀ t : Fin cfg0.N, t.val % 8 = 7 → cfg0.idle 7 (grid0.coords t) = false := by decide +kernel
theorem idle7 : ∀ t : Fin cfg0.N, ¬ t.val % 8 = 7 → cfg0.idle 7 (grid0.coords t) = true := by decide +kernel
theorem noFlush7 : ∀ t : Fin cfg0.N, ¬ t.val % 8 = 7 → (cfg0.win 7).flush t = false := by decide +kernel
theorem live8 : ∀ t : Fin cfg0.N, t.val % 8 = 7 → cfg0.idle 8 (grid0.coords t) = false := by decide +kernel
theorem idle8 : ∀ t : Fin cfg0.N, ¬ t.val % 8 = 7 → cfg0.idle 8 (grid0.coords t) = true := by decide +kernel
theorem noFlush8 : ∀ t : Fin cfg0.N, ¬ t.val % 8 = 7 → (cfg0.win 8).flush t = false := by decide +kernel
theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after5]
/-- What the body leaves in output 6's block is what the data say. -/
theorem leaves6 (c : Dev nD) (t : Fin cfg0.N) (d) :
    (owns (c : Thread nD τ) (ms6 t) fullShare (if k0_cond4 (grid0.coords t) = 1#1 then dqOut (dqs m c t.val) else (dats m 0 c).before 6 t d) : sProp 𝕄)
      ⊢ (dats m 0 c).leavesExact 6 t := by
  by_cases h : t.val / 8 % 11 = 10
  · rw [if_pos ((k0_cond4_iff t).mpr h), show (dats m 0 c).leavesExact 6 t = owns (c : Thread nD τ) (ms6 t) fullShare ((dats m 0 c).after 6 t) from by
      unfold Dat.leavesExact; rw [live6 t h], after6]
  · rw [if_neg (fun h' => h ((k0_cond4_iff t).mp h')), Dat.leavesExact_idle (dats m 0 c) 6 t (idle6 t h) (noFlush6 t h)]
    iintro H
    iexists d
    iexact H
/-- What the body leaves in output 7's block is what the data say. -/
theorem leaves7 (c : Dev nD) (t : Fin cfg0.N) (d) :
    (owns (c : Thread nD τ) (ms7 t) fullShare (if k0_cond3 (grid0.coords t) = 1#1 then k0_pay3 (dks m c t.val) else (dats m 0 c).before 7 t d) : sProp 𝕄)
      ⊢ (dats m 0 c).leavesExact 7 t := by
  by_cases h : t.val % 8 = 7
  · rw [if_pos ((k0_cond3_iff t).mpr h), show (dats m 0 c).leavesExact 7 t = owns (c : Thread nD τ) (ms7 t) fullShare ((dats m 0 c).after 7 t) from by
      unfold Dat.leavesExact; rw [live7 t h], after7]
  · rw [if_neg (fun h' => h ((k0_cond3_iff t).mp h')), Dat.leavesExact_idle (dats m 0 c) 7 t (idle7 t h) (noFlush7 t h)]
    iintro H
    iexists d
    iexact H
/-- What the body leaves in output 8's block is what the data say. -/
theorem leaves8 (c : Dev nD) (t : Fin cfg0.N) (d) :
    (owns (c : Thread nD τ) (ms8 t) fullShare (if k0_cond3 (grid0.coords t) = 1#1 then dvs m c t.val else (dats m 0 c).before 8 t d) : sProp 𝕄)
      ⊢ (dats m 0 c).leavesExact 8 t := by
  by_cases h : t.val % 8 = 7
  · rw [if_pos ((k0_cond3_iff t).mpr h), show (dats m 0 c).leavesExact 8 t = owns (c : Thread nD τ) (ms8 t) fullShare ((dats m 0 c).after 8 t) from by
      unfold Dat.leavesExact; rw [live8 t h], after8]
  · rw [if_neg (fun h' => h ((k0_cond3_iff t).mp h')), Dat.leavesExact_idle (dats m 0 c) 8 t (idle8 t h) (noFlush8 t h)]
    iintro H
    iexists d
    iexact H

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl, Phi_castSucc, Phi_succ,
    leaves0, leaves1, leaves2, leaves3, leaves4, leaves5, ib0_eq, ib1_eq, ib2_eq, ib3_eq, ib4_eq, ib5_eq]
  unfold PhiN
  iintro ⟨⟨%X, %Y, %Z, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _)
    (ib0 m c t.val) (ib1 m c t.val) (ib2 m c t.val) (ib3 m c t.val) (ib4 m c t.val) (ib5 m c t.val) ((dats m 0 c).before 6 t d6) ((dats m 0 c).before 7 t d7) ((dats m 0 c).before 8 t d8) X Y Z Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  rw [q_eq m c t hI, k_eq m c t hI, v_eq m c t hI]
  iintro ⟨H0, H1, H2, H3, H4, H5, H6, H7, H8, ⟨%d, %hd, HS0⟩, HS1, HS2⟩
  isplitl [HS0 HS1 HS2 Hg]
  · iexists d
    iexists (dks m c t.val)
    iexists (dvs m c t.val)
    isplitr
    · ipureintro; exact inv_succ m c t hI hd
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply leaves6 m c t d6 $$ H6
  isplitl [H7]; · iapply leaves7 m c t d7 $$ H7
  iapply leaves8 m c t d8 $$ H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiN m c 0 from rfl, PhiA_eq]
  unfold PhiN
  iintro ⟨⟨⟨%X, HS0⟩, ⟨%Y, HS1⟩, ⟨%Z, HS2⟩⟩, Hg⟩
  iexists X
  iexists Y
  iexists Z
  isplitr
  · ipureintro; exact inv_zero m c X Y Z
  isplitl [HS0 HS1 HS2]
  · isplitl [HS0]; · iexact HS0
    isplitl [HS1]; · iexact HS1
    iexact HS2
  iexact Hg

theorem hout (c : Dev nD) : (dats m 0 c).Φ (Fin.last cfg0.N) ⊢ Pipeline.ΦA spec0 c := by
  rw [show (dats m 0 c).Φ (Fin.last cfg0.N) = PhiN m c (Fin.last cfg0.N).val from rfl, PhiA_eq]
  unfold PhiN
  iintro ⟨%X, %Y, %Z, %hI, ⟨HS0, HS1, HS2⟩, Hg⟩
  isplitl [HS0 HS1 HS2]
  · isplitl [HS0]
    · iexists X; iexact HS0
    isplitl [HS1]
    · iexists Y; iexact HS1
    iexists Z; iexact HS2
  iexact Hg

/-! ## The run and the frame -/

set_option backward.isDefEq.respectTransparency.types false in
/-- The launch: every array of the pipeline at what the data say, every other buffer as found, every counter at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (launch m ρ)

/-- The frame: the arguments end as they began and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (launch m ρ))

end Cert.KernelIdeal.Hand

end
-- ==== Proof.WordRun.lean ====
/- The backward pass's frame over words, taken from the run proved over any float values. The two programs differ in one
   constant, which the program over the reals names: with a name standing for its word, they are the same program. -/
module

public import proofs.«01_k».proof.Proof.Run
public import proofs.«01_k».proof.Proof.Gen.Kernel.Frame
public import Idealize.ShloMosaic.PureOps.BitExact

@[expose] public section

set_option maxRecDepth 16384
set_option maxHeartbeats 4000000
set_option backward.isDefEq.respectTransparency false
set_option backward.isDefEq.respectTransparency.types false

noncomputable section

namespace Cert.KernelIdeal.Hand

open Cert.KernelIdeal Idealize.ShloMosaic Idealize.SL.Sem

/-- Over words a named constant is its word. -/
@[reducible] def namedWord : Named Bits where
  named _ _ {φ} w := Scalar.ofBits (F := Bits) φ w

/-- The two kernels' bodies are the same, -/
theorem body_word : Cert.Kernel.defs₀ (F := Bits) = (letI := namedWord; defs₀ (F := Bits)) := by
  unfold Cert.Kernel.defs₀ defs₀
  refine congrArg Defs.onTc (funext fun l => funext fun a => ?_)
  match l, a with
  | 0, (t, s) => rfl

/-- and so are the two programs' tables. -/
theorem defs_word : Cert.Kernel.defs (F := Bits) = (letI := namedWord; defs (F := Bits)) :=
  congrArg (Pipeline.defs (Cert.Kernel.pcfgs (F := Bits))) body_word

theorem frame_word (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_word]
  exact letI := namedWord; frame (F := Bits) m ρ

end Cert.KernelIdeal.Hand
-- ==== Proof.Spec.lean ====
/- Attention's three gradients as real numbers, two kv heads of four query heads each, and the rewriting of the softmax both programs
   rest on: shifted by any real it is unchanged, and it is a power of two. -/
module

public import Idealize.ShloMosaic.PureOps.Ideal.Laws
public import Idealize.ShloMosaic.Lib.ValueIdx

@[expose] public section

noncomputable section

namespace Cert.Attn

open Idealize.ShloMosaic

/-- Column of query head `g` of kv head `h`, lane `d`. -/
def qc (h : Fin 2) (g : Fin 4) (d : Fin 128) : Fin 1024 := ⟨512 * h.val + 128 * g.val + d.val, by omega⟩
/-- Column of kv head `h`, lane `d`. -/
def kc (h : Fin 2) (d : Fin 128) : Fin 256 := ⟨128 * h.val + d.val, by omega⟩

theorem qc_surj (c : Fin 1024) : ∃ h g d, c = qc h g d :=
  ⟨⟨c.val / 512, by omega⟩, ⟨c.val / 128 % 4, by omega⟩, ⟨c.val % 128, by omega⟩, Fin.ext (by
    show c.val = 512 * (c.val / 512) + 128 * (c.val / 128 % 4) + c.val % 128; omega)⟩
theorem kc_surj (c : Fin 256) : ∃ h d, c = kc h d :=
  ⟨⟨c.val / 128, by omega⟩, ⟨c.val % 128, by omega⟩, Fin.ext (by
    show c.val = 128 * (c.val / 128) + c.val % 128; omega)⟩

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals. -/
theorem sum_mul_coe {ι : Type*} [Fintype ι] {f g : ι → EReal} {f' g' : ι → ℝ} (hf : ∀ i, f i = (f' i : EReal)) (hg : ∀ i, g i = (g' i : EReal)) :
    ∑ i, f i * g i = ((∑ i, f' i * g' i : ℝ) : EReal) := by
  rw [coe_sum]; exact Finset.sum_congr rfl fun i _ => by rw [hf, hg, EReal.coe_mul]

/-- A sum of reals. -/
theorem sum_coe {ι : Type*} [Fintype ι] {f : ι → EReal} {f' : ι → ℝ} (hf : ∀ i, f i = (f' i : EReal)) :
    ∑ i, f i = ((∑ i, f' i : ℝ) : EReal) := by
  rw [coe_sum]; exact Finset.sum_congr rfl fun i _ => hf i

/-- A quotient of reals. -/
theorem div_coe_coe (a b : ℝ) (hb : b ≠ 0) : Ideal.div (a : EReal) (b : EReal) = ((a / b : ℝ) : EReal) := by
  rw [Ideal.div_coe hb, ← EReal.coe_mul, mul_one_div]

/-- The factor the queries are scaled by: the value of its word. -/
def σ : ℝ := (Ideal.ofBits .f32 0x3DB504F3#32).toReal

theorem ofBits_σ : Ideal.ofBits .f32 0x3DB504F3#32 = ((σ : ℝ) : EReal) := by
  have h : ∃ r : ℝ, Ideal.ofBits .f32 0x3DB504F3#32 = (r : EReal) := by
    simp [Ideal.ofBits, Ideal.ieee, -EReal.coe_mul]
  obtain ⟨r, hr⟩ := h
  unfold σ
  rw [hr, EReal.toReal_coe]

theorem ofBits_two : Ideal.ofBits .f32 0x40000000#32 = ((2 : ℝ) : EReal) := by
  simp [Ideal.ofBits, Ideal.ieee, -EReal.coe_mul]; norm_num

theorem ofBits_ninf : Ideal.ofBits .f32 0xFF800000#32 = ⊥ := by
  simp [Ideal.ofBits, Ideal.ieee]

section Gradients
variable (a0 : Fin 8192 → Fin 1024 → ℝ) (a1 a2 : Fin 8448 → Fin 256 → ℝ) (a3 : Fin 8192 → Fin 1024 → ℝ)

/-- The score of key `j` for query `i`. -/
def sc (h : Fin 2) (g : Fin 4) (i : Fin 8192) (j : Fin 8448) : ℝ := ∑ d, a1 j (kc h d) * (a0 i (qc h g d) * σ)
/-- The softmax's weight of key `j` for query `i`. -/
def wt (h : Fin 2) (g : Fin 4) (i : Fin 8192) (j : Fin 8448) : ℝ := Real.exp (sc a0 a1 h g i j) / ∑ j', Real.exp (sc a0 a1 h g i j')
/-- The weight's gradient. -/
def dp (h : Fin 2) (g : Fin 4) (i : Fin 8192) (j : Fin 8448) : ℝ := ∑ d, a3 i (qc h g d) * a2 j (kc h d)
/-- The row sum the softmax's gradient subtracts. -/
def dlt (h : Fin 2) (g : Fin 4) (i : Fin 8192) : ℝ := ∑ j, wt a0 a1 h g i j * dp a2 a3 h g i j
/-- The score's gradient. -/
def dsc (h : Fin 2) (g : Fin 4) (i : Fin 8192) (j : Fin 8448) : ℝ := wt a0 a1 h g i j * (dp a2 a3 h g i j - dlt a0 a1 a2 a3 h g i)
/-- The scaled queries' gradient. -/
def dQ (h : Fin 2) (g : Fin 4) (i : Fin 8192) (d : Fin 128) : ℝ := ∑ j, dsc a0 a1 a2 a3 h g i j * a1 j (kc h d)
/-- The keys' gradient. -/
def dK (h : Fin 2) (j : Fin 8448) (d : Fin 128) : ℝ := ∑ i, ∑ g, dsc a0 a1 a2 a3 h g i j * (a0 i (qc h g d) * σ)
/-- The values' gradient. -/
def dV (h : Fin 2) (j : Fin 8448) (d : Fin 128) : ℝ := ∑ i, ∑ g, wt a0 a1 h g i j * a3 i (qc h g d)

/-- The forward pass's output. -/
def out (h : Fin 2) (g : Fin 4) (i : Fin 8192) (d : Fin 128) : ℝ := ∑ j, a2 j (kc h d) * wt a0 a1 h g i j

end Gradients

/-! ## The softmax -/

section Softmax
variable {ι : Type*} [Fintype ι] [Nonempty ι] (s : ι → ℝ) (M : ℝ)

theorem expsum_pos : 0 < ∑ j, Real.exp (s j - M) := Finset.sum_pos (fun _ _ => Real.exp_pos _) Finset.univ_nonempty

theorem expsum_shift : ∑ j, Real.exp (s j - M) = (∑ j, Real.exp (s j)) * Real.exp (-M) := by
  rw [Finset.sum_mul]
  exact Finset.sum_congr rfl fun j _ => by rw [← Real.exp_add, sub_eq_add_neg]

/-- Shifting every score by `M` leaves the weights. -/
theorem softmax_shift (j : ι) : Real.exp (s j - M) / ∑ j', Real.exp (s j' - M) = Real.exp (s j) / ∑ j', Real.exp (s j') := by
  rw [expsum_shift, sub_eq_add_neg, Real.exp_add]
  exact mul_div_mul_right _ _ (Real.exp_pos _).ne'

/-- The weights as powers of two of the scores over `log 2`, less the log-sum-exp over `log 2`. -/
theorem softmax_two (j : ι) (t : ℝ) (ht : t = s j / Real.log 2) :
    Real.rpow 2 (t - (M + Real.log (∑ j', Real.exp (s j' - M))) / Real.log 2) = Real.exp (s j) / ∑ j', Real.exp (s j') := by
  have h2 : Real.log 2 ≠ 0 := (Real.log_pos (by norm_num)).ne'
  have hp : 0 < ∑ j', Real.exp (s j' - M) := expsum_pos s M
  rw [← softmax_shift s M j, ht, ← sub_div]
  show (2 : ℝ) ^ ((s j - (M + Real.log (∑ j', Real.exp (s j' - M)))) / Real.log 2) = _
  rw [Real.rpow_def_of_pos (by norm_num), mul_div_cancel₀ _ h2, ← sub_sub, Real.exp_sub, Real.exp_log hp]

end Softmax

/-- The row sum of `do · o` is the row sum of the weights with their gradients. -/
theorem rowsum_out (a0 : Fin 8192 → Fin 1024 → ℝ) (a1 a2 : Fin 8448 → Fin 256 → ℝ) (a3 : Fin 8192 → Fin 1024 → ℝ)
    (h : Fin 2) (g : Fin 4) (i : Fin 8192) : ∑ d, a3 i (qc h g d) * out a0 a1 a2 h g i d = dlt a0 a1 a2 a3 h g i := by
  unfold out dlt dp
  simp only [Finset.mul_sum]
  rw [Finset.sum_comm]
  exact Finset.sum_congr rfl fun j _ => Finset.sum_congr rfl fun d _ => by ring

end Cert.Attn
-- ==== Proof.RefValue.lean ====
/- The reference read as real numbers: on real arguments each of its stages is a real array, and its three results are the gradients of
   Spec.lean. -/
module

public import proofs.«01_k».proof.Proof.Spec
public import proofs.«01_k».proof.Proof.Gen.ReferenceIdeal.Read
public import Idealize.ShloMosaic.Lib.TwoAxisContraction
public import Idealize.ShloMosaic.Lib.IdealHost

@[expose] public section

noncomputable section

namespace Cert.Attn.Ref

open Cert.ReferenceIdeal Cert.ReferenceIdeal.Gen Cert.ReferenceIdeal.Read
open Idealize.ShloMosaic Idealize.ShloMosaic.ValueIdx

/-! ## A maximum of reals -/

theorem foldl_max_coe {ι : Type*} (f : ι → EReal) (hf : ∀ i, ∃ r : ℝ, f i = (r : EReal)) (L : List ι) (r : ℝ) :
    ∃ r' : ℝ, L.foldl (fun a i => max a (f i)) (r : EReal) = (r' : EReal) := by
  induction L generalizing r with
  | nil => exact ⟨r, rfl⟩
  | cons i L ih =>
    obtain ⟨x, hx⟩ := hf i
    rw [List.foldl_cons, hx, ← EReal.coe_strictMono.monotone.map_max]
    exact ih _

theorem foldl_max_bot {ι : Type*} (f : ι → EReal) (hf : ∀ i, ∃ r : ℝ, f i = (r : EReal)) (L : List ι) (hL : L ≠ []) :
    ∃ r' : ℝ, L.foldl (fun a i => max a (f i)) ⊥ = (r' : EReal) := by
  match L, hL with
  | i :: L, _ =>
    obtain ⟨x, hx⟩ := hf i
    rw [List.foldl_cons, hx, max_eq_right bot_le]
    exact foldl_max_coe f hf L x

section
variable (x0 : (⟨S8192x1024, .f32⟩ : BufTy).Contents (Elt Ideal)) (x1 x2 : (⟨S8448x256, .f32⟩ : BufTy).Contents (Elt Ideal)) (x3 : (⟨S8192x1024, .f32⟩ : BufTy).Contents (Elt Ideal))
variable (a0 : Fin 8192 → Fin 1024 → ℝ) (a1 a2 : Fin 8448 → Fin 256 → ℝ) (a3 : Fin 8192 → Fin 1024 → ℝ)

/-! ## The operands -/

theorem v2_at (h0 : ∀ i c, x0 (ix2 i c) = (a0 i c : EReal)) (i : Fin 8192) (h : Fin 2) (g : Fin 4) (d : Fin 128) :
    val_main_v2 (F := Ideal) x0 (ix4 i h g d) = ((a0 i (qc h g d) * σ : ℝ) : EReal) := by
  rw [val_main_v2_apply, val_main_v1_apply, val_main_v0_apply]
  show x0 (idx_main_v2 (ix4 i h g d)) * Ideal.ofBits .f32 0x3DB504F3#32 = _
  have e : idx_main_v2 (ix4 i h g d) = ix2 i (qc h g d) := funext fun a => Fin.ext (by
    match a with
    | ⟨0, _⟩ => show (((i.val * 2 + h.val) * 4 + g.val) * 128 + d.val) / 1024 = i.val; omega
    | ⟨1, _⟩ => show (((i.val * 2 + h.val) * 4 + g.val) * 128 + d.val) % 1024 = 512 * h.val + 128 * g.val + d.val; omega)
  rw [e, h0, ofBits_σ, EReal.coe_mul]

theorem v3_at (h1 : ∀ j c, x1 (ix2 j c) = (a1 j c : EReal)) (j : Fin 8448) (h : Fin 2) (d : Fin 128) :
    val_main_v3 (F := Ideal) x1 (ix3 j h d) = ((a1 j (kc h d) : ℝ) : EReal) := by
  rw [val_main_v3_apply]
  have e : idx_main_v3 (ix3 j h d) = ix2 j (kc h d) := funext fun a => Fin.ext (by
    match a with
    | ⟨0, _⟩ => show ((j.val * 2 + h.val) * 128 + d.val) / 256 = j.val; omega
    | ⟨1, _⟩ => show ((j.val * 2 + h.val) * 128 + d.val) % 256 = 128 * h.val + d.val; omega)
  rw [e, h1]

theorem v4_at (h2 : ∀ j c, x2 (ix2 j c) = (a2 j c : EReal)) (j : Fin 8448) (h : Fin 2) (d : Fin 128) :
    val_main_v4 (F := Ideal) x2 (ix3 j h d) = ((a2 j (kc h d) : ℝ) : EReal) := by
  rw [val_main_v4_apply]
  have e : idx_main_v4 (ix3 j h d) = ix2 j (kc h d) := funext fun a => Fin.ext (by
    match a with
    | ⟨0, _⟩ => show ((j.val * 2 + h.val) * 128 + d.val) / 256 = j.val; omega
    | ⟨1, _⟩ => show ((j.val * 2 + h.val) * 128 + d.val) % 256 = 128 * h.val + d.val; omega)
  rw [e, h2]

theorem v38_at (h3 : ∀ i c, x3 (ix2 i c) = (a3 i c : EReal)) (i : Fin 8192) (h : Fin 2) (g : Fin 4) (d : Fin 128) :
    val_main_v38 (F := Ideal) x3 (ix4 i h g d) = ((a3 i (qc h g d) : ℝ) : EReal) := by
  rw [val_main_v38_apply]
  have e : idx_main_v38 (ix4 i h g d) = ix2 i (qc h g d) := funext fun a => Fin.ext (by
    match a with
    | ⟨0, _⟩ => show (((i.val * 2 + h.val) * 4 + g.val) * 128 + d.val) / 1024 = i.val; omega
    | ⟨1, _⟩ => show (((i.val * 2 + h.val) * 4 + g.val) * 128 + d.val) % 1024 = 512 * h.val + 128 * g.val + d.val; omega)
  rw [e, h3]

theorem v39_at (h3 : ∀ i c, x3 (ix2 i c) = (a3 i c : EReal)) (h : Fin 2) (d : Fin 128) (g : Fin 4) (i : Fin 8192) :
    val_main_v39 (F := Ideal) x3 (ix4 h d g i) = ((a3 i (qc h g d) : ℝ) : EReal) := by
  rw [val_main_v39_apply, show idx_main_v39 (ix4 h d g i) = ix4 i h g d from eq_ix4 _, v38_at x3 a3 h3]

/-! ## The scores -/

theorem v6_at (h0 : ∀ i c, x0 (ix2 i c) = (a0 i c : EReal)) (h1 : ∀ j c, x1 (ix2 j c) = (a1 j c : EReal))
    (h : Fin 2) (g : Fin 4) (i : Fin 8192) (j : Fin 8448) :
    val_main_v6 (F := Ideal) x0 x1 (ix4 h g i j) = ((sc a0 a1 h g i j : ℝ) : EReal) := by
  rw [val_main_v6_apply, val_main_v5_apply]
  refine sum_mul_coe (fun d => ?_) (fun d => ?_)
  · rw [show lidx_main_v5 (idx_main_v6 (ix4 h g i j)) d = ix3 j h d from eq_ix3 _, v3_at x1 a1 h1]
  · rw [show ridx_main_v5 (idx_main_v6 (ix4 h g i j)) d = ix4 i h g d from eq_ix4 _, v2_at x0 a0 h0]

theorem v7_real (h0 : ∀ i c, x0 (ix2 i c) = (a0 i c : EReal)) (h1 : ∀ j c, x1 (ix2 j c) = (a1 j c : EReal))
    (h : Fin 2) (g : Fin 4) (i : Fin 8192) : ∃ M : ℝ, val_main_v7 (F := Ideal) x0 x1 (ix3 h g i) = (M : EReal) := by
  have hb : val_main_cst_0 (F := Ideal) (Shape.Idx.first h_S_) = ⊥ := ofBits_ninf
  have hr : ∀ n, ∃ r : ℝ, val_main_v6 (F := Ideal) x0 x1 (S2x4x8192x8448.rowMajor.symm n) = (r : EReal) := fun n => by
    rw [eq_ix4 (S2x4x8192x8448.rowMajor.symm n)]
    exact ⟨_, v6_at x0 x1 a0 a1 h0 h1 _ _ _ _⟩
  unfold val_main_v7 Host.reduce
  rw [hb]
  refine foldl_max_bot (fun n => val_main_v6 (F := Ideal) x0 x1 (S2x4x8192x8448.rowMajor.symm n)) hr _ ?_
  refine List.ne_nil_of_mem (a := S2x4x8192x8448.rowMajor (ix4 h g i 0)) (List.mem_filter.2 ⟨List.mem_finRange _, ?_⟩)
  rw [Equiv.symm_apply_apply]
  refine decide_eq_true (funext fun a => ?_)
  match a with
  | ⟨0, _⟩ => rfl
  | ⟨1, _⟩ => rfl
  | ⟨2, _⟩ => rfl

/-- The row maximum, as a real. -/
def rowmax (h : Fin 2) (g : Fin 4) (i : Fin 8192) : ℝ := (val_main_v7 (F := Ideal) x0 x1 (ix3 h g i)).toReal

theorem v7_at (h0 : ∀ i c, x0 (ix2 i c) = (a0 i c : EReal)) (h1 : ∀ j c, x1 (ix2 j c) = (a1 j c : EReal))
    (h : Fin 2) (g : Fin 4) (i : Fin 8192) : val_main_v7 (F := Ideal) x0 x1 (ix3 h g i) = ((rowmax x0 x1 h g i : ℝ) : EReal) := by
  obtain ⟨M, hM⟩ := v7_real x0 x1 a0 a1 h0 h1 h g i
  unfold rowmax
  rw [hM, EReal.toReal_coe]

theorem v14_at (h0 : ∀ i c, x0 (ix2 i c) = (a0 i c : EReal)) (h1 : ∀ j c, x1 (ix2 j c) = (a1 j c : EReal))
    (h : Fin 2) (g : Fin 4) (i : Fin 8192) : val_main_v14 (F := Ideal) x0 x1 (ix3 h g i) = ((rowmax x0 x1 h g i : ℝ) : EReal) := by
  rw [val_main_v14_apply, val_main_v13_apply, v7_at x0 x1 a0 a1 h0 h1]
  show max (Ideal.ofBits .f32 0xFF800000#32) _ = _
  rw [ofBits_ninf, max_eq_right bot_le]

/-! ## The softmax -/

/-- The exponential of a shifted score. -/
def ex (h : Fin 2) (g : Fin 4) (i : Fin 8192) (j : Fin 8448) : ℝ := Real.exp (sc a0 a1 h g i j - rowmax x0 x1 h g i)
/-- Their row sum. -/
def ll (h : Fin 2) (g : Fin 4) (i : Fin 8192) : ℝ := ∑ j, ex x0 x1 a0 a1 h g i j

theorem ll_pos (h : Fin 2) (g : Fin 4) (i : Fin 8192) : 0 < ll x0 x1 a0 a1 h g i := expsum_pos _ _

theorem ex_div (h : Fin 2) (g : Fin 4) (i : Fin 8192) (j : Fin 8448) : ex x0 x1 a0 a1 h g i j / ll x0 x1 a0 a1 h g i = wt a0 a1 h g i j :=
  softmax_shift (fun j => sc a0 a1 h g i j) (rowmax x0 x1 h g i) j

theorem v27_at (h0 : ∀ i c, x0 (ix2 i c) = (a0 i c : EReal)) (h1 : ∀ j c, x1 (ix2 j c) = (a1 j c : EReal))
    (h : Fin 2) (g : Fin 4) (i : Fin 8192) (j : Fin 8448) :
    val_main_v27 (F := Ideal) x0 x1 (ix4 h g i j) = ((ex x0 x1 a0 a1 h g i j : ℝ) : EReal) := by
  rw [val_main_v27_apply, val_main_v26_apply, val_main_v25_apply, val_main_v24_apply,
    show idx_main_v24 (idx_main_v25 (ix4 h g i j)) = ix3 h g i from eq_ix3 _, v14_at x0 x1 a0 a1 h0 h1, v6_at x0 x1 a0 a1 h0 h1]
  show Ideal.exp (((sc a0 a1 h g i j : ℝ) : EReal) - ((rowmax x0 x1 h g i : ℝ) : EReal)) = _
  rw [← EReal.coe_sub, Ideal.exp_coe]
  rfl

theorem v28_at (h0 : ∀ i c, x0 (ix2 i c) = (a0 i c : EReal)) (h1 : ∀ j c, x1 (ix2 j c) = (a1 j c : EReal))
    (h : Fin 2) (g : Fin 4) (i : Fin 8192) : val_main_v28 (F := Ideal) x0 x1 (ix3 h g i) = ((ll x0 x1 a0 a1 h g i : ℝ) : EReal) := by
  rw [val_main_v28_apply]
  show Ideal.ofBits .f32 0x00000000#32 + _ = _
  rw [Ideal.ofBits_zero_f32, zero_add]
  refine sum_coe fun j => ?_
  rw [show idx_main_v28 (ix3 h g i) j = ix4 h g i j from eq_ix4 _, v27_at x0 x1 a0 a1 h0 h1]

theorem v29_at (h0 : ∀ i c, x0 (ix2 i c) = (a0 i c : EReal)) (h1 : ∀ j c, x1 (ix2 j c) = (a1 j c : EReal))
    (h : Fin 2) (g : Fin 4) (i : Fin 8192) (z : Fin 1) : val_main_v29 (F := Ideal) x0 x1 (ix4 h g i z) = ((ll x0 x1 a0 a1 h g i : ℝ) : EReal) := by
  rw [val_main_v29_apply, show idx_main_v29 (ix4 h g i z) = ix3 h g i from eq_ix3 _, v28_at x0 x1 a0 a1 h0 h1]

theorem v31_at (h0 : ∀ i c, x0 (ix2 i c) = (a0 i c : EReal)) (h1 : ∀ j c, x1 (ix2 j c) = (a1 j c : EReal))
    (h : Fin 2) (g : Fin 4) (i : Fin 8192) (j : Fin 8448) :
    val_main_v31 (F := Ideal) x0 x1 (ix4 h g i j) = ((wt a0 a1 h g i j : ℝ) : EReal) := by
  rw [val_main_v31_apply, val_main_v30_apply, show idx_main_v30 (ix4 h g i j) = ix4 h g i 0 from eq_ix4 _, v29_at x0 x1 a0 a1 h0 h1,
    v27_at x0 x1 a0 a1 h0 h1]
  show Ideal.div _ _ = _
  rw [div_coe_coe _ _ (ll_pos x0 x1 a0 a1 h g i).ne', ex_div]

/-! ## The scores' gradient -/

theorem v40_at (h2 : ∀ j c, x2 (ix2 j c) = (a2 j c : EReal)) (h3 : ∀ i c, x3 (ix2 i c) = (a3 i c : EReal))
    (h : Fin 2) (g : Fin 4) (i : Fin 8192) (j : Fin 8448) :
    val_main_v40 (F := Ideal) x2 x3 (ix4 h g i j) = ((dp a2 a3 h g i j : ℝ) : EReal) := by
  rw [val_main_v40_apply]
  refine sum_mul_coe (fun d => ?_) (fun d => ?_)
  · rw [show lidx_main_v40 (ix4 h g i j) d = ix4 h d g i from eq_ix4 _, v39_at x3 a3 h3]
  · rw [show ridx_main_v40 (ix4 h g i j) d = ix3 j h d from eq_ix3 _, v4_at x2 a2 h2]

theorem v48_at (h0 : ∀ i c, x0 (ix2 i c) = (a0 i c : EReal)) (h1 : ∀ j c, x1 (ix2 j c) = (a1 j c : EReal))
    (h2 : ∀ j c, x2 (ix2 j c) = (a2 j c : EReal)) (h3 : ∀ i c, x3 (ix2 i c) = (a3 i c : EReal)) (h : Fin 2) (g : Fin 4) (i : Fin 8192) (z : Fin 1) :
    val_main_v48 (F := Ideal) x0 x1 x2 x3 (ix4 h g i z) = ((-(dlt a0 a1 a2 a3 h g i / ll x0 x1 a0 a1 h g i) : ℝ) : EReal) := by
  have hl : ll x0 x1 a0 a1 h g i ≠ 0 := (ll_pos x0 x1 a0 a1 h g i).ne'
  rw [val_main_v48_apply, val_main_v47_apply]
  have e : idx_main_v47 (ix4 h g i z) = ix3 h g i := funext fun a => Fin.ext (by
    match a with
    | ⟨0, _⟩ => show (((h.val * 4 + g.val) * 8192 + i.val) * 1 + z.val) / 32768 = h.val; omega
    | ⟨1, _⟩ => show (((h.val * 4 + g.val) * 8192 + i.val) * 1 + z.val) / 8192 % 4 = g.val; omega
    | ⟨2, _⟩ => show (((h.val * 4 + g.val) * 8192 + i.val) * 1 + z.val) % 8192 = i.val; omega)
  rw [e, val_main_v46_apply]
  have hs : ∑ j : Fin 8448, val_main_v45 (F := Ideal) x0 x1 x2 x3 (idx_main_v46 (ix3 h g i) j)
      = ((∑ j, dp a2 a3 h g i j * (1 / (ll x0 x1 a0 a1 h g i * ll x0 x1 a0 a1 h g i)) * ex x0 x1 a0 a1 h g i j : ℝ) : EReal) := by
    refine sum_coe fun j => ?_
    rw [show idx_main_v46 (ix3 h g i) j = ix4 h g i j from eq_ix4 _, val_main_v45_apply, val_main_v44_apply, val_main_v43_apply,
      show idx_main_v43 (ix4 h g i j) = ix4 h g i 0 from eq_ix4 _, val_main_v34_apply, val_main_v33_apply, val_main_v32_apply,
      v29_at x0 x1 a0 a1 h0 h1, v40_at x2 x3 a2 a3 h2 h3, v27_at x0 x1 a0 a1 h0 h1]
    show ((dp a2 a3 h g i j : ℝ) : EReal) * Ideal.div (Ideal.ofBits .f32 0x3F800000#32)
      (((ll x0 x1 a0 a1 h g i : ℝ) : EReal) * ((ll x0 x1 a0 a1 h g i : ℝ) : EReal)) * ((ex x0 x1 a0 a1 h g i j : ℝ) : EReal) = _
    rw [Ideal.ofBits_one_f32, ← EReal.coe_mul, show (1 : EReal) = ((1 : ℝ) : EReal) from rfl, div_coe_coe _ _ (mul_ne_zero hl hl),
      ← EReal.coe_mul, ← EReal.coe_mul]
  rw [hs]
  show -(Ideal.ofBits .f32 0x00000000#32 + _) = _
  rw [Ideal.ofBits_zero_f32, zero_add, ← EReal.coe_neg]
  refine congrArg _ (congrArg _ ?_)
  unfold dlt
  rw [Finset.sum_div]
  refine Finset.sum_congr rfl fun j _ => ?_
  rw [← ex_div x0 x1]
  field_simp

theorem v54_at (h0 : ∀ i c, x0 (ix2 i c) = (a0 i c : EReal)) (h1 : ∀ j c, x1 (ix2 j c) = (a1 j c : EReal))
    (h2 : ∀ j c, x2 (ix2 j c) = (a2 j c : EReal)) (h3 : ∀ i c, x3 (ix2 i c) = (a3 i c : EReal)) (h : Fin 2) (g : Fin 4) (i : Fin 8192) (j : Fin 8448) :
    val_main_v54 (F := Ideal) x0 x1 x2 x3 (ix4 h g i j) = ((dsc a0 a1 a2 a3 h g i j : ℝ) : EReal) := by
  have hl : ll x0 x1 a0 a1 h g i ≠ 0 := (ll_pos x0 x1 a0 a1 h g i).ne'
  have hs : ∑ z : Fin 1, val_main_v48 (F := Ideal) x0 x1 x2 x3 (idx_main_v51 (ix3 h g i) z)
      = ((-(dlt a0 a1 a2 a3 h g i / ll x0 x1 a0 a1 h g i) : ℝ) : EReal) := by
    rw [Fin.sum_univ_one, show idx_main_v51 (ix3 h g i) 0 = ix4 h g i 0 from eq_ix4 _, v48_at x0 x1 x2 x3 a0 a1 a2 a3 h0 h1 h2 h3]
  rw [val_main_v54_apply, val_main_v53_apply, val_main_v52_apply, show idx_main_v52 (ix4 h g i j) = ix3 h g i from eq_ix3 _,
    val_main_v51_apply, hs, val_main_v50_apply, val_main_v49_apply, show idx_main_v49 (ix4 h g i j) = ix4 h g i 0 from eq_ix4 _,
    v29_at x0 x1 a0 a1 h0 h1, v40_at x2 x3 a2 a3 h2 h3, v27_at x0 x1 a0 a1 h0 h1]
  show (Ideal.div ((dp a2 a3 h g i j : ℝ) : EReal) ((ll x0 x1 a0 a1 h g i : ℝ) : EReal)
    + (Ideal.ofBits .f32 0x00000000#32 + ((-(dlt a0 a1 a2 a3 h g i / ll x0 x1 a0 a1 h g i) : ℝ) : EReal))) * ((ex x0 x1 a0 a1 h g i j : ℝ) : EReal) = _
  rw [Ideal.ofBits_zero_f32, zero_add, div_coe_coe _ _ hl, ← EReal.coe_add, ← EReal.coe_mul]
  refine congrArg _ ?_
  unfold dsc
  rw [← ex_div x0 x1]
  field_simp
  ring

/-! ## The three results -/

theorem v62_at (h0 : ∀ i c, x0 (ix2 i c) = (a0 i c : EReal)) (h1 : ∀ j c, x1 (ix2 j c) = (a1 j c : EReal))
    (h2 : ∀ j c, x2 (ix2 j c) = (a2 j c : EReal)) (h3 : ∀ i c, x3 (ix2 i c) = (a3 i c : EReal)) (i : Fin 8192) (h : Fin 2) (g : Fin 4) (d : Fin 128) :
    val_main_v62 (F := Ideal) x0 x1 x2 x3 (ix2 i (qc h g d)) = ((dQ a0 a1 a2 a3 h g i d : ℝ) : EReal) := by
  have e : idx_main_v62 (ix2 i (qc h g d)) = ix4 i h g d := funext fun a => Fin.ext (by
    match a with
    | ⟨0, _⟩ => show (i.val * 1024 + (512 * h.val + 128 * g.val + d.val)) / 1024 = i.val; omega
    | ⟨1, _⟩ => show (i.val * 1024 + (512 * h.val + 128 * g.val + d.val)) / 512 % 2 = h.val; omega
    | ⟨2, _⟩ => show (i.val * 1024 + (512 * h.val + 128 * g.val + d.val)) / 128 % 4 = g.val; omega
    | ⟨3, _⟩ => show (i.val * 1024 + (512 * h.val + 128 * g.val + d.val)) % 128 = d.val; omega)
  rw [val_main_v62_apply, e, val_main_v57_apply, show idx_main_v57 (ix4 i h g d) = ix4 h i g d from eq_ix4 _, val_main_v56_apply]
  refine sum_mul_coe (fun j => ?_) (fun j => ?_)
  · rw [show lidx_main_v56 (ix4 h i g d) j = ix4 h j i g from eq_ix4 _, val_main_v55_apply,
      show idx_main_v55 (ix4 h j i g) = ix4 h g i j from eq_ix4 _, v54_at x0 x1 x2 x3 a0 a1 a2 a3 h0 h1 h2 h3]
  · rw [show ridx_main_v56 (ix4 h i g d) j = ix3 j h d from eq_ix3 _, v3_at x1 a1 h1]

theorem v58_at (h0 : ∀ i c, x0 (ix2 i c) = (a0 i c : EReal)) (h1 : ∀ j c, x1 (ix2 j c) = (a1 j c : EReal))
    (h2 : ∀ j c, x2 (ix2 j c) = (a2 j c : EReal)) (h3 : ∀ i c, x3 (ix2 i c) = (a3 i c : EReal)) (h : Fin 2) (j : Fin 8448) (d : Fin 128) :
    val_main_v58 (F := Ideal) x0 x1 x2 x3 (ix3 h j d) = ((dK a0 a1 a2 a3 h j d : ℝ) : EReal) := by
  unfold val_main_v58 Host.dotGeneral
  rw [Ideal.dotGeneral_apply, sum_contr2 dot_S2x8448x8192x4_S8192x2x4x128_S2x8448x128_23_02_1_3_0_1 8192 4 rfl rfl rfl]
  refine sum_coe fun i => sum_mul_coe (fun g => ?_) (fun g => ?_)
  · have k0 := contrEquiv2_symm_val0 dot_S2x8448x8192x4_S8192x2x4x128_S2x8448x128_23_02_1_3_0_1 8192 4 rfl rfl rfl (i, g)
    have k1 := contrEquiv2_symm_val1 dot_S2x8448x8192x4_S8192x2x4x128_S2x8448x128_23_02_1_3_0_1 8192 4 rfl rfl rfl (i, g)
    have e : dot_S2x8448x8192x4_S8192x2x4x128_S2x8448x128_23_02_1_3_0_1.lhsIdx (ix3 h j d)
        ((contrEquiv2 dot_S2x8448x8192x4_S8192x2x4x128_S2x8448x128_23_02_1_3_0_1 8192 4 rfl rfl rfl).symm (i, g)) = ix4 h j i g :=
      funext fun a => Fin.ext (by
        match a with
        | ⟨0, _⟩ => rfl
        | ⟨1, _⟩ => rfl
        | ⟨2, _⟩ => exact k0
        | ⟨3, _⟩ => exact k1)
    rw [e, val_main_v55_apply, show idx_main_v55 (ix4 h j i g) = ix4 h g i j from eq_ix4 _, v54_at x0 x1 x2 x3 a0 a1 a2 a3 h0 h1 h2 h3]
  · have k0 := contrEquiv2_symm_val0 dot_S2x8448x8192x4_S8192x2x4x128_S2x8448x128_23_02_1_3_0_1 8192 4 rfl rfl rfl (i, g)
    have k1 := contrEquiv2_symm_val1 dot_S2x8448x8192x4_S8192x2x4x128_S2x8448x128_23_02_1_3_0_1 8192 4 rfl rfl rfl (i, g)
    have e : dot_S2x8448x8192x4_S8192x2x4x128_S2x8448x128_23_02_1_3_0_1.rhsIdx (ix3 h j d)
        ((contrEquiv2 dot_S2x8448x8192x4_S8192x2x4x128_S2x8448x128_23_02_1_3_0_1 8192 4 rfl rfl rfl).symm (i, g)) = ix4 i h g d :=
      funext fun a => Fin.ext (by
        match a with
        | ⟨0, _⟩ => exact k0
        | ⟨1, _⟩ => rfl
        | ⟨2, _⟩ => exact k1
        | ⟨3, _⟩ => rfl)
    rw [e, v2_at x0 a0 h0]

theorem v61_at (h0 : ∀ i c, x0 (ix2 i c) = (a0 i c : EReal)) (h1 : ∀ j c, x1 (ix2 j c) = (a1 j c : EReal))
    (h2 : ∀ j c, x2 (ix2 j c) = (a2 j c : EReal)) (h3 : ∀ i c, x3 (ix2 i c) = (a3 i c : EReal)) (j : Fin 8448) (h : Fin 2) (d : Fin 128) :
    val_main_v61 (F := Ideal) x0 x1 x2 x3 (ix2 j (kc h d)) = ((dK a0 a1 a2 a3 h j d : ℝ) : EReal) := by
  have e : idx_main_v61 (ix2 j (kc h d)) = ix3 j h d := funext fun a => Fin.ext (by
    match a with
    | ⟨0, _⟩ => show (j.val * 256 + (128 * h.val + d.val)) / 256 = j.val; omega
    | ⟨1, _⟩ => show (j.val * 256 + (128 * h.val + d.val)) / 128 % 2 = h.val; omega
    | ⟨2, _⟩ => show (j.val * 256 + (128 * h.val + d.val)) % 128 = d.val; omega)
  rw [val_main_v61_apply, e, val_main_v59_apply, show idx_main_v59 (ix3 j h d) = ix3 h j d from eq_ix3 _,
    v58_at x0 x1 x2 x3 a0 a1 a2 a3 h0 h1 h2 h3]

theorem v41_at (h0 : ∀ i c, x0 (ix2 i c) = (a0 i c : EReal)) (h1 : ∀ j c, x1 (ix2 j c) = (a1 j c : EReal))
    (h3 : ∀ i c, x3 (ix2 i c) = (a3 i c : EReal)) (h : Fin 2) (d : Fin 128) (j : Fin 8448) :
    val_main_v41 (F := Ideal) x0 x1 x3 (ix3 h d j) = ((dV a0 a1 a3 h j d : ℝ) : EReal) := by
  unfold val_main_v41 Host.dotGeneral
  rw [Ideal.dotGeneral_apply, sum_contr2 dot_S2x128x4x8192_S2x4x8192x8448_S2x128x8448_23_12_1_3_0_0 4 8192 rfl rfl rfl]
  have hv : dV a0 a1 a3 h j d = ∑ g, ∑ i, a3 i (qc h g d) * wt a0 a1 h g i j := by
    unfold dV
    rw [Finset.sum_comm]
    exact Finset.sum_congr rfl fun g _ => Finset.sum_congr rfl fun i _ => mul_comm _ _
  rw [hv]
  refine sum_coe fun g => sum_mul_coe (fun i => ?_) (fun i => ?_)
  · have k0 := contrEquiv2_symm_val0 dot_S2x128x4x8192_S2x4x8192x8448_S2x128x8448_23_12_1_3_0_0 4 8192 rfl rfl rfl (g, i)
    have k1 := contrEquiv2_symm_val1 dot_S2x128x4x8192_S2x4x8192x8448_S2x128x8448_23_12_1_3_0_0 4 8192 rfl rfl rfl (g, i)
    have e : dot_S2x128x4x8192_S2x4x8192x8448_S2x128x8448_23_12_1_3_0_0.lhsIdx (ix3 h d j)
        ((contrEquiv2 dot_S2x128x4x8192_S2x4x8192x8448_S2x128x8448_23_12_1_3_0_0 4 8192 rfl rfl rfl).symm (g, i)) = ix4 h d g i :=
      funext fun a => Fin.ext (by
        match a with
        | ⟨0, _⟩ => rfl
        | ⟨1, _⟩ => rfl
        | ⟨2, _⟩ => exact k0
        | ⟨3, _⟩ => exact k1)
    rw [e, v39_at x3 a3 h3]
  · have k0 := contrEquiv2_symm_val0 dot_S2x128x4x8192_S2x4x8192x8448_S2x128x8448_23_12_1_3_0_0 4 8192 rfl rfl rfl (g, i)
    have k1 := contrEquiv2_symm_val1 dot_S2x128x4x8192_S2x4x8192x8448_S2x128x8448_23_12_1_3_0_0 4 8192 rfl rfl rfl (g, i)
    have e : dot_S2x128x4x8192_S2x4x8192x8448_S2x128x8448_23_12_1_3_0_0.rhsIdx (ix3 h d j)
        ((contrEquiv2 dot_S2x128x4x8192_S2x4x8192x8448_S2x128x8448_23_12_1_3_0_0 4 8192 rfl rfl rfl).symm (g, i)) = ix4 h g i j :=
      funext fun a => Fin.ext (by
        match a with
        | ⟨0, _⟩ => rfl
        | ⟨1, _⟩ => exact k0
        | ⟨2, _⟩ => exact k1
        | ⟨3, _⟩ => rfl)
    rw [e, v31_at x0 x1 a0 a1 h0 h1]

theorem v60_at (h0 : ∀ i c, x0 (ix2 i c) = (a0 i c : EReal)) (h1 : ∀ j c, x1 (ix2 j c) = (a1 j c : EReal))
    (h3 : ∀ i c, x3 (ix2 i c) = (a3 i c : EReal)) (j : Fin 8448) (h : Fin 2) (d : Fin 128) :
    val_main_v60 (F := Ideal) x0 x1 x3 (ix2 j (kc h d)) = ((dV a0 a1 a3 h j d : ℝ) : EReal) := by
  have e : idx_main_v60 (ix2 j (kc h d)) = ix3 j h d := funext fun a => Fin.ext (by
    match a with
    | ⟨0, _⟩ => show (j.val * 256 + (128 * h.val + d.val)) / 256 = j.val; omega
    | ⟨1, _⟩ => show (j.val * 256 + (128 * h.val + d.val)) / 128 % 2 = h.val; omega
    | ⟨2, _⟩ => show (j.val * 256 + (128 * h.val + d.val)) % 128 = d.val; omega)
  rw [val_main_v60_apply, e, val_main_v42_apply, show idx_main_v42 (ix3 j h d) = ix3 h d j from eq_ix3 _,
    v41_at x0 x1 x3 a0 a1 a3 h0 h1 h3]

/-! ## The forward pass's output -/

theorem v37_at (h0 : ∀ i c, x0 (ix2 i c) = (a0 i c : EReal)) (h1 : ∀ j c, x1 (ix2 j c) = (a1 j c : EReal))
    (h2 : ∀ j c, x2 (ix2 j c) = (a2 j c : EReal)) (i : Fin 8192) (h : Fin 2) (g : Fin 4) (d : Fin 128) :
    val_main_v37 (F := Ideal) x0 x1 x2 (ix2 i (qc h g d)) = ((out a0 a1 a2 h g i d : ℝ) : EReal) := by
  have e : idx_main_v37 (ix2 i (qc h g d)) = ix4 i h g d := funext fun a => Fin.ext (by
    match a with
    | ⟨0, _⟩ => show (i.val * 1024 + (512 * h.val + 128 * g.val + d.val)) / 1024 = i.val; omega
    | ⟨1, _⟩ => show (i.val * 1024 + (512 * h.val + 128 * g.val + d.val)) / 512 % 2 = h.val; omega
    | ⟨2, _⟩ => show (i.val * 1024 + (512 * h.val + 128 * g.val + d.val)) / 128 % 4 = g.val; omega
    | ⟨3, _⟩ => show (i.val * 1024 + (512 * h.val + 128 * g.val + d.val)) % 128 = d.val; omega)
  rw [val_main_v37_apply, e, val_main_v36_apply, show idx_main_v36 (ix4 i h g d) = ix4 h d g i from eq_ix4 _, val_main_v35_apply]
  refine sum_mul_coe (fun j => ?_) (fun j => ?_)
  · rw [show lidx_main_v35 (ix4 h d g i) j = ix3 j h d from eq_ix3 _, v4_at x2 a2 h2]
  · rw [show ridx_main_v35 (ix4 h d g i) j = ix4 h g i j from eq_ix4 _, v31_at x0 x1 a0 a1 h0 h1]

end

end Cert.Attn.Ref
-- ==== Proof.Host.lean ====
/- The arrays the pipeline is entered with, read as real numbers: the scaled queries over `log 2`, the keys, the values with their columns
   of ones, the forward pass's result and its log-sum-exp over `log 2`, and the gradient coming in. -/
module

public import proofs.«01_k».proof.Proof.RefValue
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.StableHlo
open Idealize.SL Idealize.SL.Sem
open Cert.Attn Cert.Attn.Ref
open Cert.ReferenceIdeal.Read (val_main_v6 val_main_v7 val_main_v14 val_main_v24 val_main_v29 val_main_v37)

/-- The rows' maxima: the maximum with the bottom changes nothing. -/
theorem max14 (x0 : FVec Ideal S8192x1024 .f32) (x1 : FVec Ideal S8448x256 .f32) :
    val_main_v14 (F := Ideal) x0 x1 = val_main_v7 (F := Ideal) x0 x1 := funext fun i => by
  rw [Cert.ReferenceIdeal.Read.val_main_v14_apply, Cert.ReferenceIdeal.Read.val_main_v13_apply]
  show max (Ideal.ofBits .f32 0xFF800000#32) _ = _
  rw [ofBits_ninf, max_eq_right bot_le]

section Stages

variable (x0 : FVec Ideal S8192x1024 .f32) (x1 x2 : FVec Ideal S8448x256 .f32)
variable (M : FVec Ideal S2x4x8192 .f32)

/-- The scores' exponentials, shifted by the array `M`. -/
def hEx : FVec Ideal S2x4x8192x8448 .f32 :=
  Host.exp (F := Ideal) (subf (F := Ideal) (val_main_v6 (F := Ideal) x0 x1) (broadcastInDim S2x4x8192x8448 ![0, 1, 2, 3] bcast_S2x4x8192x1_S2x4x8192x8448_0_1_2_3
    (broadcastInDim S2x4x8192x1 ![0, 1, 2] bcast_S2x4x8192_S2x4x8192x1_0_1_2 M)))
/-- Their row sums. -/
def hL : FVec Ideal S2x4x8192x1 .f32 :=
  broadcastInDim S2x4x8192x1 ![0, 1, 2] bcast_S2x4x8192_S2x4x8192x1_0_1_2
    (Host.reduceAdd (F := Ideal) (hEx x0 x1 M) (constant (F := Ideal) S_ .f32 0x00000000#32) reducesTo_S2x4x8192x8448_S2x4x8192_d3 h_S_)
/-- The attention's result. -/
def hO : FVec Ideal S8192x1024 .f32 :=
  shapeCast S8192x1024 (transpose S8192x2x4x128 [3, 0, 2, 1] (Host.dotGeneral (F := Ideal) dot_S8448x2x128_S2x4x8192x8448_S2x128x4x8192_0_3_2_12_1_0 none
    (shapeCast S8448x2x128 x2 shapeCasts_S8448x256_S8448x2x128)
    (Host.divf (F := Ideal) (hEx x0 x1 M) (broadcastInDim S2x4x8192x8448 ![0, 1, 2, 3] bcast_S2x4x8192x1_S2x4x8192x8448_0_1_2_3 (hL x0 x1 M))))
    transposes_S2x128x4x8192_S8192x2x4x128_3_0_2_1) shapeCasts_S8192x2x4x128_S8192x1024
/-- The scaled log-sum-exp of the scores, one for each head and row. -/
def hLse0 (R L : FVec Ideal S2x4x8192x1 .f32) : FVec Ideal S2x4x8192x1 .f32 :=
  Host.divf (F := Ideal) (addf (F := Ideal) R (Host.log (F := Ideal) L)) (broadcastInDim S2x4x8192x1 ![] bcast_S_S2x4x8192x1 (Host.log (F := Ideal) (constant (F := Ideal) S_ .f32 0x40000000#32)))
/-- The same spread over the query columns. -/
def hLse1 (Z : FVec Ideal S2x4x8192x1 .f32) : FVec Ideal S8192x1024 .f32 :=
  shapeCast S8192x1024 (broadcastInDim S8192x2x4x128 ![0, 1, 2, 3] bcast_S8192x2x4x1_S8192x2x4x128_0_1_2_3
    (broadcastInDim S8192x2x4x1 ![0, 1, 2] bcast_S8192x2x4_S8192x2x4x1_0_1_2 (transpose S8192x2x4 [2, 0, 1]
      (shapeCast S2x4x8192 Z shapeCasts_S2x4x8192x1_S2x4x8192) transposes_S2x4x8192_S8192x2x4_2_0_1))) shapeCasts_S8192x2x4x128_S8192x1024
/-- The scaled queries over `log 2`. -/
def hQ : FVec Ideal S8192x1024 .f32 :=
  Host.divf (F := Ideal) (mulf (F := Ideal) x0 (broadcastInDim S8192x1024 ![] bcast_S_S8192x1024 (constant (F := Ideal) S_ .f32 0x3DB504F3#32)))
    (broadcastInDim S8192x1024 ![] bcast_S_S8192x1024 (Host.log (F := Ideal) (constant (F := Ideal) S_ .f32 0x40000000#32)))
/-- The values, each head's columns followed by as many ones. -/
def hVa : FVec Ideal S8448x512 .f32 :=
  shapeCast S8448x512 (concatenate S8448x2x256 2 [⟨S8448x2x128, shapeCast S8448x2x128 x2 shapeCasts_S8448x256_S8448x2x128⟩,
    ⟨S8448x2x128, broadcastInDim S8448x2x128 ![] bcast_S_S8448x2x128 (constant (F := Ideal) S_ .f32 0x3F800000#32)⟩]
    concatenates_S8448x2x128_S8448x2x128_S8448x2x256_d2) shapeCasts_S8448x2x256_S8448x512

theorem hO_eq : hO x0 x1 x2 (val_main_v7 (F := Ideal) x0 x1) = val_main_v37 (F := Ideal) x0 x1 x2 := by
  rw [← max14]; rfl
theorem hL_eq : hL x0 x1 (val_main_v7 (F := Ideal) x0 x1) = val_main_v29 (F := Ideal) x0 x1 := by
  rw [← max14]; rfl
theorem hR_eq : broadcastInDim S2x4x8192x1 ![0, 1, 2] bcast_S2x4x8192_S2x4x8192x1_0_1_2 (val_main_v7 (F := Ideal) x0 x1) = val_main_v24 (F := Ideal) x0 x1 := by
  rw [← max14]; rfl

end Stages

variable (m : (ℓ : Loc nD τ sig) → Buf (Elt Ideal) ℓ) (c : Dev nD)

/-- The four arguments as the run is launched with them. -/
abbrev arg0 : FVec Ideal S8192x1024 .f32 := m ((c : Thread nD τ).loc main_arg0)
abbrev arg1 : FVec Ideal S8448x256 .f32 := m ((c : Thread nD τ).loc main_arg1)
abbrev arg2 : FVec Ideal S8448x256 .f32 := m ((c : Thread nD τ).loc main_arg2)
abbrev arg3 : FVec Ideal S8192x1024 .f32 := m ((c : Thread nD τ).loc main_arg3)

set_option maxHeartbeats 4000000 in
theorem V_q : V m c main_v37 = truncf (F := Ideal) .bf16 (hQ (arg0 m c)) bitsLt_bf16_f32 := by
  unfold V
  after_results_simp <;> rfl
set_option maxHeartbeats 4000000 in
theorem V_k : V m c main_v38 = truncf (F := Ideal) .bf16 (arg1 m c) bitsLt_bf16_f32 := by
  unfold V
  after_results_simp <;> rfl
set_option maxHeartbeats 4000000 in
theorem V_v : V m c main_v43 = truncf (F := Ideal) .bf16 (hVa (arg2 m c)) bitsLt_bf16_f32 := by
  unfold V
  after_results_simp <;> rfl
set_option maxHeartbeats 4000000 in
theorem V_do : V m c main_v44 = truncf (F := Ideal) .bf16 (arg3 m c) bitsLt_bf16_f32 := by
  unfold V
  after_results_simp <;> rfl
set_option maxHeartbeats 4000000 in
theorem V_o : V m c main_v19 = truncf (F := Ideal) .bf16 (hO (arg0 m c) (arg1 m c) (arg2 m c) (val_main_v7 (F := Ideal) (arg0 m c) (arg1 m c))) bitsLt_bf16_f32 := by
  unfold V
  after_results_simp <;> rfl
set_option maxHeartbeats 4000000 in
theorem V_lse : V m c main_v30 = hLse1 (hLse0 (broadcastInDim S2x4x8192x1 ![0, 1, 2] bcast_S2x4x8192_S2x4x8192x1_0_1_2
      (val_main_v7 (F := Ideal) (arg0 m c) (arg1 m c))) (hL (arg0 m c) (arg1 m c) (val_main_v7 (F := Ideal) (arg0 m c) (arg1 m c)))) := by
  unfold V
  after_results_simp <;> rfl

/-! ## Their entries on real arguments -/

section Entries

variable (a0 a3 : Fin 8192 → Fin 1024 → ℝ) (a1 a2 : Fin 8448 → Fin 256 → ℝ)

/-- Column of the widened values: kv head `h`, lane `d`. -/
def vc (h : Fin 2) (d : Fin 128) : Fin 512 := ⟨256 * h.val + d.val, by omega⟩

theorem log_two : Ideal.log (Ideal.ofBits .f32 0x40000000#32) = ((Real.log 2 : ℝ) : EReal) := by
  rw [ofBits_two, Ideal.log_coe, if_neg (by norm_num)]

theorem log_two_ne : Real.log 2 ≠ 0 := (Real.log_pos one_lt_two).ne'

theorem hQ_at (x0 : FVec Ideal S8192x1024 .f32) (h0 : ∀ i c, x0 (ix2 i c) = (a0 i c : EReal)) (i : Fin 8192) (e : Fin 1024) :
    hQ x0 (ix2 i e) = ((a0 i e * σ / Real.log 2 : ℝ) : EReal) := by
  unfold hQ
  rw [hostDivf_apply, mulf_apply, broadcastInDim_scalar_apply, broadcastInDim_scalar_apply, h0]
  show Ideal.div ((a0 i e : EReal) * Ideal.ofBits .f32 0x3DB504F3#32) (Ideal.log (Ideal.ofBits .f32 0x40000000#32)) = _
  rw [ofBits_σ, log_two, ← EReal.coe_mul, div_coe_coe _ _ log_two_ne]

theorem hVa_at (x2 : FVec Ideal S8448x256 .f32) (h2 : ∀ j c, x2 (ix2 j c) = (a2 j c : EReal)) (j : Fin 8448) (h : Fin 2) (d : Fin 128) :
    hVa x2 (ix2 j (vc h d)) = (a2 j (kc h d) : EReal) := by
  unfold hVa
  rw [shapeCast_apply _ _ _ (ix3 j h ⟨d.val, by omega⟩ : S8448x2x256.Idx) (by
    rw [Shape.rowMajor_val_three, Shape.rowMajor_val_two]
    show (j.val * 2 + h.val) * 256 + d.val = j.val * 512 + (256 * h.val + d.val)
    omega)]
  refine Eq.trans (concatenate_pair_apply_left (t := S8448x2x256) (s₁ := S8448x2x128) (s₂ := S8448x2x128) 2 _ _ _ (ix3 j h ⟨d.val, by omega⟩) rfl (ix3 j h d) (fun b => match b with
    | ⟨0, _⟩ => rfl
    | ⟨1, _⟩ => rfl
    | ⟨2, _⟩ => rfl)) ?_
  rw [shapeCast_apply _ _ _ (ix2 j (kc h d) : S8448x256.Idx) (by
    rw [Shape.rowMajor_val_three, Shape.rowMajor_val_two]
    show j.val * 256 + (128 * h.val + d.val) = (j.val * 2 + h.val) * 128 + d.val
    omega), h2]

theorem hLse0_at (R L : FVec Ideal S2x4x8192x1 .f32) (i : S2x4x8192x1.Idx) (r l : ℝ) (hR : R i = (r : EReal)) (hL : L i = (l : EReal)) (h : 0 < l) :
    hLse0 R L i = (((r + Real.log l) / Real.log 2 : ℝ) : EReal) := by
  unfold hLse0
  rw [hostDivf_apply, addf_apply, broadcastInDim_scalar_apply, hR]
  show Ideal.div ((r : EReal) + Ideal.log (L i)) (Ideal.log (Ideal.ofBits .f32 0x40000000#32)) = _
  rw [hL, log_two, Ideal.log_coe, if_neg (not_le.mpr h), ← EReal.coe_add, div_coe_coe _ _ log_two_ne]

theorem hLse1_at (Z : FVec Ideal S2x4x8192x1 .f32) (i : Fin 8192) (h : Fin 2) (g : Fin 4) (d : Fin 128) :
    hLse1 Z (ix2 i (qc h g d)) = Z (ix4 h g i 0) := by
  unfold hLse1
  rw [shapeCast_apply _ _ _ (ix4 i h g d : S8192x2x4x128.Idx) (by
    rw [Shape.rowMajor_val_four, Shape.rowMajor_val_two]
    show ((i.val * 2 + h.val) * 4 + g.val) * 128 + d.val = i.val * 1024 + (512 * h.val + 128 * g.val + d.val)
    omega)]
  rw [broadcastInDim_apply _ _ _ _ (ix4 i h g 0 : S8192x2x4x1.Idx) (fun a => match a with
    | ⟨0, _⟩ => by show i.val = if (8192 : Nat) = 1 then 0 else i.val; rw [if_neg (by decide)]
    | ⟨1, _⟩ => by show h.val = if (2 : Nat) = 1 then 0 else h.val; rw [if_neg (by decide)]
    | ⟨2, _⟩ => by show g.val = if (4 : Nat) = 1 then 0 else g.val; rw [if_neg (by decide)]
    | ⟨3, _⟩ => by show 0 = if (1 : Nat) = 1 then 0 else d.val; rw [if_pos rfl])]
  rw [broadcastInDim_apply _ _ _ _ (ix3 i h g : S8192x2x4.Idx) (fun a => match a with
    | ⟨0, _⟩ => by show i.val = if (8192 : Nat) = 1 then 0 else i.val; rw [if_neg (by decide)]
    | ⟨1, _⟩ => by show h.val = if (2 : Nat) = 1 then 0 else h.val; rw [if_neg (by decide)]
    | ⟨2, _⟩ => by show g.val = if (4 : Nat) = 1 then 0 else g.val; rw [if_neg (by decide)])]
  rw [transpose_apply [2, 0, 1] _ _ _ (ix3 h g i : S2x4x8192.Idx) (fun b => match b with
    | ⟨0, _⟩ => rfl
    | ⟨1, _⟩ => rfl
    | ⟨2, _⟩ => rfl)]
  rw [shapeCast_apply _ _ _ (ix4 h g i 0 : S2x4x8192x1.Idx) (by
    rw [Shape.rowMajor_val_four, Shape.rowMajor_val_three]
    show ((h.val * 4 + g.val) * 8192 + i.val) * 1 + 0 = (h.val * 4 + g.val) * 8192 + i.val
    omega)]

/-- The scaled log-sum-exp of a head's row. -/
def lseR (x0 : FVec Ideal S8192x1024 .f32) (x1 : FVec Ideal S8448x256 .f32) (h : Fin 2) (g : Fin 4) (i : Fin 8192) : ℝ :=
  (rowmax x0 x1 h g i + Real.log (ll x0 x1 a0 a1 h g i)) / Real.log 2

variable (h0 : ∀ i e, arg0 m c (ix2 i e) = (a0 i e : EReal)) (h1 : ∀ j e, arg1 m c (ix2 j e) = (a1 j e : EReal))
variable (h2 : ∀ j e, arg2 m c (ix2 j e) = (a2 j e : EReal)) (h3 : ∀ i e, arg3 m c (ix2 i e) = (a3 i e : EReal))

include h0 in
theorem q_at (i : Fin 8192) (e : Fin 1024) : V m c main_v37 (ix2 i e : S8192x1024.Idx) = ((a0 i e * σ / Real.log 2 : ℝ) : EReal) := by
  rw [V_q]; exact hQ_at a0 _ h0 i e

include h1 in
theorem k_at (j : Fin 8448) (e : Fin 256) : V m c main_v38 (ix2 j e : S8448x256.Idx) = (a1 j e : EReal) := by
  rw [V_k]; exact h1 j e

include h2 in
theorem v_at (j : Fin 8448) (h : Fin 2) (d : Fin 128) : V m c main_v43 (ix2 j (vc h d) : S8448x512.Idx) = (a2 j (kc h d) : EReal) := by
  rw [V_v]; exact hVa_at a2 _ h2 j h d

include h3 in
theorem do_at (i : Fin 8192) (e : Fin 1024) : V m c main_v44 (ix2 i e : S8192x1024.Idx) = (a3 i e : EReal) := by
  rw [V_do]; exact h3 i e

include h0 h1 h2 in
theorem o_at (i : Fin 8192) (h : Fin 2) (g : Fin 4) (d : Fin 128) :
    V m c main_v19 (ix2 i (qc h g d) : S8192x1024.Idx) = (out a0 a1 a2 h g i d : EReal) := by
  rw [V_o, hO_eq]; exact v37_at _ _ _ a0 a1 a2 h0 h1 h2 i h g d

include h0 h1 in
theorem lse_at (i : Fin 8192) (h : Fin 2) (g : Fin 4) (d : Fin 128) :
    V m c main_v30 (ix2 i (qc h g d) : S8192x1024.Idx) = (lseR a0 a1 (arg0 m c) (arg1 m c) h g i : EReal) := by
  rw [V_lse, hL_eq, hR_eq]
  refine (hLse1_at _ i h g d).trans (hLse0_at _ _ _ _ _ ?_ (v29_at _ _ a0 a1 h0 h1 h g i 0) (ll_pos _ _ a0 a1 h g i))
  rw [Cert.ReferenceIdeal.Read.val_main_v24_apply]
  exact (congrArg _ (eq_ix3 _)).trans (v14_at _ _ a0 a1 h0 h1 h g i)

end Entries

end Cert.KernelIdeal.Hand
-- ==== Proof.Blocks.lean ====
/- The blocks of the six inputs at a grid point, entry by entry: which row and column of its array each block's entry is; on real arguments,
   what real it is. -/
module

public import proofs.«01_k».proof.Proof.Run
public import proofs.«01_k».proof.Proof.Host
public import Idealize.ShloMosaic.Lib.Pipeline.ValueKit.Tiles

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Cert.Attn

/-! ## Rows, columns and the kv head of a point -/

/-- The kv head of point `n`. -/
def hd (n : ℕ) : Fin 2 := ⟨n / 88 % 2, by omega⟩
/-- Row `i` of point `n`'s query tile. -/
def qrow (n : ℕ) (i : Fin 1024) : Fin 8192 := ⟨1024 * (n % 8) + i.val, by omega⟩
/-- Row `j` of point `n`'s key tile. -/
def krow (n : ℕ) (j : Fin 768) : Fin 8448 := ⟨768 * (n / 8 % 11) + j.val, by omega⟩

theorem toNat_ofNat_coord (k : ℕ) (h : k < 1024) : (BitVec.ofNat 32 k).toNat = k := by
  rw [BitVec.toNat_ofNat]; exact Nat.mod_eq_of_lt (by omega)

theorem pt_mod (n : ℕ) : (pt n).val = n % 176 := rfl

theorem c0 (n : ℕ) : (BitVec.ofNat 32 (grid0.coords (pt n) 0).val).toNat = n / 88 % 2 := by
  rw [coord0, pt_mod, toNat_ofNat_coord _ (by omega)]; omega
theorem c1 (n : ℕ) : (BitVec.ofNat 32 (grid0.coords (pt n) 1).val).toNat = n / 8 % 11 := by
  rw [coord1, pt_mod, toNat_ofNat_coord _ (by omega)]; omega
theorem c2 (n : ℕ) : (BitVec.ofNat 32 (grid0.coords (pt n) 2).val).toNat = n % 8 := by
  rw [coord2, pt_mod, toNat_ofNat_coord _ (by omega)]; omega

section

variable {F : FTy → Type} [FloatOps F] [Named F]
variable (m : (ℓ : Loc nD τ sig) → Buf (Elt F) ℓ) (c : Dev nD) (n : ℕ)

/-- Column of query head `g`, lane `d`, of a `[1024, 512]` block. -/
def lc (g : Fin 4) (d : Fin 128) : Fin 512 := ⟨128 * g.val + d.val, by omega⟩

theorem ib0_at (i : Fin 1024) (g : Fin 4) (d : Fin 128) :
    ib0 m c n (ix2 i (lc g d)) = V m c main_v37 (ix2 (qrow n i) (qc (hd n) g d) : S8192x1024.Idx) := by
  unfold ib0 iblk
  rw [View.read_apply]
  refine congrArg (V m c main_v37) (funext fun a => Fin.ext ?_)
  match a with
  | ⟨0, _⟩ => show (BitVec.ofNat 32 (grid0.coords (pt n) 2).val).toNat * 1024 + 1 * i.val = 1024 * (n % 8) + i.val; rw [c2]; omega
  | ⟨1, _⟩ => show (BitVec.ofNat 32 (grid0.coords (pt n) 0).val).toNat * 512 + 1 * (128 * g.val + d.val) = 512 * (n / 88 % 2) + 128 * g.val + d.val; rw [c0]; omega
theorem ib1_at (j : Fin 768) (d : Fin 128) :
    ib1 m c n (ix2 j d) = V m c main_v38 (ix2 (krow n j) (kc (hd n) d) : S8448x256.Idx) := by
  unfold ib1 iblk
  rw [View.read_apply]
  refine congrArg (V m c main_v38) (funext fun a => Fin.ext ?_)
  match a with
  | ⟨0, _⟩ => show (BitVec.ofNat 32 (grid0.coords (pt n) 1).val).toNat * 768 + 1 * j.val = 768 * (n / 8 % 11) + j.val; rw [c1]; omega
  | ⟨1, _⟩ => show (BitVec.ofNat 32 (grid0.coords (pt n) 0).val).toNat * 128 + 1 * d.val = 128 * (n / 88 % 2) + d.val; rw [c0]; omega
theorem ib2_at (j : Fin 768) (d : Fin 128) :
    ib2 m c n (ix2 j ⟨d.val, by omega⟩) = V m c main_v43 (ix2 (krow n j) (vc (hd n) d) : S8448x512.Idx) := by
  unfold ib2 iblk
  rw [View.read_apply]
  refine congrArg (V m c main_v43) (funext fun a => Fin.ext ?_)
  match a with
  | ⟨0, _⟩ => show (BitVec.ofNat 32 (grid0.coords (pt n) 1).val).toNat * 768 + 1 * j.val = 768 * (n / 8 % 11) + j.val; rw [c1]; omega
  | ⟨1, _⟩ => show (BitVec.ofNat 32 (grid0.coords (pt n) 0).val).toNat * 256 + 1 * d.val = 256 * (n / 88 % 2) + d.val; rw [c0]; omega
theorem ib3_at (i : Fin 1024) (g : Fin 4) (d : Fin 128) :
    ib3 m c n (ix2 i (lc g d)) = V m c main_v19 (ix2 (qrow n i) (qc (hd n) g d) : S8192x1024.Idx) := by
  unfold ib3 iblk
  rw [View.read_apply]
  refine congrArg (V m c main_v19) (funext fun a => Fin.ext ?_)
  match a with
  | ⟨0, _⟩ => show (BitVec.ofNat 32 (grid0.coords (pt n) 2).val).toNat * 1024 + 1 * i.val = 1024 * (n % 8) + i.val; rw [c2]; omega
  | ⟨1, _⟩ => show (BitVec.ofNat 32 (grid0.coords (pt n) 0).val).toNat * 512 + 1 * (128 * g.val + d.val) = 512 * (n / 88 % 2) + 128 * g.val + d.val; rw [c0]; omega
theorem ib4_at (i : Fin 1024) (g : Fin 4) (d : Fin 128) :
    ib4 m c n (ix2 i (lc g d)) = V m c main_v44 (ix2 (qrow n i) (qc (hd n) g d) : S8192x1024.Idx) := by
  unfold ib4 iblk
  rw [View.read_apply]
  refine congrArg (V m c main_v44) (funext fun a => Fin.ext ?_)
  match a with
  | ⟨0, _⟩ => show (BitVec.ofNat 32 (grid0.coords (pt n) 2).val).toNat * 1024 + 1 * i.val = 1024 * (n % 8) + i.val; rw [c2]; omega
  | ⟨1, _⟩ => show (BitVec.ofNat 32 (grid0.coords (pt n) 0).val).toNat * 512 + 1 * (128 * g.val + d.val) = 512 * (n / 88 % 2) + 128 * g.val + d.val; rw [c0]; omega
theorem ib5_at (i : Fin 1024) (g : Fin 4) (d : Fin 128) :
    ib5 m c n (ix2 i (lc g d)) = V m c main_v30 (ix2 (qrow n i) (qc (hd n) g d) : S8192x1024.Idx) := by
  unfold ib5 iblk
  rw [View.read_apply]
  refine congrArg (V m c main_v30) (funext fun a => Fin.ext ?_)
  match a with
  | ⟨0, _⟩ => show (BitVec.ofNat 32 (grid0.coords (pt n) 2).val).toNat * 1024 + 1 * i.val = 1024 * (n % 8) + i.val; rw [c2]; omega
  | ⟨1, _⟩ => show (BitVec.ofNat 32 (grid0.coords (pt n) 0).val).toNat * 512 + 1 * (128 * g.val + d.val) = 512 * (n / 88 % 2) + 128 * g.val + d.val; rw [c0]; omega

theorem lane_at {e : EltTy} (g : Fin 4) (x : Vec F S1024x512 e) (i : Fin 1024) (d : Fin 128) : lane g x (ix2 i d) = x (ix2 i (lc g d)) :=
  View.ld_unit_apply_of x ![0, 128 * g.val] S1024x128.size (lane_inb g) (ix2 i d) (ix2 i (lc g d)) (fun a => match a with
    | ⟨0, _⟩ => by show i.val = 0 + i.val; omega
    | ⟨1, _⟩ => rfl)

theorem vcols_at (x : Vec F S768x256 .bf16) (j : Fin 768) (d : Fin 128) : vcols x (ix2 j d) = x (ix2 j ⟨d.val, by omega⟩) :=
  View.ld_unit_apply_of x ![0, 0] S768x128.size inb_S768x256_S768x128_0_0 (ix2 j d) (ix2 j ⟨d.val, by omega⟩) (fun a => match a with
    | ⟨0, _⟩ => by show j.val = 0 + j.val; omega
    | ⟨1, _⟩ => by show d.val = 0 + d.val; omega)

theorem head_at (x : Fin 4 → Vec F S1x1x1024x128 .f32) (i : Fin 1024) (g k : Fin 4) (d : Fin 128) (y : S1024x128.Idx)
    (h0 : i.val = (y 0).val) (h1 : 128 * g.val + d.val = 128 * k.val + (y 1).val) :
    shapeCast S1024x128 (x k) shapeCasts_S1x1x1024x128_S1024x128 y = x g (ix4 0 0 i d) := by
  have hy : (y 1).val < 128 := (y 1).isLt
  have hg : g = k := Fin.ext (by omega)
  subst hg
  refine shapeCast_apply (x g) shapeCasts_S1x1x1024x128_S1024x128 y (ix4 0 0 i d) ?_
  rw [Shape.rowMajor_val_four, Shape.rowMajor_val_two]
  show ((0 * 1 + 0) * 1024 + i.val) * 128 + d.val = (y 0).val * 128 + (y 1).val
  omega

theorem dqOut_at (x : Fin 4 → Vec F S1x1x1024x128 .f32) (i : Fin 1024) (g : Fin 4) (d : Fin 128) :
    dqOut x (ix2 i (lc g d)) = x g (ix4 0 0 i d) := by
  unfold dqOut
  canon_tiles y h using (View.cover_of_tiledL (Val := Elt F) (s := S1024x512) (e := .f32) _ S1024x128.size (by sl_kernel_rfl) (ix2 i (lc g d)))
  · exact head_at x i g 3 d y h0 h1
  · exact head_at x i g 2 d y h0 h1
  · exact head_at x i g 1 d y h0 h1
  · exact head_at x i g 0 d y h0 (h1.trans (Nat.zero_add _).symm)

end

end Cert.KernelIdeal.Hand
-- ==== Proof.Tile.lean ====
/- The arithmetic of one head on one tile, read as real numbers: when the blocks hold reals, so does every result, and each entry is
   the textbook sum. -/
module

public import proofs.«01_k».proof.Proof.Body
public import proofs.«01_k».proof.Proof.Spec
public import Idealize.ShloMosaic.Lib.ValueIdx
public import Idealize.ShloMosaic.PureOps.Ideal.Laws
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.ValueIdx
open Cert.Attn (sum_mul_coe)

/-! ## The three products of a tile -/

section Products
variable {φ₁ φ₂ : FTy}

theorem mm_nt (a : FVec Ideal S1024x128 φ₁) (b : FVec Ideal S768x128 φ₂) (i : Fin 1024) (j : Fin 768) :
    matmul dot_S1024x128_S768x128_S1024x768_1_1_0_0_n_n none a b (constant S1024x768 .f32 0x00000000#32) (ix2 i j)
      = ∑ d : Fin 128, a (ix2 i d) * b (ix2 j d) := by
  unfold matmul
  rw [Ideal.matmul_constant_zero_apply, ← Equiv.sum_comp (contrEquiv1 dot_S1024x128_S768x128_S1024x768_1_1_0_0_n_n 128 rfl rfl).symm]
  refine Finset.sum_congr rfl fun d _ => ?_
  have hk := contrEquiv1_symm_val dot_S1024x128_S768x128_S1024x768_1_1_0_0_n_n 128 rfl rfl d
  congr 1
  · refine congrArg a (funext fun x => Fin.ext ?_)
    match x with
    | ⟨0, _⟩ => rfl
    | ⟨1, _⟩ => exact (dot_S1024x128_S768x128_S1024x768_1_1_0_0_n_n.lhsIdx_val_of_single rfl _ _).trans hk
  · refine congrArg b (funext fun x => Fin.ext ?_)
    match x with
    | ⟨0, _⟩ => rfl
    | ⟨1, _⟩ => exact (dot_S1024x128_S768x128_S1024x768_1_1_0_0_n_n.rhsIdx_val_of_single rfl _ _).trans hk

theorem mm_tn (a : FVec Ideal S1024x768 φ₁) (b : FVec Ideal S1024x128 φ₂) (j : Fin 768) (d : Fin 128) :
    matmul dot_S1024x768_S1024x128_S768x128_0_0_1_1_n_n none a b (constant S768x128 .f32 0x00000000#32) (ix2 j d)
      = ∑ i : Fin 1024, a (ix2 i j) * b (ix2 i d) := by
  unfold matmul
  rw [Ideal.matmul_constant_zero_apply, ← Equiv.sum_comp (contrEquiv1 dot_S1024x768_S1024x128_S768x128_0_0_1_1_n_n 1024 rfl rfl).symm]
  refine Finset.sum_congr rfl fun i _ => ?_
  have hk := contrEquiv1_symm_val dot_S1024x768_S1024x128_S768x128_0_0_1_1_n_n 1024 rfl rfl i
  congr 1
  · refine congrArg a (funext fun x => Fin.ext ?_)
    match x with
    | ⟨0, _⟩ => exact (dot_S1024x768_S1024x128_S768x128_0_0_1_1_n_n.lhsIdx_val_of_single rfl _ _).trans hk
    | ⟨1, _⟩ => rfl
  · refine congrArg b (funext fun x => Fin.ext ?_)
    match x with
    | ⟨0, _⟩ => exact (dot_S1024x768_S1024x128_S768x128_0_0_1_1_n_n.rhsIdx_val_of_single rfl _ _).trans hk
    | ⟨1, _⟩ => rfl

theorem mm_nn (a : FVec Ideal S1024x768 φ₁) (b : FVec Ideal S768x128 φ₂) (i : Fin 1024) (d : Fin 128) :
    matmul dot_S1024x768_S768x128_S1024x128_1_0_0_1_n_n none a b (constant S1024x128 .f32 0x00000000#32) (ix2 i d)
      = ∑ j : Fin 768, a (ix2 i j) * b (ix2 j d) := by
  unfold matmul
  rw [Ideal.matmul_constant_zero_apply, ← Equiv.sum_comp (contrEquiv1 dot_S1024x768_S768x128_S1024x128_1_0_0_1_n_n 768 rfl rfl).symm]
  refine Finset.sum_congr rfl fun j _ => ?_
  have hk := contrEquiv1_symm_val dot_S1024x768_S768x128_S1024x128_1_0_0_1_n_n 768 rfl rfl j
  congr 1
  · refine congrArg a (funext fun x => Fin.ext ?_)
    match x with
    | ⟨0, _⟩ => rfl
    | ⟨1, _⟩ => exact (dot_S1024x768_S768x128_S1024x128_1_0_0_1_n_n.lhsIdx_val_of_single rfl _ _).trans hk
  · refine congrArg b (funext fun x => Fin.ext ?_)
    match x with
    | ⟨0, _⟩ => exact (dot_S1024x768_S768x128_S1024x128_1_0_0_1_n_n.rhsIdx_val_of_single rfl _ _).trans hk
    | ⟨1, _⟩ => rfl

end Products

/-! ## Six lane groups and their whole -/

/-- Column `128 c + d` of the six groups. -/
def col6 (c : Fin 6) (d : Fin 128) : Fin 768 := ⟨128 * c.val + d.val, by omega⟩

theorem slice6 {α : Type} (c : Fin 6) (n : ℕ) (hn : n = 128 * c.val) (x : S1024x768.Idx → α) (h : S1024x768.Slices ![0, n] S1024x128) (i : Fin 1024) (d : Fin 128) :
    extractStridedSlice S1024x128 ![0, n] x h (ix2 i d) = x (ix2 i (col6 c d)) := by
  refine extractStridedSlice_apply _ x h _ _ fun a => ?_
  match a with
  | ⟨0, _⟩ => show i.val = 0 + i.val; omega
  | ⟨1, _⟩ => show 128 * c.val + d.val = n + d.val; omega

theorem cat6 {α : Type} (f : Fin 6 → S1024x128.Idx → α) (X : Fin 1024 → Fin 768 → α) (hX : ∀ c i d, f c (ix2 i d) = X i (col6 c d))
    (h : Shape.Concatenates [S1024x128, S1024x128, S1024x128, S1024x128, S1024x128, S1024x128] S1024x768 1) (i : Fin 1024) (j : Fin 768) :
    concatenate S1024x768 1 [⟨S1024x128, f 0⟩, ⟨S1024x128, f 1⟩, ⟨S1024x128, f 2⟩, ⟨S1024x128, f 3⟩, ⟨S1024x128, f 4⟩, ⟨S1024x128, f 5⟩] h (ix2 i j)
      = X i j := by
  have hc : j.val / 128 < 6 := by omega
  have hd : j.val % 128 < 128 := by omega
  have e := concatenate_ofFn_apply (t := S1024x768) (s₁ := S1024x128) 1 f h rfl 128 rfl (ix2 i j) ⟨j.val / 128, hc⟩ rfl
    (ix2 i ⟨j.val % 128, hd⟩) rfl (fun b hb => by
      match b with
      | ⟨0, _⟩ => rfl
      | ⟨1, _⟩ => exact absurd rfl hb)
  refine Eq.trans e ?_
  rw [hX]
  congr 1
  exact Fin.ext (by show 128 * (j.val / 128) + j.val % 128 = j.val; omega)

/-! ## The tile as reals -/

/-- The weight of key `j` for query `i`. -/
def pR (q : Fin 1024 → Fin 128 → ℝ) (k : Fin 768 → Fin 128 → ℝ) (l : Fin 1024 → ℝ) (i : Fin 1024) (j : Fin 768) : ℝ :=
  Real.rpow 2 (∑ d, q i d * k j d - l i)

/-- The gradient of the score of key `j` for query `i`. -/
def dsR (q : Fin 1024 → Fin 128 → ℝ) (k v : Fin 768 → Fin 128 → ℝ) (o D : Fin 1024 → Fin 128 → ℝ) (l : Fin 1024 → ℝ) (i : Fin 1024) (j : Fin 768) : ℝ :=
  pR q k l i j * (∑ d, D i d * v j d - ∑ d, D i d * o i d)

section Reals
variable {q : Vec Ideal S1024x128 .bf16} {k v : Vec Ideal S768x128 .bf16} {o dO : Vec Ideal S1024x128 .bf16} {l : Vec Ideal S1024x128 .f32}
variable {q' : Fin 1024 → Fin 128 → ℝ} {k' v' : Fin 768 → Fin 128 → ℝ} {o' D' : Fin 1024 → Fin 128 → ℝ} {l' : Fin 1024 → ℝ}

theorem pay15 (l : Vec Ideal S1024x128 .f32) : k0_pay15 l = l := shapeCast_self _ _
theorem pay14 (l : Vec Ideal S1024x128 .bf16) : k0_pay14 l = l := shapeCast_self _ _
theorem pay13 (l : Vec Ideal S1024x128 .bf16) : k0_pay13 l = l := shapeCast_self _ _
theorem pay12 (l : Vec Ideal S768x128 .bf16) : k0_pay12 l = l := shapeCast_self _ _
theorem pay11 (l : Vec Ideal S768x128 .bf16) : k0_pay11 l = l := shapeCast_self _ _

theorem pay17 (hq : ∀ i d, q (ix2 i d) = (q' i d : EReal)) (hk : ∀ j d, k (ix2 j d) = (k' j d : EReal)) (i : Fin 1024) (j : Fin 768) :
    k0_pay17 k q (ix2 i j) = ((∑ d, q' i d * k' j d : ℝ) : EReal) := by
  unfold k0_pay17
  rw [pay13, pay11, mm_nt]
  exact sum_mul_coe (hq i) (hk j)

theorem pay24 (hv : ∀ j d, v (ix2 j d) = (v' j d : EReal)) (hD : ∀ i d, dO (ix2 i d) = (D' i d : EReal)) (i : Fin 1024) (j : Fin 768) :
    k0_pay24 v dO (ix2 i j) = ((∑ d, D' i d * v' j d : ℝ) : EReal) := by
  unfold k0_pay24
  rw [pay14, pay12, mm_nt]
  exact sum_mul_coe (hD i) (hv j)

theorem pay16 (hD : ∀ i d, dO (ix2 i d) = (D' i d : EReal)) (ho : ∀ i d, o (ix2 i d) = (o' i d : EReal)) (i : Fin 1024) (d : Fin 128) :
    k0_pay16 dO o (ix2 i d) = ((∑ d, D' i d * o' i d : ℝ) : EReal) := by
  unfold k0_pay16
  rw [broadcastTo_apply _ _ (ix2 i d) (ix2 i (0 : Fin 1)) (fun a => by
      match a with
      | ⟨0, _⟩ => rfl
      | ⟨1, _⟩ => rfl),
    shapeCast_self, shapeCast_apply _ _ (ix2 i (0 : Fin 1)) (ix1 i) (by
      rw [Shape.rowMajor_val_one, Shape.rowMajor_val_two]; show i.val = i.val * 1 + 0; omega)]
  refine Eq.trans (Ideal.multiReduction_add_single _ _ _ _ _ (ix1 i)) ?_
  rw [pay14, shapeCast_self]
  refine Eq.trans ?_ (sum_mul_coe (hD i) (ho i))
  refine Finset.sum_congr rfl fun x _ => ?_
  have e : reduces_S1024x128_S1024.lift (ix1 i) x = ix2 i x := funext fun a => by
    match a with
    | ⟨0, _⟩ => rfl
    | ⟨1, _⟩ => rfl
  rw [e]; rfl

/-- One lane group's weights. -/
theorem pChunk (hq : ∀ i d, q (ix2 i d) = (q' i d : EReal)) (hk : ∀ j d, k (ix2 j d) = (k' j d : EReal)) (hl : ∀ i d, l (ix2 i d) = (l' i : EReal))
    (c : Fin 6) (n : ℕ) (hn : n = 128 * c.val) (h : S1024x768.Slices ![0, n] S1024x128) (i : Fin 1024) (d : Fin 128) :
    exp2 (subf (extractStridedSlice S1024x128 ![0, n] (k0_pay17 k q) h) l) (ix2 i d) = ((pR q' k' l' i (col6 c d) : ℝ) : EReal) := by
  show Ideal.exp2 (extractStridedSlice S1024x128 ![0, n] (k0_pay17 k q) h (ix2 i d) - l (ix2 i d)) = _
  rw [slice6 c n hn, pay17 hq hk, hl, ← EReal.coe_sub, Ideal.exp2_coe]
  rfl

theorem dsT_coe (hq : ∀ i d, q (ix2 i d) = (q' i d : EReal)) (hk : ∀ j d, k (ix2 j d) = (k' j d : EReal)) (hv : ∀ j d, v (ix2 j d) = (v' j d : EReal))
    (ho : ∀ i d, o (ix2 i d) = (o' i d : EReal)) (hD : ∀ i d, dO (ix2 i d) = (D' i d : EReal)) (hl : ∀ i d, l (ix2 i d) = (l' i : EReal))
    (i : Fin 1024) (j : Fin 768) : dsT q k v o dO l (ix2 i j) = ((dsR q' k' v' o' D' l' i j : ℝ) : EReal) := by
  have one : ∀ (c : Fin 6) (n : ℕ) (hn : n = 128 * c.val) (h : S1024x768.Slices ![0, n] S1024x128) (i : Fin 1024) (d : Fin 128),
      truncf .bf16 (mulf (exp2 (subf (extractStridedSlice S1024x128 ![0, n] (k0_pay17 k q) h) l))
        (subf (extractStridedSlice S1024x128 ![0, n] (k0_pay24 v dO) h) (k0_pay16 dO o))) bitsLt_bf16_f32 (ix2 i d)
        = ((dsR q' k' v' o' D' l' i (col6 c d) : ℝ) : EReal) := fun c n hn h i d => by
    show exp2 (subf (extractStridedSlice S1024x128 ![0, n] (k0_pay17 k q) h) l) (ix2 i d)
      * (extractStridedSlice S1024x128 ![0, n] (k0_pay24 v dO) h (ix2 i d) - k0_pay16 dO o (ix2 i d)) = _
    rw [pChunk hq hk hl c n hn, slice6 c n hn, pay24 hv hD, pay16 hD ho, ← EReal.coe_sub, ← EReal.coe_mul]
    rfl
  unfold dsT k0_pay34
  rw [pay15]
  refine cat6 ![_, _, _, _, _, _] (fun i j => ((dsR q' k' v' o' D' l' i j : ℝ) : EReal)) (fun c i d => ?_) _ i j
  match c with
  | 0 => exact one 0 0 rfl slices_S1024x768_o0_0_S1024x128 i d
  | 1 => exact one 1 128 rfl slices_S1024x768_o0_128_S1024x128 i d
  | 2 => exact one 2 256 rfl slices_S1024x768_o0_256_S1024x128 i d
  | 3 => exact one 3 384 rfl slices_S1024x768_o0_384_S1024x128 i d
  | 4 => exact one 4 512 rfl slices_S1024x768_o0_512_S1024x128 i d
  | 5 => exact one 5 640 rfl slices_S1024x768_o0_640_S1024x128 i d

theorem dvT_coe (hq : ∀ i d, q (ix2 i d) = (q' i d : EReal)) (hk : ∀ j d, k (ix2 j d) = (k' j d : EReal))
    (hD : ∀ i d, dO (ix2 i d) = (D' i d : EReal)) (hl : ∀ i d, l (ix2 i d) = (l' i : EReal))
    {z : Vec Ideal S768x128 .f32} {z' : Fin 768 → Fin 128 → ℝ} (hz : ∀ j d, z (ix2 j d) = (z' j d : EReal))
    (j : Fin 768) (d : Fin 128) : dvT q k dO l z (ix2 j d) = ((z' j d + ∑ i, pR q' k' l' i j * D' i d : ℝ) : EReal) := by
  have one : ∀ (c : Fin 6) (n : ℕ) (hn : n = 128 * c.val) (h : S1024x768.Slices ![0, n] S1024x128) (i : Fin 1024) (d : Fin 128),
      truncf .bf16 (exp2 (subf (extractStridedSlice S1024x128 ![0, n] (k0_pay17 k q) h) l)) bitsLt_bf16_f32 (ix2 i d)
        = ((pR q' k' l' i (col6 c d) : ℝ) : EReal) := fun c n hn h i d => pChunk hq hk hl c n hn h i d
  unfold dvT k0_pay35
  rw [pay15, pay14, shapeCast_self, addf_apply, hz, mm_tn, EReal.coe_add]
  congr 1
  refine sum_mul_coe (fun i => ?_) (fun i => hD i d)
  refine cat6 ![_, _, _, _, _, _] (fun i j => ((pR q' k' l' i j : ℝ) : EReal)) (fun c i d => ?_) _ i j
  match c with
  | 0 => exact one 0 0 rfl slices_S1024x768_o0_0_S1024x128 i d
  | 1 => exact one 1 128 rfl slices_S1024x768_o0_128_S1024x128 i d
  | 2 => exact one 2 256 rfl slices_S1024x768_o0_256_S1024x128 i d
  | 3 => exact one 3 384 rfl slices_S1024x768_o0_384_S1024x128 i d
  | 4 => exact one 4 512 rfl slices_S1024x768_o0_512_S1024x128 i d
  | 5 => exact one 5 640 rfl slices_S1024x768_o0_640_S1024x128 i d

theorem dkT_coe (hq : ∀ i d, q (ix2 i d) = (q' i d : EReal)) (hk : ∀ j d, k (ix2 j d) = (k' j d : EReal)) (hv : ∀ j d, v (ix2 j d) = (v' j d : EReal))
    (ho : ∀ i d, o (ix2 i d) = (o' i d : EReal)) (hD : ∀ i d, dO (ix2 i d) = (D' i d : EReal)) (hl : ∀ i d, l (ix2 i d) = (l' i : EReal))
    {y : Vec Ideal S768x128 .f32} {y' : Fin 768 → Fin 128 → ℝ} (hy : ∀ j d, y (ix2 j d) = (y' j d : EReal))
    (j : Fin 768) (d : Fin 128) : dkT q k v o dO l y (ix2 j d) = ((y' j d + ∑ i, dsR q' k' v' o' D' l' i j * q' i d : ℝ) : EReal) := by
  unfold dkT k0_pay37 k0_pay36
  rw [pay13, shapeCast_self, addf_apply, hy, mm_tn, EReal.coe_add]
  congr 1
  exact sum_mul_coe (fun i => dsT_coe hq hk hv ho hD hl i j) (fun i => hq i d)

theorem dqT_coe (hq : ∀ i d, q (ix2 i d) = (q' i d : EReal)) (hk : ∀ j d, k (ix2 j d) = (k' j d : EReal)) (hv : ∀ j d, v (ix2 j d) = (v' j d : EReal))
    (ho : ∀ i d, o (ix2 i d) = (o' i d : EReal)) (hD : ∀ i d, dO (ix2 i d) = (D' i d : EReal)) (hl : ∀ i d, l (ix2 i d) = (l' i : EReal))
    {x : Vec Ideal S1x1x1024x128 .f32} {x' : Fin 1024 → Fin 128 → ℝ} (hx : ∀ i d, x (ix4 0 0 i d) = (x' i d : EReal))
    (i : Fin 1024) (d : Fin 128) : dqT q k v o dO l x (ix4 0 0 i d) = ((x' i d + ∑ j, dsR q' k' v' o' D' l' i j * k' j d : ℝ) : EReal) := by
  have rm : (S1x1x1024x128.rowMajor (ix4 0 0 i d)).val = (S1024x128.rowMajor (ix2 i d)).val := by
    rw [Shape.rowMajor_val_four, Shape.rowMajor_val_two]
    show ((0 * 1 + 0) * 1024 + i.val) * 128 + d.val = i.val * 128 + d.val
    omega
  unfold dqT k0_pay38
  rw [pay11, shapeCast_apply _ _ (ix4 0 0 i d) (ix2 i d) rm.symm, addf_apply, shapeCast_apply _ _ (ix2 i d) (ix4 0 0 i d) rm, hx, mm_nn, EReal.coe_add]
  congr 1
  exact sum_mul_coe (fun j => dsT_coe hq hk hv ho hD hl i j) (fun j => hk j d)

end Reals

end Cert.KernelIdeal.Hand
-- ==== Proof.Acc.lean ====
/- The accumulators on real arguments: after each tile the partial sums of the three gradients, and after the last tile the gradients. -/
module

public import proofs.«01_k».proof.Proof.Blocks
public import proofs.«01_k».proof.Proof.Tile

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Cert.Attn Cert.Attn.Ref

/-! ## Sums over tiles -/

theorem sum_krow {f : Fin 8448 → ℝ} (n : ℕ → ℕ) (hn : ∀ b, b < 11 → n b / 8 % 11 = b) :
    ∑ b ∈ Finset.range 11, ∑ j, f (krow (n b) j) = ∑ j, f j := by
  rw [Finset.sum_range, ← Fintype.sum_prod_type']
  refine Fintype.sum_equiv (finProdFinEquiv (m := 11) (n := 768)) _ f fun x => congrArg f (Fin.ext ?_)
  show 768 * (n x.1.val / 8 % 11) + x.2.val = x.2.val + 768 * x.1.val
  rw [hn _ x.1.isLt]; omega

theorem sum_qrow {f : Fin 8192 → ℝ} (n : ℕ → ℕ) (hn : ∀ a, a < 8 → n a % 8 = a) :
    ∑ a ∈ Finset.range 8, ∑ i, f (qrow (n a) i) = ∑ i, f i := by
  rw [Finset.sum_range, ← Fintype.sum_prod_type']
  refine Fintype.sum_equiv (finProdFinEquiv (m := 8) (n := 1024)) _ f fun x => congrArg f (Fin.ext ?_)
  show 1024 * (n x.1.val % 8) + x.2.val = x.2.val + 1024 * x.1.val
  rw [hn _ x.1.isLt]; omega

/-! ## The four heads of a tile -/

section Heads

variable {x3 : Vec Ideal S1024x512 .bf16} {x4 : Vec Ideal S768x128 .bf16} {x5 : Vec Ideal S768x256 .bf16} {x6 x7 : Vec Ideal S1024x512 .bf16}
  {x8 : Vec Ideal S1024x512 .f32}
variable {q' o' D' : Fin 4 → Fin 1024 → Fin 128 → ℝ} {k' v' : Fin 768 → Fin 128 → ℝ} {l' : Fin 4 → Fin 1024 → ℝ}

theorem dvS_coe (hq : ∀ g i d, lane g x3 (ix2 i d) = (q' g i d : EReal)) (hk : ∀ j d, x4 (ix2 j d) = (k' j d : EReal))
    (hD : ∀ g i d, lane g x7 (ix2 i d) = (D' g i d : EReal)) (hl : ∀ g i d, lane g x8 (ix2 i d) = (l' g i : EReal))
    {z : Vec Ideal S768x128 .f32} {z' : Fin 768 → Fin 128 → ℝ} (hz : ∀ j d, z (ix2 j d) = (z' j d : EReal)) (j : Fin 768) (d : Fin 128) :
    dvS x3 x4 x7 x8 z (ix2 j d) = ((z' j d + ∑ g, ∑ i, pR (q' g) k' (l' g) i j * D' g i d : ℝ) : EReal) := by
  unfold dvS
  rw [dvT_coe (hq 3) hk (hD 3) (hl 3) (dvT_coe (hq 2) hk (hD 2) (hl 2) (dvT_coe (hq 1) hk (hD 1) (hl 1) (dvT_coe (hq 0) hk (hD 0) (hl 0) hz))),
    Fin.sum_univ_four]
  exact congrArg _ (by ring)

theorem dkS_coe (hq : ∀ g i d, lane g x3 (ix2 i d) = (q' g i d : EReal)) (hk : ∀ j d, x4 (ix2 j d) = (k' j d : EReal))
    (hv : ∀ j d, vcols x5 (ix2 j d) = (v' j d : EReal)) (ho : ∀ g i d, lane g x6 (ix2 i d) = (o' g i d : EReal))
    (hD : ∀ g i d, lane g x7 (ix2 i d) = (D' g i d : EReal)) (hl : ∀ g i d, lane g x8 (ix2 i d) = (l' g i : EReal))
    {y : Vec Ideal S768x128 .f32} {y' : Fin 768 → Fin 128 → ℝ} (hy : ∀ j d, y (ix2 j d) = (y' j d : EReal)) (j : Fin 768) (d : Fin 128) :
    dkS x3 x4 x5 x6 x7 x8 y (ix2 j d) = ((y' j d + ∑ g, ∑ i, dsR (q' g) k' v' (o' g) (D' g) (l' g) i j * q' g i d : ℝ) : EReal) := by
  unfold dkS
  rw [dkT_coe (hq 3) hk hv (ho 3) (hD 3) (hl 3) (dkT_coe (hq 2) hk hv (ho 2) (hD 2) (hl 2)
    (dkT_coe (hq 1) hk hv (ho 1) (hD 1) (hl 1) (dkT_coe (hq 0) hk hv (ho 0) (hD 0) (hl 0) hy))), Fin.sum_univ_four]
  exact congrArg _ (by ring)

theorem dqS_coe (g : Fin 4) (hq : ∀ i d, lane g x3 (ix2 i d) = (q' g i d : EReal)) (hk : ∀ j d, x4 (ix2 j d) = (k' j d : EReal))
    (hv : ∀ j d, vcols x5 (ix2 j d) = (v' j d : EReal)) (ho : ∀ i d, lane g x6 (ix2 i d) = (o' g i d : EReal))
    (hD : ∀ i d, lane g x7 (ix2 i d) = (D' g i d : EReal)) (hl : ∀ i d, lane g x8 (ix2 i d) = (l' g i : EReal))
    {x : Fin 4 → Vec Ideal S1x1x1024x128 .f32} {x' : Fin 1024 → Fin 128 → ℝ} (hx : ∀ i d, x g (ix4 0 0 i d) = (x' i d : EReal)) (i : Fin 1024) (d : Fin 128) :
    dqS x3 x4 x5 x6 x7 x8 x g (ix4 0 0 i d) = ((x' i d + ∑ j, dsR (q' g) k' v' (o' g) (D' g) (l' g) i j * k' j d : ℝ) : EReal) := by
  unfold dqS
  exact dqT_coe hq hk hv ho hD hl hx i d

end Heads

/-! ## The constants -/

theorem pay8_real (j : Fin 768) (d : Fin 128) : k0_pay8 (F := Ideal) (ix2 j d) = ((0 : ℝ) : EReal) := by
  unfold k0_pay8
  rw [shapeCast_self]
  exact Ideal.ofBits_zero_f32
theorem pay9_real (j : Fin 768) (d : Fin 128) : k0_pay9 (F := Ideal) (ix2 j d) = ((0 : ℝ) : EReal) := by
  unfold k0_pay9
  rw [shapeCast_self]
  exact Ideal.ofBits_zero_f32
theorem zeroQ_real (g : Fin 4) (i : Fin 1024) (d : Fin 128) : zeroQ (F := Ideal) g (ix4 0 0 i d) = ((0 : ℝ) : EReal) := by
  unfold zeroQ k0_pay10
  exact Ideal.ofBits_zero_f32
theorem pay3_at (y : Vec Ideal S768x128 .f32) (j : Fin 768) (d : Fin 128) : k0_pay3 y (ix2 j d) = y (ix2 j d) * ((Real.log 2 : ℝ) : EReal) := by
  unfold k0_pay3
  rw [mulf_apply, broadcast_apply, IdealRules.named_const.ideal_named_scalar _ _ _ _ rfl]

/-! ## The blocks as reals -/

variable (m : (ℓ : Loc nD τ sig) → Buf (Elt Ideal) ℓ) (c : Dev nD)
variable (a0 a3 : Fin 8192 → Fin 1024 → ℝ) (a1 a2 : Fin 8448 → Fin 256 → ℝ)

/-- The arguments, as real arrays. -/
structure RealArgs : Prop where
  h0 : ∀ i e, arg0 m c (ix2 i e) = (a0 i e : EReal)
  h1 : ∀ j e, arg1 m c (ix2 j e) = (a1 j e : EReal)
  h2 : ∀ j e, arg2 m c (ix2 j e) = (a2 j e : EReal)
  h3 : ∀ i e, arg3 m c (ix2 i e) = (a3 i e : EReal)

/-- The blocks' entries at point `n`. -/
def qR (n : ℕ) (g : Fin 4) (i : Fin 1024) (d : Fin 128) : ℝ := a0 (qrow n i) (qc (hd n) g d) * σ / Real.log 2
def kR (n : ℕ) (j : Fin 768) (d : Fin 128) : ℝ := a1 (krow n j) (kc (hd n) d)
def oR (n : ℕ) (g : Fin 4) (i : Fin 1024) (d : Fin 128) : ℝ := out a0 a1 a2 (hd n) g (qrow n i) d
def dR (n : ℕ) (g : Fin 4) (i : Fin 1024) (d : Fin 128) : ℝ := a3 (qrow n i) (qc (hd n) g d)
def lR (n : ℕ) (g : Fin 4) (i : Fin 1024) : ℝ := lseR a0 a1 (arg0 m c) (arg1 m c) (hd n) g (qrow n i)

section
variable {m c a0 a3 a1 a2} (H : RealArgs m c a0 a3 a1 a2) (n : ℕ)
include H

theorem q_real (g : Fin 4) (i : Fin 1024) (d : Fin 128) : lane g (ib0 m c n) (ix2 i d) = (qR a0 n g i d : EReal) := by
  rw [lane_at, ib0_at]; exact q_at m c a0 H.h0 _ _
theorem k_real (j : Fin 768) (d : Fin 128) : ib1 m c n (ix2 j d) = (kR a1 n j d : EReal) := by
  rw [ib1_at]; exact k_at m c a1 H.h1 _ _
theorem v_real (j : Fin 768) (d : Fin 128) : vcols (ib2 m c n) (ix2 j d) = (kR a2 n j d : EReal) := by
  rw [vcols_at, ib2_at]; exact v_at m c a2 H.h2 _ _ _
theorem o_real (g : Fin 4) (i : Fin 1024) (d : Fin 128) : lane g (ib3 m c n) (ix2 i d) = (oR a0 a1 a2 n g i d : EReal) := by
  rw [lane_at, ib3_at]; exact o_at m c a0 a1 a2 H.h0 H.h1 H.h2 _ _ _ _
theorem do_real (g : Fin 4) (i : Fin 1024) (d : Fin 128) : lane g (ib4 m c n) (ix2 i d) = (dR a3 n g i d : EReal) := by
  rw [lane_at, ib4_at]; exact do_at m c a3 H.h3 _ _
theorem l_real (g : Fin 4) (i : Fin 1024) (d : Fin 128) : lane g (ib5 m c n) (ix2 i d) = (lR m c a0 a1 n g i : EReal) := by
  rw [lane_at, ib5_at]; exact lse_at m c a0 a1 H.h0 H.h1 _ _ _ _

end

/-- The tile's weights are the softmax's. -/
theorem pR_eq (n : ℕ) (g : Fin 4) (i : Fin 1024) (j : Fin 768) :
    pR (qR a0 n g) (kR a1 n) (lR m c a0 a1 n g) i j = wt a0 a1 (hd n) g (qrow n i) (krow n j) := by
  unfold pR lR lseR wt ll ex
  refine softmax_two (fun j => sc a0 a1 (hd n) g (qrow n i) j) (rowmax (arg0 m c) (arg1 m c) (hd n) g (qrow n i)) (krow n j) _ ?_
  unfold qR kR sc
  rw [Finset.sum_div]
  exact Finset.sum_congr rfl fun d _ => by ring

/-- The tile's gradients of the scores are the reference's. -/
theorem dsR_eq (n : ℕ) (g : Fin 4) (i : Fin 1024) (j : Fin 768) :
    dsR (qR a0 n g) (kR a1 n) (kR a2 n) (oR a0 a1 a2 n g) (dR a3 n g) (lR m c a0 a1 n g) i j
      = dsc a0 a1 a2 a3 (hd n) g (qrow n i) (krow n j) := by
  unfold dsR dsc
  rw [pR_eq, ← rowsum_out]
  rfl

/-! ## The accumulators -/

variable {m c a0 a3 a1 a2} (H : RealArgs m c a0 a3 a1 a2)
include H

theorem dqAcc_real (h i : ℕ) (g : Fin 4) (r : Fin 1024) (d : Fin 128) : ∀ j, dqAcc m c h i j g (ix4 0 0 r d)
    = ((∑ b ∈ Finset.range (j + 1), ∑ k, dsc a0 a1 a2 a3 (hd (h * 88 + b * 8 + i)) g (qrow (h * 88 + b * 8 + i) r) (krow (h * 88 + b * 8 + i) k)
        * a1 (krow (h * 88 + b * 8 + i) k) (kc (hd (h * 88 + b * 8 + i)) d) : ℝ) : EReal) := by
  intro j
  induction j generalizing r d with
  | zero =>
    rw [Finset.sum_range_one]
    show dqS _ _ _ _ _ _ zeroQ g (ix4 0 0 r d) = _
    rw [dqS_coe g (q_real H _ g) (k_real H _) (v_real H _) (o_real H _ g) (do_real H _ g) (l_real H _ g)
      (x' := fun _ _ => 0) (fun i d => zeroQ_real g i d), zero_add]
    rw [show h * 88 + 0 * 8 + i = h * 88 + i from by omega]
    exact congrArg _ (Finset.sum_congr rfl fun k _ => by rw [dsR_eq]; rfl)
  | succ j ih =>
    rw [Finset.sum_range_succ]
    show dqS _ _ _ _ _ _ (dqAcc m c h i j) g (ix4 0 0 r d) = _
    rw [dqS_coe g (q_real H _ g) (k_real H _) (v_real H _) (o_real H _ g) (do_real H _ g) (l_real H _ g) ih]
    exact congrArg _ (congrArg _ (Finset.sum_congr rfl fun k _ => by rw [dsR_eq]; rfl))

theorem dkAcc_real (b : ℕ) (j : Fin 768) (d : Fin 128) : ∀ a, dkAcc m c b a (ix2 j d)
    = ((∑ a' ∈ Finset.range (a + 1), ∑ g, ∑ i, dsc a0 a1 a2 a3 (hd (b * 8 + a')) g (qrow (b * 8 + a') i) (krow (b * 8 + a') j)
        * (a0 (qrow (b * 8 + a') i) (qc (hd (b * 8 + a')) g d) * σ / Real.log 2) : ℝ) : EReal) := by
  intro a
  induction a generalizing j d with
  | zero =>
    rw [Finset.sum_range_one]
    show dkS _ _ _ _ _ _ k0_pay8 (ix2 j d) = _
    rw [dkS_coe (q_real H _) (k_real H _) (v_real H _) (o_real H _) (do_real H _) (l_real H _)
      (y' := fun _ _ => 0) (fun j d => pay8_real j d), zero_add]
    exact congrArg _ (Finset.sum_congr rfl fun g _ => Finset.sum_congr rfl fun k _ => by rw [dsR_eq]; rfl)
  | succ a ih =>
    rw [Finset.sum_range_succ]
    show dkS _ _ _ _ _ _ (dkAcc m c b a) (ix2 j d) = _
    rw [dkS_coe (q_real H _) (k_real H _) (v_real H _) (o_real H _) (do_real H _) (l_real H _) ih]
    exact congrArg _ (congrArg _ (Finset.sum_congr rfl fun g _ => Finset.sum_congr rfl fun k _ => by rw [dsR_eq]; rfl))

theorem dvAcc_real (b : ℕ) (j : Fin 768) (d : Fin 128) : ∀ a, dvAcc m c b a (ix2 j d)
    = ((∑ a' ∈ Finset.range (a + 1), ∑ g, ∑ i, wt a0 a1 (hd (b * 8 + a')) g (qrow (b * 8 + a') i) (krow (b * 8 + a') j)
        * a3 (qrow (b * 8 + a') i) (qc (hd (b * 8 + a')) g d) : ℝ) : EReal) := by
  intro a
  induction a generalizing j d with
  | zero =>
    rw [Finset.sum_range_one]
    show dvS _ _ _ _ k0_pay9 (ix2 j d) = _
    rw [dvS_coe (q_real H _) (k_real H _) (do_real H _) (l_real H _)
      (z' := fun _ _ => 0) (fun j d => pay9_real j d), zero_add]
    exact congrArg _ (Finset.sum_congr rfl fun g _ => Finset.sum_congr rfl fun k _ => by rw [pR_eq]; rfl)
  | succ a ih =>
    rw [Finset.sum_range_succ]
    show dvS _ _ _ _ (dvAcc m c b a) (ix2 j d) = _
    rw [dvS_coe (q_real H _) (k_real H _) (do_real H _) (l_real H _) ih]
    exact congrArg _ (congrArg _ (Finset.sum_congr rfl fun g _ => Finset.sum_congr rfl fun k _ => by rw [pR_eq]; rfl))

/-! ## After the last tile -/

theorem dqs_real (n : ℕ) (hn : n < 176) (hb : n / 8 % 11 = 10) (g : Fin 4) (r : Fin 1024) (d : Fin 128) :
    dqs m c n g (ix4 0 0 r d) = (dQ a0 a1 a2 a3 (hd n) g (qrow n r) d : EReal) := by
  unfold dqs
  rw [hb, dqAcc_real H]
  refine congrArg _ ?_
  unfold dQ
  rw [← sum_krow (f := fun j => dsc a0 a1 a2 a3 (hd n) g (qrow n r) j * a1 j (kc (hd n) d)) (fun b => n / 88 * 88 + b * 8 + n % 8) (fun b hb => by omega)]
  refine Finset.sum_congr rfl fun b hb => ?_
  have hb' : b < 11 := Finset.mem_range.mp hb
  rw [show hd (n / 88 * 88 + b * 8 + n % 8) = hd n from Fin.ext (by show (n / 88 * 88 + b * 8 + n % 8) / 88 % 2 = n / 88 % 2; omega),
    show qrow (n / 88 * 88 + b * 8 + n % 8) r = qrow n r from Fin.ext (by
      show 1024 * ((n / 88 * 88 + b * 8 + n % 8) % 8) + r.val = 1024 * (n % 8) + r.val; omega)]

theorem dks_real (n : ℕ) (hn : n < 176) (ha : n % 8 = 7) (j : Fin 768) (d : Fin 128) :
    k0_pay3 (dks m c n) (ix2 j d) = (dK a0 a1 a2 a3 (hd n) (krow n j) d : EReal) := by
  rw [pay3_at]
  unfold dks
  rw [ha, dkAcc_real H, ← EReal.coe_mul]
  refine congrArg _ ?_
  unfold dK
  rw [← sum_qrow (f := fun i => ∑ g, dsc a0 a1 a2 a3 (hd n) g i (krow n j) * (a0 i (qc (hd n) g d) * σ)) (fun a => n / 8 * 8 + a) (fun a ha => by omega),
    Finset.sum_mul]
  refine Finset.sum_congr rfl fun a ha => ?_
  have ha' : a < 8 := Finset.mem_range.mp ha
  rw [show hd (n / 8 * 8 + a) = hd n from Fin.ext (by show (n / 8 * 8 + a) / 88 % 2 = n / 88 % 2; omega),
    show krow (n / 8 * 8 + a) j = krow n j from Fin.ext (by
      show 768 * ((n / 8 * 8 + a) / 8 % 11) + j.val = 768 * (n / 8 % 11) + j.val; omega), Finset.sum_comm, Finset.sum_mul]
  refine Finset.sum_congr rfl fun i _ => ?_
  rw [Finset.sum_mul]
  refine Finset.sum_congr rfl fun g _ => ?_
  rw [mul_assoc, div_mul_cancel₀ _ log_two_ne]

theorem dvs_real (n : ℕ) (hn : n < 176) (ha : n % 8 = 7) (j : Fin 768) (d : Fin 128) :
    dvs m c n (ix2 j d) = (dV a0 a1 a3 (hd n) (krow n j) d : EReal) := by
  unfold dvs
  rw [ha, dvAcc_real H]
  refine congrArg _ ?_
  unfold dV
  rw [← sum_qrow (f := fun i => ∑ g, wt a0 a1 (hd n) g i (krow n j) * a3 i (qc (hd n) g d)) (fun a => n / 8 * 8 + a) (fun a ha => by omega)]
  refine Finset.sum_congr rfl fun a ha => ?_
  have ha' : a < 8 := Finset.mem_range.mp ha
  rw [show hd (n / 8 * 8 + a) = hd n from Fin.ext (by show (n / 8 * 8 + a) / 88 % 2 = n / 88 % 2; omega),
    show krow (n / 8 * 8 + a) j = krow n j from Fin.ext (by
      show 768 * ((n / 8 * 8 + a) / 8 % 11) + j.val = 768 * (n / 8 % 11) + j.val; omega), Finset.sum_comm]

end Cert.KernelIdeal.Hand
-- ==== Proof.Final.lean ====
/- The three result arrays: on real arguments each ends as the reference's, block by block. -/
module

public import proofs.«01_k».proof.Proof.Acc
public import Idealize.ShloMosaic.Lib.Pipeline.Value
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open Cert.Attn Cert.Attn.Ref
open Cert.ReferenceIdeal.Read (val_main_v60 val_main_v61 val_main_v62)

theorem lc_surj (e : Fin 512) : ∃ g d, e = lc g d :=
  ⟨⟨e.val / 128, by omega⟩, ⟨e.val % 128, by omega⟩, Fin.ext (by show e.val = 128 * (e.val / 128) + e.val % 128; omega)⟩

/-! ## The blocks' places -/

theorem index6 : ∀ t : Fin cfg0.N, t.val / 8 % 11 = 10 → win0_6.index t 0 = t.val % 8 ∧ win0_6.index t 1 = t.val / 88 % 2 := by decide +kernel
theorem index7 : ∀ t : Fin cfg0.N, win0_7.index t 0 = t.val / 8 % 11 ∧ win0_7.index t 1 = t.val / 88 % 2 := by decide +kernel
theorem index8 : ∀ t : Fin cfg0.N, win0_8.index t 0 = t.val / 8 % 11 ∧ win0_8.index t 1 = t.val / 88 % 2 := by decide +kernel

variable (m : (ℓ : Loc nD τ sig) → Buf (Elt Ideal) ℓ) (c : Dev nD)

/-- The reference's three results on the run's arguments. -/
abbrev gq : Buf (Elt Ideal) ((c : Thread nD τ).loc main_v45_0) := val_main_v62 (F := Ideal) (arg0 m c) (arg1 m c) (arg2 m c) (arg3 m c)
abbrev gk : Buf (Elt Ideal) ((c : Thread nD τ).loc main_v45_1) := val_main_v61 (F := Ideal) (arg0 m c) (arg1 m c) (arg2 m c) (arg3 m c)
abbrev gv : Buf (Elt Ideal) ((c : Thread nD τ).loc main_v45_2) := val_main_v60 (F := Ideal) (arg0 m c) (arg1 m c) (arg3 m c)

theorem blk6_at (t : Fin cfg0.N) (ht : t.val / 8 % 11 = 10) (G : Buf (Elt Ideal) ((c : Thread nD τ).loc main_v45_0)) (i : Fin 1024) (g : Fin 4) (d : Fin 128) :
    ((cfg0.win 6).blk t).view.read (Elt Ideal) G (ix2 i (lc g d)) = G (ix2 (qrow t.val i) (qc (hd t.val) g d) : S8192x1024.Idx) := by
  rw [View.read_apply]
  refine congrArg G (funext fun a => Fin.ext ?_)
  match a with
  | ⟨0, _⟩ => show win0_6.index t 0 * 1024 + 1 * i.val = 1024 * (t.val % 8) + i.val; rw [(index6 t ht).1]; omega
  | ⟨1, _⟩ => show win0_6.index t 1 * 512 + 1 * (128 * g.val + d.val) = 512 * (t.val / 88 % 2) + 128 * g.val + d.val; rw [(index6 t ht).2]; omega
theorem blk7_at (t : Fin cfg0.N) (G : Buf (Elt Ideal) ((c : Thread nD τ).loc main_v45_1)) (j : Fin 768) (d : Fin 128) :
    ((cfg0.win 7).blk t).view.read (Elt Ideal) G (ix2 j d) = G (ix2 (krow t.val j) (kc (hd t.val) d) : S8448x256.Idx) := by
  rw [View.read_apply]
  refine congrArg G (funext fun a => Fin.ext ?_)
  match a with
  | ⟨0, _⟩ => show win0_7.index t 0 * 768 + 1 * j.val = 768 * (t.val / 8 % 11) + j.val; rw [(index7 t).1]; omega
  | ⟨1, _⟩ => show win0_7.index t 1 * 128 + 1 * d.val = 128 * (t.val / 88 % 2) + d.val; rw [(index7 t).2]; omega
theorem blk8_at (t : Fin cfg0.N) (G : Buf (Elt Ideal) ((c : Thread nD τ).loc main_v45_2)) (j : Fin 768) (d : Fin 128) :
    ((cfg0.win 8).blk t).view.read (Elt Ideal) G (ix2 j d) = G (ix2 (krow t.val j) (kc (hd t.val) d) : S8448x256.Idx) := by
  rw [View.read_apply]
  refine congrArg G (funext fun a => Fin.ext ?_)
  match a with
  | ⟨0, _⟩ => show win0_8.index t 0 * 768 + 1 * j.val = 768 * (t.val / 8 % 11) + j.val; rw [(index8 t).1]; omega
  | ⟨1, _⟩ => show win0_8.index t 1 * 128 + 1 * d.val = 128 * (t.val / 88 % 2) + d.val; rw [(index8 t).2]; omega

/-! ## What each point writes back -/

variable {m c} {a0 a3 : Fin 8192 → Fin 1024 → ℝ} {a1 a2 : Fin 8448 → Fin 256 → ℝ} (H : RealArgs m c a0 a3 a1 a2)
include H

theorem flushed6 (t : Fin cfg0.N) (hf : (cfg0.win 6).flush t = true) :
    (dats m 0 c).flushed 6 t = ((cfg0.win 6).blk t).view.read (Elt Ideal) (gq m c) := by
  have ht : t.val / 8 % 11 = 10 := by
    by_contra h
    rw [noFlush6 t h] at hf
    exact Bool.noConfusion hf
  have hn : t.val < 176 := lt_of_lt_of_eq t.isLt N_0
  show (cfg0.win 6).cut (grid0.coords t) ((dats m 0 c).after 6 t) = _
  rw [after6]
  refine funext fun (y : S1024x512.Idx) => ?_
  obtain ⟨r, e, rfl⟩ : ∃ r e, y = ix2 r e := ⟨_, _, eq_ix2 y⟩
  obtain ⟨g, d, rfl⟩ := lc_surj e
  exact (dqOut_at (dqs m c t.val) r g d).trans ((dqs_real H t.val hn ht g r d).trans
    ((v62_at _ _ _ _ a0 a1 a2 a3 H.h0 H.h1 H.h2 H.h3 _ _ _ _).symm.trans (blk6_at c t ht (gq m c) r g d).symm))

theorem flushed7 (t : Fin cfg0.N) (hf : (cfg0.win 7).flush t = true) :
    (dats m 0 c).flushed 7 t = ((cfg0.win 7).blk t).view.read (Elt Ideal) (gk m c) := by
  have ht : t.val % 8 = 7 := (flush0_7 t).mp hf
  have hn : t.val < 176 := lt_of_lt_of_eq t.isLt N_0
  show (cfg0.win 7).cut (grid0.coords t) ((dats m 0 c).after 7 t) = _
  rw [after7]
  refine funext fun (y : S768x128.Idx) => ?_
  obtain ⟨j, d, rfl⟩ : ∃ j d, y = ix2 j d := ⟨_, _, eq_ix2 y⟩
  exact (dks_real H t.val hn ht j d).trans ((v61_at _ _ _ _ a0 a1 a2 a3 H.h0 H.h1 H.h2 H.h3 _ _ _).symm.trans (blk7_at c t (gk m c) j d).symm)

theorem flushed8 (t : Fin cfg0.N) (hf : (cfg0.win 8).flush t = true) :
    (dats m 0 c).flushed 8 t = ((cfg0.win 8).blk t).view.read (Elt Ideal) (gv m c) := by
  have ht : t.val % 8 = 7 := (flush0_8 t).mp hf
  have hn : t.val < 176 := lt_of_lt_of_eq t.isLt N_0
  show (cfg0.win 8).cut (grid0.coords t) ((dats m 0 c).after 8 t) = _
  rw [after8]
  refine funext fun (y : S768x128.Idx) => ?_
  obtain ⟨j, d, rfl⟩ : ∃ j d, y = ix2 j d := ⟨_, _, eq_ix2 y⟩
  exact (dvs_real H t.val hn ht j d).trans ((v60_at _ _ _ a0 a1 a3 H.h0 H.h1 H.h3 _ _ _).symm.trans (blk8_at c t (gv m c) j d).symm)

/-! ## The arrays -/

theorem final6 : (dats m 0 c).arrAt 6 cfg0.N = gq m c :=
  (dats m 0 c).arrAt_eq_of_cover 6 _ (flushed6 H) ((by decide +kernel : (cfg0.win 6).Covers).cover _ (Memref.isWhole_whole _))

theorem final7 : (dats m 0 c).arrAt 7 cfg0.N = gk m c :=
  (dats m 0 c).arrAt_eq_of_cover 7 _ (flushed7 H) ((by decide +kernel : (cfg0.win 7).Covers).cover _ (Memref.isWhole_whole _))

theorem final8 : (dats m 0 c).arrAt 8 cfg0.N = gv m c :=
  (dats m 0 c).arrAt_eq_of_cover 8 _ (flushed8 H) ((by decide +kernel : (cfg0.win 8).Covers).cover _ (Memref.isWhole_whole _))

omit H in
/-- The run's three results, where every device's arguments are real. -/
theorem run_value (m : (ℓ : Loc nD τ sig) → Buf (Elt Ideal) ℓ) (ρ : Dev nD → PrngReg) (H : ∀ c, ∃ a0 a3 a1 a2, RealArgs m c a0 a3 a1 a2) :
    θ_run defs (onTc (τ := τ) (main (F := Ideal))) ⟨m, fun _ => 0, ρ⟩ fun r => ∀ c : Dev nD,
      r.2.mem ((c.tc : Thread nD τ).loc main_v45_0) = gq m c
      ∧ r.2.mem ((c.tc : Thread nD τ).loc main_v45_1) = gk m c
      ∧ r.2.mem ((c.tc : Thread nD τ).loc main_v45_2) = gv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
      obtain ⟨a0, a3, a1, a2, Hc⟩ := H c
      exact ⟨((h.1 c).1 6).trans (final6 Hc), ((h.1 c).1 7).trans (final7 Hc), ((h.1 c).1 8).trans (final8 Hc), h.2.1 c⟩)
    (θ_run_and (run_main m ρ) (frame m ρ))

end Cert.KernelIdeal.Hand
-- ==== Proof.Finite.lean ====
/- The precondition `finite` read as real numbers: an entry whose absolute value is below infinity is one. -/
module

public import proofs.«01_k».proof.Proof.Final
public import proofs.«01_k».proof.Defs
public import proofs.«01_k».proof.Proof.Gen.KernelIdeal
public import proofs.«01_k».proof.Proof.Gen.ReferenceIdeal
public import Idealize.ShloMosaic.PureOps.Ideal.Laws

@[expose] public section

noncomputable section

namespace Cert.Attn.Finite

open Idealize.ShloMosaic Idealize.ShloMosaic.ValueIdx
open Cert.KernelIdeal.Hand (RealArgs arg0 arg1 arg2 arg3)

/-- The side conditions of the predicate's own operations. -/
instance facts : Cert.Pre_finite.Facts := ⟨by decide, by decide⟩

theorem ofBits_inf : Ideal.ofBits .f32 0x7F800000#32 = ⊤ := by
  simp [Ideal.ofBits, Ideal.ieee]

/-- An extended real whose absolute value is below infinity is its real part. -/
theorem coe_of_abs_lt (a : EReal) (h : max a (-a) < ⊤) : a = ((a.toReal : ℝ) : EReal) :=
  (EReal.coe_toReal (fun e => by simp [e] at h) (fun e => by simp [e] at h)).symm

theorem real_of_lt {S : Shape} (hb : Cert.Pre_finite.S_.BroadcastsInDim S ![]) (x : FVec Ideal S .f32)
    (h : cmpf .olt (Host.absf x) (broadcastInDim S ![] hb (constant (F := Ideal) Cert.Pre_finite.S_ .f32 0x7F800000#32)) = fun _ => 1#1) (i : S.Idx) :
    x i = ((EReal.toReal (x i) : ℝ) : EReal) := by
  refine coe_of_abs_lt _ ?_
  have e : Ideal.cmp .olt (max (x i) (-(x i)) : EReal) (Ideal.ofBits .f32 0x7F800000#32) = 1#1 := congrFun h i
  rw [ofBits_inf] at e
  by_contra hn
  simp [Ideal.cmp, hn] at e

/-- A memory that meets the precondition holds real arguments on every device. -/
theorem real_args (m : (ℓ : Loc Cert.KernelIdeal.nD Cert.KernelIdeal.τ Cert.KernelIdeal.sig) → Buf (Elt Ideal) ℓ)
    (h : Cert.Pre_KernelIdeal_finite m) (c : Dev Cert.KernelIdeal.nD) : ∃ a0 a3 a1 a2, RealArgs m c a0 a3 a1 a2 :=
  ⟨fun i e => EReal.toReal (arg0 m c (ix2 i e)), fun i e => EReal.toReal (arg3 m c (ix2 i e)),
    fun j e => EReal.toReal (arg1 m c (ix2 j e)), fun j e => EReal.toReal (arg2 m c (ix2 j e)),
    { h0 := fun i e => real_of_lt _ (arg0 m c) (h c).1 _
      h1 := fun j e => real_of_lt _ (arg1 m c) (h c).2.1 _
      h2 := fun j e => real_of_lt _ (arg2 m c) (h c).2.2.1 _
      h3 := fun i e => real_of_lt _ (arg3 m c) (h c).2.2.2 _ }⟩

end Cert.Attn.Finite

end
-- ==== Proof.FlashFwdBody.lean ====
/- The attention's forward call: what one grid point leaves in the three carried buffers and in its two blocks of the results,
   head by head. -/
module

public import proofs.«01_k».proof.Proof.Gen.FlashFwdIdeal.Value

@[expose] public section

set_option maxRecDepth 16384

noncomputable section

namespace Cert.FlashFwdIdeal.Hand

open Cert.FlashFwdIdeal Cert.FlashFwdIdeal.Gen
open Idealize.ShloMosaic Idealize.ShloMosaic.TcCoe Idealize.ShloMosaic.Tactic

variable {F : FTy → Type} [FloatOps F] [Named F]

/-! ## One head's step -/

/-- The running maximum after a tile; -/
def mS (k : Vec F S1408x128 .bf16) (q : Vec F S1024x128 .bf16) (x : Vec F S1x1024x128 .f32) : Vec F S1x1024x128 .f32 := k0_pay36 (k0_pay28 k q x)
/-- the running weighted sum of the values; -/
def aS (k : Vec F S1408x128 .bf16) (v : Vec F S1408x256 .bf16) (q : Vec F S1024x128 .bf16) (x a : Vec F S1x1024x128 .f32) : Vec F S1x1024x128 .f32 :=
  k0_pay33 (k0_pay14 v) (k0_pay18 k q) (k0_pay19 k q) (k0_pay20 k q) (k0_pay21 k q) (k0_pay22 k q) (k0_pay23 k q) (k0_pay24 k q) (k0_pay25 k q) (k0_pay26 k q)
    (k0_pay27 x) (k0_pay28 k q x) (k0_pay29 k q x) (k0_pay30 k q x) a
/-- the running sum of the weights. -/
def lS (k : Vec F S1408x128 .bf16) (v : Vec F S1408x256 .bf16) (q : Vec F S1024x128 .bf16) (x l : Vec F S1x1024x128 .f32) : Vec F S1x1024x128 .f32 :=
  k0_pay35 (k0_pay34 (k0_pay14 v) (k0_pay18 k q) (k0_pay19 k q) (k0_pay20 k q) (k0_pay21 k q) (k0_pay22 k q) (k0_pay23 k q) (k0_pay24 k q) (k0_pay25 k q)
    (k0_pay26 k q) (k0_pay27 x) (k0_pay28 k q x) (k0_pay29 k q x) (k0_pay30 k q x) l)

/-! ## A carried buffer's four slabs, a block's four groups of lanes -/

theorem slab_inb (g : Fin 4) : ∀ a, (![g.val, 0, 0] : Fin 3 → ℕ) a + S1x1024x128.size a ≤ S4x1024x128.size a := by
  intro a; fin_cases a
  · show g.val + 1 ≤ 4; omega
  · exact le_refl 1024
  · exact le_refl 128
abbrev slabR (g : Fin 4) : Rect S4x1024x128 := Rect.unit (s := S4x1024x128) ![g.val, 0, 0] S1x1024x128.size (slab_inb g)
/-- Slab `g` of a carried buffer. -/
def slab (X : Vec F S4x1024x128 .f32) (g : Fin 4) : Vec F S1x1024x128 .f32 := View.ld X (slabR g)

theorem lane_inb (g : Fin 4) : ∀ a, (![0, 128 * g.val] : Fin 2 → ℕ) a + S1024x128.size a ≤ S1024x512.size a := by
  intro a; fin_cases a
  · exact le_refl 1024
  · show 128 * g.val + 128 ≤ 512; omega
abbrev laneR (g : Fin 4) : Rect S1024x512 := Rect.unit (s := S1024x512) ![0, 128 * g.val] S1024x128.size (lane_inb g)
/-- Head `g`'s lanes of a block. -/
def lane {e : EltTy} (g : Fin 4) (x : Vec F S1024x512 e) : Vec F S1024x128 e := View.ld x (laneR g)

theorem readAt_ld {κ : Kind} {sp : Space} {s : Shape} {e : EltTy} (v : View sig κ sp s e) (f : v.ty.Contents (Elt F)) (r : Rect s) :
    v.readAt (Elt F) r.toLoadRect f = View.ld (v.read (Elt F) f) r := rfl

/-- A load of a whole buffer reads its contents. -/
theorem ld_all {s : Shape} {e : EltTy} (X : Vec F s e) {off : Fin s.rank → ℕ} (ho : off = fun _ => 0) (inb : ∀ a, off a + s.size a ≤ s.size a) :
    View.ld X (Rect.unit (s := s) off s.size inb) = X := by
  subst ho
  funext i
  show X _ = X i
  refine congrArg X (funext fun a => Fin.ext ?_)
  show 0 + 1 * (i a).val = (i a).val
  omega

section Pile
variable {κ : Kind} {sp : Space} (v : View sig κ sp S4x1024x128 .f32)

/-- The stores of the first `n` heads over the stores `T`, each head's a function of what its slab then holds. -/
def pile (T : List (View.Piece (Elt F) S4x1024x128 .f32)) (f : Fin 4 → Vec F S1x1024x128 .f32 → Vec F S1x1024x128 .f32) :
    ℕ → List (View.Piece (Elt F) S4x1024x128 .f32)
  | 0 => T
  | n + 1 => ⟨slabR (Fin.ofNat 4 n), f (Fin.ofNat 4 n) (v.readCov (Val := Elt F) (pile T f n) (slabR (Fin.ofNat 4 n)).toLoadRect)⟩ :: pile T f n

theorem cov_slab (L : List (View.Piece (Elt F) S4x1024x128 .f32)) (g : Fin 4) :
    v.readCov (Val := Elt F) L (slabR g).toLoadRect = slab (v.read (Elt F) (v.writes (Elt F) v.junk L)) g := rfl

theorem slab_hit (w : v.ty.Contents (Elt F)) (g : Fin 4) (x : Vec F S1x1024x128 .f32) (L : List (View.Piece (Elt F) S4x1024x128 .f32)) :
    slab (v.read (Elt F) (v.writes (Elt F) w (⟨slabR g, x⟩ :: L))) g = x :=
  funext fun j => View.read_writes_cons_hit (Val := Elt F) v w (slabR g) x L j _ rfl

theorem slab_miss (w : v.ty.Contents (Elt F)) (g k : Fin 4) (hne : g ≠ k) (x : Vec F S1x1024x128 .f32) (L : List (View.Piece (Elt F) S4x1024x128 .f32)) :
    slab (v.read (Elt F) (v.writes (Elt F) w (⟨slabR k, x⟩ :: L))) g = slab (v.read (Elt F) (v.writes (Elt F) w L)) g := by
  funext j
  refine View.read_writes_cons_miss_of_axis (Val := Elt F) v w _ L _ 0 k.val 1 rfl rfl rfl ?_
  have hj : (j 0).val < 1 := (j 0).isLt
  have : g.val ≠ k.val := fun h => hne (Fin.ext h)
  show g.val + 1 * (j 0).val < _ ∨ _ ≤ g.val + 1 * (j 0).val
  omega

variable (T : List (View.Piece (Elt F) S4x1024x128 .f32)) (f : Fin 4 → Vec F S1x1024x128 .f32 → Vec F S1x1024x128 .f32)

theorem pile_above (w : v.ty.Contents (Elt F)) (g : Fin 4) : ∀ n, n ≤ g.val →
    slab (v.read (Elt F) (v.writes (Elt F) w (pile v T f n))) g = slab (v.read (Elt F) (v.writes (Elt F) w T)) g := by
  intro n
  induction n with
  | zero => exact fun _ => rfl
  | succ n ih =>
    intro h
    have : g ≠ Fin.ofNat 4 n := fun e => by
      have e' := congrArg Fin.val e
      have : (Fin.ofNat 4 n).val = n % 4 := rfl
      omega
    exact (slab_miss v w g _ this _ _).trans (ih (by omega))

/-- After the four heads' stores, slab `g` is head `g`'s function of what the slab held before them. -/
theorem pile_slab (w : v.ty.Contents (Elt F)) (g : Fin 4) :
    slab (v.read (Elt F) (v.writes (Elt F) w (pile v T f 4))) g
      = f g (slab (v.read (Elt F) (v.writes (Elt F) v.junk T)) g) := by
  have key : ∀ n, g.val < n → n ≤ 4 → slab (v.read (Elt F) (v.writes (Elt F) w (pile v T f n))) g
      = f g (slab (v.read (Elt F) (v.writes (Elt F) v.junk T)) g) := by
    intro n
    induction n with
    | zero => exact fun h => absurd h (Nat.not_lt_zero _)
    | succ n ih =>
      intro h hn
      by_cases e : g.val = n
      · obtain rfl : Fin.ofNat 4 n = g := Fin.ext ((Nat.mod_eq_of_lt (by omega)).trans e.symm)
        exact (slab_hit v w _ _ _).trans (congrArg (f _) (pile_above v T f v.junk _ n (le_of_eq e.symm)))
      · have : g ≠ Fin.ofNat 4 n := fun h' => e ((congrArg Fin.val h').trans (Nat.mod_eq_of_lt (by omega)))
        exact (slab_miss v w g _ this _ _).trans (ih (by omega) (by omega))
  exact key 4 g.isLt (le_refl _)

/-- A store of the whole buffer leaves its contents. -/
theorem slab_full (w : v.ty.Contents (Elt F)) (inb : ∀ a, (![0, 0, 0] : Fin 3 → ℕ) a + S4x1024x128.size a ≤ S4x1024x128.size a) (X : Vec F S4x1024x128 .f32) (g : Fin 4) :
    slab (v.read (Elt F) (v.writes (Elt F) w [⟨Rect.unit (s := S4x1024x128) ![0, 0, 0] S4x1024x128.size inb, X⟩])) g = slab X g := by
  funext j
  have e : (Rect.unit (s := S4x1024x128) ![0, 0, 0] S4x1024x128.size inb).idx ((slabR g).idx j) = (slabR g).idx j := by
    generalize (slabR g).idx j = y
    refine funext fun a => Fin.ext ?_
    show (![0, 0, 0] : Fin 3 → ℕ) a + 1 * (y a).val = (y a).val
    have : (![0, 0, 0] : Fin 3 → ℕ) a = 0 := by fin_cases a <;> rfl
    omega
  unfold slab View.ld
  exact View.read_writes_cons_hit (Val := Elt F) v w (Rect.unit (s := S4x1024x128) ![0, 0, 0] S4x1024x128.size inb) X [] ((slabR g).idx j) _ e

end Pile

section Lanes
variable {κ : Kind} {sp : Space} {e : EltTy} (v : View sig κ sp S1024x512 e)

/-- The stores of the four heads' lanes. -/
def lanes (f : Fin 4 → Vec F S1024x128 e) : List (View.Piece (Elt F) S1024x512 e) :=
  [⟨laneR 3, f 3⟩, ⟨laneR 2, f 2⟩, ⟨laneR 1, f 1⟩, ⟨laneR 0, f 0⟩]

theorem lane_hit (w : v.ty.Contents (Elt F)) (g : Fin 4) (x : Vec F S1024x128 e) (L : List (View.Piece (Elt F) S1024x512 e)) :
    lane g (v.read (Elt F) (v.writes (Elt F) w (⟨laneR g, x⟩ :: L))) = x :=
  funext fun j => View.read_writes_cons_hit (Val := Elt F) v w (laneR g) x L j _ rfl

theorem lane_miss (w : v.ty.Contents (Elt F)) (g k : Fin 4) (hne : g ≠ k) (x : Vec F S1024x128 e) (L : List (View.Piece (Elt F) S1024x512 e)) :
    lane g (v.read (Elt F) (v.writes (Elt F) w (⟨laneR k, x⟩ :: L))) = lane g (v.read (Elt F) (v.writes (Elt F) w L)) := by
  funext j
  refine View.read_writes_cons_miss_of_axis (Val := Elt F) v w _ L _ 1 (128 * k.val) 128 rfl rfl rfl ?_
  have hj : (j 1).val < 128 := (j 1).isLt
  have : g.val ≠ k.val := fun h => hne (Fin.ext h)
  show 128 * g.val + 1 * (j 1).val < _ ∨ _ ≤ 128 * g.val + 1 * (j 1).val
  omega

theorem lanes_lane (w : v.ty.Contents (Elt F)) (f : Fin 4 → Vec F S1024x128 e) (g : Fin 4) :
    lane g (v.read (Elt F) (v.writes (Elt F) w (lanes f))) = f g := by
  unfold lanes
  match g with
  | 0 => exact (lane_miss v w 0 3 (by decide) _ _).trans ((lane_miss v w 0 2 (by decide) _ _).trans ((lane_miss v w 0 1 (by decide) _ _).trans (lane_hit v w 0 _ _)))
  | 1 => exact (lane_miss v w 1 3 (by decide) _ _).trans ((lane_miss v w 1 2 (by decide) _ _).trans (lane_hit v w 1 _ _))
  | 2 => exact (lane_miss v w 2 3 (by decide) _ _).trans (lane_hit v w 2 _ _)
  | 3 => exact lane_hit v w 3 _ _

end Lanes

/-! ## The stores of a point -/

section Run
variable (c : Dev nD) (i : grid0.Coords)
  (arg3 : Memref sig .tc .vmem S1024x512 .bf16) (h3 : arg3.IsWhole) (arg4 : Memref sig .tc .vmem S1408x128 .bf16) (h4 : arg4.IsWhole)
  (arg5 : Memref sig .tc .vmem S1408x256 .bf16) (h5 : arg5.IsWhole) (arg6 : Memref sig .tc .vmem S1024x512 .bf16) (h6 : arg6.IsWhole)
  (arg7 : Memref sig .tc .vmem S1024x512 .f32) (h7 : arg7.IsWhole) (arg8 : Memref sig .tc .vmem S4x1024x128 .f32) (h8 : arg8.IsWhole)
  (arg9 : Memref sig .tc .vmem S4x1024x128 .f32) (h9 : arg9.IsWhole) (arg10 : Memref sig .tc .vmem S4x1024x128 .f32) (h10 : arg10.IsWhole)
  (x0 : Vec F S1024x512 .bf16) (x1 : Vec F S1408x128 .bf16) (x2 : Vec F S1408x256 .bf16) (xs0 xs1 xs2 : Vec F S4x1024x128 .f32)

/-- The point's blocks, as loaded. -/
abbrev qL (g : Fin 4) : Vec F S1024x128 .bf16 := arg3.view.readAt (Elt F) (laneR g).toLoadRect (h3.unread x0)
abbrev kL : Vec F S1408x128 .bf16 := arg4.view.readAt (Elt F) (Rect.unit (s := S1408x128) ![0, 0] S1408x128.size inb_S1408x128_S1408x128_0_0).toLoadRect (h4.unread x1)
abbrev vL : Vec F S1408x256 .bf16 := arg5.view.readAt (Elt F) (Rect.unit (s := S1408x256) ![0, 0] S1408x256.size inb_S1408x256_S1408x256_0_0).toLoadRect (h5.unread x2)

theorem qL_eq (g : Fin 4) : qL arg3 h3 x0 g = lane g x0 := by
  show arg3.view.readAt (Elt F) (laneR g).toLoadRect (h3.unread x0) = _
  rw [readAt_ld, h3.read_unread]; rfl
theorem kL_eq : kL arg4 h4 x1 = x1 := by
  show arg4.view.readAt (Elt F) _ (h4.unread x1) = _
  rw [readAt_ld, h4.read_unread]; exact ld_all x1 (funext fun a => by fin_cases a <;> rfl) _
theorem vL_eq : vL arg5 h5 x2 = x2 := by
  show arg5.view.readAt (Elt F) _ (h5.unread x2) = _
  rw [readAt_ld, h5.read_unread]; exact ld_all x2 (funext fun a => by fin_cases a <;> rfl) _
theorem sL_eq (m : Memref sig .tc .vmem S4x1024x128 .f32) (h : m.IsWhole) (xs : Vec F S4x1024x128 .f32) (g : Fin 4) :
    m.view.readAt (Elt F) (slabR g).toLoadRect (h.unread xs) = slab xs g := by
  rw [readAt_ld, h.read_unread]; rfl

abbrev full (X : Vec F S4x1024x128 .f32) : List (View.Piece (Elt F) S4x1024x128 .f32) :=
  [⟨Rect.unit (s := S4x1024x128) ![0, 0, 0] S4x1024x128.size inb_S4x1024x128_S4x1024x128_0_0_0, X⟩]

/-- The stores into the running maximum, after a reset; -/
abbrev mA : ℕ → List (View.Piece (Elt F) S4x1024x128 .f32) :=
  pile arg8.view (full k0_pay10) (fun g x => mS (kL arg4 h4 x1) (qL arg3 h3 x0 g) x)
/-- the maximum a head then reads. -/
abbrev xA (g : Fin 4) : Vec F S1x1024x128 .f32 :=
  arg8.view.readCov (Val := Elt F) (mA arg3 h3 arg4 h4 arg8 x0 x1 g.val) (slabR g).toLoadRect

section CaseA
variable (hc0 : cond0_0 i) (hc1 : ¬cond0_1 i)

theorem listA0 : (kernelRun0_A c i arg3 h3 arg4 h4 arg5 h5 arg6 h6 arg7 h7 arg8 h8 arg9 h9 arg10 h10 hc0 hc1 x0 x1 x2).2.2.1
    = mA arg3 h3 arg4 h4 arg8 x0 x1 4 := rfl
theorem listA1 : (kernelRun0_A c i arg3 h3 arg4 h4 arg5 h5 arg6 h6 arg7 h7 arg8 h8 arg9 h9 arg10 h10 hc0 hc1 x0 x1 x2).2.2.2.1
    = pile arg9.view (full k0_pay11) (fun g l => lS (kL arg4 h4 x1) (vL arg5 h5 x2) (qL arg3 h3 x0 g) (xA arg3 h3 arg4 h4 arg8 x0 x1 g) l) 4 := rfl
theorem listA2 : (kernelRun0_A c i arg3 h3 arg4 h4 arg5 h5 arg6 h6 arg7 h7 arg8 h8 arg9 h9 arg10 h10 hc0 hc1 x0 x1 x2).2.2.2.2.1
    = pile arg10.view (full k0_pay12) (fun g a => aS (kL arg4 h4 x1) (vL arg5 h5 x2) (qL arg3 h3 x0 g) (xA arg3 h3 arg4 h4 arg8 x0 x1 g) a) 4 := rfl
end CaseA

/-- The stores over what the point before left. -/
abbrev mB : List (View.Piece (Elt F) S4x1024x128 .f32) :=
  pile arg8.view [] (fun g _ => mS (kL arg4 h4 x1) (qL arg3 h3 x0 g) (arg8.view.readAt (Elt F) (slabR g).toLoadRect (h8.unread xs0))) 4
abbrev lB : List (View.Piece (Elt F) S4x1024x128 .f32) :=
  pile arg9.view [] (fun g _ => lS (kL arg4 h4 x1) (vL arg5 h5 x2) (qL arg3 h3 x0 g) (arg8.view.readAt (Elt F) (slabR g).toLoadRect (h8.unread xs0))
    (arg9.view.readAt (Elt F) (slabR g).toLoadRect (h9.unread xs1))) 4
abbrev aB : List (View.Piece (Elt F) S4x1024x128 .f32) :=
  pile arg10.view [] (fun g _ => aS (kL arg4 h4 x1) (vL arg5 h5 x2) (qL arg3 h3 x0 g) (arg8.view.readAt (Elt F) (slabR g).toLoadRect (h8.unread xs0))
    (arg10.view.readAt (Elt F) (slabR g).toLoadRect (h10.unread xs2))) 4

section CaseB
variable (hc0 : ¬cond0_0 i) (hc1 : ¬cond0_1 i)

theorem listB0 : (kernelRun0_B c i arg3 h3 arg4 h4 arg5 h5 arg6 h6 arg7 h7 arg8 h8 arg9 h9 arg10 h10 hc0 hc1 x0 x1 x2 xs0 xs1 xs2).2.2.1
    = mB arg3 h3 arg4 h4 arg8 h8 x0 x1 xs0 := rfl
theorem listB1 : (kernelRun0_B c i arg3 h3 arg4 h4 arg5 h5 arg6 h6 arg7 h7 arg8 h8 arg9 h9 arg10 h10 hc0 hc1 x0 x1 x2 xs0 xs1 xs2).2.2.2.1
    = lB arg3 h3 arg4 h4 arg5 h5 arg8 h8 arg9 h9 x0 x1 x2 xs0 xs1 := rfl
theorem listB2 : (kernelRun0_B c i arg3 h3 arg4 h4 arg5 h5 arg6 h6 arg7 h7 arg8 h8 arg9 h9 arg10 h10 hc0 hc1 x0 x1 x2 xs0 xs1 xs2).2.2.2.2.1
    = aB arg3 h3 arg4 h4 arg5 h5 arg8 h8 arg10 h10 x0 x1 x2 xs0 xs2 := rfl
end CaseB

section CaseC
variable (hc0 : ¬cond0_0 i) (hc1 : cond0_1 i)

theorem listC0 : (kernelRun0_C c i arg3 h3 arg4 h4 arg5 h5 arg6 h6 arg7 h7 arg8 h8 arg9 h9 arg10 h10 hc0 hc1 x0 x1 x2 xs0 xs1 xs2).2.2.1
    = mB arg3 h3 arg4 h4 arg8 h8 x0 x1 xs0 := rfl
theorem listC1 : (kernelRun0_C c i arg3 h3 arg4 h4 arg5 h5 arg6 h6 arg7 h7 arg8 h8 arg9 h9 arg10 h10 hc0 hc1 x0 x1 x2 xs0 xs1 xs2).2.2.2.1
    = lB arg3 h3 arg4 h4 arg5 h5 arg8 h8 arg9 h9 x0 x1 x2 xs0 xs1 := rfl
theorem listC2 : (kernelRun0_C c i arg3 h3 arg4 h4 arg5 h5 arg6 h6 arg7 h7 arg8 h8 arg9 h9 arg10 h10 hc0 hc1 x0 x1 x2 xs0 xs1 xs2).2.2.2.2.1
    = aB arg3 h3 arg4 h4 arg5 h5 arg8 h8 arg10 h10 x0 x1 x2 xs0 xs2 := rfl
theorem listC3 : (kernelRun0_C c i arg3 h3 arg4 h4 arg5 h5 arg6 h6 arg7 h7 arg8 h8 arg9 h9 arg10 h10 hc0 hc1 x0 x1 x2 xs0 xs1 xs2).1
    = lanes (fun g => k0_pay2 (arg10.view.readCov (Val := Elt F) (aB arg3 h3 arg4 h4 arg5 h5 arg8 h8 arg10 h10 x0 x1 x2 xs0 xs2) (slabR g).toLoadRect)
        (arg9.view.readCov (Val := Elt F) (lB arg3 h3 arg4 h4 arg5 h5 arg8 h8 arg9 h9 x0 x1 x2 xs0 xs1) (slabR g).toLoadRect)) := rfl
theorem listC4 : (kernelRun0_C c i arg3 h3 arg4 h4 arg5 h5 arg6 h6 arg7 h7 arg8 h8 arg9 h9 arg10 h10 hc0 hc1 x0 x1 x2 xs0 xs1 xs2).2.1
    = lanes (fun g => k0_pay3 (arg8.view.readCov (Val := Elt F) (mB arg3 h3 arg4 h4 arg8 h8 x0 x1 xs0) (slabR g).toLoadRect)
        (arg9.view.readCov (Val := Elt F) (lB arg3 h3 arg4 h4 arg5 h5 arg8 h8 arg9 h9 x0 x1 x2 xs0 xs1) (slabR g).toLoadRect)) := rfl
end CaseC

end Run

/-! ## The step of a point -/

section Step
open Cert.FlashFwdIdeal.Value

variable (m : (ℓ : Loc nD τ sig) → Buf (Elt F) ℓ) (c : Dev nD) (t : Fin cfg0.N)

/-- What a point leaves: the two blocks of the results and the three carried buffers. -/
abbrev State (F : FTy → Type) [FloatOps F] : Type :=
  Vec F S1024x512 .bf16 × Vec F S1024x512 .f32 × Vec F S4x1024x128 .f32 × Vec F S4x1024x128 .f32 × Vec F S4x1024x128 .f32

variable (s : State F) (g : Fin 4)

/-- The point's blocks, and what a head reads of the carried buffers: the reset values at a first key tile. -/
abbrev qB : Vec F S1024x128 .bf16 := lane g (iblk m c 0 t : Vec F S1024x512 .bf16)
abbrev kB : Vec F S1408x128 .bf16 := iblk m c 1 t
abbrev vB : Vec F S1408x256 .bf16 := iblk m c 2 t
def m0 : Vec F S1x1024x128 .f32 := slab (if t.val % 6 = 0 then k0_pay10 else s.2.2.1) g
def l0 : Vec F S1x1024x128 .f32 := slab (if t.val % 6 = 0 then k0_pay11 else s.2.2.2.1) g
def a0' : Vec F S1x1024x128 .f32 := slab (if t.val % 6 = 0 then k0_pay12 else s.2.2.2.2) g

theorem xA_eq (arg3 : Memref sig .tc .vmem S1024x512 .bf16) (h3 : arg3.IsWhole) (arg4 : Memref sig .tc .vmem S1408x128 .bf16) (h4 : arg4.IsWhole)
    (arg8 : Memref sig .tc .vmem S4x1024x128 .f32) (x0 : Vec F S1024x512 .bf16) (x1 : Vec F S1408x128 .bf16) :
    xA arg3 h3 arg4 h4 arg8 x0 x1 g = slab k0_pay10 g :=
  (pile_above arg8.view _ _ _ g _ (le_refl _)).trans (slab_full _ _ _ _ _)

theorem step_m : slab (stAt0 m c t.val t.isLt s).2.2.1 g = mS (kB m c t) (qB m c t g) (m0 t s g) := by
  unfold m0
  by_cases h0 : t.val % 6 = 0
  · rw [stAt0_A m c t s h0 (by omega), if_pos h0]
    dsimp only
    unfold sout0_A_0
    rw [listA0, pile_slab, slab_full, kL_eq, qL_eq]
  · rw [if_neg h0]
    by_cases h1 : t.val % 6 = 5
    · rw [stAt0_C m c t s h0 h1]
      dsimp only
      unfold sout0_C_0
      rw [listC0, pile_slab, kL_eq, qL_eq, sL_eq]
    · rw [stAt0_B m c t s h0 h1]
      dsimp only
      unfold sout0_B_0
      rw [listB0, pile_slab, kL_eq, qL_eq, sL_eq]

theorem step_l : slab (stAt0 m c t.val t.isLt s).2.2.2.1 g = lS (kB m c t) (vB m c t) (qB m c t g) (m0 t s g) (l0 t s g) := by
  unfold m0 l0
  by_cases h0 : t.val % 6 = 0
  · rw [stAt0_A m c t s h0 (by omega), if_pos h0, if_pos h0]
    dsimp only
    unfold sout0_A_1
    rw [listA1, pile_slab, slab_full, kL_eq, vL_eq, qL_eq, xA_eq]
  · rw [if_neg h0, if_neg h0]
    by_cases h1 : t.val % 6 = 5
    · rw [stAt0_C m c t s h0 h1]
      dsimp only
      unfold sout0_C_1
      rw [listC1, pile_slab, kL_eq, vL_eq, qL_eq, sL_eq, sL_eq]
    · rw [stAt0_B m c t s h0 h1]
      dsimp only
      unfold sout0_B_1
      rw [listB1, pile_slab, kL_eq, vL_eq, qL_eq, sL_eq, sL_eq]

theorem step_a : slab (stAt0 m c t.val t.isLt s).2.2.2.2 g = aS (kB m c t) (vB m c t) (qB m c t g) (m0 t s g) (a0' t s g) := by
  unfold m0 a0'
  by_cases h0 : t.val % 6 = 0
  · rw [stAt0_A m c t s h0 (by omega), if_pos h0, if_pos h0]
    dsimp only
    unfold sout0_A_2
    rw [listA2, pile_slab, slab_full, kL_eq, vL_eq, qL_eq, xA_eq]
  · rw [if_neg h0, if_neg h0]
    by_cases h1 : t.val % 6 = 5
    · rw [stAt0_C m c t s h0 h1]
      dsimp only
      unfold sout0_C_2
      rw [listC2, pile_slab, kL_eq, vL_eq, qL_eq, sL_eq, sL_eq]
    · rw [stAt0_B m c t s h0 h1]
      dsimp only
      unfold sout0_B_2
      rw [listB2, pile_slab, kL_eq, vL_eq, qL_eq, sL_eq, sL_eq]

variable (h1 : t.val % 6 = 5)
include h1

/-- At a last key tile the head's lanes of the first result are the sums' quotient; -/
theorem step_o : lane g (stAt0 m c t.val t.isLt s).1 = k0_pay2 (slab (stAt0 m c t.val t.isLt s).2.2.2.2 g) (slab (stAt0 m c t.val t.isLt s).2.2.2.1 g) := by
  have h0 : ¬t.val % 6 = 0 := by omega
  rw [stAt0_C m c t s h0 h1]
  dsimp only
  unfold out0_C_3
  rw [listC3, lanes_lane, cov_slab, cov_slab]
  refine congrArg₂ k0_pay2 ?_ ?_
  · unfold sout0_C_2
    rw [listC2, pile_slab]
  · unfold sout0_C_1
    rw [listC1, pile_slab]

/-- of the second, the maximum plus the sum's logarithm. -/
theorem step_s : lane g (stAt0 m c t.val t.isLt s).2.1 = k0_pay3 (slab (stAt0 m c t.val t.isLt s).2.2.1 g) (slab (stAt0 m c t.val t.isLt s).2.2.2.1 g) := by
  have h0 : ¬t.val % 6 = 0 := by omega
  rw [stAt0_C m c t s h0 h1]
  dsimp only
  unfold out0_C_4
  rw [listC4, lanes_lane, cov_slab, cov_slab]
  refine congrArg₂ k0_pay3 ?_ ?_
  · unfold sout0_C_0
    rw [listC0, pile_slab]
  · unfold sout0_C_1
    rw [listC1, pile_slab]

end Step

end Cert.FlashFwdIdeal.Hand

end
-- ==== Proof.Prod.lean ====
/- A product computed block by block: the matrix unit's product read at an entry for each of the three layouts of its operands, the sum
   over a contracted index cut into tiles, and two arrays joined along their columns read at an entry. -/
module

public import Idealize.ShloMosaic.Lib.Pipeline.Value
public import Idealize.ShloMosaic.Lib.Pipeline.ValueKit.Geometry
public import Idealize.ShloMosaic.Lib.ValueIdx
public import Idealize.ShloMosaic.PureOps.Ideal.Laws

@[expose] public section

noncomputable section

namespace Cert.Prod

open Idealize.ShloMosaic Idealize.ShloMosaic.ValueIdx

theorem off2 : (![0, 0] : Fin 2 → ℕ) = fun _ => 0 := funext fun a => by fin_cases a <;> rfl
theorem off3 : (![0, 0, 0] : Fin 3 → ℕ) = fun _ => 0 := funext fun a => by fin_cases a <;> rfl

/-- A sum over `N = n·K` indices, tile by tile. -/
theorem sum_tiles {β : Type*} [AddCommMonoid β] {N n K : ℕ} (hN : N = n * K) (M : ℕ → β) (T : ℕ → Fin K → β) (f : Fin N → β)
    (hM : ∀ s < n, M s = ∑ x, T s x) (h : ∀ s < n, ∀ (x : Fin K) (k : Fin N), k.val = K * s + x.val → T s x = f k) :
    ∑ s ∈ Finset.range n, M s = ∑ k, f k := by
  subst hN
  rw [Finset.sum_congr rfl fun s hs => hM s (Finset.mem_range.mp hs), Finset.sum_range, ← Fintype.sum_prod_type']
  refine Fintype.sum_equiv (finProdFinEquiv (m := n) (n := K)) _ f fun x => h _ x.1.isLt _ _ ?_
  show x.2.val + K * x.1.val = _
  omega

/-- The same with one tile's addend at each of the points `b, …, b + n - 1`. -/
theorem fold_tiles {ι : Type*} {N P n K : ℕ} (a : (p : ℕ) → p < P → ι → EReal) (g : (p : ℕ) → p < P → (ι → EReal) → ι → EReal)
    (T : ℕ → ι → Fin K → EReal) (b : ℕ) (i : ι) (f : Fin N → EReal) (hN : N = (n + 1) * K)
    (ha : ∀ (h : b < P) (i : ι), a b h i = ∑ x, T b i x)
    (hg : ∀ (p : ℕ) (h : p < P) (acc : ι → EReal) (i : ι), b < p → p ≤ b + n → g p h acc i = acc i + ∑ x, T p i x)
    (hf : ∀ s < n + 1, ∀ (x : Fin K) (k : Fin N), k.val = K * s + x.val → T (b + s) i x = f k) (h : b + n < P) :
    Pipeline.accAt a g b n h i = ∑ k, f k := by
  rw [Pipeline.accAt_add_apply a g (fun _ => 0) (fun p i => ∑ x, T p i x) b n (fun h i => (ha h i).trans (zero_add _).symm) hg n le_rfl h i, zero_add]
  exact sum_tiles hN _ (fun s x => T (b + s) i x) f (fun _ _ => rfl) hf

/-! ## A block's fold over its points

The grid runs over `ni` tiles of rows, `nj` tiles of columns and, innermost, `nk` tiles of the contracted index. -/

/-- Entry `x` of tile `q % nb`, of an axis cut into `nb` tiles of `T`. -/
def place {M T : ℕ} (nb : ℕ) (h : M = nb * T ∧ 0 < nb) (q : ℕ) (x : Fin T) : Fin M :=
  ⟨T * (q % nb) + x.val, by
    obtain ⟨rfl, h0⟩ := h
    calc T * (q % nb) + x.val < T * (q % nb) + T := Nat.add_lt_add_left x.isLt _
      _ = T * (q % nb + 1) := rfl
      _ ≤ T * nb := Nat.mul_le_mul_left _ (Nat.mod_lt _ h0)
      _ = nb * T := Nat.mul_comm _ _⟩

/-- What point `p` adds to entry `(r, s)` of its block. -/
def partSum {M N K tm tn tk : ℕ} {ni nj nk : ℕ} (hM : M = ni * tm ∧ 0 < ni) (hN : N = nj * tn ∧ 0 < nj) (hK : K = nk * tk ∧ 0 < nk)
    (A : Fin M → Fin K → EReal) (B : Fin N → Fin K → EReal) (p : ℕ) (r : Fin tm) (s : Fin tn) : EReal :=
  ∑ x : Fin tk, A (place ni hM (p / nk / nj) r) (place nk hK p x) * B (place nj hN (p / nk) s) (place nk hK p x)

/-- If every point adds its part, to nothing at the first of a block's points, then after the last one the block holds the whole sum. -/
theorem block_sum {M N K tm tn tk P ni nj nk : ℕ} (hM : M = ni * tm ∧ 0 < ni) (hN : N = nj * tn ∧ 0 < nj) (hK : K = nk * tk ∧ 0 < nk)
    (A : Fin M → Fin K → EReal) (B : Fin N → Fin K → EReal) (z0 : (⟨2, ![tm, tn]⟩ : Shape).Idx → EReal)
    (g : (p : ℕ) → p < P → ((⟨2, ![tm, tn]⟩ : Shape).Idx → EReal) → (⟨2, ![tm, tn]⟩ : Shape).Idx → EReal)
    (hg : ∀ p h z r s, g p h z (ix2 r s) = (if p % nk = 0 then 0 else z (ix2 r s)) + partSum hM hN hK A B p r s)
    (t : ℕ) (ht : t % nk + 1 = nk) (h : nk * (t / nk) + t % nk < P) (r : Fin tm) (s : Fin tn) :
    Pipeline.accAt (fun p h => g p h z0) g (nk * (t / nk)) (t % nk) h (ix2 r s)
      = ∑ k, A (place ni hM (t / nk / nj) r) k * B (place nj hN (t / nk) s) k := by
  have h0 : 0 < nk := hK.2
  have hq : ∀ q < nk, (nk * (t / nk) + q) / nk = t / nk := fun q h => by rw [Nat.mul_add_div h0, Nat.div_eq_of_lt h, Nat.add_zero]
  have hr : ∀ q < nk, (nk * (t / nk) + q) % nk = q := fun q h => by rw [Nat.mul_add_mod, Nat.mod_eq_of_lt h]
  refine fold_tiles (N := K) (K := tk) (ι := (⟨2, ![tm, tn]⟩ : Shape).Idx) _ _
    (fun p i x => A (place ni hM (p / nk / nj) (i 0)) (place nk hK p x) * B (place nj hN (p / nk) (i 1)) (place nk hK p x))
    (nk * (t / nk)) (ix2 r s) _ (by rw [ht]; exact hK.1) (fun h i => ?_) (fun p h z i h1 h2 => ?_) (fun q hq' x k hk => ?_) h
  · obtain ⟨r, s, rfl⟩ : ∃ r s, i = ix2 r s := ⟨_, _, eq_ix2 i⟩
    rw [hg, if_pos (Nat.mul_mod_right _ _), zero_add]
    rfl
  · obtain ⟨r, s, rfl⟩ : ∃ r s, i = ix2 r s := ⟨_, _, eq_ix2 i⟩
    have hp : p % nk ≠ 0 := by
      obtain ⟨q, rfl⟩ : ∃ q, p = nk * (t / nk) + q := ⟨p - nk * (t / nk), by omega⟩
      rw [hr q (by omega)]
      omega
    rw [hg, if_neg hp]
    rfl
  · have hlt : q < nk := by omega
    have e : place nk hK (nk * (t / nk) + q) x = k := Fin.ext (by show tk * ((nk * (t / nk) + q) % nk) + x.val = k.val; rw [hr q hlt]; exact hk.symm)
    show A (place ni hM ((nk * (t / nk) + q) / nk / nj) r) _ * B (place nj hN ((nk * (t / nk) + q) / nk) s) _ = _
    rw [hq q hlt, e]

/-! ## The product at an entry -/

section Products
variable {φ₁ φ₂ : FTy} {M N K : ℕ}

theorem mm_nt (d : DotDims ⟨2, ![M, K]⟩ ⟨2, ![N, K]⟩ ⟨2, ![M, N]⟩) (hR : d.contr.rank = 1) (hS : d.contr.size ⟨0, by omega⟩ = K)
    (hl : d.lhsContracting = [1]) (hr : d.rhsContracting = [1])
    (h0 : ∀ j q, (d.lhsIdx j q 0).val = (j 0).val) (h1 : ∀ j q, (d.rhsIdx j q 0).val = (j 1).val)
    (a : FVec Ideal ⟨2, ![M, K]⟩ φ₁) (b : FVec Ideal ⟨2, ![N, K]⟩ φ₂) (i : Fin M) (j : Fin N) :
    matmul d none a b (constant ⟨2, ![M, N]⟩ .f32 0x00000000#32) (ix2 i j) = ∑ k : Fin K, a (ix2 i k) * b (ix2 j k) := by
  unfold matmul
  rw [Ideal.matmul_constant_zero_apply, ← Equiv.sum_comp (contrEquiv1 d K hR hS).symm]
  refine Finset.sum_congr rfl fun k _ => ?_
  have hk := contrEquiv1_symm_val d K hR hS k
  congr 1
  · refine congrArg a (funext fun x => Fin.ext ?_)
    match x with
    | ⟨0, _⟩ => exact h0 _ _
    | ⟨1, _⟩ => exact (d.lhsIdx_val_of_single hl _ _).trans hk
  · refine congrArg b (funext fun x => Fin.ext ?_)
    match x with
    | ⟨0, _⟩ => exact h1 _ _
    | ⟨1, _⟩ => exact (d.rhsIdx_val_of_single hr _ _).trans hk

theorem mm_tn (d : DotDims ⟨2, ![K, M]⟩ ⟨2, ![K, N]⟩ ⟨2, ![M, N]⟩) (hR : d.contr.rank = 1) (hS : d.contr.size ⟨0, by omega⟩ = K)
    (hl : d.lhsContracting = [0]) (hr : d.rhsContracting = [0])
    (h0 : ∀ j q, (d.lhsIdx j q 1).val = (j 0).val) (h1 : ∀ j q, (d.rhsIdx j q 1).val = (j 1).val)
    (a : FVec Ideal ⟨2, ![K, M]⟩ φ₁) (b : FVec Ideal ⟨2, ![K, N]⟩ φ₂) (i : Fin M) (j : Fin N) :
    matmul d none a b (constant ⟨2, ![M, N]⟩ .f32 0x00000000#32) (ix2 i j) = ∑ k : Fin K, a (ix2 k i) * b (ix2 k j) := by
  unfold matmul
  rw [Ideal.matmul_constant_zero_apply, ← Equiv.sum_comp (contrEquiv1 d K hR hS).symm]
  refine Finset.sum_congr rfl fun k _ => ?_
  have hk := contrEquiv1_symm_val d K hR hS k
  congr 1
  · refine congrArg a (funext fun x => Fin.ext ?_)
    match x with
    | ⟨0, _⟩ => exact (d.lhsIdx_val_of_single hl _ _).trans hk
    | ⟨1, _⟩ => exact h0 _ _
  · refine congrArg b (funext fun x => Fin.ext ?_)
    match x with
    | ⟨0, _⟩ => exact (d.rhsIdx_val_of_single hr _ _).trans hk
    | ⟨1, _⟩ => exact h1 _ _

theorem mm_nn (d : DotDims ⟨2, ![M, K]⟩ ⟨2, ![K, N]⟩ ⟨2, ![M, N]⟩) (hR : d.contr.rank = 1) (hS : d.contr.size ⟨0, by omega⟩ = K)
    (hl : d.lhsContracting = [1]) (hr : d.rhsContracting = [0])
    (h0 : ∀ j q, (d.lhsIdx j q 0).val = (j 0).val) (h1 : ∀ j q, (d.rhsIdx j q 1).val = (j 1).val)
    (a : FVec Ideal ⟨2, ![M, K]⟩ φ₁) (b : FVec Ideal ⟨2, ![K, N]⟩ φ₂) (i : Fin M) (j : Fin N) :
    matmul d none a b (constant ⟨2, ![M, N]⟩ .f32 0x00000000#32) (ix2 i j) = ∑ k : Fin K, a (ix2 i k) * b (ix2 k j) := by
  unfold matmul
  rw [Ideal.matmul_constant_zero_apply, ← Equiv.sum_comp (contrEquiv1 d K hR hS).symm]
  refine Finset.sum_congr rfl fun k _ => ?_
  have hk := contrEquiv1_symm_val d K hR hS k
  congr 1
  · refine congrArg a (funext fun x => Fin.ext ?_)
    match x with
    | ⟨0, _⟩ => exact h0 _ _
    | ⟨1, _⟩ => exact (d.lhsIdx_val_of_single hl _ _).trans hk
  · refine congrArg b (funext fun x => Fin.ext ?_)
    match x with
    | ⟨0, _⟩ => exact (d.rhsIdx_val_of_single hr _ _).trans hk
    | ⟨1, _⟩ => exact h1 _ _

end Products

/-- A block with a leading axis of one, read without it. -/
theorem drop_unit {α : Type} {R C : ℕ} (x : (⟨3, ![1, R, C]⟩ : Shape).Idx → α) (h : (⟨3, ![1, R, C]⟩ : Shape).ShapeCasts ⟨2, ![R, C]⟩) (r : Fin R) (k : Fin C) :
    shapeCast ⟨2, ![R, C]⟩ x h (ix2 r k) = x (ix3 0 r k) :=
  (shapeCast_dropUnit_apply ![R, C] x h (ix2 r k)).trans (congrArg x (funext fun a => match a with | ⟨0, _⟩ => rfl | ⟨1, _⟩ => rfl | ⟨2, _⟩ => rfl))

/-! ## The two slabs of a stacked array, side by side -/

/-- Entry `(i, k)` of the slabs side by side: slab `k / C`'s entry `(i, k % C)`. -/
def slab {α : Type} {R C D : ℕ} (h : D = 2 * C ∧ 0 < C) (x : (⟨3, ![2, R, C]⟩ : Shape).Idx → α) (i : Fin R) (k : Fin D) : α :=
  x (ix3 ⟨k.val / C, Nat.div_lt_of_lt_mul (lt_of_lt_of_eq k.isLt (h.1.trans (Nat.mul_comm 2 C)))⟩ i ⟨k.val % C, Nat.mod_lt _ h.2⟩)

theorem slab_cut {α : Type} {R C : ℕ} (u : Fin 2) (x : (⟨3, ![2, R, C]⟩ : Shape).Idx → α) (hs : (⟨3, ![2, R, C]⟩ : Shape).Slices ![u.val, 0, 0] ⟨3, ![1, R, C]⟩)
    (hc : (⟨3, ![1, R, C]⟩ : Shape).ShapeCasts ⟨2, ![R, C]⟩) (i : Fin R) (k : Fin C) :
    shapeCast ⟨2, ![R, C]⟩ (extractStridedSlice ⟨3, ![1, R, C]⟩ ![u.val, 0, 0] x hs) hc (ix2 i k) = x (ix3 u i k) :=
  (drop_unit _ hc i k).trans (extractStridedSlice_apply _ x hs (ix3 0 i k) (ix3 u i k) fun a => match a with
    | ⟨0, _⟩ => rfl
    | ⟨1, _⟩ => (Nat.zero_add _).symm
    | ⟨2, _⟩ => (Nat.zero_add _).symm)

theorem cat_slabs {α : Type} {R C D : ℕ} (hD : D = 2 * C ∧ 0 < C) (x : (⟨3, ![2, R, C]⟩ : Shape).Idx → α)
    (hs : (⟨3, ![2, R, C]⟩ : Shape).Slices ![0, 0, 0] ⟨3, ![1, R, C]⟩) (hs' : (⟨3, ![2, R, C]⟩ : Shape).Slices ![1, 0, 0] ⟨3, ![1, R, C]⟩)
    (hc : (⟨3, ![1, R, C]⟩ : Shape).ShapeCasts ⟨2, ![R, C]⟩) (h : Shape.Concatenates [⟨2, ![R, C]⟩, ⟨2, ![R, C]⟩] ⟨2, ![R, D]⟩ 1) (i : Fin R) (k : Fin D) :
    concatenate ⟨2, ![R, D]⟩ 1 [⟨⟨2, ![R, C]⟩, shapeCast ⟨2, ![R, C]⟩ (extractStridedSlice ⟨3, ![1, R, C]⟩ ![0, 0, 0] x hs) hc⟩,
        ⟨⟨2, ![R, C]⟩, shapeCast ⟨2, ![R, C]⟩ (extractStridedSlice ⟨3, ![1, R, C]⟩ ![1, 0, 0] x hs') hc⟩] h (ix2 i k)
      = slab hD x i k := by
  have hk := k.isLt
  obtain ⟨rfl, h0⟩ := hD
  by_cases hlt : k.val < C
  · refine (concatenate_pair_apply_left (t := ⟨2, ![R, 2 * C]⟩) (s₁ := ⟨2, ![R, C]⟩) (s₂ := ⟨2, ![R, C]⟩) 1 _ _ h (ix2 i k) rfl (ix2 i ⟨k.val, hlt⟩) fun b => ?_).trans
      ((slab_cut 0 x hs hc i _).trans (congrArg x (funext fun a => Fin.ext ?_)))
    · match b with
      | ⟨0, _⟩ => rfl
      | ⟨1, _⟩ => rfl
    · match a with
      | ⟨0, _⟩ => exact (Nat.div_eq_of_lt hlt).symm
      | ⟨1, _⟩ => rfl
      | ⟨2, _⟩ => exact (Nat.mod_eq_of_lt hlt).symm
  · have hle : C ≤ k.val := Nat.le_of_not_lt hlt
    refine (concatenate_pair_apply_right (t := ⟨2, ![R, 2 * C]⟩) (s₁ := ⟨2, ![R, C]⟩) (s₂ := ⟨2, ![R, C]⟩) 1 _ _ h (ix2 i k) rfl rfl
      (ix2 i ⟨k.val - C, by omega⟩) (fun b hb => ?_) ?_).trans ((slab_cut 1 x hs' hc i _).trans (congrArg x (funext fun a => Fin.ext ?_)))
    · match b with
      | ⟨0, _⟩ => rfl
      | ⟨1, _⟩ => exact absurd rfl hb
    · show k.val - C + C = k.val
      omega
    · match a with
      | ⟨0, _⟩ => exact (show 1 = k.val / C from ((Nat.div_eq_iff h0).mpr ⟨by omega, by omega⟩).symm)
      | ⟨1, _⟩ => rfl
      | ⟨2, _⟩ => exact ((Nat.mod_eq_sub_mod hle).trans (Nat.mod_eq_of_lt (by omega))).symm

end Cert.Prod

end
-- ==== Proof.FlashFwdStep.lean ====
/- The attention's forward call: one head's step on one tile of keys, in reals. Where a row's running maximum is `M`, its running sums are held
   as `2^(-M)` times what they would be with no maximum taken off. -/
module

public import proofs.«01_k».proof.Proof.FlashFwdBody
public import proofs.«01_k».proof.Proof.Prod
public import proofs.«01_k».proof.Proof.RefValue

@[expose] public section

set_option maxRecDepth 16384

noncomputable section

namespace Cert.FlashFwdIdeal.Hand

open Cert.FlashFwdIdeal Cert.FlashFwdIdeal.Gen
open Idealize.ShloMosaic Idealize.ShloMosaic.ValueIdx
open Cert.Attn (sum_mul_coe div_coe_coe ofBits_ninf)
open Cert.Attn.Ref (foldl_max_coe foldl_max_bot)

/-! ## Eleven lane groups and their whole -/

/-- Column `128 c + d` of the eleven groups. -/
def col (c : Fin 11) (d : Fin 128) : Fin 1408 := ⟨128 * c.val + d.val, by omega⟩

theorem cat11 {α : Type} (f : Fin 11 → S1024x128.Idx → α) (X : Fin 1024 → Fin 1408 → α) (hX : ∀ c i d, f c (ix2 i d) = X i (col c d))
    (h : Shape.Concatenates [S1024x128, S1024x128, S1024x128, S1024x128, S1024x128, S1024x128, S1024x128, S1024x128, S1024x128, S1024x128, S1024x128] S1024x1408 1)
    (i : Fin 1024) (j : Fin 1408) :
    concatenate S1024x1408 1 [⟨S1024x128, f 0⟩, ⟨S1024x128, f 1⟩, ⟨S1024x128, f 2⟩, ⟨S1024x128, f 3⟩, ⟨S1024x128, f 4⟩, ⟨S1024x128, f 5⟩, ⟨S1024x128, f 6⟩,
      ⟨S1024x128, f 7⟩, ⟨S1024x128, f 8⟩, ⟨S1024x128, f 9⟩, ⟨S1024x128, f 10⟩] h (ix2 i j) = X i j := by
  have hc : j.val / 128 < 11 := by omega
  have hd : j.val % 128 < 128 := by omega
  have e := concatenate_ofFn_apply (t := S1024x1408) (s₁ := S1024x128) 1 f h rfl 128 rfl (ix2 i j) ⟨j.val / 128, hc⟩ rfl
    (ix2 i ⟨j.val % 128, hd⟩) rfl (fun b hb => by
      match b with
      | ⟨0, _⟩ => rfl
      | ⟨1, _⟩ => exact absurd rfl hb)
  refine Eq.trans e ?_
  rw [hX]
  congr 1
  exact Fin.ext (by show 128 * (j.val / 128) + j.val % 128 = j.val; omega)

section Reals
variable {k : Vec Ideal S1408x128 .bf16} {v : Vec Ideal S1408x256 .bf16} {q : Vec Ideal S1024x128 .bf16} {x l a : Vec Ideal S1x1024x128 .f32}
variable {q' : Fin 1024 → Fin 128 → ℝ} {k' : Fin 1408 → Fin 128 → ℝ} {v' : Fin 1408 → Fin 256 → ℝ}

/-- A score of the tile. -/
def sR (q' : Fin 1024 → Fin 128 → ℝ) (k' : Fin 1408 → Fin 128 → ℝ) (i : Fin 1024) (j : Fin 1408) : ℝ := ∑ d, q' i d * k' j d
/-- A column of the values against the scores' powers of two. -/
def wS (q' : Fin 1024 → Fin 128 → ℝ) (k' : Fin 1408 → Fin 128 → ℝ) (v' : Fin 1408 → Fin 256 → ℝ) (i : Fin 1024) (e : Fin 256) : ℝ :=
  ∑ j, Real.rpow 2 (sR q' k' i j) * v' j e

theorem slices (c : Fin 11) : S1024x1408.Slices ![0, 128 * c.val] S1024x128 := by revert c; decide

/-- A lane group of the scores. -/
def ch (k : Vec Ideal S1408x128 .bf16) (q : Vec Ideal S1024x128 .bf16) (c : Fin 11) : FVec Ideal S1024x128 .f32 :=
  extractStridedSlice S1024x128 ![0, 128 * c.val] (k0_pay15 k q) (slices c)

variable (hq : ∀ i d, q (ix2 i d) = (q' i d : EReal)) (hk : ∀ j d, k (ix2 j d) = (k' j d : EReal)) (hv : ∀ j e, v (ix2 j e) = (v' j e : EReal))

include hq hk in
theorem ch_at (c : Fin 11) (i : Fin 1024) (d : Fin 128) : ch k q c (ix2 i d) = (sR q' k' i (col c d) : EReal) := by
  unfold ch
  rw [extractStridedSlice_apply _ _ _ (ix2 i d) (ix2 i (col c d) : S1024x1408.Idx) fun a => by
    match a with
    | ⟨0, _⟩ => show i.val = 0 + i.val; omega
    | ⟨1, _⟩ => rfl]
  unfold k0_pay15 k0_pay13
  rw [shapeCast_self, shapeCast_self]
  exact (Cert.Prod.mm_nt (φ₁ := .bf16) (φ₂ := .bf16) dot_S1024x128_S1408x128_S1024x1408_1_1_0_0_n_n rfl rfl rfl rfl (fun _ _ => rfl) (fun _ _ => rfl) q k i (col c d)).trans
    (sum_mul_coe (hq i) (hk (col c d)))

/-- The larger of two reals is a real. -/
theorem max_real {y z : EReal} (hy : ∃ r : ℝ, y = r) (hz : ∃ r : ℝ, z = r) : ∃ r : ℝ, max y z = r := by
  obtain ⟨r, rfl⟩ := hy
  obtain ⟨s, rfl⟩ := hz
  exact ⟨max r s, (EReal.coe_strictMono.monotone.map_max).symm⟩

theorem fold_max_real {ι : Type} (f : ι → EReal) (hf : ∀ d, ∃ r : ℝ, f d = r) (s : Finset ι) (hs : s.Nonempty) : ∃ r : ℝ, s.fold max ⊥ f = r := by
  induction hs using Finset.Nonempty.cons_induction with
  | singleton d =>
    obtain ⟨r, hr⟩ := hf d
    exact ⟨r, by rw [Finset.fold_singleton, hr, max_eq_left bot_le]⟩
  | cons d s hd hs ih =>
    rw [Finset.fold_cons]
    exact max_real (hf d) ih

/-- A row's maximum over real entries is real. -/
theorem rowmax_real (z : FVec Ideal S1024x128 .f32) (hz : ∀ i d, ∃ r : ℝ, z (ix2 i d) = r) (i : Fin 1024) :
    ∃ r : ℝ, multiReduction .maximumf [1] S1024 z 0xFF800000#32 reduces_S1024x128_S1024 (.inl rfl) rfl (ix1 i) = (r : EReal) := by
  have e : ∀ d : Fin 128, reduces_S1024x128_S1024.lift (ix1 i) d = ix2 i d := fun d => funext fun a => by
    match a with
    | ⟨0, _⟩ => rfl
    | ⟨1, _⟩ => rfl
  obtain ⟨r, hr⟩ := fold_max_real (fun d : Fin 128 => z (reduces_S1024x128_S1024.lift (ix1 i) d)) (fun d => by rw [e]; exact hz i d) Finset.univ ⟨0, Finset.mem_univ _⟩
  refine ⟨r, (Ideal.multiReduction_maximumf_single z 0xFF800000#32 reduces_S1024x128_S1024 (.inl rfl) rfl (ix1 i)).trans ?_⟩
  show (Finset.univ : Finset (Fin 128)).fold max (Ideal.ofBits .f32 0xFF800000#32) (z ∘ reduces_S1024x128_S1024.lift (ix1 i)) = (r : EReal)
  rw [ofBits_ninf]
  exact hr

include hq hk in
/-- The new maximum of a row: the old one, or a real if larger; the same in every lane. -/
theorem max_at : ∃ R : Fin 1024 → ℝ, ∀ i d, k0_pay28 k q x (ix2 i d) = max (x (ix3 0 i d)) (R i : EReal) := by
  have hc := fun c i d => (⟨_, ch_at hq hk c i d⟩ : ∃ r : ℝ, ch k q c (ix2 i d) = (r : EReal))
  let z : FVec Ideal S1024x128 .f32 := maximumf (maximumf (maximumf (maximumf (maximumf (maximumf (maximumf (maximumf (maximumf (maximumf (ch k q 0) (ch k q 1)) (ch k q 2)) (ch k q 3)) (ch k q 4)) (ch k q 5)) (ch k q 6)) (ch k q 7)) (ch k q 8)) (ch k q 9)) (ch k q 10)
  have hz : ∀ i d, ∃ r : ℝ, z (ix2 i d) = r := fun i d =>
    max_real (max_real (max_real (max_real (max_real (max_real (max_real (max_real (max_real (max_real (hc 0 i d) (hc 1 i d)) (hc 2 i d)) (hc 3 i d)) (hc 4 i d)) (hc 5 i d)) (hc 6 i d)) (hc 7 i d)) (hc 8 i d)) (hc 9 i d)) (hc 10 i d)
  choose R hR using rowmax_real z hz
  refine ⟨R, fun i d => ?_⟩
  show max (shapeCast S1024x128 x shapeCasts_S1x1024x128_S1024x128 (ix2 i d))
    (broadcastTo S1024x128 (shapeCast S1024x1 (shapeCast S1024x1 (multiReduction .maximumf [1] S1024 z 0xFF800000#32 reduces_S1024x128_S1024 (.inl rfl) rfl)
      shapeCasts_S1024_S1024x1) shapeCasts_S1024x1_S1024x1) broadcasts_S1024x1_S1024x128 (ix2 i d)) = _
  rw [Cert.Prod.drop_unit, broadcastTo_apply _ _ (ix2 i d) (ix2 i (0 : Fin 1)) (fun a => by
      match a with
      | ⟨0, _⟩ => rfl
      | ⟨1, _⟩ => rfl),
    shapeCast_self, shapeCast_apply _ _ (ix2 i (0 : Fin 1)) (ix1 i) (by
      rw [Shape.rowMajor_val_one, Shape.rowMajor_val_two]; show i.val = i.val * 1 + 0; omega), hR]

/-- A lane group's weights over the maximum `M`. -/
def wch (k : Vec Ideal S1408x128 .bf16) (q : Vec Ideal S1024x128 .bf16) (M : FVec Ideal S1024x128 .f32) (c : Fin 11) : FVec Ideal S1024x128 .bf16 :=
  truncf .bf16 (exp2 (subf (ch k q c) M)) bitsLt_bf16_f32

/-- The step's product of the weights with the values. -/
def pv (k : Vec Ideal S1408x128 .bf16) (v : Vec Ideal S1408x256 .bf16) (q : Vec Ideal S1024x128 .bf16) (x : Vec Ideal S1x1024x128 .f32) : FVec Ideal S1024x256 .f32 :=
  k0_pay32 (k0_pay14 v) (k0_pay18 k q) (k0_pay19 k q) (k0_pay20 k q) (k0_pay21 k q) (k0_pay22 k q) (k0_pay23 k q) (k0_pay24 k q) (k0_pay25 k q) (k0_pay26 k q)
    (k0_pay28 k q x) (k0_pay29 k q x) (k0_pay30 k q x)

include hq hk hv in
theorem pv_at (M : Fin 1024 → ℝ) (hM : ∀ i d, k0_pay28 k q x (ix2 i d) = (M i : EReal)) (i : Fin 1024) (e : Fin 256) :
    pv k v q x (ix2 i e) = ((wS q' k' v' i e * Real.rpow 2 (-M i) : ℝ) : EReal) := by
  show matmul dot_S1024x1408_S1408x256_S1024x256_1_0_0_1_n_n none (concatenate S1024x1408 1 [⟨S1024x128, wch k q (k0_pay28 k q x) 0⟩, ⟨S1024x128, wch k q (k0_pay28 k q x) 1⟩,
    ⟨S1024x128, wch k q (k0_pay28 k q x) 2⟩, ⟨S1024x128, wch k q (k0_pay28 k q x) 3⟩, ⟨S1024x128, wch k q (k0_pay28 k q x) 4⟩, ⟨S1024x128, wch k q (k0_pay28 k q x) 5⟩,
    ⟨S1024x128, wch k q (k0_pay28 k q x) 6⟩, ⟨S1024x128, wch k q (k0_pay28 k q x) 7⟩, ⟨S1024x128, wch k q (k0_pay28 k q x) 8⟩, ⟨S1024x128, wch k q (k0_pay28 k q x) 9⟩,
    ⟨S1024x128, wch k q (k0_pay28 k q x) 10⟩] concatenates_S1024x128_S1024x128_S1024x128_S1024x128_S1024x128_S1024x128_S1024x128_S1024x128_S1024x128_S1024x128_S1024x128_S1024x1408_d1)
    (k0_pay14 v) (constant S1024x256 .f32 0x00000000#32) (ix2 i e) = _
  rw [show k0_pay14 v = v from shapeCast_self _ _]
  refine (Cert.Prod.mm_nn (φ₁ := .bf16) (φ₂ := .bf16) dot_S1024x1408_S1408x256_S1024x256_1_0_0_1_n_n rfl rfl rfl rfl (fun _ _ => rfl) (fun _ _ => rfl) _ v i e).trans ?_
  have hw : ∀ c i d, wch k q (k0_pay28 k q x) c (ix2 i d) = ((Real.rpow 2 (sR q' k' i (col c d) - M i) : ℝ) : EReal) := fun c i d => by
    show Ideal.exp2 (ch k q c (ix2 i d) - k0_pay28 k q x (ix2 i d)) = _
    rw [ch_at hq hk, hM, ← EReal.coe_sub, Ideal.exp2_coe]
  refine (sum_mul_coe (fun j => cat11 _ (fun i j => ((Real.rpow 2 (sR q' k' i j - M i) : ℝ) : EReal)) hw _ i j) (fun j => hv j e)).trans (congrArg _ ?_)
  unfold wS
  rw [Finset.sum_mul]
  refine Finset.sum_congr rfl fun j _ => ?_
  have e2 : Real.rpow 2 (sR q' k' i j - M i) = Real.rpow 2 (sR q' k' i j) * Real.rpow 2 (-M i) := by
    show (2 : ℝ) ^ (sR q' k' i j - M i) = (2 : ℝ) ^ (sR q' k' i j) * (2 : ℝ) ^ (-M i)
    rw [← Real.rpow_add (by norm_num), sub_eq_add_neg]
  rw [e2]; ring

/-! ## The carried state of a head -/

/-- Maximum `M`, and the two sums `W` and `A` scaled by `2^(-M)`; -/
def Held (x l a : Vec Ideal S1x1024x128 .f32) (W : Fin 1024 → ℝ) (A : Fin 1024 → Fin 128 → ℝ) : Prop :=
  ∃ M : Fin 1024 → ℝ, (∀ i d, x (ix3 0 i d) = (M i : EReal)) ∧ (∀ i d, l (ix3 0 i d) = ((W i * Real.rpow 2 (-M i) : ℝ) : EReal))
    ∧ ∀ i d, a (ix3 0 i d) = ((A i d * Real.rpow 2 (-M i) : ℝ) : EReal)
/-- or nothing yet: the maximum of no scores, and two empty sums. -/
def Reset (x l a : Vec Ideal S1x1024x128 .f32) (W : Fin 1024 → ℝ) (A : Fin 1024 → Fin 128 → ℝ) : Prop :=
  (∀ i d, x (ix3 0 i d) = ⊥) ∧ (∀ i d, l (ix3 0 i d) = ((0 : ℝ) : EReal)) ∧ (∀ i d, a (ix3 0 i d) = ((0 : ℝ) : EReal)) ∧ (∀ i, W i = 0) ∧ ∀ i d, A i d = 0

theorem rescale {M M' : ℝ} (Y w : ℝ) :
    Real.rpow 2 (M - M') * (Y * Real.rpow 2 (-M)) + w * Real.rpow 2 (-M') = (Y + w) * Real.rpow 2 (-M') := by
  have e : Real.rpow 2 (M - M') * Real.rpow 2 (-M) = Real.rpow 2 (-M') := by
    show (2 : ℝ) ^ (M - M') * (2 : ℝ) ^ (-M) = (2 : ℝ) ^ (-M')
    rw [← Real.rpow_add (by norm_num)]
    congr 1; ring
  rw [← e]; ring

theorem add_unit {α : Type} (y : S1024x128.Idx → α) (i : Fin 1024) (d : Fin 128) :
    shapeCast S1x1024x128 y shapeCasts_S1024x128_S1x1024x128 (ix3 0 i d) = y (ix2 i d) :=
  shapeCast_apply _ _ _ _ (by
    rw [Shape.rowMajor_val_three, Shape.rowMajor_val_two]
    show i.val * 128 + d.val = (0 * 1024 + i.val) * 128 + d.val
    omega)

theorem mS_at (i : Fin 1024) (d : Fin 128) : mS k q x (ix3 0 i d) = k0_pay28 k q x (ix2 i d) := by
  unfold mS k0_pay36; exact add_unit _ i d
theorem aS_at (i : Fin 1024) (d : Fin 128) : aS k v q x a (ix3 0 i d)
    = Ideal.exp2 (x (ix3 0 i d) - k0_pay28 k q x (ix2 i d)) * a (ix3 0 i d) + pv k v q x (ix2 i ⟨d.val, by omega⟩) := by
  unfold aS k0_pay33
  refine (add_unit _ i d).trans ?_
  show Ideal.exp2 (shapeCast S1024x128 x shapeCasts_S1x1024x128_S1024x128 (ix2 i d) - k0_pay28 k q x (ix2 i d)) * shapeCast S1024x128 a shapeCasts_S1x1024x128_S1024x128 (ix2 i d)
    + extractStridedSlice S1024x128 ![0, 0] (pv k v q x) slices_S1024x256_o0_0_S1024x128 (ix2 i d) = _
  rw [Cert.Prod.drop_unit, Cert.Prod.drop_unit, extractStridedSlice_apply _ _ _ (ix2 i d) (ix2 i ⟨d.val, by omega⟩ : S1024x256.Idx) fun a => by
    match a with
    | ⟨0, _⟩ => show i.val = 0 + i.val; omega
    | ⟨1, _⟩ => show d.val = 0 + d.val; omega]
theorem lS_at (i : Fin 1024) (d : Fin 128) : lS k v q x l (ix3 0 i d)
    = Ideal.exp2 (x (ix3 0 i d) - k0_pay28 k q x (ix2 i d)) * l (ix3 0 i d) + pv k v q x (ix2 i ⟨128 + d.val, by omega⟩) := by
  unfold lS k0_pay35
  refine (add_unit _ i d).trans ?_
  show Ideal.exp2 (shapeCast S1024x128 x shapeCasts_S1x1024x128_S1024x128 (ix2 i d) - k0_pay28 k q x (ix2 i d)) * shapeCast S1024x128 l shapeCasts_S1x1024x128_S1024x128 (ix2 i d)
    + extractStridedSlice S1024x128 ![0, 128] (pv k v q x) slices_S1024x256_o0_128_S1024x128 (ix2 i d) = _
  rw [Cert.Prod.drop_unit, Cert.Prod.drop_unit, extractStridedSlice_apply _ _ _ (ix2 i d) (ix2 i ⟨128 + d.val, by omega⟩ : S1024x256.Idx) fun a => by
    match a with
    | ⟨0, _⟩ => show i.val = 0 + i.val; omega
    | ⟨1, _⟩ => rfl]

include hq hk hv in
/-- A step adds the tile's part to both sums. -/
theorem step {W : Fin 1024 → ℝ} {A : Fin 1024 → Fin 128 → ℝ} (w : Fin 1024 → ℝ) (hw : ∀ i (d : Fin 128), wS q' k' v' i ⟨128 + d.val, by omega⟩ = w i)
    (h : Held x l a W A ∨ Reset x l a W A) :
    Held (mS k q x) (lS k v q x l) (aS k v q x a) (fun i => W i + w i) (fun i d => A i d + wS q' k' v' i ⟨d.val, by omega⟩) := by
  obtain ⟨R, hR⟩ := max_at (x := x) hq hk
  rcases h with ⟨M, hx, hl, ha⟩ | ⟨hx, hl, ha, hW, hA⟩
  · have hM : ∀ i d, k0_pay28 k q x (ix2 i d) = ((max (M i) (R i) : ℝ) : EReal) := fun i d => by
      rw [hR, hx]; exact (EReal.coe_strictMono.monotone.map_max).symm
    refine ⟨fun i => max (M i) (R i), fun i d => (mS_at i d).trans (hM i d), fun i d => ?_, fun i d => ?_⟩
    · rw [lS_at, hx, hM, hl, pv_at hq hk hv _ hM, hw, ← EReal.coe_sub, Ideal.exp2_coe, ← EReal.coe_mul, ← EReal.coe_add, rescale]
    · rw [aS_at, hx, hM, ha, pv_at hq hk hv _ hM, ← EReal.coe_sub, Ideal.exp2_coe, ← EReal.coe_mul, ← EReal.coe_add, rescale]
  · have hM : ∀ i d, k0_pay28 k q x (ix2 i d) = (R i : EReal) := fun i d => by rw [hR, hx, max_eq_right bot_le]
    refine ⟨R, fun i d => (mS_at i d).trans (hM i d), fun i d => ?_, fun i d => ?_⟩
    · rw [lS_at, hx, hM, hl, pv_at hq hk hv _ hM, hw, EReal.bot_sub, Ideal.exp2_bot, zero_mul, zero_add]; simp only [hW, zero_add]
    · rw [aS_at, hx, hM, ha, pv_at hq hk hv _ hM, EReal.bot_sub, Ideal.exp2_bot, zero_mul, zero_add]; simp only [hA, zero_add]

/-! ## The two results -/

/-- The quotient of the sums; -/
theorem out_at {W : Fin 1024 → ℝ} {A : Fin 1024 → Fin 128 → ℝ} (hW : ∀ i, 0 < W i) (h : Held x l a W A) (i : Fin 1024) (d : Fin 128) :
    k0_pay2 a l (ix2 i d) = ((A i d / W i : ℝ) : EReal) := by
  obtain ⟨M, hx, hl, ha⟩ := h
  show Ideal.div (shapeCast S1024x128 a shapeCasts_S1x1024x128_S1024x128 (ix2 i d)) (shapeCast S1024x128 l shapeCasts_S1x1024x128_S1024x128 (ix2 i d)) = _
  have h2 : Real.rpow 2 (-M i) ≠ 0 := (Real.rpow_pos_of_pos (by norm_num : (0 : ℝ) < 2) _).ne'
  rw [Cert.Prod.drop_unit, Cert.Prod.drop_unit, hl, ha, div_coe_coe _ _ (mul_ne_zero (hW i).ne' h2), mul_div_mul_right _ _ h2]

/-- the sum's logarithm to base two. -/
theorem lse_at {W : Fin 1024 → ℝ} {A : Fin 1024 → Fin 128 → ℝ} (hW : ∀ i, 0 < W i) (h : Held x l a W A) (i : Fin 1024) (d : Fin 128) :
    k0_pay3 x l (ix2 i d) = ((Real.log (W i) / Real.log 2 : ℝ) : EReal) := by
  obtain ⟨M, hx, hl, ha⟩ := h
  have h2 : (0 : ℝ) < Real.rpow 2 (-M i) := Real.rpow_pos_of_pos (by norm_num : (0 : ℝ) < 2) _
  have hn : Real.log 2 ≠ 0 := (Real.log_pos (by norm_num)).ne'
  have hp : 0 < W i * Real.rpow 2 (-M i) := mul_pos (hW i) h2
  unfold k0_pay3
  rw [addf_apply, mulf_apply, broadcast_apply, IdealRules.named_const.ideal_named_scalar _ _ _ _ rfl]
  show shapeCast S1024x128 x shapeCasts_S1x1024x128_S1024x128 (ix2 i d) + Ideal.log (shapeCast S1024x128 l shapeCasts_S1x1024x128_S1024x128 (ix2 i d)) * (((Real.log 2)⁻¹ : ℝ) : EReal) = _
  rw [Cert.Prod.drop_unit, Cert.Prod.drop_unit, hl, hx, Ideal.log_coe, if_neg (not_le.mpr hp), ← EReal.coe_mul, ← EReal.coe_add]
  congr 1
  rw [Real.log_mul (hW i).ne' h2.ne', show Real.log (Real.rpow 2 (-M i)) = -M i * Real.log 2 from Real.log_rpow (by norm_num) _]
  field_simp
  ring

end Reals

end Cert.FlashFwdIdeal.Hand

end
-- ==== Proof.FlashFwdValue.lean ====
/- The attention's forward call: on real arguments its two results are the softmax's mean of the values and the scores' log-sum-exp over
   `log 2`, which are the reference's. -/
module

public import proofs.«01_k».proof.Proof.FlashFwdStep
public import proofs.«01_k».proof.Proof.Finite
public import proofs.«01_k».proof.Proof.Gen.FlashFwdRefIdeal.Run
public import proofs.«01_k».proof.Proof.Gen.FlashFwdRefIdeal.Read

@[expose] public section

set_option maxRecDepth 16384

noncomputable section

namespace Cert.FlashFwdIdeal.Hand

open FlashFwdIdeal Gen Value
open Idealize.ShloMosaic Idealize.ShloMosaic.TcCoe Idealize.ShloMosaic.Tactic Idealize.ShloMosaic.ValueIdx
open Idealize.ShloMosaic.StableHlo
open Idealize.SL Idealize.SL.Sem
open Cert.Attn
open Cert.KernelIdeal.Hand (hQ hVa hQ_at hVa_at vc lc lc_surj log_two log_two_ne)

/-! ## The blocks of a point -/

/-- Kv head, query rows of point `n`; row `x` of key tile `b`. -/
def hd (n : ℕ) : Fin 2 := ⟨n / 48 % 2, by omega⟩
def row (n : ℕ) (i : Fin 1024) : Fin 8192 := ⟨1024 * (n / 6 % 8) + i.val, by omega⟩
def key (b : ℕ) (x : Fin 1408) : Fin 8448 := ⟨(1408 * b + x.val) % 8448, by omega⟩
/-- Column of the widened values: kv head `h`, lane `e`. -/
def vw (h : Fin 2) (e : Fin 256) : Fin 512 := ⟨256 * h.val + e.val, by omega⟩

theorem index0 : ∀ t : Fin cfg0.N, win0_0.index t 0 = t.val / 6 % 8 ∧ win0_0.index t 1 = t.val / 48 % 2 := by decide +kernel
theorem index1 : ∀ t : Fin cfg0.N, win0_1.index t 0 = t.val % 6 ∧ win0_1.index t 1 = t.val / 48 % 2 := by decide +kernel
theorem index2 : ∀ t : Fin cfg0.N, win0_2.index t 0 = t.val % 6 ∧ win0_2.index t 1 = t.val / 48 % 2 := by decide +kernel

theorem lane_at {F : FTy → Type} {e : EltTy} (g : Fin 4) (x : Vec F S1024x512 e) (i : Fin 1024) (d : Fin 128) : lane g x (ix2 i d) = x (ix2 i (lc g d)) :=
  View.ld_unit_apply_of x ![0, 128 * g.val] S1024x128.size (lane_inb g) (ix2 i d) (ix2 i (lc g d)) (fun a => match a with
    | ⟨0, _⟩ => by show i.val = 0 + i.val; omega
    | ⟨1, _⟩ => rfl)

variable (m : (ℓ : Loc nD τ sig) → Buf (Elt Ideal) ℓ) (c : Dev nD)

theorem qB_at (t : Fin cfg0.N) (g : Fin 4) (i : Fin 1024) (d : Fin 128) :
    qB m c t g (ix2 i d) = V m c main_v6 (ix2 (row t.val i) (qc (hd t.val) g d) : S8192x1024.Idx) := by
  refine (lane_at g _ i d).trans ?_
  unfold iblk
  rw [View.read_apply]
  refine congrArg (V m c main_v6) (funext fun a => Fin.ext ?_)
  match a with
  | ⟨0, _⟩ => show win0_0.index t 0 * 1024 + 1 * i.val = 1024 * (t.val / 6 % 8) + i.val; rw [(index0 t).1]; omega
  | ⟨1, _⟩ => show win0_0.index t 1 * 512 + 1 * (128 * g.val + d.val) = 512 * (t.val / 48 % 2) + 128 * g.val + d.val; rw [(index0 t).2]; omega
theorem kB_at (t : Fin cfg0.N) (j : Fin 1408) (d : Fin 128) :
    kB m c t (ix2 j d) = V m c main_v12 (ix2 (key (t.val % 6) j) (kc (hd t.val) d) : S8448x256.Idx) := by
  unfold kB iblk
  rw [View.read_apply]
  refine congrArg (V m c main_v12) (funext fun a => Fin.ext ?_)
  match a with
  | ⟨0, _⟩ => show win0_1.index t 0 * 1408 + 1 * j.val = (1408 * (t.val % 6) + j.val) % 8448; rw [(index1 t).1]; omega
  | ⟨1, _⟩ => show win0_1.index t 1 * 128 + 1 * d.val = 128 * (t.val / 48 % 2) + d.val; rw [(index1 t).2]; omega
theorem vB_at (t : Fin cfg0.N) (j : Fin 1408) (e : Fin 256) :
    vB m c t (ix2 j e) = V m c main_v11 (ix2 (key (t.val % 6) j) (vw (hd t.val) e) : S8448x512.Idx) := by
  unfold vB iblk
  rw [View.read_apply]
  refine congrArg (V m c main_v11) (funext fun a => Fin.ext ?_)
  match a with
  | ⟨0, _⟩ => show win0_2.index t 0 * 1408 + 1 * j.val = (1408 * (t.val % 6) + j.val) % 8448; rw [(index2 t).1]; omega
  | ⟨1, _⟩ => show win0_2.index t 1 * 256 + 1 * e.val = 256 * (t.val / 48 % 2) + e.val; rw [(index2 t).2]; omega

/-- The arguments as the run is launched with them. -/
abbrev arg0 : FVec Ideal S8192x1024 .f32 := m ((c : Thread nD τ).loc main_arg0)
abbrev arg1 : FVec Ideal S8448x256 .f32 := m ((c : Thread nD τ).loc main_arg1)
abbrev arg2 : FVec Ideal S8448x256 .f32 := m ((c : Thread nD τ).loc main_arg2)

set_option maxHeartbeats 4000000 in
theorem V_q : V m c main_v6 = truncf (F := Ideal) .bf16 (hQ (arg0 m c)) bitsLt_bf16_f32 := by
  unfold V
  after_results_simp <;> rfl
set_option maxHeartbeats 4000000 in
theorem V_k : V m c main_v12 = truncf (F := Ideal) .bf16 (arg1 m c) bitsLt_bf16_f32 := by
  unfold V
  after_results_simp <;> rfl
set_option maxHeartbeats 4000000 in
theorem V_v : V m c main_v11 = truncf (F := Ideal) .bf16 (hVa (arg2 m c)) bitsLt_bf16_f32 := by
  unfold V
  after_results_simp <;> rfl

/-- The widened values' other columns are ones. -/
theorem hVa_one (x2 : FVec Ideal S8448x256 .f32) (j : Fin 8448) (h : Fin 2) (d : Fin 128) :
    hVa x2 (ix2 j (vw h ⟨128 + d.val, by omega⟩)) = ((1 : ℝ) : EReal) := by
  unfold hVa
  rw [shapeCast_apply _ _ _ (ix3 j h ⟨128 + d.val, by omega⟩ : Cert.KernelIdeal.S8448x2x256.Idx) (by
    rw [Shape.rowMajor_val_three, Shape.rowMajor_val_two]
    show (j.val * 2 + h.val) * 256 + (128 + d.val) = j.val * 512 + (256 * h.val + (128 + d.val))
    omega)]
  refine Eq.trans (concatenate_pair_apply_right (t := Cert.KernelIdeal.S8448x2x256) (s₁ := Cert.KernelIdeal.S8448x2x128) (s₂ := Cert.KernelIdeal.S8448x2x128) 2 _ _ _
    (ix3 j h ⟨128 + d.val, by omega⟩) rfl rfl (ix3 j h d) (fun b => match b with
    | ⟨0, _⟩ => fun _ => rfl
    | ⟨1, _⟩ => fun _ => rfl
    | ⟨2, _⟩ => fun hb => absurd rfl hb) (by show d.val + 128 = 128 + d.val; omega)) ?_
  rw [broadcastInDim_scalar_apply]
  exact Ideal.ofBits_one_f32

/-! ## The running sums of a point -/

/-- Real entries of the arguments. -/
structure RealQkv (a0 : Fin 8192 → Fin 1024 → ℝ) (a1 a2 : Fin 8448 → Fin 256 → ℝ) : Prop where
  h0 : ∀ i e, arg0 m c (ix2 i e) = (a0 i e : EReal)
  h1 : ∀ j e, arg1 m c (ix2 j e) = (a1 j e : EReal)
  h2 : ∀ j e, arg2 m c (ix2 j e) = (a2 j e : EReal)

section Sums
variable (a0 : Fin 8192 → Fin 1024 → ℝ) (a1 a2 : Fin 8448 → Fin 256 → ℝ)

/-- A key tile's part of a row's sum of weights, -/
def wT (n : ℕ) (g : Fin 4) (b : ℕ) (i : Fin 1024) : ℝ := ∑ x, Real.exp (sc a0 a1 (hd n) g (row n i) (key b x))
/-- and of its weighted sum of the values. -/
def aT (n : ℕ) (g : Fin 4) (b : ℕ) (i : Fin 1024) (d : Fin 128) : ℝ := ∑ x, Real.exp (sc a0 a1 (hd n) g (row n i) (key b x)) * a2 (key b x) (kc (hd n) d)

theorem two_pow (s : ℝ) : Real.rpow 2 (s / Real.log 2) = Real.exp s := by
  show (2 : ℝ) ^ (s / Real.log 2) = _
  rw [Real.rpow_def_of_pos (by norm_num), mul_div_cancel₀ _ log_two_ne]

/-- A point's entries. -/
def q' (n : ℕ) (g : Fin 4) (i : Fin 1024) (d : Fin 128) : ℝ := a0 (row n i) (qc (hd n) g d) * σ / Real.log 2
def k' (n : ℕ) (j : Fin 1408) (d : Fin 128) : ℝ := a1 (key (n % 6) j) (kc (hd n) d)
def v' (n : ℕ) (j : Fin 1408) (e : Fin 256) : ℝ := if h : e.val < 128 then a2 (key (n % 6) j) (kc (hd n) ⟨e.val, h⟩) else 1

theorem sR_eq (n : ℕ) (g : Fin 4) (i : Fin 1024) (j : Fin 1408) :
    sR (q' a0 n g) (k' a1 n) i j = sc a0 a1 (hd n) g (row n i) (key (n % 6) j) / Real.log 2 := by
  unfold sR sc
  rw [Finset.sum_div]
  exact Finset.sum_congr rfl fun d _ => by unfold q' k'; ring

theorem wS_val (n : ℕ) (g : Fin 4) (i : Fin 1024) (d : Fin 128) :
    wS (q' a0 n g) (k' a1 n) (v' a2 n) i ⟨d.val, by omega⟩ = aT a0 a1 a2 n g (n % 6) i d := by
  unfold wS aT
  refine Finset.sum_congr rfl fun x _ => ?_
  rw [sR_eq, two_pow, v', dif_pos d.isLt]
theorem wS_one (n : ℕ) (g : Fin 4) (i : Fin 1024) (d : Fin 128) :
    wS (q' a0 n g) (k' a1 n) (v' a2 n) i ⟨128 + d.val, by omega⟩ = wT a0 a1 n g (n % 6) i := by
  unfold wS wT
  refine Finset.sum_congr rfl fun x _ => ?_
  rw [sR_eq, two_pow, v', dif_neg (by show ¬ 128 + d.val < 128; omega), mul_one]

variable {m c a0 a1 a2} (H : RealQkv m c a0 a1 a2)
include H

theorem vB_real (t : Fin cfg0.N) (j : Fin 1408) (e : Fin 256) : vB m c t (ix2 j e) = (v' a2 t.val j e : EReal) := by
  rw [vB_at, V_v]
  show hVa (arg2 m c) (ix2 (key (t.val % 6) j) (vw (hd t.val) e)) = _
  unfold v'
  split
  · next h => exact hVa_at a2 _ H.h2 _ _ ⟨e.val, h⟩
  · next h =>
    have := hVa_one (arg2 m c) (key (t.val % 6) j) (hd t.val) ⟨e.val - 128, by omega⟩
    have e1 : (⟨128 + (e.val - 128), by omega⟩ : Fin 256) = e := Fin.ext (by show 128 + (e.val - 128) = e.val; omega)
    rw [← e1]; exact this

/-- A point's step adds its key tile. -/
theorem held_step (t : Fin cfg0.N) (g : Fin 4) (s : State Ideal)
    (hs : t.val % 6 ≠ 0 → Held (slab s.2.2.1 g) (slab s.2.2.2.1 g) (slab s.2.2.2.2 g) (fun i => ∑ b ∈ Finset.range (t.val % 6), wT a0 a1 t.val g b i)
      fun i d => ∑ b ∈ Finset.range (t.val % 6), aT a0 a1 a2 t.val g b i d) :
    Held (slab (stAt0 m c t.val t.isLt s).2.2.1 g) (slab (stAt0 m c t.val t.isLt s).2.2.2.1 g) (slab (stAt0 m c t.val t.isLt s).2.2.2.2 g)
      (fun i => ∑ b ∈ Finset.range (t.val % 6 + 1), wT a0 a1 t.val g b i) fun i d => ∑ b ∈ Finset.range (t.val % 6 + 1), aT a0 a1 a2 t.val g b i d := by
  rw [step_m, step_l, step_a]
  have hq : ∀ i d, qB m c t g (ix2 i d) = (q' a0 t.val g i d : EReal) := fun i d => by
    rw [qB_at, V_q]; exact hQ_at a0 _ H.h0 _ _
  have hk : ∀ j d, kB m c t (ix2 j d) = (k' a1 t.val j d : EReal) := fun j d => by
    rw [kB_at, V_k]; exact H.h1 _ _
  have hst : Held (m0 t s g) (l0 t s g) (a0' t s g) (fun i => ∑ b ∈ Finset.range (t.val % 6), wT a0 a1 t.val g b i) (fun i d => ∑ b ∈ Finset.range (t.val % 6), aT a0 a1 a2 t.val g b i d)
      ∨ Reset (m0 t s g) (l0 t s g) (a0' t s g) (fun i => ∑ b ∈ Finset.range (t.val % 6), wT a0 a1 t.val g b i) fun i d => ∑ b ∈ Finset.range (t.val % 6), aT a0 a1 a2 t.val g b i d := by
    unfold m0 l0 a0'
    by_cases h0 : t.val % 6 = 0
    · rw [if_pos h0, if_pos h0, if_pos h0]
      refine .inr ⟨fun i d => ?_, fun i d => ?_, fun i d => ?_, fun i => ?_, fun i d => ?_⟩
      · show k0_pay10 (F := Ideal) _ = _
        unfold k0_pay10; rw [shapeCast_self]; exact ofBits_ninf
      · show k0_pay11 (F := Ideal) _ = _
        unfold k0_pay11; rw [shapeCast_self]; exact Ideal.ofBits_zero_f32
      · show k0_pay12 (F := Ideal) _ = _
        unfold k0_pay12; rw [shapeCast_self]; exact Ideal.ofBits_zero_f32
      · show ∑ b ∈ Finset.range (t.val % 6), _ = _
        rw [h0, Finset.sum_range_zero]
      · show ∑ b ∈ Finset.range (t.val % 6), _ = _
        rw [h0, Finset.sum_range_zero]
    · rw [if_neg h0, if_neg h0, if_neg h0]
      exact .inl (hs h0)
  have e := step hq hk (vB_real H t) (wT a0 a1 t.val g (t.val % 6)) (wS_one a0 a1 a2 t.val g) hst
  simp only [wS_val] at e
  simpa only [Finset.sum_range_succ] using e

theorem held (g : Fin 4) : ∀ (n : ℕ) (hn : n < cfg0.N),
    Held (slab (outsAt0 m c n hn).2.2.1 g) (slab (outsAt0 m c n hn).2.2.2.1 g) (slab (outsAt0 m c n hn).2.2.2.2 g)
      (fun i => ∑ b ∈ Finset.range (n % 6 + 1), wT a0 a1 n g b i) fun i d => ∑ b ∈ Finset.range (n % 6 + 1), aT a0 a1 a2 n g b i d
  | 0, hn => by
    rw [outsAt0_zero]
    exact held_step H ⟨0, hn⟩ g junk0 fun h => absurd rfl h
  | n + 1, hn => by
    rw [outsAt0_succ]
    refine held_step H ⟨n + 1, hn⟩ g _ fun h => ?_
    have e := held g n (by omega)
    have e1 : (n + 1) % 6 = n % 6 + 1 := by
      have : (n + 1) % 6 ≠ 0 := h
      omega
    have e2 : hd (n + 1) = hd n := Fin.ext (by show (n + 1) / 48 % 2 = n / 48 % 2; omega)
    have e3 : row (n + 1) = row n := funext fun i => Fin.ext (by show 1024 * ((n + 1) / 6 % 8) + i.val = 1024 * (n / 6 % 8) + i.val; omega)
    have e4 : wT a0 a1 (n + 1) g = wT a0 a1 n g := by unfold wT; rw [e2, e3]
    have e5 : aT a0 a1 a2 (n + 1) g = aT a0 a1 a2 n g := by unfold aT; rw [e2, e3]
    show Held _ _ _ (fun i => ∑ b ∈ Finset.range ((n + 1) % 6), wT a0 a1 (n + 1) g b i) fun i d => ∑ b ∈ Finset.range ((n + 1) % 6), aT a0 a1 a2 (n + 1) g b i d
    rw [e1, e4, e5]
    exact e

end Sums

/-! ## The two results -/

/-- A row's sum of weights over all keys. -/
def tot (a0 : Fin 8192 → Fin 1024 → ℝ) (a1 : Fin 8448 → Fin 256 → ℝ) (h : Fin 2) (g : Fin 4) (r : Fin 8192) : ℝ := ∑ j, Real.exp (sc a0 a1 h g r j)

/-- The point that writes row `r`'s block of kv head `h` back. -/
def pt (r : Fin 8192) (h : Fin 2) : ℕ := 6 * (r.val / 1024 + 8 * h.val) + 5
theorem pt_lt (r : Fin 8192) (h : Fin 2) : pt r h < cfg0.N := lt_of_lt_of_eq (by unfold pt; omega) N_0.symm
theorem pt_last (r : Fin 8192) (h : Fin 2) : pt r h % 6 = 5 := by unfold pt; omega
/-- The row's place in the block. -/
def loc (r : Fin 8192) : Fin 1024 := ⟨r.val % 1024, by omega⟩
theorem hd_pt (r : Fin 8192) (h : Fin 2) : hd (pt r h) = h := Fin.ext (by show (6 * (r.val / 1024 + 8 * h.val) + 5) / 48 % 2 = h.val; omega)
theorem row_pt (r : Fin 8192) (h : Fin 2) : row (pt r h) (loc r) = r :=
  Fin.ext (by show 1024 * ((6 * (r.val / 1024 + 8 * h.val) + 5) / 6 % 8) + r.val % 1024 = r.val; omega)

/-- The key tiles' sums are the sum over all keys. -/
theorem sum_keys (f : Fin 8448 → ℝ) : ∑ b ∈ Finset.range 6, ∑ x, f (key b x) = ∑ j, f j :=
  Cert.Prod.sum_tiles (n := 6) (K := 1408) rfl _ (fun b x => f (key b x)) f (fun _ _ => rfl) fun b hb x j hj => congrArg f (Fin.ext (by
    show (1408 * b + x.val) % 8448 = j.val
    omega))

theorem outs_congr {p p' : ℕ} (hp : p < cfg0.N) (hp' : p' < cfg0.N) (e : p = p') : outsAt0 m c p hp = outsAt0 m c p' hp' := by subst e; rfl

theorem G3_at (r : Fin 8192) (h : Fin 2) (g : Fin 4) (d : Fin 128) :
    G3 m c (ix2 r (qc h g d) : S8192x1024.Idx) = (outsAt0 m c (pt r h) (pt_lt r h)).1 (ix2 (loc r) (lc g d)) := by
  have e : pt3Of (ix2 r (qc h g d) : S8192x1024.Idx) = pt r h := by
    show 6 * (1 * (r.val / 1024 - 0) + 8 * ((512 * h.val + 128 * g.val + d.val) / 512 - 0)) + 5 = 6 * (r.val / 1024 + 8 * h.val) + 5
    omega
  have el : loc3Of (ix2 r (qc h g d) : S8192x1024.Idx) = ix2 (loc r) (lc g d) := funext fun a => Fin.ext (by
    match a with
    | ⟨0, _⟩ => rfl
    | ⟨1, _⟩ => show (512 * h.val + 128 * g.val + d.val) % 512 = 128 * g.val + d.val; omega)
  have hlt : pt3Of (ix2 r (qc h g d) : S8192x1024.Idx) < cfg0.N := by rw [e]; exact pt_lt r h
  unfold G3
  rw [dif_pos hlt, ← outsAt0_sweep m c _ hlt, el]
  exact congrArg (fun s : State Ideal => s.1 (ix2 (loc r) (lc g d))) (outs_congr m c hlt (pt_lt r h) e)
theorem G4_at (r : Fin 8192) (h : Fin 2) (g : Fin 4) (d : Fin 128) :
    G4 m c (ix2 r (qc h g d) : S8192x1024.Idx) = (outsAt0 m c (pt r h) (pt_lt r h)).2.1 (ix2 (loc r) (lc g d)) := by
  have e : pt4Of (ix2 r (qc h g d) : S8192x1024.Idx) = pt r h := by
    show 6 * (1 * (r.val / 1024 - 0) + 8 * ((512 * h.val + 128 * g.val + d.val) / 512 - 0)) + 5 = 6 * (r.val / 1024 + 8 * h.val) + 5
    omega
  have el : loc4Of (ix2 r (qc h g d) : S8192x1024.Idx) = ix2 (loc r) (lc g d) := funext fun a => Fin.ext (by
    match a with
    | ⟨0, _⟩ => rfl
    | ⟨1, _⟩ => show (512 * h.val + 128 * g.val + d.val) % 512 = 128 * g.val + d.val; omega)
  have hlt : pt4Of (ix2 r (qc h g d) : S8192x1024.Idx) < cfg0.N := by rw [e]; exact pt_lt r h
  unfold G4
  rw [dif_pos hlt, ← outsAt0_sweep m c _ hlt, el]
  exact congrArg (fun s : State Ideal => s.2.1 (ix2 (loc r) (lc g d))) (outs_congr m c hlt (pt_lt r h) e)

/-- Every point's state is a step's. -/
theorem outs_step (n : ℕ) (hn : n < cfg0.N) : ∃ s : State Ideal, outsAt0 m c n hn = stAt0 m c n hn s :=
  match n, hn with
  | 0, hn => ⟨_, outsAt0_zero m c hn⟩
  | n + 1, hn => ⟨_, outsAt0_succ m c n hn⟩

section Results
variable {a0 : Fin 8192 → Fin 1024 → ℝ} {a1 a2 : Fin 8448 → Fin 256 → ℝ}

theorem tot_pos (h : Fin 2) (g : Fin 4) (r : Fin 8192) : 0 < tot a0 a1 h g r := Finset.sum_pos (fun _ _ => Real.exp_pos _) Finset.univ_nonempty

theorem wT_pos (n : ℕ) (g : Fin 4) (i : Fin 1024) : 0 < ∑ b ∈ Finset.range (n % 6 + 1), wT a0 a1 n g b i :=
  Finset.sum_pos (fun b _ => Finset.sum_pos (fun _ _ => Real.exp_pos _) Finset.univ_nonempty) ⟨0, Finset.mem_range.mpr (Nat.succ_pos _)⟩

theorem wT_tot (r : Fin 8192) (h : Fin 2) (g : Fin 4) :
    ∑ b ∈ Finset.range (pt r h % 6 + 1), wT a0 a1 (pt r h) g b (loc r) = tot a0 a1 h g r := by
  unfold wT tot
  rw [pt_last, hd_pt, row_pt]
  exact sum_keys fun j => Real.exp (sc a0 a1 h g r j)
theorem aT_tot (r : Fin 8192) (h : Fin 2) (g : Fin 4) (d : Fin 128) :
    ∑ b ∈ Finset.range (pt r h % 6 + 1), aT a0 a1 a2 (pt r h) g b (loc r) d = ∑ j, Real.exp (sc a0 a1 h g r j) * a2 j (kc h d) := by
  unfold aT
  rw [pt_last, hd_pt, row_pt]
  exact sum_keys fun j => Real.exp (sc a0 a1 h g r j) * a2 j (kc h d)

variable {m c} (H : RealQkv m c a0 a1 a2)
include H

theorem G3_real (r : Fin 8192) (h : Fin 2) (g : Fin 4) (d : Fin 128) :
    G3 m c (ix2 r (qc h g d) : S8192x1024.Idx) = (out a0 a1 a2 h g r d : EReal) := by
  have hh := held H g (pt r h) (pt_lt r h)
  obtain ⟨s, es⟩ := outs_step m c (pt r h) (pt_lt r h)
  rw [G3_at, es]
  rw [es] at hh
  refine (lane_at g _ (loc r) d).symm.trans ((congrFun (step_o m c ⟨pt r h, pt_lt r h⟩ s g (pt_last r h)) _).trans ((out_at (wT_pos _ _) hh (loc r) d).trans ?_))
  rw [wT_tot, aT_tot, Finset.sum_div]
  refine congrArg _ (Finset.sum_congr rfl fun j _ => ?_)
  unfold wt tot
  ring

theorem G4_real (r : Fin 8192) (h : Fin 2) (g : Fin 4) (d : Fin 128) :
    G4 m c (ix2 r (qc h g d) : S8192x1024.Idx) = ((Real.log (tot a0 a1 h g r) / Real.log 2 : ℝ) : EReal) := by
  have hh := held H g (pt r h) (pt_lt r h)
  obtain ⟨s, es⟩ := outs_step m c (pt r h) (pt_lt r h)
  rw [G4_at, es]
  rw [es] at hh
  refine (lane_at g _ (loc r) d).symm.trans ((congrFun (step_s m c ⟨pt r h, pt_lt r h⟩ s g (pt_last r h)) _).trans ((lse_at (wT_pos _ _) hh (loc r) d).trans ?_))
  rw [wT_tot]

end Results

/-! ## The reference's -/

section Reference
open Cert.FlashFwdRefIdeal.Read

variable (x0 : FVec Ideal S8192x1024 .f32) (x1 x2 : FVec Ideal S8448x256 .f32) {a0 : Fin 8192 → Fin 1024 → ℝ} {a1 a2 : Fin 8448 → Fin 256 → ℝ}
variable (h0 : ∀ i e, x0 (ix2 i e) = (a0 i e : EReal)) (h1 : ∀ j e, x1 (ix2 j e) = (a1 j e : EReal)) (h2 : ∀ j e, x2 (ix2 j e) = (a2 j e : EReal))
include h0 h1

theorem ref_lse (r : Fin 8192) (h : Fin 2) (g : Fin 4) (d : Fin 128) :
    val_main_v16 (F := Ideal) x0 x1 (ix2 r (qc h g d)) = ((Real.log (tot a0 a1 h g r) / Real.log 2 : ℝ) : EReal) := by
  have e : idx_main_v16 (ix2 r (qc h g d)) = ix4 r h g d := funext fun a => Fin.ext (by
    match a with
    | ⟨0, _⟩ => show (r.val * 1024 + (512 * h.val + 128 * g.val + d.val)) / 1024 = r.val; omega
    | ⟨1, _⟩ => show (r.val * 1024 + (512 * h.val + 128 * g.val + d.val)) / 512 % 2 = h.val; omega
    | ⟨2, _⟩ => show (r.val * 1024 + (512 * h.val + 128 * g.val + d.val)) / 128 % 4 = g.val; omega
    | ⟨3, _⟩ => show (r.val * 1024 + (512 * h.val + 128 * g.val + d.val)) % 128 = d.val; omega)
  rw [val_main_v16_apply, e, val_main_v15_apply, val_main_v14_apply, val_main_v13_apply,
    show idx_main_v13 (idx_main_v14 (idx_main_v15 (ix4 r h g d))) = ix3 h g r from eq_ix3 _, val_main_v12_apply, val_main_v11_apply, val_main_v10_apply, val_main_v9_apply,
    val_main_v8_apply, val_main_v7_apply]
  show Ideal.div (Ideal.log (Ideal.ofBits .f32 0x00000000#32 + ∑ k : Fin 8448, val_main_v6 (F := Ideal) x0 x1 (idx_main_v7 (ix3 h g r) k))) (Ideal.log (Ideal.ofBits .f32 0x40000000#32)) = _
  have es : ∀ k : Fin 8448, val_main_v6 (F := Ideal) x0 x1 (idx_main_v7 (ix3 h g r) k) = ((Real.exp (sc a0 a1 h g r k) : ℝ) : EReal) := fun k => by
    rw [show idx_main_v7 (ix3 h g r) k = ix4 h g r k from eq_ix4 _, val_main_v6_apply,
      show val_main_v5 (F := Ideal) x0 x1 = Cert.ReferenceIdeal.Read.val_main_v6 (F := Ideal) x0 x1 from rfl, Cert.Attn.Ref.v6_at x0 x1 a0 a1 h0 h1]
    exact Ideal.exp_coe _
  rw [Finset.sum_congr rfl fun k _ => es k, ← coe_sum, Ideal.ofBits_zero_f32, log_two]
  show Ideal.div (Ideal.log (((0 : ℝ) : EReal) + ((tot a0 a1 h g r : ℝ) : EReal))) _ = _
  rw [← EReal.coe_add, zero_add, Ideal.log_coe, if_neg (not_le.mpr (tot_pos h g r)), div_coe_coe _ _ log_two_ne]

include h2
theorem ref_out (r : Fin 8192) (h : Fin 2) (g : Fin 4) (d : Fin 128) :
    val_main_v36 (F := Ideal) x0 x1 x2 (ix2 r (qc h g d)) = (out a0 a1 a2 h g r d : EReal) := by
  rw [val_main_v36_apply, show val_main_v35 (F := Ideal) x0 x1 x2 = Cert.ReferenceIdeal.Read.val_main_v37 (F := Ideal) x0 x1 x2 from rfl]
  exact Cert.Attn.Ref.v37_at x0 x1 x2 a0 a1 a2 h0 h1 h2 r h g d

end Reference

/-! ## The run -/

/-- The reference's two results on the run's arguments. -/
abbrev gO : Buf (Elt Ideal) ((c : Thread nD τ).loc main_v13_0) := Cert.FlashFwdRefIdeal.Read.val_main_v36 (F := Ideal) (arg0 m c) (arg1 m c) (arg2 m c)
abbrev gL : Buf (Elt Ideal) ((c : Thread nD τ).loc main_v13_1) := Cert.FlashFwdRefIdeal.Read.val_main_v16 (F := Ideal) (arg0 m c) (arg1 m c)

theorem run_value (ρ : Dev nD → PrngReg) (H : ∀ c, ∃ a0 a1 a2, RealQkv m c a0 a1 a2) :
    θ_run defs (onTc (τ := τ) (main (F := Ideal))) ⟨m, fun _ => 0, ρ⟩ fun r => ∀ c : Dev nD,
      r.2.mem ((c : Thread nD τ).loc main_v13_0) = gO m c
      ∧ r.2.mem ((c : Thread nD τ).loc main_v13_1) = gL m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => by
    obtain ⟨a0, a1, a2, hR⟩ := H c
    refine ⟨(hr c).1.trans (funext fun (y : S8192x1024.Idx) => ?_), (hr c).2.1.trans (funext fun (y : S8192x1024.Idx) => ?_), (hr c).2.2⟩
    · obtain ⟨i, e, rfl⟩ : ∃ i e, y = ix2 i e := ⟨_, _, eq_ix2 y⟩
      obtain ⟨h, g, d, rfl⟩ := qc_surj e
      exact (G3_real hR i h g d).trans (ref_out _ _ _ hR.h0 hR.h1 hR.h2 i h g d).symm
    · obtain ⟨i, e, rfl⟩ : ∃ i e, y = ix2 i e := ⟨_, _, eq_ix2 y⟩
      obtain ⟨h, g, d, rfl⟩ := qc_surj e
      exact (G4_real hR i h g d).trans (ref_lse _ _ hR.h0 hR.h1 i h g d).symm) (Cert.FlashFwdIdeal.Value.run (F := Ideal) m ρ)

/-- The side conditions of the precondition's own operations. -/
instance facts : Cert.Pre_finite_qkv.Facts := ⟨by decide, by decide⟩

/-- A memory that meets the precondition holds real arguments on every device. -/
theorem real_qkv (h : Cert.Pre_FlashFwdIdeal_finite_qkv m) (c : Dev nD) : ∃ a0 a1 a2, RealQkv m c a0 a1 a2 :=
  ⟨fun i e => EReal.toReal (arg0 m c (ix2 i e)), fun j e => EReal.toReal (arg1 m c (ix2 j e)), fun j e => EReal.toReal (arg2 m c (ix2 j e)),
    { h0 := fun i e => Cert.Attn.Finite.real_of_lt _ (arg0 m c) (h c).1 _
      h1 := fun j e => Cert.Attn.Finite.real_of_lt _ (arg1 m c) (h c).2.1 _
      h2 := fun j e => Cert.Attn.Finite.real_of_lt _ (arg2 m c) (h c).2.2 _ }⟩

end Cert.FlashFwdIdeal.Hand

end
-- ==== Proof.Ffn2InDxValue.lean ====
/- The second feed-forward block's input: its gradient `du · wᵀ`, with `du` stored as two slabs. The kernel's array after the run is the reference's. -/
module

public import proofs.«01_k».proof.Proof.Prod
public import proofs.«01_k».proof.Proof.Gen.Ffn2InDxIdeal.Value
public import proofs.«01_k».proof.Proof.Gen.Ffn2InDxRefIdeal.Read

@[expose] public section

noncomputable section

namespace Cert.Ffn2InDxIdeal.Hand

open Ffn2InDxIdeal Gen Value Cert.Prod Ffn2InDxRefIdeal.Read
open Idealize.ShloMosaic TcCoe Tactic ValueIdx
open Idealize.SL Sem

/-- The blocks: of the left array, of the right array, and of the result. -/
abbrev Sx : Shape := S1x1024x2816
abbrev Sy : Shape := S1024x2816
abbrev Sz : Shape := S1024x1024

/-! ## What one point leaves in the accumulator, and what the last of a block's points writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sz .f32) (h5 : a5.IsWhole)
  (a6 : Memref sig .tc .vmem Sz .f32) (h6 : a6.IsWhole) (x : Vec F Sx .bf16) (y : Vec F Sy .bf16) (z : Vec F Sz .f32)

theorem sout_A (h0 : cond0_0 i) (h1 : ¬cond0_1 i) : sout0_A_0 c i a3 h3 a4 h4 a5 h5 a6 h6 h0 h1 x y = k0_pay2 (k0_pay1 (F := F)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := Sz) off2, View.readCov_unit_zero (S := Sz) _ off2]
  simp only [View.readAt_eq_ld, h3.read_unread, h4.read_unread, View.ld_unit_zero (S := Sx) off3, View.ld_unit_zero (S := Sy) off2]

theorem sout_B (h0 : ¬cond0_0 i) (h1 : ¬cond0_1 i) : sout0_B_0 c i a3 h3 a4 h4 a5 h5 a6 h6 h0 h1 x y z = k0_pay2 z x y := by
  unfold sout0_B_0
  rw [View.read_writes_eq_canon _ _ _ (scover0_B_0 c i a3 h3 a4 h4 a5 h5 a6 h6 h0 h1 x y z)]
  unfold kernelRun0_B
  dsimp only
  rw [View.canon_unit_zero (S := Sz) off2]
  simp only [View.readAt_eq_ld, h3.read_unread, h4.read_unread, h6.read_unread, View.ld_unit_zero (S := Sx) off3, View.ld_unit_zero (S := Sy) off2, View.ld_unit_zero (S := Sz) off2]

theorem sout_C (h0 : ¬cond0_0 i) (h1 : cond0_1 i) : sout0_C_0 c i a3 h3 a4 h4 a5 h5 a6 h6 h0 h1 x y z = k0_pay2 z x y := by
  unfold sout0_C_0
  rw [View.read_writes_eq_canon _ _ _ (scover0_C_0 c i a3 h3 a4 h4 a5 h5 a6 h6 h0 h1 x y z)]
  unfold kernelRun0_C
  dsimp only
  sl_unfold_words
  rw [View.canon_unit_zero (S := Sz) off2]
  simp only [View.readAt_eq_ld, h3.read_unread, h4.read_unread, h6.read_unread, View.ld_unit_zero (S := Sx) off3, View.ld_unit_zero (S := Sy) off2, View.ld_unit_zero (S := Sz) off2]

theorem out_C (h0 : ¬cond0_0 i) (h1 : cond0_1 i) : out0_C_2 c i a3 h3 a4 h4 a5 h5 a6 h6 h0 h1 x y z = k0_pay2 z x y := by
  unfold out0_C_2
  rw [View.read_writes_eq_canon _ _ _ (cover0_C_2 c i a3 h3 a4 h4 a5 h5 a6 h6 h0 h1 x y z)]
  unfold kernelRun0_C
  dsimp only
  sl_unfold_words
  rw [View.canon_unit_zero (S := Sz) off2, View.readCov_unit_zero (S := Sz) _ off2]
  simp only [View.readAt_eq_ld, h3.read_unread, h4.read_unread, h6.read_unread, View.ld_unit_zero (S := Sx) off3, View.ld_unit_zero (S := Sy) off2, View.ld_unit_zero (S := Sz) off2]

end Point

theorem pay2_at (z : Vec Ideal Sz .f32) (x : Vec Ideal Sx .bf16) (y : Vec Ideal Sy .bf16) (r : Fin 1024) (s : Fin 1024) :
    k0_pay2 (F := Ideal) z x y (ix2 r s) = z (ix2 r s) + ∑ k : Fin 2816, x (ix3 0 r k) * y (ix2 s k) := by
  unfold k0_pay2
  rw [shapeCast_self, shapeCast_self]
  exact congrArg (z (ix2 r s) + ·) ((mm_nt (φ₁ := .bf16) (φ₂ := .bf16) dot_S1024x2816_S1024x2816_S1024x1024_1_1_0_0_n_n rfl rfl rfl rfl
    (fun _ _ => rfl) (fun _ _ => rfl) _ y r s).trans (Finset.sum_congr rfl fun k _ => congrArg (fun v : EReal => v * y (ix2 s k)) (drop_unit x _ r k)))

theorem pay1_at (i : Sz.Idx) : k0_pay1 (F := Ideal) i = 0 := by
  unfold k0_pay1
  rw [shapeCast_self]
  exact Ideal.ofBits_zero_f32

/-! ## The blocks -/

theorem index0 : ∀ t : Fin cfg0.N, win0_0.index t 0 = t.val % 4 / 2 ∧ win0_0.index t 1 = t.val / 4 / 2 % 8 ∧ win0_0.index t 2 = t.val % 4 % 2 := by decide +kernel
theorem index1 : ∀ t : Fin cfg0.N, win0_1.index t 0 = t.val / 4 % 2 ∧ win0_1.index t 1 = t.val % 4 := by decide +kernel
theorem index2 : ∀ t : Fin cfg0.N, win0_2.index t 0 = t.val / 4 / 2 % 8 ∧ win0_2.index t 1 = t.val / 4 % 2 := by decide +kernel

theorem hM : 8192 = 8 * 1024 ∧ 0 < 8 := by decide
theorem hN : 2048 = 2 * 1024 ∧ 0 < 2 := by decide
theorem hK : 11264 = 4 * 2816 ∧ 0 < 4 := by decide

/-- Point `p`'s rows and columns of the result, and its part of the contracted index. -/
abbrev row (p : ℕ) (r : Fin 1024) : Fin 8192 := place 8 hM (p / 4 / 2) r
abbrev col (p : ℕ) (s : Fin 1024) : Fin 2048 := place 2 hN (p / 4) s
abbrev mid (p : ℕ) (k : Fin 2816) : Fin 11264 := place 4 hK p k

variable (m : (ℓ : Loc nD τ sig) → Buf (Elt Ideal) ℓ) (c : Dev nD)

/-- The two arguments as the run is launched with them, the two factors of the sum, and the reference's result. -/
abbrev arg0 : FVec Ideal S2x8192x5632 .f32 := m ((c : Thread nD τ).loc main_arg0)
abbrev arg1 : FVec Ideal S2048x11264 .f32 := m ((c : Thread nD τ).loc main_arg1)
def A (i : Fin 8192) (k : Fin 11264) : EReal := slab (by decide) (arg0 m c) i k
def B (j : Fin 2048) (k : Fin 11264) : EReal := arg1 m c (ix2 j k)
abbrev G : Buf (Elt Ideal) ((c : Thread nD τ).loc main_v2) := val_main_v9 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1024) (k : Fin 2816) : (iblk m c 0 t : Vec Ideal Sx .bf16) (ix3 0 r k) = A m c (row t.val r) (mid t.val k) := by
  unfold iblk
  rw [View.read_apply]
  refine Eq.trans (congrArg (V m c main_v0) (funext fun a => Fin.ext ?_)) (congrFun (V_x m c) (ix3 ⟨(mid t.val k).val / 5632, by omega⟩ (row t.val r) ⟨(mid t.val k).val % 5632, by omega⟩))
  match a with
  | ⟨0, _⟩ => show win0_0.index t 0 * 1 + 1 * 0 = (2816 * (t.val % 4) + k.val) / 5632; rw [(index0 t).1]; omega
  | ⟨1, _⟩ => show win0_0.index t 1 * 1024 + 1 * r.val = 1024 * (t.val / 4 / 2 % 8) + r.val; rw [(index0 t).2.1]; omega
  | ⟨2, _⟩ => show win0_0.index t 2 * 2816 + 1 * k.val = (2816 * (t.val % 4) + k.val) % 5632; rw [(index0 t).2.2]; omega

theorem y_at (t : Fin cfg0.N) (s : Fin 1024) (k : Fin 2816) : (iblk m c 1 t : Vec Ideal Sy .bf16) (ix2 s k) = B m c (col t.val s) (mid t.val k) := by
  unfold iblk
  rw [View.read_apply]
  refine Eq.trans (congrArg (V m c main_v1) (funext fun a => Fin.ext ?_)) (congrFun (V_y m c) (ix2 (col t.val s) (mid t.val k)))
  match a with
  | ⟨0, _⟩ => show win0_1.index t 0 * 1024 + 1 * s.val = 1024 * (t.val / 4 % 2) + s.val; rw [(index1 t).1]; omega
  | ⟨1, _⟩ => show win0_1.index t 1 * 2816 + 1 * k.val = 2816 * (t.val % 4) + k.val; rw [(index1 t).2]; omega

/-! ## The reference at an entry, the block after its last point, and the result array -/

theorem ref_at (i : Fin 8192) (j : Fin 2048) : val_main_v9 (F := Ideal) (arg0 m c) (arg1 m c) (ix2 i j) = ∑ k, A m c i k * B m c j k := by
  rw [val_main_v9_apply]
  refine Finset.sum_congr rfl fun k _ => ?_
  have e0 : lidx_main_v9 (ix2 i j) k = ix2 i k := eq_ix2 _
  have e1 : ridx_main_v9 (ix2 i j) k = ix2 j k := eq_ix2 _
  rw [e0, e1]
  refine congrArg (fun v : EReal => v * arg1 m c (ix2 j k)) ?_
  unfold val_main_v8 val_main_v7 val_main_v6 val_main_v5 val_main_v4
  exact cat_slabs _ (arg0 m c) _ _ _ _ i k

theorem step (t : Fin cfg0.N) (z : Vec Ideal Sz .f32) (r : Fin 1024) (s : Fin 1024) :
    k0_pay2 (F := Ideal) z (iblk m c 0 t) (iblk m c 1 t) (ix2 r s) = z (ix2 r s) + partSum hM hN hK (A m c) (B m c) t.val r s := by
  rw [pay2_at]
  exact congrArg (z (ix2 r s) + ·) (Finset.sum_congr rfl fun k _ => congrArg₂ (fun u v : EReal => u * v) (x_at m c t r k) (y_at m c t s k))

theorem sc_at (p : ℕ) (h : p < cfg0.N) (z : Vec Ideal Sz .f32) (r : Fin 1024) (s : Fin 1024) :
    scAt0_0 m c p h z (ix2 r s) = (if p % 4 = 0 then 0 else z (ix2 r s)) + partSum hM hN hK (A m c) (B m c) p r s := by
  unfold scAt0_0
  by_cases h0 : p % 4 = 0
  · rw [dif_pos h0, if_pos h0, dif_neg (by omega), sout_A, step m c ⟨p, h⟩, pay1_at]
  · rw [dif_neg h0, if_neg h0]
    by_cases h1 : p % 4 = 3
    · rw [dif_pos h1, sout_C]; exact step m c ⟨p, h⟩ z r s
    · rw [dif_neg h1, sout_B]; exact step m c ⟨p, h⟩ z r s

/-- What the last of a block's points writes back is the reference's block. -/
theorem flushed_eq (t : Fin cfg0.N) (hf : (cfg0.win 2).flush t = true) :
    (dats m 0 c).flushed 2 t = ((cfg0.win 2).blk t).view.read (Elt Ideal) (G m c) := by
  have ht : t.val % 4 = 3 := (flush0_2 t).mp hf
  have h0 : ¬t.val % 4 = 0 := by omega
  have ho : (outsAt0 m c t.val t.isLt).1 = (outsAt0 m c t.val t.isLt).2 := by
    rw [outsAt0_C m c t h0 ht]; dsimp only; rw [out_C, sout_C]
  rw [flushed2, ho, soutsAt0_0_eq]
  refine funext fun (y : Sz.Idx) => ?_
  obtain ⟨r, s, rfl⟩ : ∃ r s, y = ix2 r s := ⟨_, _, eq_ix2 y⟩
  refine (block_sum hM hN hK (A m c) (B m c) _ (scAt0_0 m c) (sc_at m c) t.val (by omega) _ r s).trans
    ((ref_at m c (row t.val r) (col t.val s)).symm.trans ?_)
  rw [View.read_apply]
  refine congrArg (G m c) (funext fun a => Fin.ext ?_)
  match a with
  | ⟨0, _⟩ => show 1024 * (t.val / 4 / 2 % 8) + r.val = win0_2.index t 0 * 1024 + 1 * r.val; rw [(index2 t).1]; omega
  | ⟨1, _⟩ => show 1024 * (t.val / 4 % 2) + s.val = win0_2.index t 1 * 1024 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.Ffn2InDxIdeal.Hand

end
-- ==== Proof.Ffn2InDwValue.lean ====
/- The second feed-forward block's input weight: its gradient `xᵀ · du`, with `du` stored as two slabs. The kernel's array after the run is the reference's. -/
module

public import proofs.«01_k».proof.Proof.Prod
public import proofs.«01_k».proof.Proof.Gen.Ffn2InDwIdeal.Value
public import proofs.«01_k».proof.Proof.Gen.Ffn2InDwRefIdeal.Read

@[expose] public section

noncomputable section

namespace Cert.Ffn2InDwIdeal.Hand

open Ffn2InDwIdeal Gen Value Cert.Prod Ffn2InDwRefIdeal.Read
open Idealize.ShloMosaic TcCoe Tactic ValueIdx
open Idealize.SL Sem

/-- The blocks: of the left array, of the right array, and of the result. -/
abbrev Sx : Shape := S2048x1024
abbrev Sy : Shape := S1x2048x1408
abbrev Sz : Shape := S1024x1408

/-! ## What one point leaves in the accumulator, and what the last of a block's points writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sz .bf16) (h5 : a5.IsWhole)
  (a6 : Memref sig .tc .vmem Sz .f32) (h6 : a6.IsWhole) (x : Vec F Sx .bf16) (y : Vec F Sy .bf16) (z : Vec F Sz .f32)

theorem sout_A (h0 : cond0_0 i) (h1 : ¬cond0_1 i) : sout0_A_0 c i a3 h3 a4 h4 a5 h5 a6 h6 h0 h1 x y = k0_pay2 (k0_pay1 (F := F)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := Sz) off2, View.readCov_unit_zero (S := Sz) _ off2]
  simp only [View.readAt_eq_ld, h3.read_unread, h4.read_unread, View.ld_unit_zero (S := Sx) off2, View.ld_unit_zero (S := Sy) off3]

theorem sout_B (h0 : ¬cond0_0 i) (h1 : ¬cond0_1 i) : sout0_B_0 c i a3 h3 a4 h4 a5 h5 a6 h6 h0 h1 x y z = k0_pay2 z x y := by
  unfold sout0_B_0
  rw [View.read_writes_eq_canon _ _ _ (scover0_B_0 c i a3 h3 a4 h4 a5 h5 a6 h6 h0 h1 x y z)]
  unfold kernelRun0_B
  dsimp only
  rw [View.canon_unit_zero (S := Sz) off2]
  simp only [View.readAt_eq_ld, h3.read_unread, h4.read_unread, h6.read_unread, View.ld_unit_zero (S := Sx) off2, View.ld_unit_zero (S := Sy) off3, View.ld_unit_zero (S := Sz) off2]

theorem sout_C (h0 : ¬cond0_0 i) (h1 : cond0_1 i) : sout0_C_0 c i a3 h3 a4 h4 a5 h5 a6 h6 h0 h1 x y z = k0_pay2 z x y := by
  unfold sout0_C_0
  rw [View.read_writes_eq_canon _ _ _ (scover0_C_0 c i a3 h3 a4 h4 a5 h5 a6 h6 h0 h1 x y z)]
  unfold kernelRun0_C
  dsimp only
  sl_unfold_words
  rw [View.canon_unit_zero (S := Sz) off2]
  simp only [View.readAt_eq_ld, h3.read_unread, h4.read_unread, h6.read_unread, View.ld_unit_zero (S := Sx) off2, View.ld_unit_zero (S := Sy) off3, View.ld_unit_zero (S := Sz) off2]

theorem out_C (h0 : ¬cond0_0 i) (h1 : cond0_1 i) : out0_C_2 c i a3 h3 a4 h4 a5 h5 a6 h6 h0 h1 x y z = k0_pay3 (k0_pay2 z x y) := by
  unfold out0_C_2
  rw [View.read_writes_eq_canon _ _ _ (cover0_C_2 c i a3 h3 a4 h4 a5 h5 a6 h6 h0 h1 x y z)]
  unfold kernelRun0_C
  dsimp only
  sl_unfold_words
  rw [View.canon_unit_zero (S := Sz) off2, View.readCov_unit_zero (S := Sz) _ off2]
  simp only [View.readAt_eq_ld, h3.read_unread, h4.read_unread, h6.read_unread, View.ld_unit_zero (S := Sx) off2, View.ld_unit_zero (S := Sy) off3, View.ld_unit_zero (S := Sz) off2]

end Point

theorem pay2_at (z : Vec Ideal Sz .f32) (x : Vec Ideal Sx .bf16) (y : Vec Ideal Sy .bf16) (r : Fin 1024) (s : Fin 1408) :
    k0_pay2 (F := Ideal) z x y (ix2 r s) = z (ix2 r s) + ∑ k : Fin 2048, x (ix2 k r) * y (ix3 0 k s) := by
  unfold k0_pay2
  rw [shapeCast_self, shapeCast_self]
  exact congrArg (z (ix2 r s) + ·) ((mm_tn (φ₁ := .bf16) (φ₂ := .bf16) dot_S2048x1024_S2048x1408_S1024x1408_0_0_1_1_n_n rfl rfl rfl rfl
    (fun _ _ => rfl) (fun _ _ => rfl) x _ r s).trans (Finset.sum_congr rfl fun k _ => congrArg (fun v : EReal => x (ix2 k r) * v) (drop_unit y _ k s)))

theorem pay1_at (i : Sz.Idx) : k0_pay1 (F := Ideal) i = 0 := by
  unfold k0_pay1
  rw [shapeCast_self]
  exact Ideal.ofBits_zero_f32

/-! ## The blocks -/

theorem index0 : ∀ t : Fin cfg0.N, win0_0.index t 0 = t.val % 4 ∧ win0_0.index t 1 = t.val / 4 / 8 % 2 := by decide +kernel
theorem index1 : ∀ t : Fin cfg0.N, win0_1.index t 0 = t.val / 4 % 8 / 4 ∧ win0_1.index t 1 = t.val % 4 ∧ win0_1.index t 2 = t.val / 4 % 8 % 4 := by decide +kernel
theorem index2 : ∀ t : Fin cfg0.N, win0_2.index t 0 = t.val / 4 / 8 % 2 ∧ win0_2.index t 1 = t.val / 4 % 8 := by decide +kernel

theorem hM : 2048 = 2 * 1024 ∧ 0 < 2 := by decide
theorem hN : 11264 = 8 * 1408 ∧ 0 < 8 := by decide
theorem hK : 8192 = 4 * 2048 ∧ 0 < 4 := by decide

/-- Point `p`'s rows and columns of the result, and its part of the contracted index. -/
abbrev row (p : ℕ) (r : Fin 1024) : Fin 2048 := place 2 hM (p / 4 / 8) r
abbrev col (p : ℕ) (s : Fin 1408) : Fin 11264 := place 8 hN (p / 4) s
abbrev mid (p : ℕ) (k : Fin 2048) : Fin 8192 := place 4 hK p k

variable (m : (ℓ : Loc nD τ sig) → Buf (Elt Ideal) ℓ) (c : Dev nD)

/-- The two arguments as the run is launched with them, the two factors of the sum, and the reference's result. -/
abbrev arg0 : FVec Ideal S8192x2048 .f32 := m ((c : Thread nD τ).loc main_arg0)
abbrev arg1 : FVec Ideal S2x8192x5632 .f32 := m ((c : Thread nD τ).loc main_arg1)
def A (i : Fin 2048) (k : Fin 8192) : EReal := arg0 m c (ix2 k i)
def B (j : Fin 11264) (k : Fin 8192) : EReal := slab (by decide) (arg1 m c) k j
abbrev G : Buf (Elt Ideal) ((c : Thread nD τ).loc main_v2) := val_main_v11 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1024) (k : Fin 2048) : (iblk m c 0 t : Vec Ideal Sx .bf16) (ix2 k r) = A m c (row t.val r) (mid t.val k) := by
  unfold iblk
  rw [View.read_apply]
  refine Eq.trans (congrArg (V m c main_v0) (funext fun a => Fin.ext ?_)) (congrFun (V_x m c) (ix2 (mid t.val k) (row t.val r)))
  match a with
  | ⟨0, _⟩ => show win0_0.index t 0 * 2048 + 1 * k.val = 2048 * (t.val % 4) + k.val; rw [(index0 t).1]; omega
  | ⟨1, _⟩ => show win0_0.index t 1 * 1024 + 1 * r.val = 1024 * (t.val / 4 / 8 % 2) + r.val; rw [(index0 t).2]; omega

theorem y_at (t : Fin cfg0.N) (s : Fin 1408) (k : Fin 2048) : (iblk m c 1 t : Vec Ideal Sy .bf16) (ix3 0 k s) = B m c (col t.val s) (mid t.val k) := by
  unfold iblk
  rw [View.read_apply]
  refine Eq.trans (congrArg (V m c main_v1) (funext fun a => Fin.ext ?_)) (congrFun (V_y m c) (ix3 ⟨(col t.val s).val / 5632, by omega⟩ (mid t.val k) ⟨(col t.val s).val % 5632, by omega⟩))
  match a with
  | ⟨0, _⟩ => show win0_1.index t 0 * 1 + 1 * 0 = (1408 * (t.val / 4 % 8) + s.val) / 5632; rw [(index1 t).1]; omega
  | ⟨1, _⟩ => show win0_1.index t 1 * 2048 + 1 * k.val = 2048 * (t.val % 4) + k.val; rw [(index1 t).2.1]; omega
  | ⟨2, _⟩ => show win0_1.index t 2 * 1408 + 1 * s.val = (1408 * (t.val / 4 % 8) + s.val) % 5632; rw [(index1 t).2.2]; omega

/-! ## The reference at an entry, the block after its last point, and the result array -/

theorem ref_at (i : Fin 2048) (j : Fin 11264) : val_main_v11 (F := Ideal) (arg0 m c) (arg1 m c) (ix2 i j) = ∑ k, A m c i k * B m c j k := by
  refine (val_main_v11_apply _ _ _).trans ?_
  show val_main_v10 (F := Ideal) (arg0 m c) (arg1 m c) (ix2 i j) = _
  rw [val_main_v10_apply, val_main_v9_apply]
  refine Finset.sum_congr rfl fun k _ => ?_
  have e0 : lidx_main_v9 (idx_main_v10 (ix2 i j)) k = ix2 k j := eq_ix2 _
  have e1 : ridx_main_v9 (idx_main_v10 (ix2 i j)) k = ix2 k i := eq_ix2 _
  rw [e0, e1]
  refine (mul_comm _ _).trans (congrArg (fun v : EReal => arg0 m c (ix2 k i) * v) ?_)
  unfold val_main_v8 val_main_v7 val_main_v6 val_main_v5 val_main_v4
  exact cat_slabs _ (arg1 m c) _ _ _ _ k j

theorem step (t : Fin cfg0.N) (z : Vec Ideal Sz .f32) (r : Fin 1024) (s : Fin 1408) :
    k0_pay2 (F := Ideal) z (iblk m c 0 t) (iblk m c 1 t) (ix2 r s) = z (ix2 r s) + partSum hM hN hK (A m c) (B m c) t.val r s := by
  rw [pay2_at]
  exact congrArg (z (ix2 r s) + ·) (Finset.sum_congr rfl fun k _ => congrArg₂ (fun u v : EReal => u * v) (x_at m c t r k) (y_at m c t s k))

theorem sc_at (p : ℕ) (h : p < cfg0.N) (z : Vec Ideal Sz .f32) (r : Fin 1024) (s : Fin 1408) :
    scAt0_0 m c p h z (ix2 r s) = (if p % 4 = 0 then 0 else z (ix2 r s)) + partSum hM hN hK (A m c) (B m c) p r s := by
  unfold scAt0_0
  by_cases h0 : p % 4 = 0
  · rw [dif_pos h0, if_pos h0, dif_neg (by omega), sout_A, step m c ⟨p, h⟩, pay1_at]
  · rw [dif_neg h0, if_neg h0]
    by_cases h1 : p % 4 = 3
    · rw [dif_pos h1, sout_C]; exact step m c ⟨p, h⟩ z r s
    · rw [dif_neg h1, sout_B]; exact step m c ⟨p, h⟩ z r s

/-- What the last of a block's points writes back is the reference's block. -/
theorem flushed_eq (t : Fin cfg0.N) (hf : (cfg0.win 2).flush t = true) :
    (dats m 0 c).flushed 2 t = ((cfg0.win 2).blk t).view.read (Elt Ideal) (G m c) := by
  have ht : t.val % 4 = 3 := (flush0_2 t).mp hf
  have h0 : ¬t.val % 4 = 0 := by omega
  have ho : (outsAt0 m c t.val t.isLt).1 = k0_pay3 (outsAt0 m c t.val t.isLt).2 := by
    rw [outsAt0_C m c t h0 ht]; dsimp only; rw [out_C, sout_C]
  rw [flushed2, ho, soutsAt0_0_eq]
  refine funext fun (y : Sz.Idx) => ?_
  obtain ⟨r, s, rfl⟩ : ∃ r s, y = ix2 r s := ⟨_, _, eq_ix2 y⟩
  refine (block_sum hM hN hK (A m c) (B m c) _ (scAt0_0 m c) (sc_at m c) t.val (by omega) _ r s).trans
    ((ref_at m c (row t.val r) (col t.val s)).symm.trans ?_)
  rw [View.read_apply]
  refine congrArg (G m c) (funext fun a => Fin.ext ?_)
  match a with
  | ⟨0, _⟩ => show 1024 * (t.val / 4 / 8 % 2) + r.val = win0_2.index t 0 * 1024 + 1 * r.val; rw [(index2 t).1]; omega
  | ⟨1, _⟩ => show 1408 * (t.val / 4 % 8) + s.val = win0_2.index t 1 * 1408 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.Ffn2InDwIdeal.Hand

end
-- ==== Proof.Ffn2OutDwValue.lean ====
/- The second feed-forward block's output weight: its gradient `hᵀ · dy`. The kernel's array after the run is the reference's. -/
module

public import proofs.«01_k».proof.Proof.Prod
public import proofs.«01_k».proof.Proof.Gen.Ffn2OutDwIdeal.Value
public import proofs.«01_k».proof.Proof.Gen.Ffn2OutDwRefIdeal.Read

@[expose] public section

noncomputable section

namespace Cert.Ffn2OutDwIdeal.Hand

open Ffn2OutDwIdeal Gen Value Cert.Prod Ffn2OutDwRefIdeal.Read
open Idealize.ShloMosaic TcCoe Tactic ValueIdx
open Idealize.SL Sem

/-- The blocks: of the left array, of the right array, and of the result. -/
abbrev Sx : Shape := S2048x1408
abbrev Sy : Shape := S2048x1024
abbrev Sz : Shape := S1408x1024

/-! ## What one point leaves in the accumulator, and what the last of a block's points writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sz .bf16) (h5 : a5.IsWhole)
  (a6 : Memref sig .tc .vmem Sz .f32) (h6 : a6.IsWhole) (x : Vec F Sx .bf16) (y : Vec F Sy .bf16) (z : Vec F Sz .f32)

theorem sout_A (h0 : cond0_0 i) (h1 : ¬cond0_1 i) : sout0_A_0 c i a3 h3 a4 h4 a5 h5 a6 h6 h0 h1 x y = k0_pay2 (k0_pay1 (F := F)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := Sz) off2, View.readCov_unit_zero (S := Sz) _ off2]
  simp only [View.readAt_eq_ld, h3.read_unread, h4.read_unread, View.ld_unit_zero (S := Sx) off2, View.ld_unit_zero (S := Sy) off2]

theorem sout_B (h0 : ¬cond0_0 i) (h1 : ¬cond0_1 i) : sout0_B_0 c i a3 h3 a4 h4 a5 h5 a6 h6 h0 h1 x y z = k0_pay2 z x y := by
  unfold sout0_B_0
  rw [View.read_writes_eq_canon _ _ _ (scover0_B_0 c i a3 h3 a4 h4 a5 h5 a6 h6 h0 h1 x y z)]
  unfold kernelRun0_B
  dsimp only
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem sout_C (h0 : ¬cond0_0 i) (h1 : cond0_1 i) : sout0_C_0 c i a3 h3 a4 h4 a5 h5 a6 h6 h0 h1 x y z = k0_pay2 z x y := by
  unfold sout0_C_0
  rw [View.read_writes_eq_canon _ _ _ (scover0_C_0 c i a3 h3 a4 h4 a5 h5 a6 h6 h0 h1 x y z)]
  unfold kernelRun0_C
  dsimp only
  sl_unfold_words
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem out_C (h0 : ¬cond0_0 i) (h1 : cond0_1 i) : out0_C_2 c i a3 h3 a4 h4 a5 h5 a6 h6 h0 h1 x y z = k0_pay3 (k0_pay2 z x y) := by
  unfold out0_C_2
  rw [View.read_writes_eq_canon _ _ _ (cover0_C_2 c i a3 h3 a4 h4 a5 h5 a6 h6 h0 h1 x y z)]
  unfold kernelRun0_C
  dsimp only
  sl_unfold_words
  rw [View.canon_unit_zero (S := Sz) off2, View.readCov_unit_zero (S := Sz) _ off2]
  simp only [View.readAt_eq_ld, h3.read_unread, h4.read_unread, h6.read_unread, View.ld_unit_zero (S := Sx) off2, View.ld_unit_zero (S := Sy) off2, View.ld_unit_zero (S := Sz) off2]

end Point

theorem pay2_at (z : Vec Ideal Sz .f32) (x : Vec Ideal Sx .bf16) (y : Vec Ideal Sy .bf16) (r : Fin 1408) (s : Fin 1024) :
    k0_pay2 (F := Ideal) z x y (ix2 r s) = z (ix2 r s) + ∑ k : Fin 2048, x (ix2 k r) * y (ix2 k s) := by
  unfold k0_pay2
  rw [shapeCast_self, shapeCast_self, shapeCast_self]
  exact congrArg (z (ix2 r s) + ·) ((mm_tn (φ₁ := .bf16) (φ₂ := .bf16) dot_S2048x1408_S2048x1024_S1408x1024_0_0_1_1_n_n rfl rfl rfl rfl
    (fun _ _ => rfl) (fun _ _ => rfl) x y r s))

theorem pay1_at (i : Sz.Idx) : k0_pay1 (F := Ideal) i = 0 := by
  unfold k0_pay1
  rw [shapeCast_self]
  exact Ideal.ofBits_zero_f32

/-! ## The blocks -/

theorem index0 : ∀ t : Fin cfg0.N, win0_0.index t 0 = t.val % 4 ∧ win0_0.index t 1 = t.val / 4 / 2 % 4 := by decide +kernel
theorem index1 : ∀ t : Fin cfg0.N, win0_1.index t 0 = t.val % 4 ∧ win0_1.index t 1 = t.val / 4 % 2 := by decide +kernel
theorem index2 : ∀ t : Fin cfg0.N, win0_2.index t 0 = t.val / 4 / 2 % 4 ∧ win0_2.index t 1 = t.val / 4 % 2 := by decide +kernel

theorem hM : 5632 = 4 * 1408 ∧ 0 < 4 := by decide
theorem hN : 2048 = 2 * 1024 ∧ 0 < 2 := by decide
theorem hK : 8192 = 4 * 2048 ∧ 0 < 4 := by decide

/-- Point `p`'s rows and columns of the result, and its part of the contracted index. -/
abbrev row (p : ℕ) (r : Fin 1408) : Fin 5632 := place 4 hM (p / 4 / 2) r
abbrev col (p : ℕ) (s : Fin 1024) : Fin 2048 := place 2 hN (p / 4) s
abbrev mid (p : ℕ) (k : Fin 2048) : Fin 8192 := place 4 hK p k

variable (m : (ℓ : Loc nD τ sig) → Buf (Elt Ideal) ℓ) (c : Dev nD)

/-- The two arguments as the run is launched with them, the two factors of the sum, and the reference's result. -/
abbrev arg0 : FVec Ideal S8192x5632 .f32 := m ((c : Thread nD τ).loc main_arg0)
abbrev arg1 : FVec Ideal S8192x2048 .f32 := m ((c : Thread nD τ).loc main_arg1)
def A (i : Fin 5632) (k : Fin 8192) : EReal := arg0 m c (ix2 k i)
def B (j : Fin 2048) (k : Fin 8192) : EReal := arg1 m c (ix2 k j)
abbrev G : Buf (Elt Ideal) ((c : Thread nD τ).loc main_v2) := val_main_v4 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1408) (k : Fin 2048) : (iblk m c 0 t : Vec Ideal Sx .bf16) (ix2 k r) = A m c (row t.val r) (mid t.val k) := by
  unfold iblk
  rw [View.read_apply]
  refine Eq.trans (congrArg (V m c main_v0) (funext fun a => Fin.ext ?_)) (congrFun (V_x m c) (ix2 (mid t.val k) (row t.val r)))
  match a with
  | ⟨0, _⟩ => show win0_0.index t 0 * 2048 + 1 * k.val = 2048 * (t.val % 4) + k.val; rw [(index0 t).1]; omega
  | ⟨1, _⟩ => show win0_0.index t 1 * 1408 + 1 * r.val = 1408 * (t.val / 4 / 2 % 4) + r.val; rw [(index0 t).2]; omega

theorem y_at (t : Fin cfg0.N) (s : Fin 1024) (k : Fin 2048) : (iblk m c 1 t : Vec Ideal Sy .bf16) (ix2 k s) = B m c (col t.val s) (mid t.val k) := by
  unfold iblk
  rw [View.read_apply]
  refine Eq.trans (congrArg (V m c main_v1) (funext fun a => Fin.ext ?_)) (congrFun (V_y m c) (ix2 (mid t.val k) (col t.val s)))
  match a with
  | ⟨0, _⟩ => show win0_1.index t 0 * 2048 + 1 * k.val = 2048 * (t.val % 4) + k.val; rw [(index1 t).1]; omega
  | ⟨1, _⟩ => show win0_1.index t 1 * 1024 + 1 * s.val = 1024 * (t.val / 4 % 2) + s.val; rw [(index1 t).2]; omega

/-! ## The reference at an entry, the block after its last point, and the result array -/

theorem ref_at (i : Fin 5632) (j : Fin 2048) : val_main_v4 (F := Ideal) (arg0 m c) (arg1 m c) (ix2 i j) = ∑ k, A m c i k * B m c j k := by
  refine (val_main_v4_apply _ _ _).trans ?_
  show val_main_v3 (F := Ideal) (arg0 m c) (arg1 m c) (ix2 i j) = _
  rw [val_main_v3_apply, val_main_v2_apply]
  refine Finset.sum_congr rfl fun k _ => ?_
  have e0 : lidx_main_v2 (idx_main_v3 (ix2 i j)) k = ix2 k j := eq_ix2 _
  have e1 : ridx_main_v2 (idx_main_v3 (ix2 i j)) k = ix2 k i := eq_ix2 _
  rw [e0, e1]
  exact mul_comm _ _

theorem step (t : Fin cfg0.N) (z : Vec Ideal Sz .f32) (r : Fin 1408) (s : Fin 1024) :
    k0_pay2 (F := Ideal) z (iblk m c 0 t) (iblk m c 1 t) (ix2 r s) = z (ix2 r s) + partSum hM hN hK (A m c) (B m c) t.val r s := by
  rw [pay2_at]
  exact congrArg (z (ix2 r s) + ·) (Finset.sum_congr rfl fun k _ => congrArg₂ (fun u v : EReal => u * v) (x_at m c t r k) (y_at m c t s k))

theorem sc_at (p : ℕ) (h : p < cfg0.N) (z : Vec Ideal Sz .f32) (r : Fin 1408) (s : Fin 1024) :
    scAt0_0 m c p h z (ix2 r s) = (if p % 4 = 0 then 0 else z (ix2 r s)) + partSum hM hN hK (A m c) (B m c) p r s := by
  unfold scAt0_0
  by_cases h0 : p % 4 = 0
  · rw [dif_pos h0, if_pos h0, dif_neg (by omega), sout_A, step m c ⟨p, h⟩, pay1_at]
  · rw [dif_neg h0, if_neg h0]
    by_cases h1 : p % 4 = 3
    · rw [dif_pos h1, sout_C]; exact step m c ⟨p, h⟩ z r s
    · rw [dif_neg h1, sout_B]; exact step m c ⟨p, h⟩ z r s

/-- What the last of a block's points writes back is the reference's block. -/
theorem flushed_eq (t : Fin cfg0.N) (hf : (cfg0.win 2).flush t = true) :
    (dats m 0 c).flushed 2 t = ((cfg0.win 2).blk t).view.read (Elt Ideal) (G m c) := by
  have ht : t.val % 4 = 3 := (flush0_2 t).mp hf
  have h0 : ¬t.val % 4 = 0 := by omega
  have ho : (outsAt0 m c t.val t.isLt).1 = k0_pay3 (outsAt0 m c t.val t.isLt).2 := by
    rw [outsAt0_C m c t h0 ht]; dsimp only; rw [out_C, sout_C]
  rw [flushed2, ho, soutsAt0_0_eq]
  refine funext fun (y : Sz.Idx) => ?_
  obtain ⟨r, s, rfl⟩ : ∃ r s, y = ix2 r s := ⟨_, _, eq_ix2 y⟩
  refine (block_sum hM hN hK (A m c) (B m c) _ (scAt0_0 m c) (sc_at m c) t.val (by omega) _ r s).trans
    ((ref_at m c (row t.val r) (col t.val s)).symm.trans ?_)
  rw [View.read_apply]
  refine congrArg (G m c) (funext fun a => Fin.ext ?_)
  match a with
  | ⟨0, _⟩ => show 1408 * (t.val / 4 / 2 % 4) + r.val = win0_2.index t 0 * 1408 + 1 * r.val; rw [(index2 t).1]; omega
  | ⟨1, _⟩ => show 1024 * (t.val / 4 % 2) + s.val = win0_2.index t 1 * 1024 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.Ffn2OutDwIdeal.Hand

end
-- ==== Proof.Ffn1InDxValue.lean ====
/- The first feed-forward block's input: its gradient `du · wᵀ`, with `du` stored as two slabs. The kernel's array after the run is the reference's. -/
module

public import proofs.«01_k».proof.Proof.Prod
public import proofs.«01_k».proof.Proof.Gen.Ffn1InDxIdeal.Value
public import proofs.«01_k».proof.Proof.Gen.Ffn1InDxRefIdeal.Read

@[expose] public section

noncomputable section

namespace Cert.Ffn1InDxIdeal.Hand

open Ffn1InDxIdeal Gen Value Cert.Prod Ffn1InDxRefIdeal.Read
open Idealize.ShloMosaic TcCoe Tactic ValueIdx
open Idealize.SL Sem

/-- The blocks: of the left array, of the right array, and of the result. -/
abbrev Sx : Shape := S1x1408x2816
abbrev Sy : Shape := S1024x2816
abbrev Sz : Shape := S1408x1024

/-! ## What one point leaves in the accumulator, and what the last of a block's points writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sz .f32) (h5 : a5.IsWhole)
  (a6 : Memref sig .tc .vmem Sz .f32) (h6 : a6.IsWhole) (x : Vec F Sx .bf16) (y : Vec F Sy .bf16) (z : Vec F Sz .f32)

theorem sout_A (h0 : cond0_0 i) (h1 : ¬cond0_1 i) : sout0_A_0 c i a3 h3 a4 h4 a5 h5 a6 h6 h0 h1 x y = k0_pay2 (k0_pay1 (F := F)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := Sz) off2, View.readCov_unit_zero (S := Sz) _ off2]
  simp only [View.readAt_eq_ld, h3.read_unread, h4.read_unread, View.ld_unit_zero (S := Sx) off3, View.ld_unit_zero (S := Sy) off2]

theorem sout_B (h0 : ¬cond0_0 i) (h1 : ¬cond0_1 i) : sout0_B_0 c i a3 h3 a4 h4 a5 h5 a6 h6 h0 h1 x y z = k0_pay2 z x y := by
  unfold sout0_B_0
  rw [View.read_writes_eq_canon _ _ _ (scover0_B_0 c i a3 h3 a4 h4 a5 h5 a6 h6 h0 h1 x y z)]
  unfold kernelRun0_B
  dsimp only
  rw [View.canon_unit_zero (S := Sz) off2]
  simp only [View.readAt_eq_ld, h3.read_unread, h4.read_unread, h6.read_unread, View.ld_unit_zero (S := Sx) off3, View.ld_unit_zero (S := Sy) off2, View.ld_unit_zero (S := Sz) off2]

theorem sout_C (h0 : ¬cond0_0 i) (h1 : cond0_1 i) : sout0_C_0 c i a3 h3 a4 h4 a5 h5 a6 h6 h0 h1 x y z = k0_pay2 z x y := by
  unfold sout0_C_0
  rw [View.read_writes_eq_canon _ _ _ (scover0_C_0 c i a3 h3 a4 h4 a5 h5 a6 h6 h0 h1 x y z)]
  unfold kernelRun0_C
  dsimp only
  sl_unfold_words
  rw [View.canon_unit_zero (S := Sz) off2]
  simp only [View.readAt_eq_ld, h3.read_unread, h4.read_unread, h6.read_unread, View.ld_unit_zero (S := Sx) off3, View.ld_unit_zero (S := Sy) off2, View.ld_unit_zero (S := Sz) off2]

theorem out_C (h0 : ¬cond0_0 i) (h1 : cond0_1 i) : out0_C_2 c i a3 h3 a4 h4 a5 h5 a6 h6 h0 h1 x y z = k0_pay2 z x y := by
  unfold out0_C_2
  rw [View.read_writes_eq_canon _ _ _ (cover0_C_2 c i a3 h3 a4 h4 a5 h5 a6 h6 h0 h1 x y z)]
  unfold kernelRun0_C
  dsimp only
  sl_unfold_words
  rw [View.canon_unit_zero (S := Sz) off2, View.readCov_unit_zero (S := Sz) _ off2]
  simp only [View.readAt_eq_ld, h3.read_unread, h4.read_unread, h6.read_unread, View.ld_unit_zero (S := Sx) off3, View.ld_unit_zero (S := Sy) off2, View.ld_unit_zero (S := Sz) off2]

end Point

theorem pay2_at (z : Vec Ideal Sz .f32) (x : Vec Ideal Sx .bf16) (y : Vec Ideal Sy .bf16) (r : Fin 1408) (s : Fin 1024) :
    k0_pay2 (F := Ideal) z x y (ix2 r s) = z (ix2 r s) + ∑ k : Fin 2816, x (ix3 0 r k) * y (ix2 s k) := by
  unfold k0_pay2
  rw [shapeCast_self, shapeCast_self]
  exact congrArg (z (ix2 r s) + ·) ((mm_nt (φ₁ := .bf16) (φ₂ := .bf16) dot_S1408x2816_S1024x2816_S1408x1024_1_1_0_0_n_n rfl rfl rfl rfl
    (fun _ _ => rfl) (fun _ _ => rfl) _ y r s).trans (Finset.sum_congr rfl fun k _ => congrArg (fun v : EReal => v * y (ix2 s k)) (drop_unit x _ r k)))

theorem pay1_at (i : Sz.Idx) : k0_pay1 (F := Ideal) i = 0 := by
  unfold k0_pay1
  rw [shapeCast_self]
  exact Ideal.ofBits_zero_f32

/-! ## The blocks -/

theorem index0 : ∀ t : Fin cfg0.N, win0_0.index t 0 = t.val % 4 / 2 ∧ win0_0.index t 1 = t.val / 4 / 2 % 6 ∧ win0_0.index t 2 = t.val % 4 % 2 := by decide +kernel
theorem index1 : ∀ t : Fin cfg0.N, win0_1.index t 0 = t.val / 4 % 2 ∧ win0_1.index t 1 = t.val % 4 := by decide +kernel
theorem index2 : ∀ t : Fin cfg0.N, win0_2.index t 0 = t.val / 4 / 2 % 6 ∧ win0_2.index t 1 = t.val / 4 % 2 := by decide +kernel

theorem hM : 8448 = 6 * 1408 ∧ 0 < 6 := by decide
theorem hN : 2048 = 2 * 1024 ∧ 0 < 2 := by decide
theorem hK : 11264 = 4 * 2816 ∧ 0 < 4 := by decide

/-- Point `p`'s rows and columns of the result, and its part of the contracted index. -/
abbrev row (p : ℕ) (r : Fin 1408) : Fin 8448 := place 6 hM (p / 4 / 2) r
abbrev col (p : ℕ) (s : Fin 1024) : Fin 2048 := place 2 hN (p / 4) s
abbrev mid (p : ℕ) (k : Fin 2816) : Fin 11264 := place 4 hK p k

variable (m : (ℓ : Loc nD τ sig) → Buf (Elt Ideal) ℓ) (c : Dev nD)

/-- The two arguments as the run is launched with them, the two factors of the sum, and the reference's result. -/
abbrev arg0 : FVec Ideal S2x8448x5632 .f32 := m ((c : Thread nD τ).loc main_arg0)
abbrev arg1 : FVec Ideal S2048x11264 .f32 := m ((c : Thread nD τ).loc main_arg1)
def A (i : Fin 8448) (k : Fin 11264) : EReal := slab (by decide) (arg0 m c) i k
def B (j : Fin 2048) (k : Fin 11264) : EReal := arg1 m c (ix2 j k)
abbrev G : Buf (Elt Ideal) ((c : Thread nD τ).loc main_v3) := val_main_v9 (F := Ideal) (arg0 m c) (arg1 m c)

theorem V_x : V m c main_v1 = truncf (F := Ideal) .bf16 (arg0 m c) bitsLt_bf16_f32 := by
  unfold V
  after_results_simp <;> rfl
theorem V_y : V m c main_v2 = truncf (F := Ideal) .bf16 (arg1 m c) bitsLt_bf16_f32 := by
  unfold V
  after_results_simp <;> rfl

theorem x_at (t : Fin cfg0.N) (r : Fin 1408) (k : Fin 2816) : (iblk m c 0 t : Vec Ideal Sx .bf16) (ix3 0 r k) = A m c (row t.val r) (mid t.val k) := by
  unfold iblk
  rw [View.read_apply]
  refine Eq.trans (congrArg (V m c main_v1) (funext fun a => Fin.ext ?_)) (congrFun (V_x m c) (ix3 ⟨(mid t.val k).val / 5632, by omega⟩ (row t.val r) ⟨(mid t.val k).val % 5632, by omega⟩))
  match a with
  | ⟨0, _⟩ => show win0_0.index t 0 * 1 + 1 * 0 = (2816 * (t.val % 4) + k.val) / 5632; rw [(index0 t).1]; omega
  | ⟨1, _⟩ => show win0_0.index t 1 * 1408 + 1 * r.val = 1408 * (t.val / 4 / 2 % 6) + r.val; rw [(index0 t).2.1]; omega
  | ⟨2, _⟩ => show win0_0.index t 2 * 2816 + 1 * k.val = (2816 * (t.val % 4) + k.val) % 5632; rw [(index0 t).2.2]; omega

theorem y_at (t : Fin cfg0.N) (s : Fin 1024) (k : Fin 2816) : (iblk m c 1 t : Vec Ideal Sy .bf16) (ix2 s k) = B m c (col t.val s) (mid t.val k) := by
  unfold iblk
  rw [View.read_apply]
  refine Eq.trans (congrArg (V m c main_v2) (funext fun a => Fin.ext ?_)) (congrFun (V_y m c) (ix2 (col t.val s) (mid t.val k)))
  match a with
  | ⟨0, _⟩ => show win0_1.index t 0 * 1024 + 1 * s.val = 1024 * (t.val / 4 % 2) + s.val; rw [(index1 t).1]; omega
  | ⟨1, _⟩ => show win0_1.index t 1 * 2816 + 1 * k.val = 2816 * (t.val % 4) + k.val; rw [(index1 t).2]; omega

/-! ## The reference at an entry, the block after its last point, and the result array -/

theorem ref_at (i : Fin 8448) (j : Fin 2048) : val_main_v9 (F := Ideal) (arg0 m c) (arg1 m c) (ix2 i j) = ∑ k, A m c i k * B m c j k := by
  rw [val_main_v9_apply]
  refine Finset.sum_congr rfl fun k _ => ?_
  have e0 : lidx_main_v9 (ix2 i j) k = ix2 i k := eq_ix2 _
  have e1 : ridx_main_v9 (ix2 i j) k = ix2 j k := eq_ix2 _
  rw [e0, e1]
  refine congrArg (fun v : EReal => v * arg1 m c (ix2 j k)) ?_
  unfold val_main_v8 val_main_v7 val_main_v6 val_main_v5 val_main_v4
  exact cat_slabs _ (arg0 m c) _ _ _ _ i k

theorem step (t : Fin cfg0.N) (z : Vec Ideal Sz .f32) (r : Fin 1408) (s : Fin 1024) :
    k0_pay2 (F := Ideal) z (iblk m c 0 t) (iblk m c 1 t) (ix2 r s) = z (ix2 r s) + partSum hM hN hK (A m c) (B m c) t.val r s := by
  rw [pay2_at]
  exact congrArg (z (ix2 r s) + ·) (Finset.sum_congr rfl fun k _ => congrArg₂ (fun u v : EReal => u * v) (x_at m c t r k) (y_at m c t s k))

theorem sc_at (p : ℕ) (h : p < cfg0.N) (z : Vec Ideal Sz .f32) (r : Fin 1408) (s : Fin 1024) :
    scAt0_0 m c p h z (ix2 r s) = (if p % 4 = 0 then 0 else z (ix2 r s)) + partSum hM hN hK (A m c) (B m c) p r s := by
  unfold scAt0_0
  by_cases h0 : p % 4 = 0
  · rw [dif_pos h0, if_pos h0, dif_neg (by omega), sout_A, step m c ⟨p, h⟩, pay1_at]
  · rw [dif_neg h0, if_neg h0]
    by_cases h1 : p % 4 = 3
    · rw [dif_pos h1, sout_C]; exact step m c ⟨p, h⟩ z r s
    · rw [dif_neg h1, sout_B]; exact step m c ⟨p, h⟩ z r s

/-- What the last of a block's points writes back is the reference's block. -/
theorem flushed_eq (t : Fin cfg0.N) (hf : (cfg0.win 2).flush t = true) :
    (dats m 0 c).flushed 2 t = ((cfg0.win 2).blk t).view.read (Elt Ideal) (G m c) := by
  have ht : t.val % 4 = 3 := (flush0_2 t).mp hf
  have h0 : ¬t.val % 4 = 0 := by omega
  have ho : (outsAt0 m c t.val t.isLt).1 = (outsAt0 m c t.val t.isLt).2 := by
    rw [outsAt0_C m c t h0 ht]; dsimp only; rw [out_C, sout_C]
  rw [flushed2, ho, soutsAt0_0_eq]
  refine funext fun (y : Sz.Idx) => ?_
  obtain ⟨r, s, rfl⟩ : ∃ r s, y = ix2 r s := ⟨_, _, eq_ix2 y⟩
  refine (block_sum hM hN hK (A m c) (B m c) _ (scAt0_0 m c) (sc_at m c) t.val (by omega) _ r s).trans
    ((ref_at m c (row t.val r) (col t.val s)).symm.trans ?_)
  rw [View.read_apply]
  refine congrArg (G m c) (funext fun a => Fin.ext ?_)
  match a with
  | ⟨0, _⟩ => show 1408 * (t.val / 4 / 2 % 6) + r.val = win0_2.index t 0 * 1408 + 1 * r.val; rw [(index2 t).1]; omega
  | ⟨1, _⟩ => show 1024 * (t.val / 4 % 2) + s.val = win0_2.index t 1 * 1024 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.Ffn1InDxIdeal.Hand

end
-- ==== Proof.Ffn1InDwValue.lean ====
/- The first feed-forward block's input weight: its gradient `xᵀ · du`, with `du` stored as two slabs. The kernel's array after the run is the reference's. -/
module

public import proofs.«01_k».proof.Proof.Prod
public import proofs.«01_k».proof.Proof.Gen.Ffn1InDwIdeal.Value
public import proofs.«01_k».proof.Proof.Gen.Ffn1InDwRefIdeal.Read

@[expose] public section

noncomputable section

namespace Cert.Ffn1InDwIdeal.Hand

open Ffn1InDwIdeal Gen Value Cert.Prod Ffn1InDwRefIdeal.Read
open Idealize.ShloMosaic TcCoe Tactic ValueIdx
open Idealize.SL Sem

/-- The blocks: of the left array, of the right array, and of the result. -/
abbrev Sx : Shape := S2816x1024
abbrev Sy : Shape := S1x2816x1408
abbrev Sz : Shape := S1024x1408

/-! ## What one point leaves in the accumulator, and what the last of a block's points writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sz .bf16) (h5 : a5.IsWhole)
  (a6 : Memref sig .tc .vmem Sz .f32) (h6 : a6.IsWhole) (x : Vec F Sx .bf16) (y : Vec F Sy .bf16) (z : Vec F Sz .f32)

theorem sout_A (h0 : cond0_0 i) (h1 : ¬cond0_1 i) : sout0_A_0 c i a3 h3 a4 h4 a5 h5 a6 h6 h0 h1 x y = k0_pay2 (k0_pay1 (F := F)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := Sz) off2, View.readCov_unit_zero (S := Sz) _ off2]
  simp only [View.readAt_eq_ld, h3.read_unread, h4.read_unread, View.ld_unit_zero (S := Sx) off2, View.ld_unit_zero (S := Sy) off3]

theorem sout_B (h0 : ¬cond0_0 i) (h1 : ¬cond0_1 i) : sout0_B_0 c i a3 h3 a4 h4 a5 h5 a6 h6 h0 h1 x y z = k0_pay2 z x y := by
  unfold sout0_B_0
  rw [View.read_writes_eq_canon _ _ _ (scover0_B_0 c i a3 h3 a4 h4 a5 h5 a6 h6 h0 h1 x y z)]
  unfold kernelRun0_B
  dsimp only
  rw [View.canon_unit_zero (S := Sz) off2]
  simp only [View.readAt_eq_ld, h3.read_unread, h4.read_unread, h6.read_unread, View.ld_unit_zero (S := Sx) off2, View.ld_unit_zero (S := Sy) off3, View.ld_unit_zero (S := Sz) off2]

theorem sout_C (h0 : ¬cond0_0 i) (h1 : cond0_1 i) : sout0_C_0 c i a3 h3 a4 h4 a5 h5 a6 h6 h0 h1 x y z = k0_pay2 z x y := by
  unfold sout0_C_0
  rw [View.read_writes_eq_canon _ _ _ (scover0_C_0 c i a3 h3 a4 h4 a5 h5 a6 h6 h0 h1 x y z)]
  unfold kernelRun0_C
  dsimp only
  sl_unfold_words
  rw [View.canon_unit_zero (S := Sz) off2]
  simp only [View.readAt_eq_ld, h3.read_unread, h4.read_unread, h6.read_unread, View.ld_unit_zero (S := Sx) off2, View.ld_unit_zero (S := Sy) off3, View.ld_unit_zero (S := Sz) off2]

theorem out_C (h0 : ¬cond0_0 i) (h1 : cond0_1 i) : out0_C_2 c i a3 h3 a4 h4 a5 h5 a6 h6 h0 h1 x y z = k0_pay3 (k0_pay2 z x y) := by
  unfold out0_C_2
  rw [View.read_writes_eq_canon _ _ _ (cover0_C_2 c i a3 h3 a4 h4 a5 h5 a6 h6 h0 h1 x y z)]
  unfold kernelRun0_C
  dsimp only
  sl_unfold_words
  rw [View.canon_unit_zero (S := Sz) off2, View.readCov_unit_zero (S := Sz) _ off2]
  simp only [View.readAt_eq_ld, h3.read_unread, h4.read_unread, h6.read_unread, View.ld_unit_zero (S := Sx) off2, View.ld_unit_zero (S := Sy) off3, View.ld_unit_zero (S := Sz) off2]

end Point

theorem pay2_at (z : Vec Ideal Sz .f32) (x : Vec Ideal Sx .bf16) (y : Vec Ideal Sy .bf16) (r : Fin 1024) (s : Fin 1408) :
    k0_pay2 (F := Ideal) z x y (ix2 r s) = z (ix2 r s) + ∑ k : Fin 2816, x (ix2 k r) * y (ix3 0 k s) := by
  unfold k0_pay2
  rw [shapeCast_self, shapeCast_self]
  exact congrArg (z (ix2 r s) + ·) ((mm_tn (φ₁ := .bf16) (φ₂ := .bf16) dot_S2816x1024_S2816x1408_S1024x1408_0_0_1_1_n_n rfl rfl rfl rfl
    (fun _ _ => rfl) (fun _ _ => rfl) x _ r s).trans (Finset.sum_congr rfl fun k _ => congrArg (fun v : EReal => x (ix2 k r) * v) (drop_unit y _ k s)))

theorem pay1_at (i : Sz.Idx) : k0_pay1 (F := Ideal) i = 0 := by
  unfold k0_pay1
  rw [shapeCast_self]
  exact Ideal.ofBits_zero_f32

/-! ## The blocks -/

theorem index0 : ∀ t : Fin cfg0.N, win0_0.index t 0 = t.val % 3 ∧ win0_0.index t 1 = t.val / 3 / 8 % 2 := by decide +kernel
theorem index1 : ∀ t : Fin cfg0.N, win0_1.index t 0 = t.val / 3 % 8 / 4 ∧ win0_1.index t 1 = t.val % 3 ∧ win0_1.index t 2 = t.val / 3 % 8 % 4 := by decide +kernel
theorem index2 : ∀ t : Fin cfg0.N, win0_2.index t 0 = t.val / 3 / 8 % 2 ∧ win0_2.index t 1 = t.val / 3 % 8 := by decide +kernel

theorem hM : 2048 = 2 * 1024 ∧ 0 < 2 := by decide
theorem hN : 11264 = 8 * 1408 ∧ 0 < 8 := by decide
theorem hK : 8448 = 3 * 2816 ∧ 0 < 3 := by decide

/-- Point `p`'s rows and columns of the result, and its part of the contracted index. -/
abbrev row (p : ℕ) (r : Fin 1024) : Fin 2048 := place 2 hM (p / 3 / 8) r
abbrev col (p : ℕ) (s : Fin 1408) : Fin 11264 := place 8 hN (p / 3) s
abbrev mid (p : ℕ) (k : Fin 2816) : Fin 8448 := place 3 hK p k

variable (m : (ℓ : Loc nD τ sig) → Buf (Elt Ideal) ℓ) (c : Dev nD)

/-- The two arguments as the run is launched with them, the two factors of the sum, and the reference's result. -/
abbrev arg0 : FVec Ideal S8448x2048 .f32 := m ((c : Thread nD τ).loc main_arg0)
abbrev arg1 : FVec Ideal S2x8448x5632 .f32 := m ((c : Thread nD τ).loc main_arg1)
def A (i : Fin 2048) (k : Fin 8448) : EReal := arg0 m c (ix2 k i)
def B (j : Fin 11264) (k : Fin 8448) : EReal := slab (by decide) (arg1 m c) k j
abbrev G : Buf (Elt Ideal) ((c : Thread nD τ).loc main_v2) := val_main_v11 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1024) (k : Fin 2816) : (iblk m c 0 t : Vec Ideal Sx .bf16) (ix2 k r) = A m c (row t.val r) (mid t.val k) := by
  unfold iblk
  rw [View.read_apply]
  refine Eq.trans (congrArg (V m c main_v0) (funext fun a => Fin.ext ?_)) (congrFun (V_x m c) (ix2 (mid t.val k) (row t.val r)))
  match a with
  | ⟨0, _⟩ => show win0_0.index t 0 * 2816 + 1 * k.val = 2816 * (t.val % 3) + k.val; rw [(index0 t).1]; omega
  | ⟨1, _⟩ => show win0_0.index t 1 * 1024 + 1 * r.val = 1024 * (t.val / 3 / 8 % 2) + r.val; rw [(index0 t).2]; omega

theorem y_at (t : Fin cfg0.N) (s : Fin 1408) (k : Fin 2816) : (iblk m c 1 t : Vec Ideal Sy .bf16) (ix3 0 k s) = B m c (col t.val s) (mid t.val k) := by
  unfold iblk
  rw [View.read_apply]
  refine Eq.trans (congrArg (V m c main_v1) (funext fun a => Fin.ext ?_)) (congrFun (V_y m c) (ix3 ⟨(col t.val s).val / 5632, by omega⟩ (mid t.val k) ⟨(col t.val s).val % 5632, by omega⟩))
  match a with
  | ⟨0, _⟩ => show win0_1.index t 0 * 1 + 1 * 0 = (1408 * (t.val / 3 % 8) + s.val) / 5632; rw [(index1 t).1]; omega
  | ⟨1, _⟩ => show win0_1.index t 1 * 2816 + 1 * k.val = 2816 * (t.val % 3) + k.val; rw [(index1 t).2.1]; omega
  | ⟨2, _⟩ => show win0_1.index t 2 * 1408 + 1 * s.val = (1408 * (t.val / 3 % 8) + s.val) % 5632; rw [(index1 t).2.2]; omega

/-! ## The reference at an entry, the block after its last point, and the result array -/

theorem ref_at (i : Fin 2048) (j : Fin 11264) : val_main_v11 (F := Ideal) (arg0 m c) (arg1 m c) (ix2 i j) = ∑ k, A m c i k * B m c j k := by
  refine (val_main_v11_apply _ _ _).trans ?_
  show val_main_v10 (F := Ideal) (arg0 m c) (arg1 m c) (ix2 i j) = _
  rw [val_main_v10_apply, val_main_v9_apply]
  refine Finset.sum_congr rfl fun k _ => ?_
  have e0 : lidx_main_v9 (idx_main_v10 (ix2 i j)) k = ix2 k j := eq_ix2 _
  have e1 : ridx_main_v9 (idx_main_v10 (ix2 i j)) k = ix2 k i := eq_ix2 _
  rw [e0, e1]
  refine (mul_comm _ _).trans (congrArg (fun v : EReal => arg0 m c (ix2 k i) * v) ?_)
  unfold val_main_v8 val_main_v7 val_main_v6 val_main_v5 val_main_v4
  exact cat_slabs _ (arg1 m c) _ _ _ _ k j

theorem step (t : Fin cfg0.N) (z : Vec Ideal Sz .f32) (r : Fin 1024) (s : Fin 1408) :
    k0_pay2 (F := Ideal) z (iblk m c 0 t) (iblk m c 1 t) (ix2 r s) = z (ix2 r s) + partSum hM hN hK (A m c) (B m c) t.val r s := by
  rw [pay2_at]
  exact congrArg (z (ix2 r s) + ·) (Finset.sum_congr rfl fun k _ => congrArg₂ (fun u v : EReal => u * v) (x_at m c t r k) (y_at m c t s k))

theorem sc_at (p : ℕ) (h : p < cfg0.N) (z : Vec Ideal Sz .f32) (r : Fin 1024) (s : Fin 1408) :
    scAt0_0 m c p h z (ix2 r s) = (if p % 3 = 0 then 0 else z (ix2 r s)) + partSum hM hN hK (A m c) (B m c) p r s := by
  unfold scAt0_0
  by_cases h0 : p % 3 = 0
  · rw [dif_pos h0, if_pos h0, dif_neg (by omega), sout_A, step m c ⟨p, h⟩, pay1_at]
  · rw [dif_neg h0, if_neg h0]
    by_cases h1 : p % 3 = 2
    · rw [dif_pos h1, sout_C]; exact step m c ⟨p, h⟩ z r s
    · rw [dif_neg h1, sout_B]; exact step m c ⟨p, h⟩ z r s

/-- What the last of a block's points writes back is the reference's block. -/
theorem flushed_eq (t : Fin cfg0.N) (hf : (cfg0.win 2).flush t = true) :
    (dats m 0 c).flushed 2 t = ((cfg0.win 2).blk t).view.read (Elt Ideal) (G m c) := by
  have ht : t.val % 3 = 2 := (flush0_2 t).mp hf
  have h0 : ¬t.val % 3 = 0 := by omega
  have ho : (outsAt0 m c t.val t.isLt).1 = k0_pay3 (outsAt0 m c t.val t.isLt).2 := by
    rw [outsAt0_C m c t h0 ht]; dsimp only; rw [out_C, sout_C]
  rw [flushed2, ho, soutsAt0_0_eq]
  refine funext fun (y : Sz.Idx) => ?_
  obtain ⟨r, s, rfl⟩ : ∃ r s, y = ix2 r s := ⟨_, _, eq_ix2 y⟩
  refine (block_sum hM hN hK (A m c) (B m c) _ (scAt0_0 m c) (sc_at m c) t.val (by omega) _ r s).trans
    ((ref_at m c (row t.val r) (col t.val s)).symm.trans ?_)
  rw [View.read_apply]
  refine congrArg (G m c) (funext fun a => Fin.ext ?_)
  match a with
  | ⟨0, _⟩ => show 1024 * (t.val / 3 / 8 % 2) + r.val = win0_2.index t 0 * 1024 + 1 * r.val; rw [(index2 t).1]; omega
  | ⟨1, _⟩ => show 1408 * (t.val / 3 % 8) + s.val = win0_2.index t 1 * 1408 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.Ffn1InDwIdeal.Hand

end
-- ==== Proof.Ffn1OutDwValue.lean ====
/- The first feed-forward block's output weight: its gradient `hᵀ · dy`. The kernel's array after the run is the reference's. -/
module

public import proofs.«01_k».proof.Proof.Prod
public import proofs.«01_k».proof.Proof.Gen.Ffn1OutDwIdeal.Value
public import proofs.«01_k».proof.Proof.Gen.Ffn1OutDwRefIdeal.Read

@[expose] public section

noncomputable section

namespace Cert.Ffn1OutDwIdeal.Hand

open Ffn1OutDwIdeal Gen Value Cert.Prod Ffn1OutDwRefIdeal.Read
open Idealize.ShloMosaic TcCoe Tactic ValueIdx
open Idealize.SL Sem

/-- The blocks: of the left array, of the right array, and of the result. -/
abbrev Sx : Shape := S2816x1408
abbrev Sy : Shape := S2816x1024
abbrev Sz : Shape := S1408x1024

/-! ## What one point leaves in the accumulator, and what the last of a block's points writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sz .bf16) (h5 : a5.IsWhole)
  (a6 : Memref sig .tc .vmem Sz .f32) (h6 : a6.IsWhole) (x : Vec F Sx .bf16) (y : Vec F Sy .bf16) (z : Vec F Sz .f32)

theorem sout_A (h0 : cond0_0 i) (h1 : ¬cond0_1 i) : sout0_A_0 c i a3 h3 a4 h4 a5 h5 a6 h6 h0 h1 x y = k0_pay2 (k0_pay1 (F := F)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := Sz) off2, View.readCov_unit_zero (S := Sz) _ off2]
  simp only [View.readAt_eq_ld, h3.read_unread, h4.read_unread, View.ld_unit_zero (S := Sx) off2, View.ld_unit_zero (S := Sy) off2]

theorem sout_B (h0 : ¬cond0_0 i) (h1 : ¬cond0_1 i) : sout0_B_0 c i a3 h3 a4 h4 a5 h5 a6 h6 h0 h1 x y z = k0_pay2 z x y := by
  unfold sout0_B_0
  rw [View.read_writes_eq_canon _ _ _ (scover0_B_0 c i a3 h3 a4 h4 a5 h5 a6 h6 h0 h1 x y z)]
  unfold kernelRun0_B
  dsimp only
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem sout_C (h0 : ¬cond0_0 i) (h1 : cond0_1 i) : sout0_C_0 c i a3 h3 a4 h4 a5 h5 a6 h6 h0 h1 x y z = k0_pay2 z x y := by
  unfold sout0_C_0
  rw [View.read_writes_eq_canon _ _ _ (scover0_C_0 c i a3 h3 a4 h4 a5 h5 a6 h6 h0 h1 x y z)]
  unfold kernelRun0_C
  dsimp only
  sl_unfold_words
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem out_C (h0 : ¬cond0_0 i) (h1 : cond0_1 i) : out0_C_2 c i a3 h3 a4 h4 a5 h5 a6 h6 h0 h1 x y z = k0_pay3 (k0_pay2 z x y) := by
  unfold out0_C_2
  rw [View.read_writes_eq_canon _ _ _ (cover0_C_2 c i a3 h3 a4 h4 a5 h5 a6 h6 h0 h1 x y z)]
  unfold kernelRun0_C
  dsimp only
  sl_unfold_words
  rw [View.canon_unit_zero (S := Sz) off2, View.readCov_unit_zero (S := Sz) _ off2]
  simp only [View.readAt_eq_ld, h3.read_unread, h4.read_unread, h6.read_unread, View.ld_unit_zero (S := Sx) off2, View.ld_unit_zero (S := Sy) off2, View.ld_unit_zero (S := Sz) off2]

end Point

theorem pay2_at (z : Vec Ideal Sz .f32) (x : Vec Ideal Sx .bf16) (y : Vec Ideal Sy .bf16) (r : Fin 1408) (s : Fin 1024) :
    k0_pay2 (F := Ideal) z x y (ix2 r s) = z (ix2 r s) + ∑ k : Fin 2816, x (ix2 k r) * y (ix2 k s) := by
  unfold k0_pay2
  rw [shapeCast_self, shapeCast_self, shapeCast_self]
  exact congrArg (z (ix2 r s) + ·) ((mm_tn (φ₁ := .bf16) (φ₂ := .bf16) dot_S2816x1408_S2816x1024_S1408x1024_0_0_1_1_n_n rfl rfl rfl rfl
    (fun _ _ => rfl) (fun _ _ => rfl) x y r s))

theorem pay1_at (i : Sz.Idx) : k0_pay1 (F := Ideal) i = 0 := by
  unfold k0_pay1
  rw [shapeCast_self]
  exact Ideal.ofBits_zero_f32

/-! ## The blocks -/

theorem index0 : ∀ t : Fin cfg0.N, win0_0.index t 0 = t.val % 3 ∧ win0_0.index t 1 = t.val / 3 / 2 % 4 := by decide +kernel
theorem index1 : ∀ t : Fin cfg0.N, win0_1.index t 0 = t.val % 3 ∧ win0_1.index t 1 = t.val / 3 % 2 := by decide +kernel
theorem index2 : ∀ t : Fin cfg0.N, win0_2.index t 0 = t.val / 3 / 2 % 4 ∧ win0_2.index t 1 = t.val / 3 % 2 := by decide +kernel

theorem hM : 5632 = 4 * 1408 ∧ 0 < 4 := by decide
theorem hN : 2048 = 2 * 1024 ∧ 0 < 2 := by decide
theorem hK : 8448 = 3 * 2816 ∧ 0 < 3 := by decide

/-- Point `p`'s rows and columns of the result, and its part of the contracted index. -/
abbrev row (p : ℕ) (r : Fin 1408) : Fin 5632 := place 4 hM (p / 3 / 2) r
abbrev col (p : ℕ) (s : Fin 1024) : Fin 2048 := place 2 hN (p / 3) s
abbrev mid (p : ℕ) (k : Fin 2816) : Fin 8448 := place 3 hK p k

variable (m : (ℓ : Loc nD τ sig) → Buf (Elt Ideal) ℓ) (c : Dev nD)

/-- The two arguments as the run is launched with them, the two factors of the sum, and the reference's result. -/
abbrev arg0 : FVec Ideal S8448x5632 .f32 := m ((c : Thread nD τ).loc main_arg0)
abbrev arg1 : FVec Ideal S8448x2048 .f32 := m ((c : Thread nD τ).loc main_arg1)
def A (i : Fin 5632) (k : Fin 8448) : EReal := arg0 m c (ix2 k i)
def B (j : Fin 2048) (k : Fin 8448) : EReal := arg1 m c (ix2 k j)
abbrev G : Buf (Elt Ideal) ((c : Thread nD τ).loc main_v3) := val_main_v4 (F := Ideal) (arg0 m c) (arg1 m c)

theorem V_x : V m c main_v1 = truncf (F := Ideal) .bf16 (arg0 m c) bitsLt_bf16_f32 := by
  unfold V
  after_results_simp <;> rfl
theorem V_y : V m c main_v2 = truncf (F := Ideal) .bf16 (arg1 m c) bitsLt_bf16_f32 := by
  unfold V
  after_results_simp <;> rfl

theorem x_at (t : Fin cfg0.N) (r : Fin 1408) (k : Fin 2816) : (iblk m c 0 t : Vec Ideal Sx .bf16) (ix2 k r) = A m c (row t.val r) (mid t.val k) := by
  unfold iblk
  rw [View.read_apply]
  refine Eq.trans (congrArg (V m c main_v1) (funext fun a => Fin.ext ?_)) (congrFun (V_x m c) (ix2 (mid t.val k) (row t.val r)))
  match a with
  | ⟨0, _⟩ => show win0_0.index t 0 * 2816 + 1 * k.val = 2816 * (t.val % 3) + k.val; rw [(index0 t).1]; omega
  | ⟨1, _⟩ => show win0_0.index t 1 * 1408 + 1 * r.val = 1408 * (t.val / 3 / 2 % 4) + r.val; rw [(index0 t).2]; omega

theorem y_at (t : Fin cfg0.N) (s : Fin 1024) (k : Fin 2816) : (iblk m c 1 t : Vec Ideal Sy .bf16) (ix2 k s) = B m c (col t.val s) (mid t.val k) := by
  unfold iblk
  rw [View.read_apply]
  refine Eq.trans (congrArg (V m c main_v2) (funext fun a => Fin.ext ?_)) (congrFun (V_y m c) (ix2 (mid t.val k) (col t.val s)))
  match a with
  | ⟨0, _⟩ => show win0_1.index t 0 * 2816 + 1 * k.val = 2816 * (t.val % 3) + k.val; rw [(index1 t).1]; omega
  | ⟨1, _⟩ => show win0_1.index t 1 * 1024 + 1 * s.val = 1024 * (t.val / 3 % 2) + s.val; rw [(index1 t).2]; omega

/-! ## The reference at an entry, the block after its last point, and the result array -/

theorem ref_at (i : Fin 5632) (j : Fin 2048) : val_main_v4 (F := Ideal) (arg0 m c) (arg1 m c) (ix2 i j) = ∑ k, A m c i k * B m c j k := by
  refine (val_main_v4_apply _ _ _).trans ?_
  show val_main_v3 (F := Ideal) (arg0 m c) (arg1 m c) (ix2 i j) = _
  rw [val_main_v3_apply, val_main_v2_apply]
  refine Finset.sum_congr rfl fun k _ => ?_
  have e0 : lidx_main_v2 (idx_main_v3 (ix2 i j)) k = ix2 k j := eq_ix2 _
  have e1 : ridx_main_v2 (idx_main_v3 (ix2 i j)) k = ix2 k i := eq_ix2 _
  rw [e0, e1]
  exact mul_comm _ _

theorem step (t : Fin cfg0.N) (z : Vec Ideal Sz .f32) (r : Fin 1408) (s : Fin 1024) :
    k0_pay2 (F := Ideal) z (iblk m c 0 t) (iblk m c 1 t) (ix2 r s) = z (ix2 r s) + partSum hM hN hK (A m c) (B m c) t.val r s := by
  rw [pay2_at]
  exact congrArg (z (ix2 r s) + ·) (Finset.sum_congr rfl fun k _ => congrArg₂ (fun u v : EReal => u * v) (x_at m c t r k) (y_at m c t s k))

theorem sc_at (p : ℕ) (h : p < cfg0.N) (z : Vec Ideal Sz .f32) (r : Fin 1408) (s : Fin 1024) :
    scAt0_0 m c p h z (ix2 r s) = (if p % 3 = 0 then 0 else z (ix2 r s)) + partSum hM hN hK (A m c) (B m c) p r s := by
  unfold scAt0_0
  by_cases h0 : p % 3 = 0
  · rw [dif_pos h0, if_pos h0, dif_neg (by omega), sout_A, step m c ⟨p, h⟩, pay1_at]
  · rw [dif_neg h0, if_neg h0]
    by_cases h1 : p % 3 = 2
    · rw [dif_pos h1, sout_C]; exact step m c ⟨p, h⟩ z r s
    · rw [dif_neg h1, sout_B]; exact step m c ⟨p, h⟩ z r s

/-- What the last of a block's points writes back is the reference's block. -/
theorem flushed_eq (t : Fin cfg0.N) (hf : (cfg0.win 2).flush t = true) :
    (dats m 0 c).flushed 2 t = ((cfg0.win 2).blk t).view.read (Elt Ideal) (G m c) := by
  have ht : t.val % 3 = 2 := (flush0_2 t).mp hf
  have h0 : ¬t.val % 3 = 0 := by omega
  have ho : (outsAt0 m c t.val t.isLt).1 = k0_pay3 (outsAt0 m c t.val t.isLt).2 := by
    rw [outsAt0_C m c t h0 ht]; dsimp only; rw [out_C, sout_C]
  rw [flushed2, ho, soutsAt0_0_eq]
  refine funext fun (y : Sz.Idx) => ?_
  obtain ⟨r, s, rfl⟩ : ∃ r s, y = ix2 r s := ⟨_, _, eq_ix2 y⟩
  refine (block_sum hM hN hK (A m c) (B m c) _ (scAt0_0 m c) (sc_at m c) t.val (by omega) _ r s).trans
    ((ref_at m c (row t.val r) (col t.val s)).symm.trans ?_)
  rw [View.read_apply]
  refine congrArg (G m c) (funext fun a => Fin.ext ?_)
  match a with
  | ⟨0, _⟩ => show 1408 * (t.val / 3 / 2 % 4) + r.val = win0_2.index t 0 * 1408 + 1 * r.val; rw [(index2 t).1]; omega
  | ⟨1, _⟩ => show 1024 * (t.val / 3 % 2) + s.val = win0_2.index t 1 * 1024 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.Ffn1OutDwIdeal.Hand

end
-- ==== Proof.MixInDxValue.lean ====
/- The hybrid block's input: its gradient `dp · wᵀ`. The kernel's array after the run is the reference's. -/
module

public import proofs.«01_k».proof.Proof.Prod
public import proofs.«01_k».proof.Proof.Gen.MixInDxIdeal.Value
public import proofs.«01_k».proof.Proof.Gen.MixInDxRefIdeal.Read

@[expose] public section

noncomputable section

namespace Cert.MixInDxIdeal.Hand

open MixInDxIdeal Gen Value Cert.Prod MixInDxRefIdeal.Read
open Idealize.ShloMosaic TcCoe Tactic ValueIdx
open Idealize.SL Sem

/-- The blocks: of the left array, of the right array, and of the result. -/
abbrev Sx : Shape := S1408x2432
abbrev Sy : Shape := S1024x2432
abbrev Sz : Shape := S1408x1024

/-! ## What one point leaves in the accumulator, and what the last of a block's points writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sz .f32) (h5 : a5.IsWhole)
  (a6 : Memref sig .tc .vmem Sz .f32) (h6 : a6.IsWhole) (x : Vec F Sx .bf16) (y : Vec F Sy .bf16) (z : Vec F Sz .f32)

theorem sout_A (h0 : cond0_0 i) (h1 : ¬cond0_1 i) : sout0_A_0 c i a3 h3 a4 h4 a5 h5 a6 h6 h0 h1 x y = k0_pay2 (k0_pay1 (F := F)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := Sz) off2, View.readCov_unit_zero (S := Sz) _ off2]
  simp only [View.readAt_eq_ld, h3.read_unread, h4.read_unread, View.ld_unit_zero (S := Sx) off2, View.ld_unit_zero (S := Sy) off2]

theorem sout_B (h0 : ¬cond0_0 i) (h1 : ¬cond0_1 i) : sout0_B_0 c i a3 h3 a4 h4 a5 h5 a6 h6 h0 h1 x y z = k0_pay2 z x y := by
  unfold sout0_B_0
  rw [View.read_writes_eq_canon _ _ _ (scover0_B_0 c i a3 h3 a4 h4 a5 h5 a6 h6 h0 h1 x y z)]
  unfold kernelRun0_B
  dsimp only
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem sout_C (h0 : ¬cond0_0 i) (h1 : cond0_1 i) : sout0_C_0 c i a3 h3 a4 h4 a5 h5 a6 h6 h0 h1 x y z = k0_pay2 z x y := by
  unfold sout0_C_0
  rw [View.read_writes_eq_canon _ _ _ (scover0_C_0 c i a3 h3 a4 h4 a5 h5 a6 h6 h0 h1 x y z)]
  unfold kernelRun0_C
  dsimp only
  sl_unfold_words
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem out_C (h0 : ¬cond0_0 i) (h1 : cond0_1 i) : out0_C_2 c i a3 h3 a4 h4 a5 h5 a6 h6 h0 h1 x y z = k0_pay2 z x y := by
  unfold out0_C_2
  rw [View.read_writes_eq_canon _ _ _ (cover0_C_2 c i a3 h3 a4 h4 a5 h5 a6 h6 h0 h1 x y z)]
  unfold kernelRun0_C
  dsimp only
  sl_unfold_words
  rw [View.canon_unit_zero (S := Sz) off2, View.readCov_unit_zero (S := Sz) _ off2]
  simp only [View.readAt_eq_ld, h3.read_unread, h4.read_unread, h6.read_unread, View.ld_unit_zero (S := Sx) off2, View.ld_unit_zero (S := Sy) off2, View.ld_unit_zero (S := Sz) off2]

end Point

theorem pay2_at (z : Vec Ideal Sz .f32) (x : Vec Ideal Sx .bf16) (y : Vec Ideal Sy .bf16) (r : Fin 1408) (s : Fin 1024) :
    k0_pay2 (F := Ideal) z x y (ix2 r s) = z (ix2 r s) + ∑ k : Fin 2432, x (ix2 r k) * y (ix2 s k) := by
  unfold k0_pay2
  rw [shapeCast_self, shapeCast_self, shapeCast_self]
  exact congrArg (z (ix2 r s) + ·) ((mm_nt (φ₁ := .bf16) (φ₂ := .bf16) dot_S1408x2432_S1024x2432_S1408x1024_1_1_0_0_n_n rfl rfl rfl rfl
    (fun _ _ => rfl) (fun _ _ => rfl) x y r s))

theorem pay1_at (i : Sz.Idx) : k0_pay1 (F := Ideal) i = 0 := by
  unfold k0_pay1
  rw [shapeCast_self]
  exact Ideal.ofBits_zero_f32

/-! ## The blocks -/

theorem index0 : ∀ t : Fin cfg0.N, win0_0.index t 0 = t.val / 4 / 2 % 6 ∧ win0_0.index t 1 = t.val % 4 := by decide +kernel
theorem index1 : ∀ t : Fin cfg0.N, win0_1.index t 0 = t.val / 4 % 2 ∧ win0_1.index t 1 = t.val % 4 := by decide +kernel
theorem index2 : ∀ t : Fin cfg0.N, win0_2.index t 0 = t.val / 4 / 2 % 6 ∧ win0_2.index t 1 = t.val / 4 % 2 := by decide +kernel

theorem hM : 8448 = 6 * 1408 ∧ 0 < 6 := by decide
theorem hN : 2048 = 2 * 1024 ∧ 0 < 2 := by decide
theorem hK : 9728 = 4 * 2432 ∧ 0 < 4 := by decide

/-- Point `p`'s rows and columns of the result, and its part of the contracted index. -/
abbrev row (p : ℕ) (r : Fin 1408) : Fin 8448 := place 6 hM (p / 4 / 2) r
abbrev col (p : ℕ) (s : Fin 1024) : Fin 2048 := place 2 hN (p / 4) s
abbrev mid (p : ℕ) (k : Fin 2432) : Fin 9728 := place 4 hK p k

variable (m : (ℓ : Loc nD τ sig) → Buf (Elt Ideal) ℓ) (c : Dev nD)

/-- The two arguments as the run is launched with them, the two factors of the sum, and the reference's result. -/
abbrev arg0 : FVec Ideal S8448x9728 .f32 := m ((c : Thread nD τ).loc main_arg0)
abbrev arg1 : FVec Ideal S2048x9728 .f32 := m ((c : Thread nD τ).loc main_arg1)
def A (i : Fin 8448) (k : Fin 9728) : EReal := arg0 m c (ix2 i k)
def B (j : Fin 2048) (k : Fin 9728) : EReal := arg1 m c (ix2 j k)
abbrev G : Buf (Elt Ideal) ((c : Thread nD τ).loc main_v2) := val_main_v2 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1408) (k : Fin 2432) : (iblk m c 0 t : Vec Ideal Sx .bf16) (ix2 r k) = A m c (row t.val r) (mid t.val k) := by
  unfold iblk
  rw [View.read_apply]
  refine Eq.trans (congrArg (V m c main_v0) (funext fun a => Fin.ext ?_)) (congrFun (V_x m c) (ix2 (row t.val r) (mid t.val k)))
  match a with
  | ⟨0, _⟩ => show win0_0.index t 0 * 1408 + 1 * r.val = 1408 * (t.val / 4 / 2 % 6) + r.val; rw [(index0 t).1]; omega
  | ⟨1, _⟩ => show win0_0.index t 1 * 2432 + 1 * k.val = 2432 * (t.val % 4) + k.val; rw [(index0 t).2]; omega

theorem y_at (t : Fin cfg0.N) (s : Fin 1024) (k : Fin 2432) : (iblk m c 1 t : Vec Ideal Sy .bf16) (ix2 s k) = B m c (col t.val s) (mid t.val k) := by
  unfold iblk
  rw [View.read_apply]
  refine Eq.trans (congrArg (V m c main_v1) (funext fun a => Fin.ext ?_)) (congrFun (V_y m c) (ix2 (col t.val s) (mid t.val k)))
  match a with
  | ⟨0, _⟩ => show win0_1.index t 0 * 1024 + 1 * s.val = 1024 * (t.val / 4 % 2) + s.val; rw [(index1 t).1]; omega
  | ⟨1, _⟩ => show win0_1.index t 1 * 2432 + 1 * k.val = 2432 * (t.val % 4) + k.val; rw [(index1 t).2]; omega

/-! ## The reference at an entry, the block after its last point, and the result array -/

theorem ref_at (i : Fin 8448) (j : Fin 2048) : val_main_v2 (F := Ideal) (arg0 m c) (arg1 m c) (ix2 i j) = ∑ k, A m c i k * B m c j k := by
  rw [val_main_v2_apply]
  refine Finset.sum_congr rfl fun k _ => ?_
  have e0 : lidx_main_v2 (ix2 i j) k = ix2 i k := eq_ix2 _
  have e1 : ridx_main_v2 (ix2 i j) k = ix2 j k := eq_ix2 _
  rw [e0, e1]
  rfl

theorem step (t : Fin cfg0.N) (z : Vec Ideal Sz .f32) (r : Fin 1408) (s : Fin 1024) :
    k0_pay2 (F := Ideal) z (iblk m c 0 t) (iblk m c 1 t) (ix2 r s) = z (ix2 r s) + partSum hM hN hK (A m c) (B m c) t.val r s := by
  rw [pay2_at]
  exact congrArg (z (ix2 r s) + ·) (Finset.sum_congr rfl fun k _ => congrArg₂ (fun u v : EReal => u * v) (x_at m c t r k) (y_at m c t s k))

theorem sc_at (p : ℕ) (h : p < cfg0.N) (z : Vec Ideal Sz .f32) (r : Fin 1408) (s : Fin 1024) :
    scAt0_0 m c p h z (ix2 r s) = (if p % 4 = 0 then 0 else z (ix2 r s)) + partSum hM hN hK (A m c) (B m c) p r s := by
  unfold scAt0_0
  by_cases h0 : p % 4 = 0
  · rw [dif_pos h0, if_pos h0, dif_neg (by omega), sout_A, step m c ⟨p, h⟩, pay1_at]
  · rw [dif_neg h0, if_neg h0]
    by_cases h1 : p % 4 = 3
    · rw [dif_pos h1, sout_C]; exact step m c ⟨p, h⟩ z r s
    · rw [dif_neg h1, sout_B]; exact step m c ⟨p, h⟩ z r s

/-- What the last of a block's points writes back is the reference's block. -/
theorem flushed_eq (t : Fin cfg0.N) (hf : (cfg0.win 2).flush t = true) :
    (dats m 0 c).flushed 2 t = ((cfg0.win 2).blk t).view.read (Elt Ideal) (G m c) := by
  have ht : t.val % 4 = 3 := (flush0_2 t).mp hf
  have h0 : ¬t.val % 4 = 0 := by omega
  have ho : (outsAt0 m c t.val t.isLt).1 = (outsAt0 m c t.val t.isLt).2 := by
    rw [outsAt0_C m c t h0 ht]; dsimp only; rw [out_C, sout_C]
  rw [flushed2, ho, soutsAt0_0_eq]
  refine funext fun (y : Sz.Idx) => ?_
  obtain ⟨r, s, rfl⟩ : ∃ r s, y = ix2 r s := ⟨_, _, eq_ix2 y⟩
  refine (block_sum hM hN hK (A m c) (B m c) _ (scAt0_0 m c) (sc_at m c) t.val (by omega) _ r s).trans
    ((ref_at m c (row t.val r) (col t.val s)).symm.trans ?_)
  rw [View.read_apply]
  refine congrArg (G m c) (funext fun a => Fin.ext ?_)
  match a with
  | ⟨0, _⟩ => show 1408 * (t.val / 4 / 2 % 6) + r.val = win0_2.index t 0 * 1408 + 1 * r.val; rw [(index2 t).1]; omega
  | ⟨1, _⟩ => show 1024 * (t.val / 4 % 2) + s.val = win0_2.index t 1 * 1024 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.MixInDxIdeal.Hand

end
-- ==== Proof.MixInDwValue.lean ====
/- The hybrid block's input weight: its gradient `xᵀ · dp`. The kernel's array after the run is the reference's. -/
module

public import proofs.«01_k».proof.Proof.Prod
public import proofs.«01_k».proof.Proof.Gen.MixInDwIdeal.Value
public import proofs.«01_k».proof.Proof.Gen.MixInDwRefIdeal.Read

@[expose] public section

noncomputable section

namespace Cert.MixInDwIdeal.Hand

open MixInDwIdeal Gen Value Cert.Prod MixInDwRefIdeal.Read
open Idealize.ShloMosaic TcCoe Tactic ValueIdx
open Idealize.SL Sem

/-- The blocks: of the left array, of the right array, and of the result. -/
abbrev Sx : Shape := S2816x512
abbrev Sy : Shape := S2816x2432
abbrev Sz : Shape := S512x2432

/-! ## What one point leaves in the accumulator, and what the last of a block's points writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sz .bf16) (h5 : a5.IsWhole)
  (a6 : Memref sig .tc .vmem Sz .f32) (h6 : a6.IsWhole) (x : Vec F Sx .bf16) (y : Vec F Sy .bf16) (z : Vec F Sz .f32)

theorem sout_A (h0 : cond0_0 i) (h1 : ¬cond0_1 i) : sout0_A_0 c i a3 h3 a4 h4 a5 h5 a6 h6 h0 h1 x y = k0_pay2 (k0_pay1 (F := F)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := Sz) off2, View.readCov_unit_zero (S := Sz) _ off2]
  simp only [View.readAt_eq_ld, h3.read_unread, h4.read_unread, View.ld_unit_zero (S := Sx) off2, View.ld_unit_zero (S := Sy) off2]

theorem sout_B (h0 : ¬cond0_0 i) (h1 : ¬cond0_1 i) : sout0_B_0 c i a3 h3 a4 h4 a5 h5 a6 h6 h0 h1 x y z = k0_pay2 z x y := by
  unfold sout0_B_0
  rw [View.read_writes_eq_canon _ _ _ (scover0_B_0 c i a3 h3 a4 h4 a5 h5 a6 h6 h0 h1 x y z)]
  unfold kernelRun0_B
  dsimp only
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem sout_C (h0 : ¬cond0_0 i) (h1 : cond0_1 i) : sout0_C_0 c i a3 h3 a4 h4 a5 h5 a6 h6 h0 h1 x y z = k0_pay2 z x y := by
  unfold sout0_C_0
  rw [View.read_writes_eq_canon _ _ _ (scover0_C_0 c i a3 h3 a4 h4 a5 h5 a6 h6 h0 h1 x y z)]
  unfold kernelRun0_C
  dsimp only
  sl_unfold_words
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem out_C (h0 : ¬cond0_0 i) (h1 : cond0_1 i) : out0_C_2 c i a3 h3 a4 h4 a5 h5 a6 h6 h0 h1 x y z = k0_pay3 (k0_pay2 z x y) := by
  unfold out0_C_2
  rw [View.read_writes_eq_canon _ _ _ (cover0_C_2 c i a3 h3 a4 h4 a5 h5 a6 h6 h0 h1 x y z)]
  unfold kernelRun0_C
  dsimp only
  sl_unfold_words
  rw [View.canon_unit_zero (S := Sz) off2, View.readCov_unit_zero (S := Sz) _ off2]
  simp only [View.readAt_eq_ld, h3.read_unread, h4.read_unread, h6.read_unread, View.ld_unit_zero (S := Sx) off2, View.ld_unit_zero (S := Sy) off2, View.ld_unit_zero (S := Sz) off2]

end Point

theorem pay2_at (z : Vec Ideal Sz .f32) (x : Vec Ideal Sx .bf16) (y : Vec Ideal Sy .bf16) (r : Fin 512) (s : Fin 2432) :
    k0_pay2 (F := Ideal) z x y (ix2 r s) = z (ix2 r s) + ∑ k : Fin 2816, x (ix2 k r) * y (ix2 k s) := by
  unfold k0_pay2
  rw [shapeCast_self, shapeCast_self, shapeCast_self]
  exact congrArg (z (ix2 r s) + ·) ((mm_tn (φ₁ := .bf16) (φ₂ := .bf16) dot_S2816x512_S2816x2432_S512x2432_0_0_1_1_n_n rfl rfl rfl rfl
    (fun _ _ => rfl) (fun _ _ => rfl) x y r s))

theorem pay1_at (i : Sz.Idx) : k0_pay1 (F := Ideal) i = 0 := by
  unfold k0_pay1
  rw [shapeCast_self]
  exact Ideal.ofBits_zero_f32

/-! ## The blocks -/

theorem index0 : ∀ t : Fin cfg0.N, win0_0.index t 0 = t.val % 3 ∧ win0_0.index t 1 = t.val / 3 / 4 % 4 := by decide +kernel
theorem index1 : ∀ t : Fin cfg0.N, win0_1.index t 0 = t.val % 3 ∧ win0_1.index t 1 = t.val / 3 % 4 := by decide +kernel
theorem index2 : ∀ t : Fin cfg0.N, win0_2.index t 0 = t.val / 3 / 4 % 4 ∧ win0_2.index t 1 = t.val / 3 % 4 := by decide +kernel

theorem hM : 2048 = 4 * 512 ∧ 0 < 4 := by decide
theorem hN : 9728 = 4 * 2432 ∧ 0 < 4 := by decide
theorem hK : 8448 = 3 * 2816 ∧ 0 < 3 := by decide

/-- Point `p`'s rows and columns of the result, and its part of the contracted index. -/
abbrev row (p : ℕ) (r : Fin 512) : Fin 2048 := place 4 hM (p / 3 / 4) r
abbrev col (p : ℕ) (s : Fin 2432) : Fin 9728 := place 4 hN (p / 3) s
abbrev mid (p : ℕ) (k : Fin 2816) : Fin 8448 := place 3 hK p k

variable (m : (ℓ : Loc nD τ sig) → Buf (Elt Ideal) ℓ) (c : Dev nD)

/-- The two arguments as the run is launched with them, the two factors of the sum, and the reference's result. -/
abbrev arg0 : FVec Ideal S8448x2048 .f32 := m ((c : Thread nD τ).loc main_arg0)
abbrev arg1 : FVec Ideal S8448x9728 .f32 := m ((c : Thread nD τ).loc main_arg1)
def A (i : Fin 2048) (k : Fin 8448) : EReal := arg0 m c (ix2 k i)
def B (j : Fin 9728) (k : Fin 8448) : EReal := arg1 m c (ix2 k j)
abbrev G : Buf (Elt Ideal) ((c : Thread nD τ).loc main_v2) := val_main_v4 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 512) (k : Fin 2816) : (iblk m c 0 t : Vec Ideal Sx .bf16) (ix2 k r) = A m c (row t.val r) (mid t.val k) := by
  unfold iblk
  rw [View.read_apply]
  refine Eq.trans (congrArg (V m c main_v0) (funext fun a => Fin.ext ?_)) (congrFun (V_x m c) (ix2 (mid t.val k) (row t.val r)))
  match a with
  | ⟨0, _⟩ => show win0_0.index t 0 * 2816 + 1 * k.val = 2816 * (t.val % 3) + k.val; rw [(index0 t).1]; omega
  | ⟨1, _⟩ => show win0_0.index t 1 * 512 + 1 * r.val = 512 * (t.val / 3 / 4 % 4) + r.val; rw [(index0 t).2]; omega

theorem y_at (t : Fin cfg0.N) (s : Fin 2432) (k : Fin 2816) : (iblk m c 1 t : Vec Ideal Sy .bf16) (ix2 k s) = B m c (col t.val s) (mid t.val k) := by
  unfold iblk
  rw [View.read_apply]
  refine Eq.trans (congrArg (V m c main_v1) (funext fun a => Fin.ext ?_)) (congrFun (V_y m c) (ix2 (mid t.val k) (col t.val s)))
  match a with
  | ⟨0, _⟩ => show win0_1.index t 0 * 2816 + 1 * k.val = 2816 * (t.val % 3) + k.val; rw [(index1 t).1]; omega
  | ⟨1, _⟩ => show win0_1.index t 1 * 2432 + 1 * s.val = 2432 * (t.val / 3 % 4) + s.val; rw [(index1 t).2]; omega

/-! ## The reference at an entry, the block after its last point, and the result array -/

theorem ref_at (i : Fin 2048) (j : Fin 9728) : val_main_v4 (F := Ideal) (arg0 m c) (arg1 m c) (ix2 i j) = ∑ k, A m c i k * B m c j k := by
  refine (val_main_v4_apply _ _ _).trans ?_
  show val_main_v3 (F := Ideal) (arg0 m c) (arg1 m c) (ix2 i j) = _
  rw [val_main_v3_apply, val_main_v2_apply]
  refine Finset.sum_congr rfl fun k _ => ?_
  have e0 : lidx_main_v2 (idx_main_v3 (ix2 i j)) k = ix2 k j := eq_ix2 _
  have e1 : ridx_main_v2 (idx_main_v3 (ix2 i j)) k = ix2 k i := eq_ix2 _
  rw [e0, e1]
  exact mul_comm _ _

theorem step (t : Fin cfg0.N) (z : Vec Ideal Sz .f32) (r : Fin 512) (s : Fin 2432) :
    k0_pay2 (F := Ideal) z (iblk m c 0 t) (iblk m c 1 t) (ix2 r s) = z (ix2 r s) + partSum hM hN hK (A m c) (B m c) t.val r s := by
  rw [pay2_at]
  exact congrArg (z (ix2 r s) + ·) (Finset.sum_congr rfl fun k _ => congrArg₂ (fun u v : EReal => u * v) (x_at m c t r k) (y_at m c t s k))

theorem sc_at (p : ℕ) (h : p < cfg0.N) (z : Vec Ideal Sz .f32) (r : Fin 512) (s : Fin 2432) :
    scAt0_0 m c p h z (ix2 r s) = (if p % 3 = 0 then 0 else z (ix2 r s)) + partSum hM hN hK (A m c) (B m c) p r s := by
  unfold scAt0_0
  by_cases h0 : p % 3 = 0
  · rw [dif_pos h0, if_pos h0, dif_neg (by omega), sout_A, step m c ⟨p, h⟩, pay1_at]
  · rw [dif_neg h0, if_neg h0]
    by_cases h1 : p % 3 = 2
    · rw [dif_pos h1, sout_C]; exact step m c ⟨p, h⟩ z r s
    · rw [dif_neg h1, sout_B]; exact step m c ⟨p, h⟩ z r s

/-- What the last of a block's points writes back is the reference's block. -/
theorem flushed_eq (t : Fin cfg0.N) (hf : (cfg0.win 2).flush t = true) :
    (dats m 0 c).flushed 2 t = ((cfg0.win 2).blk t).view.read (Elt Ideal) (G m c) := by
  have ht : t.val % 3 = 2 := (flush0_2 t).mp hf
  have h0 : ¬t.val % 3 = 0 := by omega
  have ho : (outsAt0 m c t.val t.isLt).1 = k0_pay3 (outsAt0 m c t.val t.isLt).2 := by
    rw [outsAt0_C m c t h0 ht]; dsimp only; rw [out_C, sout_C]
  rw [flushed2, ho, soutsAt0_0_eq]
  refine funext fun (y : Sz.Idx) => ?_
  obtain ⟨r, s, rfl⟩ : ∃ r s, y = ix2 r s := ⟨_, _, eq_ix2 y⟩
  refine (block_sum hM hN hK (A m c) (B m c) _ (scAt0_0 m c) (sc_at m c) t.val (by omega) _ r s).trans
    ((ref_at m c (row t.val r) (col t.val s)).symm.trans ?_)
  rw [View.read_apply]
  refine congrArg (G m c) (funext fun a => Fin.ext ?_)
  match a with
  | ⟨0, _⟩ => show 512 * (t.val / 3 / 4 % 4) + r.val = win0_2.index t 0 * 512 + 1 * r.val; rw [(index2 t).1]; omega
  | ⟨1, _⟩ => show 2432 * (t.val / 3 % 4) + s.val = win0_2.index t 1 * 2432 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.MixInDwIdeal.Hand

end
-- ==== Proof.MixOutDwValue.lean ====
/- The hybrid block's output weight: its gradient `zᵀ · dy`. The kernel's array after the run is the reference's. -/
module

public import proofs.«01_k».proof.Proof.Prod
public import proofs.«01_k».proof.Proof.Gen.MixOutDwIdeal.Value
public import proofs.«01_k».proof.Proof.Gen.MixOutDwRefIdeal.Read

@[expose] public section

noncomputable section

namespace Cert.MixOutDwIdeal.Hand

open MixOutDwIdeal Gen Value Cert.Prod MixOutDwRefIdeal.Read
open Idealize.ShloMosaic TcCoe Tactic ValueIdx
open Idealize.SL Sem

/-- The blocks: of the left array, of the right array, and of the result. -/
abbrev Sx : Shape := S2048x1024
abbrev Sy : Shape := S2048x2048
abbrev Sz : Shape := S1024x2048

/-! ## What one point leaves in the accumulator, and what the last of a block's points writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sz .bf16) (h5 : a5.IsWhole)
  (a6 : Memref sig .tc .vmem Sz .f32) (h6 : a6.IsWhole) (x : Vec F Sx .bf16) (y : Vec F Sy .bf16) (z : Vec F Sz .f32)

theorem sout_A (h0 : cond0_0 i) (h1 : ¬cond0_1 i) : sout0_A_0 c i a3 h3 a4 h4 a5 h5 a6 h6 h0 h1 x y = k0_pay2 (k0_pay1 (F := F)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := Sz) off2, View.readCov_unit_zero (S := Sz) _ off2]
  simp only [View.readAt_eq_ld, h3.read_unread, h4.read_unread, View.ld_unit_zero (S := Sx) off2, View.ld_unit_zero (S := Sy) off2]

theorem sout_B (h0 : ¬cond0_0 i) (h1 : ¬cond0_1 i) : sout0_B_0 c i a3 h3 a4 h4 a5 h5 a6 h6 h0 h1 x y z = k0_pay2 z x y := by
  unfold sout0_B_0
  rw [View.read_writes_eq_canon _ _ _ (scover0_B_0 c i a3 h3 a4 h4 a5 h5 a6 h6 h0 h1 x y z)]
  unfold kernelRun0_B
  dsimp only
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem sout_C (h0 : ¬cond0_0 i) (h1 : cond0_1 i) : sout0_C_0 c i a3 h3 a4 h4 a5 h5 a6 h6 h0 h1 x y z = k0_pay2 z x y := by
  unfold sout0_C_0
  rw [View.read_writes_eq_canon _ _ _ (scover0_C_0 c i a3 h3 a4 h4 a5 h5 a6 h6 h0 h1 x y z)]
  unfold kernelRun0_C
  dsimp only
  sl_unfold_words
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem out_C (h0 : ¬cond0_0 i) (h1 : cond0_1 i) : out0_C_2 c i a3 h3 a4 h4 a5 h5 a6 h6 h0 h1 x y z = k0_pay3 (k0_pay2 z x y) := by
  unfold out0_C_2
  rw [View.read_writes_eq_canon _ _ _ (cover0_C_2 c i a3 h3 a4 h4 a5 h5 a6 h6 h0 h1 x y z)]
  unfold kernelRun0_C
  dsimp only
  sl_unfold_words
  rw [View.canon_unit_zero (S := Sz) off2, View.readCov_unit_zero (S := Sz) _ off2]
  simp only [View.readAt_eq_ld, h3.read_unread, h4.read_unread, h6.read_unread, View.ld_unit_zero (S := Sx) off2, View.ld_unit_zero (S := Sy) off2, View.ld_unit_zero (S := Sz) off2]

end Point

theorem pay2_at (z : Vec Ideal Sz .f32) (x : Vec Ideal Sx .bf16) (y : Vec Ideal Sy .bf16) (r : Fin 1024) (s : Fin 2048) :
    k0_pay2 (F := Ideal) z x y (ix2 r s) = z (ix2 r s) + ∑ k : Fin 2048, x (ix2 k r) * y (ix2 k s) := by
  unfold k0_pay2
  rw [shapeCast_self, shapeCast_self, shapeCast_self]
  exact congrArg (z (ix2 r s) + ·) ((mm_tn (φ₁ := .bf16) (φ₂ := .bf16) dot_S2048x1024_S2048x2048_S1024x2048_0_0_1_1_n_n rfl rfl rfl rfl
    (fun _ _ => rfl) (fun _ _ => rfl) x y r s))

theorem pay1_at (i : Sz.Idx) : k0_pay1 (F := Ideal) i = 0 := by
  unfold k0_pay1
  rw [shapeCast_self]
  exact Ideal.ofBits_zero_f32

/-! ## The blocks -/

theorem index0 : ∀ t : Fin cfg0.N, win0_0.index t 0 = t.val % 4 ∧ win0_0.index t 1 = t.val / 4 / 1 % 2 := by decide +kernel
theorem index1 : ∀ t : Fin cfg0.N, win0_1.index t 0 = t.val % 4 ∧ win0_1.index t 1 = t.val / 4 % 1 := by decide +kernel
theorem index2 : ∀ t : Fin cfg0.N, win0_2.index t 0 = t.val / 4 / 1 % 2 ∧ win0_2.index t 1 = t.val / 4 % 1 := by decide +kernel

theorem hM : 2048 = 2 * 1024 ∧ 0 < 2 := by decide
theorem hN : 2048 = 1 * 2048 ∧ 0 < 1 := by decide
theorem hK : 8192 = 4 * 2048 ∧ 0 < 4 := by decide

/-- Point `p`'s rows and columns of the result, and its part of the contracted index. -/
abbrev row (p : ℕ) (r : Fin 1024) : Fin 2048 := place 2 hM (p / 4 / 1) r
abbrev col (p : ℕ) (s : Fin 2048) : Fin 2048 := place 1 hN (p / 4) s
abbrev mid (p : ℕ) (k : Fin 2048) : Fin 8192 := place 4 hK p k

variable (m : (ℓ : Loc nD τ sig) → Buf (Elt Ideal) ℓ) (c : Dev nD)

/-- The two arguments as the run is launched with them, the two factors of the sum, and the reference's result. -/
abbrev arg0 : FVec Ideal S8192x2048 .f32 := m ((c : Thread nD τ).loc main_arg0)
abbrev arg1 : FVec Ideal S8192x2048 .f32 := m ((c : Thread nD τ).loc main_arg1)
def A (i : Fin 2048) (k : Fin 8192) : EReal := arg0 m c (ix2 k i)
def B (j : Fin 2048) (k : Fin 8192) : EReal := arg1 m c (ix2 k j)
abbrev G : Buf (Elt Ideal) ((c : Thread nD τ).loc main_v3) := val_main_v4 (F := Ideal) (arg0 m c) (arg1 m c)

theorem V_x : V m c main_v1 = truncf (F := Ideal) .bf16 (arg0 m c) bitsLt_bf16_f32 := by
  unfold V
  after_results_simp <;> rfl
theorem V_y : V m c main_v2 = truncf (F := Ideal) .bf16 (arg1 m c) bitsLt_bf16_f32 := by
  unfold V
  after_results_simp <;> rfl

theorem x_at (t : Fin cfg0.N) (r : Fin 1024) (k : Fin 2048) : (iblk m c 0 t : Vec Ideal Sx .bf16) (ix2 k r) = A m c (row t.val r) (mid t.val k) := by
  unfold iblk
  rw [View.read_apply]
  refine Eq.trans (congrArg (V m c main_v1) (funext fun a => Fin.ext ?_)) (congrFun (V_x m c) (ix2 (mid t.val k) (row t.val r)))
  match a with
  | ⟨0, _⟩ => show win0_0.index t 0 * 2048 + 1 * k.val = 2048 * (t.val % 4) + k.val; rw [(index0 t).1]; omega
  | ⟨1, _⟩ => show win0_0.index t 1 * 1024 + 1 * r.val = 1024 * (t.val / 4 / 1 % 2) + r.val; rw [(index0 t).2]; omega

theorem y_at (t : Fin cfg0.N) (s : Fin 2048) (k : Fin 2048) : (iblk m c 1 t : Vec Ideal Sy .bf16) (ix2 k s) = B m c (col t.val s) (mid t.val k) := by
  unfold iblk
  rw [View.read_apply]
  refine Eq.trans (congrArg (V m c main_v2) (funext fun a => Fin.ext ?_)) (congrFun (V_y m c) (ix2 (mid t.val k) (col t.val s)))
  match a with
  | ⟨0, _⟩ => show win0_1.index t 0 * 2048 + 1 * k.val = 2048 * (t.val % 4) + k.val; rw [(index1 t).1]; omega
  | ⟨1, _⟩ => show win0_1.index t 1 * 2048 + 1 * s.val = 2048 * (t.val / 4 % 1) + s.val; rw [(index1 t).2]; omega

/-! ## The reference at an entry, the block after its last point, and the result array -/

theorem ref_at (i : Fin 2048) (j : Fin 2048) : val_main_v4 (F := Ideal) (arg0 m c) (arg1 m c) (ix2 i j) = ∑ k, A m c i k * B m c j k := by
  refine (val_main_v4_apply _ _ _).trans ?_
  show val_main_v3 (F := Ideal) (arg0 m c) (arg1 m c) (ix2 i j) = _
  rw [val_main_v3_apply, val_main_v2_apply]
  refine Finset.sum_congr rfl fun k _ => ?_
  have e0 : lidx_main_v2 (idx_main_v3 (ix2 i j)) k = ix2 k j := eq_ix2 _
  have e1 : ridx_main_v2 (idx_main_v3 (ix2 i j)) k = ix2 k i := eq_ix2 _
  rw [e0, e1]
  exact mul_comm _ _

theorem step (t : Fin cfg0.N) (z : Vec Ideal Sz .f32) (r : Fin 1024) (s : Fin 2048) :
    k0_pay2 (F := Ideal) z (iblk m c 0 t) (iblk m c 1 t) (ix2 r s) = z (ix2 r s) + partSum hM hN hK (A m c) (B m c) t.val r s := by
  rw [pay2_at]
  exact congrArg (z (ix2 r s) + ·) (Finset.sum_congr rfl fun k _ => congrArg₂ (fun u v : EReal => u * v) (x_at m c t r k) (y_at m c t s k))

theorem sc_at (p : ℕ) (h : p < cfg0.N) (z : Vec Ideal Sz .f32) (r : Fin 1024) (s : Fin 2048) :
    scAt0_0 m c p h z (ix2 r s) = (if p % 4 = 0 then 0 else z (ix2 r s)) + partSum hM hN hK (A m c) (B m c) p r s := by
  unfold scAt0_0
  by_cases h0 : p % 4 = 0
  · rw [dif_pos h0, if_pos h0, dif_neg (by omega), sout_A, step m c ⟨p, h⟩, pay1_at]
  · rw [dif_neg h0, if_neg h0]
    by_cases h1 : p % 4 = 3
    · rw [dif_pos h1, sout_C]; exact step m c ⟨p, h⟩ z r s
    · rw [dif_neg h1, sout_B]; exact step m c ⟨p, h⟩ z r s

/-- What the last of a block's points writes back is the reference's block. -/
theorem flushed_eq (t : Fin cfg0.N) (hf : (cfg0.win 2).flush t = true) :
    (dats m 0 c).flushed 2 t = ((cfg0.win 2).blk t).view.read (Elt Ideal) (G m c) := by
  have ht : t.val % 4 = 3 := (flush0_2 t).mp hf
  have h0 : ¬t.val % 4 = 0 := by omega
  have ho : (outsAt0 m c t.val t.isLt).1 = k0_pay3 (outsAt0 m c t.val t.isLt).2 := by
    rw [outsAt0_C m c t h0 ht]; dsimp only; rw [out_C, sout_C]
  rw [flushed2, ho, soutsAt0_0_eq]
  refine funext fun (y : Sz.Idx) => ?_
  obtain ⟨r, s, rfl⟩ : ∃ r s, y = ix2 r s := ⟨_, _, eq_ix2 y⟩
  refine (block_sum hM hN hK (A m c) (B m c) _ (scAt0_0 m c) (sc_at m c) t.val (by omega) _ r s).trans
    ((ref_at m c (row t.val r) (col t.val s)).symm.trans ?_)
  rw [View.read_apply]
  refine congrArg (G m c) (funext fun a => Fin.ext ?_)
  match a with
  | ⟨0, _⟩ => show 1024 * (t.val / 4 / 1 % 2) + r.val = win0_2.index t 0 * 1024 + 1 * r.val; rw [(index2 t).1]; omega
  | ⟨1, _⟩ => show 2048 * (t.val / 4 % 1) + s.val = win0_2.index t 1 * 2048 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.MixOutDwIdeal.Hand

end
-- ==== Proof.MixOutDxValue.lean ====
/- The hybrid block's merged value: its gradient `dy · wᵀ`. The kernel's array after the run is the reference's. -/
module

public import proofs.«01_k».proof.Proof.Prod
public import proofs.«01_k».proof.Proof.Gen.MixOutDxIdeal.Value
public import proofs.«01_k».proof.Proof.Gen.MixOutDxRefIdeal.Read

@[expose] public section

noncomputable section

namespace Cert.MixOutDxIdeal.Hand

open MixOutDxIdeal Gen Value Cert.Prod MixOutDxRefIdeal.Read
open Idealize.ShloMosaic TcCoe Tactic ValueIdx
open Idealize.SL Sem

/-- The blocks: of the left array, of the right array, and of the result. -/
abbrev Sx : Shape := S1024x2048
abbrev Sy : Shape := S1024x2048
abbrev Sz : Shape := S1024x1024

theorem pay1_at (x : Vec Ideal Sx .bf16) (y : Vec Ideal Sy .bf16) (r : Fin 1024) (s : Fin 1024) :
    k0_pay1 (F := Ideal) x y (ix2 r s) = ∑ k : Fin 2048, x (ix2 r k) * y (ix2 s k) := by
  unfold k0_pay1
  rw [shapeCast_self, shapeCast_self]
  exact (mm_nt (φ₁ := .bf16) (φ₂ := .bf16) dot_S1024x2048_S1024x2048_S1024x1024_1_1_0_0_n_n rfl rfl rfl rfl
    (fun _ _ => rfl) (fun _ _ => rfl) x y r s)

theorem out_at (x : Vec Ideal Sx .bf16) (y : Vec Ideal Sy .bf16) : out0_2 (F := Ideal) x y = k0_pay1 x y := by
  unfold out0_2
  rw [View.canon_unit_zero (S := Sz) off2, View.ld_unit_zero (S := Sx) off2, View.ld_unit_zero (S := Sy) off2]

/-! ## The blocks -/

theorem index0 : ∀ t : Fin cfg0.N, win0_0.index t 0 = t.val / 1 / 2 % 8 ∧ win0_0.index t 1 = t.val % 1 := by decide +kernel
theorem index1 : ∀ t : Fin cfg0.N, win0_1.index t 0 = t.val / 1 % 2 ∧ win0_1.index t 1 = t.val % 1 := by decide +kernel
theorem index2 : ∀ t : Fin cfg0.N, win0_2.index t 0 = t.val / 1 / 2 % 8 ∧ win0_2.index t 1 = t.val / 1 % 2 := by decide +kernel

theorem hM : 8192 = 8 * 1024 ∧ 0 < 8 := by decide
theorem hN : 2048 = 2 * 1024 ∧ 0 < 2 := by decide
theorem hK : 2048 = 1 * 2048 ∧ 0 < 1 := by decide

/-- Point `p`'s rows and columns of the result, and its part of the contracted index. -/
abbrev row (p : ℕ) (r : Fin 1024) : Fin 8192 := place 8 hM (p / 1 / 2) r
abbrev col (p : ℕ) (s : Fin 1024) : Fin 2048 := place 2 hN (p / 1) s
abbrev mid (p : ℕ) (k : Fin 2048) : Fin 2048 := place 1 hK p k

variable (m : (ℓ : Loc nD τ sig) → Buf (Elt Ideal) ℓ) (c : Dev nD)

/-- The two arguments as the run is launched with them, the two factors of the sum, and the reference's result. -/
abbrev arg0 : FVec Ideal S8192x2048 .f32 := m ((c : Thread nD τ).loc main_arg0)
abbrev arg1 : FVec Ideal S2048x2048 .f32 := m ((c : Thread nD τ).loc main_arg1)
def A (i : Fin 8192) (k : Fin 2048) : EReal := arg0 m c (ix2 i k)
def B (j : Fin 2048) (k : Fin 2048) : EReal := arg1 m c (ix2 j k)
abbrev G : Buf (Elt Ideal) ((c : Thread nD τ).loc main_v2) := val_main_v2 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1024) (k : Fin 2048) : (iblk m c 0 t : Vec Ideal Sx .bf16) (ix2 r k) = A m c (row t.val r) (mid t.val k) := by
  unfold iblk
  rw [View.read_apply]
  refine Eq.trans (congrArg (V m c main_v0) (funext fun a => Fin.ext ?_)) (congrFun (V_x m c) (ix2 (row t.val r) (mid t.val k)))
  match a with
  | ⟨0, _⟩ => show win0_0.index t 0 * 1024 + 1 * r.val = 1024 * (t.val / 1 / 2 % 8) + r.val; rw [(index0 t).1]; omega
  | ⟨1, _⟩ => show win0_0.index t 1 * 2048 + 1 * k.val = 2048 * (t.val % 1) + k.val; rw [(index0 t).2]; omega

theorem y_at (t : Fin cfg0.N) (s : Fin 1024) (k : Fin 2048) : (iblk m c 1 t : Vec Ideal Sy .bf16) (ix2 s k) = B m c (col t.val s) (mid t.val k) := by
  unfold iblk
  rw [View.read_apply]
  refine Eq.trans (congrArg (V m c main_v1) (funext fun a => Fin.ext ?_)) (congrFun (V_y m c) (ix2 (col t.val s) (mid t.val k)))
  match a with
  | ⟨0, _⟩ => show win0_1.index t 0 * 1024 + 1 * s.val = 1024 * (t.val / 1 % 2) + s.val; rw [(index1 t).1]; omega
  | ⟨1, _⟩ => show win0_1.index t 1 * 2048 + 1 * k.val = 2048 * (t.val % 1) + k.val; rw [(index1 t).2]; omega

/-! ## The reference at an entry, the block after its last point, and the result array -/

theorem ref_at (i : Fin 8192) (j : Fin 2048) : val_main_v2 (F := Ideal) (arg0 m c) (arg1 m c) (ix2 i j) = ∑ k, A m c i k * B m c j k := by
  rw [val_main_v2_apply]
  refine Finset.sum_congr rfl fun k _ => ?_
  have e0 : lidx_main_v2 (ix2 i j) k = ix2 i k := eq_ix2 _
  have e1 : ridx_main_v2 (ix2 i j) k = ix2 j k := eq_ix2 _
  rw [e0, e1]
  rfl

theorem flushed_eq (t : Fin cfg0.N) (hf : (cfg0.win 2).flush t = true) :
    (dats m 0 c).flushed 2 t = ((cfg0.win 2).blk t).view.read (Elt Ideal) (G m c) := by
  rw [flushed2, out_at]
  refine funext fun (y : Sz.Idx) => ?_
  obtain ⟨r, s, rfl⟩ : ∃ r s, y = ix2 r s := ⟨_, _, eq_ix2 y⟩
  refine (pay1_at _ _ r s).trans (Eq.trans (Finset.sum_congr rfl fun k _ => congrArg₂ (fun u v : EReal => u * v)
    ((x_at m c t r k).trans (congrArg (A m c (row t.val r)) (Fin.ext (by show 2048 * (t.val % 1) + k.val = k.val; omega))))
    ((y_at m c t s k).trans (congrArg (B m c (col t.val s)) (Fin.ext (by show 2048 * (t.val % 1) + k.val = k.val; omega)))))
    ((ref_at m c (row t.val r) (col t.val s)).symm.trans ?_))
  rw [View.read_apply]
  refine congrArg (G m c) (funext fun a => Fin.ext ?_)
  match a with
  | ⟨0, _⟩ => show 1024 * (t.val / 1 / 2 % 8) + r.val = win0_2.index t 0 * 1024 + 1 * r.val; rw [(index2 t).1]; omega
  | ⟨1, _⟩ => show 1024 * (t.val / 1 % 2) + s.val = win0_2.index t 1 * 1024 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.MixOutDxIdeal.Hand

end
-- ==== Proof.ProjDwValue.lean ====
/- A branch's output weight: its gradient `yᵀ · dp`. The kernel's array after the run is the reference's. -/
module

public import proofs.«01_k».proof.Proof.Prod
public import proofs.«01_k».proof.Proof.Gen.ProjDwIdeal.Value
public import proofs.«01_k».proof.Proof.Gen.ProjDwRefIdeal.Read

@[expose] public section

noncomputable section

namespace Cert.ProjDwIdeal.Hand

open ProjDwIdeal Gen Value Cert.Prod ProjDwRefIdeal.Read
open Idealize.ShloMosaic TcCoe Tactic ValueIdx
open Idealize.SL Sem

/-- The blocks: of the left array, of the right array, and of the result. -/
abbrev Sx : Shape := S2048x1024
abbrev Sy : Shape := S2048x2048
abbrev Sz : Shape := S1024x2048

/-! ## What one point leaves in the accumulator, and what the last of a block's points writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sz .bf16) (h5 : a5.IsWhole)
  (a6 : Memref sig .tc .vmem Sz .f32) (h6 : a6.IsWhole) (x : Vec F Sx .bf16) (y : Vec F Sy .bf16) (z : Vec F Sz .f32)

theorem sout_A (h0 : cond0_0 i) (h1 : ¬cond0_1 i) : sout0_A_0 c i a3 h3 a4 h4 a5 h5 a6 h6 h0 h1 x y = k0_pay2 (k0_pay1 (F := F)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := Sz) off2, View.readCov_unit_zero (S := Sz) _ off2]
  simp only [View.readAt_eq_ld, h3.read_unread, h4.read_unread, View.ld_unit_zero (S := Sx) off2, View.ld_unit_zero (S := Sy) off2]

theorem sout_B (h0 : ¬cond0_0 i) (h1 : ¬cond0_1 i) : sout0_B_0 c i a3 h3 a4 h4 a5 h5 a6 h6 h0 h1 x y z = k0_pay2 z x y := by
  unfold sout0_B_0
  rw [View.read_writes_eq_canon _ _ _ (scover0_B_0 c i a3 h3 a4 h4 a5 h5 a6 h6 h0 h1 x y z)]
  unfold kernelRun0_B
  dsimp only
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem sout_C (h0 : ¬cond0_0 i) (h1 : cond0_1 i) : sout0_C_0 c i a3 h3 a4 h4 a5 h5 a6 h6 h0 h1 x y z = k0_pay2 z x y := by
  unfold sout0_C_0
  rw [View.read_writes_eq_canon _ _ _ (scover0_C_0 c i a3 h3 a4 h4 a5 h5 a6 h6 h0 h1 x y z)]
  unfold kernelRun0_C
  dsimp only
  sl_unfold_words
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem out_C (h0 : ¬cond0_0 i) (h1 : cond0_1 i) : out0_C_2 c i a3 h3 a4 h4 a5 h5 a6 h6 h0 h1 x y z = k0_pay3 (k0_pay2 z x y) := by
  unfold out0_C_2
  rw [View.read_writes_eq_canon _ _ _ (cover0_C_2 c i a3 h3 a4 h4 a5 h5 a6 h6 h0 h1 x y z)]
  unfold kernelRun0_C
  dsimp only
  sl_unfold_words
  rw [View.canon_unit_zero (S := Sz) off2, View.readCov_unit_zero (S := Sz) _ off2]
  simp only [View.readAt_eq_ld, h3.read_unread, h4.read_unread, h6.read_unread, View.ld_unit_zero (S := Sx) off2, View.ld_unit_zero (S := Sy) off2, View.ld_unit_zero (S := Sz) off2]

end Point

theorem pay2_at (z : Vec Ideal Sz .f32) (x : Vec Ideal Sx .bf16) (y : Vec Ideal Sy .bf16) (r : Fin 1024) (s : Fin 2048) :
    k0_pay2 (F := Ideal) z x y (ix2 r s) = z (ix2 r s) + ∑ k : Fin 2048, x (ix2 k r) * y (ix2 k s) := by
  unfold k0_pay2
  rw [shapeCast_self, shapeCast_self, shapeCast_self]
  exact congrArg (z (ix2 r s) + ·) ((mm_tn (φ₁ := .bf16) (φ₂ := .bf16) dot_S2048x1024_S2048x2048_S1024x2048_0_0_1_1_n_n rfl rfl rfl rfl
    (fun _ _ => rfl) (fun _ _ => rfl) x y r s))

theorem pay1_at (i : Sz.Idx) : k0_pay1 (F := Ideal) i = 0 := by
  unfold k0_pay1
  rw [shapeCast_self]
  exact Ideal.ofBits_zero_f32

/-! ## The blocks -/

theorem index0 : ∀ t : Fin cfg0.N, win0_0.index t 0 = t.val % 4 ∧ win0_0.index t 1 = t.val / 4 / 1 % 1 := by decide +kernel
theorem index1 : ∀ t : Fin cfg0.N, win0_1.index t 0 = t.val % 4 ∧ win0_1.index t 1 = t.val / 4 % 1 := by decide +kernel
theorem index2 : ∀ t : Fin cfg0.N, win0_2.index t 0 = t.val / 4 / 1 % 1 ∧ win0_2.index t 1 = t.val / 4 % 1 := by decide +kernel

theorem hM : 1024 = 1 * 1024 ∧ 0 < 1 := by decide
theorem hN : 2048 = 1 * 2048 ∧ 0 < 1 := by decide
theorem hK : 8192 = 4 * 2048 ∧ 0 < 4 := by decide

/-- Point `p`'s rows and columns of the result, and its part of the contracted index. -/
abbrev row (p : ℕ) (r : Fin 1024) : Fin 1024 := place 1 hM (p / 4 / 1) r
abbrev col (p : ℕ) (s : Fin 2048) : Fin 2048 := place 1 hN (p / 4) s
abbrev mid (p : ℕ) (k : Fin 2048) : Fin 8192 := place 4 hK p k

variable (m : (ℓ : Loc nD τ sig) → Buf (Elt Ideal) ℓ) (c : Dev nD)

/-- The two arguments as the run is launched with them, the two factors of the sum, and the reference's result. -/
abbrev arg0 : FVec Ideal S8192x1024 .f32 := m ((c : Thread nD τ).loc main_arg0)
abbrev arg1 : FVec Ideal S8192x2048 .f32 := m ((c : Thread nD τ).loc main_arg1)
def A (i : Fin 1024) (k : Fin 8192) : EReal := arg0 m c (ix2 k i)
def B (j : Fin 2048) (k : Fin 8192) : EReal := arg1 m c (ix2 k j)
abbrev G : Buf (Elt Ideal) ((c : Thread nD τ).loc main_v2) := val_main_v4 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1024) (k : Fin 2048) : (iblk m c 0 t : Vec Ideal Sx .bf16) (ix2 k r) = A m c (row t.val r) (mid t.val k) := by
  unfold iblk
  rw [View.read_apply]
  refine Eq.trans (congrArg (V m c main_v0) (funext fun a => Fin.ext ?_)) (congrFun (V_x m c) (ix2 (mid t.val k) (row t.val r)))
  match a with
  | ⟨0, _⟩ => show win0_0.index t 0 * 2048 + 1 * k.val = 2048 * (t.val % 4) + k.val; rw [(index0 t).1]; omega
  | ⟨1, _⟩ => show win0_0.index t 1 * 1024 + 1 * r.val = 1024 * (t.val / 4 / 1 % 1) + r.val; rw [(index0 t).2]; omega

theorem y_at (t : Fin cfg0.N) (s : Fin 2048) (k : Fin 2048) : (iblk m c 1 t : Vec Ideal Sy .bf16) (ix2 k s) = B m c (col t.val s) (mid t.val k) := by
  unfold iblk
  rw [View.read_apply]
  refine Eq.trans (congrArg (V m c main_v1) (funext fun a => Fin.ext ?_)) (congrFun (V_y m c) (ix2 (mid t.val k) (col t.val s)))
  match a with
  | ⟨0, _⟩ => show win0_1.index t 0 * 2048 + 1 * k.val = 2048 * (t.val % 4) + k.val; rw [(index1 t).1]; omega
  | ⟨1, _⟩ => show win0_1.index t 1 * 2048 + 1 * s.val = 2048 * (t.val / 4 % 1) + s.val; rw [(index1 t).2]; omega

/-! ## The reference at an entry, the block after its last point, and the result array -/

theorem ref_at (i : Fin 1024) (j : Fin 2048) : val_main_v4 (F := Ideal) (arg0 m c) (arg1 m c) (ix2 i j) = ∑ k, A m c i k * B m c j k := by
  refine (val_main_v4_apply _ _ _).trans ?_
  show val_main_v3 (F := Ideal) (arg0 m c) (arg1 m c) (ix2 i j) = _
  rw [val_main_v3_apply, val_main_v2_apply]
  refine Finset.sum_congr rfl fun k _ => ?_
  have e0 : lidx_main_v2 (idx_main_v3 (ix2 i j)) k = ix2 k j := eq_ix2 _
  have e1 : ridx_main_v2 (idx_main_v3 (ix2 i j)) k = ix2 k i := eq_ix2 _
  rw [e0, e1]
  exact mul_comm _ _

theorem step (t : Fin cfg0.N) (z : Vec Ideal Sz .f32) (r : Fin 1024) (s : Fin 2048) :
    k0_pay2 (F := Ideal) z (iblk m c 0 t) (iblk m c 1 t) (ix2 r s) = z (ix2 r s) + partSum hM hN hK (A m c) (B m c) t.val r s := by
  rw [pay2_at]
  exact congrArg (z (ix2 r s) + ·) (Finset.sum_congr rfl fun k _ => congrArg₂ (fun u v : EReal => u * v) (x_at m c t r k) (y_at m c t s k))

theorem sc_at (p : ℕ) (h : p < cfg0.N) (z : Vec Ideal Sz .f32) (r : Fin 1024) (s : Fin 2048) :
    scAt0_0 m c p h z (ix2 r s) = (if p % 4 = 0 then 0 else z (ix2 r s)) + partSum hM hN hK (A m c) (B m c) p r s := by
  unfold scAt0_0
  by_cases h0 : p % 4 = 0
  · rw [dif_pos h0, if_pos h0, dif_neg (by omega), sout_A, step m c ⟨p, h⟩, pay1_at]
  · rw [dif_neg h0, if_neg h0]
    by_cases h1 : p % 4 = 3
    · rw [dif_pos h1, sout_C]; exact step m c ⟨p, h⟩ z r s
    · rw [dif_neg h1, sout_B]; exact step m c ⟨p, h⟩ z r s

/-- What the last of a block's points writes back is the reference's block. -/
theorem flushed_eq (t : Fin cfg0.N) (hf : (cfg0.win 2).flush t = true) :
    (dats m 0 c).flushed 2 t = ((cfg0.win 2).blk t).view.read (Elt Ideal) (G m c) := by
  have ht : t.val % 4 = 3 := (flush0_2 t).mp hf
  have h0 : ¬t.val % 4 = 0 := by omega
  have ho : (outsAt0 m c t.val t.isLt).1 = k0_pay3 (outsAt0 m c t.val t.isLt).2 := by
    rw [outsAt0_C m c t h0 ht]; dsimp only; rw [out_C, sout_C]
  rw [flushed2, ho, soutsAt0_0_eq]
  refine funext fun (y : Sz.Idx) => ?_
  obtain ⟨r, s, rfl⟩ : ∃ r s, y = ix2 r s := ⟨_, _, eq_ix2 y⟩
  refine (block_sum hM hN hK (A m c) (B m c) _ (scAt0_0 m c) (sc_at m c) t.val (by omega) _ r s).trans
    ((ref_at m c (row t.val r) (col t.val s)).symm.trans ?_)
  rw [View.read_apply]
  refine congrArg (G m c) (funext fun a => Fin.ext ?_)
  match a with
  | ⟨0, _⟩ => show 1024 * (t.val / 4 / 1 % 1) + r.val = win0_2.index t 0 * 1024 + 1 * r.val; rw [(index2 t).1]; omega
  | ⟨1, _⟩ => show 2048 * (t.val / 4 % 1) + s.val = win0_2.index t 1 * 2048 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.ProjDwIdeal.Hand

end
-- ==== Proof.ProjAttnDxValue.lean ====
/- The attention branch's value: its gradient `dp · wᵀ`. The kernel's array after the run is the reference's. -/
module

public import proofs.«01_k».proof.Proof.Prod
public import proofs.«01_k».proof.Proof.Gen.ProjAttnDxIdeal.Value
public import proofs.«01_k».proof.Proof.Gen.ProjAttnDxRefIdeal.Read

@[expose] public section

noncomputable section

namespace Cert.ProjAttnDxIdeal.Hand

open ProjAttnDxIdeal Gen Value Cert.Prod ProjAttnDxRefIdeal.Read
open Idealize.ShloMosaic TcCoe Tactic ValueIdx
open Idealize.SL Sem

/-- The blocks: of the left array, of the right array, and of the result. -/
abbrev Sx : Shape := S1024x2048
abbrev Sy : Shape := S1024x2048
abbrev Sz : Shape := S1024x1024

theorem pay1_at (x : Vec Ideal Sx .bf16) (y : Vec Ideal Sy .bf16) (r : Fin 1024) (s : Fin 1024) :
    k0_pay1 (F := Ideal) x y (ix2 r s) = ∑ k : Fin 2048, x (ix2 r k) * y (ix2 s k) := by
  unfold k0_pay1
  rw [shapeCast_self, shapeCast_self]
  exact (mm_nt (φ₁ := .bf16) (φ₂ := .bf16) dot_S1024x2048_S1024x2048_S1024x1024_1_1_0_0_n_n rfl rfl rfl rfl
    (fun _ _ => rfl) (fun _ _ => rfl) x y r s)

theorem out_at (x : Vec Ideal Sx .bf16) (y : Vec Ideal Sy .bf16) : out0_2 (F := Ideal) x y = k0_pay1 x y := by
  unfold out0_2
  rw [View.canon_unit_zero (S := Sz) off2, View.ld_unit_zero (S := Sx) off2, View.ld_unit_zero (S := Sy) off2]

/-! ## The blocks -/

theorem index0 : ∀ t : Fin cfg0.N, win0_0.index t 0 = t.val / 1 / 1 % 8 ∧ win0_0.index t 1 = t.val % 1 := by decide +kernel
theorem index1 : ∀ t : Fin cfg0.N, win0_1.index t 0 = t.val / 1 % 1 ∧ win0_1.index t 1 = t.val % 1 := by decide +kernel
theorem index2 : ∀ t : Fin cfg0.N, win0_2.index t 0 = t.val / 1 / 1 % 8 ∧ win0_2.index t 1 = t.val / 1 % 1 := by decide +kernel

theorem hM : 8192 = 8 * 1024 ∧ 0 < 8 := by decide
theorem hN : 1024 = 1 * 1024 ∧ 0 < 1 := by decide
theorem hK : 2048 = 1 * 2048 ∧ 0 < 1 := by decide

/-- Point `p`'s rows and columns of the result, and its part of the contracted index. -/
abbrev row (p : ℕ) (r : Fin 1024) : Fin 8192 := place 8 hM (p / 1 / 1) r
abbrev col (p : ℕ) (s : Fin 1024) : Fin 1024 := place 1 hN (p / 1) s
abbrev mid (p : ℕ) (k : Fin 2048) : Fin 2048 := place 1 hK p k

variable (m : (ℓ : Loc nD τ sig) → Buf (Elt Ideal) ℓ) (c : Dev nD)

/-- The two arguments as the run is launched with them, the two factors of the sum, and the reference's result. -/
abbrev arg0 : FVec Ideal S8192x2048 .f32 := m ((c : Thread nD τ).loc main_arg0)
abbrev arg1 : FVec Ideal S1024x2048 .f32 := m ((c : Thread nD τ).loc main_arg1)
def A (i : Fin 8192) (k : Fin 2048) : EReal := arg0 m c (ix2 i k)
def B (j : Fin 1024) (k : Fin 2048) : EReal := arg1 m c (ix2 j k)
abbrev G : Buf (Elt Ideal) ((c : Thread nD τ).loc main_v2) := val_main_v3 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1024) (k : Fin 2048) : (iblk m c 0 t : Vec Ideal Sx .bf16) (ix2 r k) = A m c (row t.val r) (mid t.val k) := by
  unfold iblk
  rw [View.read_apply]
  refine Eq.trans (congrArg (V m c main_v0) (funext fun a => Fin.ext ?_)) (congrFun (V_x m c) (ix2 (row t.val r) (mid t.val k)))
  match a with
  | ⟨0, _⟩ => show win0_0.index t 0 * 1024 + 1 * r.val = 1024 * (t.val / 1 / 1 % 8) + r.val; rw [(index0 t).1]; omega
  | ⟨1, _⟩ => show win0_0.index t 1 * 2048 + 1 * k.val = 2048 * (t.val % 1) + k.val; rw [(index0 t).2]; omega

theorem y_at (t : Fin cfg0.N) (s : Fin 1024) (k : Fin 2048) : (iblk m c 1 t : Vec Ideal Sy .bf16) (ix2 s k) = B m c (col t.val s) (mid t.val k) := by
  unfold iblk
  rw [View.read_apply]
  refine Eq.trans (congrArg (V m c main_v1) (funext fun a => Fin.ext ?_)) (congrFun (V_y m c) (ix2 (col t.val s) (mid t.val k)))
  match a with
  | ⟨0, _⟩ => show win0_1.index t 0 * 1024 + 1 * s.val = 1024 * (t.val / 1 % 1) + s.val; rw [(index1 t).1]; omega
  | ⟨1, _⟩ => show win0_1.index t 1 * 2048 + 1 * k.val = 2048 * (t.val % 1) + k.val; rw [(index1 t).2]; omega

/-! ## The reference at an entry, the block after its last point, and the result array -/

theorem ref_at (i : Fin 8192) (j : Fin 1024) : val_main_v3 (F := Ideal) (arg0 m c) (arg1 m c) (ix2 i j) = ∑ k, A m c i k * B m c j k := by
  refine (val_main_v3_apply _ _ _).trans ?_
  show val_main_v2 (F := Ideal) (arg0 m c) (arg1 m c) (ix2 i j) = _
  rw [val_main_v2_apply]
  refine Finset.sum_congr rfl fun k _ => ?_
  have e0 : lidx_main_v2 (ix2 i j) k = ix2 i k := eq_ix2 _
  have e1 : ridx_main_v2 (ix2 i j) k = ix2 j k := eq_ix2 _
  rw [e0, e1]
  rfl

theorem flushed_eq (t : Fin cfg0.N) (hf : (cfg0.win 2).flush t = true) :
    (dats m 0 c).flushed 2 t = ((cfg0.win 2).blk t).view.read (Elt Ideal) (G m c) := by
  rw [flushed2, out_at]
  refine funext fun (y : Sz.Idx) => ?_
  obtain ⟨r, s, rfl⟩ : ∃ r s, y = ix2 r s := ⟨_, _, eq_ix2 y⟩
  refine (pay1_at _ _ r s).trans (Eq.trans (Finset.sum_congr rfl fun k _ => congrArg₂ (fun u v : EReal => u * v)
    ((x_at m c t r k).trans (congrArg (A m c (row t.val r)) (Fin.ext (by show 2048 * (t.val % 1) + k.val = k.val; omega))))
    ((y_at m c t s k).trans (congrArg (B m c (col t.val s)) (Fin.ext (by show 2048 * (t.val % 1) + k.val = k.val; omega)))))
    ((ref_at m c (row t.val r) (col t.val s)).symm.trans ?_))
  rw [View.read_apply]
  refine congrArg (G m c) (funext fun a => Fin.ext ?_)
  match a with
  | ⟨0, _⟩ => show 1024 * (t.val / 1 / 1 % 8) + r.val = win0_2.index t 0 * 1024 + 1 * r.val; rw [(index2 t).1]; omega
  | ⟨1, _⟩ => show 1024 * (t.val / 1 % 1) + s.val = win0_2.index t 1 * 1024 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.ProjAttnDxIdeal.Hand

end
-- ==== Proof.ProjRetDxValue.lean ====
/- The retention branch's value: its gradient `dp · wᵀ`. The kernel's array after the run is the reference's. -/
module

public import proofs.«01_k».proof.Proof.Prod
public import proofs.«01_k».proof.Proof.Gen.ProjRetDxIdeal.Value
public import proofs.«01_k».proof.Proof.Gen.ProjRetDxRefIdeal.Read

@[expose] public section

noncomputable section

namespace Cert.ProjRetDxIdeal.Hand

open ProjRetDxIdeal Gen Value Cert.Prod ProjRetDxRefIdeal.Read
open Idealize.ShloMosaic TcCoe Tactic ValueIdx
open Idealize.SL Sem

/-- The blocks: of the left array, of the right array, and of the result. -/
abbrev Sx : Shape := S1024x2048
abbrev Sy : Shape := S1024x2048
abbrev Sz : Shape := S1024x1024

theorem pay1_at (x : Vec Ideal Sx .bf16) (y : Vec Ideal Sy .bf16) (r : Fin 1024) (s : Fin 1024) :
    k0_pay1 (F := Ideal) x y (ix2 r s) = ∑ k : Fin 2048, x (ix2 r k) * y (ix2 s k) := by
  unfold k0_pay1
  rw [shapeCast_self, shapeCast_self]
  exact (mm_nt (φ₁ := .bf16) (φ₂ := .bf16) dot_S1024x2048_S1024x2048_S1024x1024_1_1_0_0_n_n rfl rfl rfl rfl
    (fun _ _ => rfl) (fun _ _ => rfl) x y r s)

theorem out_at (x : Vec Ideal Sx .bf16) (y : Vec Ideal Sy .bf16) : out0_2 (F := Ideal) x y = k0_pay1 x y := by
  unfold out0_2
  rw [View.canon_unit_zero (S := Sz) off2, View.ld_unit_zero (S := Sx) off2, View.ld_unit_zero (S := Sy) off2]

/-! ## The blocks -/

theorem index0 : ∀ t : Fin cfg0.N, win0_0.index t 0 = t.val / 1 / 1 % 8 ∧ win0_0.index t 1 = t.val % 1 := by decide +kernel
theorem index1 : ∀ t : Fin cfg0.N, win0_1.index t 0 = t.val / 1 % 1 ∧ win0_1.index t 1 = t.val % 1 := by decide +kernel
theorem index2 : ∀ t : Fin cfg0.N, win0_2.index t 0 = t.val / 1 / 1 % 8 ∧ win0_2.index t 1 = t.val / 1 % 1 := by decide +kernel

theorem hM : 8192 = 8 * 1024 ∧ 0 < 8 := by decide
theorem hN : 1024 = 1 * 1024 ∧ 0 < 1 := by decide
theorem hK : 2048 = 1 * 2048 ∧ 0 < 1 := by decide

/-- Point `p`'s rows and columns of the result, and its part of the contracted index. -/
abbrev row (p : ℕ) (r : Fin 1024) : Fin 8192 := place 8 hM (p / 1 / 1) r
abbrev col (p : ℕ) (s : Fin 1024) : Fin 1024 := place 1 hN (p / 1) s
abbrev mid (p : ℕ) (k : Fin 2048) : Fin 2048 := place 1 hK p k

variable (m : (ℓ : Loc nD τ sig) → Buf (Elt Ideal) ℓ) (c : Dev nD)

/-- The two arguments as the run is launched with them, the two factors of the sum, and the reference's result. -/
abbrev arg0 : FVec Ideal S8192x2048 .f32 := m ((c : Thread nD τ).loc main_arg0)
abbrev arg1 : FVec Ideal S1024x2048 .f32 := m ((c : Thread nD τ).loc main_arg1)
def A (i : Fin 8192) (k : Fin 2048) : EReal := arg0 m c (ix2 i k)
def B (j : Fin 1024) (k : Fin 2048) : EReal := arg1 m c (ix2 j k)
abbrev G : Buf (Elt Ideal) ((c : Thread nD τ).loc main_v2) := val_main_v2 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1024) (k : Fin 2048) : (iblk m c 0 t : Vec Ideal Sx .bf16) (ix2 r k) = A m c (row t.val r) (mid t.val k) := by
  unfold iblk
  rw [View.read_apply]
  refine Eq.trans (congrArg (V m c main_v0) (funext fun a => Fin.ext ?_)) (congrFun (V_x m c) (ix2 (row t.val r) (mid t.val k)))
  match a with
  | ⟨0, _⟩ => show win0_0.index t 0 * 1024 + 1 * r.val = 1024 * (t.val / 1 / 1 % 8) + r.val; rw [(index0 t).1]; omega
  | ⟨1, _⟩ => show win0_0.index t 1 * 2048 + 1 * k.val = 2048 * (t.val % 1) + k.val; rw [(index0 t).2]; omega

theorem y_at (t : Fin cfg0.N) (s : Fin 1024) (k : Fin 2048) : (iblk m c 1 t : Vec Ideal Sy .bf16) (ix2 s k) = B m c (col t.val s) (mid t.val k) := by
  unfold iblk
  rw [View.read_apply]
  refine Eq.trans (congrArg (V m c main_v1) (funext fun a => Fin.ext ?_)) (congrFun (V_y m c) (ix2 (col t.val s) (mid t.val k)))
  match a with
  | ⟨0, _⟩ => show win0_1.index t 0 * 1024 + 1 * s.val = 1024 * (t.val / 1 % 1) + s.val; rw [(index1 t).1]; omega
  | ⟨1, _⟩ => show win0_1.index t 1 * 2048 + 1 * k.val = 2048 * (t.val % 1) + k.val; rw [(index1 t).2]; omega

/-! ## The reference at an entry, the block after its last point, and the result array -/

theorem ref_at (i : Fin 8192) (j : Fin 1024) : val_main_v2 (F := Ideal) (arg0 m c) (arg1 m c) (ix2 i j) = ∑ k, A m c i k * B m c j k := by
  rw [val_main_v2_apply]
  refine Finset.sum_congr rfl fun k _ => ?_
  have e0 : lidx_main_v2 (ix2 i j) k = ix2 i k := eq_ix2 _
  have e1 : ridx_main_v2 (ix2 i j) k = ix2 j k := eq_ix2 _
  rw [e0, e1]
  rfl

theorem flushed_eq (t : Fin cfg0.N) (hf : (cfg0.win 2).flush t = true) :
    (dats m 0 c).flushed 2 t = ((cfg0.win 2).blk t).view.read (Elt Ideal) (G m c) := by
  rw [flushed2, out_at]
  refine funext fun (y : Sz.Idx) => ?_
  obtain ⟨r, s, rfl⟩ : ∃ r s, y = ix2 r s := ⟨_, _, eq_ix2 y⟩
  refine (pay1_at _ _ r s).trans (Eq.trans (Finset.sum_congr rfl fun k _ => congrArg₂ (fun u v : EReal => u * v)
    ((x_at m c t r k).trans (congrArg (A m c (row t.val r)) (Fin.ext (by show 2048 * (t.val % 1) + k.val = k.val; omega))))
    ((y_at m c t s k).trans (congrArg (B m c (col t.val s)) (Fin.ext (by show 2048 * (t.val % 1) + k.val = k.val; omega)))))
    ((ref_at m c (row t.val r) (col t.val s)).symm.trans ?_))
  rw [View.read_apply]
  refine congrArg (G m c) (funext fun a => Fin.ext ?_)
  match a with
  | ⟨0, _⟩ => show 1024 * (t.val / 1 / 1 % 8) + r.val = win0_2.index t 0 * 1024 + 1 * r.val; rw [(index2 t).1]; omega
  | ⟨1, _⟩ => show 1024 * (t.val / 1 % 1) + s.val = win0_2.index t 1 * 1024 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.ProjRetDxIdeal.Hand

end
-- ==== Proof.Ffn2OutValue.lean ====
/- The second feed-forward block's output `h · w`. The kernel's array after the run is the reference's. -/
module

public import proofs.«01_k».proof.Proof.Prod
public import proofs.«01_k».proof.Proof.Gen.Ffn2OutIdeal.Value
public import proofs.«01_k».proof.Proof.Gen.Ffn2OutRefIdeal.Read

@[expose] public section

noncomputable section

namespace Cert.Ffn2OutIdeal.Hand

open Ffn2OutIdeal Gen Value Cert.Prod Ffn2OutRefIdeal.Read
open Idealize.ShloMosaic TcCoe Tactic ValueIdx
open Idealize.SL Sem

/-- The blocks: of the left array, of the right array, and of the result. -/
abbrev Sx : Shape := S1024x2816
abbrev Sy : Shape := S2816x1024
abbrev Sz : Shape := S1024x1024

/-! ## What one point leaves in the accumulator, and what the last of a block's points writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sz .bf16) (h5 : a5.IsWhole)
  (a6 : Memref sig .tc .vmem Sz .f32) (h6 : a6.IsWhole) (x : Vec F Sx .bf16) (y : Vec F Sy .bf16) (z : Vec F Sz .f32)

theorem sout_A (h0 : cond0_0 i) (h1 : ¬cond0_1 i) : sout0_A_0 c i a3 h3 a4 h4 a5 h5 a6 h6 h0 h1 x y = k0_pay2 (k0_pay1 (F := F)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := Sz) off2, View.readCov_unit_zero (S := Sz) _ off2]
  simp only [View.readAt_eq_ld, h3.read_unread, h4.read_unread, View.ld_unit_zero (S := Sx) off2, View.ld_unit_zero (S := Sy) off2]

theorem sout_B (h0 : ¬cond0_0 i) (h1 : cond0_1 i) : sout0_B_0 c i a3 h3 a4 h4 a5 h5 a6 h6 h0 h1 x y z = k0_pay2 z x y := by
  unfold sout0_B_0
  rw [View.read_writes_eq_canon _ _ _ (scover0_B_0 c i a3 h3 a4 h4 a5 h5 a6 h6 h0 h1 x y z)]
  unfold kernelRun0_B
  dsimp only
  sl_unfold_words
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem out_B (h0 : ¬cond0_0 i) (h1 : cond0_1 i) : out0_B_2 c i a3 h3 a4 h4 a5 h5 a6 h6 h0 h1 x y z = k0_pay3 (k0_pay2 z x y) := by
  unfold out0_B_2
  rw [View.read_writes_eq_canon _ _ _ (cover0_B_2 c i a3 h3 a4 h4 a5 h5 a6 h6 h0 h1 x y z)]
  unfold kernelRun0_B
  dsimp only
  sl_unfold_words
  rw [View.canon_unit_zero (S := Sz) off2, View.readCov_unit_zero (S := Sz) _ off2]
  simp only [View.readAt_eq_ld, h3.read_unread, h4.read_unread, h6.read_unread, View.ld_unit_zero (S := Sx) off2, View.ld_unit_zero (S := Sy) off2, View.ld_unit_zero (S := Sz) off2]

end Point

theorem pay2_at (z : Vec Ideal Sz .f32) (x : Vec Ideal Sx .bf16) (y : Vec Ideal Sy .bf16) (r : Fin 1024) (s : Fin 1024) :
    k0_pay2 (F := Ideal) z x y (ix2 r s) = z (ix2 r s) + ∑ k : Fin 2816, x (ix2 r k) * y (ix2 k s) := by
  unfold k0_pay2
  rw [shapeCast_self, shapeCast_self, shapeCast_self]
  exact congrArg (z (ix2 r s) + ·) ((mm_nn (φ₁ := .bf16) (φ₂ := .bf16) dot_S1024x2816_S2816x1024_S1024x1024_1_0_0_1_n_n rfl rfl rfl rfl
    (fun _ _ => rfl) (fun _ _ => rfl) x y r s))

theorem pay1_at (i : Sz.Idx) : k0_pay1 (F := Ideal) i = 0 := by
  unfold k0_pay1
  rw [shapeCast_self]
  exact Ideal.ofBits_zero_f32

/-! ## The blocks -/

theorem index0 : ∀ t : Fin cfg0.N, win0_0.index t 0 = t.val / 2 / 2 % 8 ∧ win0_0.index t 1 = t.val % 2 := by decide +kernel
theorem index1 : ∀ t : Fin cfg0.N, win0_1.index t 0 = t.val % 2 ∧ win0_1.index t 1 = t.val / 2 % 2 := by decide +kernel
theorem index2 : ∀ t : Fin cfg0.N, win0_2.index t 0 = t.val / 2 / 2 % 8 ∧ win0_2.index t 1 = t.val / 2 % 2 := by decide +kernel

theorem hM : 8192 = 8 * 1024 ∧ 0 < 8 := by decide
theorem hN : 2048 = 2 * 1024 ∧ 0 < 2 := by decide
theorem hK : 5632 = 2 * 2816 ∧ 0 < 2 := by decide

/-- Point `p`'s rows and columns of the result, and its part of the contracted index. -/
abbrev row (p : ℕ) (r : Fin 1024) : Fin 8192 := place 8 hM (p / 2 / 2) r
abbrev col (p : ℕ) (s : Fin 1024) : Fin 2048 := place 2 hN (p / 2) s
abbrev mid (p : ℕ) (k : Fin 2816) : Fin 5632 := place 2 hK p k

variable (m : (ℓ : Loc nD τ sig) → Buf (Elt Ideal) ℓ) (c : Dev nD)

/-- The two arguments as the run is launched with them, the two factors of the sum, and the reference's result. -/
abbrev arg0 : FVec Ideal S8192x5632 .f32 := m ((c : Thread nD τ).loc main_arg0)
abbrev arg1 : FVec Ideal S5632x2048 .f32 := m ((c : Thread nD τ).loc main_arg1)
def A (i : Fin 8192) (k : Fin 5632) : EReal := arg0 m c (ix2 i k)
def B (j : Fin 2048) (k : Fin 5632) : EReal := arg1 m c (ix2 k j)
abbrev G : Buf (Elt Ideal) ((c : Thread nD τ).loc main_v2) := val_main_v1 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1024) (k : Fin 2816) : (iblk m c 0 t : Vec Ideal Sx .bf16) (ix2 r k) = A m c (row t.val r) (mid t.val k) := by
  unfold iblk
  rw [View.read_apply]
  refine Eq.trans (congrArg (V m c main_v0) (funext fun a => Fin.ext ?_)) (congrFun (V_x m c) (ix2 (row t.val r) (mid t.val k)))
  match a with
  | ⟨0, _⟩ => show win0_0.index t 0 * 1024 + 1 * r.val = 1024 * (t.val / 2 / 2 % 8) + r.val; rw [(index0 t).1]; omega
  | ⟨1, _⟩ => show win0_0.index t 1 * 2816 + 1 * k.val = 2816 * (t.val % 2) + k.val; rw [(index0 t).2]; omega

theorem y_at (t : Fin cfg0.N) (s : Fin 1024) (k : Fin 2816) : (iblk m c 1 t : Vec Ideal Sy .bf16) (ix2 k s) = B m c (col t.val s) (mid t.val k) := by
  unfold iblk
  rw [View.read_apply]
  refine Eq.trans (congrArg (V m c main_v1) (funext fun a => Fin.ext ?_)) (congrFun (V_y m c) (ix2 (mid t.val k) (col t.val s)))
  match a with
  | ⟨0, _⟩ => show win0_1.index t 0 * 2816 + 1 * k.val = 2816 * (t.val % 2) + k.val; rw [(index1 t).1]; omega
  | ⟨1, _⟩ => show win0_1.index t 1 * 1024 + 1 * s.val = 1024 * (t.val / 2 % 2) + s.val; rw [(index1 t).2]; omega

/-! ## The reference at an entry, the block after its last point, and the result array -/

theorem ref_at (i : Fin 8192) (j : Fin 2048) : val_main_v1 (F := Ideal) (arg0 m c) (arg1 m c) (ix2 i j) = ∑ k, A m c i k * B m c j k := by
  refine (val_main_v1_apply _ _ _).trans ?_
  show val_main_v0 (F := Ideal) (arg0 m c) (arg1 m c) (ix2 i j) = _
  rw [val_main_v0_apply]
  refine Finset.sum_congr rfl fun k _ => ?_
  have e0 : lidx_main_v0 (ix2 i j) k = ix2 i k := eq_ix2 _
  have e1 : ridx_main_v0 (ix2 i j) k = ix2 k j := eq_ix2 _
  rw [e0, e1]
  rfl

theorem step (t : Fin cfg0.N) (z : Vec Ideal Sz .f32) (r : Fin 1024) (s : Fin 1024) :
    k0_pay2 (F := Ideal) z (iblk m c 0 t) (iblk m c 1 t) (ix2 r s) = z (ix2 r s) + partSum hM hN hK (A m c) (B m c) t.val r s := by
  rw [pay2_at]
  exact congrArg (z (ix2 r s) + ·) (Finset.sum_congr rfl fun k _ => congrArg₂ (fun u v : EReal => u * v) (x_at m c t r k) (y_at m c t s k))

theorem sc_at (p : ℕ) (h : p < cfg0.N) (z : Vec Ideal Sz .f32) (r : Fin 1024) (s : Fin 1024) :
    scAt0_0 m c p h z (ix2 r s) = (if p % 2 = 0 then 0 else z (ix2 r s)) + partSum hM hN hK (A m c) (B m c) p r s := by
  unfold scAt0_0
  by_cases h0 : p % 2 = 0
  · rw [dif_pos h0, if_pos h0, dif_neg (by omega), sout_A, step m c ⟨p, h⟩, pay1_at]
  · rw [dif_neg h0, if_neg h0]
    by_cases h1 : p % 2 = 1
    · rw [dif_pos h1, sout_B]; exact step m c ⟨p, h⟩ z r s
    · omega

/-- What the last of a block's points writes back is the reference's block. -/
theorem flushed_eq (t : Fin cfg0.N) (hf : (cfg0.win 2).flush t = true) :
    (dats m 0 c).flushed 2 t = ((cfg0.win 2).blk t).view.read (Elt Ideal) (G m c) := by
  have ht : t.val % 2 = 1 := (flush0_2 t).mp hf
  have h0 : ¬t.val % 2 = 0 := by omega
  have ho : (outsAt0 m c t.val t.isLt).1 = k0_pay3 (outsAt0 m c t.val t.isLt).2 := by
    rw [outsAt0_B m c t h0 ht]; dsimp only; rw [out_B, sout_B]
  rw [flushed2, ho, soutsAt0_0_eq]
  refine funext fun (y : Sz.Idx) => ?_
  obtain ⟨r, s, rfl⟩ : ∃ r s, y = ix2 r s := ⟨_, _, eq_ix2 y⟩
  refine (block_sum hM hN hK (A m c) (B m c) _ (scAt0_0 m c) (sc_at m c) t.val (by omega) _ r s).trans
    ((ref_at m c (row t.val r) (col t.val s)).symm.trans ?_)
  rw [View.read_apply]
  refine congrArg (G m c) (funext fun a => Fin.ext ?_)
  match a with
  | ⟨0, _⟩ => show 1024 * (t.val / 2 / 2 % 8) + r.val = win0_2.index t 0 * 1024 + 1 * r.val; rw [(index2 t).1]; omega
  | ⟨1, _⟩ => show 1024 * (t.val / 2 % 2) + s.val = win0_2.index t 1 * 1024 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.Ffn2OutIdeal.Hand

end
-- ==== Proof.Ffn1OutValue.lean ====
/- The first feed-forward block's output `h · w`. The kernel's array after the run is the reference's. -/
module

public import proofs.«01_k».proof.Proof.Prod
public import proofs.«01_k».proof.Proof.Gen.Ffn1OutIdeal.Value
public import proofs.«01_k».proof.Proof.Gen.Ffn1OutRefIdeal.Read

@[expose] public section

noncomputable section

namespace Cert.Ffn1OutIdeal.Hand

open Ffn1OutIdeal Gen Value Cert.Prod Ffn1OutRefIdeal.Read
open Idealize.ShloMosaic TcCoe Tactic ValueIdx
open Idealize.SL Sem

/-- The blocks: of the left array, of the right array, and of the result. -/
abbrev Sx : Shape := S768x2816
abbrev Sy : Shape := S2816x2048
abbrev Sz : Shape := S768x2048

/-! ## What one point leaves in the accumulator, and what the last of a block's points writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sz .bf16) (h5 : a5.IsWhole)
  (a6 : Memref sig .tc .vmem Sz .f32) (h6 : a6.IsWhole) (x : Vec F Sx .bf16) (y : Vec F Sy .bf16) (z : Vec F Sz .f32)

theorem sout_A (h0 : cond0_0 i) (h1 : ¬cond0_1 i) : sout0_A_0 c i a3 h3 a4 h4 a5 h5 a6 h6 h0 h1 x y = k0_pay2 (k0_pay1 (F := F)) x y := by
  unfold sout0_A_0
  rw [View.read_writes_eq_canon _ _ _ (scover0_A_0 c i a3 h3 a4 h4 a5 h5 a6 h6 h0 h1 x y)]
  unfold kernelRun0_A
  dsimp only
  sl_unfold_words
  rw [View.canon_cons_unit_zero (S := Sz) off2, View.readCov_unit_zero (S := Sz) _ off2]
  simp only [View.readAt_eq_ld, h3.read_unread, h4.read_unread, View.ld_unit_zero (S := Sx) off2, View.ld_unit_zero (S := Sy) off2]

theorem sout_B (h0 : ¬cond0_0 i) (h1 : cond0_1 i) : sout0_B_0 c i a3 h3 a4 h4 a5 h5 a6 h6 h0 h1 x y z = k0_pay2 z x y := by
  unfold sout0_B_0
  rw [View.read_writes_eq_canon _ _ _ (scover0_B_0 c i a3 h3 a4 h4 a5 h5 a6 h6 h0 h1 x y z)]
  unfold kernelRun0_B
  dsimp only
  sl_unfold_words
  rw [View.canon_unit_zero (S := Sz) off2]
  simp only [View.readAt_eq_ld, h3.read_unread, h4.read_unread, h6.read_unread, View.ld_unit_zero (S := Sx) off2, View.ld_unit_zero (S := Sy) off2, View.ld_unit_zero (S := Sz) off2]

theorem out_B (h0 : ¬cond0_0 i) (h1 : cond0_1 i) : out0_B_2 c i a3 h3 a4 h4 a5 h5 a6 h6 h0 h1 x y z = k0_pay3 (k0_pay2 z x y) := by
  unfold out0_B_2
  rw [View.read_writes_eq_canon _ _ _ (cover0_B_2 c i a3 h3 a4 h4 a5 h5 a6 h6 h0 h1 x y z)]
  unfold kernelRun0_B
  dsimp only
  sl_unfold_words
  rw [View.canon_unit_zero (S := Sz) off2, View.readCov_unit_zero (S := Sz) _ off2]
  simp only [View.readAt_eq_ld, h3.read_unread, h4.read_unread, h6.read_unread, View.ld_unit_zero (S := Sx) off2, View.ld_unit_zero (S := Sy) off2, View.ld_unit_zero (S := Sz) off2]

end Point

theorem pay2_at (z : Vec Ideal Sz .f32) (x : Vec Ideal Sx .bf16) (y : Vec Ideal Sy .bf16) (r : Fin 768) (s : Fin 2048) :
    k0_pay2 (F := Ideal) z x y (ix2 r s) = z (ix2 r s) + ∑ k : Fin 2816, x (ix2 r k) * y (ix2 k s) := by
  unfold k0_pay2
  rw [shapeCast_self, shapeCast_self, shapeCast_self]
  exact congrArg (z (ix2 r s) + ·) ((mm_nn (φ₁ := .bf16) (φ₂ := .bf16) dot_S768x2816_S2816x2048_S768x2048_1_0_0_1_n_n rfl rfl rfl rfl
    (fun _ _ => rfl) (fun _ _ => rfl) x y r s))

theorem pay1_at (i : Sz.Idx) : k0_pay1 (F := Ideal) i = 0 := by
  unfold k0_pay1
  rw [shapeCast_self]
  exact Ideal.ofBits_zero_f32

/-! ## The blocks -/

theorem index0 : ∀ t : Fin cfg0.N, win0_0.index t 0 = t.val / 2 / 1 % 11 ∧ win0_0.index t 1 = t.val % 2 := by decide +kernel
theorem index1 : ∀ t : Fin cfg0.N, win0_1.index t 0 = t.val % 2 ∧ win0_1.index t 1 = t.val / 2 % 1 := by decide +kernel
theorem index2 : ∀ t : Fin cfg0.N, win0_2.index t 0 = t.val / 2 / 1 % 11 ∧ win0_2.index t 1 = t.val / 2 % 1 := by decide +kernel

theorem hM : 8448 = 11 * 768 ∧ 0 < 11 := by decide
theorem hN : 2048 = 1 * 2048 ∧ 0 < 1 := by decide
theorem hK : 5632 = 2 * 2816 ∧ 0 < 2 := by decide

/-- Point `p`'s rows and columns of the result, and its part of the contracted index. -/
abbrev row (p : ℕ) (r : Fin 768) : Fin 8448 := place 11 hM (p / 2 / 1) r
abbrev col (p : ℕ) (s : Fin 2048) : Fin 2048 := place 1 hN (p / 2) s
abbrev mid (p : ℕ) (k : Fin 2816) : Fin 5632 := place 2 hK p k

variable (m : (ℓ : Loc nD τ sig) → Buf (Elt Ideal) ℓ) (c : Dev nD)

/-- The two arguments as the run is launched with them, the two factors of the sum, and the reference's result. -/
abbrev arg0 : FVec Ideal S8448x5632 .f32 := m ((c : Thread nD τ).loc main_arg0)
abbrev arg1 : FVec Ideal S5632x2048 .f32 := m ((c : Thread nD τ).loc main_arg1)
def A (i : Fin 8448) (k : Fin 5632) : EReal := arg0 m c (ix2 i k)
def B (j : Fin 2048) (k : Fin 5632) : EReal := arg1 m c (ix2 k j)
abbrev G : Buf (Elt Ideal) ((c : Thread nD τ).loc main_v2) := val_main_v1 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 768) (k : Fin 2816) : (iblk m c 0 t : Vec Ideal Sx .bf16) (ix2 r k) = A m c (row t.val r) (mid t.val k) := by
  unfold iblk
  rw [View.read_apply]
  refine Eq.trans (congrArg (V m c main_v0) (funext fun a => Fin.ext ?_)) (congrFun (V_x m c) (ix2 (row t.val r) (mid t.val k)))
  match a with
  | ⟨0, _⟩ => show win0_0.index t 0 * 768 + 1 * r.val = 768 * (t.val / 2 / 1 % 11) + r.val; rw [(index0 t).1]; omega
  | ⟨1, _⟩ => show win0_0.index t 1 * 2816 + 1 * k.val = 2816 * (t.val % 2) + k.val; rw [(index0 t).2]; omega

theorem y_at (t : Fin cfg0.N) (s : Fin 2048) (k : Fin 2816) : (iblk m c 1 t : Vec Ideal Sy .bf16) (ix2 k s) = B m c (col t.val s) (mid t.val k) := by
  unfold iblk
  rw [View.read_apply]
  refine Eq.trans (congrArg (V m c main_v1) (funext fun a => Fin.ext ?_)) (congrFun (V_y m c) (ix2 (mid t.val k) (col t.val s)))
  match a with
  | ⟨0, _⟩ => show win0_1.index t 0 * 2816 + 1 * k.val = 2816 * (t.val % 2) + k.val; rw [(index1 t).1]; omega
  | ⟨1, _⟩ => show win0_1.index t 1 * 2048 + 1 * s.val = 2048 * (t.val / 2 % 1) + s.val; rw [(index1 t).2]; omega

/-! ## The reference at an entry, the block after its last point, and the result array -/

theorem ref_at (i : Fin 8448) (j : Fin 2048) : val_main_v1 (F := Ideal) (arg0 m c) (arg1 m c) (ix2 i j) = ∑ k, A m c i k * B m c j k := by
  refine (val_main_v1_apply _ _ _).trans ?_
  show val_main_v0 (F := Ideal) (arg0 m c) (arg1 m c) (ix2 i j) = _
  rw [val_main_v0_apply]
  refine Finset.sum_congr rfl fun k _ => ?_
  have e0 : lidx_main_v0 (ix2 i j) k = ix2 i k := eq_ix2 _
  have e1 : ridx_main_v0 (ix2 i j) k = ix2 k j := eq_ix2 _
  rw [e0, e1]
  rfl

theorem step (t : Fin cfg0.N) (z : Vec Ideal Sz .f32) (r : Fin 768) (s : Fin 2048) :
    k0_pay2 (F := Ideal) z (iblk m c 0 t) (iblk m c 1 t) (ix2 r s) = z (ix2 r s) + partSum hM hN hK (A m c) (B m c) t.val r s := by
  rw [pay2_at]
  exact congrArg (z (ix2 r s) + ·) (Finset.sum_congr rfl fun k _ => congrArg₂ (fun u v : EReal => u * v) (x_at m c t r k) (y_at m c t s k))

theorem sc_at (p : ℕ) (h : p < cfg0.N) (z : Vec Ideal Sz .f32) (r : Fin 768) (s : Fin 2048) :
    scAt0_0 m c p h z (ix2 r s) = (if p % 2 = 0 then 0 else z (ix2 r s)) + partSum hM hN hK (A m c) (B m c) p r s := by
  unfold scAt0_0
  by_cases h0 : p % 2 = 0
  · rw [dif_pos h0, if_pos h0, dif_neg (by omega), sout_A, step m c ⟨p, h⟩, pay1_at]
  · rw [dif_neg h0, if_neg h0]
    by_cases h1 : p % 2 = 1
    · rw [dif_pos h1, sout_B]; exact step m c ⟨p, h⟩ z r s
    · omega

/-- What the last of a block's points writes back is the reference's block. -/
theorem flushed_eq (t : Fin cfg0.N) (hf : (cfg0.win 2).flush t = true) :
    (dats m 0 c).flushed 2 t = ((cfg0.win 2).blk t).view.read (Elt Ideal) (G m c) := by
  have ht : t.val % 2 = 1 := (flush0_2 t).mp hf
  have h0 : ¬t.val % 2 = 0 := by omega
  have ho : (outsAt0 m c t.val t.isLt).1 = k0_pay3 (outsAt0 m c t.val t.isLt).2 := by
    rw [outsAt0_B m c t h0 ht]; dsimp only; rw [out_B, sout_B]
  rw [flushed2, ho, soutsAt0_0_eq]
  refine funext fun (y : Sz.Idx) => ?_
  obtain ⟨r, s, rfl⟩ : ∃ r s, y = ix2 r s := ⟨_, _, eq_ix2 y⟩
  refine (block_sum hM hN hK (A m c) (B m c) _ (scAt0_0 m c) (sc_at m c) t.val (by omega) _ r s).trans
    ((ref_at m c (row t.val r) (col t.val s)).symm.trans ?_)
  rw [View.read_apply]
  refine congrArg (G m c) (funext fun a => Fin.ext ?_)
  match a with
  | ⟨0, _⟩ => show 768 * (t.val / 2 / 1 % 11) + r.val = win0_2.index t 0 * 768 + 1 * r.val; rw [(index2 t).1]; omega
  | ⟨1, _⟩ => show 2048 * (t.val / 2 % 1) + s.val = win0_2.index t 1 * 2048 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.Ffn1OutIdeal.Hand

end
-- ==== Proof.MixOutValue.lean ====
/- The hybrid block's output `z · w`. The kernel's array after the run is the reference's. -/
module

public import proofs.«01_k».proof.Proof.Prod
public import proofs.«01_k».proof.Proof.Gen.MixOutIdeal.Value
public import proofs.«01_k».proof.Proof.Gen.MixOutRefIdeal.Read

@[expose] public section

noncomputable section

namespace Cert.MixOutIdeal.Hand

open MixOutIdeal Gen Value Cert.Prod MixOutRefIdeal.Read
open Idealize.ShloMosaic TcCoe Tactic ValueIdx
open Idealize.SL Sem

/-- The blocks: of the left array, of the right array, and of the result. -/
abbrev Sx : Shape := S1024x2048
abbrev Sy : Shape := S2048x2048
abbrev Sz : Shape := S1024x2048

theorem pay1_at (x : Vec Ideal Sx .bf16) (y : Vec Ideal Sy .bf16) (r : Fin 1024) (s : Fin 2048) :
    k0_pay1 (F := Ideal) x y (ix2 r s) = ∑ k : Fin 2048, x (ix2 r k) * y (ix2 k s) := by
  unfold k0_pay1
  rw [shapeCast_self, shapeCast_self]
  exact (mm_nn (φ₁ := .bf16) (φ₂ := .bf16) dot_S1024x2048_S2048x2048_S1024x2048_1_0_0_1_n_n rfl rfl rfl rfl
    (fun _ _ => rfl) (fun _ _ => rfl) x y r s)

theorem out_at (x : Vec Ideal Sx .bf16) (y : Vec Ideal Sy .bf16) : out0_2 (F := Ideal) x y = k0_pay1 x y := by
  unfold out0_2
  rw [View.canon_unit_zero (S := Sz) off2, View.ld_unit_zero (S := Sx) off2, View.ld_unit_zero (S := Sy) off2]

/-! ## The blocks -/

theorem index0 : ∀ t : Fin cfg0.N, win0_0.index t 0 = t.val / 1 / 1 % 8 ∧ win0_0.index t 1 = t.val % 1 := by decide +kernel
theorem index1 : ∀ t : Fin cfg0.N, win0_1.index t 0 = t.val % 1 ∧ win0_1.index t 1 = t.val / 1 % 1 := by decide +kernel
theorem index2 : ∀ t : Fin cfg0.N, win0_2.index t 0 = t.val / 1 / 1 % 8 ∧ win0_2.index t 1 = t.val / 1 % 1 := by decide +kernel

theorem hM : 8192 = 8 * 1024 ∧ 0 < 8 := by decide
theorem hN : 2048 = 1 * 2048 ∧ 0 < 1 := by decide
theorem hK : 2048 = 1 * 2048 ∧ 0 < 1 := by decide

/-- Point `p`'s rows and columns of the result, and its part of the contracted index. -/
abbrev row (p : ℕ) (r : Fin 1024) : Fin 8192 := place 8 hM (p / 1 / 1) r
abbrev col (p : ℕ) (s : Fin 2048) : Fin 2048 := place 1 hN (p / 1) s
abbrev mid (p : ℕ) (k : Fin 2048) : Fin 2048 := place 1 hK p k

variable (m : (ℓ : Loc nD τ sig) → Buf (Elt Ideal) ℓ) (c : Dev nD)

/-- The two arguments as the run is launched with them, the two factors of the sum, and the reference's result. -/
abbrev arg0 : FVec Ideal S8192x2048 .f32 := m ((c : Thread nD τ).loc main_arg0)
abbrev arg1 : FVec Ideal S2048x2048 .f32 := m ((c : Thread nD τ).loc main_arg1)
def A (i : Fin 8192) (k : Fin 2048) : EReal := arg0 m c (ix2 i k)
def B (j : Fin 2048) (k : Fin 2048) : EReal := arg1 m c (ix2 k j)
abbrev G : Buf (Elt Ideal) ((c : Thread nD τ).loc main_v2) := val_main_v1 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1024) (k : Fin 2048) : (iblk m c 0 t : Vec Ideal Sx .bf16) (ix2 r k) = A m c (row t.val r) (mid t.val k) := by
  unfold iblk
  rw [View.read_apply]
  refine Eq.trans (congrArg (V m c main_v0) (funext fun a => Fin.ext ?_)) (congrFun (V_x m c) (ix2 (row t.val r) (mid t.val k)))
  match a with
  | ⟨0, _⟩ => show win0_0.index t 0 * 1024 + 1 * r.val = 1024 * (t.val / 1 / 1 % 8) + r.val; rw [(index0 t).1]; omega
  | ⟨1, _⟩ => show win0_0.index t 1 * 2048 + 1 * k.val = 2048 * (t.val % 1) + k.val; rw [(index0 t).2]; omega

theorem y_at (t : Fin cfg0.N) (s : Fin 2048) (k : Fin 2048) : (iblk m c 1 t : Vec Ideal Sy .bf16) (ix2 k s) = B m c (col t.val s) (mid t.val k) := by
  unfold iblk
  rw [View.read_apply]
  refine Eq.trans (congrArg (V m c main_v1) (funext fun a => Fin.ext ?_)) (congrFun (V_y m c) (ix2 (mid t.val k) (col t.val s)))
  match a with
  | ⟨0, _⟩ => show win0_1.index t 0 * 2048 + 1 * k.val = 2048 * (t.val % 1) + k.val; rw [(index1 t).1]; omega
  | ⟨1, _⟩ => show win0_1.index t 1 * 2048 + 1 * s.val = 2048 * (t.val / 1 % 1) + s.val; rw [(index1 t).2]; omega

/-! ## The reference at an entry, the block after its last point, and the result array -/

theorem ref_at (i : Fin 8192) (j : Fin 2048) : val_main_v1 (F := Ideal) (arg0 m c) (arg1 m c) (ix2 i j) = ∑ k, A m c i k * B m c j k := by
  refine (val_main_v1_apply _ _ _).trans ?_
  show val_main_v0 (F := Ideal) (arg0 m c) (arg1 m c) (ix2 i j) = _
  rw [val_main_v0_apply]
  refine Finset.sum_congr rfl fun k _ => ?_
  have e0 : lidx_main_v0 (ix2 i j) k = ix2 i k := eq_ix2 _
  have e1 : ridx_main_v0 (ix2 i j) k = ix2 k j := eq_ix2 _
  rw [e0, e1]
  rfl

theorem flushed_eq (t : Fin cfg0.N) (hf : (cfg0.win 2).flush t = true) :
    (dats m 0 c).flushed 2 t = ((cfg0.win 2).blk t).view.read (Elt Ideal) (G m c) := by
  rw [flushed2, out_at]
  refine funext fun (y : Sz.Idx) => ?_
  obtain ⟨r, s, rfl⟩ : ∃ r s, y = ix2 r s := ⟨_, _, eq_ix2 y⟩
  refine (pay1_at _ _ r s).trans (Eq.trans (Finset.sum_congr rfl fun k _ => congrArg₂ (fun u v : EReal => u * v)
    ((x_at m c t r k).trans (congrArg (A m c (row t.val r)) (Fin.ext (by show 2048 * (t.val % 1) + k.val = k.val; omega))))
    ((y_at m c t s k).trans (congrArg (B m c (col t.val s)) (Fin.ext (by show 2048 * (t.val % 1) + k.val = k.val; omega)))))
    ((ref_at m c (row t.val r) (col t.val s)).symm.trans ?_))
  rw [View.read_apply]
  refine congrArg (G m c) (funext fun a => Fin.ext ?_)
  match a with
  | ⟨0, _⟩ => show 1024 * (t.val / 1 / 1 % 8) + r.val = win0_2.index t 0 * 1024 + 1 * r.val; rw [(index2 t).1]; omega
  | ⟨1, _⟩ => show 2048 * (t.val / 1 % 1) + s.val = win0_2.index t 1 * 2048 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.MixOutIdeal.Hand

end
-- ==== Proof.ProjValue.lean ====
/- A branch's output `y · w`. The kernel's array after the run is the reference's. -/
module

public import proofs.«01_k».proof.Proof.Prod
public import proofs.«01_k».proof.Proof.Gen.ProjIdeal.Value
public import proofs.«01_k».proof.Proof.Gen.ProjRefIdeal.Read

@[expose] public section

noncomputable section

namespace Cert.ProjIdeal.Hand

open ProjIdeal Gen Value Cert.Prod ProjRefIdeal.Read
open Idealize.ShloMosaic TcCoe Tactic ValueIdx
open Idealize.SL Sem

/-- The blocks: of the left array, of the right array, and of the result. -/
abbrev Sx : Shape := S1024x1024
abbrev Sy : Shape := S1024x2048
abbrev Sz : Shape := S1024x2048

theorem pay1_at (x : Vec Ideal Sx .bf16) (y : Vec Ideal Sy .bf16) (r : Fin 1024) (s : Fin 2048) :
    k0_pay1 (F := Ideal) x y (ix2 r s) = ∑ k : Fin 1024, x (ix2 r k) * y (ix2 k s) := by
  unfold k0_pay1
  rw [shapeCast_self, shapeCast_self]
  exact (mm_nn (φ₁ := .bf16) (φ₂ := .bf16) dot_S1024x1024_S1024x2048_S1024x2048_1_0_0_1_n_n rfl rfl rfl rfl
    (fun _ _ => rfl) (fun _ _ => rfl) x y r s)

theorem out_at (x : Vec Ideal Sx .bf16) (y : Vec Ideal Sy .bf16) : out0_2 (F := Ideal) x y = k0_pay1 x y := by
  unfold out0_2
  rw [View.canon_unit_zero (S := Sz) off2, View.ld_unit_zero (S := Sx) off2, View.ld_unit_zero (S := Sy) off2]

/-! ## The blocks -/

theorem index0 : ∀ t : Fin cfg0.N, win0_0.index t 0 = t.val / 1 / 1 % 8 ∧ win0_0.index t 1 = t.val % 1 := by decide +kernel
theorem index1 : ∀ t : Fin cfg0.N, win0_1.index t 0 = t.val % 1 ∧ win0_1.index t 1 = t.val / 1 % 1 := by decide +kernel
theorem index2 : ∀ t : Fin cfg0.N, win0_2.index t 0 = t.val / 1 / 1 % 8 ∧ win0_2.index t 1 = t.val / 1 % 1 := by decide +kernel

theorem hM : 8192 = 8 * 1024 ∧ 0 < 8 := by decide
theorem hN : 2048 = 1 * 2048 ∧ 0 < 1 := by decide
theorem hK : 1024 = 1 * 1024 ∧ 0 < 1 := by decide

/-- Point `p`'s rows and columns of the result, and its part of the contracted index. -/
abbrev row (p : ℕ) (r : Fin 1024) : Fin 8192 := place 8 hM (p / 1 / 1) r
abbrev col (p : ℕ) (s : Fin 2048) : Fin 2048 := place 1 hN (p / 1) s
abbrev mid (p : ℕ) (k : Fin 1024) : Fin 1024 := place 1 hK p k

variable (m : (ℓ : Loc nD τ sig) → Buf (Elt Ideal) ℓ) (c : Dev nD)

/-- The two arguments as the run is launched with them, the two factors of the sum, and the reference's result. -/
abbrev arg0 : FVec Ideal S8192x1024 .f32 := m ((c : Thread nD τ).loc main_arg0)
abbrev arg1 : FVec Ideal S1024x2048 .f32 := m ((c : Thread nD τ).loc main_arg1)
def A (i : Fin 8192) (k : Fin 1024) : EReal := arg0 m c (ix2 i k)
def B (j : Fin 2048) (k : Fin 1024) : EReal := arg1 m c (ix2 k j)
abbrev G : Buf (Elt Ideal) ((c : Thread nD τ).loc main_v2) := val_main_v1 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1024) (k : Fin 1024) : (iblk m c 0 t : Vec Ideal Sx .bf16) (ix2 r k) = A m c (row t.val r) (mid t.val k) := by
  unfold iblk
  rw [View.read_apply]
  refine Eq.trans (congrArg (V m c main_v0) (funext fun a => Fin.ext ?_)) (congrFun (V_x m c) (ix2 (row t.val r) (mid t.val k)))
  match a with
  | ⟨0, _⟩ => show win0_0.index t 0 * 1024 + 1 * r.val = 1024 * (t.val / 1 / 1 % 8) + r.val; rw [(index0 t).1]; omega
  | ⟨1, _⟩ => show win0_0.index t 1 * 1024 + 1 * k.val = 1024 * (t.val % 1) + k.val; rw [(index0 t).2]; omega

theorem y_at (t : Fin cfg0.N) (s : Fin 2048) (k : Fin 1024) : (iblk m c 1 t : Vec Ideal Sy .bf16) (ix2 k s) = B m c (col t.val s) (mid t.val k) := by
  unfold iblk
  rw [View.read_apply]
  refine Eq.trans (congrArg (V m c main_v1) (funext fun a => Fin.ext ?_)) (congrFun (V_y m c) (ix2 (mid t.val k) (col t.val s)))
  match a with
  | ⟨0, _⟩ => show win0_1.index t 0 * 1024 + 1 * k.val = 1024 * (t.val % 1) + k.val; rw [(index1 t).1]; omega
  | ⟨1, _⟩ => show win0_1.index t 1 * 2048 + 1 * s.val = 2048 * (t.val / 1 % 1) + s.val; rw [(index1 t).2]; omega

/-! ## The reference at an entry, the block after its last point, and the result array -/

theorem ref_at (i : Fin 8192) (j : Fin 2048) : val_main_v1 (F := Ideal) (arg0 m c) (arg1 m c) (ix2 i j) = ∑ k, A m c i k * B m c j k := by
  refine (val_main_v1_apply _ _ _).trans ?_
  show val_main_v0 (F := Ideal) (arg0 m c) (arg1 m c) (ix2 i j) = _
  rw [val_main_v0_apply]
  refine Finset.sum_congr rfl fun k _ => ?_
  have e0 : lidx_main_v0 (ix2 i j) k = ix2 i k := eq_ix2 _
  have e1 : ridx_main_v0 (ix2 i j) k = ix2 k j := eq_ix2 _
  rw [e0, e1]
  rfl

theorem flushed_eq (t : Fin cfg0.N) (hf : (cfg0.win 2).flush t = true) :
    (dats m 0 c).flushed 2 t = ((cfg0.win 2).blk t).view.read (Elt Ideal) (G m c) := by
  rw [flushed2, out_at]
  refine funext fun (y : Sz.Idx) => ?_
  obtain ⟨r, s, rfl⟩ : ∃ r s, y = ix2 r s := ⟨_, _, eq_ix2 y⟩
  refine (pay1_at _ _ r s).trans (Eq.trans (Finset.sum_congr rfl fun k _ => congrArg₂ (fun u v : EReal => u * v)
    ((x_at m c t r k).trans (congrArg (A m c (row t.val r)) (Fin.ext (by show 1024 * (t.val % 1) + k.val = k.val; omega))))
    ((y_at m c t s k).trans (congrArg (B m c (col t.val s)) (Fin.ext (by show 1024 * (t.val % 1) + k.val = k.val; omega)))))
    ((ref_at m c (row t.val r) (col t.val s)).symm.trans ?_))
  rw [View.read_apply]
  refine congrArg (G m c) (funext fun a => Fin.ext ?_)
  match a with
  | ⟨0, _⟩ => show 1024 * (t.val / 1 / 1 % 8) + r.val = win0_2.index t 0 * 1024 + 1 * r.val; rw [(index2 t).1]; omega
  | ⟨1, _⟩ => show 2048 * (t.val / 1 % 1) + s.val = win0_2.index t 1 * 2048 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.ProjIdeal.Hand

end
-- ==== Proof.Gate.lean ====
/- The gate `silu(a) · b` and its gradient at an entry, over the extended reals; and a pair of arrays stacked along a leading axis, as
   two stores into one block leave it and as a concatenation builds it. -/
module

public import proofs.«01_k».proof.Proof.Prod
public import Idealize.ShloMosaic.Lib.IdealHost

@[expose] public section

noncomputable section

namespace Cert.Gate

open Idealize.ShloMosaic Idealize.ShloMosaic.ValueIdx Cert.Prod

/-- The gate `a · σ(a) · b`, and its gradients in `a` and in `b` for a cotangent `g`, with `σ' = σ · (1 - σ)`. -/
def act (a b : EReal) : EReal := a * Ideal.logistic a * b
def gradA (g a b : EReal) : EReal := g * b * Ideal.logistic a + a * (g * b) * (Ideal.logistic a * (1 - Ideal.logistic a))
def gradB (g a : EReal) : EReal := a * Ideal.logistic a * g

/-- The two gradients, stacked. -/
def grad (u : Fin 2) (g a b : EReal) : EReal := if u = 0 then gradA g a b else gradB g a

theorem logistic_sub (a : EReal) : Ideal.div 1 (1 + Ideal.exp (0 - a)) = Ideal.logistic a := by rw [zero_sub]; rfl

/-- The slope of `σ` written through `e = exp(-a)`: `-(-(x / (1 + e)²) · e) = x · σ · (1 - σ)`, for every `x` and `a`. -/
theorem slope (x a : EReal) : 0 - (0 - x * Ideal.div 1 ((1 + Ideal.exp (0 - a)) * (1 + Ideal.exp (0 - a))) * 1) * Ideal.exp (0 - a)
    = x * (Ideal.logistic a * (1 - Ideal.logistic a)) := by
  simp only [zero_sub, mul_one]
  induction a using EReal.rec with
  | bot =>
    have h1 : (1 : EReal) + ⊤ = ⊤ := EReal.add_top_of_ne_bot (EReal.coe_ne_bot 1)
    rw [EReal.neg_bot, Ideal.exp_top, Ideal.logistic_bot, h1, EReal.top_mul_top]
    simp [Ideal.div]
  | top =>
    have h1 : (1 : EReal) - 1 = 0 := by rw [← EReal.coe_one, ← EReal.coe_sub, sub_self, EReal.coe_zero]
    rw [EReal.neg_top, Ideal.exp_bot, Ideal.logistic_top, h1]
    simp
  | coe r =>
    have ht : (0 : ℝ) < 1 + Real.exp (-r) := by positivity
    have e1 : (1 : EReal) + Ideal.exp (-(r : EReal)) = ((1 + Real.exp (-r) : ℝ) : EReal) := by
      rw [← EReal.coe_neg, Ideal.exp_coe, ← EReal.coe_one, ← EReal.coe_add]
    have e2 : Ideal.exp (-(r : EReal)) = ((Real.exp (-r) : ℝ) : EReal) := by rw [← EReal.coe_neg, Ideal.exp_coe]
    rw [e1, e2, Ideal.logistic_coe, ← EReal.coe_mul, Ideal.div_coe (mul_pos ht ht).ne', one_mul, EReal.neg_mul, neg_neg, mul_assoc,
      ← EReal.coe_mul, ← EReal.coe_one, ← EReal.coe_sub, ← EReal.coe_mul]
    refine congrArg (fun v : ℝ => x * (v : EReal)) ?_
    field_simp
    ring

/-! ## Two arrays stacked -/

/-- A block written by two stores, one to each of its two slabs. -/
theorem two_slabs {Val : EltTy → Type} [∀ e, Nonempty (Val e)] {e : EltTy} {R C : ℕ} (p q : (⟨3, ![1, R, C]⟩ : Shape).Idx → Val e)
    (h1 : ∀ a, (![1, 0, 0] : Fin 3 → ℕ) a + (⟨3, ![1, R, C]⟩ : Shape).size a ≤ (⟨3, ![2, R, C]⟩ : Shape).size a)
    (h0 : ∀ a, (![0, 0, 0] : Fin 3 → ℕ) a + (⟨3, ![1, R, C]⟩ : Shape).size a ≤ (⟨3, ![2, R, C]⟩ : Shape).size a) (u : Fin 2) (r : Fin R) (s : Fin C) :
    View.canon (Val := Val) (s := ⟨3, ![2, R, C]⟩) (e := e) [⟨Rect.unit (s := ⟨3, ![2, R, C]⟩) ![1, 0, 0] (⟨3, ![1, R, C]⟩ : Shape).size h1, q⟩,
        ⟨Rect.unit (s := ⟨3, ![2, R, C]⟩) ![0, 0, 0] (⟨3, ![1, R, C]⟩ : Shape).size h0, p⟩] (ix3 u r s)
      = if u = 0 then p (ix3 0 r s) else q (ix3 0 r s) := by
  by_cases hu : u = 0
  · subst hu
    rw [if_pos rfl, View.canon_cons_of_not_mem]
    · refine Eq.trans (congrArg _ (funext fun a => Fin.ext ?_)) (View.canon_cons_emb (Rect.unit (s := ⟨3, ![2, R, C]⟩) ![0, 0, 0] (⟨3, ![1, R, C]⟩ : Shape).size h0) p [] (ix3 0 r s))
      match a with
      | ⟨0, _⟩ => rfl
      | ⟨1, _⟩ => show r.val = 0 + 1 * r.val; omega
      | ⟨2, _⟩ => show s.val = 0 + 1 * s.val; omega
    · rw [Rect.mem_set_unit]
      intro h
      exact absurd (h 0).1 (by show ¬(1 ≤ 0); omega)
  · obtain rfl : u = 1 := by omega
    rw [if_neg hu]
    refine Eq.trans (congrArg _ (funext fun a => Fin.ext ?_)) (View.canon_cons_emb (Rect.unit (s := ⟨3, ![2, R, C]⟩) ![1, 0, 0] (⟨3, ![1, R, C]⟩ : Shape).size h1) q _ (ix3 0 r s))
    match a with
    | ⟨0, _⟩ => rfl
    | ⟨1, _⟩ => show r.val = 0 + 1 * r.val; omega
    | ⟨2, _⟩ => show s.val = 0 + 1 * s.val; omega

/-- A block under a leading axis of one, read with it. -/
theorem add_unit {α : Type} {R C : ℕ} (x : (⟨2, ![R, C]⟩ : Shape).Idx → α) (h : (⟨2, ![R, C]⟩ : Shape).ShapeCasts ⟨3, ![1, R, C]⟩) (r : Fin R) (k : Fin C) :
    shapeCast ⟨3, ![1, R, C]⟩ x h (ix3 0 r k) = x (ix2 r k) :=
  (shapeCast_addUnit_apply ![R, C] x h (ix3 0 r k)).trans (congrArg x (funext fun a => match a with | ⟨0, _⟩ => rfl | ⟨1, _⟩ => rfl))

/-- Two slabs joined along their leading axis. -/
theorem cat_pair {α : Type} {R C : ℕ} (p q : (⟨3, ![1, R, C]⟩ : Shape).Idx → α)
    (h : Shape.Concatenates [⟨3, ![1, R, C]⟩, ⟨3, ![1, R, C]⟩] ⟨3, ![2, R, C]⟩ 0) (u : Fin 2) (i : Fin R) (j : Fin C) :
    concatenate ⟨3, ![2, R, C]⟩ 0 [⟨⟨3, ![1, R, C]⟩, p⟩, ⟨⟨3, ![1, R, C]⟩, q⟩] h (ix3 u i j) = if u = 0 then p (ix3 0 i j) else q (ix3 0 i j) := by
  by_cases hu : u = 0
  · subst hu
    rw [if_pos rfl]
    refine concatenate_pair_apply_left (t := ⟨3, ![2, R, C]⟩) (s₁ := ⟨3, ![1, R, C]⟩) (s₂ := ⟨3, ![1, R, C]⟩) 0 _ _ h _ rfl (ix3 0 i j) fun b => ?_
    match b with
    | ⟨0, _⟩ => rfl
    | ⟨1, _⟩ => rfl
    | ⟨2, _⟩ => rfl
  · obtain rfl : u = 1 := by omega
    rw [if_neg hu]
    refine concatenate_pair_apply_right (t := ⟨3, ![2, R, C]⟩) (s₁ := ⟨3, ![1, R, C]⟩) (s₂ := ⟨3, ![1, R, C]⟩) 0 _ _ h _ rfl rfl (ix3 0 i j) (fun b hb => ?_) rfl
    match b with
    | ⟨0, _⟩ => exact absurd rfl hb
    | ⟨1, _⟩ => rfl
    | ⟨2, _⟩ => rfl

end Cert.Gate

end
-- ==== Proof.Ffn2GateGradValue.lean ====
/- The gate of the second feed-forward block: its gradient, `dy · wᵀ` through `silu(a) · b`, in both of its arguments, stacked. The kernel's array after the run is the
   reference's. -/
module

public import proofs.«01_k».proof.Proof.Gate
public import proofs.«01_k».proof.Proof.Gen.Ffn2GateGradIdeal.Value
public import proofs.«01_k».proof.Proof.Gen.Ffn2GateGradRefIdeal.Read

@[expose] public section

noncomputable section

namespace Cert.Ffn2GateGradIdeal.Hand

open Ffn2GateGradIdeal Gen Value Cert.Prod Cert.Gate Ffn2GateGradRefIdeal.Read
open Idealize.ShloMosaic TcCoe Tactic ValueIdx
open Idealize.SL Sem

/-- The blocks: of the cotangent, of the weight, of the gate's two arguments, and of the result. -/
abbrev Sx : Shape := S1024x2048
abbrev Sy : Shape := S512x2048
abbrev Sa : Shape := S1024x512
abbrev Sz : Shape := S2x1024x512

/-! ## One block's entries -/

section Point

variable (x : Vec Ideal Sx .bf16) (y : Vec Ideal Sy .bf16) (a b : Vec Ideal Sa .bf16) (r : Fin 1024) (s : Fin 512)

theorem pay2_at : k0_pay2 (F := Ideal) x y (ix2 r s) = ∑ k : Fin 2048, x (ix2 r k) * y (ix2 s k) := by
  unfold k0_pay2
  rw [shapeCast_self, shapeCast_self]
  exact mm_nt (φ₁ := .bf16) (φ₂ := .bf16) dot_S1024x2048_S512x2048_S1024x512_1_1_0_0_n_n rfl rfl rfl rfl (fun _ _ => rfl) (fun _ _ => rfl) x y r s

theorem pay3_eq : k0_pay3 (F := Ideal) a = a := by
  unfold k0_pay3
  rw [shapeCast_self]
  rfl

theorem pay4_at (i : Sa.Idx) : k0_pay4 (F := Ideal) a i = Ideal.exp (0 - a i) := by
  unfold k0_pay4
  rw [pay3_eq]
  show Ideal.exp (Ideal.ofBits .f32 0x00000000#32 - a i) = _
  rw [Ideal.ofBits_zero_f32]

theorem pay5_at (i : Sa.Idx) : k0_pay5 (F := Ideal) a i = 1 + Ideal.exp (0 - a i) := by
  unfold k0_pay5
  show Ideal.ofBits .f32 0x3F800000#32 + k0_pay4 (F := Ideal) a i = _
  rw [Ideal.ofBits_one_f32, pay4_at]

theorem pay6_at (i : Sa.Idx) : k0_pay6 (F := Ideal) a i = Ideal.logistic (a i) := by
  unfold k0_pay6
  show Ideal.div (Ideal.ofBits .f32 0x3F800000#32) (k0_pay5 (F := Ideal) a i) = _
  rw [Ideal.ofBits_one_f32, pay5_at, logistic_sub]

theorem pay7_at (i : Sa.Idx) : k0_pay7 (F := Ideal) x y a i = gradB (k0_pay2 (F := Ideal) x y i) (a i) := by
  unfold k0_pay7
  show k0_pay3 (F := Ideal) a i * k0_pay6 (F := Ideal) a i * k0_pay2 (F := Ideal) x y i = _
  rw [pay3_eq, pay6_at, gradB]

theorem pay8_at : k0_pay8 (F := Ideal) x y a b (ix3 0 r s) = gradA (k0_pay2 (F := Ideal) x y (ix2 r s)) (a (ix2 r s)) (b (ix2 r s)) := by
  unfold k0_pay8
  refine (add_unit _ _ r s).trans ?_
  rw [shapeCast_self]
  show k0_pay2 (F := Ideal) x y (ix2 r s) * b (ix2 r s) * k0_pay6 (F := Ideal) a (ix2 r s)
    + (Ideal.ofBits .f32 0x00000000#32 - (Ideal.ofBits .f32 0x00000000#32 - k0_pay3 (F := Ideal) a (ix2 r s) * (k0_pay2 (F := Ideal) x y (ix2 r s) * b (ix2 r s))
      * Ideal.div (Ideal.ofBits .f32 0x3F800000#32) (k0_pay5 (F := Ideal) a (ix2 r s) * k0_pay5 (F := Ideal) a (ix2 r s)) * Ideal.ofBits .f32 0x3F800000#32)
      * k0_pay4 (F := Ideal) a (ix2 r s)) = _
  rw [Ideal.ofBits_zero_f32, Ideal.ofBits_one_f32, pay3_eq, pay4_at, pay5_at, pay6_at, slope, gradA]

/-- The block after a point: slab 0 the gradient in `a`, slab 1 the gradient in `b`. -/
theorem out_at (u : Fin 2) : out0_4 (F := Ideal) x y a b (ix3 u r s)
    = grad u (∑ k : Fin 2048, x (ix2 r k) * y (ix2 s k)) (a (ix2 r s)) (b (ix2 r s)) := by
  unfold out0_4 grad
  refine (two_slabs _ _ _ _ u r s).trans ?_
  rw [View.ld_unit_zero (S := Sx) off2, View.ld_unit_zero (S := Sy) off2, View.ld_unit_zero (S := Sa) off2, View.ld_unit_zero (S := Sa) off2, pay8_at, pay2_at]
  refine congrArg (fun v : EReal => if u = 0 then _ else v) ?_
  unfold k0_pay1
  refine (add_unit _ _ r s).trans ?_
  show k0_pay7 (F := Ideal) x y a (ix2 r s) = _
  rw [pay7_at, pay2_at]

end Point

/-! ## The blocks -/

theorem index0 : ∀ t : Fin cfg0.N, win0_0.index t 0 = t.val / 11 % 8 ∧ win0_0.index t 1 = 0 := by decide +kernel
theorem index1 : ∀ t : Fin cfg0.N, win0_1.index t 0 = t.val % 11 ∧ win0_1.index t 1 = 0 := by decide +kernel
theorem index2 : ∀ t : Fin cfg0.N, win0_2.index t 0 = t.val / 11 % 8 ∧ win0_2.index t 1 = t.val % 11 := by decide +kernel
theorem index3 : ∀ t : Fin cfg0.N, win0_3.index t 0 = t.val / 11 % 8 ∧ win0_3.index t 1 = t.val % 11 := by decide +kernel
theorem index4 : ∀ t : Fin cfg0.N, win0_4.index t 0 = 0 ∧ win0_4.index t 1 = t.val / 11 % 8 ∧ win0_4.index t 2 = t.val % 11 := by decide +kernel

/-- Point `p`'s rows and columns of the result. -/
abbrev row (p : ℕ) (r : Fin 1024) : Fin 8192 := place 8 (by decide) (p / 11) r
abbrev col (p : ℕ) (s : Fin 512) : Fin 5632 := place 11 (by decide) p s

variable (m : (ℓ : Loc nD τ sig) → Buf (Elt Ideal) ℓ) (c : Dev nD)

/-- The four arguments as the run is launched with them, and the reference's result. -/
abbrev arg0 : FVec Ideal S8192x2048 .f32 := m ((c : Thread nD τ).loc main_arg0)
abbrev arg1 : FVec Ideal S5632x2048 .f32 := m ((c : Thread nD τ).loc main_arg1)
abbrev arg2 : FVec Ideal S8192x5632 .f32 := m ((c : Thread nD τ).loc main_arg2)
abbrev arg3 : FVec Ideal S8192x5632 .f32 := m ((c : Thread nD τ).loc main_arg3)
abbrev G : Buf (Elt Ideal) ((c : Thread nD τ).loc main_v4) := val_main_v10 (F := Ideal) (arg0 m c) (arg1 m c) (arg2 m c) (arg3 m c)

theorem V_0 : V m c main_v0 = truncf (F := Ideal) .bf16 (arg0 m c) bitsLt_bf16_f32 := by
  unfold V
  after_results_simp <;> rfl
theorem V_1 : V m c main_v1 = truncf (F := Ideal) .bf16 (arg1 m c) bitsLt_bf16_f32 := by
  unfold V
  after_results_simp <;> rfl
theorem V_2 : V m c main_v2 = truncf (F := Ideal) .bf16 (arg2 m c) bitsLt_bf16_f32 := by
  unfold V
  after_results_simp <;> rfl
theorem V_3 : V m c main_v3 = truncf (F := Ideal) .bf16 (arg3 m c) bitsLt_bf16_f32 := by
  unfold V
  after_results_simp <;> rfl

theorem x_at (t : Fin cfg0.N) (r : Fin 1024) (k : Fin 2048) : (iblk m c 0 t : Vec Ideal Sx .bf16) (ix2 r k) = arg0 m c (ix2 (row t.val r) k) := by
  unfold iblk
  rw [View.read_apply]
  refine Eq.trans (congrArg (V m c main_v0) (funext fun a => Fin.ext ?_)) (congrFun (V_0 m c) (ix2 (row t.val r) k))
  match a with
  | ⟨0, _⟩ => show win0_0.index t 0 * 1024 + 1 * r.val = 1024 * (t.val / 11 % 8) + r.val; rw [(index0 t).1]; omega
  | ⟨1, _⟩ => show win0_0.index t 1 * 2048 + 1 * k.val = k.val; rw [(index0 t).2]; omega

theorem y_at (t : Fin cfg0.N) (s : Fin 512) (k : Fin 2048) : (iblk m c 1 t : Vec Ideal Sy .bf16) (ix2 s k) = arg1 m c (ix2 (col t.val s) k) := by
  unfold iblk
  rw [View.read_apply]
  refine Eq.trans (congrArg (V m c main_v1) (funext fun a => Fin.ext ?_)) (congrFun (V_1 m c) (ix2 (col t.val s) k))
  match a with
  | ⟨0, _⟩ => show win0_1.index t 0 * 512 + 1 * s.val = 512 * (t.val % 11) + s.val; rw [(index1 t).1]; omega
  | ⟨1, _⟩ => show win0_1.index t 1 * 2048 + 1 * k.val = k.val; rw [(index1 t).2]; omega

theorem a_at (t : Fin cfg0.N) (r : Fin 1024) (s : Fin 512) : (iblk m c 2 t : Vec Ideal Sa .bf16) (ix2 r s) = arg2 m c (ix2 (row t.val r) (col t.val s)) := by
  unfold iblk
  rw [View.read_apply]
  refine Eq.trans (congrArg (V m c main_v2) (funext fun a => Fin.ext ?_)) (congrFun (V_2 m c) (ix2 (row t.val r) (col t.val s)))
  match a with
  | ⟨0, _⟩ => show win0_2.index t 0 * 1024 + 1 * r.val = 1024 * (t.val / 11 % 8) + r.val; rw [(index2 t).1]; omega
  | ⟨1, _⟩ => show win0_2.index t 1 * 512 + 1 * s.val = 512 * (t.val % 11) + s.val; rw [(index2 t).2]; omega

theorem b_at (t : Fin cfg0.N) (r : Fin 1024) (s : Fin 512) : (iblk m c 3 t : Vec Ideal Sa .bf16) (ix2 r s) = arg3 m c (ix2 (row t.val r) (col t.val s)) := by
  unfold iblk
  rw [View.read_apply]
  refine Eq.trans (congrArg (V m c main_v3) (funext fun a => Fin.ext ?_)) (congrFun (V_3 m c) (ix2 (row t.val r) (col t.val s)))
  match a with
  | ⟨0, _⟩ => show win0_3.index t 0 * 1024 + 1 * r.val = 1024 * (t.val / 11 % 8) + r.val; rw [(index3 t).1]; omega
  | ⟨1, _⟩ => show win0_3.index t 1 * 512 + 1 * s.val = 512 * (t.val % 11) + s.val; rw [(index3 t).2]; omega

/-! ## The reference at an entry, the block after its point, and the result array -/

section Reference

variable (x : FVec Ideal S8192x2048 .f32) (w : FVec Ideal S5632x2048 .f32) (a b : FVec Ideal S8192x5632 .f32) (i : Fin 8192) (j : Fin 5632)

theorem sum_at : val_main_v3 (F := Ideal) x w (ix2 i j) = ∑ k, x (ix2 i k) * w (ix2 j k) := by
  rw [val_main_v3_apply]
  refine Finset.sum_congr rfl fun k _ => ?_
  have e0 : lidx_main_v3 (ix2 i j) k = ix2 i k := eq_ix2 _
  have e1 : ridx_main_v3 (ix2 i j) k = ix2 j k := eq_ix2 _
  rw [e0, e1]

theorem sig_at (q : S8192x5632.Idx) : val_main_v0_2 (F := Ideal) a q = Ideal.logistic (a q) := by
  rw [val_main_v0_2_apply, val_main_call0_v4_apply, val_main_call0_cst_0_apply, val_main_call0_v3_apply, val_main_call0_v2_apply, val_main_call0_cst_apply,
    val_main_call0_v1_apply, val_main_call0_v0_apply]
  show Ideal.div (Ideal.ofBits .f32 0x3F800000#32) (Ideal.ofBits .f32 0x3F800000#32 + Ideal.exp (-(a q))) = _
  rw [Ideal.ofBits_one_f32]
  rfl

theorem da_at : val_main_v6 (F := Ideal) x w a b (ix2 i j) = gradA (∑ k, x (ix2 i k) * w (ix2 j k)) (a (ix2 i j)) (b (ix2 i j)) := by
  rw [val_main_v6_apply, val_main_call1_v1_apply, val_main_call1_v2_apply, val_main_call1_v0_apply, val_main_v5_apply, val_main_v0_1_apply, val_main_call0_v7_apply,
    val_main_call0_v6_apply, val_main_call0_cst_1_apply, sig_at, sum_at]
  show _ * _ * _ + _ * (_ * _) * (_ * (Ideal.ofBits .f32 0x3F800000#32 - _)) = _
  rw [Ideal.ofBits_one_f32]
  rfl

theorem db_at : val_main_v4 (F := Ideal) x w a (ix2 i j) = gradB (∑ k, x (ix2 i k) * w (ix2 j k)) (a (ix2 i j)) := by
  rw [val_main_v4_apply, val_main_v0_0_apply, sig_at, sum_at]
  rfl

theorem ref_at (u : Fin 2) : val_main_v10 (F := Ideal) x w a b (ix3 u i j)
    = grad u (∑ k, x (ix2 i k) * w (ix2 j k)) (a (ix2 i j)) (b (ix2 i j)) := by
  refine (val_main_v10_apply _ _ _ _ _).trans ?_
  show val_main_v9 (F := Ideal) x w a b (ix3 u i j) = _
  unfold val_main_v9 grad
  refine (cat_pair _ _ _ u i j).trans ?_
  have e7 : idx_main_v7 (ix3 0 i j) = ix2 i j := eq_ix2 _
  have e8 : idx_main_v8 (ix3 0 i j) = ix2 i j := eq_ix2 _
  rw [val_main_v7_apply, val_main_v8_apply, e7, e8, da_at, db_at]

end Reference

theorem flushed_eq (t : Fin cfg0.N) (hf : (cfg0.win 4).flush t = true) :
    (dats m 0 c).flushed 4 t = ((cfg0.win 4).blk t).view.read (Elt Ideal) (G m c) := by
  rw [flushed4]
  refine funext fun (y : Sz.Idx) => ?_
  obtain ⟨u, r, s, rfl⟩ : ∃ u r s, y = ix3 u r s := ⟨_, _, _, eq_ix3 y⟩
  refine (out_at (iblk m c 0 t) (iblk m c 1 t) (iblk m c 2 t) (iblk m c 3 t) r s u).trans (Eq.trans (congr (congr (congrArg (grad u)
    (Finset.sum_congr rfl fun k _ => congrArg₂ (fun u v : EReal => u * v) (x_at m c t r k) (y_at m c t s k))) (a_at m c t r s)) (b_at m c t r s)) ?_)
  refine (ref_at (arg0 m c) (arg1 m c) (arg2 m c) (arg3 m c) (row t.val r) (col t.val s) u).symm.trans ?_
  rw [View.read_apply]
  refine congrArg (G m c) (funext fun a => Fin.ext ?_)
  match a with
  | ⟨0, _⟩ => show u.val = win0_4.index t 0 * 2 + 1 * u.val; rw [(index4 t).1]; omega
  | ⟨1, _⟩ => show 1024 * (t.val / 11 % 8) + r.val = win0_4.index t 1 * 1024 + 1 * r.val; rw [(index4 t).2.1]; omega
  | ⟨2, _⟩ => show 512 * (t.val % 11) + s.val = win0_4.index t 2 * 512 + 1 * s.val; rw [(index4 t).2.2]; omega

theorem final : (dats m 0 c).arrAt 4 cfg0.N = G m c :=
  (dats m 0 c).arrAt_eq_of_cover 4 _ (flushed_eq m c) ((by decide +kernel : (cfg0.win 4).Covers).cover _ (Memref.isWhole_whole _))

end Cert.Ffn2GateGradIdeal.Hand

end
-- ==== Proof.Ffn1GateGradValue.lean ====
/- The gate of the first feed-forward block: its gradient, `dy · wᵀ` through `silu(a) · b`, in both of its arguments, stacked. The kernel's array after the run is the
   reference's. -/
module

public import proofs.«01_k».proof.Proof.Gate
public import proofs.«01_k».proof.Proof.Gen.Ffn1GateGradIdeal.Value
public import proofs.«01_k».proof.Proof.Gen.Ffn1GateGradRefIdeal.Read

@[expose] public section

noncomputable section

namespace Cert.Ffn1GateGradIdeal.Hand

open Ffn1GateGradIdeal Gen Value Cert.Prod Cert.Gate Ffn1GateGradRefIdeal.Read
open Idealize.ShloMosaic TcCoe Tactic ValueIdx
open Idealize.SL Sem

/-- The blocks: of the cotangent, of the weight, of the gate's two arguments, and of the result. -/
abbrev Sx : Shape := S768x2048
abbrev Sy : Shape := S512x2048
abbrev Sa : Shape := S768x512
abbrev Sz : Shape := S2x768x512

/-! ## One block's entries -/

section Point

variable (x : Vec Ideal Sx .bf16) (y : Vec Ideal Sy .bf16) (a b : Vec Ideal Sa .bf16) (r : Fin 768) (s : Fin 512)

theorem pay2_at : k0_pay2 (F := Ideal) x y (ix2 r s) = ∑ k : Fin 2048, x (ix2 r k) * y (ix2 s k) := by
  unfold k0_pay2
  rw [shapeCast_self, shapeCast_self]
  exact mm_nt (φ₁ := .bf16) (φ₂ := .bf16) dot_S768x2048_S512x2048_S768x512_1_1_0_0_n_n rfl rfl rfl rfl (fun _ _ => rfl) (fun _ _ => rfl) x y r s

theorem pay3_eq : k0_pay3 (F := Ideal) a = a := by
  unfold k0_pay3
  rw [shapeCast_self]
  rfl

theorem pay4_at (i : Sa.Idx) : k0_pay4 (F := Ideal) a i = Ideal.exp (0 - a i) := by
  unfold k0_pay4
  rw [pay3_eq]
  show Ideal.exp (Ideal.ofBits .f32 0x00000000#32 - a i) = _
  rw [Ideal.ofBits_zero_f32]

theorem pay5_at (i : Sa.Idx) : k0_pay5 (F := Ideal) a i = 1 + Ideal.exp (0 - a i) := by
  unfold k0_pay5
  show Ideal.ofBits .f32 0x3F800000#32 + k0_pay4 (F := Ideal) a i = _
  rw [Ideal.ofBits_one_f32, pay4_at]

theorem pay6_at (i : Sa.Idx) : k0_pay6 (F := Ideal) a i = Ideal.logistic (a i) := by
  unfold k0_pay6
  show Ideal.div (Ideal.ofBits .f32 0x3F800000#32) (k0_pay5 (F := Ideal) a i) = _
  rw [Ideal.ofBits_one_f32, pay5_at, logistic_sub]

theorem pay7_at (i : Sa.Idx) : k0_pay7 (F := Ideal) x y a i = gradB (k0_pay2 (F := Ideal) x y i) (a i) := by
  unfold k0_pay7
  show k0_pay3 (F := Ideal) a i * k0_pay6 (F := Ideal) a i * k0_pay2 (F := Ideal) x y i = _
  rw [pay3_eq, pay6_at, gradB]

theorem pay8_at : k0_pay8 (F := Ideal) x y a b (ix3 0 r s) = gradA (k0_pay2 (F := Ideal) x y (ix2 r s)) (a (ix2 r s)) (b (ix2 r s)) := by
  unfold k0_pay8
  refine (add_unit _ _ r s).trans ?_
  rw [shapeCast_self]
  show k0_pay2 (F := Ideal) x y (ix2 r s) * b (ix2 r s) * k0_pay6 (F := Ideal) a (ix2 r s)
    + (Ideal.ofBits .f32 0x00000000#32 - (Ideal.ofBits .f32 0x00000000#32 - k0_pay3 (F := Ideal) a (ix2 r s) * (k0_pay2 (F := Ideal) x y (ix2 r s) * b (ix2 r s))
      * Ideal.div (Ideal.ofBits .f32 0x3F800000#32) (k0_pay5 (F := Ideal) a (ix2 r s) * k0_pay5 (F := Ideal) a (ix2 r s)) * Ideal.ofBits .f32 0x3F800000#32)
      * k0_pay4 (F := Ideal) a (ix2 r s)) = _
  rw [Ideal.ofBits_zero_f32, Ideal.ofBits_one_f32, pay3_eq, pay4_at, pay5_at, pay6_at, slope, gradA]

/-- The block after a point: slab 0 the gradient in `a`, slab 1 the gradient in `b`. -/
theorem out_at (c : Dev nD) (i : grid0.Coords) (a2 : Memref sig .tc .vmem Sx .bf16) (h2 : a2.IsWhole) (a3 : Memref sig .tc .vmem Sy .bf16) (h3 : a3.IsWhole)
    (a4 : Memref sig .tc .vmem Sa .bf16) (h4 : a4.IsWhole) (a5 : Memref sig .tc .vmem Sa .bf16) (h5 : a5.IsWhole) (a7 : Memref sig .tc .vmem Sz .bf16) (h7 : a7.IsWhole)
    (u : Fin 2) : out0_A_4 (F := Ideal) c i a2 h2 a3 h3 a4 h4 a5 h5 a7 h7 x y a b (ix3 u r s)
    = grad u (∑ k : Fin 2048, x (ix2 r k) * y (ix2 s k)) (a (ix2 r s)) (b (ix2 r s)) := by
  unfold out0_A_4 grad
  rw [View.read_writes_eq_canon _ _ _ (cover0_A_4 c i a2 h2 a3 h3 a4 h4 a5 h5 a7 h7 x y a b)]
  unfold kernelRun0_A
  dsimp only
  sl_unfold_words
  refine (two_slabs _ _ _ _ u r s).trans ?_
  simp only [View.readAt_eq_ld, h2.read_unread, h3.read_unread, h4.read_unread, h5.read_unread]
  rw [View.ld_unit_zero (S := Sx) off2, View.ld_unit_zero (S := Sy) off2, View.ld_unit_zero (S := Sa) off2, View.ld_unit_zero (S := Sa) off2, pay8_at, pay2_at]
  refine congrArg (fun v : EReal => if u = 0 then _ else v) ?_
  unfold k0_pay1
  refine (add_unit _ _ r s).trans ?_
  show k0_pay7 (F := Ideal) x y a (ix2 r s) = _
  rw [pay7_at, pay2_at]

end Point

/-! ## The blocks -/

theorem index0 : ∀ t : Fin cfg0.N, win0_0.index t 0 = t.val / 11 % 11 ∧ win0_0.index t 1 = 0 := by decide +kernel
theorem index1 : ∀ t : Fin cfg0.N, win0_1.index t 0 = t.val % 11 ∧ win0_1.index t 1 = 0 := by decide +kernel
theorem index2 : ∀ t : Fin cfg0.N, win0_2.index t 0 = t.val / 11 % 11 ∧ win0_2.index t 1 = t.val % 11 := by decide +kernel
theorem index3 : ∀ t : Fin cfg0.N, win0_3.index t 0 = t.val / 11 % 11 ∧ win0_3.index t 1 = t.val % 11 := by decide +kernel
theorem index4 : ∀ t : Fin cfg0.N, win0_4.index t 0 = 0 ∧ win0_4.index t 1 = t.val / 11 % 11 ∧ win0_4.index t 2 = t.val % 11 := by decide +kernel

/-- Point `p`'s rows and columns of the result. -/
abbrev row (p : ℕ) (r : Fin 768) : Fin 8448 := place 11 (by decide) (p / 11) r
abbrev col (p : ℕ) (s : Fin 512) : Fin 5632 := place 11 (by decide) p s

variable (m : (ℓ : Loc nD τ sig) → Buf (Elt Ideal) ℓ) (c : Dev nD)

/-- The four arguments as the run is launched with them, and the reference's result. -/
abbrev arg0 : FVec Ideal S8448x2048 .f32 := m ((c : Thread nD τ).loc main_arg0)
abbrev arg1 : FVec Ideal S5632x2048 .f32 := m ((c : Thread nD τ).loc main_arg1)
abbrev arg2 : FVec Ideal S8448x5632 .f32 := m ((c : Thread nD τ).loc main_arg2)
abbrev arg3 : FVec Ideal S8448x5632 .f32 := m ((c : Thread nD τ).loc main_arg3)
abbrev G : Buf (Elt Ideal) ((c : Thread nD τ).loc main_v5) := val_main_v10 (F := Ideal) (arg0 m c) (arg1 m c) (arg2 m c) (arg3 m c)

theorem V_0 : V m c main_v1 = truncf (F := Ideal) .bf16 (arg0 m c) bitsLt_bf16_f32 := by
  unfold V
  after_results_simp <;> rfl
theorem V_1 : V m c main_v2 = truncf (F := Ideal) .bf16 (arg1 m c) bitsLt_bf16_f32 := by
  unfold V
  after_results_simp <;> rfl
theorem V_2 : V m c main_v3 = truncf (F := Ideal) .bf16 (arg2 m c) bitsLt_bf16_f32 := by
  unfold V
  after_results_simp <;> rfl
theorem V_3 : V m c main_v4 = truncf (F := Ideal) .bf16 (arg3 m c) bitsLt_bf16_f32 := by
  unfold V
  after_results_simp <;> rfl

theorem x_at (t : Fin cfg0.N) (r : Fin 768) (k : Fin 2048) : (iblk m c 0 t : Vec Ideal Sx .bf16) (ix2 r k) = arg0 m c (ix2 (row t.val r) k) := by
  unfold iblk
  rw [View.read_apply]
  refine Eq.trans (congrArg (V m c main_v1) (funext fun a => Fin.ext ?_)) (congrFun (V_0 m c) (ix2 (row t.val r) k))
  match a with
  | ⟨0, _⟩ => show win0_0.index t 0 * 768 + 1 * r.val = 768 * (t.val / 11 % 11) + r.val; rw [(index0 t).1]; omega
  | ⟨1, _⟩ => show win0_0.index t 1 * 2048 + 1 * k.val = k.val; rw [(index0 t).2]; omega

theorem y_at (t : Fin cfg0.N) (s : Fin 512) (k : Fin 2048) : (iblk m c 1 t : Vec Ideal Sy .bf16) (ix2 s k) = arg1 m c (ix2 (col t.val s) k) := by
  unfold iblk
  rw [View.read_apply]
  refine Eq.trans (congrArg (V m c main_v2) (funext fun a => Fin.ext ?_)) (congrFun (V_1 m c) (ix2 (col t.val s) k))
  match a with
  | ⟨0, _⟩ => show win0_1.index t 0 * 512 + 1 * s.val = 512 * (t.val % 11) + s.val; rw [(index1 t).1]; omega
  | ⟨1, _⟩ => show win0_1.index t 1 * 2048 + 1 * k.val = k.val; rw [(index1 t).2]; omega

theorem a_at (t : Fin cfg0.N) (r : Fin 768) (s : Fin 512) : (iblk m c 2 t : Vec Ideal Sa .bf16) (ix2 r s) = arg2 m c (ix2 (row t.val r) (col t.val s)) := by
  unfold iblk
  rw [View.read_apply]
  refine Eq.trans (congrArg (V m c main_v3) (funext fun a => Fin.ext ?_)) (congrFun (V_2 m c) (ix2 (row t.val r) (col t.val s)))
  match a with
  | ⟨0, _⟩ => show win0_2.index t 0 * 768 + 1 * r.val = 768 * (t.val / 11 % 11) + r.val; rw [(index2 t).1]; omega
  | ⟨1, _⟩ => show win0_2.index t 1 * 512 + 1 * s.val = 512 * (t.val % 11) + s.val; rw [(index2 t).2]; omega

theorem b_at (t : Fin cfg0.N) (r : Fin 768) (s : Fin 512) : (iblk m c 3 t : Vec Ideal Sa .bf16) (ix2 r s) = arg3 m c (ix2 (row t.val r) (col t.val s)) := by
  unfold iblk
  rw [View.read_apply]
  refine Eq.trans (congrArg (V m c main_v4) (funext fun a => Fin.ext ?_)) (congrFun (V_3 m c) (ix2 (row t.val r) (col t.val s)))
  match a with
  | ⟨0, _⟩ => show win0_3.index t 0 * 768 + 1 * r.val = 768 * (t.val / 11 % 11) + r.val; rw [(index3 t).1]; omega
  | ⟨1, _⟩ => show win0_3.index t 1 * 512 + 1 * s.val = 512 * (t.val % 11) + s.val; rw [(index3 t).2]; omega

/-! ## The reference at an entry, the block after its point, and the result array -/

section Reference

variable (x : FVec Ideal S8448x2048 .f32) (w : FVec Ideal S5632x2048 .f32) (a b : FVec Ideal S8448x5632 .f32) (i : Fin 8448) (j : Fin 5632)

theorem sum_at : val_main_v3 (F := Ideal) x w (ix2 i j) = ∑ k, x (ix2 i k) * w (ix2 j k) := by
  rw [val_main_v3_apply]
  refine Finset.sum_congr rfl fun k _ => ?_
  have e0 : lidx_main_v3 (ix2 i j) k = ix2 i k := eq_ix2 _
  have e1 : ridx_main_v3 (ix2 i j) k = ix2 j k := eq_ix2 _
  rw [e0, e1]

theorem sig_at (q : S8448x5632.Idx) : val_main_v0_2 (F := Ideal) a q = Ideal.logistic (a q) := by
  rw [val_main_v0_2_apply, val_main_call0_v4_apply, val_main_call0_cst_0_apply, val_main_call0_v3_apply, val_main_call0_v2_apply, val_main_call0_cst_apply,
    val_main_call0_v1_apply, val_main_call0_v0_apply]
  show Ideal.div (Ideal.ofBits .f32 0x3F800000#32) (Ideal.ofBits .f32 0x3F800000#32 + Ideal.exp (-(a q))) = _
  rw [Ideal.ofBits_one_f32]
  rfl

theorem da_at : val_main_v6 (F := Ideal) x w a b (ix2 i j) = gradA (∑ k, x (ix2 i k) * w (ix2 j k)) (a (ix2 i j)) (b (ix2 i j)) := by
  rw [val_main_v6_apply, val_main_call1_v1_apply, val_main_call1_v2_apply, val_main_call1_v0_apply, val_main_v5_apply, val_main_v0_1_apply, val_main_call0_v7_apply,
    val_main_call0_v6_apply, val_main_call0_cst_1_apply, sig_at, sum_at]
  show _ * _ * _ + _ * (_ * _) * (_ * (Ideal.ofBits .f32 0x3F800000#32 - _)) = _
  rw [Ideal.ofBits_one_f32]
  rfl

theorem db_at : val_main_v4 (F := Ideal) x w a (ix2 i j) = gradB (∑ k, x (ix2 i k) * w (ix2 j k)) (a (ix2 i j)) := by
  rw [val_main_v4_apply, val_main_v0_0_apply, sig_at, sum_at]
  rfl

theorem ref_at (u : Fin 2) : val_main_v10 (F := Ideal) x w a b (ix3 u i j)
    = grad u (∑ k, x (ix2 i k) * w (ix2 j k)) (a (ix2 i j)) (b (ix2 i j)) := by
  refine (val_main_v10_apply _ _ _ _ _).trans ?_
  show val_main_v9 (F := Ideal) x w a b (ix3 u i j) = _
  unfold val_main_v9 grad
  refine (cat_pair _ _ _ u i j).trans ?_
  have e7 : idx_main_v7 (ix3 0 i j) = ix2 i j := eq_ix2 _
  have e8 : idx_main_v8 (ix3 0 i j) = ix2 i j := eq_ix2 _
  rw [val_main_v7_apply, val_main_v8_apply, e7, e8, da_at, db_at]

end Reference

theorem flushed_eq (t : Fin cfg0.N) (hf : (cfg0.win 4).flush t = true) :
    (dats m 0 c).flushed 4 t = ((cfg0.win 4).blk t).view.read (Elt Ideal) (G m c) := by
  rw [flushed4_A]
  refine funext fun (y : Sz.Idx) => ?_
  obtain ⟨u, r, s, rfl⟩ : ∃ u r s, y = ix3 u r s := ⟨_, _, _, eq_ix3 y⟩
  refine (out_at (iblk m c 0 t) (iblk m c 1 t) (iblk m c 2 t) (iblk m c 3 t) r s c (grid0.coords t) (ms0_0 t) (hs0_0 t) (ms0_1 t) (hs0_1 t) (ms0_2 t) (hs0_2 t) (ms0_3 t) (hs0_3 t) (ms0_4 t) (hs0_4 t) u).trans (Eq.trans (congr (congr (congrArg (grad u)
    (Finset.sum_congr rfl fun k _ => congrArg₂ (fun u v : EReal => u * v) (x_at m c t r k) (y_at m c t s k))) (a_at m c t r s)) (b_at m c t r s)) ?_)
  refine (ref_at (arg0 m c) (arg1 m c) (arg2 m c) (arg3 m c) (row t.val r) (col t.val s) u).symm.trans ?_
  rw [View.read_apply]
  refine congrArg (G m c) (funext fun a => Fin.ext ?_)
  match a with
  | ⟨0, _⟩ => show u.val = win0_4.index t 0 * 2 + 1 * u.val; rw [(index4 t).1]; omega
  | ⟨1, _⟩ => show 768 * (t.val / 11 % 11) + r.val = win0_4.index t 1 * 768 + 1 * r.val; rw [(index4 t).2.1]; omega
  | ⟨2, _⟩ => show 512 * (t.val % 11) + s.val = win0_4.index t 2 * 512 + 1 * s.val; rw [(index4 t).2.2]; omega

theorem final : (dats m 0 c).arrAt 4 cfg0.N = G m c :=
  (dats m 0 c).arrAt_eq_of_cover 4 _ (flushed_eq m c) ((by decide +kernel : (cfg0.win 4).Covers).cover _ (Memref.isWhole_whole _))

end Cert.Ffn1GateGradIdeal.Hand

end
-- ==== Proof.Ffn2InValue.lean ====
/- The gate of the second feed-forward block: `a = x · w₁` and `b = x · w₂`, the two halves of one weight, and `silu(a) · b`. The kernel's three arrays after the run
   are the reference's. -/
module

public import proofs.«01_k».proof.Proof.Gate
public import proofs.«01_k».proof.Proof.Gen.Ffn2InIdeal.Value
public import proofs.«01_k».proof.Proof.Gen.Ffn2InRefIdeal.Read

@[expose] public section

noncomputable section

namespace Cert.Ffn2InIdeal.Hand

open Ffn2InIdeal Gen Value Cert.Prod Cert.Gate Ffn2InRefIdeal.Read
open Idealize.ShloMosaic TcCoe Tactic ValueIdx
open Idealize.SL Sem

/-- The blocks: of the left array, of the weight, and of the results. -/
abbrev Sx : Shape := S1024x2048
abbrev Sy : Shape := S2048x512
abbrev Sz : Shape := S1024x512

/-! ## What a point writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sy .bf16) (h5 : a5.IsWhole)
  (a6 : Memref sig .tc .vmem Sz .bf16) (h6 : a6.IsWhole) (a7 : Memref sig .tc .vmem Sz .bf16) (h7 : a7.IsWhole) (a8 : Memref sig .tc .vmem Sz .bf16) (h8 : a8.IsWhole)
  (a9 : Memref sig .tc .vmem Sz .f32) (h9 : a9.IsWhole) (a10 : Memref sig .tc .vmem Sz .f32) (h10 : a10.IsWhole) (k0 : cond0_0 i) (k1 : cond0_1 i)
  (x : Vec F Sx .bf16) (y z : Vec F Sy .bf16)

theorem out_3 : out0_A_3 c i a3 h3 a4 h4 a5 h5 a6 h6 a7 h7 a8 h8 a9 h9 a10 h10 k0 k1 x y z
    = k0_pay6 (k0_pay4 x (k0_pay1 (F := F)) y) (k0_pay5 x (k0_pay2 (F := F)) z) := by
  unfold out0_A_3
  rw [View.read_writes_eq_canon _ _ _ (cover0_A_3 c i a3 h3 a4 h4 a5 h5 a6 h6 a7 h7 a8 h8 a9 h9 a10 h10 k0 k1 x y z)]
  unfold kernelRun0_A
  dsimp only
  sl_unfold_words
  rw [View.canon_unit_zero (S := Sz) off2]
  simp only [View.readCov_cons_toLoadRect, View.readAt_eq_ld, h3.read_unread, h4.read_unread, h5.read_unread, View.ld_unit_zero (S := Sx) off2, View.ld_unit_zero (S := Sy) off2]

theorem out_4 : out0_A_4 c i a3 h3 a4 h4 a5 h5 a6 h6 a7 h7 a8 h8 a9 h9 a10 h10 k0 k1 x y z = k0_pay7 (k0_pay4 x (k0_pay1 (F := F)) y) := by
  unfold out0_A_4
  rw [View.read_writes_eq_canon _ _ _ (cover0_A_4 c i a3 h3 a4 h4 a5 h5 a6 h6 a7 h7 a8 h8 a9 h9 a10 h10 k0 k1 x y z)]
  unfold kernelRun0_A
  dsimp only
  sl_unfold_words
  rw [View.canon_unit_zero (S := Sz) off2]
  simp only [View.readCov_cons_toLoadRect, View.readAt_eq_ld, h3.read_unread, h4.read_unread, View.ld_unit_zero (S := Sx) off2, View.ld_unit_zero (S := Sy) off2]

theorem out_5 : out0_A_5 c i a3 h3 a4 h4 a5 h5 a6 h6 a7 h7 a8 h8 a9 h9 a10 h10 k0 k1 x y z = k0_pay8 (k0_pay5 x (k0_pay2 (F := F)) z) := by
  unfold out0_A_5
  rw [View.read_writes_eq_canon _ _ _ (cover0_A_5 c i a3 h3 a4 h4 a5 h5 a6 h6 a7 h7 a8 h8 a9 h9 a10 h10 k0 k1 x y z)]
  unfold kernelRun0_A
  dsimp only
  sl_unfold_words
  rw [View.canon_unit_zero (S := Sz) off2]
  simp only [View.readCov_cons_toLoadRect, View.readAt_eq_ld, h3.read_unread, h5.read_unread, View.ld_unit_zero (S := Sx) off2, View.ld_unit_zero (S := Sy) off2]

end Point

section Entries

variable (x : Vec Ideal Sx .bf16) (y : Vec Ideal Sy .bf16) (r : Fin 1024) (s : Fin 512)

theorem pay1_at (i : Sz.Idx) : k0_pay1 (F := Ideal) i = 0 := by
  unfold k0_pay1
  rw [shapeCast_self]
  exact Ideal.ofBits_zero_f32

theorem pay2_at (i : Sz.Idx) : k0_pay2 (F := Ideal) i = 0 := by
  unfold k0_pay2
  rw [shapeCast_self]
  exact Ideal.ofBits_zero_f32

theorem pay4_at : k0_pay4 (F := Ideal) x (k0_pay1 (F := Ideal)) y (ix2 r s) = ∑ k : Fin 2048, x (ix2 r k) * y (ix2 k s) := by
  unfold k0_pay4 k0_pay3
  rw [shapeCast_self, shapeCast_self, shapeCast_self]
  refine Eq.trans (congrArg₂ (fun u v : EReal => u + v) (pay1_at (ix2 r s)) (mm_nn (φ₁ := .bf16) (φ₂ := .bf16) dot_S1024x2048_S2048x512_S1024x512_1_0_0_1_n_n rfl rfl rfl rfl
    (fun _ _ => rfl) (fun _ _ => rfl) x y r s)) (zero_add _)

theorem pay5_at : k0_pay5 (F := Ideal) x (k0_pay2 (F := Ideal)) y (ix2 r s) = ∑ k : Fin 2048, x (ix2 r k) * y (ix2 k s) := by
  unfold k0_pay5 k0_pay3
  rw [shapeCast_self, shapeCast_self, shapeCast_self]
  refine Eq.trans (congrArg₂ (fun u v : EReal => u + v) (pay2_at (ix2 r s)) (mm_nn (φ₁ := .bf16) (φ₂ := .bf16) dot_S1024x2048_S2048x512_S1024x512_1_0_0_1_n_n rfl rfl rfl rfl
    (fun _ _ => rfl) (fun _ _ => rfl) x y r s)) (zero_add _)

theorem pay6_at (a b : Vec Ideal Sz .f32) (i : Sz.Idx) : k0_pay6 (F := Ideal) a b i = act (a i) (b i) := by
  unfold k0_pay6
  show a i * Ideal.div (Ideal.ofBits .f32 0x3F800000#32) (Ideal.ofBits .f32 0x3F800000#32 + Ideal.exp (Ideal.ofBits .f32 0x00000000#32 - a i)) * b i = _
  rw [Ideal.ofBits_zero_f32, Ideal.ofBits_one_f32, logistic_sub, act]

end Entries

/-! ## The blocks -/

theorem index0 : ∀ t : Fin cfg0.N, win0_0.index t 0 = t.val / 11 % 8 ∧ win0_0.index t 1 = 0 := by decide +kernel
theorem index1 : ∀ t : Fin cfg0.N, win0_1.index t 0 = 0 ∧ win0_1.index t 1 = t.val % 11 := by decide +kernel
theorem index2 : ∀ t : Fin cfg0.N, win0_2.index t 0 = 0 ∧ win0_2.index t 1 = t.val % 11 + 11 := by decide +kernel
theorem index3 : ∀ t : Fin cfg0.N, win0_3.index t 0 = t.val / 11 % 8 ∧ win0_3.index t 1 = t.val % 11 := by decide +kernel
theorem index4 : ∀ t : Fin cfg0.N, win0_4.index t 0 = t.val / 11 % 8 ∧ win0_4.index t 1 = t.val % 11 := by decide +kernel
theorem index5 : ∀ t : Fin cfg0.N, win0_5.index t 0 = t.val / 11 % 8 ∧ win0_5.index t 1 = t.val % 11 := by decide +kernel

/-- Point `p`'s rows and columns of the results, and a column's place in each half of the weight. -/
abbrev row (p : ℕ) (r : Fin 1024) : Fin 8192 := place 8 (by decide) (p / 11) r
abbrev col (p : ℕ) (s : Fin 512) : Fin 5632 := place 11 (by decide) p s
def left (j : Fin 5632) : Fin 11264 := ⟨j.val, by omega⟩
def right (j : Fin 5632) : Fin 11264 := ⟨5632 + j.val, by omega⟩

variable (m : (ℓ : Loc nD τ sig) → Buf (Elt Ideal) ℓ) (c : Dev nD)

/-- The two arguments as the run is launched with them, and the reference's three results. -/
abbrev arg0 : FVec Ideal S8192x2048 .f32 := m ((c : Thread nD τ).loc main_arg0)
abbrev arg1 : FVec Ideal S2048x11264 .f32 := m ((c : Thread nD τ).loc main_arg1)
abbrev G3 : Buf (Elt Ideal) ((c : Thread nD τ).loc main_v2_0) := val_main_v5 (F := Ideal) (arg0 m c) (arg1 m c)
abbrev G4 : Buf (Elt Ideal) ((c : Thread nD τ).loc main_v2_1) := val_main_v6 (F := Ideal) (arg0 m c) (arg1 m c)
abbrev G5 : Buf (Elt Ideal) ((c : Thread nD τ).loc main_v2_2) := val_main_v7 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1024) (k : Fin 2048) : (iblk m c 0 t : Vec Ideal Sx .bf16) (ix2 r k) = arg0 m c (ix2 (row t.val r) k) := by
  unfold iblk
  rw [View.read_apply]
  refine Eq.trans (congrArg (V m c main_v0) (funext fun a => Fin.ext ?_)) (congrFun (V_x m c) (ix2 (row t.val r) k))
  match a with
  | ⟨0, _⟩ => show win0_0.index t 0 * 1024 + 1 * r.val = 1024 * (t.val / 11 % 8) + r.val; rw [(index0 t).1]; omega
  | ⟨1, _⟩ => show win0_0.index t 1 * 2048 + 1 * k.val = k.val; rw [(index0 t).2]; omega

theorem y_at (t : Fin cfg0.N) (s : Fin 512) (k : Fin 2048) : (iblk m c 1 t : Vec Ideal Sy .bf16) (ix2 k s) = arg1 m c (ix2 k (left (col t.val s))) := by
  unfold iblk
  rw [View.read_apply]
  refine Eq.trans (congrArg (V m c main_v1) (funext fun a => Fin.ext ?_)) (congrFun (V_y m c) (ix2 k (left (col t.val s))))
  match a with
  | ⟨0, _⟩ => show win0_1.index t 0 * 2048 + 1 * k.val = k.val; rw [(index1 t).1]; omega
  | ⟨1, _⟩ => show win0_1.index t 1 * 512 + 1 * s.val = 512 * (t.val % 11) + s.val; rw [(index1 t).2]; omega

theorem z_at (t : Fin cfg0.N) (s : Fin 512) (k : Fin 2048) : (iblk m c 2 t : Vec Ideal Sy .bf16) (ix2 k s) = arg1 m c (ix2 k (right (col t.val s))) := by
  unfold iblk
  rw [View.read_apply]
  refine Eq.trans (congrArg (V m c main_v1) (funext fun a => Fin.ext ?_)) (congrFun (V_y m c) (ix2 k (right (col t.val s))))
  match a with
  | ⟨0, _⟩ => show win0_2.index t 0 * 2048 + 1 * k.val = k.val; rw [(index2 t).1]; omega
  | ⟨1, _⟩ => show win0_2.index t 1 * 512 + 1 * s.val = 5632 + (512 * (t.val % 11) + s.val); rw [(index2 t).2]; omega

/-! ## The reference at an entry -/

/-- The two products at an entry. -/
def U (i : Fin 8192) (j : Fin 5632) : EReal := ∑ k, arg0 m c (ix2 i k) * arg1 m c (ix2 k (left j))
def W (i : Fin 8192) (j : Fin 5632) : EReal := ∑ k, arg0 m c (ix2 i k) * arg1 m c (ix2 k (right j))

theorem u_at (t : Fin cfg0.N) (r : Fin 1024) (s : Fin 512) : k0_pay4 (F := Ideal) (iblk m c 0 t) (k0_pay1 (F := Ideal)) (iblk m c 1 t) (ix2 r s) = U m c (row t.val r) (col t.val s) :=
  (pay4_at _ _ r s).trans (Finset.sum_congr rfl fun k _ => congrArg₂ (fun u v : EReal => u * v) (x_at m c t r k) (y_at m c t s k))
theorem w_at (t : Fin cfg0.N) (r : Fin 1024) (s : Fin 512) : k0_pay5 (F := Ideal) (iblk m c 0 t) (k0_pay2 (F := Ideal)) (iblk m c 2 t) (ix2 r s) = W m c (row t.val r) (col t.val s) :=
  (pay5_at _ _ r s).trans (Finset.sum_congr rfl fun k _ => congrArg₂ (fun u v : EReal => u * v) (x_at m c t r k) (z_at m c t s k))

section Reference

variable (i : Fin 8192) (j : Fin 5632)

theorem sum_at (q : Fin 11264) : val_main_v0 (F := Ideal) (arg0 m c) (arg1 m c) (ix2 i q) = ∑ k, arg0 m c (ix2 i k) * arg1 m c (ix2 k q) := by
  rw [val_main_v0_apply]
  refine Finset.sum_congr rfl fun k _ => ?_
  have e0 : lidx_main_v0 (ix2 i q) k = ix2 i k := eq_ix2 _
  have e1 : ridx_main_v0 (ix2 i q) k = ix2 k q := eq_ix2 _
  rw [e0, e1]

theorem refU : val_main_v1 (F := Ideal) (arg0 m c) (arg1 m c) (ix2 i j) = U m c i j := by
  rw [val_main_v1_apply]
  refine Eq.trans (congrArg _ (funext fun a => Fin.ext ?_)) (sum_at m c i (left j))
  match a with
  | ⟨0, _⟩ => first | rfl | exact Nat.zero_add _
  | ⟨1, _⟩ => first | rfl | exact Nat.zero_add _

theorem refW : val_main_v2 (F := Ideal) (arg0 m c) (arg1 m c) (ix2 i j) = W m c i j := by
  rw [val_main_v2_apply]
  refine Eq.trans (congrArg _ (funext fun a => Fin.ext ?_)) (sum_at m c i (right j))
  match a with
  | ⟨0, _⟩ => first | rfl | exact Nat.zero_add _
  | ⟨1, _⟩ => first | rfl | exact Nat.add_comm _ _

theorem ref4 : val_main_v6 (F := Ideal) (arg0 m c) (arg1 m c) (ix2 i j) = U m c i j := (val_main_v6_apply _ _ _).trans (refU m c i j)
theorem ref5 : val_main_v7 (F := Ideal) (arg0 m c) (arg1 m c) (ix2 i j) = W m c i j := (val_main_v7_apply _ _ _).trans (refW m c i j)

theorem ref3 : val_main_v5 (F := Ideal) (arg0 m c) (arg1 m c) (ix2 i j) = act (U m c i j) (W m c i j) := by
  refine (val_main_v5_apply _ _ _).trans ?_
  show val_main_v4 (F := Ideal) (arg0 m c) (arg1 m c) (ix2 i j) = _
  rw [val_main_v4_apply, val_main_v3_apply, val_main_call0_v5_apply, val_main_call0_v4_apply, val_main_call0_cst_0_apply, val_main_call0_v3_apply, val_main_call0_v2_apply,
    val_main_call0_cst_apply, val_main_call0_v1_apply, val_main_call0_v0_apply, refU, refW]
  show U m c i j * Ideal.div (Ideal.ofBits .f32 0x3F800000#32) (Ideal.ofBits .f32 0x3F800000#32 + Ideal.exp (-(U m c i j))) * W m c i j = _
  rw [Ideal.ofBits_one_f32]
  rfl

end Reference

/-! ## What a point writes back, and the result arrays -/

theorem flushed3_eq (t : Fin cfg0.N) (hf : (cfg0.win 3).flush t = true) :
    (dats m 0 c).flushed 3 t = ((cfg0.win 3).blk t).view.read (Elt Ideal) (G3 m c) := by
  rw [flushed3_A, out_3]
  refine funext fun (y : Sz.Idx) => ?_
  obtain ⟨r, s, rfl⟩ : ∃ r s, y = ix2 r s := ⟨_, _, eq_ix2 y⟩
  refine Eq.trans ((pay6_at _ _ _).trans (congrArg₂ act (u_at m c t r s) (w_at m c t r s))) ((ref3 m c (row t.val r) (col t.val s)).symm.trans ?_)
  rw [View.read_apply]
  refine congrArg (G3 m c) (funext fun a => Fin.ext ?_)
  match a with
  | ⟨0, _⟩ => show 1024 * (t.val / 11 % 8) + r.val = win0_3.index t 0 * 1024 + 1 * r.val; rw [(index3 t).1]; omega
  | ⟨1, _⟩ => show 512 * (t.val % 11) + s.val = win0_3.index t 1 * 512 + 1 * s.val; rw [(index3 t).2]; omega

theorem flushed4_eq (t : Fin cfg0.N) (hf : (cfg0.win 4).flush t = true) :
    (dats m 0 c).flushed 4 t = ((cfg0.win 4).blk t).view.read (Elt Ideal) (G4 m c) := by
  rw [flushed4_A, out_4]
  refine funext fun (y : Sz.Idx) => ?_
  obtain ⟨r, s, rfl⟩ : ∃ r s, y = ix2 r s := ⟨_, _, eq_ix2 y⟩
  refine Eq.trans (u_at m c t r s) ((ref4 m c (row t.val r) (col t.val s)).symm.trans ?_)
  rw [View.read_apply]
  refine congrArg (G4 m c) (funext fun a => Fin.ext ?_)
  match a with
  | ⟨0, _⟩ => show 1024 * (t.val / 11 % 8) + r.val = win0_4.index t 0 * 1024 + 1 * r.val; rw [(index4 t).1]; omega
  | ⟨1, _⟩ => show 512 * (t.val % 11) + s.val = win0_4.index t 1 * 512 + 1 * s.val; rw [(index4 t).2]; omega

theorem flushed5_eq (t : Fin cfg0.N) (hf : (cfg0.win 5).flush t = true) :
    (dats m 0 c).flushed 5 t = ((cfg0.win 5).blk t).view.read (Elt Ideal) (G5 m c) := by
  rw [flushed5_A, out_5]
  refine funext fun (y : Sz.Idx) => ?_
  obtain ⟨r, s, rfl⟩ : ∃ r s, y = ix2 r s := ⟨_, _, eq_ix2 y⟩
  refine Eq.trans (w_at m c t r s) ((ref5 m c (row t.val r) (col t.val s)).symm.trans ?_)
  rw [View.read_apply]
  refine congrArg (G5 m c) (funext fun a => Fin.ext ?_)
  match a with
  | ⟨0, _⟩ => show 1024 * (t.val / 11 % 8) + r.val = win0_5.index t 0 * 1024 + 1 * r.val; rw [(index5 t).1]; omega
  | ⟨1, _⟩ => show 512 * (t.val % 11) + s.val = win0_5.index t 1 * 512 + 1 * s.val; rw [(index5 t).2]; omega

/-- The point whose block holds an entry. -/
theorem point (i : Fin 8192) (j : Fin 5632) : ∃ t : Fin cfg0.N, t.val = i.val / 1024 * 11 + j.val / 512 :=
  ⟨⟨_, lt_of_lt_of_eq (by omega) N_0.symm⟩, rfl⟩

theorem final3 : (dats m 0 c).arrAt 3 cfg0.N = G3 m c :=
  (dats m 0 c).arrAt_eq_of_cover 3 _ (flushed3_eq m c) ((by decide +kernel : (cfg0.win 3).Covers).cover _ (Memref.isWhole_whole _))

theorem final4 : (dats m 0 c).arrAt 4 cfg0.N = G4 m c :=
  (dats m 0 c).arrAt_eq_of_cover 4 _ (flushed4_eq m c) ((by decide +kernel : (cfg0.win 4).Covers).cover _ (Memref.isWhole_whole _))

theorem final5 : (dats m 0 c).arrAt 5 cfg0.N = G5 m c :=
  (dats m 0 c).arrAt_eq_of_cover 5 _ (flushed5_eq m c) ((by decide +kernel : (cfg0.win 5).Covers).cover _ (Memref.isWhole_whole _))

end Cert.Ffn2InIdeal.Hand

end
-- ==== Proof.Ffn1InValue.lean ====
/- The gate of the first feed-forward block: `a = x · w₁` and `b = x · w₂`, the two halves of one weight, and `silu(a) · b`. The kernel's three arrays after the run
   are the reference's. -/
module

public import proofs.«01_k».proof.Proof.Gate
public import proofs.«01_k».proof.Proof.Gen.Ffn1InIdeal.Value
public import proofs.«01_k».proof.Proof.Gen.Ffn1InRefIdeal.Read

@[expose] public section

noncomputable section

namespace Cert.Ffn1InIdeal.Hand

open Ffn1InIdeal Gen Value Cert.Prod Cert.Gate Ffn1InRefIdeal.Read
open Idealize.ShloMosaic TcCoe Tactic ValueIdx
open Idealize.SL Sem

/-- The blocks: of the left array, of the weight, and of the results. -/
abbrev Sx : Shape := S768x2048
abbrev Sy : Shape := S2048x512
abbrev Sz : Shape := S768x512

/-! ## What a point writes -/

section Point

variable {F : FTy → Type} [FloatOps F] (c : Dev nD) (i : grid0.Coords) (a3 : Memref sig .tc .vmem Sx .bf16) (h3 : a3.IsWhole)
  (a4 : Memref sig .tc .vmem Sy .bf16) (h4 : a4.IsWhole) (a5 : Memref sig .tc .vmem Sy .bf16) (h5 : a5.IsWhole)
  (a6 : Memref sig .tc .vmem Sz .bf16) (h6 : a6.IsWhole) (a7 : Memref sig .tc .vmem Sz .bf16) (h7 : a7.IsWhole) (a8 : Memref sig .tc .vmem Sz .bf16) (h8 : a8.IsWhole)
  (a9 : Memref sig .tc .vmem Sz .f32) (h9 : a9.IsWhole) (a10 : Memref sig .tc .vmem Sz .f32) (h10 : a10.IsWhole) (k0 : cond0_0 i) (k1 : cond0_1 i)
  (x : Vec F Sx .bf16) (y z : Vec F Sy .bf16)

theorem out_3 : out0_A_3 c i a3 h3 a4 h4 a5 h5 a6 h6 a7 h7 a8 h8 a9 h9 a10 h10 k0 k1 x y z
    = k0_pay6 (k0_pay4 x (k0_pay1 (F := F)) y) (k0_pay5 x (k0_pay2 (F := F)) z) := by
  unfold out0_A_3
  rw [View.read_writes_eq_canon _ _ _ (cover0_A_3 c i a3 h3 a4 h4 a5 h5 a6 h6 a7 h7 a8 h8 a9 h9 a10 h10 k0 k1 x y z)]
  unfold kernelRun0_A
  dsimp only
  sl_unfold_words
  rw [View.canon_unit_zero (S := Sz) off2]
  simp only [View.readCov_cons_toLoadRect, View.readAt_eq_ld, h3.read_unread, h4.read_unread, h5.read_unread, View.ld_unit_zero (S := Sx) off2, View.ld_unit_zero (S := Sy) off2]

theorem out_4 : out0_A_4 c i a3 h3 a4 h4 a5 h5 a6 h6 a7 h7 a8 h8 a9 h9 a10 h10 k0 k1 x y z = k0_pay7 (k0_pay4 x (k0_pay1 (F := F)) y) := by
  unfold out0_A_4
  rw [View.read_writes_eq_canon _ _ _ (cover0_A_4 c i a3 h3 a4 h4 a5 h5 a6 h6 a7 h7 a8 h8 a9 h9 a10 h10 k0 k1 x y z)]
  unfold kernelRun0_A
  dsimp only
  sl_unfold_words
  rw [View.canon_unit_zero (S := Sz) off2]
  simp only [View.readCov_cons_toLoadRect, View.readAt_eq_ld, h3.read_unread, h4.read_unread, View.ld_unit_zero (S := Sx) off2, View.ld_unit_zero (S := Sy) off2]

theorem out_5 : out0_A_5 c i a3 h3 a4 h4 a5 h5 a6 h6 a7 h7 a8 h8 a9 h9 a10 h10 k0 k1 x y z = k0_pay8 (k0_pay5 x (k0_pay2 (F := F)) z) := by
  unfold out0_A_5
  rw [View.read_writes_eq_canon _ _ _ (cover0_A_5 c i a3 h3 a4 h4 a5 h5 a6 h6 a7 h7 a8 h8 a9 h9 a10 h10 k0 k1 x y z)]
  unfold kernelRun0_A
  dsimp only
  sl_unfold_words
  rw [View.canon_unit_zero (S := Sz) off2]
  simp only [View.readCov_cons_toLoadRect, View.readAt_eq_ld, h3.read_unread, h5.read_unread, View.ld_unit_zero (S := Sx) off2, View.ld_unit_zero (S := Sy) off2]

end Point

section Entries

variable (x : Vec Ideal Sx .bf16) (y : Vec Ideal Sy .bf16) (r : Fin 768) (s : Fin 512)

theorem pay1_at (i : Sz.Idx) : k0_pay1 (F := Ideal) i = 0 := by
  unfold k0_pay1
  rw [shapeCast_self]
  exact Ideal.ofBits_zero_f32

theorem pay2_at (i : Sz.Idx) : k0_pay2 (F := Ideal) i = 0 := by
  unfold k0_pay2
  rw [shapeCast_self]
  exact Ideal.ofBits_zero_f32

theorem pay4_at : k0_pay4 (F := Ideal) x (k0_pay1 (F := Ideal)) y (ix2 r s) = ∑ k : Fin 2048, x (ix2 r k) * y (ix2 k s) := by
  unfold k0_pay4 k0_pay3
  rw [shapeCast_self, shapeCast_self, shapeCast_self]
  refine Eq.trans (congrArg₂ (fun u v : EReal => u + v) (pay1_at (ix2 r s)) (mm_nn (φ₁ := .bf16) (φ₂ := .bf16) dot_S768x2048_S2048x512_S768x512_1_0_0_1_n_n rfl rfl rfl rfl
    (fun _ _ => rfl) (fun _ _ => rfl) x y r s)) (zero_add _)

theorem pay5_at : k0_pay5 (F := Ideal) x (k0_pay2 (F := Ideal)) y (ix2 r s) = ∑ k : Fin 2048, x (ix2 r k) * y (ix2 k s) := by
  unfold k0_pay5 k0_pay3
  rw [shapeCast_self, shapeCast_self, shapeCast_self]
  refine Eq.trans (congrArg₂ (fun u v : EReal => u + v) (pay2_at (ix2 r s)) (mm_nn (φ₁ := .bf16) (φ₂ := .bf16) dot_S768x2048_S2048x512_S768x512_1_0_0_1_n_n rfl rfl rfl rfl
    (fun _ _ => rfl) (fun _ _ => rfl) x y r s)) (zero_add _)

theorem pay6_at (a b : Vec Ideal Sz .f32) (i : Sz.Idx) : k0_pay6 (F := Ideal) a b i = act (a i) (b i) := by
  unfold k0_pay6
  show a i * Ideal.div (Ideal.ofBits .f32 0x3F800000#32) (Ideal.ofBits .f32 0x3F800000#32 + Ideal.exp (Ideal.ofBits .f32 0x00000000#32 - a i)) * b i = _
  rw [Ideal.ofBits_zero_f32, Ideal.ofBits_one_f32, logistic_sub, act]

end Entries

/-! ## The blocks -/

theorem index0 : ∀ t : Fin cfg0.N, win0_0.index t 0 = t.val / 11 % 11 ∧ win0_0.index t 1 = 0 := by decide +kernel
theorem index1 : ∀ t : Fin cfg0.N, win0_1.index t 0 = 0 ∧ win0_1.index t 1 = t.val % 11 := by decide +kernel
theorem index2 : ∀ t : Fin cfg0.N, win0_2.index t 0 = 0 ∧ win0_2.index t 1 = t.val % 11 + 11 := by decide +kernel
theorem index3 : ∀ t : Fin cfg0.N, win0_3.index t 0 = t.val / 11 % 11 ∧ win0_3.index t 1 = t.val % 11 := by decide +kernel
theorem index4 : ∀ t : Fin cfg0.N, win0_4.index t 0 = t.val / 11 % 11 ∧ win0_4.index t 1 = t.val % 11 := by decide +kernel
theorem index5 : ∀ t : Fin cfg0.N, win0_5.index t 0 = t.val / 11 % 11 ∧ win0_5.index t 1 = t.val % 11 := by decide +kernel

/-- Point `p`'s rows and columns of the results, and a column's place in each half of the weight. -/
abbrev row (p : ℕ) (r : Fin 768) : Fin 8448 := place 11 (by decide) (p / 11) r
abbrev col (p : ℕ) (s : Fin 512) : Fin 5632 := place 11 (by decide) p s
def left (j : Fin 5632) : Fin 11264 := ⟨j.val, by omega⟩
def right (j : Fin 5632) : Fin 11264 := ⟨5632 + j.val, by omega⟩

variable (m : (ℓ : Loc nD τ sig) → Buf (Elt Ideal) ℓ) (c : Dev nD)

/-- The two arguments as the run is launched with them, and the reference's three results. -/
abbrev arg0 : FVec Ideal S8448x2048 .f32 := m ((c : Thread nD τ).loc main_arg0)
abbrev arg1 : FVec Ideal S2048x11264 .f32 := m ((c : Thread nD τ).loc main_arg1)
abbrev G3 : Buf (Elt Ideal) ((c : Thread nD τ).loc main_v2_0) := val_main_v5 (F := Ideal) (arg0 m c) (arg1 m c)
abbrev G4 : Buf (Elt Ideal) ((c : Thread nD τ).loc main_v2_1) := val_main_v6 (F := Ideal) (arg0 m c) (arg1 m c)
abbrev G5 : Buf (Elt Ideal) ((c : Thread nD τ).loc main_v2_2) := val_main_v7 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 768) (k : Fin 2048) : (iblk m c 0 t : Vec Ideal Sx .bf16) (ix2 r k) = arg0 m c (ix2 (row t.val r) k) := by
  unfold iblk
  rw [View.read_apply]
  refine Eq.trans (congrArg (V m c main_v0) (funext fun a => Fin.ext ?_)) (congrFun (V_x m c) (ix2 (row t.val r) k))
  match a with
  | ⟨0, _⟩ => show win0_0.index t 0 * 768 + 1 * r.val = 768 * (t.val / 11 % 11) + r.val; rw [(index0 t).1]; omega
  | ⟨1, _⟩ => show win0_0.index t 1 * 2048 + 1 * k.val = k.val; rw [(index0 t).2]; omega

theorem y_at (t : Fin cfg0.N) (s : Fin 512) (k : Fin 2048) : (iblk m c 1 t : Vec Ideal Sy .bf16) (ix2 k s) = arg1 m c (ix2 k (left (col t.val s))) := by
  unfold iblk
  rw [View.read_apply]
  refine Eq.trans (congrArg (V m c main_v1) (funext fun a => Fin.ext ?_)) (congrFun (V_y m c) (ix2 k (left (col t.val s))))
  match a with
  | ⟨0, _⟩ => show win0_1.index t 0 * 2048 + 1 * k.val = k.val; rw [(index1 t).1]; omega
  | ⟨1, _⟩ => show win0_1.index t 1 * 512 + 1 * s.val = 512 * (t.val % 11) + s.val; rw [(index1 t).2]; omega

theorem z_at (t : Fin cfg0.N) (s : Fin 512) (k : Fin 2048) : (iblk m c 2 t : Vec Ideal Sy .bf16) (ix2 k s) = arg1 m c (ix2 k (right (col t.val s))) := by
  unfold iblk
  rw [View.read_apply]
  refine Eq.trans (congrArg (V m c main_v1) (funext fun a => Fin.ext ?_)) (congrFun (V_y m c) (ix2 k (right (col t.val s))))
  match a with
  | ⟨0, _⟩ => show win0_2.index t 0 * 2048 + 1 * k.val = k.val; rw [(index2 t).1]; omega
  | ⟨1, _⟩ => show win0_2.index t 1 * 512 + 1 * s.val = 5632 + (512 * (t.val % 11) + s.val); rw [(index2 t).2]; omega

/-! ## The reference at an entry -/

/-- The two products at an entry. -/
def U (i : Fin 8448) (j : Fin 5632) : EReal := ∑ k, arg0 m c (ix2 i k) * arg1 m c (ix2 k (left j))
def W (i : Fin 8448) (j : Fin 5632) : EReal := ∑ k, arg0 m c (ix2 i k) * arg1 m c (ix2 k (right j))

theorem u_at (t : Fin cfg0.N) (r : Fin 768) (s : Fin 512) : k0_pay4 (F := Ideal) (iblk m c 0 t) (k0_pay1 (F := Ideal)) (iblk m c 1 t) (ix2 r s) = U m c (row t.val r) (col t.val s) :=
  (pay4_at _ _ r s).trans (Finset.sum_congr rfl fun k _ => congrArg₂ (fun u v : EReal => u * v) (x_at m c t r k) (y_at m c t s k))
theorem w_at (t : Fin cfg0.N) (r : Fin 768) (s : Fin 512) : k0_pay5 (F := Ideal) (iblk m c 0 t) (k0_pay2 (F := Ideal)) (iblk m c 2 t) (ix2 r s) = W m c (row t.val r) (col t.val s) :=
  (pay5_at _ _ r s).trans (Finset.sum_congr rfl fun k _ => congrArg₂ (fun u v : EReal => u * v) (x_at m c t r k) (z_at m c t s k))

section Reference

variable (i : Fin 8448) (j : Fin 5632)

theorem sum_at (q : Fin 11264) : val_main_v0 (F := Ideal) (arg0 m c) (arg1 m c) (ix2 i q) = ∑ k, arg0 m c (ix2 i k) * arg1 m c (ix2 k q) := by
  rw [val_main_v0_apply]
  refine Finset.sum_congr rfl fun k _ => ?_
  have e0 : lidx_main_v0 (ix2 i q) k = ix2 i k := eq_ix2 _
  have e1 : ridx_main_v0 (ix2 i q) k = ix2 k q := eq_ix2 _
  rw [e0, e1]

theorem refU : val_main_v1 (F := Ideal) (arg0 m c) (arg1 m c) (ix2 i j) = U m c i j := by
  rw [val_main_v1_apply]
  refine Eq.trans (congrArg _ (funext fun a => Fin.ext ?_)) (sum_at m c i (left j))
  match a with
  | ⟨0, _⟩ => first | rfl | exact Nat.zero_add _
  | ⟨1, _⟩ => first | rfl | exact Nat.zero_add _

theorem refW : val_main_v2 (F := Ideal) (arg0 m c) (arg1 m c) (ix2 i j) = W m c i j := by
  rw [val_main_v2_apply]
  refine Eq.trans (congrArg _ (funext fun a => Fin.ext ?_)) (sum_at m c i (right j))
  match a with
  | ⟨0, _⟩ => first | rfl | exact Nat.zero_add _
  | ⟨1, _⟩ => first | rfl | exact Nat.add_comm _ _

theorem ref4 : val_main_v6 (F := Ideal) (arg0 m c) (arg1 m c) (ix2 i j) = U m c i j := (val_main_v6_apply _ _ _).trans (refU m c i j)
theorem ref5 : val_main_v7 (F := Ideal) (arg0 m c) (arg1 m c) (ix2 i j) = W m c i j := (val_main_v7_apply _ _ _).trans (refW m c i j)

theorem ref3 : val_main_v5 (F := Ideal) (arg0 m c) (arg1 m c) (ix2 i j) = act (U m c i j) (W m c i j) := by
  refine (val_main_v5_apply _ _ _).trans ?_
  show val_main_v4 (F := Ideal) (arg0 m c) (arg1 m c) (ix2 i j) = _
  rw [val_main_v4_apply, val_main_v3_apply, val_main_call0_v5_apply, val_main_call0_v4_apply, val_main_call0_cst_0_apply, val_main_call0_v3_apply, val_main_call0_v2_apply,
    val_main_call0_cst_apply, val_main_call0_v1_apply, val_main_call0_v0_apply, refU, refW]
  show U m c i j * Ideal.div (Ideal.ofBits .f32 0x3F800000#32) (Ideal.ofBits .f32 0x3F800000#32 + Ideal.exp (-(U m c i j))) * W m c i j = _
  rw [Ideal.ofBits_one_f32]
  rfl

end Reference

/-! ## What a point writes back, and the result arrays -/

theorem flushed3_eq (t : Fin cfg0.N) (hf : (cfg0.win 3).flush t = true) :
    (dats m 0 c).flushed 3 t = ((cfg0.win 3).blk t).view.read (Elt Ideal) (G3 m c) := by
  rw [flushed3_A, out_3]
  refine funext fun (y : Sz.Idx) => ?_
  obtain ⟨r, s, rfl⟩ : ∃ r s, y = ix2 r s := ⟨_, _, eq_ix2 y⟩
  refine Eq.trans ((pay6_at _ _ _).trans (congrArg₂ act (u_at m c t r s) (w_at m c t r s))) ((ref3 m c (row t.val r) (col t.val s)).symm.trans ?_)
  rw [View.read_apply]
  refine congrArg (G3 m c) (funext fun a => Fin.ext ?_)
  match a with
  | ⟨0, _⟩ => show 768 * (t.val / 11 % 11) + r.val = win0_3.index t 0 * 768 + 1 * r.val; rw [(index3 t).1]; omega
  | ⟨1, _⟩ => show 512 * (t.val % 11) + s.val = win0_3.index t 1 * 512 + 1 * s.val; rw [(index3 t).2]; omega

theorem flushed4_eq (t : Fin cfg0.N) (hf : (cfg0.win 4).flush t = true) :
    (dats m 0 c).flushed 4 t = ((cfg0.win 4).blk t).view.read (Elt Ideal) (G4 m c) := by
  rw [flushed4_A, out_4]
  refine funext fun (y : Sz.Idx) => ?_
  obtain ⟨r, s, rfl⟩ : ∃ r s, y = ix2 r s := ⟨_, _, eq_ix2 y⟩
  refine Eq.trans (u_at m c t r s) ((ref4 m c (row t.val r) (col t.val s)).symm.trans ?_)
  rw [View.read_apply]
  refine congrArg (G4 m c) (funext fun a => Fin.ext ?_)
  match a with
  | ⟨0, _⟩ => show 768 * (t.val / 11 % 11) + r.val = win0_4.index t 0 * 768 + 1 * r.val; rw [(index4 t).1]; omega
  | ⟨1, _⟩ => show 512 * (t.val % 11) + s.val = win0_4.index t 1 * 512 + 1 * s.val; rw [(index4 t).2]; omega

theorem flushed5_eq (t : Fin cfg0.N) (hf : (cfg0.win 5).flush t = true) :
    (dats m 0 c).flushed 5 t = ((cfg0.win 5).blk t).view.read (Elt Ideal) (G5 m c) := by
  rw [flushed5_A, out_5]
  refine funext fun (y : Sz.Idx) => ?_
  obtain ⟨r, s, rfl⟩ : ∃ r s, y = ix2 r s := ⟨_, _, eq_ix2 y⟩
  refine Eq.trans (w_at m c t r s) ((ref5 m c (row t.val r) (col t.val s)).symm.trans ?_)
  rw [View.read_apply]
  refine congrArg (G5 m c) (funext fun a => Fin.ext ?_)
  match a with
  | ⟨0, _⟩ => show 768 * (t.val / 11 % 11) + r.val = win0_5.index t 0 * 768 + 1 * r.val; rw [(index5 t).1]; omega
  | ⟨1, _⟩ => show 512 * (t.val % 11) + s.val = win0_5.index t 1 * 512 + 1 * s.val; rw [(index5 t).2]; omega

/-- The point whose block holds an entry. -/
theorem point (i : Fin 8448) (j : Fin 5632) : ∃ t : Fin cfg0.N, t.val = i.val / 768 * 11 + j.val / 512 :=
  ⟨⟨_, lt_of_lt_of_eq (by omega) N_0.symm⟩, rfl⟩

theorem final3 : (dats m 0 c).arrAt 3 cfg0.N = G3 m c :=
  (dats m 0 c).arrAt_eq_of_cover 3 _ (flushed3_eq m c) ((by decide +kernel : (cfg0.win 3).Covers).cover _ (Memref.isWhole_whole _))

theorem final4 : (dats m 0 c).arrAt 4 cfg0.N = G4 m c :=
  (dats m 0 c).arrAt_eq_of_cover 4 _ (flushed4_eq m c) ((by decide +kernel : (cfg0.win 4).Covers).cover _ (Memref.isWhole_whole _))

theorem final5 : (dats m 0 c).arrAt 5 cfg0.N = G5 m c :=
  (dats m 0 c).arrAt_eq_of_cover 5 _ (flushed5_eq m c) ((by decide +kernel : (cfg0.win 5).Covers).cover _ (Memref.isWhole_whole _))

end Cert.Ffn1InIdeal.Hand

end
-- ==== Proof.MixInQValue.lean ====
/- The query columns of the mixer's input product `x · w`. The kernel's array after the run is the reference's. -/
module

public import proofs.«01_k».proof.Proof.Prod
public import proofs.«01_k».proof.Proof.Gen.MixInQIdeal.Value
public import proofs.«01_k».proof.Proof.Gen.MixInQRefIdeal.Read

@[expose] public section

noncomputable section

namespace Cert.MixInQIdeal.Hand

open MixInQIdeal Gen Value Cert.Prod MixInQRefIdeal.Read
open Idealize.ShloMosaic TcCoe Tactic ValueIdx
open Idealize.SL Sem

/-- The blocks: of the left array, of the weight, and of the result. -/
abbrev Sx : Shape := S1408x2048
abbrev Sy : Shape := S2048x1024
abbrev Sz : Shape := S1408x1024

theorem pay1_at (x : Vec Ideal Sx .bf16) (y : Vec Ideal Sy .bf16) (r : Fin 1408) (s : Fin 1024) :
    k0_pay1 (F := Ideal) x y (ix2 r s) = ∑ k : Fin 2048, x (ix2 r k) * y (ix2 k s) := by
  unfold k0_pay1
  rw [shapeCast_self, shapeCast_self]
  exact mm_nn (φ₁ := .bf16) (φ₂ := .bf16) dot_S1408x2048_S2048x1024_S1408x1024_1_0_0_1_n_n rfl rfl rfl rfl (fun _ _ => rfl) (fun _ _ => rfl) x y r s

theorem out_at (c : Dev nD) (i : grid0.Coords) (a3 : Memref sig .tc .vmem Sx .bf16) (h3 : a3.IsWhole) (a4 : Memref sig .tc .vmem Sy .bf16) (h4 : a4.IsWhole)
    (a5 : Memref sig .tc .vmem Sz .f32) (h5 : a5.IsWhole) (x : Vec Ideal Sx .bf16) (y : Vec Ideal Sy .bf16) :
    out0_A_2 (F := Ideal) c i a3 h3 a4 h4 a5 h5 x y = k0_pay1 x y := by
  unfold out0_A_2
  rw [View.read_writes_eq_canon _ _ _ (cover0_A_2 c i a3 h3 a4 h4 a5 h5 x y)]
  unfold kernelRun0_A
  dsimp only
  sl_unfold_words
  rw [View.canon_unit_zero (S := Sz) off2]
  simp only [View.readAt_eq_ld, h3.read_unread, h4.read_unread, View.ld_unit_zero (S := Sx) off2, View.ld_unit_zero (S := Sy) off2]

/-! ## The blocks -/

theorem index0 : ∀ t : Fin cfg0.N, win0_0.index t 0 = t.val / 1 % 6 ∧ win0_0.index t 1 = 0 := by decide +kernel
theorem index1 : ∀ t : Fin cfg0.N, win0_1.index t 0 = 0 ∧ win0_1.index t 1 = t.val % 1 := by decide +kernel
theorem index2 : ∀ t : Fin cfg0.N, win0_2.index t 0 = t.val / 1 % 6 ∧ win0_2.index t 1 = t.val % 1 := by decide +kernel

/-- Point `p`'s rows and columns of the result, and a column's place in the weight. -/
abbrev row (p : ℕ) (r : Fin 1408) : Fin 8448 := place 6 (by decide) (p / 1) r
abbrev col (p : ℕ) (s : Fin 1024) : Fin 1024 := place 1 (by decide) p s
def wide (j : Fin 1024) : Fin 9728 := ⟨0 + j.val, by omega⟩

variable (m : (ℓ : Loc nD τ sig) → Buf (Elt Ideal) ℓ) (c : Dev nD)

/-- The two arguments as the run is launched with them, and the reference's result. -/
abbrev arg0 : FVec Ideal S8448x2048 .f32 := m ((c : Thread nD τ).loc main_arg0)
abbrev arg1 : FVec Ideal S2048x9728 .f32 := m ((c : Thread nD τ).loc main_arg1)
abbrev G : Buf (Elt Ideal) ((c : Thread nD τ).loc main_v2) := val_main_v1 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1408) (k : Fin 2048) : (iblk m c 0 t : Vec Ideal Sx .bf16) (ix2 r k) = arg0 m c (ix2 (row t.val r) k) := by
  unfold iblk
  rw [View.read_apply]
  refine Eq.trans (congrArg (V m c main_v0) (funext fun a => Fin.ext ?_)) (congrFun (V_x m c) (ix2 (row t.val r) k))
  match a with
  | ⟨0, _⟩ => show win0_0.index t 0 * 1408 + 1 * r.val = 1408 * (t.val / 1 % 6) + r.val; rw [(index0 t).1]; omega
  | ⟨1, _⟩ => show win0_0.index t 1 * 2048 + 1 * k.val = k.val; rw [(index0 t).2]; omega

/-- The weight's buffer is filled by the block copied in, which no edge of the array cuts short. -/
theorem y_at (t : Fin cfg0.N) (s : Fin 1024) (k : Fin 2048) : (X0_1 m c t : Vec Ideal Sy .bf16) (ix2 k s) = arg1 m c (ix2 k (wide (col t.val s))) := by
  unfold X0_1 Pipeline.Window.fill
  rw [dif_pos (moved0_1 t (ix2 k s))]
  unfold iblk
  rw [View.read_apply]
  refine Eq.trans (congrArg (V m c main_v1) (funext fun a => Fin.ext ?_)) (congrFun (V_y m c) (ix2 k (wide (col t.val s))))
  match a with
  | ⟨0, _⟩ => show win0_1.index t 0 * 2048 + 1 * k.val = k.val; rw [(index1 t).1]; omega
  | ⟨1, _⟩ => show win0_1.index t 1 * 1024 + 1 * s.val = 0 + (1024 * (t.val % 1) + s.val); rw [(index1 t).2]; omega

/-! ## The reference at an entry, what a point writes back, and the result array -/

theorem ref_at (i : Fin 8448) (j : Fin 1024) : val_main_v1 (F := Ideal) (arg0 m c) (arg1 m c) (ix2 i j) = ∑ k, arg0 m c (ix2 i k) * arg1 m c (ix2 k (wide j)) := by
  have e : val_main_v0 (F := Ideal) (arg0 m c) (arg1 m c) (ix2 i (wide j)) = ∑ k, arg0 m c (ix2 i k) * arg1 m c (ix2 k (wide j)) := by
    rw [val_main_v0_apply]
    refine Finset.sum_congr rfl fun k _ => ?_
    have e0 : lidx_main_v0 (ix2 i (wide j)) k = ix2 i k := eq_ix2 _
    have e1 : ridx_main_v0 (ix2 i (wide j)) k = ix2 k (wide j) := eq_ix2 _
    rw [e0, e1]
  rw [val_main_v1_apply]
  refine Eq.trans (congrArg _ (funext fun a => Fin.ext ?_)) e
  match a with
  | ⟨0, _⟩ => first | rfl | exact Nat.zero_add _
  | ⟨1, _⟩ => first | rfl | exact Nat.add_comm _ _ | exact (Nat.zero_add _).symm

theorem flushed_eq (t : Fin cfg0.N) (hf : (cfg0.win 2).flush t = true) :
    (dats m 0 c).flushed 2 t = ((cfg0.win 2).blk t).view.read (Elt Ideal) (G m c) := by
  rw [flushed2_A, out_at]
  refine funext fun (y : Sz.Idx) => ?_
  obtain ⟨r, s, rfl⟩ : ∃ r s, y = ix2 r s := ⟨_, _, eq_ix2 y⟩
  refine (pay1_at _ _ r s).trans (Eq.trans (Finset.sum_congr rfl fun k _ => congrArg₂ (fun u v : EReal => u * v) (x_at m c t r k) (y_at m c t s k))
    ((ref_at m c (row t.val r) (col t.val s)).symm.trans ?_))
  rw [View.read_apply]
  refine congrArg (G m c) (funext fun a => Fin.ext ?_)
  match a with
  | ⟨0, _⟩ => show 1408 * (t.val / 1 % 6) + r.val = win0_2.index t 0 * 1408 + 1 * r.val; rw [(index2 t).1]; omega
  | ⟨1, _⟩ => show 1024 * (t.val % 1) + s.val = win0_2.index t 1 * 1024 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.MixInQIdeal.Hand

end
-- ==== Proof.MixInKvValue.lean ====
/- The key and value columns of the mixer's input product `x · w`. The kernel's array after the run is the reference's. -/
module

public import proofs.«01_k».proof.Proof.Prod
public import proofs.«01_k».proof.Proof.Gen.MixInKvIdeal.Value
public import proofs.«01_k».proof.Proof.Gen.MixInKvRefIdeal.Read

@[expose] public section

noncomputable section

namespace Cert.MixInKvIdeal.Hand

open MixInKvIdeal Gen Value Cert.Prod MixInKvRefIdeal.Read
open Idealize.ShloMosaic TcCoe Tactic ValueIdx
open Idealize.SL Sem

/-- The blocks: of the left array, of the weight, and of the result. -/
abbrev Sx : Shape := S1408x2048
abbrev Sy : Shape := S2048x512
abbrev Sz : Shape := S1408x512

theorem pay1_at (x : Vec Ideal Sx .bf16) (y : Vec Ideal Sy .bf16) (r : Fin 1408) (s : Fin 512) :
    k0_pay1 (F := Ideal) x y (ix2 r s) = ∑ k : Fin 2048, x (ix2 r k) * y (ix2 k s) := by
  unfold k0_pay1
  rw [shapeCast_self, shapeCast_self]
  exact mm_nn (φ₁ := .bf16) (φ₂ := .bf16) dot_S1408x2048_S2048x512_S1408x512_1_0_0_1_n_n rfl rfl rfl rfl (fun _ _ => rfl) (fun _ _ => rfl) x y r s

theorem out_at (x : Vec Ideal Sx .bf16) (y : Vec Ideal Sy .bf16) : out0_2 (F := Ideal) x y = k0_pay1 x y := by
  unfold out0_2
  rw [View.canon_unit_zero (S := Sz) off2, View.ld_unit_zero (S := Sx) off2, View.ld_unit_zero (S := Sy) off2]

/-! ## The blocks -/

theorem index0 : ∀ t : Fin cfg0.N, win0_0.index t 0 = t.val / 1 % 6 ∧ win0_0.index t 1 = 0 := by decide +kernel
theorem index1 : ∀ t : Fin cfg0.N, win0_1.index t 0 = 0 ∧ win0_1.index t 1 = 1024 + 512 * (t.val % 1) := by decide +kernel
theorem index2 : ∀ t : Fin cfg0.N, win0_2.index t 0 = t.val / 1 % 6 ∧ win0_2.index t 1 = t.val % 1 := by decide +kernel

/-- Point `p`'s rows and columns of the result, and a column's place in the weight. -/
abbrev row (p : ℕ) (r : Fin 1408) : Fin 8448 := place 6 (by decide) (p / 1) r
abbrev col (p : ℕ) (s : Fin 512) : Fin 512 := place 1 (by decide) p s
def wide (j : Fin 512) : Fin 9728 := ⟨1024 + j.val, by omega⟩

variable (m : (ℓ : Loc nD τ sig) → Buf (Elt Ideal) ℓ) (c : Dev nD)

/-- The two arguments as the run is launched with them, and the reference's result. -/
abbrev arg0 : FVec Ideal S8448x2048 .f32 := m ((c : Thread nD τ).loc main_arg0)
abbrev arg1 : FVec Ideal S2048x9728 .f32 := m ((c : Thread nD τ).loc main_arg1)
abbrev G : Buf (Elt Ideal) ((c : Thread nD τ).loc main_v2) := val_main_v1 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1408) (k : Fin 2048) : (iblk m c 0 t : Vec Ideal Sx .bf16) (ix2 r k) = arg0 m c (ix2 (row t.val r) k) := by
  unfold iblk
  rw [View.read_apply]
  refine Eq.trans (congrArg (V m c main_v0) (funext fun a => Fin.ext ?_)) (congrFun (V_x m c) (ix2 (row t.val r) k))
  match a with
  | ⟨0, _⟩ => show win0_0.index t 0 * 1408 + 1 * r.val = 1408 * (t.val / 1 % 6) + r.val; rw [(index0 t).1]; omega
  | ⟨1, _⟩ => show win0_0.index t 1 * 2048 + 1 * k.val = k.val; rw [(index0 t).2]; omega

theorem y_at (t : Fin cfg0.N) (s : Fin 512) (k : Fin 2048) : (iblk m c 1 t : Vec Ideal Sy .bf16) (ix2 k s) = arg1 m c (ix2 k (wide (col t.val s))) := by
  unfold iblk
  rw [View.read_apply]
  refine Eq.trans (congrArg (V m c main_v1) (funext fun a => Fin.ext ?_)) (congrFun (V_y m c) (ix2 k (wide (col t.val s))))
  match a with
  | ⟨0, _⟩ => show win0_1.index t 0 + 1 * k.val = k.val; rw [(index1 t).1]; omega
  | ⟨1, _⟩ => show win0_1.index t 1 + 1 * s.val = 1024 + (512 * (t.val % 1) + s.val); rw [(index1 t).2]; omega

/-! ## The reference at an entry, what a point writes back, and the result array -/

theorem ref_at (i : Fin 8448) (j : Fin 512) : val_main_v1 (F := Ideal) (arg0 m c) (arg1 m c) (ix2 i j) = ∑ k, arg0 m c (ix2 i k) * arg1 m c (ix2 k (wide j)) := by
  have e : val_main_v0 (F := Ideal) (arg0 m c) (arg1 m c) (ix2 i (wide j)) = ∑ k, arg0 m c (ix2 i k) * arg1 m c (ix2 k (wide j)) := by
    rw [val_main_v0_apply]
    refine Finset.sum_congr rfl fun k _ => ?_
    have e0 : lidx_main_v0 (ix2 i (wide j)) k = ix2 i k := eq_ix2 _
    have e1 : ridx_main_v0 (ix2 i (wide j)) k = ix2 k (wide j) := eq_ix2 _
    rw [e0, e1]
  rw [val_main_v1_apply]
  refine Eq.trans (congrArg _ (funext fun a => Fin.ext ?_)) e
  match a with
  | ⟨0, _⟩ => first | rfl | exact Nat.zero_add _
  | ⟨1, _⟩ => first | rfl | exact Nat.add_comm _ _ | exact (Nat.zero_add _).symm

theorem flushed_eq (t : Fin cfg0.N) (hf : (cfg0.win 2).flush t = true) :
    (dats m 0 c).flushed 2 t = ((cfg0.win 2).blk t).view.read (Elt Ideal) (G m c) := by
  rw [flushed2, out_at]
  refine funext fun (y : Sz.Idx) => ?_
  obtain ⟨r, s, rfl⟩ : ∃ r s, y = ix2 r s := ⟨_, _, eq_ix2 y⟩
  refine (pay1_at _ _ r s).trans (Eq.trans (Finset.sum_congr rfl fun k _ => congrArg₂ (fun u v : EReal => u * v) (x_at m c t r k) (y_at m c t s k))
    ((ref_at m c (row t.val r) (col t.val s)).symm.trans ?_))
  rw [View.read_apply]
  refine congrArg (G m c) (funext fun a => Fin.ext ?_)
  match a with
  | ⟨0, _⟩ => show 1408 * (t.val / 1 % 6) + r.val = win0_2.index t 0 * 1408 + 1 * r.val; rw [(index2 t).1]; omega
  | ⟨1, _⟩ => show 512 * (t.val % 1) + s.val = win0_2.index t 1 * 512 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.MixInKvIdeal.Hand

end
-- ==== Proof.MixInRetValue.lean ====
/- The retention columns of the mixer's input product `x · w`. The kernel's array after the run is the reference's. -/
module

public import proofs.«01_k».proof.Proof.Prod
public import proofs.«01_k».proof.Proof.Gen.MixInRetIdeal.Value
public import proofs.«01_k».proof.Proof.Gen.MixInRetRefIdeal.Read

@[expose] public section

noncomputable section

namespace Cert.MixInRetIdeal.Hand

open MixInRetIdeal Gen Value Cert.Prod MixInRetRefIdeal.Read
open Idealize.ShloMosaic TcCoe Tactic ValueIdx
open Idealize.SL Sem

/-- The blocks: of the left array, of the weight, and of the result. -/
abbrev Sx : Shape := S768x2048
abbrev Sy : Shape := S2048x1536
abbrev Sz : Shape := S768x1536

theorem pay1_at (x : Vec Ideal Sx .bf16) (y : Vec Ideal Sy .bf16) (r : Fin 768) (s : Fin 1536) :
    k0_pay1 (F := Ideal) x y (ix2 r s) = ∑ k : Fin 2048, x (ix2 r k) * y (ix2 k s) := by
  unfold k0_pay1
  rw [shapeCast_self, shapeCast_self]
  exact mm_nn (φ₁ := .bf16) (φ₂ := .bf16) dot_S768x2048_S2048x1536_S768x1536_1_0_0_1_n_n rfl rfl rfl rfl (fun _ _ => rfl) (fun _ _ => rfl) x y r s

theorem out_at (x : Vec Ideal Sx .bf16) (y : Vec Ideal Sy .bf16) : out0_2 (F := Ideal) x y = k0_pay1 x y := by
  unfold out0_2
  rw [View.canon_unit_zero (S := Sz) off2, View.ld_unit_zero (S := Sx) off2, View.ld_unit_zero (S := Sy) off2]

/-! ## The blocks -/

theorem index0 : ∀ t : Fin cfg0.N, win0_0.index t 0 = t.val / 2 % 11 ∧ win0_0.index t 1 = 0 := by decide +kernel
theorem index1 : ∀ t : Fin cfg0.N, win0_1.index t 0 = 0 ∧ win0_1.index t 1 = 1536 + 1536 * (t.val % 2) := by decide +kernel
theorem index2 : ∀ t : Fin cfg0.N, win0_2.index t 0 = t.val / 2 % 11 ∧ win0_2.index t 1 = t.val % 2 := by decide +kernel

/-- Point `p`'s rows and columns of the result, and a column's place in the weight. -/
abbrev row (p : ℕ) (r : Fin 768) : Fin 8448 := place 11 (by decide) (p / 2) r
abbrev col (p : ℕ) (s : Fin 1536) : Fin 3072 := place 2 (by decide) p s
def wide (j : Fin 3072) : Fin 9728 := ⟨1536 + j.val, by omega⟩

variable (m : (ℓ : Loc nD τ sig) → Buf (Elt Ideal) ℓ) (c : Dev nD)

/-- The two arguments as the run is launched with them, and the reference's result. -/
abbrev arg0 : FVec Ideal S8448x2048 .f32 := m ((c : Thread nD τ).loc main_arg0)
abbrev arg1 : FVec Ideal S2048x9728 .f32 := m ((c : Thread nD τ).loc main_arg1)
abbrev G : Buf (Elt Ideal) ((c : Thread nD τ).loc main_v2) := val_main_v1 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 768) (k : Fin 2048) : (iblk m c 0 t : Vec Ideal Sx .bf16) (ix2 r k) = arg0 m c (ix2 (row t.val r) k) := by
  unfold iblk
  rw [View.read_apply]
  refine Eq.trans (congrArg (V m c main_v0) (funext fun a => Fin.ext ?_)) (congrFun (V_x m c) (ix2 (row t.val r) k))
  match a with
  | ⟨0, _⟩ => show win0_0.index t 0 * 768 + 1 * r.val = 768 * (t.val / 2 % 11) + r.val; rw [(index0 t).1]; omega
  | ⟨1, _⟩ => show win0_0.index t 1 * 2048 + 1 * k.val = k.val; rw [(index0 t).2]; omega

theorem y_at (t : Fin cfg0.N) (s : Fin 1536) (k : Fin 2048) : (iblk m c 1 t : Vec Ideal Sy .bf16) (ix2 k s) = arg1 m c (ix2 k (wide (col t.val s))) := by
  unfold iblk
  rw [View.read_apply]
  refine Eq.trans (congrArg (V m c main_v1) (funext fun a => Fin.ext ?_)) (congrFun (V_y m c) (ix2 k (wide (col t.val s))))
  match a with
  | ⟨0, _⟩ => show win0_1.index t 0 + 1 * k.val = k.val; rw [(index1 t).1]; omega
  | ⟨1, _⟩ => show win0_1.index t 1 + 1 * s.val = 1536 + (1536 * (t.val % 2) + s.val); rw [(index1 t).2]; omega

/-! ## The reference at an entry, what a point writes back, and the result array -/

theorem ref_at (i : Fin 8448) (j : Fin 3072) : val_main_v1 (F := Ideal) (arg0 m c) (arg1 m c) (ix2 i j) = ∑ k, arg0 m c (ix2 i k) * arg1 m c (ix2 k (wide j)) := by
  have e : val_main_v0 (F := Ideal) (arg0 m c) (arg1 m c) (ix2 i (wide j)) = ∑ k, arg0 m c (ix2 i k) * arg1 m c (ix2 k (wide j)) := by
    rw [val_main_v0_apply]
    refine Finset.sum_congr rfl fun k _ => ?_
    have e0 : lidx_main_v0 (ix2 i (wide j)) k = ix2 i k := eq_ix2 _
    have e1 : ridx_main_v0 (ix2 i (wide j)) k = ix2 k (wide j) := eq_ix2 _
    rw [e0, e1]
  rw [val_main_v1_apply]
  refine Eq.trans (congrArg _ (funext fun a => Fin.ext ?_)) e
  match a with
  | ⟨0, _⟩ => first | rfl | exact Nat.zero_add _
  | ⟨1, _⟩ => first | rfl | exact Nat.add_comm _ _ | exact (Nat.zero_add _).symm

theorem flushed_eq (t : Fin cfg0.N) (hf : (cfg0.win 2).flush t = true) :
    (dats m 0 c).flushed 2 t = ((cfg0.win 2).blk t).view.read (Elt Ideal) (G m c) := by
  rw [flushed2, out_at]
  refine funext fun (y : Sz.Idx) => ?_
  obtain ⟨r, s, rfl⟩ : ∃ r s, y = ix2 r s := ⟨_, _, eq_ix2 y⟩
  refine (pay1_at _ _ r s).trans (Eq.trans (Finset.sum_congr rfl fun k _ => congrArg₂ (fun u v : EReal => u * v) (x_at m c t r k) (y_at m c t s k))
    ((ref_at m c (row t.val r) (col t.val s)).symm.trans ?_))
  rw [View.read_apply]
  refine congrArg (G m c) (funext fun a => Fin.ext ?_)
  match a with
  | ⟨0, _⟩ => show 768 * (t.val / 2 % 11) + r.val = win0_2.index t 0 * 768 + 1 * r.val; rw [(index2 t).1]; omega
  | ⟨1, _⟩ => show 1536 * (t.val % 2) + s.val = win0_2.index t 1 * 1536 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.MixInRetIdeal.Hand

end
-- ==== Proof.MixInGrValue.lean ====
/- The retention's gate columns of the mixer's input product `x · w`. The kernel's array after the run is the reference's. -/
module

public import proofs.«01_k».proof.Proof.Prod
public import proofs.«01_k».proof.Proof.Gen.MixInGrIdeal.Value
public import proofs.«01_k».proof.Proof.Gen.MixInGrRefIdeal.Read

@[expose] public section

noncomputable section

namespace Cert.MixInGrIdeal.Hand

open MixInGrIdeal Gen Value Cert.Prod MixInGrRefIdeal.Read
open Idealize.ShloMosaic TcCoe Tactic ValueIdx
open Idealize.SL Sem

/-- The blocks: of the left array, of the weight, and of the result. -/
abbrev Sx : Shape := S1408x2048
abbrev Sy : Shape := S2048x1024
abbrev Sz : Shape := S1408x1024

theorem pay1_at (x : Vec Ideal Sx .bf16) (y : Vec Ideal Sy .bf16) (r : Fin 1408) (s : Fin 1024) :
    k0_pay1 (F := Ideal) x y (ix2 r s) = ∑ k : Fin 2048, x (ix2 r k) * y (ix2 k s) := by
  unfold k0_pay1
  rw [shapeCast_self, shapeCast_self]
  exact mm_nn (φ₁ := .bf16) (φ₂ := .bf16) dot_S1408x2048_S2048x1024_S1408x1024_1_0_0_1_n_n rfl rfl rfl rfl (fun _ _ => rfl) (fun _ _ => rfl) x y r s

theorem out_at (x : Vec Ideal Sx .bf16) (y : Vec Ideal Sy .bf16) : out0_2 (F := Ideal) x y = k0_pay1 x y := by
  unfold out0_2
  rw [View.canon_unit_zero (S := Sz) off2, View.ld_unit_zero (S := Sx) off2, View.ld_unit_zero (S := Sy) off2]

/-! ## The blocks -/

theorem index0 : ∀ t : Fin cfg0.N, win0_0.index t 0 = t.val / 1 % 6 ∧ win0_0.index t 1 = 0 := by decide +kernel
theorem index1 : ∀ t : Fin cfg0.N, win0_1.index t 0 = 0 ∧ win0_1.index t 1 = 4608 + 1024 * (t.val % 1) := by decide +kernel
theorem index2 : ∀ t : Fin cfg0.N, win0_2.index t 0 = t.val / 1 % 6 ∧ win0_2.index t 1 = t.val % 1 := by decide +kernel

/-- Point `p`'s rows and columns of the result, and a column's place in the weight. -/
abbrev row (p : ℕ) (r : Fin 1408) : Fin 8448 := place 6 (by decide) (p / 1) r
abbrev col (p : ℕ) (s : Fin 1024) : Fin 1024 := place 1 (by decide) p s
def wide (j : Fin 1024) : Fin 9728 := ⟨4608 + j.val, by omega⟩

variable (m : (ℓ : Loc nD τ sig) → Buf (Elt Ideal) ℓ) (c : Dev nD)

/-- The two arguments as the run is launched with them, and the reference's result. -/
abbrev arg0 : FVec Ideal S8448x2048 .f32 := m ((c : Thread nD τ).loc main_arg0)
abbrev arg1 : FVec Ideal S2048x9728 .f32 := m ((c : Thread nD τ).loc main_arg1)
abbrev G : Buf (Elt Ideal) ((c : Thread nD τ).loc main_v2) := val_main_v2 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 1408) (k : Fin 2048) : (iblk m c 0 t : Vec Ideal Sx .bf16) (ix2 r k) = arg0 m c (ix2 (row t.val r) k) := by
  unfold iblk
  rw [View.read_apply]
  refine Eq.trans (congrArg (V m c main_v0) (funext fun a => Fin.ext ?_)) (congrFun (V_x m c) (ix2 (row t.val r) k))
  match a with
  | ⟨0, _⟩ => show win0_0.index t 0 * 1408 + 1 * r.val = 1408 * (t.val / 1 % 6) + r.val; rw [(index0 t).1]; omega
  | ⟨1, _⟩ => show win0_0.index t 1 * 2048 + 1 * k.val = k.val; rw [(index0 t).2]; omega

theorem y_at (t : Fin cfg0.N) (s : Fin 1024) (k : Fin 2048) : (iblk m c 1 t : Vec Ideal Sy .bf16) (ix2 k s) = arg1 m c (ix2 k (wide (col t.val s))) := by
  unfold iblk
  rw [View.read_apply]
  refine Eq.trans (congrArg (V m c main_v1) (funext fun a => Fin.ext ?_)) (congrFun (V_y m c) (ix2 k (wide (col t.val s))))
  match a with
  | ⟨0, _⟩ => show win0_1.index t 0 + 1 * k.val = k.val; rw [(index1 t).1]; omega
  | ⟨1, _⟩ => show win0_1.index t 1 + 1 * s.val = 4608 + (1024 * (t.val % 1) + s.val); rw [(index1 t).2]; omega

/-! ## The reference at an entry, what a point writes back, and the result array -/

theorem ref_at (i : Fin 8448) (j : Fin 1024) : val_main_v2 (F := Ideal) (arg0 m c) (arg1 m c) (ix2 i j) = ∑ k, arg0 m c (ix2 i k) * arg1 m c (ix2 k (wide j)) := by
  have e : val_main_v0 (F := Ideal) (arg0 m c) (arg1 m c) (ix2 i (wide j)) = ∑ k, arg0 m c (ix2 i k) * arg1 m c (ix2 k (wide j)) := by
    rw [val_main_v0_apply]
    refine Finset.sum_congr rfl fun k _ => ?_
    have e0 : lidx_main_v0 (ix2 i (wide j)) k = ix2 i k := eq_ix2 _
    have e1 : ridx_main_v0 (ix2 i (wide j)) k = ix2 k (wide j) := eq_ix2 _
    rw [e0, e1]
  refine (val_main_v2_apply _ _ _).trans ?_
  show val_main_v1 (F := Ideal) (arg0 m c) (arg1 m c) (ix2 i j) = _
  rw [val_main_v1_apply]
  refine Eq.trans (congrArg _ (funext fun a => Fin.ext ?_)) e
  match a with
  | ⟨0, _⟩ => first | rfl | exact Nat.zero_add _
  | ⟨1, _⟩ => first | rfl | exact Nat.add_comm _ _ | exact (Nat.zero_add _).symm

theorem flushed_eq (t : Fin cfg0.N) (hf : (cfg0.win 2).flush t = true) :
    (dats m 0 c).flushed 2 t = ((cfg0.win 2).blk t).view.read (Elt Ideal) (G m c) := by
  rw [flushed2, out_at]
  refine funext fun (y : Sz.Idx) => ?_
  obtain ⟨r, s, rfl⟩ : ∃ r s, y = ix2 r s := ⟨_, _, eq_ix2 y⟩
  refine (pay1_at _ _ r s).trans (Eq.trans (Finset.sum_congr rfl fun k _ => congrArg₂ (fun u v : EReal => u * v) (x_at m c t r k) (y_at m c t s k))
    ((ref_at m c (row t.val r) (col t.val s)).symm.trans ?_))
  rw [View.read_apply]
  refine congrArg (G m c) (funext fun a => Fin.ext ?_)
  match a with
  | ⟨0, _⟩ => show 1408 * (t.val / 1 % 6) + r.val = win0_2.index t 0 * 1408 + 1 * r.val; rw [(index2 t).1]; omega
  | ⟨1, _⟩ => show 1024 * (t.val % 1) + s.val = win0_2.index t 1 * 1024 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.MixInGrIdeal.Hand

end
-- ==== Proof.Branches.lean ====
/- The merge of two branches by their sigmoid gates, `σ(p) · a + σ(q) · b`, at an entry, with the slope of one gate; where the two gates'
   rows and columns lie in the array that holds them side by side; and two arrays joined side by side. -/
module

public import proofs.«01_k».proof.Proof.Gate

@[expose] public section

noncomputable section

namespace Cert.Branches

open Idealize.ShloMosaic Idealize.ShloMosaic.ValueIdx Cert.Prod

/-- The merge, and the gradient in the gate's argument `p` for a cotangent `g` of the branch `a` it weights. -/
def merged (a b p q : EReal) : EReal := Ideal.logistic p * a + Ideal.logistic q * b
def gateGrad (g a p : EReal) : EReal := g * a * (Ideal.logistic p * (1 - Ideal.logistic p))

/-- The two gates' gradients side by side: the left half for `a`, the right half for `b`. -/
def gateGrads (u : Fin 2) (g a b p q : EReal) : EReal := if u = 0 then gateGrad g a p else gateGrad g b q

/-- Row `i` of a gate, below the 256 rows above it, and column `j` of the left gate and of the right one. -/
abbrev low (i : Fin 8192) : Fin 8448 := ⟨256 + i.val, by omega⟩
abbrev half (u : Fin 2) (j : Fin 2048) : Fin 4096 := ⟨2048 * u.val + j.val, by omega⟩

theorem eq_half (j : Fin 4096) : ∃ u k, j = half u k :=
  ⟨⟨j.val / 2048, by omega⟩, ⟨j.val % 2048, by omega⟩, Fin.ext (by show j.val = 2048 * (j.val / 2048) + j.val % 2048; omega)⟩

/-- Two arrays joined side by side. -/
theorem cat_cols {α : Type} {R : ℕ} (p q : (⟨2, ![R, 2048]⟩ : Shape).Idx → α)
    (h : Shape.Concatenates [⟨2, ![R, 2048]⟩, ⟨2, ![R, 2048]⟩] ⟨2, ![R, 4096]⟩ 1) (u : Fin 2) (i : Fin R) (j : Fin 2048) :
    concatenate ⟨2, ![R, 4096]⟩ 1 [⟨⟨2, ![R, 2048]⟩, p⟩, ⟨⟨2, ![R, 2048]⟩, q⟩] h (ix2 i (half u j)) = if u = 0 then p (ix2 i j) else q (ix2 i j) := by
  by_cases hu : u = 0
  · subst hu
    rw [if_pos rfl]
    refine concatenate_pair_apply_left (t := ⟨2, ![R, 4096]⟩) (s₁ := ⟨2, ![R, 2048]⟩) (s₂ := ⟨2, ![R, 2048]⟩) 1 _ _ h _ rfl (ix2 i j) fun b => ?_
    match b with
    | ⟨0, _⟩ => rfl
    | ⟨1, _⟩ => show j.val = 2048 * 0 + j.val; omega
  · obtain rfl : u = 1 := by omega
    rw [if_neg hu]
    refine concatenate_pair_apply_right (t := ⟨2, ![R, 4096]⟩) (s₁ := ⟨2, ![R, 2048]⟩) (s₂ := ⟨2, ![R, 2048]⟩) 1 _ _ h _ rfl rfl (ix2 i j) (fun b hb => ?_) ?_
    · match b with
      | ⟨0, _⟩ => rfl
      | ⟨1, _⟩ => exact absurd rfl hb
    · show j.val + 2048 = 2048 * 1 + j.val
      omega

end Cert.Branches

end
-- ==== Proof.MergeValue.lean ====
/- The merge of the two branches by their gates. The kernel's array after the run is the reference's. -/
module

public import proofs.«01_k».proof.Proof.Branches
public import proofs.«01_k».proof.Proof.Gen.MergeIdeal.Value
public import proofs.«01_k».proof.Proof.Gen.MergeRefIdeal.Read

@[expose] public section

noncomputable section

namespace Cert.MergeIdeal.Hand

open MergeIdeal Gen Value Cert.Prod Cert.Branches MergeRefIdeal.Read
open Idealize.ShloMosaic TcCoe Tactic ValueIdx
open Idealize.SL Sem

/-- The blocks, all of one shape. -/
abbrev Sa : Shape := S256x2048

theorem off_eq : k0_off1 = fun _ => 0 := funext fun a => by fin_cases a <;> rfl

theorem out_at (a b p q : Vec Ideal Sa .bf16) (r : Fin 256) (s : Fin 2048) :
    out0_4 (F := Ideal) a b p q (ix2 r s) = merged (a (ix2 r s)) (b (ix2 r s)) (p (ix2 r s)) (q (ix2 r s)) := by
  unfold out0_4
  rw [View.ld_unit_zero (S := Sa) off_eq, View.ld_unit_zero (S := Sa) off_eq, View.ld_unit_zero (S := Sa) off_eq, View.ld_unit_zero (S := Sa) off_eq]
  refine (canon4_eq p a q b (ix2 r s)).trans ?_
  have e0 : ix4_0 (ix2 r s) = ix2 r s := eq_ix2 _
  have e1 : ix4_1 (ix2 r s) = ix2 r s := eq_ix2 _
  have e2 : ix4_2 (ix2 r s) = ix2 r s := eq_ix2 _
  have e3 : ix4_3 (ix2 r s) = ix2 r s := eq_ix2 _
  unfold E4
  rw [e0, e1, e2, e3]
  show Ideal.div (Ideal.ofBits .f32 0x3F800000#32) (Ideal.ofBits .f32 0x3F800000#32 + Ideal.exp (Ideal.ofBits .f32 0x00000000#32 - p (ix2 r s))) * a (ix2 r s)
    + Ideal.div (Ideal.ofBits .f32 0x3F800000#32) (Ideal.ofBits .f32 0x3F800000#32 + Ideal.exp (Ideal.ofBits .f32 0x00000000#32 - q (ix2 r s))) * b (ix2 r s) = _
  rw [Ideal.ofBits_zero_f32, Ideal.ofBits_one_f32, Gate.logistic_sub, Gate.logistic_sub, merged]

/-! ## The blocks -/

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val + 1 ∧ win0_2.index t 1 = 0 := by decide +kernel
theorem index3 : ∀ t : Fin cfg0.N, win0_3.index t 0 = t.val + 1 ∧ win0_3.index t 1 = 1 := by decide +kernel
theorem index4 : ∀ t : Fin cfg0.N, win0_4.index t 0 = t.val ∧ win0_4.index t 1 = 0 := by decide +kernel

/-- Point `t`'s rows of the result. -/
abbrev row (t : Fin cfg0.N) (r : Fin 256) : Fin 8192 := ⟨256 * t.val + r.val, by have := lt_of_lt_of_eq t.isLt N_0; omega⟩

variable (m : (ℓ : Loc nD τ sig) → Buf (Elt Ideal) ℓ) (c : Dev nD)

/-- The three arguments as the run is launched with them, and the reference's result. -/
abbrev arg0 : FVec Ideal S8192x2048 .f32 := m ((c : Thread nD τ).loc main_arg0)
abbrev arg1 : FVec Ideal S8192x2048 .f32 := m ((c : Thread nD τ).loc main_arg1)
abbrev arg2 : FVec Ideal S8448x4096 .f32 := m ((c : Thread nD τ).loc main_arg2)
abbrev G : Buf (Elt Ideal) ((c : Thread nD τ).loc main_v3) := val_main_v18 (F := Ideal) (arg0 m c) (arg1 m c) (arg2 m c)

theorem V_0 : V m c main_v0 = truncf (F := Ideal) .bf16 (arg0 m c) bitsLt_bf16_f32 := by
  unfold V
  after_results_simp <;> rfl
theorem V_1 : V m c main_v1 = truncf (F := Ideal) .bf16 (arg1 m c) bitsLt_bf16_f32 := by
  unfold V
  after_results_simp <;> rfl
theorem V_2 : V m c main_v2 = truncf (F := Ideal) .bf16 (arg2 m c) bitsLt_bf16_f32 := by
  unfold V
  after_results_simp <;> rfl

variable (t : Fin cfg0.N) (r : Fin 256) (s : Fin 2048)

theorem a_at : (iblk m c 0 t : Vec Ideal Sa .bf16) (ix2 r s) = arg0 m c (ix2 (row t r) s) := by
  unfold iblk
  rw [View.read_apply]
  refine Eq.trans (congrArg (V m c main_v0) (funext fun a => Fin.ext ?_)) (congrFun (V_0 m c) (ix2 (row t r) s))
  match a with
  | ⟨0, _⟩ => show win0_0.index t 0 * 256 + 1 * r.val = 256 * t.val + r.val; rw [(index0 t).1]; omega
  | ⟨1, _⟩ => show win0_0.index t 1 * 2048 + 1 * s.val = s.val; rw [(index0 t).2]; omega

theorem b_at : (iblk m c 1 t : Vec Ideal Sa .bf16) (ix2 r s) = arg1 m c (ix2 (row t r) s) := by
  unfold iblk
  rw [View.read_apply]
  refine Eq.trans (congrArg (V m c main_v1) (funext fun a => Fin.ext ?_)) (congrFun (V_1 m c) (ix2 (row t r) s))
  match a with
  | ⟨0, _⟩ => show win0_1.index t 0 * 256 + 1 * r.val = 256 * t.val + r.val; rw [(index1 t).1]; omega
  | ⟨1, _⟩ => show win0_1.index t 1 * 2048 + 1 * s.val = s.val; rw [(index1 t).2]; omega

theorem p_at : (iblk m c 2 t : Vec Ideal Sa .bf16) (ix2 r s) = arg2 m c (ix2 (low (row t r)) (half 0 s)) := by
  unfold iblk
  rw [View.read_apply]
  refine Eq.trans (congrArg (V m c main_v2) (funext fun a => Fin.ext ?_)) (congrFun (V_2 m c) (ix2 (low (row t r)) (half 0 s)))
  match a with
  | ⟨0, _⟩ => show win0_2.index t 0 * 256 + 1 * r.val = 256 + (256 * t.val + r.val); rw [(index2 t).1]; omega
  | ⟨1, _⟩ => show win0_2.index t 1 * 2048 + 1 * s.val = 2048 * 0 + s.val; rw [(index2 t).2]; omega

theorem q_at : (iblk m c 3 t : Vec Ideal Sa .bf16) (ix2 r s) = arg2 m c (ix2 (low (row t r)) (half 1 s)) := by
  unfold iblk
  rw [View.read_apply]
  refine Eq.trans (congrArg (V m c main_v2) (funext fun a => Fin.ext ?_)) (congrFun (V_2 m c) (ix2 (low (row t r)) (half 1 s)))
  match a with
  | ⟨0, _⟩ => show win0_3.index t 0 * 256 + 1 * r.val = 256 + (256 * t.val + r.val); rw [(index3 t).1]; omega
  | ⟨1, _⟩ => show win0_3.index t 1 * 2048 + 1 * s.val = 2048 * 1 + s.val; rw [(index3 t).2]; omega

/-! ## The reference at an entry, the block after its point, and the result array -/

section Reference

variable (a b : FVec Ideal S8192x2048 .f32) (g : FVec Ideal S8448x4096 .f32) (i : Fin 8192) (j : Fin 2048)

theorem left_at : val_main_v8 (F := Ideal) g (ix2 i j) = Ideal.logistic (g (ix2 (low i) (half 0 j))) := by
  rw [val_main_v8_apply, val_main_v7_apply, val_main_cst_0_apply, val_main_v6_apply, val_main_v5_apply, val_main_cst_apply, val_main_v4_apply,
    val_main_v3_apply, val_main_v1_apply, val_main_v0_apply]
  have e : idx_main_v0 (idx_main_v1 (ix2 i j)) = ix2 (low i) (half 0 j) := funext fun a => Fin.ext (by
    match a with
    | ⟨0, _⟩ => simp
    | ⟨1, _⟩ => simp)
  rw [e]
  show Ideal.div (Ideal.ofBits .f32 0x3F800000#32) (Ideal.ofBits .f32 0x3F800000#32 + Ideal.exp (-(g (ix2 (low i) (half 0 j))))) = _
  rw [Ideal.ofBits_one_f32]
  rfl

theorem right_at : val_main_v15 (F := Ideal) g (ix2 i j) = Ideal.logistic (g (ix2 (low i) (half 1 j))) := by
  rw [val_main_v15_apply, val_main_v14_apply, val_main_cst_2_apply, val_main_v13_apply, val_main_v12_apply, val_main_cst_1_apply, val_main_v11_apply,
    val_main_v10_apply, val_main_v2_apply, val_main_v0_apply]
  have e : idx_main_v0 (idx_main_v2 (ix2 i j)) = ix2 (low i) (half 1 j) := funext fun a => Fin.ext (by
    match a with
    | ⟨0, _⟩ => simp
    | ⟨1, _⟩ => simp)
  rw [e]
  show Ideal.div (Ideal.ofBits .f32 0x3F800000#32) (Ideal.ofBits .f32 0x3F800000#32 + Ideal.exp (-(g (ix2 (low i) (half 1 j))))) = _
  rw [Ideal.ofBits_one_f32]
  rfl

theorem ref_at : val_main_v18 (F := Ideal) a b g (ix2 i j) = merged (a (ix2 i j)) (b (ix2 i j)) (g (ix2 (low i) (half 0 j))) (g (ix2 (low i) (half 1 j))) := by
  rw [val_main_v18_apply, val_main_v17_apply, val_main_v9_apply, val_main_v16_apply, left_at, right_at]
  rfl

end Reference

theorem flushed_eq (hf : (cfg0.win 4).flush t = true) :
    (dats m 0 c).flushed 4 t = ((cfg0.win 4).blk t).view.read (Elt Ideal) (G m c) := by
  rw [flushed4]
  refine funext fun (y : Sa.Idx) => ?_
  obtain ⟨r, s, rfl⟩ : ∃ r s, y = ix2 r s := ⟨_, _, eq_ix2 y⟩
  refine (out_at (iblk m c 0 t) (iblk m c 1 t) (iblk m c 2 t) (iblk m c 3 t) r s).trans (Eq.trans (congr (congr (congrArg₂ merged
    (a_at m c t r s) (b_at m c t r s)) (p_at m c t r s)) (q_at m c t r s)) ?_)
  refine (ref_at (arg0 m c) (arg1 m c) (arg2 m c) (row t r) s).symm.trans ?_
  rw [View.read_apply]
  refine congrArg (G m c) (funext fun a => Fin.ext ?_)
  match a with
  | ⟨0, _⟩ => show 256 * t.val + r.val = win0_4.index t 0 * 256 + 1 * r.val; rw [(index4 t).1]; omega
  | ⟨1, _⟩ => show s.val = win0_4.index t 1 * 2048 + 1 * s.val; rw [(index4 t).2]; omega

theorem final : (dats m 0 c).arrAt 4 cfg0.N = G m c :=
  (dats m 0 c).arrAt_eq_of_cover 4 _ (flushed_eq m c) ((by decide +kernel : (cfg0.win 4).Covers).cover _ (Memref.isWhole_whole _))

end Cert.MergeIdeal.Hand

end
-- ==== Proof.MergeGradValue.lean ====
/- The merge's gradient: the cotangent through `σ(p) · a + σ(q) · b` in both branches and in both gates, the gates' two side by side. The
   kernel's three arrays after the run are the reference's. -/
module

public import proofs.«01_k».proof.Proof.Branches
public import proofs.«01_k».proof.Proof.Gen.MergeGradIdeal.Value
public import proofs.«01_k».proof.Proof.Gen.MergeGradRefIdeal.Read

@[expose] public section

noncomputable section

namespace Cert.MergeGradIdeal.Hand

open MergeGradIdeal Gen Value Cert.Prod Cert.Branches MergeGradRefIdeal.Read
open Idealize.ShloMosaic TcCoe Tactic ValueIdx
open Idealize.SL Sem

/-- The blocks: of the branches, of the gates and of the cotangent, all of one shape, and of the gates' two gradients. -/
abbrev Sa : Shape := S256x2048
abbrev Sz : Shape := S256x4096

/-! ## One block's entries -/

theorem off_eq : k0_off1 = fun _ => 0 := funext fun a => by fin_cases a <;> rfl

section Point

variable (g : Vec Ideal Sa .f32) (a b p q : Vec Ideal Sa .bf16) (r : Fin 256) (s : Fin 2048)

theorem out5_at : out0_5 (F := Ideal) g a b p q (ix2 r s) = Ideal.logistic (p (ix2 r s)) * g (ix2 r s) := by
  unfold out0_5 k0_pay16
  rw [View.ld_unit_zero (S := Sa) off_eq, View.ld_unit_zero (S := Sa) off_eq]
  refine (canon5_eq p g (ix2 r s)).trans ?_
  have e0 : ix5_0 (ix2 r s) = ix2 r s := eq_ix2 _
  have e1 : ix5_1 (ix2 r s) = ix2 r s := eq_ix2 _
  unfold E5
  rw [e0, e1]
  show Ideal.div (Ideal.ofBits .f32 0x3F800000#32) (Ideal.ofBits .f32 0x3F800000#32 + Ideal.exp (Ideal.ofBits .f32 0x00000000#32 - p (ix2 r s))) * g (ix2 r s) = _
  rw [Ideal.ofBits_zero_f32, Ideal.ofBits_one_f32, Gate.logistic_sub]

theorem out6_at : out0_6 (F := Ideal) g a b p q (ix2 r s) = Ideal.logistic (q (ix2 r s)) * g (ix2 r s) := by
  unfold out0_6
  rw [View.ld_unit_zero (S := Sa) off_eq, View.ld_unit_zero (S := Sa) off_eq]
  refine (canon6_eq q g (ix2 r s)).trans ?_
  have e0 : ix6_0 (ix2 r s) = ix2 r s := eq_ix2 _
  have e1 : ix6_1 (ix2 r s) = ix2 r s := eq_ix2 _
  unfold E6
  rw [e0, e1]
  show Ideal.div (Ideal.ofBits .f32 0x3F800000#32) (Ideal.ofBits .f32 0x3F800000#32 + Ideal.exp (Ideal.ofBits .f32 0x00000000#32 - q (ix2 r s))) * g (ix2 r s) = _
  rw [Ideal.ofBits_zero_f32, Ideal.ofBits_one_f32, Gate.logistic_sub]

/-- Each half of the third block, by the slope of its gate. -/
theorem half_at (u : Fin 2) : Cat7_0 (F := Ideal) g a p b q u (ix2 r s)
    = gateGrads u (g (ix2 r s)) (a (ix2 r s)) (b (ix2 r s)) (p (ix2 r s)) (q (ix2 r s)) := by
  unfold gateGrads gateGrad
  match u with
  | ⟨0, _⟩ =>
    refine Eq.trans ?_ (if_pos rfl).symm
    simp only [Cat7_0, shapeCast_self]
    show Ideal.ofBits .f32 0x00000000#32 - (Ideal.ofBits .f32 0x00000000#32 - g (ix2 r s) * a (ix2 r s)
      * Ideal.div (Ideal.ofBits .f32 0x3F800000#32) ((Ideal.ofBits .f32 0x3F800000#32 + Ideal.exp (Ideal.ofBits .f32 0x00000000#32 - p (ix2 r s)))
        * (Ideal.ofBits .f32 0x3F800000#32 + Ideal.exp (Ideal.ofBits .f32 0x00000000#32 - p (ix2 r s)))) * Ideal.ofBits .f32 0x3F800000#32)
      * Ideal.exp (Ideal.ofBits .f32 0x00000000#32 - p (ix2 r s)) = _
    rw [Ideal.ofBits_zero_f32, Ideal.ofBits_one_f32, Gate.slope]
  | ⟨1, _⟩ =>
    refine Eq.trans ?_ (if_neg fun h => absurd (congrArg Fin.val h) Nat.one_ne_zero).symm
    simp only [Cat7_0, shapeCast_self]
    show Ideal.ofBits .f32 0x00000000#32 - (Ideal.ofBits .f32 0x00000000#32 - g (ix2 r s) * b (ix2 r s)
      * Ideal.div (Ideal.ofBits .f32 0x3F800000#32) ((Ideal.ofBits .f32 0x3F800000#32 + Ideal.exp (Ideal.ofBits .f32 0x00000000#32 - q (ix2 r s)))
        * (Ideal.ofBits .f32 0x3F800000#32 + Ideal.exp (Ideal.ofBits .f32 0x00000000#32 - q (ix2 r s)))) * Ideal.ofBits .f32 0x3F800000#32)
      * Ideal.exp (Ideal.ofBits .f32 0x00000000#32 - q (ix2 r s)) = _
    rw [Ideal.ofBits_zero_f32, Ideal.ofBits_one_f32, Gate.slope]

theorem out7_at (u : Fin 2) : out0_7 (F := Ideal) g a b p q (ix2 r (half u s))
    = gateGrads u (g (ix2 r s)) (a (ix2 r s)) (b (ix2 r s)) (p (ix2 r s)) (q (ix2 r s)) := by
  unfold out0_7 k0_pay16
  rw [View.ld_unit_zero (S := Sa) off_eq, View.ld_unit_zero (S := Sa) off_eq, View.ld_unit_zero (S := Sa) off_eq, View.ld_unit_zero (S := Sa) off_eq,
    View.ld_unit_zero (S := Sa) off_eq]
  refine (canon7_eq g a p b q (ix2 r (half u s))).trans ?_
  have e0 : ix7_0 (ix2 r (half u s)) = ix2 r s := funext fun k => Fin.ext (by
    match k with
    | ⟨0, _⟩ => rfl
    | ⟨1, _⟩ => show (2048 * u.val + s.val) % 2048 = s.val; omega)
  have e1 : csel7_0 (ix2 r (half u s)) = u := Fin.ext (by show (2048 * u.val + s.val) / 2048 = u.val; omega)
  unfold E7
  rw [e0, e1]
  exact half_at g a b p q r s u

end Point

/-! ## The blocks -/

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val + 1 ∧ win0_3.index t 1 = 0 := by decide +kernel
theorem index4 : ∀ t : Fin cfg0.N, win0_4.index t 0 = t.val + 1 ∧ win0_4.index t 1 = 1 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel

/-- Point `t`'s rows of the results. -/
abbrev row (t : Fin cfg0.N) (r : Fin 256) : Fin 8192 := ⟨256 * t.val + r.val, by have := lt_of_lt_of_eq t.isLt N_0; omega⟩

variable (m : (ℓ : Loc nD τ sig) → Buf (Elt Ideal) ℓ) (c : Dev nD)

/-- The four arguments as the run is launched with them, and the reference's three results. -/
abbrev arg0 : FVec Ideal S8192x2048 .f32 := m ((c : Thread nD τ).loc main_arg0)
abbrev arg1 : FVec Ideal S8192x2048 .f32 := m ((c : Thread nD τ).loc main_arg1)
abbrev arg2 : FVec Ideal S8192x2048 .f32 := m ((c : Thread nD τ).loc main_arg2)
abbrev arg3 : FVec Ideal S8448x4096 .f32 := m ((c : Thread nD τ).loc main_arg3)
abbrev G5 : Buf (Elt Ideal) ((c : Thread nD τ).loc main_v3_0) := val_main_v32 (F := Ideal) (arg0 m c) (arg3 m c)
abbrev G6 : Buf (Elt Ideal) ((c : Thread nD τ).loc main_v3_1) := val_main_v33 (F := Ideal) (arg0 m c) (arg3 m c)
abbrev G7 : Buf (Elt Ideal) ((c : Thread nD τ).loc main_v3_2) := val_main_v35 (F := Ideal) (arg0 m c) (arg1 m c) (arg2 m c) (arg3 m c)

theorem V_arg : V m c main_arg0 = arg0 m c := by
  unfold V
  after_results_simp <;> rfl
theorem V_0 : V m c main_v0 = truncf (F := Ideal) .bf16 (arg1 m c) bitsLt_bf16_f32 := by
  unfold V
  after_results_simp <;> rfl
theorem V_1 : V m c main_v1 = truncf (F := Ideal) .bf16 (arg2 m c) bitsLt_bf16_f32 := by
  unfold V
  after_results_simp <;> rfl
theorem V_2 : V m c main_v2 = truncf (F := Ideal) .bf16 (arg3 m c) bitsLt_bf16_f32 := by
  unfold V
  after_results_simp <;> rfl

variable (t : Fin cfg0.N) (r : Fin 256) (s : Fin 2048)

theorem g_at : (iblk m c 0 t : Vec Ideal Sa .f32) (ix2 r s) = arg0 m c (ix2 (row t r) s) := by
  unfold iblk
  rw [View.read_apply]
  refine Eq.trans (congrArg (V m c main_arg0) (funext fun a => Fin.ext ?_)) (congrFun (V_arg m c) (ix2 (row t r) s))
  match a with
  | ⟨0, _⟩ => show win0_0.index t 0 * 256 + 1 * r.val = 256 * t.val + r.val; rw [(index0 t).1]; omega
  | ⟨1, _⟩ => show win0_0.index t 1 * 2048 + 1 * s.val = s.val; rw [(index0 t).2]; omega

theorem a_at : (iblk m c 1 t : Vec Ideal Sa .bf16) (ix2 r s) = arg1 m c (ix2 (row t r) s) := by
  unfold iblk
  rw [View.read_apply]
  refine Eq.trans (congrArg (V m c main_v0) (funext fun a => Fin.ext ?_)) (congrFun (V_0 m c) (ix2 (row t r) s))
  match a with
  | ⟨0, _⟩ => show win0_1.index t 0 * 256 + 1 * r.val = 256 * t.val + r.val; rw [(index1 t).1]; omega
  | ⟨1, _⟩ => show win0_1.index t 1 * 2048 + 1 * s.val = s.val; rw [(index1 t).2]; omega

theorem b_at : (iblk m c 2 t : Vec Ideal Sa .bf16) (ix2 r s) = arg2 m c (ix2 (row t r) s) := by
  unfold iblk
  rw [View.read_apply]
  refine Eq.trans (congrArg (V m c main_v1) (funext fun a => Fin.ext ?_)) (congrFun (V_1 m c) (ix2 (row t r) s))
  match a with
  | ⟨0, _⟩ => show win0_2.index t 0 * 256 + 1 * r.val = 256 * t.val + r.val; rw [(index2 t).1]; omega
  | ⟨1, _⟩ => show win0_2.index t 1 * 2048 + 1 * s.val = s.val; rw [(index2 t).2]; omega

theorem p_at : (iblk m c 3 t : Vec Ideal Sa .bf16) (ix2 r s) = arg3 m c (ix2 (low (row t r)) (half 0 s)) := by
  unfold iblk
  rw [View.read_apply]
  refine Eq.trans (congrArg (V m c main_v2) (funext fun a => Fin.ext ?_)) (congrFun (V_2 m c) (ix2 (low (row t r)) (half 0 s)))
  match a with
  | ⟨0, _⟩ => show win0_3.index t 0 * 256 + 1 * r.val = 256 + (256 * t.val + r.val); rw [(index3 t).1]; omega
  | ⟨1, _⟩ => show win0_3.index t 1 * 2048 + 1 * s.val = 2048 * 0 + s.val; rw [(index3 t).2]; omega

theorem q_at : (iblk m c 4 t : Vec Ideal Sa .bf16) (ix2 r s) = arg3 m c (ix2 (low (row t r)) (half 1 s)) := by
  unfold iblk
  rw [View.read_apply]
  refine Eq.trans (congrArg (V m c main_v2) (funext fun a => Fin.ext ?_)) (congrFun (V_2 m c) (ix2 (low (row t r)) (half 1 s)))
  match a with
  | ⟨0, _⟩ => show win0_4.index t 0 * 256 + 1 * r.val = 256 + (256 * t.val + r.val); rw [(index4 t).1]; omega
  | ⟨1, _⟩ => show win0_4.index t 1 * 2048 + 1 * s.val = 2048 * 1 + s.val; rw [(index4 t).2]; omega

/-! ## The reference at an entry, the blocks after their point, and the result arrays -/

section Reference

variable (g a b : FVec Ideal S8192x2048 .f32) (x : FVec Ideal S8448x4096 .f32) (i : Fin 8192) (j : Fin 2048)

theorem left_at : val_main_v8 (F := Ideal) x (ix2 i j) = Ideal.logistic (x (ix2 (low i) (half 0 j))) := by
  rw [val_main_v8_apply, val_main_v7_apply, val_main_cst_0_apply, val_main_v6_apply, val_main_v5_apply, val_main_cst_apply, val_main_v4_apply, val_main_v3_apply, val_main_v1_apply, val_main_v0_apply]
  have e : idx_main_v0 (idx_main_v1 (ix2 i j)) = ix2 (low i) (half 0 j) := funext fun a => Fin.ext (by
    match a with
    | ⟨0, _⟩ => simp
    | ⟨1, _⟩ => simp)
  rw [e]
  show Ideal.div (Ideal.ofBits .f32 0x3F800000#32) (Ideal.ofBits .f32 0x3F800000#32 + Ideal.exp (-(x (ix2 (low i) (half 0 j))))) = _
  rw [Ideal.ofBits_one_f32]
  rfl

theorem right_at : val_main_v18 (F := Ideal) x (ix2 i j) = Ideal.logistic (x (ix2 (low i) (half 1 j))) := by
  rw [val_main_v18_apply, val_main_v17_apply, val_main_cst_3_apply, val_main_v16_apply, val_main_v15_apply, val_main_cst_2_apply, val_main_v14_apply, val_main_v13_apply, val_main_v2_apply, val_main_v0_apply]
  have e : idx_main_v0 (idx_main_v2 (ix2 i j)) = ix2 (low i) (half 1 j) := funext fun a => Fin.ext (by
    match a with
    | ⟨0, _⟩ => simp
    | ⟨1, _⟩ => simp)
  rw [e]
  show Ideal.div (Ideal.ofBits .f32 0x3F800000#32) (Ideal.ofBits .f32 0x3F800000#32 + Ideal.exp (-(x (ix2 (low i) (half 1 j))))) = _
  rw [Ideal.ofBits_one_f32]
  rfl

theorem ct_at : val_main_v24 (F := Ideal) g (ix2 i j) = g (ix2 i j) := by
  unfold val_main_v24
  rw [shapeCast_self]

theorem ct'_at : val_main_v25 (F := Ideal) g (ix2 i j) = g (ix2 i j) := by
  unfold val_main_v25
  rw [shapeCast_self]

theorem ref5_at : val_main_v32 (F := Ideal) g x (ix2 i j) = Ideal.logistic (x (ix2 (low i) (half 0 j))) * g (ix2 i j) := by
  rw [val_main_v32_apply, val_main_v29_apply, left_at, ct_at]
  rfl

theorem ref6_at : val_main_v33 (F := Ideal) g x (ix2 i j) = Ideal.logistic (x (ix2 (low i) (half 1 j))) * g (ix2 i j) := by
  rw [val_main_v33_apply, val_main_v26_apply, right_at, ct'_at]
  rfl

theorem ref7_at (u : Fin 2) : val_main_v35 (F := Ideal) g a b x (ix2 i (half u j))
    = gateGrads u (g (ix2 i j)) (a (ix2 i j)) (b (ix2 i j)) (x (ix2 (low i) (half 0 j))) (x (ix2 (low i) (half 1 j))) := by
  refine (val_main_v35_apply _ _ _ _ _).trans ?_
  show val_main_v34 (F := Ideal) g a b x (ix2 i (half u j)) = _
  unfold val_main_v34 gateGrads
  refine (cat_cols _ _ _ u i j).trans ?_
  rw [val_main_v31_apply, val_main_v30_apply, val_main_v11_apply, val_main_v10_apply, val_main_v9_apply, val_main_cst_1_apply, left_at, ct_at,
    val_main_v28_apply, val_main_v27_apply, val_main_v21_apply, val_main_v20_apply, val_main_v19_apply, val_main_cst_4_apply, right_at, ct'_at]
  show (if u = 0 then g (ix2 i j) * a (ix2 i j) * (_ * (Ideal.ofBits .f32 0x3F800000#32 - _))
    else g (ix2 i j) * b (ix2 i j) * (_ * (Ideal.ofBits .f32 0x3F800000#32 - _))) = _
  rw [Ideal.ofBits_one_f32]
  rfl

end Reference

theorem flushed5_eq (hf : (cfg0.win 5).flush t = true) :
    (dats m 0 c).flushed 5 t = ((cfg0.win 5).blk t).view.read (Elt Ideal) (G5 m c) := by
  rw [flushed5]
  refine funext fun (y : Sa.Idx) => ?_
  obtain ⟨r, s, rfl⟩ : ∃ r s, y = ix2 r s := ⟨_, _, eq_ix2 y⟩
  refine (out5_at (iblk m c 0 t) (iblk m c 1 t) (iblk m c 2 t) (iblk m c 3 t) (iblk m c 4 t) r s).trans
    (Eq.trans (congrArg₂ (fun u v : EReal => Ideal.logistic u * v) (p_at m c t r s) (g_at m c t r s)) ?_)
  refine (ref5_at (arg0 m c) (arg3 m c) (row t r) s).symm.trans ?_
  rw [View.read_apply]
  refine congrArg (G5 m c) (funext fun a => Fin.ext ?_)
  match a with
  | ⟨0, _⟩ => show 256 * t.val + r.val = win0_5.index t 0 * 256 + 1 * r.val; rw [(index5 t).1]; omega
  | ⟨1, _⟩ => show s.val = win0_5.index t 1 * 2048 + 1 * s.val; rw [(index5 t).2]; omega

theorem flushed6_eq (hf : (cfg0.win 6).flush t = true) :
    (dats m 0 c).flushed 6 t = ((cfg0.win 6).blk t).view.read (Elt Ideal) (G6 m c) := by
  rw [flushed6]
  refine funext fun (y : Sa.Idx) => ?_
  obtain ⟨r, s, rfl⟩ : ∃ r s, y = ix2 r s := ⟨_, _, eq_ix2 y⟩
  refine (out6_at (iblk m c 0 t) (iblk m c 1 t) (iblk m c 2 t) (iblk m c 3 t) (iblk m c 4 t) r s).trans
    (Eq.trans (congrArg₂ (fun u v : EReal => Ideal.logistic u * v) (q_at m c t r s) (g_at m c t r s)) ?_)
  refine (ref6_at (arg0 m c) (arg3 m c) (row t r) s).symm.trans ?_
  rw [View.read_apply]
  refine congrArg (G6 m c) (funext fun a => Fin.ext ?_)
  match a with
  | ⟨0, _⟩ => show 256 * t.val + r.val = win0_6.index t 0 * 256 + 1 * r.val; rw [(index6 t).1]; omega
  | ⟨1, _⟩ => show s.val = win0_6.index t 1 * 2048 + 1 * s.val; rw [(index6 t).2]; omega

theorem flushed7_eq (hf : (cfg0.win 7).flush t = true) :
    (dats m 0 c).flushed 7 t = ((cfg0.win 7).blk t).view.read (Elt Ideal) (G7 m c) := by
  rw [flushed7]
  refine funext fun (y : Sz.Idx) => ?_
  obtain ⟨r, k, rfl⟩ : ∃ r k, y = ix2 r k := ⟨_, _, eq_ix2 y⟩
  obtain ⟨u, s, rfl⟩ := eq_half k
  refine (out7_at (iblk m c 0 t) (iblk m c 1 t) (iblk m c 2 t) (iblk m c 3 t) (iblk m c 4 t) r s u).trans (Eq.trans (congr (congr (congr (congrArg₂ (gateGrads u)
    (g_at m c t r s) (a_at m c t r s)) (b_at m c t r s)) (p_at m c t r s)) (q_at m c t r s)) ?_)
  refine (ref7_at (arg0 m c) (arg1 m c) (arg2 m c) (arg3 m c) (row t r) s u).symm.trans ?_
  rw [View.read_apply]
  refine congrArg (G7 m c) (funext fun a => Fin.ext ?_)
  match a with
  | ⟨0, _⟩ => show 256 * t.val + r.val = win0_7.index t 0 * 256 + 1 * r.val; rw [(index7 t).1]; omega
  | ⟨1, _⟩ => show 2048 * u.val + s.val = win0_7.index t 1 * 4096 + 1 * (2048 * u.val + s.val); rw [(index7 t).2]; omega

theorem point (i : Fin 8192) : ∃ t : Fin cfg0.N, t.val = i.val / 256 := ⟨⟨_, lt_of_lt_of_eq (by omega) N_0.symm⟩, rfl⟩

theorem final5 : (dats m 0 c).arrAt 5 cfg0.N = G5 m c :=
  (dats m 0 c).arrAt_eq_of_cover 5 _ (flushed5_eq m c) ((by decide +kernel : (cfg0.win 5).Covers).cover _ (Memref.isWhole_whole _))

theorem final6 : (dats m 0 c).arrAt 6 cfg0.N = G6 m c :=
  (dats m 0 c).arrAt_eq_of_cover 6 _ (flushed6_eq m c) ((by decide +kernel : (cfg0.win 6).Covers).cover _ (Memref.isWhole_whole _))

theorem final7 : (dats m 0 c).arrAt 7 cfg0.N = G7 m c :=
  (dats m 0 c).arrAt_eq_of_cover 7 _ (flushed7_eq m c) ((by decide +kernel : (cfg0.win 7).Covers).cover _ (Memref.isWhole_whole _))

end Cert.MergeGradIdeal.Hand

end
-- ==== Proof.UpdateValue.lean ====
/- The optimiser's update of each weight, and the sum of the retention's two directions: calls that act on each entry alone. What a
   point leaves at an entry of its block is the reference's expression of the arguments at that entry, and the points' blocks
   cover the results. -/
module

public import proofs.«01_k».proof.Defs
public import proofs.«01_k».proof.Proof.Gen.RetSumIdeal.Frame
public import proofs.«01_k».proof.Proof.Gen.RetSumRefIdeal.Read
public import proofs.«01_k».proof.Proof.Gen.AdamInIdeal.Frame
public import proofs.«01_k».proof.Proof.Gen.AdamInRefIdeal.Read
public import proofs.«01_k».proof.Proof.Gen.AdamOutIdeal.Frame
public import proofs.«01_k».proof.Proof.Gen.AdamOutRefIdeal.Read
public import proofs.«01_k».proof.Proof.Gen.AdamMixInIdeal.Frame
public import proofs.«01_k».proof.Proof.Gen.AdamMixInRefIdeal.Read
public import proofs.«01_k».proof.Proof.Gen.AdamProjIdeal.Frame
public import proofs.«01_k».proof.Proof.Gen.AdamProjRefIdeal.Read
public import proofs.«01_k».proof.Proof.Gen.AdamMixOutIdeal.Frame
public import proofs.«01_k».proof.Proof.Gen.AdamMixOutRefIdeal.Read
public import proofs.«01_k».proof.Proof.Gen.AdamAdaIdeal.Frame
public import proofs.«01_k».proof.Proof.Gen.AdamAdaRefIdeal.Read
public import proofs.«01_k».proof.Proof.Gen.AdamBiasIdeal.Frame
public import proofs.«01_k».proof.Proof.Gen.AdamBiasRefIdeal.Read
public import proofs.«01_k».proof.Proof.Gen.AdamVectorIdeal.Frame
public import proofs.«01_k».proof.Proof.Gen.AdamVectorRefIdeal.Read
public import proofs.«01_k».proof.Proof.Gen.AdamGainIdeal.Frame
public import proofs.«01_k».proof.Proof.Gen.AdamGainRefIdeal.Read
public import proofs.«01_k».proof.Proof.Gen.AdamDecayIdeal.Frame
public import proofs.«01_k».proof.Proof.Gen.AdamDecayRefIdeal.Read
public import Idealize.ShloMosaic.Lib.Pipeline.ValueKit.Geometry

@[expose] public section

noncomputable section

open Idealize.ShloMosaic Idealize.ShloMosaic.TcCoe Idealize.SL.Sem

namespace Cert.RetSumIdeal.Hand

open RetSumIdeal RetSumIdeal.Gen RetSumRefIdeal.Read

theorem off_eq : k0_off1 = fun _ => 0 := funext fun a => by fin_cases a <;> rfl

variable (m : (ℓ : Loc nD τ sig) → Buf (Elt Ideal) ℓ) (c : Dev nD)

abbrev G := val_main_v1 (m ((c : Thread nD τ).loc main_arg0)) (m ((c : Thread nD τ).loc main_arg1))

theorem final : (dats m 0 c).arrAt 2 cfg0.N = G m c :=
  (dats m 0 c).arrAt_eq_of_covers 2 _ (by decide +kernel) fun t _ y => by
    show (dats m 0 c).after 2 t y = _
    rw [after0_2, out0_2, View.canon_unit_zero off_eq]
    simp only [View.ld_unit_zero (S := S256x3072) off_eq]
    rfl

theorem result : algebraic_RetSumIdeal_RetSumRefIdeal := fun m g m' g' _ ha =>
  ⟨fun c => G m c,
    (θ_run _ _ _).mono (fun r h c => ⟨((h c).1 2).trans (final m c), ((h c).1 0).trans ((dats m 0 c).arrAt_in 0 rfl _),
      ((h c).1 1).trans ((dats m 0 c).arrAt_in 1 rfl _)⟩) (run_main m g),
    (θ_run _ _ _).mono (fun r h c => by
      simp only [G, ← (ha c).1, ← (ha c).2]
      exact h c) (RetSumRefIdeal.Value.run m' g')⟩

theorem frame_ref : quiescent_RetSumRefIdeal := fun m ρ _ =>
  (θ_run _ _ _).mono (fun r h => ⟨fun c => (h c).2, sem_eq_zero_of_no_sems (by decide) r.2⟩) (RetSumRefIdeal.Value.run m ρ)

end Cert.RetSumIdeal.Hand

namespace Cert.AdamInIdeal.Hand

open AdamInIdeal AdamInIdeal.Gen AdamInRefIdeal.Read

theorem off_eq : k0_off1 = fun _ => 0 := funext fun a => by fin_cases a <;> rfl

variable (m : (ℓ : Loc nD τ sig) → Buf (Elt Ideal) ℓ) (c : Dev nD)

abbrev x (a : Ref sig .tc) := m ((c : Thread nD τ).loc a)
abbrev delta := val_main_v23 (x m c main_arg0) (x m c main_arg1) (x m c main_arg2) (x m c main_arg3)
abbrev first := val_main_v4 (x m c main_arg1) (x m c main_arg2)
abbrev second := val_main_v10 (x m c main_arg1) (x m c main_arg3)

theorem delta_eq : (dats m 0 c).arrAt 4 cfg0.N = delta m c :=
  (dats m 0 c).arrAt_eq_of_covers 4 _ (by decide +kernel) fun t _ y => by
    show (dats m 0 c).after 4 t y = _
    rw [after0_4, out0_4, View.canon_unit_zero off_eq]
    simp only [View.ld_unit_zero (S := S128x2816) off_eq]
    rfl

theorem first_eq : (dats m 0 c).arrAt 5 cfg0.N = first m c :=
  (dats m 0 c).arrAt_eq_of_covers 5 _ (by decide +kernel) fun t _ y => by
    show (dats m 0 c).after 5 t y = _
    rw [after0_5, out0_5, View.canon_unit_zero off_eq]
    simp only [View.ld_unit_zero (S := S128x2816) off_eq]
    rfl

theorem second_eq : (dats m 0 c).arrAt 6 cfg0.N = second m c :=
  (dats m 0 c).arrAt_eq_of_covers 6 _ (by decide +kernel) fun t _ y => by
    show (dats m 0 c).after 6 t y = _
    rw [after0_6, out0_6, View.canon_unit_zero off_eq]
    simp only [View.ld_unit_zero (S := S128x2816) off_eq]
    rfl

theorem result : algebraic_AdamInIdeal_AdamInRefIdeal := fun m g m' g' _ ha =>
  ⟨fun c => delta m c, fun c => first m c, fun c => second m c,
    (θ_run _ _ _).mono (fun r h c =>
      ⟨((h c).1 4).trans (delta_eq m c), ((h c).1 5).trans (first_eq m c), ((h c).1 6).trans (second_eq m c),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main m g),
    (θ_run _ _ _).mono (fun r h c => by
      obtain ⟨e0, e1, e2, e3⟩ := ha c
      simp only [delta, first, second, x, ← e0, ← e1, ← e2, ← e3]
      exact h c) (AdamInRefIdeal.Value.run m' g')⟩

theorem frame_ref : quiescent_AdamInRefIdeal := fun m ρ _ =>
  (θ_run _ _ _).mono (fun r h => ⟨fun c => (h c).2.2.2, sem_eq_zero_of_no_sems (by decide) r.2⟩) (AdamInRefIdeal.Value.run m ρ)

end Cert.AdamInIdeal.Hand

namespace Cert.AdamOutIdeal.Hand

open AdamOutIdeal AdamOutIdeal.Gen AdamOutRefIdeal.Read

theorem off_eq : k0_off1 = fun _ => 0 := funext fun a => by fin_cases a <;> rfl

variable (m : (ℓ : Loc nD τ sig) → Buf (Elt Ideal) ℓ) (c : Dev nD)

abbrev x (a : Ref sig .tc) := m ((c : Thread nD τ).loc a)
abbrev delta := val_main_v23 (x m c main_arg0) (x m c main_arg1) (x m c main_arg2) (x m c main_arg3)
abbrev first := val_main_v4 (x m c main_arg1) (x m c main_arg2)
abbrev second := val_main_v10 (x m c main_arg1) (x m c main_arg3)

theorem delta_eq : (dats m 0 c).arrAt 4 cfg0.N = delta m c :=
  (dats m 0 c).arrAt_eq_of_covers 4 _ (by decide +kernel) fun t _ y => by
    show (dats m 0 c).after 4 t y = _
    rw [after0_4, out0_4, View.canon_unit_zero off_eq]
    simp only [View.ld_unit_zero (S := S128x2048) off_eq]
    rfl

theorem first_eq : (dats m 0 c).arrAt 5 cfg0.N = first m c :=
  (dats m 0 c).arrAt_eq_of_covers 5 _ (by decide +kernel) fun t _ y => by
    show (dats m 0 c).after 5 t y = _
    rw [after0_5, out0_5, View.canon_unit_zero off_eq]
    simp only [View.ld_unit_zero (S := S128x2048) off_eq]
    rfl

theorem second_eq : (dats m 0 c).arrAt 6 cfg0.N = second m c :=
  (dats m 0 c).arrAt_eq_of_covers 6 _ (by decide +kernel) fun t _ y => by
    show (dats m 0 c).after 6 t y = _
    rw [after0_6, out0_6, View.canon_unit_zero off_eq]
    simp only [View.ld_unit_zero (S := S128x2048) off_eq]
    rfl

theorem result : algebraic_AdamOutIdeal_AdamOutRefIdeal := fun m g m' g' _ ha =>
  ⟨fun c => delta m c, fun c => first m c, fun c => second m c,
    (θ_run _ _ _).mono (fun r h c =>
      ⟨((h c).1 4).trans (delta_eq m c), ((h c).1 5).trans (first_eq m c), ((h c).1 6).trans (second_eq m c),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main m g),
    (θ_run _ _ _).mono (fun r h c => by
      obtain ⟨e0, e1, e2, e3⟩ := ha c
      simp only [delta, first, second, x, ← e0, ← e1, ← e2, ← e3]
      exact h c) (AdamOutRefIdeal.Value.run m' g')⟩

theorem frame_ref : quiescent_AdamOutRefIdeal := fun m ρ _ =>
  (θ_run _ _ _).mono (fun r h => ⟨fun c => (h c).2.2.2, sem_eq_zero_of_no_sems (by decide) r.2⟩) (AdamOutRefIdeal.Value.run m ρ)

end Cert.AdamOutIdeal.Hand

namespace Cert.AdamMixInIdeal.Hand

open AdamMixInIdeal AdamMixInIdeal.Gen AdamMixInRefIdeal.Read

theorem off_eq : k0_off1 = fun _ => 0 := funext fun a => by fin_cases a <;> rfl

variable (m : (ℓ : Loc nD τ sig) → Buf (Elt Ideal) ℓ) (c : Dev nD)

abbrev x (a : Ref sig .tc) := m ((c : Thread nD τ).loc a)
abbrev delta := val_main_v23 (x m c main_arg0) (x m c main_arg1) (x m c main_arg2) (x m c main_arg3)
abbrev first := val_main_v4 (x m c main_arg1) (x m c main_arg2)
abbrev second := val_main_v10 (x m c main_arg1) (x m c main_arg3)

theorem delta_eq : (dats m 0 c).arrAt 4 cfg0.N = delta m c :=
  (dats m 0 c).arrAt_eq_of_covers 4 _ (by decide +kernel) fun t _ y => by
    show (dats m 0 c).after 4 t y = _
    rw [after0_4, out0_4, View.canon_unit_zero off_eq]
    simp only [View.ld_unit_zero (S := S128x2432) off_eq]
    rfl

theorem first_eq : (dats m 0 c).arrAt 5 cfg0.N = first m c :=
  (dats m 0 c).arrAt_eq_of_covers 5 _ (by decide +kernel) fun t _ y => by
    show (dats m 0 c).after 5 t y = _
    rw [after0_5, out0_5, View.canon_unit_zero off_eq]
    simp only [View.ld_unit_zero (S := S128x2432) off_eq]
    rfl

theorem second_eq : (dats m 0 c).arrAt 6 cfg0.N = second m c :=
  (dats m 0 c).arrAt_eq_of_covers 6 _ (by decide +kernel) fun t _ y => by
    show (dats m 0 c).after 6 t y = _
    rw [after0_6, out0_6, View.canon_unit_zero off_eq]
    simp only [View.ld_unit_zero (S := S128x2432) off_eq]
    rfl

theorem result : algebraic_AdamMixInIdeal_AdamMixInRefIdeal := fun m g m' g' _ ha =>
  ⟨fun c => delta m c, fun c => first m c, fun c => second m c,
    (θ_run _ _ _).mono (fun r h c =>
      ⟨((h c).1 4).trans (delta_eq m c), ((h c).1 5).trans (first_eq m c), ((h c).1 6).trans (second_eq m c),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main m g),
    (θ_run _ _ _).mono (fun r h c => by
      obtain ⟨e0, e1, e2, e3⟩ := ha c
      simp only [delta, first, second, x, ← e0, ← e1, ← e2, ← e3]
      exact h c) (AdamMixInRefIdeal.Value.run m' g')⟩

theorem frame_ref : quiescent_AdamMixInRefIdeal := fun m ρ _ =>
  (θ_run _ _ _).mono (fun r h => ⟨fun c => (h c).2.2.2, sem_eq_zero_of_no_sems (by decide) r.2⟩) (AdamMixInRefIdeal.Value.run m ρ)

end Cert.AdamMixInIdeal.Hand

namespace Cert.AdamProjIdeal.Hand

open AdamProjIdeal AdamProjIdeal.Gen AdamProjRefIdeal.Read

theorem off_eq : k0_off1 = fun _ => 0 := funext fun a => by fin_cases a <;> rfl

variable (m : (ℓ : Loc nD τ sig) → Buf (Elt Ideal) ℓ) (c : Dev nD)

abbrev x (a : Ref sig .tc) := m ((c : Thread nD τ).loc a)
abbrev delta := val_main_v23 (x m c main_arg0) (x m c main_arg1) (x m c main_arg2) (x m c main_arg3)
abbrev first := val_main_v4 (x m c main_arg1) (x m c main_arg2)
abbrev second := val_main_v10 (x m c main_arg1) (x m c main_arg3)

theorem delta_eq : (dats m 0 c).arrAt 4 cfg0.N = delta m c :=
  (dats m 0 c).arrAt_eq_of_covers 4 _ (by decide +kernel) fun t _ y => by
    show (dats m 0 c).after 4 t y = _
    rw [after0_4, out0_4, View.canon_unit_zero off_eq]
    simp only [View.ld_unit_zero (S := S128x512) off_eq]
    rfl

theorem first_eq : (dats m 0 c).arrAt 5 cfg0.N = first m c :=
  (dats m 0 c).arrAt_eq_of_covers 5 _ (by decide +kernel) fun t _ y => by
    show (dats m 0 c).after 5 t y = _
    rw [after0_5, out0_5, View.canon_unit_zero off_eq]
    simp only [View.ld_unit_zero (S := S128x512) off_eq]
    rfl

theorem second_eq : (dats m 0 c).arrAt 6 cfg0.N = second m c :=
  (dats m 0 c).arrAt_eq_of_covers 6 _ (by decide +kernel) fun t _ y => by
    show (dats m 0 c).after 6 t y = _
    rw [after0_6, out0_6, View.canon_unit_zero off_eq]
    simp only [View.ld_unit_zero (S := S128x512) off_eq]
    rfl

theorem result : algebraic_AdamProjIdeal_AdamProjRefIdeal := fun m g m' g' _ ha =>
  ⟨fun c => delta m c, fun c => first m c, fun c => second m c,
    (θ_run _ _ _).mono (fun r h c =>
      ⟨((h c).1 4).trans (delta_eq m c), ((h c).1 5).trans (first_eq m c), ((h c).1 6).trans (second_eq m c),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main m g),
    (θ_run _ _ _).mono (fun r h c => by
      obtain ⟨e0, e1, e2, e3⟩ := ha c
      simp only [delta, first, second, x, ← e0, ← e1, ← e2, ← e3]
      exact h c) (AdamProjRefIdeal.Value.run m' g')⟩

theorem frame_ref : quiescent_AdamProjRefIdeal := fun m ρ _ =>
  (θ_run _ _ _).mono (fun r h => ⟨fun c => (h c).2.2.2, sem_eq_zero_of_no_sems (by decide) r.2⟩) (AdamProjRefIdeal.Value.run m ρ)

end Cert.AdamProjIdeal.Hand

namespace Cert.AdamMixOutIdeal.Hand

open AdamMixOutIdeal AdamMixOutIdeal.Gen AdamMixOutRefIdeal.Read

theorem off_eq : k0_off1 = fun _ => 0 := funext fun a => by fin_cases a <;> rfl

variable (m : (ℓ : Loc nD τ sig) → Buf (Elt Ideal) ℓ) (c : Dev nD)

abbrev x (a : Ref sig .tc) := m ((c : Thread nD τ).loc a)
abbrev delta := val_main_v23 (x m c main_arg0) (x m c main_arg1) (x m c main_arg2) (x m c main_arg3)
abbrev first := val_main_v4 (x m c main_arg1) (x m c main_arg2)
abbrev second := val_main_v10 (x m c main_arg1) (x m c main_arg3)

theorem delta_eq : (dats m 0 c).arrAt 4 cfg0.N = delta m c :=
  (dats m 0 c).arrAt_eq_of_covers 4 _ (by decide +kernel) fun t _ y => by
    show (dats m 0 c).after 4 t y = _
    rw [after0_4, out0_4, View.canon_unit_zero off_eq]
    simp only [View.ld_unit_zero (S := S128x2048) off_eq]
    rfl

theorem first_eq : (dats m 0 c).arrAt 5 cfg0.N = first m c :=
  (dats m 0 c).arrAt_eq_of_covers 5 _ (by decide +kernel) fun t _ y => by
    show (dats m 0 c).after 5 t y = _
    rw [after0_5, out0_5, View.canon_unit_zero off_eq]
    simp only [View.ld_unit_zero (S := S128x2048) off_eq]
    rfl

theorem second_eq : (dats m 0 c).arrAt 6 cfg0.N = second m c :=
  (dats m 0 c).arrAt_eq_of_covers 6 _ (by decide +kernel) fun t _ y => by
    show (dats m 0 c).after 6 t y = _
    rw [after0_6, out0_6, View.canon_unit_zero off_eq]
    simp only [View.ld_unit_zero (S := S128x2048) off_eq]
    rfl

theorem result : algebraic_AdamMixOutIdeal_AdamMixOutRefIdeal := fun m g m' g' _ ha =>
  ⟨fun c => delta m c, fun c => first m c, fun c => second m c,
    (θ_run _ _ _).mono (fun r h c =>
      ⟨((h c).1 4).trans (delta_eq m c), ((h c).1 5).trans (first_eq m c), ((h c).1 6).trans (second_eq m c),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main m g),
    (θ_run _ _ _).mono (fun r h c => by
      obtain ⟨e0, e1, e2, e3⟩ := ha c
      simp only [delta, first, second, x, ← e0, ← e1, ← e2, ← e3]
      exact h c) (AdamMixOutRefIdeal.Value.run m' g')⟩

theorem frame_ref : quiescent_AdamMixOutRefIdeal := fun m ρ _ =>
  (θ_run _ _ _).mono (fun r h => ⟨fun c => (h c).2.2.2, sem_eq_zero_of_no_sems (by decide) r.2⟩) (AdamMixOutRefIdeal.Value.run m ρ)

end Cert.AdamMixOutIdeal.Hand

namespace Cert.AdamAdaIdeal.Hand

open AdamAdaIdeal AdamAdaIdeal.Gen AdamAdaRefIdeal.Read

theorem off_eq : k0_off1 = fun _ => 0 := funext fun a => by fin_cases a <;> rfl

variable (m : (ℓ : Loc nD τ sig) → Buf (Elt Ideal) ℓ) (c : Dev nD)

abbrev x (a : Ref sig .tc) := m ((c : Thread nD τ).loc a)
abbrev delta := val_main_v23 (x m c main_arg0) (x m c main_arg1) (x m c main_arg2) (x m c main_arg3)
abbrev first := val_main_v4 (x m c main_arg1) (x m c main_arg2)
abbrev second := val_main_v10 (x m c main_arg1) (x m c main_arg3)

theorem delta_eq : (dats m 0 c).arrAt 4 cfg0.N = delta m c :=
  (dats m 0 c).arrAt_eq_of_covers 4 _ (by decide +kernel) fun t _ y => by
    show (dats m 0 c).after 4 t y = _
    rw [after0_4, out0_4, View.canon_unit_zero off_eq]
    simp only [View.ld_unit_zero (S := S128x4608) off_eq]
    rfl

theorem first_eq : (dats m 0 c).arrAt 5 cfg0.N = first m c :=
  (dats m 0 c).arrAt_eq_of_covers 5 _ (by decide +kernel) fun t _ y => by
    show (dats m 0 c).after 5 t y = _
    rw [after0_5, out0_5, View.canon_unit_zero off_eq]
    simp only [View.ld_unit_zero (S := S128x4608) off_eq]
    rfl

theorem second_eq : (dats m 0 c).arrAt 6 cfg0.N = second m c :=
  (dats m 0 c).arrAt_eq_of_covers 6 _ (by decide +kernel) fun t _ y => by
    show (dats m 0 c).after 6 t y = _
    rw [after0_6, out0_6, View.canon_unit_zero off_eq]
    simp only [View.ld_unit_zero (S := S128x4608) off_eq]
    rfl

theorem result : algebraic_AdamAdaIdeal_AdamAdaRefIdeal := fun m g m' g' _ ha =>
  ⟨fun c => delta m c, fun c => first m c, fun c => second m c,
    (θ_run _ _ _).mono (fun r h c =>
      ⟨((h c).1 4).trans (delta_eq m c), ((h c).1 5).trans (first_eq m c), ((h c).1 6).trans (second_eq m c),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main m g),
    (θ_run _ _ _).mono (fun r h c => by
      obtain ⟨e0, e1, e2, e3⟩ := ha c
      simp only [delta, first, second, x, ← e0, ← e1, ← e2, ← e3]
      exact h c) (AdamAdaRefIdeal.Value.run m' g')⟩

theorem frame_ref : quiescent_AdamAdaRefIdeal := fun m ρ _ =>
  (θ_run _ _ _).mono (fun r h => ⟨fun c => (h c).2.2.2, sem_eq_zero_of_no_sems (by decide) r.2⟩) (AdamAdaRefIdeal.Value.run m ρ)

end Cert.AdamAdaIdeal.Hand

namespace Cert.AdamBiasIdeal.Hand

open AdamBiasIdeal AdamBiasIdeal.Gen AdamBiasRefIdeal.Read

theorem off_eq : k0_off1 = fun _ => 0 := funext fun a => by fin_cases a <;> rfl

variable (m : (ℓ : Loc nD τ sig) → Buf (Elt Ideal) ℓ) (c : Dev nD)

abbrev x (a : Ref sig .tc) := m ((c : Thread nD τ).loc a)
abbrev delta := val_main_v23 (x m c main_arg0) (x m c main_arg1) (x m c main_arg2) (x m c main_arg3)
abbrev first := val_main_v4 (x m c main_arg1) (x m c main_arg2)
abbrev second := val_main_v10 (x m c main_arg1) (x m c main_arg3)

theorem delta_eq : (dats m 0 c).arrAt 4 cfg0.N = delta m c :=
  (dats m 0 c).arrAt_eq_of_covers 4 _ (by decide +kernel) fun t _ y => by
    show (dats m 0 c).after 4 t y = _
    rw [after0_4, out0_4, View.canon_unit_zero off_eq]
    simp only [View.ld_unit_zero (S := S1x18432) off_eq]
    rfl

theorem first_eq : (dats m 0 c).arrAt 5 cfg0.N = first m c :=
  (dats m 0 c).arrAt_eq_of_covers 5 _ (by decide +kernel) fun t _ y => by
    show (dats m 0 c).after 5 t y = _
    rw [after0_5, out0_5, View.canon_unit_zero off_eq]
    simp only [View.ld_unit_zero (S := S1x18432) off_eq]
    rfl

theorem second_eq : (dats m 0 c).arrAt 6 cfg0.N = second m c :=
  (dats m 0 c).arrAt_eq_of_covers 6 _ (by decide +kernel) fun t _ y => by
    show (dats m 0 c).after 6 t y = _
    rw [after0_6, out0_6, View.canon_unit_zero off_eq]
    simp only [View.ld_unit_zero (S := S1x18432) off_eq]
    rfl

theorem result : algebraic_AdamBiasIdeal_AdamBiasRefIdeal := fun m g m' g' _ ha =>
  ⟨fun c => delta m c, fun c => first m c, fun c => second m c,
    (θ_run _ _ _).mono (fun r h c =>
      ⟨((h c).1 4).trans (delta_eq m c), ((h c).1 5).trans (first_eq m c), ((h c).1 6).trans (second_eq m c),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main m g),
    (θ_run _ _ _).mono (fun r h c => by
      obtain ⟨e0, e1, e2, e3⟩ := ha c
      simp only [delta, first, second, x, ← e0, ← e1, ← e2, ← e3]
      exact h c) (AdamBiasRefIdeal.Value.run m' g')⟩

theorem frame_ref : quiescent_AdamBiasRefIdeal := fun m ρ _ =>
  (θ_run _ _ _).mono (fun r h => ⟨fun c => (h c).2.2.2, sem_eq_zero_of_no_sems (by decide) r.2⟩) (AdamBiasRefIdeal.Value.run m ρ)

end Cert.AdamBiasIdeal.Hand

namespace Cert.AdamVectorIdeal.Hand

open AdamVectorIdeal AdamVectorIdeal.Gen AdamVectorRefIdeal.Read

theorem off_eq : k0_off1 = fun _ => 0 := funext fun a => by fin_cases a <;> rfl

variable (m : (ℓ : Loc nD τ sig) → Buf (Elt Ideal) ℓ) (c : Dev nD)

abbrev x (a : Ref sig .tc) := m ((c : Thread nD τ).loc a)
abbrev delta := val_main_v23 (x m c main_arg0) (x m c main_arg1) (x m c main_arg2) (x m c main_arg3)
abbrev first := val_main_v4 (x m c main_arg1) (x m c main_arg2)
abbrev second := val_main_v10 (x m c main_arg1) (x m c main_arg3)

theorem delta_eq : (dats m 0 c).arrAt 4 cfg0.N = delta m c :=
  (dats m 0 c).arrAt_eq_of_covers 4 _ (by decide +kernel) fun t _ y => by
    show (dats m 0 c).after 4 t y = _
    rw [after0_4, out0_4, View.canon_unit_zero off_eq]
    simp only [View.ld_unit_zero (S := S1x2048) off_eq]
    rfl

theorem first_eq : (dats m 0 c).arrAt 5 cfg0.N = first m c :=
  (dats m 0 c).arrAt_eq_of_covers 5 _ (by decide +kernel) fun t _ y => by
    show (dats m 0 c).after 5 t y = _
    rw [after0_5, out0_5, View.canon_unit_zero off_eq]
    simp only [View.ld_unit_zero (S := S1x2048) off_eq]
    rfl

theorem second_eq : (dats m 0 c).arrAt 6 cfg0.N = second m c :=
  (dats m 0 c).arrAt_eq_of_covers 6 _ (by decide +kernel) fun t _ y => by
    show (dats m 0 c).after 6 t y = _
    rw [after0_6, out0_6, View.canon_unit_zero off_eq]
    simp only [View.ld_unit_zero (S := S1x2048) off_eq]
    rfl

theorem result : algebraic_AdamVectorIdeal_AdamVectorRefIdeal := fun m g m' g' _ ha =>
  ⟨fun c => delta m c, fun c => first m c, fun c => second m c,
    (θ_run _ _ _).mono (fun r h c =>
      ⟨((h c).1 4).trans (delta_eq m c), ((h c).1 5).trans (first_eq m c), ((h c).1 6).trans (second_eq m c),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main m g),
    (θ_run _ _ _).mono (fun r h c => by
      obtain ⟨e0, e1, e2, e3⟩ := ha c
      simp only [delta, first, second, x, ← e0, ← e1, ← e2, ← e3]
      exact h c) (AdamVectorRefIdeal.Value.run m' g')⟩

theorem frame_ref : quiescent_AdamVectorRefIdeal := fun m ρ _ =>
  (θ_run _ _ _).mono (fun r h => ⟨fun c => (h c).2.2.2, sem_eq_zero_of_no_sems (by decide) r.2⟩) (AdamVectorRefIdeal.Value.run m ρ)

end Cert.AdamVectorIdeal.Hand

namespace Cert.AdamGainIdeal.Hand

open AdamGainIdeal AdamGainIdeal.Gen AdamGainRefIdeal.Read

theorem off_eq : k0_off1 = fun _ => 0 := funext fun a => by fin_cases a <;> rfl

variable (m : (ℓ : Loc nD τ sig) → Buf (Elt Ideal) ℓ) (c : Dev nD)

abbrev x (a : Ref sig .tc) := m ((c : Thread nD τ).loc a)
abbrev delta := val_main_v23 (x m c main_arg0) (x m c main_arg1) (x m c main_arg2) (x m c main_arg3)
abbrev first := val_main_v4 (x m c main_arg1) (x m c main_arg2)
abbrev second := val_main_v10 (x m c main_arg1) (x m c main_arg3)

theorem delta_eq : (dats m 0 c).arrAt 4 cfg0.N = delta m c :=
  (dats m 0 c).arrAt_eq_of_covers 4 _ (by decide +kernel) fun t _ y => by
    show (dats m 0 c).after 4 t y = _
    rw [after0_4, out0_4, View.canon_unit_zero off_eq]
    simp only [View.ld_unit_zero (S := S1x128) off_eq]
    rfl

theorem first_eq : (dats m 0 c).arrAt 5 cfg0.N = first m c :=
  (dats m 0 c).arrAt_eq_of_covers 5 _ (by decide +kernel) fun t _ y => by
    show (dats m 0 c).after 5 t y = _
    rw [after0_5, out0_5, View.canon_unit_zero off_eq]
    simp only [View.ld_unit_zero (S := S1x128) off_eq]
    rfl

theorem second_eq : (dats m 0 c).arrAt 6 cfg0.N = second m c :=
  (dats m 0 c).arrAt_eq_of_covers 6 _ (by decide +kernel) fun t _ y => by
    show (dats m 0 c).after 6 t y = _
    rw [after0_6, out0_6, View.canon_unit_zero off_eq]
    simp only [View.ld_unit_zero (S := S1x128) off_eq]
    rfl

theorem result : algebraic_AdamGainIdeal_AdamGainRefIdeal := fun m g m' g' _ ha =>
  ⟨fun c => delta m c, fun c => first m c, fun c => second m c,
    (θ_run _ _ _).mono (fun r h c =>
      ⟨((h c).1 4).trans (delta_eq m c), ((h c).1 5).trans (first_eq m c), ((h c).1 6).trans (second_eq m c),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main m g),
    (θ_run _ _ _).mono (fun r h c => by
      obtain ⟨e0, e1, e2, e3⟩ := ha c
      simp only [delta, first, second, x, ← e0, ← e1, ← e2, ← e3]
      exact h c) (AdamGainRefIdeal.Value.run m' g')⟩

theorem frame_ref : quiescent_AdamGainRefIdeal := fun m ρ _ =>
  (θ_run _ _ _).mono (fun r h => ⟨fun c => (h c).2.2.2, sem_eq_zero_of_no_sems (by decide) r.2⟩) (AdamGainRefIdeal.Value.run m ρ)

end Cert.AdamGainIdeal.Hand

namespace Cert.AdamDecayIdeal.Hand

open AdamDecayIdeal AdamDecayIdeal.Gen AdamDecayRefIdeal.Read

theorem off_eq : k0_off1 = fun _ => 0 := funext fun a => by fin_cases a <;> rfl

variable (m : (ℓ : Loc nD τ sig) → Buf (Elt Ideal) ℓ) (c : Dev nD)

abbrev x (a : Ref sig .tc) := m ((c : Thread nD τ).loc a)
abbrev delta := val_main_v23 (x m c main_arg0) (x m c main_arg1) (x m c main_arg2) (x m c main_arg3)
abbrev first := val_main_v4 (x m c main_arg1) (x m c main_arg2)
abbrev second := val_main_v10 (x m c main_arg1) (x m c main_arg3)

theorem delta_eq : (dats m 0 c).arrAt 4 cfg0.N = delta m c :=
  (dats m 0 c).arrAt_eq_of_covers 4 _ (by decide +kernel) fun t _ y => by
    show (dats m 0 c).after 4 t y = _
    rw [after0_4, out0_4, View.canon_unit_zero off_eq]
    simp only [View.ld_unit_zero (S := S1x16) off_eq]
    rfl

theorem first_eq : (dats m 0 c).arrAt 5 cfg0.N = first m c :=
  (dats m 0 c).arrAt_eq_of_covers 5 _ (by decide +kernel) fun t _ y => by
    show (dats m 0 c).after 5 t y = _
    rw [after0_5, out0_5, View.canon_unit_zero off_eq]
    simp only [View.ld_unit_zero (S := S1x16) off_eq]
    rfl

theorem second_eq : (dats m 0 c).arrAt 6 cfg0.N = second m c :=
  (dats m 0 c).arrAt_eq_of_covers 6 _ (by decide +kernel) fun t _ y => by
    show (dats m 0 c).after 6 t y = _
    rw [after0_6, out0_6, View.canon_unit_zero off_eq]
    simp only [View.ld_unit_zero (S := S1x16) off_eq]
    rfl

theorem result : algebraic_AdamDecayIdeal_AdamDecayRefIdeal := fun m g m' g' _ ha =>
  ⟨fun c => delta m c, fun c => first m c, fun c => second m c,
    (θ_run _ _ _).mono (fun r h c =>
      ⟨((h c).1 4).trans (delta_eq m c), ((h c).1 5).trans (first_eq m c), ((h c).1 6).trans (second_eq m c),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main m g),
    (θ_run _ _ _).mono (fun r h c => by
      obtain ⟨e0, e1, e2, e3⟩ := ha c
      simp only [delta, first, second, x, ← e0, ← e1, ← e2, ← e3]
      exact h c) (AdamDecayRefIdeal.Value.run m' g')⟩

theorem frame_ref : quiescent_AdamDecayRefIdeal := fun m ρ _ =>
  (θ_run _ _ _).mono (fun r h => ⟨fun c => (h c).2.2.2, sem_eq_zero_of_no_sems (by decide) r.2⟩) (AdamDecayRefIdeal.Value.run m ρ)

end Cert.AdamDecayIdeal.Hand

end
-- ==== Proof.NormValue.lean ====
/- The second branch's gated residual, its root-mean-square norm and the modulation after it: a sum of squares along each row, and
   otherwise pointwise. The kernel's two arrays after the run are the reference's. -/
module

public import proofs.«01_k».proof.Defs
public import proofs.«01_k».proof.Proof.Branches
public import proofs.«01_k».proof.Proof.Gen.ResidNorm2Ideal.Value
public import proofs.«01_k».proof.Proof.Gen.ResidNorm2RefIdeal.Read
public import Idealize.ShloMosaic.Lib.Pipeline.ValueKit.Geometry

@[expose] public section

noncomputable section

namespace Cert.ResidNorm2Ideal.Hand

open ResidNorm2Ideal Gen Value Cert.Branches ResidNorm2RefIdeal.Read
open Idealize.ShloMosaic TcCoe Tactic ValueIdx
open Idealize.SL.Sem

/-- A row divided by its root mean square, scaled by one more than `sc` and shifted by `sh`. -/
def normed (f sc sh : Fin 2048 → EReal) (s : Fin 2048) : EReal :=
  f s * Ideal.rsqrt (Ideal.div (∑ k, f k * f k) (Ideal.ofBits .f32 0x45000000#32) + Ideal.ofBits .f32 0x358637BD#32)
    * (Ideal.ofBits .f32 0x3F800000#32 + sc s) + sh s

theorem off_eq : k0_off1 = fun _ => 0 := funext fun a => by fin_cases a <;> rfl

section Block

variable (x0 : Vec Ideal S256x2048 .f32) (x1 : Vec Ideal S256x2048 .bf16) (x2 : Vec Ideal S1x9x2048 .f32) (r : Fin 256) (s : Fin 2048)

/-- The row `j` of the modulation block. -/
theorem ld_at (j : Fin 9) (n : ℕ) (hn : n = j.val) (h) : View.ld x2 (Rect.unit ![0, n, 0] S1x1x2048.size h) (ix3 0 0 s) = x2 (ix3 0 j s) :=
  congrArg x2 (funext fun a => Fin.ext (by
    match a with
    | ⟨0, _⟩ => rfl
    | ⟨1, _⟩ => show n + 1 * 0 = j.val; omega
    | ⟨2, _⟩ => show 0 + 1 * s.val = s.val; omega))

/-- The stream's row after the residual, in the block. -/
abbrev resid : Fin 2048 → EReal := fun k => x0 (ix2 r k) + x2 (ix3 0 5 k) * x1 (ix2 r k)

theorem E3_at (P : Vec Ideal S1x1x2048 .f32) : E3 x0 P x1 (ix2 r s) = x0 (ix2 r s) + P (ix3 0 0 s) * x1 (ix2 r s) := by
  have e0 : ix3_0 (ix2 r s) = ix2 r s := eq_ix2 _
  have e1 : ix3_1 (ix2 r s) = ix3 0 0 s := eq_ix3 _
  have e2 : ix3_2 (ix2 r s) = ix2 r s := eq_ix2 _
  unfold E3
  rw [e0, e1, e2]
  show x0 (ix2 r s) + Ideal.ofBits .f32 0x3F800000#32 * P (ix3 0 0 s) * x1 (ix2 r s) = _
  rw [Ideal.ofBits_one_f32, one_mul]

theorem out3_at : out0_3 x0 x1 x2 (ix2 r s) = resid x0 x1 x2 r s := by
  unfold out0_3
  rw [View.ld_unit_zero (S := S256x2048) off_eq, View.ld_unit_zero (S := S256x2048) off_eq]
  refine (canon3_eq x0 _ x1 (ix2 r s)).trans ((E3_at x0 x1 r s _).trans ?_)
  rw [ld_at x2 s 5 5 rfl]

theorem pay1_at : k0_pay1 x0 x1 (View.ld x2 r0_1) (ix2 r s) = resid x0 x1 x2 r s := by
  have e : r0_0.idx (ix2 r s) = ix2 r s := funext fun a => Fin.ext (by
    match a with
    | ⟨0, _⟩ => show 0 + 1 * r.val = r.val; omega
    | ⟨1, _⟩ => show 0 + 1 * s.val = s.val; omega)
  rw [piece3_0, e, E3_at, ld_at x2 s 5 5 rfl]

theorem out4_at : out0_4 x0 x1 x2 (ix2 r s) = normed (resid x0 x1 x2 r) (fun k => x2 (ix3 0 7 k)) (fun k => x2 (ix3 0 6 k)) s := by
  unfold out0_4
  rw [View.ld_unit_zero (S := S256x2048) off_eq, View.ld_unit_zero (S := S256x2048) off_eq]
  refine (canon4_eq x0 _ x1 _ _ (ix2 r s)).trans ?_
  have e0 : ix4_0 (ix2 r s) = ix2 r s := eq_ix2 _
  have e1 : ix4_1 (ix2 r s) = ix3 0 0 s := eq_ix3 _
  have e2 : ix4_2 (ix2 r s) = ix2 r s := eq_ix2 _
  have e3 : ix4_3 (ix2 r s) = ix1 r := eq_ix1 _
  have e4 : ix4_4 (ix2 r s) = ix3 0 0 s := eq_ix3 _
  have e5 : ix4_5 (ix2 r s) = ix3 0 0 s := eq_ix3 _
  unfold E4
  rw [e0, e1, e2, e3, e4, e5, ← lay3_0_eq]
  have es : multiReduction .add [1] S256 (mulf (k0_pay1 x0 x1 (View.ld x2 r0_1)) (k0_pay1 x0 x1 (View.ld x2 r0_1))) 0x00000000#32
      reduces_S256x2048_S256 (.inl rfl) rfl (ix1 r) = ∑ k, resid x0 x1 x2 r k * resid x0 x1 x2 r k := by
    refine (Ideal.multiReduction_add_single _ _ _ _ _ (ix1 r)).trans (Finset.sum_congr rfl fun k _ => ?_)
    have e : reduces_S256x2048_S256.lift (ix1 r) k = ix2 r k := eq_ix2 _
    rw [e]
    exact congrArg₂ (· * ·) (pay1_at x0 x1 x2 r k) (pay1_at x0 x1 x2 r k)
  rw [es, ld_at x2 s 5 5 rfl, ld_at x2 s 7 7 rfl, ld_at x2 s 6 6 rfl]
  show (x0 (ix2 r s) + Ideal.ofBits .f32 0x3F800000#32 * x2 (ix3 0 5 s) * x1 (ix2 r s)) * _ * _ + _ = _
  rw [Ideal.ofBits_one_f32, one_mul]
  rfl

end Block

section Reference

variable (a : FVec Ideal S8448x2048 .f32) (f : FVec Ideal S8192x2048 .f32) (g : FVec Ideal S2x9x2048 .f32) (i : Fin 8192) (s : Fin 2048)

abbrev after : Fin 2048 → EReal := fun k => a (ix2 (low i) k) + g (ix3 1 5 k) * f (ix2 i k)

theorem ix3_ext {p : S2x9x2048.Idx} {j : Fin 2} {k : Fin 9} (h0 : (p 0).val = j.val) (h1 : (p 1).val = k.val) (h2 : (p 2).val = s.val) :
    p = ix3 j k s := funext fun a => Fin.ext (by
  match a with
  | ⟨0, _⟩ => exact h0
  | ⟨1, _⟩ => exact h1
  | ⟨2, _⟩ => exact h2)

theorem after_at : val_main_v6 (F := Ideal) a f g (ix2 i s) = after a f g i s := by
  rw [val_main_v6_apply, val_main_v0_apply, val_main_v5_apply, val_main_v4_apply, val_main_v3_apply, val_main_v2_apply, val_main_v1_apply]
  have e0 : idx_main_v0 (ix2 i s) = ix2 (low i) s := eq_ix2 _
  have e1 : idx_main_v1 (idx_main_v2 (idx_main_v3 (idx_main_v4 (ix2 i s)))) = ix3 1 5 s := ix3_ext s (by simp) (by simp) (by simp [Nat.mod_eq_of_lt s.isLt])
  rw [e0, e1]
  rfl

theorem normed_at : val_main_v29 (F := Ideal) a f g (ix2 i s) = normed (after a f g i) (fun k => g (ix3 1 7 k)) (fun k => g (ix3 1 6 k)) s := by
  rw [val_main_v29_apply, val_main_v28_apply, val_main_v27_apply, val_main_v26_apply, val_main_v25_apply, val_main_v24_apply,
    val_main_v23_apply, val_main_v22_apply, val_main_v21_apply, val_main_v20_apply, val_main_v19_apply, val_main_cst_2_apply, val_main_v18_apply,
    val_main_v17_apply, val_main_v16_apply, val_main_v15_apply, val_main_v14_apply, val_main_v13_apply, val_main_v12_apply, val_main_cst_1_apply,
    val_main_v11_apply, val_main_v10_apply, val_main_cst_0_apply, val_main_v9_apply, val_main_v8_apply, val_main_cst_apply]
  have e1 : idx_main_v24 (idx_main_v25 (idx_main_v26 (idx_main_v27 (ix2 i s)))) = ix3 1 6 s := ix3_ext s (by simp) (by simp) (by simp [Nat.mod_eq_of_lt s.isLt])
  have e2 : idx_main_v17 (idx_main_v18 (idx_main_v21 (idx_main_v22 (ix2 i s)))) = ix3 1 7 s := ix3_ext s (by simp) (by simp) (by simp [Nat.mod_eq_of_lt s.isLt])
  have e3 (k) : idx_main_v8 (idx_main_v9 (idx_main_v15 (ix2 i s))) k = ix2 i k := eq_ix2 _
  simp only [e1, e2, e3, val_main_v7_apply, after_at]
  show _ * Ideal.rsqrt (Ideal.div (Ideal.ofBits .f32 0x00000000#32 + _) _ + _) * _ + _ = _
  rw [Ideal.ofBits_zero_f32, zero_add]
  rfl

end Reference

/-! ## The blocks -/

theorem index : ∀ t : Fin cfg0.N, (win0_0.index t 0 = t.val + 1 ∧ win0_0.index t 1 = 0) ∧ (win0_1.index t 0 = t.val ∧ win0_1.index t 1 = 0)
    ∧ (win0_2.index t 0 = 1 ∧ win0_2.index t 1 = 0 ∧ win0_2.index t 2 = 0) ∧ (win0_3.index t 0 = t.val ∧ win0_3.index t 1 = 0)
    ∧ (win0_4.index t 0 = t.val ∧ win0_4.index t 1 = 0) := by decide +kernel

/-- Point `t`'s rows of the results. -/
abbrev row (t : Fin cfg0.N) (r : Fin 256) : Fin 8192 := ⟨256 * t.val + r.val, by have := lt_of_lt_of_eq t.isLt N_0; omega⟩

variable (m : (ℓ : Loc nD τ sig) → Buf (Elt Ideal) ℓ) (c : Dev nD)

abbrev arg0 : FVec Ideal S8448x2048 .f32 := m ((c : Thread nD τ).loc main_arg0)
abbrev arg1 : FVec Ideal S8192x2048 .f32 := m ((c : Thread nD τ).loc main_arg1)
abbrev arg2 : FVec Ideal S2x9x2048 .f32 := m ((c : Thread nD τ).loc main_arg2)
abbrev G : Buf (Elt Ideal) ((c : Thread nD τ).loc main_v1_0) := val_main_v6 (F := Ideal) (arg0 m c) (arg1 m c) (arg2 m c)
abbrev H : Buf (Elt Ideal) ((c : Thread nD τ).loc main_v1_1) := val_main_v29 (F := Ideal) (arg0 m c) (arg1 m c) (arg2 m c)

theorem V_0 : V m c main_v0 = truncf (F := Ideal) .bf16 (arg1 m c) bitsLt_bf16_f32 := by
  unfold V
  after_results_simp <;> rfl

variable (t : Fin cfg0.N) (r : Fin 256) (s : Fin 2048)

theorem a_at : (iblk m c 0 t : Vec Ideal S256x2048 .f32) (ix2 r s) = arg0 m c (ix2 (low (row t r)) s) := by
  unfold iblk
  rw [View.read_apply]
  refine Eq.trans (congrArg (V m c main_arg0) (funext fun a => Fin.ext ?_)) (congrFun (V_main_arg0 m c) (ix2 (low (row t r)) s))
  match a with
  | ⟨0, _⟩ => show win0_0.index t 0 * 256 + 1 * r.val = 256 + (256 * t.val + r.val); rw [(index t).1.1]; omega
  | ⟨1, _⟩ => show win0_0.index t 1 * 2048 + 1 * s.val = s.val; rw [(index t).1.2]; omega

theorem f_at : (iblk m c 1 t : Vec Ideal S256x2048 .bf16) (ix2 r s) = arg1 m c (ix2 (row t r) s) := by
  unfold iblk
  rw [View.read_apply]
  refine Eq.trans (congrArg (V m c main_v0) (funext fun a => Fin.ext ?_)) (congrFun (V_0 m c) (ix2 (row t r) s))
  match a with
  | ⟨0, _⟩ => show win0_1.index t 0 * 256 + 1 * r.val = 256 * t.val + r.val; rw [(index t).2.1.1]; omega
  | ⟨1, _⟩ => show win0_1.index t 1 * 2048 + 1 * s.val = s.val; rw [(index t).2.1.2]; omega

theorem g_at (j : Fin 9) : (iblk m c 2 t : Vec Ideal S1x9x2048 .f32) (ix3 0 j s) = arg2 m c (ix3 1 j s) := by
  unfold iblk
  rw [View.read_apply]
  refine Eq.trans (congrArg (V m c main_arg2) (funext fun a => Fin.ext ?_)) (congrFun (V_main_arg2 m c) (ix3 1 j s))
  match a with
  | ⟨0, _⟩ => show win0_2.index t 0 * 1 + 1 * 0 = 1; rw [(index t).2.2.1.1]
  | ⟨1, _⟩ => show win0_2.index t 1 * 9 + 1 * j.val = j.val; rw [(index t).2.2.1.2.1]; omega
  | ⟨2, _⟩ => show win0_2.index t 2 * 2048 + 1 * s.val = s.val; rw [(index t).2.2.1.2.2]; omega

theorem resid_at : resid (iblk m c 0 t) (iblk m c 1 t) (iblk m c 2 t) r = after (arg0 m c) (arg1 m c) (arg2 m c) (row t r) :=
  funext fun k => congrArg₂ (· + ·) (a_at m c t r k) (congrArg₂ (· * ·) (g_at m c t k 5) (f_at m c t r k))

/-! ## The result arrays -/

theorem final3 : (dats m 0 c).arrAt 3 cfg0.N = G m c :=
  (dats m 0 c).arrAt_eq_of_covers 3 _ (by decide +kernel) fun t _ (y : S256x2048.Idx) => by
    show (dats m 0 c).after 3 t y = _
    obtain ⟨r, s, rfl⟩ : ∃ r s, y = ix2 r s := ⟨_, _, eq_ix2 y⟩
    rw [after0_3]
    refine (out3_at (iblk m c 0 t) (iblk m c 1 t) (iblk m c 2 t) r s).trans ?_
    rw [resid_at, ← after_at]
    refine congrArg (G m c) (funext fun a => Fin.ext ?_)
    match a with
    | ⟨0, _⟩ => show 256 * t.val + r.val = win0_3.index t 0 * 256 + 1 * r.val; rw [(index t).2.2.2.1.1]; omega
    | ⟨1, _⟩ => show s.val = win0_3.index t 1 * 2048 + 1 * s.val; rw [(index t).2.2.2.1.2]; omega

theorem final4 : (dats m 0 c).arrAt 4 cfg0.N = H m c :=
  (dats m 0 c).arrAt_eq_of_covers 4 _ (by decide +kernel) fun t _ (y : S256x2048.Idx) => by
    show (dats m 0 c).after 4 t y = _
    obtain ⟨r, s, rfl⟩ : ∃ r s, y = ix2 r s := ⟨_, _, eq_ix2 y⟩
    rw [after0_4]
    refine (out4_at (iblk m c 0 t) (iblk m c 1 t) (iblk m c 2 t) r s).trans ?_
    have e (j : Fin 9) : (fun k => (iblk m c 2 t : Vec Ideal S1x9x2048 .f32) (ix3 0 j k)) = fun k => arg2 m c (ix3 1 j k) :=
      funext fun k => g_at m c t k j
    rw [resid_at, e, e, ← normed_at]
    refine congrArg (H m c) (funext fun a => Fin.ext ?_)
    match a with
    | ⟨0, _⟩ => show 256 * t.val + r.val = win0_4.index t 0 * 256 + 1 * r.val; rw [(index t).2.2.2.2.1]; omega
    | ⟨1, _⟩ => show s.val = win0_4.index t 1 * 2048 + 1 * s.val; rw [(index t).2.2.2.2.2]; omega

theorem result : algebraic_ResidNorm2Ideal_ResidNorm2RefIdeal := fun m g m' g' _ ha =>
  ⟨fun c => G m c, fun c => H m c,
    (θ_run _ _ _).mono (fun r h c => ⟨(h c).1.trans (final3 m c), (h c).2.1.trans (final4 m c), (h c).2.2⟩) (run_blocks m g),
    (θ_run _ _ _).mono (fun r h c => by
      obtain ⟨e0, e1, e2⟩ := ha c
      simp only [G, H, arg0, arg1, arg2, ← e0, ← e1, ← e2]
      exact h c) (ResidNorm2RefIdeal.Value.run m' g')⟩

theorem frame_ref : quiescent_ResidNorm2RefIdeal := fun m ρ _ => (θ_run _ _ _).mono (fun r h =>
  ⟨fun c => (h c).2.2, sem_eq_zero_of_no_sems (by decide) r.2⟩) (ResidNorm2RefIdeal.Value.run m ρ)

end Cert.ResidNorm2Ideal.Hand

end
-- ==== Proof.NormOneValue.lean ====
/- The context's rows and the sample's, each part of the stream under its own modulation: the first norm, and the first feed-forward block's residual
   with the norm after it. The kernels' arrays after the run are the references'. -/
module

public import proofs.«01_k».proof.Proof.NormValue
public import proofs.«01_k».proof.Proof.Gen.NormMod1Ideal.Frame
public import proofs.«01_k».proof.Proof.Gen.NormMod1Ideal.Value
public import proofs.«01_k».proof.Proof.Gen.NormMod1RefIdeal.Read
public import proofs.«01_k».proof.Proof.Gen.ResidNorm1Ideal.Frame
public import proofs.«01_k».proof.Proof.Gen.ResidNorm1Ideal.Value
public import proofs.«01_k».proof.Proof.Gen.ResidNorm1RefIdeal.Read

@[expose] public section

noncomputable section

open Idealize.ShloMosaic TcCoe Tactic ValueIdx
open Idealize.SL.Sem
open Cert.ResidNorm2Ideal.Hand (normed)

/-! ## The two parts of the stream -/

namespace Cert.Stream

/-- Rows `r` of block `t`, in the stream and in the sample, and the part the block lies in. -/
abbrev row {n : ℕ} (hn : n = 33) (t : Fin n) (r : Fin 256) : Fin 8448 := ⟨256 * t.val + r.val, by omega⟩
abbrev prev {n : ℕ} (hn : n = 33) (t : Fin n) (r : Fin 256) : Fin 8192 := ⟨256 * (t.val - 1) + r.val, by omega⟩
abbrev side (n : ℕ) : Fin 2 := if n = 0 then 0 else 1
abbrev pick {α : Type} (n : ℕ) (p q : α) : α := if n = 0 then p else q

theorem select_eq {S : Shape} (n : ℕ) (x y : FVec Ideal S .f32) :
    (Scalar.select (if n = 0 then 1#1 else 0#1) x y : FVec Ideal S .f32) = fun j => pick n (x j) (y j) := by
  by_cases h : n = 0 <;> simp [h, Scalar.select, pick]

/-- The context's rows before the sample's. -/
theorem cat_rows {α : Type} (p : (⟨2, ![256, 2048]⟩ : Shape).Idx → α) (q : (⟨2, ![8192, 2048]⟩ : Shape).Idx → α)
    (h : Shape.Concatenates [⟨2, ![256, 2048]⟩, ⟨2, ![8192, 2048]⟩] ⟨2, ![8448, 2048]⟩ 0) {n : ℕ} (hn : n = 33) (t : Fin n) (r : Fin 256) (s : Fin 2048) :
    concatenate ⟨2, ![8448, 2048]⟩ 0 [⟨⟨2, ![256, 2048]⟩, p⟩, ⟨⟨2, ![8192, 2048]⟩, q⟩] h (ix2 (row hn t r) s)
      = pick t.val (p (ix2 r s)) (q (ix2 (prev hn t r) s)) := by
  by_cases ht : t.val = 0
  · rw [pick, if_pos ht]
    refine concatenate_pair_apply_left (t := ⟨2, ![8448, 2048]⟩) (s₁ := ⟨2, ![256, 2048]⟩) (s₂ := ⟨2, ![8192, 2048]⟩) 0 _ _ h _ rfl (ix2 r s) fun b => ?_
    match b with
    | ⟨0, _⟩ => show r.val = 256 * t.val + r.val; omega
    | ⟨1, _⟩ => rfl
  · rw [pick, if_neg ht]
    refine concatenate_pair_apply_right (t := ⟨2, ![8448, 2048]⟩) (s₁ := ⟨2, ![256, 2048]⟩) (s₂ := ⟨2, ![8192, 2048]⟩) 0 _ _ h _ rfl rfl
      (ix2 (prev hn t r) s) (fun b hb => ?_) ?_
    · match b with
      | ⟨0, _⟩ => exact absurd rfl hb
      | ⟨1, _⟩ => rfl
    · show 256 * (t.val - 1) + r.val + 256 = 256 * t.val + r.val
      omega

/-- A row of a modulation block over every row of the stream's block. -/
theorem over (P : FVec Ideal ⟨2, ![1, 2048]⟩ .f32) (h : (⟨2, ![1, 2048]⟩ : Shape).Broadcasts ⟨2, ![256, 2048]⟩) (r : Fin 256) (s : Fin 2048) :
    broadcastTo ⟨2, ![256, 2048]⟩ P h (ix2 r s) = P (ix2 0 s) :=
  broadcastTo_apply _ _ (ix2 r s) (ix2 (0 : Fin 1) s) fun a => by
    match a with
    | ⟨0, _⟩ => rfl
    | ⟨1, _⟩ => rfl

theorem flat (P : FVec Ideal ⟨3, ![1, 1, 2048]⟩ .f32) (h : (⟨3, ![1, 1, 2048]⟩ : Shape).ShapeCasts ⟨2, ![1, 2048]⟩) (s : Fin 2048) :
    shapeCast ⟨2, ![1, 2048]⟩ P h (ix2 0 s) = P (ix3 0 0 s) :=
  shapeCast_apply _ _ (ix2 (0 : Fin 1) s) (ix3 0 0 s) (by rw [Shape.rowMajor_val_three, Shape.rowMajor_val_two]; show (0 * 1 + 0) * 2048 + s.val = 0 * 2048 + s.val; omega)

/-- A row's factor: one over its root mean square. -/
theorem factor (H : FVec Ideal ⟨2, ![256, 2048]⟩ .f32) (hr : (⟨2, ![256, 2048]⟩ : Shape).Reduces [1] ⟨1, ![256]⟩) (hs : (⟨1, ![256]⟩ : Shape).ShapeCasts ⟨2, ![256, 1]⟩)
    (hb : (⟨2, ![256, 1]⟩ : Shape).Broadcasts ⟨2, ![256, 2048]⟩) (r : Fin 256) (s : Fin 2048) :
    broadcastTo ⟨2, ![256, 2048]⟩ (rsqrt (addf (divf (shapeCast ⟨2, ![256, 1]⟩ (multiReduction .add [1] ⟨1, ![256]⟩ (mulf H H) 0x00000000#32 hr (.inl rfl) rfl) hs)
        (broadcast ⟨2, ![256, 1]⟩ (Scalar.ofBits (F := Ideal) .f32 0x45000000#32))) (broadcast ⟨2, ![256, 1]⟩ (Scalar.ofBits (F := Ideal) .f32 0x358637BD#32)))) hb (ix2 r s)
      = Ideal.rsqrt (Ideal.div (∑ k, H (ix2 r k) * H (ix2 r k)) (Ideal.ofBits .f32 0x45000000#32) + Ideal.ofBits .f32 0x358637BD#32) := by
  rw [broadcastTo_apply _ _ (ix2 r s) (ix2 r (0 : Fin 1)) (fun a => by
    match a with
    | ⟨0, _⟩ => rfl
    | ⟨1, _⟩ => rfl)]
  show Ideal.rsqrt (Ideal.div (shapeCast ⟨2, ![256, 1]⟩ _ hs (ix2 r (0 : Fin 1))) _ + _) = _
  rw [shapeCast_apply _ _ (ix2 r (0 : Fin 1)) (ix1 r) (by
    rw [Shape.rowMajor_val_one, Shape.rowMajor_val_two]; show r.val = r.val * 1 + 0; omega)]
  have es : multiReduction .add [1] ⟨1, ![256]⟩ (mulf H H) 0x00000000#32 hr (.inl rfl) rfl (ix1 r) = ∑ k, H (ix2 r k) * H (ix2 r k) := by
    refine (Ideal.multiReduction_add_single _ _ _ _ _ (ix1 r)).trans (Finset.sum_congr rfl fun k _ => ?_)
    have e : hr.lift (ix1 r) k = ix2 r k := eq_ix2 _
    rw [e]
    rfl
  rw [es]
  rfl

end Cert.Stream

/-! ## The first norm -/

namespace Cert.NormMod1Ideal.Hand

open NormMod1Ideal Gen Value Cert.Stream NormMod1RefIdeal.Read

theorem off_eq : k0_off1 = fun _ => 0 := funext fun a => by fin_cases a <;> rfl

theorem flag : ∀ t : Fin cfg0.N, Scalar.cmpi .slt (Scalar.muli (Scalar.addi (BitVec.ofNat 32 (grid0.coords t 0).val) 0#32) 256#32) 256#32
    = if t.val = 0 then 1#1 else 0#1 := by decide +kernel

theorem out3_at (t : Fin cfg0.N) (x0 x1 : Vec Ideal S256x2048 .f32) (x2 : Vec Ideal S1x9x2048 .f32) (r : Fin 256) (s : Fin 2048) :
    out0_3 (grid0.coords t) x0 x1 x2 (ix2 r s)
      = normed (fun k => pick t.val (x0 (ix2 r k)) (x1 (ix2 r k))) (fun k => x2 (ix3 0 1 k)) (fun k => x2 (ix3 0 0 k)) s := by
  unfold out0_3 r0_0
  rw [View.ld_unit_zero (S := S256x2048) off_eq, View.ld_unit_zero (S := S256x2048) off_eq,
    View.canon_unit_zero (S := S256x2048) off_eq]
  unfold k0_pay1
  rw [flag, select_eq]
  show (_ : EReal) * broadcastTo S256x2048 _ _ (ix2 r s) * broadcastTo S256x2048 _ _ (ix2 r s) + broadcastTo S256x2048 _ _ (ix2 r s) = _
  rw [factor, over, over, flat]
  show (_ : EReal) * _ * (_ + shapeCast S1x2048 _ _ (ix2 0 s)) + _ = _
  rw [flat, ResidNorm2Ideal.Hand.ld_at x2 s 1 1 rfl, ResidNorm2Ideal.Hand.ld_at x2 s 0 0 rfl]
  rfl

section Reference

variable (a : FVec Ideal S256x2048 .f32) (b : FVec Ideal S8192x2048 .f32) (g : FVec Ideal S2x9x2048 .f32) (s : Fin 2048)

theorem ctx_at (i : Fin 256) : val_main_v21 (F := Ideal) a g (ix2 i s) = normed (fun k => a (ix2 i k)) (fun k => g (ix3 0 1 k)) (fun k => g (ix3 0 0 k)) s := by
  rw [val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_cst_apply, val_main_cst_0_apply, val_main_cst_1_apply, val_main_cst_2_apply]
  have e1 : idx_main_v17 (idx_main_v18 (idx_main_v19 (idx_main_v20 (ix2 i s)))) = ix3 0 0 s := ResidNorm2Ideal.Hand.ix3_ext s (by simp) (by simp) (by simp [Nat.mod_eq_of_lt s.isLt])
  have e2 : idx_main_v10 (idx_main_v11 (idx_main_v14 (idx_main_v15 (ix2 i s)))) = ix3 0 1 s := ResidNorm2Ideal.Hand.ix3_ext s (by simp) (by simp) (by simp [Nat.mod_eq_of_lt s.isLt])
  have e3 (k) : idx_main_v1 (idx_main_v2 (idx_main_v8 (ix2 i s))) k = ix2 i k := eq_ix2 _
  simp only [e1, e2, e3, val_main_v0_apply]
  show _ * Ideal.rsqrt (Ideal.div (Ideal.ofBits .f32 0x00000000#32 + _) _ + _) * _ + _ = _
  rw [Ideal.ofBits_zero_f32, zero_add]
  rfl

theorem sample_at (i : Fin 8192) : val_main_v43 (F := Ideal) b g (ix2 i s) = normed (fun k => b (ix2 i k)) (fun k => g (ix3 1 1 k)) (fun k => g (ix3 1 0 k)) s := by
  rw [val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_cst_3_apply, val_main_cst_4_apply, val_main_cst_5_apply, val_main_cst_6_apply]
  have e1 : idx_main_v39 (idx_main_v40 (idx_main_v41 (idx_main_v42 (ix2 i s)))) = ix3 1 0 s := ResidNorm2Ideal.Hand.ix3_ext s (by simp) (by simp) (by simp [Nat.mod_eq_of_lt s.isLt])
  have e2 : idx_main_v32 (idx_main_v33 (idx_main_v36 (idx_main_v37 (ix2 i s)))) = ix3 1 1 s := ResidNorm2Ideal.Hand.ix3_ext s (by simp) (by simp) (by simp [Nat.mod_eq_of_lt s.isLt])
  have e3 (k) : idx_main_v23 (idx_main_v24 (idx_main_v30 (ix2 i s))) k = ix2 i k := eq_ix2 _
  simp only [e1, e2, e3, val_main_v22_apply]
  show _ * Ideal.rsqrt (Ideal.div (Ideal.ofBits .f32 0x00000000#32 + _) _ + _) * _ + _ = _
  rw [Ideal.ofBits_zero_f32, zero_add]
  rfl

theorem normed_at (t : Fin cfg0.N) (r : Fin 256) : val_main_v45 (F := Ideal) a b g (ix2 (row N_0 t r) s)
    = normed (fun k => pick t.val (a (ix2 r k)) (b (ix2 (prev N_0 t r) k))) (fun k => g (ix3 (side t.val) 1 k)) (fun k => g (ix3 (side t.val) 0 k)) s := by
  refine (cat_rows (α := EReal) (val_main_v21 (F := Ideal) a g) (val_main_v43 (F := Ideal) b g)
    NormMod1RefIdeal.Facts₀.concatenates_S256x2048_S8192x2048_S8448x2048_d0 N_0 t r s).trans ?_
  rw [ctx_at, sample_at]
  by_cases h : t.val = 0 <;> simp only [pick, side, h, if_true, if_false]

end Reference

theorem index : ∀ t : Fin cfg0.N, (win0_0.index t 0 = 0 ∧ win0_0.index t 1 = 0) ∧ (win0_1.index t 0 = t.val - 1 ∧ win0_1.index t 1 = 0)
    ∧ (win0_2.index t 0 = (side t.val).val ∧ win0_2.index t 1 = 0 ∧ win0_2.index t 2 = 0) ∧ (win0_3.index t 0 = t.val ∧ win0_3.index t 1 = 0) := by decide +kernel

variable (m : (ℓ : Loc nD τ sig) → Buf (Elt Ideal) ℓ) (c : Dev nD)

abbrev arg0 : FVec Ideal S256x2048 .f32 := m ((c : Thread nD τ).loc main_arg0)
abbrev arg1 : FVec Ideal S8192x2048 .f32 := m ((c : Thread nD τ).loc main_arg1)
abbrev arg2 : FVec Ideal S2x9x2048 .f32 := m ((c : Thread nD τ).loc main_arg2)
abbrev G : Buf (Elt Ideal) ((c : Thread nD τ).loc main_v0) := val_main_v45 (F := Ideal) (arg0 m c) (arg1 m c) (arg2 m c)

variable (t : Fin cfg0.N) (r : Fin 256) (s : Fin 2048)

theorem a_at : (iblk m c 0 t : Vec Ideal S256x2048 .f32) (ix2 r s) = arg0 m c (ix2 r s) := by
  unfold iblk
  rw [View.read_apply]
  refine Eq.trans (congrArg (V m c main_arg0) (funext fun a => Fin.ext ?_)) (congrFun (V_main_arg0 m c) (ix2 r s))
  match a with
  | ⟨0, _⟩ => show win0_0.index t 0 * 256 + 1 * r.val = r.val; rw [(index t).1.1]; omega
  | ⟨1, _⟩ => show win0_0.index t 1 * 2048 + 1 * s.val = s.val; rw [(index t).1.2]; omega

theorem b_at : (iblk m c 1 t : Vec Ideal S256x2048 .f32) (ix2 r s) = arg1 m c (ix2 (prev N_0 t r) s) := by
  unfold iblk
  rw [View.read_apply]
  refine Eq.trans (congrArg (V m c main_arg1) (funext fun a => Fin.ext ?_)) (congrFun (V_main_arg1 m c) (ix2 (prev N_0 t r) s))
  match a with
  | ⟨0, _⟩ => show win0_1.index t 0 * 256 + 1 * r.val = 256 * (t.val - 1) + r.val; rw [(index t).2.1.1]; omega
  | ⟨1, _⟩ => show win0_1.index t 1 * 2048 + 1 * s.val = s.val; rw [(index t).2.1.2]; omega

theorem g_at (j : Fin 9) : (iblk m c 2 t : Vec Ideal S1x9x2048 .f32) (ix3 0 j s) = arg2 m c (ix3 (side t.val) j s) := by
  unfold iblk
  rw [View.read_apply]
  refine Eq.trans (congrArg (V m c main_arg2) (funext fun a => Fin.ext ?_)) (congrFun (V_main_arg2 m c) (ix3 (side t.val) j s))
  match a with
  | ⟨0, _⟩ => show win0_2.index t 0 * 1 + 1 * 0 = (side t.val).val; rw [(index t).2.2.1.1]; omega
  | ⟨1, _⟩ => show win0_2.index t 1 * 9 + 1 * j.val = j.val; rw [(index t).2.2.1.2.1]; omega
  | ⟨2, _⟩ => show win0_2.index t 2 * 2048 + 1 * s.val = s.val; rw [(index t).2.2.1.2.2]; omega

theorem final3 : (dats m 0 c).arrAt 3 cfg0.N = G m c :=
  (dats m 0 c).arrAt_eq_of_covers 3 _ (by decide +kernel) fun t _ (y : S256x2048.Idx) => by
    show (dats m 0 c).after 3 t y = _
    obtain ⟨r, s, rfl⟩ : ∃ r s, y = ix2 r s := ⟨_, _, eq_ix2 y⟩
    rw [after0_3]
    refine (out3_at t (iblk m c 0 t) (iblk m c 1 t) (iblk m c 2 t) r s).trans ?_
    simp only [a_at, b_at, g_at]
    refine (normed_at (arg0 m c) (arg1 m c) (arg2 m c) s t r).symm.trans (congrArg (G m c) (funext fun a => Fin.ext ?_))
    match a with
    | ⟨0, _⟩ => show 256 * t.val + r.val = win0_3.index t 0 * 256 + 1 * r.val; rw [(index t).2.2.2.1]; omega
    | ⟨1, _⟩ => show s.val = win0_3.index t 1 * 2048 + 1 * s.val; rw [(index t).2.2.2.2]; omega

theorem result : algebraic_NormMod1Ideal_NormMod1RefIdeal := fun m g m' g' _ ha =>
  ⟨fun c => G m c,
    (θ_run _ _ _).mono (fun r h c => ⟨(h c).1.trans (final3 m c), (h c).2⟩) (run_blocks m g),
    (θ_run _ _ _).mono (fun r h c => by
      obtain ⟨e0, e1, e2⟩ := ha c
      simp only [G, arg0, arg1, arg2, ← e0, ← e1, ← e2]
      exact h c) (NormMod1RefIdeal.Value.run m' g')⟩

theorem frame_ref : quiescent_NormMod1RefIdeal := fun m ρ _ => (θ_run _ _ _).mono (fun r h =>
  ⟨fun c => (h c).2, sem_eq_zero_of_no_sems (by decide) r.2⟩) (NormMod1RefIdeal.Value.run m ρ)

end Cert.NormMod1Ideal.Hand

/-! ## The first feed-forward block's residual and the norm after it -/

namespace Cert.ResidNorm1Ideal.Hand

open ResidNorm1Ideal Gen Value Cert.Stream Cert.Branches ResidNorm1RefIdeal.Read

theorem off_eq : k0_off1 = fun _ => 0 := funext fun a => by fin_cases a <;> rfl

theorem flag : ∀ t : Fin cfg0.N, Scalar.cmpi .slt (Scalar.muli (Scalar.addi (BitVec.ofNat 32 (grid0.coords t 0).val) 0#32) 256#32) 256#32
    = if t.val = 0 then 1#1 else 0#1 := by decide +kernel

abbrev half : EReal := Ideal.ofBits .f32 0x3F000000#32

section Block

variable (t : Fin cfg0.N) (x0 x1 : Vec Ideal S256x2048 .f32) (x2 : Vec Ideal S256x2048 .bf16) (x3 : Vec Ideal S1x9x2048 .f32) (r : Fin 256) (s : Fin 2048)

/-- The stream's row after the residual, in the block. -/
abbrev resid : Fin 2048 → EReal := fun k => pick t.val (x0 (ix2 r k)) (x1 (ix2 r k)) + half * x3 (ix3 0 2 k) * x2 (ix2 r k)

theorem pay2_at : k0_pay2 (grid0.coords t) x0 x1 x2 (View.ld x3 r0_1) (ix2 r s) = resid t x0 x1 x2 x3 r s := by
  unfold k0_pay2
  rw [flag, select_eq, shapeCast_self]
  show (_ : EReal) + broadcastTo S256x2048 _ _ (ix2 r s) * _ = _
  rw [over]
  show (_ : EReal) + _ * shapeCast S1x2048 _ _ (ix2 0 s) * _ = _
  rw [flat, ResidNorm2Ideal.Hand.ld_at x3 s 2 2 rfl]
  rfl

theorem out4_at : out0_4 (grid0.coords t) x0 x1 x2 x3 (ix2 r s) = resid t x0 x1 x2 x3 r s := by
  unfold out0_4 r0_0
  rw [View.ld_unit_zero (S := S256x2048) off_eq, View.ld_unit_zero (S := S256x2048) off_eq, View.ld_unit_zero (S := S256x2048) off_eq,
    View.canon_unit_zero (S := S256x2048) off_eq, pay2_at]

theorem out5_at : out0_5 (grid0.coords t) x0 x1 x2 x3 (ix2 r s)
    = normed (resid t x0 x1 x2 x3 r) (fun k => x3 (ix3 0 4 k)) (fun k => x3 (ix3 0 3 k)) s := by
  unfold out0_5 r0_0
  rw [View.ld_unit_zero (S := S256x2048) off_eq, View.ld_unit_zero (S := S256x2048) off_eq, View.ld_unit_zero (S := S256x2048) off_eq,
    View.canon_unit_zero (S := S256x2048) off_eq]
  unfold k0_pay1 k0_pay3
  show (_ : EReal) * broadcastTo S256x2048 _ _ (ix2 r s) * broadcastTo S256x2048 _ _ (ix2 r s) + broadcastTo S256x2048 _ _ (ix2 r s) = _
  rw [factor, over, over, flat]
  show (_ : EReal) * _ * (_ + shapeCast S1x2048 _ _ (ix2 0 s)) + _ = _
  rw [flat, ResidNorm2Ideal.Hand.ld_at x3 s 4 4 rfl, ResidNorm2Ideal.Hand.ld_at x3 s 3 3 rfl]
  simp only [pay2_at]
  rfl

end Block

section Reference

variable (a : FVec Ideal S256x2048 .f32) (b : FVec Ideal S8192x2048 .f32) (f : FVec Ideal S8448x2048 .f32) (g : FVec Ideal S2x9x2048 .f32) (s : Fin 2048)

abbrev ctx (i : Fin 256) : Fin 2048 → EReal := fun k => a (ix2 i k) + half * g (ix3 0 2 k) * f (ix2 (⟨i.val, by omega⟩ : Fin 8448) k)
abbrev sample (i : Fin 8192) : Fin 2048 → EReal := fun k => b (ix2 i k) + half * g (ix3 1 2 k) * f (ix2 (low i) k)

theorem ctx_at (i : Fin 256) : val_main_v8 (F := Ideal) a f g (ix2 i s) = ctx a f g i s := by
  rw [val_main_v8_apply, val_main_v7_apply, val_main_v6_apply, val_main_v5_apply, val_main_v4_apply, val_main_v3_apply, val_main_v2_apply, val_main_v1_apply, val_main_v0_apply, val_main_cst_apply]
  have e0 : idx_main_v4 (ix2 i s) = ix2 (⟨i.val, by omega⟩ : Fin 8448) s := eq_ix2 _
  have e1 : idx_main_v0 (idx_main_v1 (idx_main_v5 (idx_main_v6 (ix2 i s)))) = ix3 0 2 s := ResidNorm2Ideal.Hand.ix3_ext s (by simp) (by simp) (by simp [Nat.mod_eq_of_lt s.isLt])
  rw [e0, e1]
  rfl

theorem sample_at (i : Fin 8192) : val_main_v17 (F := Ideal) b f g (ix2 i s) = sample b f g i s := by
  rw [val_main_v17_apply, val_main_v16_apply, val_main_v15_apply, val_main_v14_apply, val_main_v13_apply, val_main_v12_apply, val_main_v11_apply, val_main_v10_apply, val_main_v9_apply, val_main_cst_0_apply]
  have e0 : idx_main_v13 (ix2 i s) = ix2 (low i) s := eq_ix2 _
  have e1 : idx_main_v9 (idx_main_v10 (idx_main_v14 (idx_main_v15 (ix2 i s)))) = ix3 1 2 s := ResidNorm2Ideal.Hand.ix3_ext s (by simp) (by simp) (by simp [Nat.mod_eq_of_lt s.isLt])
  rw [e0, e1]
  rfl

theorem ctx_normed (i : Fin 256) : val_main_v39 (F := Ideal) a f g (ix2 i s) = normed (ctx a f g i) (fun k => g (ix3 0 4 k)) (fun k => g (ix3 0 3 k)) s := by
  rw [val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_cst_1_apply, val_main_cst_2_apply, val_main_cst_3_apply, val_main_cst_4_apply]
  have e1 : idx_main_v35 (idx_main_v36 (idx_main_v37 (idx_main_v38 (ix2 i s)))) = ix3 0 3 s := ResidNorm2Ideal.Hand.ix3_ext s (by simp) (by simp) (by simp [Nat.mod_eq_of_lt s.isLt])
  have e2 : idx_main_v28 (idx_main_v29 (idx_main_v32 (idx_main_v33 (ix2 i s)))) = ix3 0 4 s := ResidNorm2Ideal.Hand.ix3_ext s (by simp) (by simp) (by simp [Nat.mod_eq_of_lt s.isLt])
  have e3 (k) : idx_main_v19 (idx_main_v20 (idx_main_v26 (ix2 i s))) k = ix2 i k := eq_ix2 _
  simp only [e1, e2, e3, val_main_v18_apply, ctx_at]
  show _ * Ideal.rsqrt (Ideal.div (Ideal.ofBits .f32 0x00000000#32 + _) _ + _) * _ + _ = _
  rw [Ideal.ofBits_zero_f32, zero_add]
  rfl

theorem sample_normed (i : Fin 8192) : val_main_v61 (F := Ideal) b f g (ix2 i s) = normed (sample b f g i) (fun k => g (ix3 1 4 k)) (fun k => g (ix3 1 3 k)) s := by
  rw [val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_cst_5_apply, val_main_cst_6_apply, val_main_cst_7_apply, val_main_cst_8_apply]
  have e1 : idx_main_v57 (idx_main_v58 (idx_main_v59 (idx_main_v60 (ix2 i s)))) = ix3 1 3 s := ResidNorm2Ideal.Hand.ix3_ext s (by simp) (by simp) (by simp [Nat.mod_eq_of_lt s.isLt])
  have e2 : idx_main_v50 (idx_main_v51 (idx_main_v54 (idx_main_v55 (ix2 i s)))) = ix3 1 4 s := ResidNorm2Ideal.Hand.ix3_ext s (by simp) (by simp) (by simp [Nat.mod_eq_of_lt s.isLt])
  have e3 (k) : idx_main_v41 (idx_main_v42 (idx_main_v48 (ix2 i s))) k = ix2 i k := eq_ix2 _
  simp only [e1, e2, e3, val_main_v40_apply, sample_at]
  show _ * Ideal.rsqrt (Ideal.div (Ideal.ofBits .f32 0x00000000#32 + _) _ + _) * _ + _ = _
  rw [Ideal.ofBits_zero_f32, zero_add]
  rfl

variable (t : Fin cfg0.N) (r : Fin 256)

abbrev after : Fin 2048 → EReal := fun k =>
  pick t.val (a (ix2 r k)) (b (ix2 (prev N_0 t r) k)) + half * g (ix3 (side t.val) 2 k) * f (ix2 (row N_0 t r) k)

theorem after_eq : after a b f g t r = pick t.val (ctx a f g r) (sample b f g (prev N_0 t r)) := by
  by_cases h : t.val = 0
  · have e : row N_0 t r = ⟨r.val, by omega⟩ := Fin.ext (by show 256 * t.val + r.val = r.val; omega)
    refine (funext fun k => ?_ : after a b f g t r = ctx a f g r).trans (if_pos h).symm
    show pick t.val _ _ + half * g (ix3 (side t.val) 2 k) * f (ix2 (row N_0 t r) k) = _
    simp only [pick, side, h, if_true, e]
  · have e : row N_0 t r = low (prev N_0 t r) := Fin.ext (by show 256 * t.val + r.val = 256 + (256 * (t.val - 1) + r.val); omega)
    refine (funext fun k => ?_ : after a b f g t r = sample b f g (prev N_0 t r)).trans (if_neg h).symm
    show pick t.val _ _ + half * g (ix3 (side t.val) 2 k) * f (ix2 (row N_0 t r) k) = _
    simp only [pick, side, h, if_false, e]

theorem after_at : val_main_v62 (F := Ideal) a b f g (ix2 (row N_0 t r) s) = after a b f g t r s := by
  refine (cat_rows (α := EReal) (val_main_v8 (F := Ideal) a f g) (val_main_v17 (F := Ideal) b f g)
    ResidNorm1RefIdeal.Facts₀.concatenates_S256x2048_S8192x2048_S8448x2048_d0 N_0 t r s).trans ?_
  rw [ctx_at, sample_at, after_eq]
  by_cases h : t.val = 0 <;> simp only [pick, h, if_true, if_false]

theorem normed_at : val_main_v64 (F := Ideal) a b f g (ix2 (row N_0 t r) s)
    = normed (after a b f g t r) (fun k => g (ix3 (side t.val) 4 k)) (fun k => g (ix3 (side t.val) 3 k)) s := by
  refine (cat_rows (α := EReal) (val_main_v39 (F := Ideal) a f g) (val_main_v61 (F := Ideal) b f g)
    ResidNorm1RefIdeal.Facts₀.concatenates_S256x2048_S8192x2048_S8448x2048_d0 N_0 t r s).trans ?_
  rw [ctx_normed, sample_normed, after_eq]
  by_cases h : t.val = 0 <;> simp only [pick, side, h, if_true, if_false]

end Reference

theorem index : ∀ t : Fin cfg0.N, (win0_0.index t 0 = 0 ∧ win0_0.index t 1 = 0) ∧ (win0_1.index t 0 = t.val - 1 ∧ win0_1.index t 1 = 0)
    ∧ (win0_2.index t 0 = t.val ∧ win0_2.index t 1 = 0) ∧ (win0_3.index t 0 = (side t.val).val ∧ win0_3.index t 1 = 0 ∧ win0_3.index t 2 = 0)
    ∧ (win0_4.index t 0 = t.val ∧ win0_4.index t 1 = 0) ∧ (win0_5.index t 0 = t.val ∧ win0_5.index t 1 = 0) := by decide +kernel

variable (m : (ℓ : Loc nD τ sig) → Buf (Elt Ideal) ℓ) (c : Dev nD)

abbrev arg0 : FVec Ideal S256x2048 .f32 := m ((c : Thread nD τ).loc main_arg0)
abbrev arg1 : FVec Ideal S8192x2048 .f32 := m ((c : Thread nD τ).loc main_arg1)
abbrev arg2 : FVec Ideal S8448x2048 .f32 := m ((c : Thread nD τ).loc main_arg2)
abbrev arg3 : FVec Ideal S2x9x2048 .f32 := m ((c : Thread nD τ).loc main_arg3)
abbrev G : Buf (Elt Ideal) ((c : Thread nD τ).loc main_v1_0) := val_main_v62 (F := Ideal) (arg0 m c) (arg1 m c) (arg2 m c) (arg3 m c)
abbrev H : Buf (Elt Ideal) ((c : Thread nD τ).loc main_v1_1) := val_main_v64 (F := Ideal) (arg0 m c) (arg1 m c) (arg2 m c) (arg3 m c)

theorem V_0 : V m c main_v0 = truncf (F := Ideal) .bf16 (arg2 m c) bitsLt_bf16_f32 := by
  unfold V
  after_results_simp <;> rfl

variable (t : Fin cfg0.N) (r : Fin 256) (s : Fin 2048)

theorem a_at : (iblk m c 0 t : Vec Ideal S256x2048 .f32) (ix2 r s) = arg0 m c (ix2 r s) := by
  unfold iblk
  rw [View.read_apply]
  refine Eq.trans (congrArg (V m c main_arg0) (funext fun a => Fin.ext ?_)) (congrFun (V_main_arg0 m c) (ix2 r s))
  match a with
  | ⟨0, _⟩ => show win0_0.index t 0 * 256 + 1 * r.val = r.val; rw [(index t).1.1]; omega
  | ⟨1, _⟩ => show win0_0.index t 1 * 2048 + 1 * s.val = s.val; rw [(index t).1.2]; omega

theorem b_at : (iblk m c 1 t : Vec Ideal S256x2048 .f32) (ix2 r s) = arg1 m c (ix2 (prev N_0 t r) s) := by
  unfold iblk
  rw [View.read_apply]
  refine Eq.trans (congrArg (V m c main_arg1) (funext fun a => Fin.ext ?_)) (congrFun (V_main_arg1 m c) (ix2 (prev N_0 t r) s))
  match a with
  | ⟨0, _⟩ => show win0_1.index t 0 * 256 + 1 * r.val = 256 * (t.val - 1) + r.val; rw [(index t).2.1.1]; omega
  | ⟨1, _⟩ => show win0_1.index t 1 * 2048 + 1 * s.val = s.val; rw [(index t).2.1.2]; omega

theorem f_at : (iblk m c 2 t : Vec Ideal S256x2048 .bf16) (ix2 r s) = arg2 m c (ix2 (row N_0 t r) s) := by
  unfold iblk
  rw [View.read_apply]
  refine Eq.trans (congrArg (V m c main_v0) (funext fun a => Fin.ext ?_)) (congrFun (V_0 m c) (ix2 (row N_0 t r) s))
  match a with
  | ⟨0, _⟩ => show win0_2.index t 0 * 256 + 1 * r.val = 256 * t.val + r.val; rw [(index t).2.2.1.1]; omega
  | ⟨1, _⟩ => show win0_2.index t 1 * 2048 + 1 * s.val = s.val; rw [(index t).2.2.1.2]; omega

theorem g_at (j : Fin 9) : (iblk m c 3 t : Vec Ideal S1x9x2048 .f32) (ix3 0 j s) = arg3 m c (ix3 (side t.val) j s) := by
  unfold iblk
  rw [View.read_apply]
  refine Eq.trans (congrArg (V m c main_arg3) (funext fun a => Fin.ext ?_)) (congrFun (V_main_arg3 m c) (ix3 (side t.val) j s))
  match a with
  | ⟨0, _⟩ => show win0_3.index t 0 * 1 + 1 * 0 = (side t.val).val; rw [(index t).2.2.2.1.1]; omega
  | ⟨1, _⟩ => show win0_3.index t 1 * 9 + 1 * j.val = j.val; rw [(index t).2.2.2.1.2.1]; omega
  | ⟨2, _⟩ => show win0_3.index t 2 * 2048 + 1 * s.val = s.val; rw [(index t).2.2.2.1.2.2]; omega

theorem resid_at : resid t (iblk m c 0 t) (iblk m c 1 t) (iblk m c 2 t) (iblk m c 3 t) r = after (arg0 m c) (arg1 m c) (arg2 m c) (arg3 m c) t r := by
  funext k
  simp only [resid, a_at, b_at, f_at, g_at]

theorem final4 : (dats m 0 c).arrAt 4 cfg0.N = G m c :=
  (dats m 0 c).arrAt_eq_of_covers 4 _ (by decide +kernel) fun t _ (y : S256x2048.Idx) => by
    show (dats m 0 c).after 4 t y = _
    obtain ⟨r, s, rfl⟩ : ∃ r s, y = ix2 r s := ⟨_, _, eq_ix2 y⟩
    rw [after0_4]
    refine (out4_at t (iblk m c 0 t) (iblk m c 1 t) (iblk m c 2 t) (iblk m c 3 t) r s).trans ?_
    rw [resid_at]
    refine (after_at (arg0 m c) (arg1 m c) (arg2 m c) (arg3 m c) s t r).symm.trans (congrArg (G m c) (funext fun a => Fin.ext ?_))
    match a with
    | ⟨0, _⟩ => show 256 * t.val + r.val = win0_4.index t 0 * 256 + 1 * r.val; rw [(index t).2.2.2.2.1.1]; omega
    | ⟨1, _⟩ => show s.val = win0_4.index t 1 * 2048 + 1 * s.val; rw [(index t).2.2.2.2.1.2]; omega

theorem final5 : (dats m 0 c).arrAt 5 cfg0.N = H m c :=
  (dats m 0 c).arrAt_eq_of_covers 5 _ (by decide +kernel) fun t _ (y : S256x2048.Idx) => by
    show (dats m 0 c).after 5 t y = _
    obtain ⟨r, s, rfl⟩ : ∃ r s, y = ix2 r s := ⟨_, _, eq_ix2 y⟩
    rw [after0_5]
    refine (out5_at t (iblk m c 0 t) (iblk m c 1 t) (iblk m c 2 t) (iblk m c 3 t) r s).trans ?_
    rw [resid_at]
    simp only [g_at]
    refine (normed_at (arg0 m c) (arg1 m c) (arg2 m c) (arg3 m c) s t r).symm.trans (congrArg (H m c) (funext fun a => Fin.ext ?_))
    match a with
    | ⟨0, _⟩ => show 256 * t.val + r.val = win0_5.index t 0 * 256 + 1 * r.val; rw [(index t).2.2.2.2.2.1]; omega
    | ⟨1, _⟩ => show s.val = win0_5.index t 1 * 2048 + 1 * s.val; rw [(index t).2.2.2.2.2.2]; omega

theorem result : algebraic_ResidNorm1Ideal_ResidNorm1RefIdeal := fun m g m' g' _ ha =>
  ⟨fun c => G m c, fun c => H m c,
    (θ_run _ _ _).mono (fun r h c => ⟨(h c).1.trans (final4 m c), (h c).2.1.trans (final5 m c), (h c).2.2⟩) (run_blocks m g),
    (θ_run _ _ _).mono (fun r h c => by
      obtain ⟨e0, e1, e2, e3⟩ := ha c
      have h := h c
      rw [val_main_v64_eq] at h
      simp only [G, H, arg0, arg1, arg2, arg3, ← e0, ← e1, ← e2, ← e3]
      exact h) (ResidNorm1RefIdeal.Value.run m' g')⟩

theorem frame_ref : quiescent_ResidNorm1RefIdeal := fun m ρ _ => (θ_run _ _ _).mono (fun r h =>
  ⟨fun c => (h c).2.2, sem_eq_zero_of_no_sems (by decide) r.2⟩) (ResidNorm1RefIdeal.Value.run m ρ)

end Cert.ResidNorm1Ideal.Hand

end
-- ==== Proof.MixInGabValue.lean ====
/- The attention's and output's gate columns of the mixer's input product `x · w`. The kernel's array after the run is the reference's. -/
module

public import proofs.«01_k».proof.Proof.Prod
public import proofs.«01_k».proof.Proof.Gen.MixInGabIdeal.Value
public import proofs.«01_k».proof.Proof.Gen.MixInGabRefIdeal.Read

@[expose] public section

noncomputable section

namespace Cert.MixInGabIdeal.Hand

open MixInGabIdeal Gen Value Cert.Prod MixInGabRefIdeal.Read
open Idealize.ShloMosaic TcCoe Tactic ValueIdx
open Idealize.SL Sem

/-- The blocks: of the left array, of the weight, and of the result. -/
abbrev Sx : Shape := S768x2048
abbrev Sy : Shape := S2048x2048
abbrev Sz : Shape := S768x2048

theorem pay1_at (x : Vec Ideal Sx .bf16) (y : Vec Ideal Sy .bf16) (r : Fin 768) (s : Fin 2048) :
    k0_pay1 (F := Ideal) x y (ix2 r s) = ∑ k : Fin 2048, x (ix2 r k) * y (ix2 k s) := by
  unfold k0_pay1
  rw [shapeCast_self, shapeCast_self]
  exact mm_nn (φ₁ := .bf16) (φ₂ := .bf16) dot_S768x2048_S2048x2048_S768x2048_1_0_0_1_n_n rfl rfl rfl rfl (fun _ _ => rfl) (fun _ _ => rfl) x y r s

theorem out_at (x : Vec Ideal Sx .bf16) (y : Vec Ideal Sy .bf16) : out0_2 (F := Ideal) x y = k0_pay1 x y := by
  unfold out0_2
  rw [View.canon_unit_zero (S := Sz) off2, View.ld_unit_zero (S := Sx) off2, View.ld_unit_zero (S := Sy) off2]

/-! ## The blocks -/

theorem index0 : ∀ t : Fin cfg0.N, win0_0.index t 0 = t.val / 2 % 11 ∧ win0_0.index t 1 = 0 := by decide +kernel
theorem index1 : ∀ t : Fin cfg0.N, win0_1.index t 0 = 0 ∧ win0_1.index t 1 = 5632 + 2048 * (t.val % 2) := by decide +kernel
theorem index2 : ∀ t : Fin cfg0.N, win0_2.index t 0 = t.val / 2 % 11 ∧ win0_2.index t 1 = t.val % 2 := by decide +kernel

/-- Point `p`'s rows and columns of the result, and a column's place in the weight. -/
abbrev row (p : ℕ) (r : Fin 768) : Fin 8448 := place 11 (by decide) (p / 2) r
abbrev col (p : ℕ) (s : Fin 2048) : Fin 4096 := place 2 (by decide) p s
def wide (j : Fin 4096) : Fin 9728 := ⟨5632 + j.val, by omega⟩

variable (m : (ℓ : Loc nD τ sig) → Buf (Elt Ideal) ℓ) (c : Dev nD)

/-- The two arguments as the run is launched with them, and the reference's result. -/
abbrev arg0 : FVec Ideal S8448x2048 .f32 := m ((c : Thread nD τ).loc main_arg0)
abbrev arg1 : FVec Ideal S2048x9728 .f32 := m ((c : Thread nD τ).loc main_arg1)
abbrev G : Buf (Elt Ideal) ((c : Thread nD τ).loc main_v2) := val_main_v2 (F := Ideal) (arg0 m c) (arg1 m c)

theorem V_x : V m c main_v0 = truncf (F := Ideal) .bf16 (arg0 m c) bitsLt_bf16_f32 := by
  unfold V
  after_results_simp <;> rfl
theorem V_y : V m c main_v1 = truncf (F := Ideal) .bf16 (arg1 m c) bitsLt_bf16_f32 := by
  unfold V
  after_results_simp <;> rfl

theorem x_at (t : Fin cfg0.N) (r : Fin 768) (k : Fin 2048) : (iblk m c 0 t : Vec Ideal Sx .bf16) (ix2 r k) = arg0 m c (ix2 (row t.val r) k) := by
  unfold iblk
  rw [View.read_apply]
  refine Eq.trans (congrArg (V m c main_v0) (funext fun a => Fin.ext ?_)) (congrFun (V_x m c) (ix2 (row t.val r) k))
  match a with
  | ⟨0, _⟩ => show win0_0.index t 0 * 768 + 1 * r.val = 768 * (t.val / 2 % 11) + r.val; rw [(index0 t).1]; omega
  | ⟨1, _⟩ => show win0_0.index t 1 * 2048 + 1 * k.val = k.val; rw [(index0 t).2]; omega

theorem y_at (t : Fin cfg0.N) (s : Fin 2048) (k : Fin 2048) : (iblk m c 1 t : Vec Ideal Sy .bf16) (ix2 k s) = arg1 m c (ix2 k (wide (col t.val s))) := by
  unfold iblk
  rw [View.read_apply]
  refine Eq.trans (congrArg (V m c main_v1) (funext fun a => Fin.ext ?_)) (congrFun (V_y m c) (ix2 k (wide (col t.val s))))
  match a with
  | ⟨0, _⟩ => show win0_1.index t 0 + 1 * k.val = k.val; rw [(index1 t).1]; omega
  | ⟨1, _⟩ => show win0_1.index t 1 + 1 * s.val = 5632 + (2048 * (t.val % 2) + s.val); rw [(index1 t).2]; omega

/-! ## The reference at an entry, what a point writes back, and the result array -/

theorem ref_at (i : Fin 8448) (j : Fin 4096) : val_main_v2 (F := Ideal) (arg0 m c) (arg1 m c) (ix2 i j) = ∑ k, arg0 m c (ix2 i k) * arg1 m c (ix2 k (wide j)) := by
  have e : val_main_v0 (F := Ideal) (arg0 m c) (arg1 m c) (ix2 i (wide j)) = ∑ k, arg0 m c (ix2 i k) * arg1 m c (ix2 k (wide j)) := by
    rw [val_main_v0_apply]
    refine Finset.sum_congr rfl fun k _ => ?_
    have e0 : lidx_main_v0 (ix2 i (wide j)) k = ix2 i k := eq_ix2 _
    have e1 : ridx_main_v0 (ix2 i (wide j)) k = ix2 k (wide j) := eq_ix2 _
    rw [e0, e1]
  refine (val_main_v2_apply _ _ _).trans ?_
  show val_main_v1 (F := Ideal) (arg0 m c) (arg1 m c) (ix2 i j) = _
  rw [val_main_v1_apply]
  refine Eq.trans (congrArg _ (funext fun a => Fin.ext ?_)) e
  match a with
  | ⟨0, _⟩ => first | rfl | exact Nat.zero_add _
  | ⟨1, _⟩ => first | rfl | exact Nat.add_comm _ _ | exact (Nat.zero_add _).symm

theorem flushed_eq (t : Fin cfg0.N) (hf : (cfg0.win 2).flush t = true) :
    (dats m 0 c).flushed 2 t = ((cfg0.win 2).blk t).view.read (Elt Ideal) (G m c) := by
  rw [flushed2, out_at]
  refine funext fun (y : Sz.Idx) => ?_
  obtain ⟨r, s, rfl⟩ : ∃ r s, y = ix2 r s := ⟨_, _, eq_ix2 y⟩
  refine (pay1_at _ _ r s).trans (Eq.trans (Finset.sum_congr rfl fun k _ => congrArg₂ (fun u v : EReal => u * v) (x_at m c t r k) (y_at m c t s k))
    ((ref_at m c (row t.val r) (col t.val s)).symm.trans ?_))
  rw [View.read_apply]
  refine congrArg (G m c) (funext fun a => Fin.ext ?_)
  match a with
  | ⟨0, _⟩ => show 768 * (t.val / 2 % 11) + r.val = win0_2.index t 0 * 768 + 1 * r.val; rw [(index2 t).1]; omega
  | ⟨1, _⟩ => show 2048 * (t.val % 2) + s.val = win0_2.index t 1 * 2048 + 1 * s.val; rw [(index2 t).2]; omega

theorem final : (dats m 0 c).arrAt 2 cfg0.N = G m c :=
  (dats m 0 c).arrAt_eq_of_cover 2 _ (flushed_eq m c) ((by decide +kernel : (cfg0.win 2).Covers).cover _ (Memref.isWhole_whole _))

end Cert.MixInGabIdeal.Hand

end
-- ==== Proof.lean ====
/- The claims. About the attention's backward call: the frames of the kernel (over words and over the extended reals) and of
   the reference, the named constant, and the equality of the two programs' results on finite arguments; about its forward call
   the same. About each of the other calls: the same frames, and the equality of the two results on all arguments. -/
module

public import proofs.«01_k».proof.Proof.Gen.ReferenceIdeal.Run
public import proofs.«01_k».proof.Proof.Gen.ReferenceIdeal.Read
public import proofs.«01_k».proof.Proof.Run
public import proofs.«01_k».proof.Proof.WordRun
public import proofs.«01_k».proof.Proof.Finite
public import proofs.«01_k».proof.Defs
public import proofs.«01_k».proof.Proof.Gen.Kernel.Frame
public import proofs.«01_k».proof.Proof.Gen.KernelIdeal.Frame
public import proofs.«01_k».proof.Proof.Gen.FlashFwd.Frame
public import proofs.«01_k».proof.Proof.FlashFwdValue
public import proofs.«01_k».proof.Proof.Gen.Ffn2InDx.Frame
public import proofs.«01_k».proof.Proof.Ffn2InDxValue
public import proofs.«01_k».proof.Proof.Gen.Ffn2InDw.Frame
public import proofs.«01_k».proof.Proof.Ffn2InDwValue
public import proofs.«01_k».proof.Proof.Gen.Ffn2OutDw.Frame
public import proofs.«01_k».proof.Proof.Ffn2OutDwValue
public import proofs.«01_k».proof.Proof.Gen.Ffn1InDx.Frame
public import proofs.«01_k».proof.Proof.Ffn1InDxValue
public import proofs.«01_k».proof.Proof.Gen.Ffn1InDw.Frame
public import proofs.«01_k».proof.Proof.Ffn1InDwValue
public import proofs.«01_k».proof.Proof.Gen.Ffn1OutDw.Frame
public import proofs.«01_k».proof.Proof.Ffn1OutDwValue
public import proofs.«01_k».proof.Proof.Gen.MixInDx.Frame
public import proofs.«01_k».proof.Proof.MixInDxValue
public import proofs.«01_k».proof.Proof.Gen.MixInDw.Frame
public import proofs.«01_k».proof.Proof.MixInDwValue
public import proofs.«01_k».proof.Proof.Gen.MixOutDw.Frame
public import proofs.«01_k».proof.Proof.MixOutDwValue
public import proofs.«01_k».proof.Proof.Gen.MixOutDx.Frame
public import proofs.«01_k».proof.Proof.MixOutDxValue
public import proofs.«01_k».proof.Proof.Gen.ProjDw.Frame
public import proofs.«01_k».proof.Proof.ProjDwValue
public import proofs.«01_k».proof.Proof.Gen.ProjAttnDx.Frame
public import proofs.«01_k».proof.Proof.ProjAttnDxValue
public import proofs.«01_k».proof.Proof.Gen.ProjRetDx.Frame
public import proofs.«01_k».proof.Proof.ProjRetDxValue
public import proofs.«01_k».proof.Proof.Gen.Ffn2Out.Frame
public import proofs.«01_k».proof.Proof.Ffn2OutValue
public import proofs.«01_k».proof.Proof.Gen.Ffn1Out.Frame
public import proofs.«01_k».proof.Proof.Ffn1OutValue
public import proofs.«01_k».proof.Proof.Gen.MixOut.Frame
public import proofs.«01_k».proof.Proof.MixOutValue
public import proofs.«01_k».proof.Proof.Gen.Proj.Frame
public import proofs.«01_k».proof.Proof.ProjValue
public import proofs.«01_k».proof.Proof.Gen.Ffn2GateGrad.Frame
public import proofs.«01_k».proof.Proof.Ffn2GateGradValue
public import proofs.«01_k».proof.Proof.Gen.Ffn1GateGrad.Frame
public import proofs.«01_k».proof.Proof.Ffn1GateGradValue
public import proofs.«01_k».proof.Proof.Gen.Ffn2In.Frame
public import proofs.«01_k».proof.Proof.Ffn2InValue
public import proofs.«01_k».proof.Proof.Gen.Ffn1In.Frame
public import proofs.«01_k».proof.Proof.Ffn1InValue
public import proofs.«01_k».proof.Proof.Gen.MixInQ.Frame
public import proofs.«01_k».proof.Proof.MixInQValue
public import proofs.«01_k».proof.Proof.Gen.MixInKv.Frame
public import proofs.«01_k».proof.Proof.MixInKvValue
public import proofs.«01_k».proof.Proof.Gen.MixInRet.Frame
public import proofs.«01_k».proof.Proof.MixInRetValue
public import proofs.«01_k».proof.Proof.Gen.MixInGr.Frame
public import proofs.«01_k».proof.Proof.MixInGrValue
public import proofs.«01_k».proof.Proof.Gen.MixInGab.Frame
public import proofs.«01_k».proof.Proof.Gen.Merge.Frame
public import proofs.«01_k».proof.Proof.MergeValue
public import proofs.«01_k».proof.Proof.Gen.MergeGrad.Frame
public import proofs.«01_k».proof.Proof.MergeGradValue
public import proofs.«01_k».proof.Proof.UpdateValue
public import proofs.«01_k».proof.Proof.Gen.ResidNorm2.Frame
public import proofs.«01_k».proof.Proof.NormValue
public import proofs.«01_k».proof.Proof.Gen.NormMod1.Frame
public import proofs.«01_k».proof.Proof.Gen.ResidNorm1.Frame
public import proofs.«01_k».proof.Proof.NormOneValue
public import proofs.«01_k».proof.Proof.Gen.RetSum.Frame
public import proofs.«01_k».proof.Proof.Gen.AdamIn.Frame
public import proofs.«01_k».proof.Proof.Gen.AdamOut.Frame
public import proofs.«01_k».proof.Proof.Gen.AdamMixIn.Frame
public import proofs.«01_k».proof.Proof.Gen.AdamProj.Frame
public import proofs.«01_k».proof.Proof.Gen.AdamMixOut.Frame
public import proofs.«01_k».proof.Proof.Gen.AdamAda.Frame
public import proofs.«01_k».proof.Proof.Gen.AdamBias.Frame
public import proofs.«01_k».proof.Proof.Gen.AdamVector.Frame
public import proofs.«01_k».proof.Proof.Gen.AdamGain.Frame
public import proofs.«01_k».proof.Proof.Gen.AdamDecay.Frame
public import proofs.«01_k».proof.Proof.MixInGabValue
public import Idealize.ShloMosaic.Adequacy
public import Idealize.ShloMosaic.Init

@[expose] public section

noncomputable section

namespace Cert.Proof

open Idealize.ShloMosaic Idealize.SL.Sem Cert Cert.Kernel

/-- The kernel's frame over words: every weakly fair run ends, its arguments as they began, its counters at zero. -/
theorem frame_kernel : quiescent_Kernel := fun m ρ _ => KernelIdeal.Hand.frame_word m ρ

/-- The same over the extended reals. -/
theorem frame_ideal : quiescent_KernelIdeal := fun m ρ _ => KernelIdeal.Hand.frame (F := Ideal) m ρ

/-- The reference is one line of host operations, and declares no semaphore. -/
theorem frame_reference : quiescent_ReferenceIdeal := fun m ρ _ =>
  (θ_run _ _ _).mono (fun r h => ⟨fun c => (h c).2.2.2,
      sem_eq_zero_of_no_sems (by decide) r.2⟩)
    (ReferenceIdeal.Value.run m ρ)

/-- The one constant of the kernel's body that is named. -/
theorem preserves : preserves_Kernel_KernelIdeal :=
  IdealRules.named_const.statement KernelIdeal.κ "ln2" .f32 0x3F317218#32 ((Real.log 2 : ℝ) : EReal) rfl

/-- On finite arguments the kernel's three gradients are the reference's, entry by entry. -/
theorem algebraic : algebraic_KernelIdeal_ReferenceIdeal_pre_finite := by
  intro m g m' g' hp ha
  refine ⟨fun c => KernelIdeal.Hand.gq m c, fun c => KernelIdeal.Hand.gk m c, fun c => KernelIdeal.Hand.gv m c,
    KernelIdeal.Hand.run_value m g (Attn.Finite.real_args m hp), ?_⟩
  refine (θ_run _ _ _).mono (fun r h c => ?_) (ReferenceIdeal.Value.run m' g')
  obtain ⟨e62, e61, e60, eargs⟩ := h c
  obtain ⟨e0, e1, e2, e3⟩ := ha c
  refine ⟨(e62.trans (ReferenceIdeal.Read.val_main_v62_eq m' c)).trans ?_,
    (e61.trans (ReferenceIdeal.Read.val_main_v61_eq m' c)).trans ?_,
    (e60.trans (ReferenceIdeal.Read.val_main_v60_eq _ _ _)).trans ?_, eargs⟩
  · rw [e0, e1, e2, e3]
  · rw [e0, e1, e2, e3]
  · rw [e0, e1, e3]

/-! ## The matrix products, one by one: what the kernel's array holds after its run is what the reference's holds -/

theorem frame_ffn2_in_dx_ref : quiescent_Ffn2InDxRefIdeal := fun m ρ _ =>
  (θ_run _ _ _).mono (fun r h => ⟨fun c => (h c).2, sem_eq_zero_of_no_sems (by decide) r.2⟩)
    (Ffn2InDxRefIdeal.Value.run m ρ)

theorem ffn2_in_dx : algebraic_Ffn2InDxIdeal_Ffn2InDxRefIdeal := fun m g m' g' _ ha =>
  ⟨fun c => Ffn2InDxIdeal.Hand.G m c,
    (θ_run _ _ _).mono (fun r h c => ⟨(h c).1.trans (Ffn2InDxIdeal.Hand.final m c), (h c).2⟩) (Ffn2InDxIdeal.Value.run_blocks m g),
    (θ_run _ _ _).mono (fun r h c => ⟨((h c).1.trans (Ffn2InDxRefIdeal.Read.val_main_v9_eq _ _)).trans
      (congrArg₂ Ffn2InDxRefIdeal.Read.val_main_v9 (ha c).1 (ha c).2), (h c).2⟩) (Ffn2InDxRefIdeal.Value.run m' g')⟩

theorem frame_ffn2_in_dw_ref : quiescent_Ffn2InDwRefIdeal := fun m ρ _ =>
  (θ_run _ _ _).mono (fun r h => ⟨fun c => (h c).2, sem_eq_zero_of_no_sems (by decide) r.2⟩)
    (Ffn2InDwRefIdeal.Value.run m ρ)

theorem ffn2_in_dw : algebraic_Ffn2InDwIdeal_Ffn2InDwRefIdeal := fun m g m' g' _ ha =>
  ⟨fun c => Ffn2InDwIdeal.Hand.G m c,
    (θ_run _ _ _).mono (fun r h c => ⟨(h c).1.trans (Ffn2InDwIdeal.Hand.final m c), (h c).2⟩) (Ffn2InDwIdeal.Value.run_blocks m g),
    (θ_run _ _ _).mono (fun r h c => ⟨((h c).1.trans (Ffn2InDwRefIdeal.Read.val_main_v11_eq _ _)).trans
      (congrArg₂ Ffn2InDwRefIdeal.Read.val_main_v11 (ha c).1 (ha c).2), (h c).2⟩) (Ffn2InDwRefIdeal.Value.run m' g')⟩

theorem frame_ffn2_out_dw_ref : quiescent_Ffn2OutDwRefIdeal := fun m ρ _ =>
  (θ_run _ _ _).mono (fun r h => ⟨fun c => (h c).2, sem_eq_zero_of_no_sems (by decide) r.2⟩)
    (Ffn2OutDwRefIdeal.Value.run m ρ)

theorem ffn2_out_dw : algebraic_Ffn2OutDwIdeal_Ffn2OutDwRefIdeal := fun m g m' g' _ ha =>
  ⟨fun c => Ffn2OutDwIdeal.Hand.G m c,
    (θ_run _ _ _).mono (fun r h c => ⟨(h c).1.trans (Ffn2OutDwIdeal.Hand.final m c), (h c).2⟩) (Ffn2OutDwIdeal.Value.run_blocks m g),
    (θ_run _ _ _).mono (fun r h c => ⟨((h c).1.trans (Ffn2OutDwRefIdeal.Read.val_main_v4_eq _ _)).trans
      (congrArg₂ Ffn2OutDwRefIdeal.Read.val_main_v4 (ha c).1 (ha c).2), (h c).2⟩) (Ffn2OutDwRefIdeal.Value.run m' g')⟩

theorem frame_ffn1_in_dx_ref : quiescent_Ffn1InDxRefIdeal := fun m ρ _ =>
  (θ_run _ _ _).mono (fun r h => ⟨fun c => (h c).2, sem_eq_zero_of_no_sems (by decide) r.2⟩)
    (Ffn1InDxRefIdeal.Value.run m ρ)

theorem ffn1_in_dx : algebraic_Ffn1InDxIdeal_Ffn1InDxRefIdeal := fun m g m' g' _ ha =>
  ⟨fun c => Ffn1InDxIdeal.Hand.G m c,
    (θ_run _ _ _).mono (fun r h c => ⟨(h c).1.trans (Ffn1InDxIdeal.Hand.final m c), (h c).2⟩) (Ffn1InDxIdeal.Value.run_blocks m g),
    (θ_run _ _ _).mono (fun r h c => ⟨((h c).1.trans (Ffn1InDxRefIdeal.Read.val_main_v9_eq _ _)).trans
      (congrArg₂ Ffn1InDxRefIdeal.Read.val_main_v9 (ha c).1 (ha c).2), (h c).2⟩) (Ffn1InDxRefIdeal.Value.run m' g')⟩

theorem frame_ffn1_in_dw_ref : quiescent_Ffn1InDwRefIdeal := fun m ρ _ =>
  (θ_run _ _ _).mono (fun r h => ⟨fun c => (h c).2, sem_eq_zero_of_no_sems (by decide) r.2⟩)
    (Ffn1InDwRefIdeal.Value.run m ρ)

theorem ffn1_in_dw : algebraic_Ffn1InDwIdeal_Ffn1InDwRefIdeal := fun m g m' g' _ ha =>
  ⟨fun c => Ffn1InDwIdeal.Hand.G m c,
    (θ_run _ _ _).mono (fun r h c => ⟨(h c).1.trans (Ffn1InDwIdeal.Hand.final m c), (h c).2⟩) (Ffn1InDwIdeal.Value.run_blocks m g),
    (θ_run _ _ _).mono (fun r h c => ⟨((h c).1.trans (Ffn1InDwRefIdeal.Read.val_main_v11_eq _ _)).trans
      (congrArg₂ Ffn1InDwRefIdeal.Read.val_main_v11 (ha c).1 (ha c).2), (h c).2⟩) (Ffn1InDwRefIdeal.Value.run m' g')⟩

theorem frame_ffn1_out_dw_ref : quiescent_Ffn1OutDwRefIdeal := fun m ρ _ =>
  (θ_run _ _ _).mono (fun r h => ⟨fun c => (h c).2, sem_eq_zero_of_no_sems (by decide) r.2⟩)
    (Ffn1OutDwRefIdeal.Value.run m ρ)

theorem ffn1_out_dw : algebraic_Ffn1OutDwIdeal_Ffn1OutDwRefIdeal := fun m g m' g' _ ha =>
  ⟨fun c => Ffn1OutDwIdeal.Hand.G m c,
    (θ_run _ _ _).mono (fun r h c => ⟨(h c).1.trans (Ffn1OutDwIdeal.Hand.final m c), (h c).2⟩) (Ffn1OutDwIdeal.Value.run_blocks m g),
    (θ_run _ _ _).mono (fun r h c => ⟨((h c).1.trans (Ffn1OutDwRefIdeal.Read.val_main_v4_eq _ _)).trans
      (congrArg₂ Ffn1OutDwRefIdeal.Read.val_main_v4 (ha c).1 (ha c).2), (h c).2⟩) (Ffn1OutDwRefIdeal.Value.run m' g')⟩

theorem frame_mix_in_dx_ref : quiescent_MixInDxRefIdeal := fun m ρ _ =>
  (θ_run _ _ _).mono (fun r h => ⟨fun c => (h c).2, sem_eq_zero_of_no_sems (by decide) r.2⟩)
    (MixInDxRefIdeal.Value.run m ρ)

theorem mix_in_dx : algebraic_MixInDxIdeal_MixInDxRefIdeal := fun m g m' g' _ ha =>
  ⟨fun c => MixInDxIdeal.Hand.G m c,
    (θ_run _ _ _).mono (fun r h c => ⟨(h c).1.trans (MixInDxIdeal.Hand.final m c), (h c).2⟩) (MixInDxIdeal.Value.run_blocks m g),
    (θ_run _ _ _).mono (fun r h c => ⟨((h c).1.trans (MixInDxRefIdeal.Read.val_main_v2_eq _ _)).trans
      (congrArg₂ MixInDxRefIdeal.Read.val_main_v2 (ha c).1 (ha c).2), (h c).2⟩) (MixInDxRefIdeal.Value.run m' g')⟩

theorem frame_mix_in_dw_ref : quiescent_MixInDwRefIdeal := fun m ρ _ =>
  (θ_run _ _ _).mono (fun r h => ⟨fun c => (h c).2, sem_eq_zero_of_no_sems (by decide) r.2⟩)
    (MixInDwRefIdeal.Value.run m ρ)

theorem mix_in_dw : algebraic_MixInDwIdeal_MixInDwRefIdeal := fun m g m' g' _ ha =>
  ⟨fun c => MixInDwIdeal.Hand.G m c,
    (θ_run _ _ _).mono (fun r h c => ⟨(h c).1.trans (MixInDwIdeal.Hand.final m c), (h c).2⟩) (MixInDwIdeal.Value.run_blocks m g),
    (θ_run _ _ _).mono (fun r h c => ⟨((h c).1.trans (MixInDwRefIdeal.Read.val_main_v4_eq _ _)).trans
      (congrArg₂ MixInDwRefIdeal.Read.val_main_v4 (ha c).1 (ha c).2), (h c).2⟩) (MixInDwRefIdeal.Value.run m' g')⟩

theorem frame_mix_out_dw_ref : quiescent_MixOutDwRefIdeal := fun m ρ _ =>
  (θ_run _ _ _).mono (fun r h => ⟨fun c => (h c).2, sem_eq_zero_of_no_sems (by decide) r.2⟩)
    (MixOutDwRefIdeal.Value.run m ρ)

theorem mix_out_dw : algebraic_MixOutDwIdeal_MixOutDwRefIdeal := fun m g m' g' _ ha =>
  ⟨fun c => MixOutDwIdeal.Hand.G m c,
    (θ_run _ _ _).mono (fun r h c => ⟨(h c).1.trans (MixOutDwIdeal.Hand.final m c), (h c).2⟩) (MixOutDwIdeal.Value.run_blocks m g),
    (θ_run _ _ _).mono (fun r h c => ⟨((h c).1.trans (MixOutDwRefIdeal.Read.val_main_v4_eq _ _)).trans
      (congrArg₂ MixOutDwRefIdeal.Read.val_main_v4 (ha c).1 (ha c).2), (h c).2⟩) (MixOutDwRefIdeal.Value.run m' g')⟩

theorem frame_mix_out_dx_ref : quiescent_MixOutDxRefIdeal := fun m ρ _ =>
  (θ_run _ _ _).mono (fun r h => ⟨fun c => (h c).2, sem_eq_zero_of_no_sems (by decide) r.2⟩)
    (MixOutDxRefIdeal.Value.run m ρ)

theorem mix_out_dx : algebraic_MixOutDxIdeal_MixOutDxRefIdeal := fun m g m' g' _ ha =>
  ⟨fun c => MixOutDxIdeal.Hand.G m c,
    (θ_run _ _ _).mono (fun r h c => ⟨(h c).1.trans (MixOutDxIdeal.Hand.final m c), (h c).2⟩) (MixOutDxIdeal.Value.run_blocks m g),
    (θ_run _ _ _).mono (fun r h c => ⟨((h c).1.trans (MixOutDxRefIdeal.Read.val_main_v2_eq _ _)).trans
      (congrArg₂ MixOutDxRefIdeal.Read.val_main_v2 (ha c).1 (ha c).2), (h c).2⟩) (MixOutDxRefIdeal.Value.run m' g')⟩

theorem frame_proj_dw_ref : quiescent_ProjDwRefIdeal := fun m ρ _ =>
  (θ_run _ _ _).mono (fun r h => ⟨fun c => (h c).2, sem_eq_zero_of_no_sems (by decide) r.2⟩)
    (ProjDwRefIdeal.Value.run m ρ)

theorem proj_dw : algebraic_ProjDwIdeal_ProjDwRefIdeal := fun m g m' g' _ ha =>
  ⟨fun c => ProjDwIdeal.Hand.G m c,
    (θ_run _ _ _).mono (fun r h c => ⟨(h c).1.trans (ProjDwIdeal.Hand.final m c), (h c).2⟩) (ProjDwIdeal.Value.run_blocks m g),
    (θ_run _ _ _).mono (fun r h c => ⟨((h c).1.trans (ProjDwRefIdeal.Read.val_main_v4_eq _ _)).trans
      (congrArg₂ ProjDwRefIdeal.Read.val_main_v4 (ha c).1 (ha c).2), (h c).2⟩) (ProjDwRefIdeal.Value.run m' g')⟩

theorem frame_proj_attn_dx_ref : quiescent_ProjAttnDxRefIdeal := fun m ρ _ =>
  (θ_run _ _ _).mono (fun r h => ⟨fun c => (h c).2, sem_eq_zero_of_no_sems (by decide) r.2⟩)
    (ProjAttnDxRefIdeal.Value.run m ρ)

theorem proj_attn_dx : algebraic_ProjAttnDxIdeal_ProjAttnDxRefIdeal := fun m g m' g' _ ha =>
  ⟨fun c => ProjAttnDxIdeal.Hand.G m c,
    (θ_run _ _ _).mono (fun r h c => ⟨(h c).1.trans (ProjAttnDxIdeal.Hand.final m c), (h c).2⟩) (ProjAttnDxIdeal.Value.run_blocks m g),
    (θ_run _ _ _).mono (fun r h c => ⟨((h c).1.trans (ProjAttnDxRefIdeal.Read.val_main_v3_eq _ _)).trans
      (congrArg₂ ProjAttnDxRefIdeal.Read.val_main_v3 (ha c).1 (ha c).2), (h c).2⟩) (ProjAttnDxRefIdeal.Value.run m' g')⟩

theorem frame_proj_ret_dx_ref : quiescent_ProjRetDxRefIdeal := fun m ρ _ =>
  (θ_run _ _ _).mono (fun r h => ⟨fun c => (h c).2, sem_eq_zero_of_no_sems (by decide) r.2⟩)
    (ProjRetDxRefIdeal.Value.run m ρ)

theorem proj_ret_dx : algebraic_ProjRetDxIdeal_ProjRetDxRefIdeal := fun m g m' g' _ ha =>
  ⟨fun c => ProjRetDxIdeal.Hand.G m c,
    (θ_run _ _ _).mono (fun r h c => ⟨(h c).1.trans (ProjRetDxIdeal.Hand.final m c), (h c).2⟩) (ProjRetDxIdeal.Value.run_blocks m g),
    (θ_run _ _ _).mono (fun r h c => ⟨((h c).1.trans (ProjRetDxRefIdeal.Read.val_main_v2_eq _ _)).trans
      (congrArg₂ ProjRetDxRefIdeal.Read.val_main_v2 (ha c).1 (ha c).2), (h c).2⟩) (ProjRetDxRefIdeal.Value.run m' g')⟩

theorem frame_ffn2_out_ref : quiescent_Ffn2OutRefIdeal := fun m ρ _ =>
  (θ_run _ _ _).mono (fun r h => ⟨fun c => (h c).2, sem_eq_zero_of_no_sems (by decide) r.2⟩)
    (Ffn2OutRefIdeal.Value.run m ρ)

theorem ffn2_out : algebraic_Ffn2OutIdeal_Ffn2OutRefIdeal := fun m g m' g' _ ha =>
  ⟨fun c => Ffn2OutIdeal.Hand.G m c,
    (θ_run _ _ _).mono (fun r h c => ⟨(h c).1.trans (Ffn2OutIdeal.Hand.final m c), (h c).2⟩) (Ffn2OutIdeal.Value.run_blocks m g),
    (θ_run _ _ _).mono (fun r h c => ⟨((h c).1.trans (Ffn2OutRefIdeal.Read.val_main_v1_eq _ _)).trans
      (congrArg₂ Ffn2OutRefIdeal.Read.val_main_v1 (ha c).1 (ha c).2), (h c).2⟩) (Ffn2OutRefIdeal.Value.run m' g')⟩

theorem frame_ffn1_out_ref : quiescent_Ffn1OutRefIdeal := fun m ρ _ =>
  (θ_run _ _ _).mono (fun r h => ⟨fun c => (h c).2, sem_eq_zero_of_no_sems (by decide) r.2⟩)
    (Ffn1OutRefIdeal.Value.run m ρ)

theorem ffn1_out : algebraic_Ffn1OutIdeal_Ffn1OutRefIdeal := fun m g m' g' _ ha =>
  ⟨fun c => Ffn1OutIdeal.Hand.G m c,
    (θ_run _ _ _).mono (fun r h c => ⟨(h c).1.trans (Ffn1OutIdeal.Hand.final m c), (h c).2⟩) (Ffn1OutIdeal.Value.run_blocks m g),
    (θ_run _ _ _).mono (fun r h c => ⟨((h c).1.trans (Ffn1OutRefIdeal.Read.val_main_v1_eq _ _)).trans
      (congrArg₂ Ffn1OutRefIdeal.Read.val_main_v1 (ha c).1 (ha c).2), (h c).2⟩) (Ffn1OutRefIdeal.Value.run m' g')⟩

theorem frame_mix_out_ref : quiescent_MixOutRefIdeal := fun m ρ _ =>
  (θ_run _ _ _).mono (fun r h => ⟨fun c => (h c).2, sem_eq_zero_of_no_sems (by decide) r.2⟩)
    (MixOutRefIdeal.Value.run m ρ)

theorem mix_out : algebraic_MixOutIdeal_MixOutRefIdeal := fun m g m' g' _ ha =>
  ⟨fun c => MixOutIdeal.Hand.G m c,
    (θ_run _ _ _).mono (fun r h c => ⟨(h c).1.trans (MixOutIdeal.Hand.final m c), (h c).2⟩) (MixOutIdeal.Value.run_blocks m g),
    (θ_run _ _ _).mono (fun r h c => ⟨((h c).1.trans (MixOutRefIdeal.Read.val_main_v1_eq _ _)).trans
      (congrArg₂ MixOutRefIdeal.Read.val_main_v1 (ha c).1 (ha c).2), (h c).2⟩) (MixOutRefIdeal.Value.run m' g')⟩

theorem frame_proj_ref : quiescent_ProjRefIdeal := fun m ρ _ =>
  (θ_run _ _ _).mono (fun r h => ⟨fun c => (h c).2, sem_eq_zero_of_no_sems (by decide) r.2⟩)
    (ProjRefIdeal.Value.run m ρ)

theorem proj : algebraic_ProjIdeal_ProjRefIdeal := fun m g m' g' _ ha =>
  ⟨fun c => ProjIdeal.Hand.G m c,
    (θ_run _ _ _).mono (fun r h c => ⟨(h c).1.trans (ProjIdeal.Hand.final m c), (h c).2⟩) (ProjIdeal.Value.run_blocks m g),
    (θ_run _ _ _).mono (fun r h c => ⟨((h c).1.trans (ProjRefIdeal.Read.val_main_v1_eq _ _)).trans
      (congrArg₂ ProjRefIdeal.Read.val_main_v1 (ha c).1 (ha c).2), (h c).2⟩) (ProjRefIdeal.Value.run m' g')⟩

theorem frame_mix_in_q_ref : quiescent_MixInQRefIdeal := fun m ρ _ =>
  (θ_run _ _ _).mono (fun r h => ⟨fun c => (h c).2, sem_eq_zero_of_no_sems (by decide) r.2⟩)
    (MixInQRefIdeal.Value.run m ρ)

theorem mix_in_q : algebraic_MixInQIdeal_MixInQRefIdeal := fun m g m' g' _ ha =>
  ⟨fun c => MixInQIdeal.Hand.G m c,
    (θ_run _ _ _).mono (fun r h c => ⟨(h c).1.trans (MixInQIdeal.Hand.final m c), (h c).2⟩) (MixInQIdeal.Value.run_blocks m g),
    (θ_run _ _ _).mono (fun r h c => ⟨((h c).1.trans (MixInQRefIdeal.Read.val_main_v1_eq _ _)).trans
      (congrArg₂ MixInQRefIdeal.Read.val_main_v1 (ha c).1 (ha c).2), (h c).2⟩) (MixInQRefIdeal.Value.run m' g')⟩

theorem frame_mix_in_kv_ref : quiescent_MixInKvRefIdeal := fun m ρ _ =>
  (θ_run _ _ _).mono (fun r h => ⟨fun c => (h c).2, sem_eq_zero_of_no_sems (by decide) r.2⟩)
    (MixInKvRefIdeal.Value.run m ρ)

theorem mix_in_kv : algebraic_MixInKvIdeal_MixInKvRefIdeal := fun m g m' g' _ ha =>
  ⟨fun c => MixInKvIdeal.Hand.G m c,
    (θ_run _ _ _).mono (fun r h c => ⟨(h c).1.trans (MixInKvIdeal.Hand.final m c), (h c).2⟩) (MixInKvIdeal.Value.run_blocks m g),
    (θ_run _ _ _).mono (fun r h c => ⟨((h c).1.trans (MixInKvRefIdeal.Read.val_main_v1_eq _ _)).trans
      (congrArg₂ MixInKvRefIdeal.Read.val_main_v1 (ha c).1 (ha c).2), (h c).2⟩) (MixInKvRefIdeal.Value.run m' g')⟩

theorem frame_mix_in_ret_ref : quiescent_MixInRetRefIdeal := fun m ρ _ =>
  (θ_run _ _ _).mono (fun r h => ⟨fun c => (h c).2, sem_eq_zero_of_no_sems (by decide) r.2⟩)
    (MixInRetRefIdeal.Value.run m ρ)

theorem mix_in_ret : algebraic_MixInRetIdeal_MixInRetRefIdeal := fun m g m' g' _ ha =>
  ⟨fun c => MixInRetIdeal.Hand.G m c,
    (θ_run _ _ _).mono (fun r h c => ⟨(h c).1.trans (MixInRetIdeal.Hand.final m c), (h c).2⟩) (MixInRetIdeal.Value.run_blocks m g),
    (θ_run _ _ _).mono (fun r h c => ⟨((h c).1.trans (MixInRetRefIdeal.Read.val_main_v1_eq _ _)).trans
      (congrArg₂ MixInRetRefIdeal.Read.val_main_v1 (ha c).1 (ha c).2), (h c).2⟩) (MixInRetRefIdeal.Value.run m' g')⟩

theorem frame_mix_in_gr_ref : quiescent_MixInGrRefIdeal := fun m ρ _ =>
  (θ_run _ _ _).mono (fun r h => ⟨fun c => (h c).2, sem_eq_zero_of_no_sems (by decide) r.2⟩)
    (MixInGrRefIdeal.Value.run m ρ)

theorem mix_in_gr : algebraic_MixInGrIdeal_MixInGrRefIdeal := fun m g m' g' _ ha =>
  ⟨fun c => MixInGrIdeal.Hand.G m c,
    (θ_run _ _ _).mono (fun r h c => ⟨(h c).1.trans (MixInGrIdeal.Hand.final m c), (h c).2⟩) (MixInGrIdeal.Value.run_blocks m g),
    (θ_run _ _ _).mono (fun r h c => ⟨((h c).1.trans (MixInGrRefIdeal.Read.val_main_v2_eq _ _)).trans
      (congrArg₂ MixInGrRefIdeal.Read.val_main_v2 (ha c).1 (ha c).2), (h c).2⟩) (MixInGrRefIdeal.Value.run m' g')⟩

theorem frame_merge_ref : quiescent_MergeRefIdeal := fun m ρ _ =>
  (θ_run _ _ _).mono (fun r h => ⟨fun c => (h c).2, sem_eq_zero_of_no_sems (by decide) r.2⟩)
    (MergeRefIdeal.Value.run m ρ)

theorem merge : algebraic_MergeIdeal_MergeRefIdeal := fun m g m' g' _ ha =>
  ⟨fun c => MergeIdeal.Hand.G m c,
    (θ_run _ _ _).mono (fun r h c => ⟨(h c).1.trans (MergeIdeal.Hand.final m c), (h c).2⟩) (MergeIdeal.Value.run_blocks m g),
    (θ_run _ _ _).mono (fun r h c => ⟨((h c).1.trans (MergeRefIdeal.Read.val_main_v18_eq _ _ _)).trans
      (congr (congrArg₂ MergeRefIdeal.Read.val_main_v18 (ha c).1 (ha c).2.1) (ha c).2.2), (h c).2⟩) (MergeRefIdeal.Value.run m' g')⟩

theorem frame_merge_grad_ref : quiescent_MergeGradRefIdeal := fun m ρ _ =>
  (θ_run _ _ _).mono (fun r h => ⟨fun c => (h c).2.2.2, sem_eq_zero_of_no_sems (by decide) r.2⟩)
    (MergeGradRefIdeal.Value.run m ρ)

theorem merge_grad : algebraic_MergeGradIdeal_MergeGradRefIdeal := fun m g m' g' _ ha =>
  ⟨fun c => MergeGradIdeal.Hand.G5 m c, fun c => MergeGradIdeal.Hand.G6 m c, fun c => MergeGradIdeal.Hand.G7 m c,
    (θ_run _ _ _).mono (fun r h c => ⟨(h c).1.trans (MergeGradIdeal.Hand.final5 m c), (h c).2.1.trans (MergeGradIdeal.Hand.final6 m c), (h c).2.2.1.trans (MergeGradIdeal.Hand.final7 m c), (h c).2.2.2⟩) (MergeGradIdeal.Value.run_blocks m g),
    (θ_run _ _ _).mono (fun r h c => ⟨((h c).1.trans (MergeGradRefIdeal.Read.val_main_v32_eq _ _)).trans
        (congrArg₂ MergeGradRefIdeal.Read.val_main_v32 (ha c).1 (ha c).2.2.2),
      ((h c).2.1.trans (MergeGradRefIdeal.Read.val_main_v33_eq _ _)).trans
        (congrArg₂ MergeGradRefIdeal.Read.val_main_v33 (ha c).1 (ha c).2.2.2),
      ((h c).2.2.1.trans (MergeGradRefIdeal.Read.val_main_v35_eq _ _ _ _)).trans
        (congr (congr (congrArg₂ MergeGradRefIdeal.Read.val_main_v35 (ha c).1 (ha c).2.1) (ha c).2.2.1) (ha c).2.2.2), (h c).2.2.2⟩)
      (MergeGradRefIdeal.Value.run m' g')⟩

theorem frame_mix_in_gab_ref : quiescent_MixInGabRefIdeal := fun m ρ _ =>
  (θ_run _ _ _).mono (fun r h => ⟨fun c => (h c).2, sem_eq_zero_of_no_sems (by decide) r.2⟩)
    (MixInGabRefIdeal.Value.run m ρ)

theorem mix_in_gab : algebraic_MixInGabIdeal_MixInGabRefIdeal := fun m g m' g' _ ha =>
  ⟨fun c => MixInGabIdeal.Hand.G m c,
    (θ_run _ _ _).mono (fun r h c => ⟨(h c).1.trans (MixInGabIdeal.Hand.final m c), (h c).2⟩) (MixInGabIdeal.Value.run_blocks m g),
    (θ_run _ _ _).mono (fun r h c => ⟨((h c).1.trans (MixInGabRefIdeal.Read.val_main_v2_eq _ _)).trans
      (congrArg₂ MixInGabRefIdeal.Read.val_main_v2 (ha c).1 (ha c).2), (h c).2⟩) (MixInGabRefIdeal.Value.run m' g')⟩

/-! ## The feed-forward blocks' gates and their gradients -/

theorem frame_ffn2_gate_grad_ref : quiescent_Ffn2GateGradRefIdeal := fun m ρ _ =>
  (θ_run _ _ _).mono (fun r h => ⟨fun c => (h c).2, sem_eq_zero_of_no_sems (by decide) r.2⟩)
    (Ffn2GateGradRefIdeal.Value.run m ρ)

theorem ffn2_gate_grad : algebraic_Ffn2GateGradIdeal_Ffn2GateGradRefIdeal := fun m g m' g' _ ha =>
  ⟨fun c => Ffn2GateGradIdeal.Hand.G m c,
    (θ_run _ _ _).mono (fun r h c => ⟨(h c).1.trans (Ffn2GateGradIdeal.Hand.final m c), (h c).2⟩) (Ffn2GateGradIdeal.Value.run_blocks m g),
    (θ_run _ _ _).mono (fun r h c => ⟨((h c).1.trans (Ffn2GateGradRefIdeal.Read.val_main_v10_eq _ _ _ _)).trans
      (congr (congr (congrArg₂ Ffn2GateGradRefIdeal.Read.val_main_v10 (ha c).1 (ha c).2.1) (ha c).2.2.1) (ha c).2.2.2), (h c).2⟩) (Ffn2GateGradRefIdeal.Value.run m' g')⟩

theorem frame_ffn1_gate_grad_ref : quiescent_Ffn1GateGradRefIdeal := fun m ρ _ =>
  (θ_run _ _ _).mono (fun r h => ⟨fun c => (h c).2, sem_eq_zero_of_no_sems (by decide) r.2⟩)
    (Ffn1GateGradRefIdeal.Value.run m ρ)

theorem ffn1_gate_grad : algebraic_Ffn1GateGradIdeal_Ffn1GateGradRefIdeal := fun m g m' g' _ ha =>
  ⟨fun c => Ffn1GateGradIdeal.Hand.G m c,
    (θ_run _ _ _).mono (fun r h c => ⟨(h c).1.trans (Ffn1GateGradIdeal.Hand.final m c), (h c).2⟩) (Ffn1GateGradIdeal.Value.run_blocks m g),
    (θ_run _ _ _).mono (fun r h c => ⟨((h c).1.trans (Ffn1GateGradRefIdeal.Read.val_main_v10_eq _ _ _ _)).trans
      (congr (congr (congrArg₂ Ffn1GateGradRefIdeal.Read.val_main_v10 (ha c).1 (ha c).2.1) (ha c).2.2.1) (ha c).2.2.2), (h c).2⟩) (Ffn1GateGradRefIdeal.Value.run m' g')⟩

theorem frame_ffn2_in_ref : quiescent_Ffn2InRefIdeal := fun m ρ _ =>
  (θ_run _ _ _).mono (fun r h => ⟨fun c => (h c).2.2.2, sem_eq_zero_of_no_sems (by decide) r.2⟩)
    (Ffn2InRefIdeal.Value.run m ρ)

theorem ffn2_in : algebraic_Ffn2InIdeal_Ffn2InRefIdeal := fun m g m' g' _ ha =>
  ⟨fun c => Ffn2InIdeal.Hand.G3 m c, fun c => Ffn2InIdeal.Hand.G4 m c, fun c => Ffn2InIdeal.Hand.G5 m c,
    (θ_run _ _ _).mono (fun r h c => ⟨(h c).1.trans (Ffn2InIdeal.Hand.final3 m c), (h c).2.1.trans (Ffn2InIdeal.Hand.final4 m c), (h c).2.2.1.trans (Ffn2InIdeal.Hand.final5 m c), (h c).2.2.2⟩) (Ffn2InIdeal.Value.run_blocks m g),
    (θ_run _ _ _).mono (fun r h c => ⟨((h c).1.trans (Ffn2InRefIdeal.Read.val_main_v5_eq _ _)).trans
        (congrArg₂ Ffn2InRefIdeal.Read.val_main_v5 (ha c).1 (ha c).2),
      ((h c).2.1.trans (Ffn2InRefIdeal.Read.val_main_v6_eq _ _)).trans
        (congrArg₂ Ffn2InRefIdeal.Read.val_main_v6 (ha c).1 (ha c).2),
      ((h c).2.2.1.trans (Ffn2InRefIdeal.Read.val_main_v7_eq _ _)).trans
        (congrArg₂ Ffn2InRefIdeal.Read.val_main_v7 (ha c).1 (ha c).2), (h c).2.2.2⟩) (Ffn2InRefIdeal.Value.run m' g')⟩

theorem frame_ffn1_in_ref : quiescent_Ffn1InRefIdeal := fun m ρ _ =>
  (θ_run _ _ _).mono (fun r h => ⟨fun c => (h c).2.2.2, sem_eq_zero_of_no_sems (by decide) r.2⟩)
    (Ffn1InRefIdeal.Value.run m ρ)

theorem ffn1_in : algebraic_Ffn1InIdeal_Ffn1InRefIdeal := fun m g m' g' _ ha =>
  ⟨fun c => Ffn1InIdeal.Hand.G3 m c, fun c => Ffn1InIdeal.Hand.G4 m c, fun c => Ffn1InIdeal.Hand.G5 m c,
    (θ_run _ _ _).mono (fun r h c => ⟨(h c).1.trans (Ffn1InIdeal.Hand.final3 m c), (h c).2.1.trans (Ffn1InIdeal.Hand.final4 m c), (h c).2.2.1.trans (Ffn1InIdeal.Hand.final5 m c), (h c).2.2.2⟩) (Ffn1InIdeal.Value.run_blocks m g),
    (θ_run _ _ _).mono (fun r h c => ⟨((h c).1.trans (Ffn1InRefIdeal.Read.val_main_v5_eq _ _)).trans
        (congrArg₂ Ffn1InRefIdeal.Read.val_main_v5 (ha c).1 (ha c).2),
      ((h c).2.1.trans (Ffn1InRefIdeal.Read.val_main_v6_eq _ _)).trans
        (congrArg₂ Ffn1InRefIdeal.Read.val_main_v6 (ha c).1 (ha c).2),
      ((h c).2.2.1.trans (Ffn1InRefIdeal.Read.val_main_v7_eq _ _)).trans
        (congrArg₂ Ffn1InRefIdeal.Read.val_main_v7 (ha c).1 (ha c).2), (h c).2.2.2⟩) (Ffn1InRefIdeal.Value.run m' g')⟩

/-! ## The attention's forward call -/

theorem frame_flash_fwd_ref : quiescent_FlashFwdRefIdeal := fun m ρ _ =>
  (θ_run _ _ _).mono (fun r h => ⟨fun c => (h c).2.2, sem_eq_zero_of_no_sems (by decide) r.2⟩)
    (FlashFwdRefIdeal.Value.run m ρ)

/-- The one constant of its body that is named. -/
theorem preserves_flash_fwd : preserves_FlashFwd_FlashFwdIdeal :=
  IdealRules.named_const.statement FlashFwdIdeal.κ "log2" .f32 0x3FB8AA3B#32 (((Real.log 2)⁻¹ : ℝ) : EReal) rfl

/-- On finite arguments its output and log-sum-exp are the reference's. -/
theorem flash_fwd : algebraic_FlashFwdIdeal_FlashFwdRefIdeal_pre_finite_qkv := by
  intro m g m' g' hp ha
  refine ⟨fun c => FlashFwdIdeal.Hand.gO m c, fun c => FlashFwdIdeal.Hand.gL m c,
    FlashFwdIdeal.Hand.run_value m g (FlashFwdIdeal.Hand.real_qkv m hp), ?_⟩
  refine (θ_run _ _ _).mono (fun r h c => ?_) (FlashFwdRefIdeal.Value.run m' g')
  obtain ⟨eo, el, eargs⟩ := h c
  obtain ⟨e0, e1, e2⟩ := ha c
  refine ⟨(eo.trans (FlashFwdRefIdeal.Read.val_main_v36_eq _ _ _)).trans ?_,
    (el.trans (FlashFwdRefIdeal.Read.val_main_v16_eq _ _)).trans ?_, eargs⟩
  · rw [e0, e1, e2]
  · rw [e0, e1]

theorem claim : Cert.Claim := ⟨Kernel.Gen.facts, KernelIdeal.Gen.facts, ReferenceIdeal.Gen.facts,
  Ffn2InDx.Gen.facts, Ffn2InDxIdeal.Gen.facts, Ffn2InDxRefIdeal.Gen.facts, Ffn2InDw.Gen.facts, Ffn2InDwIdeal.Gen.facts, Ffn2InDwRefIdeal.Gen.facts, Ffn2OutDw.Gen.facts, Ffn2OutDwIdeal.Gen.facts, Ffn2OutDwRefIdeal.Gen.facts, Ffn1InDx.Gen.facts, Ffn1InDxIdeal.Gen.facts, Ffn1InDxRefIdeal.Gen.facts, Ffn1InDw.Gen.facts, Ffn1InDwIdeal.Gen.facts, Ffn1InDwRefIdeal.Gen.facts, Ffn1OutDw.Gen.facts, Ffn1OutDwIdeal.Gen.facts, Ffn1OutDwRefIdeal.Gen.facts, MixInDx.Gen.facts, MixInDxIdeal.Gen.facts, MixInDxRefIdeal.Gen.facts, MixInDw.Gen.facts, MixInDwIdeal.Gen.facts, MixInDwRefIdeal.Gen.facts, MixOutDw.Gen.facts, MixOutDwIdeal.Gen.facts, MixOutDwRefIdeal.Gen.facts, MixOutDx.Gen.facts, MixOutDxIdeal.Gen.facts, MixOutDxRefIdeal.Gen.facts, ProjDw.Gen.facts, ProjDwIdeal.Gen.facts, ProjDwRefIdeal.Gen.facts, ProjAttnDx.Gen.facts, ProjAttnDxIdeal.Gen.facts, ProjAttnDxRefIdeal.Gen.facts, ProjRetDx.Gen.facts, ProjRetDxIdeal.Gen.facts, ProjRetDxRefIdeal.Gen.facts, Ffn2Out.Gen.facts, Ffn2OutIdeal.Gen.facts, Ffn2OutRefIdeal.Gen.facts, Ffn1Out.Gen.facts, Ffn1OutIdeal.Gen.facts, Ffn1OutRefIdeal.Gen.facts, MixOut.Gen.facts, MixOutIdeal.Gen.facts, MixOutRefIdeal.Gen.facts, Proj.Gen.facts, ProjIdeal.Gen.facts, ProjRefIdeal.Gen.facts, Ffn2GateGrad.Gen.facts, Ffn2GateGradIdeal.Gen.facts, Ffn2GateGradRefIdeal.Gen.facts, Ffn1GateGrad.Gen.facts, Ffn1GateGradIdeal.Gen.facts, Ffn1GateGradRefIdeal.Gen.facts, Ffn2In.Gen.facts, Ffn2InIdeal.Gen.facts, Ffn2InRefIdeal.Gen.facts, Ffn1In.Gen.facts, Ffn1InIdeal.Gen.facts, Ffn1InRefIdeal.Gen.facts, MixInQ.Gen.facts, MixInQIdeal.Gen.facts, MixInQRefIdeal.Gen.facts, MixInKv.Gen.facts, MixInKvIdeal.Gen.facts, MixInKvRefIdeal.Gen.facts, MixInRet.Gen.facts, MixInRetIdeal.Gen.facts, MixInRetRefIdeal.Gen.facts, MixInGr.Gen.facts, MixInGrIdeal.Gen.facts, MixInGrRefIdeal.Gen.facts, Merge.Gen.facts, MergeIdeal.Gen.facts, MergeRefIdeal.Gen.facts, MergeGrad.Gen.facts, MergeGradIdeal.Gen.facts, MergeGradRefIdeal.Gen.facts, RetSum.Gen.facts, RetSumIdeal.Gen.facts, RetSumRefIdeal.Gen.facts, AdamIn.Gen.facts, AdamInIdeal.Gen.facts, AdamInRefIdeal.Gen.facts, AdamOut.Gen.facts, AdamOutIdeal.Gen.facts, AdamOutRefIdeal.Gen.facts, AdamMixIn.Gen.facts, AdamMixInIdeal.Gen.facts, AdamMixInRefIdeal.Gen.facts, AdamProj.Gen.facts, AdamProjIdeal.Gen.facts, AdamProjRefIdeal.Gen.facts, AdamMixOut.Gen.facts, AdamMixOutIdeal.Gen.facts, AdamMixOutRefIdeal.Gen.facts, AdamAda.Gen.facts, AdamAdaIdeal.Gen.facts, AdamAdaRefIdeal.Gen.facts, AdamBias.Gen.facts, AdamBiasIdeal.Gen.facts, AdamBiasRefIdeal.Gen.facts, AdamVector.Gen.facts, AdamVectorIdeal.Gen.facts, AdamVectorRefIdeal.Gen.facts, AdamGain.Gen.facts, AdamGainIdeal.Gen.facts, AdamGainRefIdeal.Gen.facts, AdamDecay.Gen.facts, AdamDecayIdeal.Gen.facts, AdamDecayRefIdeal.Gen.facts, NormMod1.Gen.facts, NormMod1Ideal.Gen.facts, NormMod1RefIdeal.Gen.facts, ResidNorm1.Gen.facts, ResidNorm1Ideal.Gen.facts, ResidNorm1RefIdeal.Gen.facts, ResidNorm2.Gen.facts, ResidNorm2Ideal.Gen.facts, ResidNorm2RefIdeal.Gen.facts, MixInGab.Gen.facts, MixInGabIdeal.Gen.facts, MixInGabRefIdeal.Gen.facts, FlashFwd.Gen.facts, FlashFwdIdeal.Gen.facts, FlashFwdRefIdeal.Gen.facts, Attn.Finite.facts, FlashFwdIdeal.Hand.facts,
  frame_kernel, frame_ideal, fun m ρ _ => KernelIdeal.Hand.frame (F := Ideal) m ρ, frame_reference,
  fun m ρ _ => frame_reference m ρ trivial,
  fun m ρ _ => Ffn2InDx.Gen.frame m ρ, fun m ρ _ => Ffn2InDxIdeal.Gen.frame m ρ, frame_ffn2_in_dx_ref,
  fun m ρ _ => Ffn2InDw.Gen.frame m ρ, fun m ρ _ => Ffn2InDwIdeal.Gen.frame m ρ, frame_ffn2_in_dw_ref,
  fun m ρ _ => Ffn2OutDw.Gen.frame m ρ, fun m ρ _ => Ffn2OutDwIdeal.Gen.frame m ρ, frame_ffn2_out_dw_ref,
  fun m ρ _ => Ffn1InDx.Gen.frame m ρ, fun m ρ _ => Ffn1InDxIdeal.Gen.frame m ρ, frame_ffn1_in_dx_ref,
  fun m ρ _ => Ffn1InDw.Gen.frame m ρ, fun m ρ _ => Ffn1InDwIdeal.Gen.frame m ρ, frame_ffn1_in_dw_ref,
  fun m ρ _ => Ffn1OutDw.Gen.frame m ρ, fun m ρ _ => Ffn1OutDwIdeal.Gen.frame m ρ, frame_ffn1_out_dw_ref,
  fun m ρ _ => MixInDx.Gen.frame m ρ, fun m ρ _ => MixInDxIdeal.Gen.frame m ρ, frame_mix_in_dx_ref,
  fun m ρ _ => MixInDw.Gen.frame m ρ, fun m ρ _ => MixInDwIdeal.Gen.frame m ρ, frame_mix_in_dw_ref,
  fun m ρ _ => MixOutDw.Gen.frame m ρ, fun m ρ _ => MixOutDwIdeal.Gen.frame m ρ, frame_mix_out_dw_ref,
  fun m ρ _ => MixOutDx.Gen.frame m ρ, fun m ρ _ => MixOutDxIdeal.Gen.frame m ρ, frame_mix_out_dx_ref,
  fun m ρ _ => ProjDw.Gen.frame m ρ, fun m ρ _ => ProjDwIdeal.Gen.frame m ρ, frame_proj_dw_ref,
  fun m ρ _ => ProjAttnDx.Gen.frame m ρ, fun m ρ _ => ProjAttnDxIdeal.Gen.frame m ρ, frame_proj_attn_dx_ref,
  fun m ρ _ => ProjRetDx.Gen.frame m ρ, fun m ρ _ => ProjRetDxIdeal.Gen.frame m ρ, frame_proj_ret_dx_ref,
  fun m ρ _ => Ffn2Out.Gen.frame m ρ, fun m ρ _ => Ffn2OutIdeal.Gen.frame m ρ, frame_ffn2_out_ref,
  fun m ρ _ => Ffn1Out.Gen.frame m ρ, fun m ρ _ => Ffn1OutIdeal.Gen.frame m ρ, frame_ffn1_out_ref,
  fun m ρ _ => MixOut.Gen.frame m ρ, fun m ρ _ => MixOutIdeal.Gen.frame m ρ, frame_mix_out_ref,
  fun m ρ _ => Proj.Gen.frame m ρ, fun m ρ _ => ProjIdeal.Gen.frame m ρ, frame_proj_ref,
  fun m ρ _ => Ffn2GateGrad.Gen.frame m ρ, fun m ρ _ => Ffn2GateGradIdeal.Gen.frame m ρ, frame_ffn2_gate_grad_ref,
  fun m ρ _ => Ffn1GateGrad.Gen.frame m ρ, fun m ρ _ => Ffn1GateGradIdeal.Gen.frame m ρ, frame_ffn1_gate_grad_ref,
  fun m ρ _ => Ffn2In.Gen.frame m ρ, fun m ρ _ => Ffn2InIdeal.Gen.frame m ρ, frame_ffn2_in_ref,
  fun m ρ _ => Ffn1In.Gen.frame m ρ, fun m ρ _ => Ffn1InIdeal.Gen.frame m ρ, frame_ffn1_in_ref,
  fun m ρ _ => MixInQ.Gen.frame m ρ, fun m ρ _ => MixInQIdeal.Gen.frame m ρ, frame_mix_in_q_ref,
  fun m ρ _ => MixInKv.Gen.frame m ρ, fun m ρ _ => MixInKvIdeal.Gen.frame m ρ, frame_mix_in_kv_ref,
  fun m ρ _ => MixInRet.Gen.frame m ρ, fun m ρ _ => MixInRetIdeal.Gen.frame m ρ, frame_mix_in_ret_ref,
  fun m ρ _ => MixInGr.Gen.frame m ρ, fun m ρ _ => MixInGrIdeal.Gen.frame m ρ, frame_mix_in_gr_ref,
  fun m ρ _ => Merge.Gen.frame m ρ, fun m ρ _ => MergeIdeal.Gen.frame m ρ, frame_merge_ref,
  fun m ρ _ => MergeGrad.Gen.frame m ρ, fun m ρ _ => MergeGradIdeal.Gen.frame m ρ, frame_merge_grad_ref,
  fun m ρ _ => RetSum.Gen.frame m ρ, fun m ρ _ => RetSumIdeal.Gen.frame m ρ, RetSumIdeal.Hand.frame_ref,
  fun m ρ _ => AdamIn.Gen.frame m ρ, fun m ρ _ => AdamInIdeal.Gen.frame m ρ, AdamInIdeal.Hand.frame_ref,
  fun m ρ _ => AdamOut.Gen.frame m ρ, fun m ρ _ => AdamOutIdeal.Gen.frame m ρ, AdamOutIdeal.Hand.frame_ref,
  fun m ρ _ => AdamMixIn.Gen.frame m ρ, fun m ρ _ => AdamMixInIdeal.Gen.frame m ρ, AdamMixInIdeal.Hand.frame_ref,
  fun m ρ _ => AdamProj.Gen.frame m ρ, fun m ρ _ => AdamProjIdeal.Gen.frame m ρ, AdamProjIdeal.Hand.frame_ref,
  fun m ρ _ => AdamMixOut.Gen.frame m ρ, fun m ρ _ => AdamMixOutIdeal.Gen.frame m ρ, AdamMixOutIdeal.Hand.frame_ref,
  fun m ρ _ => AdamAda.Gen.frame m ρ, fun m ρ _ => AdamAdaIdeal.Gen.frame m ρ, AdamAdaIdeal.Hand.frame_ref,
  fun m ρ _ => AdamBias.Gen.frame m ρ, fun m ρ _ => AdamBiasIdeal.Gen.frame m ρ, AdamBiasIdeal.Hand.frame_ref,
  fun m ρ _ => AdamVector.Gen.frame m ρ, fun m ρ _ => AdamVectorIdeal.Gen.frame m ρ, AdamVectorIdeal.Hand.frame_ref,
  fun m ρ _ => AdamGain.Gen.frame m ρ, fun m ρ _ => AdamGainIdeal.Gen.frame m ρ, AdamGainIdeal.Hand.frame_ref,
  fun m ρ _ => AdamDecay.Gen.frame m ρ, fun m ρ _ => AdamDecayIdeal.Gen.frame m ρ, AdamDecayIdeal.Hand.frame_ref,
  fun m ρ _ => NormMod1.Gen.frame m ρ, fun m ρ _ => NormMod1Ideal.Gen.frame m ρ, NormMod1Ideal.Hand.frame_ref,
  fun m ρ _ => ResidNorm1.Gen.frame m ρ, fun m ρ _ => ResidNorm1Ideal.Gen.frame m ρ, ResidNorm1Ideal.Hand.frame_ref,
  fun m ρ _ => ResidNorm2.Gen.frame m ρ, fun m ρ _ => ResidNorm2Ideal.Gen.frame m ρ, ResidNorm2Ideal.Hand.frame_ref,
  fun m ρ _ => MixInGab.Gen.frame m ρ, fun m ρ _ => MixInGabIdeal.Gen.frame m ρ, frame_mix_in_gab_ref,
  fun m ρ _ => FlashFwd.Gen.frame m ρ, fun m ρ _ => FlashFwdIdeal.Gen.frame m ρ, fun m ρ _ => FlashFwdIdeal.Gen.frame m ρ,
  frame_flash_fwd_ref, fun m ρ _ => frame_flash_fwd_ref m ρ trivial,
  preserves, algebraic, trivial, ffn2_in_dx, trivial, ffn2_in_dw, trivial, ffn2_out_dw, trivial, ffn1_in_dx, trivial, ffn1_in_dw, trivial, ffn1_out_dw, trivial, mix_in_dx, trivial, mix_in_dw, trivial, mix_out_dw, trivial, mix_out_dx, trivial, proj_dw, trivial, proj_attn_dx, trivial, proj_ret_dx, trivial, ffn2_out, trivial, ffn1_out, trivial, mix_out, trivial, proj, trivial, ffn2_gate_grad, trivial, ffn1_gate_grad, trivial, ffn2_in, trivial, ffn1_in, trivial, mix_in_q, trivial, mix_in_kv, trivial, mix_in_ret, trivial, mix_in_gr, trivial, merge, trivial, merge_grad, trivial, RetSumIdeal.Hand.result, trivial, AdamInIdeal.Hand.result, trivial, AdamOutIdeal.Hand.result, trivial, AdamMixInIdeal.Hand.result, trivial, AdamProjIdeal.Hand.result, trivial, AdamMixOutIdeal.Hand.result, trivial, AdamAdaIdeal.Hand.result, trivial, AdamBiasIdeal.Hand.result, trivial, AdamVectorIdeal.Hand.result, trivial, AdamGainIdeal.Hand.result, trivial, AdamDecayIdeal.Hand.result, trivial, NormMod1Ideal.Hand.result, trivial, ResidNorm1Ideal.Hand.result, trivial, ResidNorm2Ideal.Hand.result, trivial, mix_in_gab, preserves_flash_fwd, flash_fwd⟩

end Cert.Proof

end
